-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PoolA (m : (ℓ : Loc Cert.PoolA.nD Cert.PoolA.τ Cert.PoolA.sig) → Buf (Elt Bits) ℓ) : Prop :=
  True

def Pre_PoolAIdeal (m : (ℓ : Loc Cert.PoolAIdeal.nD Cert.PoolAIdeal.τ Cert.PoolAIdeal.sig) → Buf (Elt Ideal) ℓ) : Prop :=
  True

def Pre_PoolARefIdeal (m : (ℓ : Loc Cert.PoolARefIdeal.nD Cert.PoolARefIdeal.τ Cert.PoolARefIdeal.sig) → Buf (Elt Ideal) ℓ) : Prop :=
  True

def Pre_PoolB (m : (ℓ : Loc Cert.PoolB.nD Cert.PoolB.τ Cert.PoolB.sig) → Buf (Elt Bits) ℓ) : Prop :=
  True

def Pre_PoolBIdeal (m : (ℓ : Loc Cert.PoolBIdeal.nD Cert.PoolBIdeal.τ Cert.PoolBIdeal.sig) → Buf (Elt Ideal) ℓ) : Prop :=
  True

def Pre_PoolBIdeal_finite_poolb [hPre_finite_poolb : Cert.Pre_finite_poolb.Facts] (m : (ℓ : Loc Cert.PoolBIdeal.nD Cert.PoolBIdeal.τ Cert.PoolBIdeal.sig) → Buf (Elt Ideal) ℓ) : Prop :=
  ∀ c : Dev Cert.PoolBIdeal.nD,
    (Cert.Pre_finite_poolb.fn (F := Ideal) (m ((c.tc : Thread Cert.PoolBIdeal.nD Cert.PoolBIdeal.τ).loc Cert.PoolBIdeal.main_arg0))) = (fun _ => 1#1)

def Pre_PoolBRefIdeal (m : (ℓ : Loc Cert.PoolBRefIdeal.nD Cert.PoolBRefIdeal.τ Cert.PoolBRefIdeal.sig) → Buf (Elt Ideal) ℓ) : Prop :=
  True

def Pre_PoolBRefIdeal_finite_poolb [hPre_finite_poolb : Cert.Pre_finite_poolb.Facts] (m : (ℓ : Loc Cert.PoolBRefIdeal.nD Cert.PoolBRefIdeal.τ Cert.PoolBRefIdeal.sig) → Buf (Elt Ideal) ℓ) : Prop :=
  ∀ c : Dev Cert.PoolBRefIdeal.nD,
    (Cert.Pre_finite_poolb.fn (F := Ideal) (m ((c.tc : Thread Cert.PoolBRefIdeal.nD Cert.PoolBRefIdeal.τ).loc Cert.PoolBRefIdeal.main_arg0))) = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_flash [hPre_finite_flash : Cert.Pre_finite_flash.Facts] (m : (ℓ : Loc Cert.FlashIdeal.nD Cert.FlashIdeal.τ Cert.FlashIdeal.sig) → Buf (Elt Ideal) ℓ) : Prop :=
  ∀ c : Dev Cert.FlashIdeal.nD,
    (Cert.Pre_finite_flash.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_flash [hPre_finite_flash : Cert.Pre_finite_flash.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_flash.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_FlashF (m : (ℓ : Loc Cert.FlashF.nD Cert.FlashF.τ Cert.FlashF.sig) → Buf (Elt Bits) ℓ) : Prop :=
  True

def Pre_FlashFIdeal (m : (ℓ : Loc Cert.FlashFIdeal.nD Cert.FlashFIdeal.τ Cert.FlashFIdeal.sig) → Buf (Elt Ideal) ℓ) : Prop :=
  True

def Pre_FlashFIdeal_finite_flashf [hPre_finite_flashf : Cert.Pre_finite_flashf.Facts] (m : (ℓ : Loc Cert.FlashFIdeal.nD Cert.FlashFIdeal.τ Cert.FlashFIdeal.sig) → Buf (Elt Ideal) ℓ) : Prop :=
  ∀ c : Dev Cert.FlashFIdeal.nD,
    (Cert.Pre_finite_flashf.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))) = (fun _ => 1#1)

def Pre_FlashFRefIdeal (m : (ℓ : Loc Cert.FlashFRefIdeal.nD Cert.FlashFRefIdeal.τ Cert.FlashFRefIdeal.sig) → Buf (Elt Ideal) ℓ) : Prop :=
  True

def Pre_FlashFRefIdeal_finite_flashf [hPre_finite_flashf : Cert.Pre_finite_flashf.Facts] (m : (ℓ : Loc Cert.FlashFRefIdeal.nD Cert.FlashFRefIdeal.τ Cert.FlashFRefIdeal.sig) → Buf (Elt Ideal) ℓ) : Prop :=
  ∀ c : Dev Cert.FlashFRefIdeal.nD,
    (Cert.Pre_finite_flashf.fn (F := Ideal) (m ((c.tc : Thread Cert.FlashFRefIdeal.nD Cert.FlashFRefIdeal.τ).loc Cert.FlashFRefIdeal.main_arg0)) (m ((c.tc : Thread Cert.FlashFRefIdeal.nD Cert.FlashFRefIdeal.τ).loc Cert.FlashFRefIdeal.main_arg1)) (m ((c.tc : Thread Cert.FlashFRefIdeal.nD Cert.FlashFRefIdeal.τ).loc Cert.FlashFRefIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_in [hPre_finite_in : Cert.Pre_finite_in.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_PoolA [hPoolA : Cert.PoolA.Facts] : Prop :=
  ∀ (m : (ℓ : Loc Cert.PoolA.nD Cert.PoolA.τ Cert.PoolA.sig) → Buf (Elt Bits) ℓ) (g : Dev Cert.PoolA.nD → PrngReg), Pre_PoolA m →
    θ_run (Cert.PoolA.defs (F := Bits)) (onTc (τ := Cert.PoolA.τ) (Cert.PoolA.main (F := Bits))) ⟨m, fun _ => 0, g⟩ (fun r => (∀ c : Dev Cert.PoolA.nD,
      r.2.mem ((c.tc : Thread Cert.PoolA.nD Cert.PoolA.τ).loc Cert.PoolA.main_arg0) = m ((c.tc : Thread Cert.PoolA.nD Cert.PoolA.τ).loc Cert.PoolA.main_arg0)
      ∧ r.2.mem ((c.tc : Thread Cert.PoolA.nD Cert.PoolA.τ).loc Cert.PoolA.main_arg1) = m ((c.tc : Thread Cert.PoolA.nD Cert.PoolA.τ).loc Cert.PoolA.main_arg1)
      ∧ r.2.mem ((c.tc : Thread Cert.PoolA.nD Cert.PoolA.τ).loc Cert.PoolA.main_arg2) = m ((c.tc : Thread Cert.PoolA.nD Cert.PoolA.τ).loc Cert.PoolA.main_arg2)
      ∧ r.2.mem ((c.tc : Thread Cert.PoolA.nD Cert.PoolA.τ).loc Cert.PoolA.main_arg3) = m ((c.tc : Thread Cert.PoolA.nD Cert.PoolA.τ).loc Cert.PoolA.main_arg3)
      ∧ r.2.mem ((c.tc : Thread Cert.PoolA.nD Cert.PoolA.τ).loc Cert.PoolA.main_arg4) = m ((c.tc : Thread Cert.PoolA.nD Cert.PoolA.τ).loc Cert.PoolA.main_arg4))
      ∧ r.2.sem = fun _ => 0)

def quiescent_PoolAIdeal [hPoolAIdeal : Cert.PoolAIdeal.Facts] : Prop :=
  ∀ (m : (ℓ : Loc Cert.PoolAIdeal.nD Cert.PoolAIdeal.τ Cert.PoolAIdeal.sig) → Buf (Elt Ideal) ℓ) (g : Dev Cert.PoolAIdeal.nD → PrngReg), Pre_PoolAIdeal m →
    θ_run (Cert.PoolAIdeal.defs (F := Ideal)) (onTc (τ := Cert.PoolAIdeal.τ) (Cert.PoolAIdeal.main (F := Ideal))) ⟨m, fun _ => 0, g⟩ (fun r => (∀ c : Dev Cert.PoolAIdeal.nD,
      r.2.mem ((c.tc : Thread Cert.PoolAIdeal.nD Cert.PoolAIdeal.τ).loc Cert.PoolAIdeal.main_arg0) = m ((c.tc : Thread Cert.PoolAIdeal.nD Cert.PoolAIdeal.τ).loc Cert.PoolAIdeal.main_arg0)
      ∧ r.2.mem ((c.tc : Thread Cert.PoolAIdeal.nD Cert.PoolAIdeal.τ).loc Cert.PoolAIdeal.main_arg1) = m ((c.tc : Thread Cert.PoolAIdeal.nD Cert.PoolAIdeal.τ).loc Cert.PoolAIdeal.main_arg1)
      ∧ r.2.mem ((c.tc : Thread Cert.PoolAIdeal.nD Cert.PoolAIdeal.τ).loc Cert.PoolAIdeal.main_arg2) = m ((c.tc : Thread Cert.PoolAIdeal.nD Cert.PoolAIdeal.τ).loc Cert.PoolAIdeal.main_arg2)
      ∧ r.2.mem ((c.tc : Thread Cert.PoolAIdeal.nD Cert.PoolAIdeal.τ).loc Cert.PoolAIdeal.main_arg3) = m ((c.tc : Thread Cert.PoolAIdeal.nD Cert.PoolAIdeal.τ).loc Cert.PoolAIdeal.main_arg3)
      ∧ r.2.mem ((c.tc : Thread Cert.PoolAIdeal.nD Cert.PoolAIdeal.τ).loc Cert.PoolAIdeal.main_arg4) = m ((c.tc : Thread Cert.PoolAIdeal.nD Cert.PoolAIdeal.τ).loc Cert.PoolAIdeal.main_arg4))
      ∧ r.2.sem = fun _ => 0)

def quiescent_PoolARefIdeal [hPoolARefIdeal : Cert.PoolARefIdeal.Facts] : Prop :=
  ∀ (m : (ℓ : Loc Cert.PoolARefIdeal.nD Cert.PoolARefIdeal.τ Cert.PoolARefIdeal.sig) → Buf (Elt Ideal) ℓ) (g : Dev Cert.PoolARefIdeal.nD → PrngReg), Pre_PoolARefIdeal m →
    θ_run (Cert.PoolARefIdeal.defs (F := Ideal)) (onTc (τ := Cert.PoolARefIdeal.τ) (Cert.PoolARefIdeal.main (F := Ideal))) ⟨m, fun _ => 0, g⟩ (fun r => (∀ c : Dev Cert.PoolARefIdeal.nD,
      r.2.mem ((c.tc : Thread Cert.PoolARefIdeal.nD Cert.PoolARefIdeal.τ).loc Cert.PoolARefIdeal.main_arg0) = m ((c.tc : Thread Cert.PoolARefIdeal.nD Cert.PoolARefIdeal.τ).loc Cert.PoolARefIdeal.main_arg0)
      ∧ r.2.mem ((c.tc : Thread Cert.PoolARefIdeal.nD Cert.PoolARefIdeal.τ).loc Cert.PoolARefIdeal.main_arg1) = m ((c.tc : Thread Cert.PoolARefIdeal.nD Cert.PoolARefIdeal.τ).loc Cert.PoolARefIdeal.main_arg1)
      ∧ r.2.mem ((c.tc : Thread Cert.PoolARefIdeal.nD Cert.PoolARefIdeal.τ).loc Cert.PoolARefIdeal.main_arg2) = m ((c.tc : Thread Cert.PoolARefIdeal.nD Cert.PoolARefIdeal.τ).loc Cert.PoolARefIdeal.main_arg2)
      ∧ r.2.mem ((c.tc : Thread Cert.PoolARefIdeal.nD Cert.PoolARefIdeal.τ).loc Cert.PoolARefIdeal.main_arg3) = m ((c.tc : Thread Cert.PoolARefIdeal.nD Cert.PoolARefIdeal.τ).loc Cert.PoolARefIdeal.main_arg3)
      ∧ r.2.mem ((c.tc : Thread Cert.PoolARefIdeal.nD Cert.PoolARefIdeal.τ).loc Cert.PoolARefIdeal.main_arg4) = m ((c.tc : Thread Cert.PoolARefIdeal.nD Cert.PoolARefIdeal.τ).loc Cert.PoolARefIdeal.main_arg4))
      ∧ r.2.sem = fun _ => 0)

def quiescent_PoolB [hPoolB : Cert.PoolB.Facts] : Prop :=
  ∀ (m : (ℓ : Loc Cert.PoolB.nD Cert.PoolB.τ Cert.PoolB.sig) → Buf (Elt Bits) ℓ) (g : Dev Cert.PoolB.nD → PrngReg), Pre_PoolB m →
    θ_run (Cert.PoolB.defs (F := Bits)) (onTc (τ := Cert.PoolB.τ) (Cert.PoolB.main (F := Bits))) ⟨m, fun _ => 0, g⟩ (fun r => (∀ c : Dev Cert.PoolB.nD,
      r.2.mem ((c.tc : Thread Cert.PoolB.nD Cert.PoolB.τ).loc Cert.PoolB.main_arg0) = m ((c.tc : Thread Cert.PoolB.nD Cert.PoolB.τ).loc Cert.PoolB.main_arg0))
      ∧ r.2.sem = fun _ => 0)

def quiescent_PoolBIdeal [hPoolBIdeal : Cert.PoolBIdeal.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0))
      ∧ r.2.sem = fun _ => 0)

def quiescent_PoolBIdeal_pre_finite_poolb [hPoolBIdeal : Cert.PoolBIdeal.Facts] [hPre_finite_poolb : Cert.Pre_finite_poolb.Facts] : Prop :=
  ∀ (m : (ℓ : Loc Cert.PoolBIdeal.nD Cert.PoolBIdeal.τ Cert.PoolBIdeal.sig) → Buf (Elt Ideal) ℓ) (g : Dev Cert.PoolBIdeal.nD → PrngReg), Pre_PoolBIdeal_finite_poolb m →
    θ_run (Cert.PoolBIdeal.defs (F := Ideal)) (onTc (τ := Cert.PoolBIdeal.τ) (Cert.PoolBIdeal.main (F := Ideal))) ⟨m, fun _ => 0, g⟩ (fun r => (∀ c : Dev Cert.PoolBIdeal.nD,
      r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0))
      ∧ r.2.sem = fun _ => 0)

def quiescent_PoolBRefIdeal [hPoolBRefIdeal : Cert.PoolBRefIdeal.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0))
      ∧ r.2.sem = fun _ => 0)

def quiescent_PoolBRefIdeal_pre_finite_poolb [hPoolBRefIdeal : Cert.PoolBRefIdeal.Facts] [hPre_finite_poolb : Cert.Pre_finite_poolb.Facts] : Prop :=
  ∀ (m : (ℓ : Loc Cert.PoolBRefIdeal.nD Cert.PoolBRefIdeal.τ Cert.PoolBRefIdeal.sig) → Buf (Elt Ideal) ℓ) (g : Dev Cert.PoolBRefIdeal.nD → PrngReg), Pre_PoolBRefIdeal_finite_poolb m →
    θ_run (Cert.PoolBRefIdeal.defs (F := Ideal)) (onTc (τ := Cert.PoolBRefIdeal.τ) (Cert.PoolBRefIdeal.main (F := Ideal))) ⟨m, fun _ => 0, g⟩ (fun r => (∀ c : Dev Cert.PoolBRefIdeal.nD,
      r.2.mem ((c.tc : Thread Cert.PoolBRefIdeal.nD Cert.PoolBRefIdeal.τ).loc Cert.PoolBRefIdeal.main_arg0) = m ((c.tc : Thread Cert.PoolBRefIdeal.nD Cert.PoolBRefIdeal.τ).loc Cert.PoolBRefIdeal.main_arg0))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_flash [hFlashIdeal : Cert.FlashIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_flash m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_flash [hFlashRefIdeal : Cert.FlashRefIdeal.Facts] [hPre_finite_flash : Cert.Pre_finite_flash.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_flash m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashF [hFlashF : Cert.FlashF.Facts] : Prop :=
  ∀ (m : (ℓ : Loc Cert.FlashF.nD Cert.FlashF.τ Cert.FlashF.sig) → Buf (Elt Bits) ℓ) (g : Dev Cert.FlashF.nD → PrngReg), Pre_FlashF m →
    θ_run (Cert.FlashF.defs (F := Bits)) (onTc (τ := Cert.FlashF.τ) (Cert.FlashF.main (F := Bits))) ⟨m, fun _ => 0, g⟩ (fun r => (∀ c : Dev Cert.FlashF.nD,
      r.2.mem ((c.tc : Thread Cert.FlashF.nD Cert.FlashF.τ).loc Cert.FlashF.main_arg0) = m ((c.tc : Thread Cert.FlashF.nD Cert.FlashF.τ).loc Cert.FlashF.main_arg0)
      ∧ r.2.mem ((c.tc : Thread Cert.FlashF.nD Cert.FlashF.τ).loc Cert.FlashF.main_arg1) = m ((c.tc : Thread Cert.FlashF.nD Cert.FlashF.τ).loc Cert.FlashF.main_arg1)
      ∧ r.2.mem ((c.tc : Thread Cert.FlashF.nD Cert.FlashF.τ).loc Cert.FlashF.main_arg2) = m ((c.tc : Thread Cert.FlashF.nD Cert.FlashF.τ).loc Cert.FlashF.main_arg2))
      ∧ r.2.sem = fun _ => 0)

def quiescent_FlashFIdeal [hFlashFIdeal : Cert.FlashFIdeal.Facts] : Prop :=
  ∀ (m : (ℓ : Loc Cert.FlashFIdeal.nD Cert.FlashFIdeal.τ Cert.FlashFIdeal.sig) → Buf (Elt Ideal) ℓ) (g : Dev Cert.FlashFIdeal.nD → PrngReg), Pre_FlashFIdeal m →
    θ_run (Cert.FlashFIdeal.defs (F := Ideal)) (onTc (τ := Cert.FlashFIdeal.τ) (Cert.FlashFIdeal.main (F := Ideal))) ⟨m, fun _ => 0, g⟩ (fun r => (∀ c : Dev Cert.FlashFIdeal.nD,
      r.2.mem ((c.tc : Thread Cert.FlashFIdeal.nD Cert.FlashFIdeal.τ).loc Cert.FlashFIdeal.main_arg0) = m ((c.tc : Thread Cert.FlashFIdeal.nD Cert.FlashFIdeal.τ).loc Cert.FlashFIdeal.main_arg0)
      ∧ r.2.mem ((c.tc : Thread Cert.FlashFIdeal.nD Cert.FlashFIdeal.τ).loc Cert.FlashFIdeal.main_arg1) = m ((c.tc : Thread Cert.FlashFIdeal.nD Cert.FlashFIdeal.τ).loc Cert.FlashFIdeal.main_arg1)
      ∧ r.2.mem ((c.tc : Thread Cert.FlashFIdeal.nD Cert.FlashFIdeal.τ).loc Cert.FlashFIdeal.main_arg2) = m ((c.tc : Thread Cert.FlashFIdeal.nD Cert.FlashFIdeal.τ).loc Cert.FlashFIdeal.main_arg2))
      ∧ r.2.sem = fun _ => 0)

def quiescent_FlashFIdeal_pre_finite_flashf [hFlashFIdeal : Cert.FlashFIdeal.Facts] [hPre_finite_flashf : Cert.Pre_finite_flashf.Facts] : Prop :=
  ∀ (m : (ℓ : Loc Cert.FlashFIdeal.nD Cert.FlashFIdeal.τ Cert.FlashFIdeal.sig) → Buf (Elt Ideal) ℓ) (g : Dev Cert.FlashFIdeal.nD → PrngReg), Pre_FlashFIdeal_finite_flashf m →
    θ_run (Cert.FlashFIdeal.defs (F := Ideal)) (onTc (τ := Cert.FlashFIdeal.τ) (Cert.FlashFIdeal.main (F := Ideal))) ⟨m, fun _ => 0, g⟩ (fun r => (∀ c : Dev Cert.FlashFIdeal.nD,
      r.2.mem ((c.tc : Thread Cert.FlashFIdeal.nD Cert.FlashFIdeal.τ).loc Cert.FlashFIdeal.main_arg0) = m ((c.tc : Thread Cert.FlashFIdeal.nD Cert.FlashFIdeal.τ).loc Cert.FlashFIdeal.main_arg0)
      ∧ r.2.mem ((c.tc : Thread Cert.FlashFIdeal.nD Cert.FlashFIdeal.τ).loc Cert.FlashFIdeal.main_arg1) = m ((c.tc : Thread Cert.FlashFIdeal.nD Cert.FlashFIdeal.τ).loc Cert.FlashFIdeal.main_arg1)
      ∧ r.2.mem ((c.tc : Thread Cert.FlashFIdeal.nD Cert.FlashFIdeal.τ).loc Cert.FlashFIdeal.main_arg2) = m ((c.tc : Thread Cert.FlashFIdeal.nD Cert.FlashFIdeal.τ).loc Cert.FlashFIdeal.main_arg2))
      ∧ r.2.sem = fun _ => 0)

def quiescent_FlashFRefIdeal [hFlashFRefIdeal : Cert.FlashFRefIdeal.Facts] : Prop :=
  ∀ (m : (ℓ : Loc Cert.FlashFRefIdeal.nD Cert.FlashFRefIdeal.τ Cert.FlashFRefIdeal.sig) → Buf (Elt Ideal) ℓ) (g : Dev Cert.FlashFRefIdeal.nD → PrngReg), Pre_FlashFRefIdeal m →
    θ_run (Cert.FlashFRefIdeal.defs (F := Ideal)) (onTc (τ := Cert.FlashFRefIdeal.τ) (Cert.FlashFRefIdeal.main (F := Ideal))) ⟨m, fun _ => 0, g⟩ (fun r => (∀ c : Dev Cert.FlashFRefIdeal.nD,
      r.2.mem ((c.tc : Thread Cert.FlashFRefIdeal.nD Cert.FlashFRefIdeal.τ).loc Cert.FlashFRefIdeal.main_arg0) = m ((c.tc : Thread Cert.FlashFRefIdeal.nD Cert.FlashFRefIdeal.τ).loc Cert.FlashFRefIdeal.main_arg0)
      ∧ r.2.mem ((c.tc : Thread Cert.FlashFRefIdeal.nD Cert.FlashFRefIdeal.τ).loc Cert.FlashFRefIdeal.main_arg1) = m ((c.tc : Thread Cert.FlashFRefIdeal.nD Cert.FlashFRefIdeal.τ).loc Cert.FlashFRefIdeal.main_arg1)
      ∧ r.2.mem ((c.tc : Thread Cert.FlashFRefIdeal.nD Cert.FlashFRefIdeal.τ).loc Cert.FlashFRefIdeal.main_arg2) = m ((c.tc : Thread Cert.FlashFRefIdeal.nD Cert.FlashFRefIdeal.τ).loc Cert.FlashFRefIdeal.main_arg2))
      ∧ r.2.sem = fun _ => 0)

def quiescent_FlashFRefIdeal_pre_finite_flashf [hFlashFRefIdeal : Cert.FlashFRefIdeal.Facts] [hPre_finite_flashf : Cert.Pre_finite_flashf.Facts] : Prop :=
  ∀ (m : (ℓ : Loc Cert.FlashFRefIdeal.nD Cert.FlashFRefIdeal.τ Cert.FlashFRefIdeal.sig) → Buf (Elt Ideal) ℓ) (g : Dev Cert.FlashFRefIdeal.nD → PrngReg), Pre_FlashFRefIdeal_finite_flashf m →
    θ_run (Cert.FlashFRefIdeal.defs (F := Ideal)) (onTc (τ := Cert.FlashFRefIdeal.τ) (Cert.FlashFRefIdeal.main (F := Ideal))) ⟨m, fun _ => 0, g⟩ (fun r => (∀ c : Dev Cert.FlashFRefIdeal.nD,
      r.2.mem ((c.tc : Thread Cert.FlashFRefIdeal.nD Cert.FlashFRefIdeal.τ).loc Cert.FlashFRefIdeal.main_arg0) = m ((c.tc : Thread Cert.FlashFRefIdeal.nD Cert.FlashFRefIdeal.τ).loc Cert.FlashFRefIdeal.main_arg0)
      ∧ r.2.mem ((c.tc : Thread Cert.FlashFRefIdeal.nD Cert.FlashFRefIdeal.τ).loc Cert.FlashFRefIdeal.main_arg1) = m ((c.tc : Thread Cert.FlashFRefIdeal.nD Cert.FlashFRefIdeal.τ).loc Cert.FlashFRefIdeal.main_arg1)
      ∧ r.2.mem ((c.tc : Thread Cert.FlashFRefIdeal.nD Cert.FlashFRefIdeal.τ).loc Cert.FlashFRefIdeal.main_arg2) = m ((c.tc : Thread Cert.FlashFRefIdeal.nD Cert.FlashFRefIdeal.τ).loc Cert.FlashFRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9)
      ∧ r.2.mem ((c.tc : Thread Cert.Mla.nD Cert.Mla.τ).loc Cert.Mla.main_arg10) = m ((c.tc : Thread Cert.Mla.nD Cert.Mla.τ).loc Cert.Mla.main_arg10))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_finite_in [hInProjRefIdeal : Cert.InProjRefIdeal.Facts] [hPre_finite_in : Cert.Pre_finite_in.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_in m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)) (v3 : (c : Dev Cert.MergeIdeal.nD) → Buf (Elt Ideal) ((c.tc : Thread Cert.MergeIdeal.nD Cert.MergeIdeal.τ).loc Cert.MergeIdeal.main_v6_3)) (v4 : (c : Dev Cert.MergeIdeal.nD) → Buf (Elt Ideal) ((c.tc : Thread Cert.MergeIdeal.nD Cert.MergeIdeal.τ).loc Cert.MergeIdeal.main_v6_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_v6_3) = v3 c
          ∧ r.2.mem ((c.tc : Thread Cert.MergeIdeal.nD Cert.MergeIdeal.τ).loc Cert.MergeIdeal.main_v6_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_v34) = v1 c
          ∧ r.2.mem ((c.tc : Thread Cert.MergeRefIdeal.nD Cert.MergeRefIdeal.τ).loc Cert.MergeRefIdeal.main_v35) = v2 c
          ∧ r.2.mem ((c.tc : Thread Cert.MergeRefIdeal.nD Cert.MergeRefIdeal.τ).loc Cert.MergeRefIdeal.main_v36) = v3 c
          ∧ r.2.mem ((c.tc : Thread Cert.MergeRefIdeal.nD Cert.MergeRefIdeal.τ).loc Cert.MergeRefIdeal.main_v37) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_PoolA_PoolAIdeal : Prop :=
  True

def algebraic_PoolAIdeal_PoolARefIdeal [hPoolAIdeal : Cert.PoolAIdeal.Facts] [hPoolARefIdeal : Cert.PoolARefIdeal.Facts] : Prop :=
  ∀ (m : (ℓ : Loc Cert.PoolAIdeal.nD Cert.PoolAIdeal.τ Cert.PoolAIdeal.sig) → Buf (Elt Ideal) ℓ) (g : Dev Cert.PoolAIdeal.nD → PrngReg)
    (m' : (ℓ : Loc Cert.PoolARefIdeal.nD Cert.PoolARefIdeal.τ Cert.PoolARefIdeal.sig) → Buf (Elt Ideal) ℓ) (g' : Dev Cert.PoolARefIdeal.nD → PrngReg), Pre_PoolAIdeal m →
    (∀ c : Dev Cert.PoolAIdeal.nD,
      m' ((c.tc : Thread Cert.PoolARefIdeal.nD Cert.PoolARefIdeal.τ).loc Cert.PoolARefIdeal.main_arg0) = m ((c.tc : Thread Cert.PoolAIdeal.nD Cert.PoolAIdeal.τ).loc Cert.PoolAIdeal.main_arg0)
      ∧ m' ((c.tc : Thread Cert.PoolARefIdeal.nD Cert.PoolARefIdeal.τ).loc Cert.PoolARefIdeal.main_arg1) = m ((c.tc : Thread Cert.PoolAIdeal.nD Cert.PoolAIdeal.τ).loc Cert.PoolAIdeal.main_arg1)
      ∧ m' ((c.tc : Thread Cert.PoolARefIdeal.nD Cert.PoolARefIdeal.τ).loc Cert.PoolARefIdeal.main_arg2) = m ((c.tc : Thread Cert.PoolAIdeal.nD Cert.PoolAIdeal.τ).loc Cert.PoolAIdeal.main_arg2)
      ∧ m' ((c.tc : Thread Cert.PoolARefIdeal.nD Cert.PoolARefIdeal.τ).loc Cert.PoolARefIdeal.main_arg3) = m ((c.tc : Thread Cert.PoolAIdeal.nD Cert.PoolAIdeal.τ).loc Cert.PoolAIdeal.main_arg3)
      ∧ m' ((c.tc : Thread Cert.PoolARefIdeal.nD Cert.PoolARefIdeal.τ).loc Cert.PoolARefIdeal.main_arg4) = m ((c.tc : Thread Cert.PoolAIdeal.nD Cert.PoolAIdeal.τ).loc Cert.PoolAIdeal.main_arg4)) →
    ∃ (v0 : (c : Dev Cert.PoolAIdeal.nD) → Buf (Elt Ideal) ((c.tc : Thread Cert.PoolAIdeal.nD Cert.PoolAIdeal.τ).loc Cert.PoolAIdeal.main_v87_0)) (v1 : (c : Dev Cert.PoolAIdeal.nD) → Buf (Elt Ideal) ((c.tc : Thread Cert.PoolAIdeal.nD Cert.PoolAIdeal.τ).loc Cert.PoolAIdeal.main_v87_1)) (v2 : (c : Dev Cert.PoolAIdeal.nD) → Buf (Elt Ideal) ((c.tc : Thread Cert.PoolAIdeal.nD Cert.PoolAIdeal.τ).loc Cert.PoolAIdeal.main_v87_2)),
      θ_run (Cert.PoolAIdeal.defs (F := Ideal)) (onTc (τ := Cert.PoolAIdeal.τ) (Cert.PoolAIdeal.main (F := Ideal))) ⟨m, fun _ => 0, g⟩ (fun r => ∀ c : Dev Cert.PoolAIdeal.nD,
          r.2.mem ((c.tc : Thread Cert.PoolAIdeal.nD Cert.PoolAIdeal.τ).loc Cert.PoolAIdeal.main_v87_0) = v0 c
          ∧ r.2.mem ((c.tc : Thread Cert.PoolAIdeal.nD Cert.PoolAIdeal.τ).loc Cert.PoolAIdeal.main_v87_1) = v1 c
          ∧ r.2.mem ((c.tc : Thread Cert.PoolAIdeal.nD Cert.PoolAIdeal.τ).loc Cert.PoolAIdeal.main_v87_2) = v2 c
          ∧ r.2.mem ((c.tc : Thread Cert.PoolAIdeal.nD Cert.PoolAIdeal.τ).loc Cert.PoolAIdeal.main_arg0) = m ((c.tc : Thread Cert.PoolAIdeal.nD Cert.PoolAIdeal.τ).loc Cert.PoolAIdeal.main_arg0)
          ∧ r.2.mem ((c.tc : Thread Cert.PoolAIdeal.nD Cert.PoolAIdeal.τ).loc Cert.PoolAIdeal.main_arg1) = m ((c.tc : Thread Cert.PoolAIdeal.nD Cert.PoolAIdeal.τ).loc Cert.PoolAIdeal.main_arg1)
          ∧ r.2.mem ((c.tc : Thread Cert.PoolAIdeal.nD Cert.PoolAIdeal.τ).loc Cert.PoolAIdeal.main_arg2) = m ((c.tc : Thread Cert.PoolAIdeal.nD Cert.PoolAIdeal.τ).loc Cert.PoolAIdeal.main_arg2)
          ∧ r.2.mem ((c.tc : Thread Cert.PoolAIdeal.nD Cert.PoolAIdeal.τ).loc Cert.PoolAIdeal.main_arg3) = m ((c.tc : Thread Cert.PoolAIdeal.nD Cert.PoolAIdeal.τ).loc Cert.PoolAIdeal.main_arg3)
          ∧ r.2.mem ((c.tc : Thread Cert.PoolAIdeal.nD Cert.PoolAIdeal.τ).loc Cert.PoolAIdeal.main_arg4) = m ((c.tc : Thread Cert.PoolAIdeal.nD Cert.PoolAIdeal.τ).loc Cert.PoolAIdeal.main_arg4))
      ∧ θ_run (Cert.PoolARefIdeal.defs (F := Ideal)) (onTc (τ := Cert.PoolARefIdeal.τ) (Cert.PoolARefIdeal.main (F := Ideal))) ⟨m', fun _ => 0, g'⟩ (fun r => ∀ c : Dev Cert.PoolARefIdeal.nD,
          r.2.mem ((c.tc : Thread Cert.PoolARefIdeal.nD Cert.PoolARefIdeal.τ).loc Cert.PoolARefIdeal.main_v137) = v0 c
          ∧ r.2.mem ((c.tc : Thread Cert.PoolARefIdeal.nD Cert.PoolARefIdeal.τ).loc Cert.PoolARefIdeal.main_v138) = v1 c
          ∧ r.2.mem ((c.tc : Thread Cert.PoolARefIdeal.nD Cert.PoolARefIdeal.τ).loc Cert.PoolARefIdeal.main_v112) = v2 c
          ∧ r.2.mem ((c.tc : Thread Cert.PoolARefIdeal.nD Cert.PoolARefIdeal.τ).loc Cert.PoolARefIdeal.main_arg0) = m' ((c.tc : Thread Cert.PoolARefIdeal.nD Cert.PoolARefIdeal.τ).loc Cert.PoolARefIdeal.main_arg0)
          ∧ r.2.mem ((c.tc : Thread Cert.PoolARefIdeal.nD Cert.PoolARefIdeal.τ).loc Cert.PoolARefIdeal.main_arg1) = m' ((c.tc : Thread Cert.PoolARefIdeal.nD Cert.PoolARefIdeal.τ).loc Cert.PoolARefIdeal.main_arg1)
          ∧ r.2.mem ((c.tc : Thread Cert.PoolARefIdeal.nD Cert.PoolARefIdeal.τ).loc Cert.PoolARefIdeal.main_arg2) = m' ((c.tc : Thread Cert.PoolARefIdeal.nD Cert.PoolARefIdeal.τ).loc Cert.PoolARefIdeal.main_arg2)
          ∧ r.2.mem ((c.tc : Thread Cert.PoolARefIdeal.nD Cert.PoolARefIdeal.τ).loc Cert.PoolARefIdeal.main_arg3) = m' ((c.tc : Thread Cert.PoolARefIdeal.nD Cert.PoolARefIdeal.τ).loc Cert.PoolARefIdeal.main_arg3)
          ∧ r.2.mem ((c.tc : Thread Cert.PoolARefIdeal.nD Cert.PoolARefIdeal.τ).loc Cert.PoolARefIdeal.main_arg4) = m' ((c.tc : Thread Cert.PoolARefIdeal.nD Cert.PoolARefIdeal.τ).loc Cert.PoolARefIdeal.main_arg4))

def preserves_PoolB_PoolBIdeal : Prop :=
  True

def algebraic_PoolBIdeal_PoolBRefIdeal_pre_finite_poolb [hPoolBIdeal : Cert.PoolBIdeal.Facts] [hPoolBRefIdeal : Cert.PoolBRefIdeal.Facts] [hPre_finite_poolb : Cert.Pre_finite_poolb.Facts] : Prop :=
  ∀ (m : (ℓ : Loc Cert.PoolBIdeal.nD Cert.PoolBIdeal.τ Cert.PoolBIdeal.sig) → Buf (Elt Ideal) ℓ) (g : Dev Cert.PoolBIdeal.nD → PrngReg)
    (m' : (ℓ : Loc Cert.PoolBRefIdeal.nD Cert.PoolBRefIdeal.τ Cert.PoolBRefIdeal.sig) → Buf (Elt Ideal) ℓ) (g' : Dev Cert.PoolBRefIdeal.nD → PrngReg), Pre_PoolBIdeal_finite_poolb m →
    (∀ c : Dev Cert.PoolBIdeal.nD,
      m' ((c.tc : Thread Cert.PoolBRefIdeal.nD Cert.PoolBRefIdeal.τ).loc Cert.PoolBRefIdeal.main_arg0) = m ((c.tc : Thread Cert.PoolBIdeal.nD Cert.PoolBIdeal.τ).loc Cert.PoolBIdeal.main_arg0)) →
    ∃ (v0 : (c : Dev Cert.PoolBIdeal.nD) → Buf (Elt Ideal) ((c.tc : Thread Cert.PoolBIdeal.nD Cert.PoolBIdeal.τ).loc Cert.PoolBIdeal.main_v127)),
      θ_run (Cert.PoolBIdeal.defs (F := Ideal)) (onTc (τ := Cert.PoolBIdeal.τ) (Cert.PoolBIdeal.main (F := Ideal))) ⟨m, fun _ => 0, g⟩ (fun r => ∀ c : Dev Cert.PoolBIdeal.nD,
          r.2.mem ((c.tc : Thread Cert.PoolBIdeal.nD Cert.PoolBIdeal.τ).loc Cert.PoolBIdeal.main_v127) = v0 c
          ∧ r.2.mem ((c.tc : Thread Cert.PoolBIdeal.nD Cert.PoolBIdeal.τ).loc Cert.PoolBIdeal.main_arg0) = m ((c.tc : Thread Cert.PoolBIdeal.nD Cert.PoolBIdeal.τ).loc Cert.PoolBIdeal.main_arg0))
      ∧ θ_run (Cert.PoolBRefIdeal.defs (F := Ideal)) (onTc (τ := Cert.PoolBRefIdeal.τ) (Cert.PoolBRefIdeal.main (F := Ideal))) ⟨m', fun _ => 0, g'⟩ (fun r => ∀ c : Dev Cert.PoolBRefIdeal.nD,
          r.2.mem ((c.tc : Thread Cert.PoolBRefIdeal.nD Cert.PoolBRefIdeal.τ).loc Cert.PoolBRefIdeal.main_v161) = v0 c
          ∧ r.2.mem ((c.tc : Thread Cert.PoolBRefIdeal.nD Cert.PoolBRefIdeal.τ).loc Cert.PoolBRefIdeal.main_arg0) = m' ((c.tc : Thread Cert.PoolBRefIdeal.nD Cert.PoolBRefIdeal.τ).loc Cert.PoolBRefIdeal.main_arg0))

def preserves_Flash_FlashIdeal : Prop :=
  IdealRules.named_const.Statement Cert.FlashIdeal.κ "mask" .f32 0xF149F2CA#32 ⊥

def algebraic_FlashIdeal_FlashRefIdeal_pre_finite_flash [hFlashIdeal : Cert.FlashIdeal.Facts] [hFlashRefIdeal : Cert.FlashRefIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_flash m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v37_0)) (v1 : (c : Dev Cert.FlashIdeal.nD) → Buf (Elt Ideal) ((c.tc : Thread Cert.FlashIdeal.nD Cert.FlashIdeal.τ).loc Cert.FlashIdeal.main_v37_1)) (v2 : (c : Dev Cert.FlashIdeal.nD) → Buf (Elt Ideal) ((c.tc : Thread Cert.FlashIdeal.nD Cert.FlashIdeal.τ).loc Cert.FlashIdeal.main_v37_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v37_0) = v0 c
          ∧ r.2.mem ((c.tc : Thread Cert.FlashIdeal.nD Cert.FlashIdeal.τ).loc Cert.FlashIdeal.main_v37_1) = v1 c
          ∧ r.2.mem ((c.tc : Thread Cert.FlashIdeal.nD Cert.FlashIdeal.τ).loc Cert.FlashIdeal.main_v37_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v70) = v0 c
          ∧ r.2.mem ((c.tc : Thread Cert.FlashRefIdeal.nD Cert.FlashRefIdeal.τ).loc Cert.FlashRefIdeal.main_v73) = v1 c
          ∧ r.2.mem ((c.tc : Thread Cert.FlashRefIdeal.nD Cert.FlashRefIdeal.τ).loc Cert.FlashRefIdeal.main_v75) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_FlashF_FlashFIdeal : Prop :=
  IdealRules.named_const.Statement Cert.FlashFIdeal.κ "mask" .f32 0xF149F2CA#32 ⊥

def algebraic_FlashFIdeal_FlashFRefIdeal_pre_finite_flashf [hFlashFIdeal : Cert.FlashFIdeal.Facts] [hFlashFRefIdeal : Cert.FlashFRefIdeal.Facts] [hPre_finite_flashf : Cert.Pre_finite_flashf.Facts] : Prop :=
  ∀ (m : (ℓ : Loc Cert.FlashFIdeal.nD Cert.FlashFIdeal.τ Cert.FlashFIdeal.sig) → Buf (Elt Ideal) ℓ) (g : Dev Cert.FlashFIdeal.nD → PrngReg)
    (m' : (ℓ : Loc Cert.FlashFRefIdeal.nD Cert.FlashFRefIdeal.τ Cert.FlashFRefIdeal.sig) → Buf (Elt Ideal) ℓ) (g' : Dev Cert.FlashFRefIdeal.nD → PrngReg), Pre_FlashFIdeal_finite_flashf m →
    (∀ c : Dev Cert.FlashFIdeal.nD,
      m' ((c.tc : Thread Cert.FlashFRefIdeal.nD Cert.FlashFRefIdeal.τ).loc Cert.FlashFRefIdeal.main_arg0) = m ((c.tc : Thread Cert.FlashFIdeal.nD Cert.FlashFIdeal.τ).loc Cert.FlashFIdeal.main_arg0)
      ∧ m' ((c.tc : Thread Cert.FlashFRefIdeal.nD Cert.FlashFRefIdeal.τ).loc Cert.FlashFRefIdeal.main_arg1) = m ((c.tc : Thread Cert.FlashFIdeal.nD Cert.FlashFIdeal.τ).loc Cert.FlashFIdeal.main_arg1)
      ∧ m' ((c.tc : Thread Cert.FlashFRefIdeal.nD Cert.FlashFRefIdeal.τ).loc Cert.FlashFRefIdeal.main_arg2) = m ((c.tc : Thread Cert.FlashFIdeal.nD Cert.FlashFIdeal.τ).loc Cert.FlashFIdeal.main_arg2)) →
    ∃ (v0 : (c : Dev Cert.FlashFIdeal.nD) → Buf (Elt Ideal) ((c.tc : Thread Cert.FlashFIdeal.nD Cert.FlashFIdeal.τ).loc Cert.FlashFIdeal.main_v10_0)) (v1 : (c : Dev Cert.FlashFIdeal.nD) → Buf (Elt Ideal) ((c.tc : Thread Cert.FlashFIdeal.nD Cert.FlashFIdeal.τ).loc Cert.FlashFIdeal.main_v10_1)),
      θ_run (Cert.FlashFIdeal.defs (F := Ideal)) (onTc (τ := Cert.FlashFIdeal.τ) (Cert.FlashFIdeal.main (F := Ideal))) ⟨m, fun _ => 0, g⟩ (fun r => ∀ c : Dev Cert.FlashFIdeal.nD,
          r.2.mem ((c.tc : Thread Cert.FlashFIdeal.nD Cert.FlashFIdeal.τ).loc Cert.FlashFIdeal.main_v10_0) = v0 c
          ∧ r.2.mem ((c.tc : Thread Cert.FlashFIdeal.nD Cert.FlashFIdeal.τ).loc Cert.FlashFIdeal.main_v10_1) = v1 c
          ∧ r.2.mem ((c.tc : Thread Cert.FlashFIdeal.nD Cert.FlashFIdeal.τ).loc Cert.FlashFIdeal.main_arg0) = m ((c.tc : Thread Cert.FlashFIdeal.nD Cert.FlashFIdeal.τ).loc Cert.FlashFIdeal.main_arg0)
          ∧ r.2.mem ((c.tc : Thread Cert.FlashFIdeal.nD Cert.FlashFIdeal.τ).loc Cert.FlashFIdeal.main_arg1) = m ((c.tc : Thread Cert.FlashFIdeal.nD Cert.FlashFIdeal.τ).loc Cert.FlashFIdeal.main_arg1)
          ∧ r.2.mem ((c.tc : Thread Cert.FlashFIdeal.nD Cert.FlashFIdeal.τ).loc Cert.FlashFIdeal.main_arg2) = m ((c.tc : Thread Cert.FlashFIdeal.nD Cert.FlashFIdeal.τ).loc Cert.FlashFIdeal.main_arg2))
      ∧ θ_run (Cert.FlashFRefIdeal.defs (F := Ideal)) (onTc (τ := Cert.FlashFRefIdeal.τ) (Cert.FlashFRefIdeal.main (F := Ideal))) ⟨m', fun _ => 0, g'⟩ (fun r => ∀ c : Dev Cert.FlashFRefIdeal.nD,
          r.2.mem ((c.tc : Thread Cert.FlashFRefIdeal.nD Cert.FlashFRefIdeal.τ).loc Cert.FlashFRefIdeal.main_v25) = v0 c
          ∧ r.2.mem ((c.tc : Thread Cert.FlashFRefIdeal.nD Cert.FlashFRefIdeal.τ).loc Cert.FlashFRefIdeal.main_v29) = v1 c
          ∧ r.2.mem ((c.tc : Thread Cert.FlashFRefIdeal.nD Cert.FlashFRefIdeal.τ).loc Cert.FlashFRefIdeal.main_arg0) = m' ((c.tc : Thread Cert.FlashFRefIdeal.nD Cert.FlashFRefIdeal.τ).loc Cert.FlashFRefIdeal.main_arg0)
          ∧ r.2.mem ((c.tc : Thread Cert.FlashFRefIdeal.nD Cert.FlashFRefIdeal.τ).loc Cert.FlashFRefIdeal.main_arg1) = m' ((c.tc : Thread Cert.FlashFRefIdeal.nD Cert.FlashFRefIdeal.τ).loc Cert.FlashFRefIdeal.main_arg1)
          ∧ r.2.mem ((c.tc : Thread Cert.FlashFRefIdeal.nD Cert.FlashFRefIdeal.τ).loc Cert.FlashFRefIdeal.main_arg2) = m' ((c.tc : Thread Cert.FlashFRefIdeal.nD Cert.FlashFRefIdeal.τ).loc Cert.FlashFRefIdeal.main_arg2))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)
      ∧ m' ((c.tc : Thread Cert.MlaRefIdeal.nD Cert.MlaRefIdeal.τ).loc Cert.MlaRefIdeal.main_arg9) = m ((c.tc : Thread Cert.MlaIdeal.nD Cert.MlaIdeal.τ).loc Cert.MlaIdeal.main_arg9)
      ∧ m' ((c.tc : Thread Cert.MlaRefIdeal.nD Cert.MlaRefIdeal.τ).loc Cert.MlaRefIdeal.main_arg10) = m ((c.tc : Thread Cert.MlaIdeal.nD Cert.MlaIdeal.τ).loc Cert.MlaIdeal.main_arg10)) →
    ∃ (v0 : (c : Dev Cert.MlaIdeal.nD) → Buf (Elt Ideal) ((c.tc : Thread Cert.MlaIdeal.nD Cert.MlaIdeal.τ).loc Cert.MlaIdeal.main_v39_0)) (v1 : (c : Dev Cert.MlaIdeal.nD) → Buf (Elt Ideal) ((c.tc : Thread Cert.MlaIdeal.nD Cert.MlaIdeal.τ).loc Cert.MlaIdeal.main_v39_1)) (v2 : (c : Dev Cert.MlaIdeal.nD) → Buf (Elt Ideal) ((c.tc : Thread Cert.MlaIdeal.nD Cert.MlaIdeal.τ).loc Cert.MlaIdeal.main_v39_2)) (v3 : (c : Dev Cert.MlaIdeal.nD) → Buf (Elt Ideal) ((c.tc : Thread Cert.MlaIdeal.nD Cert.MlaIdeal.τ).loc Cert.MlaIdeal.main_v39_3)) (v4 : (c : Dev Cert.MlaIdeal.nD) → Buf (Elt Ideal) ((c.tc : Thread Cert.MlaIdeal.nD Cert.MlaIdeal.τ).loc Cert.MlaIdeal.main_v39_4)) (v5 : (c : Dev Cert.MlaIdeal.nD) → Buf (Elt Ideal) ((c.tc : Thread Cert.MlaIdeal.nD Cert.MlaIdeal.τ).loc Cert.MlaIdeal.main_v39_5)) (v6 : (c : Dev Cert.MlaIdeal.nD) → Buf (Elt Ideal) ((c.tc : Thread Cert.MlaIdeal.nD Cert.MlaIdeal.τ).loc Cert.MlaIdeal.main_v39_6)) (v7 : (c : Dev Cert.MlaIdeal.nD) → Buf (Elt Ideal) ((c.tc : Thread Cert.MlaIdeal.nD Cert.MlaIdeal.τ).loc Cert.MlaIdeal.main_v39_7)) (v8 : (c : Dev Cert.MlaIdeal.nD) → Buf (Elt Ideal) ((c.tc : Thread Cert.MlaIdeal.nD Cert.MlaIdeal.τ).loc Cert.MlaIdeal.main_v39_8)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v39_0) = v0 c
          ∧ r.2.mem ((c.tc : Thread Cert.MlaIdeal.nD Cert.MlaIdeal.τ).loc Cert.MlaIdeal.main_v39_1) = v1 c
          ∧ r.2.mem ((c.tc : Thread Cert.MlaIdeal.nD Cert.MlaIdeal.τ).loc Cert.MlaIdeal.main_v39_2) = v2 c
          ∧ r.2.mem ((c.tc : Thread Cert.MlaIdeal.nD Cert.MlaIdeal.τ).loc Cert.MlaIdeal.main_v39_3) = v3 c
          ∧ r.2.mem ((c.tc : Thread Cert.MlaIdeal.nD Cert.MlaIdeal.τ).loc Cert.MlaIdeal.main_v39_4) = v4 c
          ∧ r.2.mem ((c.tc : Thread Cert.MlaIdeal.nD Cert.MlaIdeal.τ).loc Cert.MlaIdeal.main_v39_5) = v5 c
          ∧ r.2.mem ((c.tc : Thread Cert.MlaIdeal.nD Cert.MlaIdeal.τ).loc Cert.MlaIdeal.main_v39_6) = v6 c
          ∧ r.2.mem ((c.tc : Thread Cert.MlaIdeal.nD Cert.MlaIdeal.τ).loc Cert.MlaIdeal.main_v39_7) = v7 c
          ∧ r.2.mem ((c.tc : Thread Cert.MlaIdeal.nD Cert.MlaIdeal.τ).loc Cert.MlaIdeal.main_v39_8) = v8 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
          ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v182) = v0 c
          ∧ r.2.mem ((c.tc : Thread Cert.MlaRefIdeal.nD Cert.MlaRefIdeal.τ).loc Cert.MlaRefIdeal.main_v183) = v1 c
          ∧ r.2.mem ((c.tc : Thread Cert.MlaRefIdeal.nD Cert.MlaRefIdeal.τ).loc Cert.MlaRefIdeal.main_v185) = v2 c
          ∧ r.2.mem ((c.tc : Thread Cert.MlaRefIdeal.nD Cert.MlaRefIdeal.τ).loc Cert.MlaRefIdeal.main_v188) = v3 c
          ∧ r.2.mem ((c.tc : Thread Cert.MlaRefIdeal.nD Cert.MlaRefIdeal.τ).loc Cert.MlaRefIdeal.main_v190) = v4 c
          ∧ r.2.mem ((c.tc : Thread Cert.MlaRefIdeal.nD Cert.MlaRefIdeal.τ).loc Cert.MlaRefIdeal.main_v191) = v5 c
          ∧ r.2.mem ((c.tc : Thread Cert.MlaRefIdeal.nD Cert.MlaRefIdeal.τ).loc Cert.MlaRefIdeal.main_v192) = v6 c
          ∧ r.2.mem ((c.tc : Thread Cert.MlaRefIdeal.nD Cert.MlaRefIdeal.τ).loc Cert.MlaRefIdeal.main_v193) = v7 c
          ∧ r.2.mem ((c.tc : Thread Cert.MlaRefIdeal.nD Cert.MlaRefIdeal.τ).loc Cert.MlaRefIdeal.main_v194) = v8 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9)
          ∧ r.2.mem ((c.tc : Thread Cert.MlaRefIdeal.nD Cert.MlaRefIdeal.τ).loc Cert.MlaRefIdeal.main_arg10) = m' ((c.tc : Thread Cert.MlaRefIdeal.nD Cert.MlaRefIdeal.τ).loc Cert.MlaRefIdeal.main_arg10))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v35_0)) (v1 : (c : Dev Cert.FfnIdeal.nD) → Buf (Elt Ideal) ((c.tc : Thread Cert.FfnIdeal.nD Cert.FfnIdeal.τ).loc Cert.FfnIdeal.main_v35_1)) (v2 : (c : Dev Cert.FfnIdeal.nD) → Buf (Elt Ideal) ((c.tc : Thread Cert.FfnIdeal.nD Cert.FfnIdeal.τ).loc Cert.FfnIdeal.main_v35_2)) (v3 : (c : Dev Cert.FfnIdeal.nD) → Buf (Elt Ideal) ((c.tc : Thread Cert.FfnIdeal.nD Cert.FfnIdeal.τ).loc Cert.FfnIdeal.main_v35_3)) (v4 : (c : Dev Cert.FfnIdeal.nD) → Buf (Elt Ideal) ((c.tc : Thread Cert.FfnIdeal.nD Cert.FfnIdeal.τ).loc Cert.FfnIdeal.main_v35_4)) (v5 : (c : Dev Cert.FfnIdeal.nD) → Buf (Elt Ideal) ((c.tc : Thread Cert.FfnIdeal.nD Cert.FfnIdeal.τ).loc Cert.FfnIdeal.main_v35_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v35_0) = v0 c
          ∧ r.2.mem ((c.tc : Thread Cert.FfnIdeal.nD Cert.FfnIdeal.τ).loc Cert.FfnIdeal.main_v35_1) = v1 c
          ∧ r.2.mem ((c.tc : Thread Cert.FfnIdeal.nD Cert.FfnIdeal.τ).loc Cert.FfnIdeal.main_v35_2) = v2 c
          ∧ r.2.mem ((c.tc : Thread Cert.FfnIdeal.nD Cert.FfnIdeal.τ).loc Cert.FfnIdeal.main_v35_3) = v3 c
          ∧ r.2.mem ((c.tc : Thread Cert.FfnIdeal.nD Cert.FfnIdeal.τ).loc Cert.FfnIdeal.main_v35_4) = v4 c
          ∧ r.2.mem ((c.tc : Thread Cert.FfnIdeal.nD Cert.FfnIdeal.τ).loc Cert.FfnIdeal.main_v35_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_v63) = v1 c
          ∧ r.2.mem ((c.tc : Thread Cert.FfnRefIdeal.nD Cert.FfnRefIdeal.τ).loc Cert.FfnRefIdeal.main_v68) = v2 c
          ∧ r.2.mem ((c.tc : Thread Cert.FfnRefIdeal.nD Cert.FfnRefIdeal.τ).loc Cert.FfnRefIdeal.main_v69) = v3 c
          ∧ r.2.mem ((c.tc : Thread Cert.FfnRefIdeal.nD Cert.FfnRefIdeal.τ).loc Cert.FfnRefIdeal.main_v53) = v4 c
          ∧ r.2.mem ((c.tc : Thread Cert.FfnRefIdeal.nD Cert.FfnRefIdeal.τ).loc Cert.FfnRefIdeal.main_v70) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v19_0)) (v1 : (c : Dev Cert.PleIdeal.nD) → Buf (Elt Ideal) ((c.tc : Thread Cert.PleIdeal.nD Cert.PleIdeal.τ).loc Cert.PleIdeal.main_v19_1)) (v2 : (c : Dev Cert.PleIdeal.nD) → Buf (Elt Ideal) ((c.tc : Thread Cert.PleIdeal.nD Cert.PleIdeal.τ).loc Cert.PleIdeal.main_v19_2)) (v3 : (c : Dev Cert.PleIdeal.nD) → Buf (Elt Ideal) ((c.tc : Thread Cert.PleIdeal.nD Cert.PleIdeal.τ).loc Cert.PleIdeal.main_v19_3)) (v4 : (c : Dev Cert.PleIdeal.nD) → Buf (Elt Ideal) ((c.tc : Thread Cert.PleIdeal.nD Cert.PleIdeal.τ).loc Cert.PleIdeal.main_v19_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v19_0) = v0 c
          ∧ r.2.mem ((c.tc : Thread Cert.PleIdeal.nD Cert.PleIdeal.τ).loc Cert.PleIdeal.main_v19_1) = v1 c
          ∧ r.2.mem ((c.tc : Thread Cert.PleIdeal.nD Cert.PleIdeal.τ).loc Cert.PleIdeal.main_v19_2) = v2 c
          ∧ r.2.mem ((c.tc : Thread Cert.PleIdeal.nD Cert.PleIdeal.τ).loc Cert.PleIdeal.main_v19_3) = v3 c
          ∧ r.2.mem ((c.tc : Thread Cert.PleIdeal.nD Cert.PleIdeal.τ).loc Cert.PleIdeal.main_v19_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v58) = v0 c
          ∧ r.2.mem ((c.tc : Thread Cert.PleRefIdeal.nD Cert.PleRefIdeal.τ).loc Cert.PleRefIdeal.main_v59) = v1 c
          ∧ r.2.mem ((c.tc : Thread Cert.PleRefIdeal.nD Cert.PleRefIdeal.τ).loc Cert.PleRefIdeal.main_v60) = v2 c
          ∧ r.2.mem ((c.tc : Thread Cert.PleRefIdeal.nD Cert.PleRefIdeal.τ).loc Cert.PleRefIdeal.main_v57) = v3 c
          ∧ r.2.mem ((c.tc : Thread Cert.PleRefIdeal.nD Cert.PleRefIdeal.τ).loc Cert.PleRefIdeal.main_v61) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_InProj_InProjIdeal : Prop :=
  True

def algebraic_InProjIdeal_InProjRefIdeal_pre_finite_in [hInProjIdeal : Cert.InProjIdeal.Facts] [hInProjRefIdeal : Cert.InProjRefIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_in m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v18_0)) (v1 : (c : Dev Cert.InProjIdeal.nD) → Buf (Elt Ideal) ((c.tc : Thread Cert.InProjIdeal.nD Cert.InProjIdeal.τ).loc Cert.InProjIdeal.main_v18_1)) (v2 : (c : Dev Cert.InProjIdeal.nD) → Buf (Elt Ideal) ((c.tc : Thread Cert.InProjIdeal.nD Cert.InProjIdeal.τ).loc Cert.InProjIdeal.main_v18_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v18_0) = v0 c
          ∧ r.2.mem ((c.tc : Thread Cert.InProjIdeal.nD Cert.InProjIdeal.τ).loc Cert.InProjIdeal.main_v18_1) = v1 c
          ∧ r.2.mem ((c.tc : Thread Cert.InProjIdeal.nD Cert.InProjIdeal.τ).loc Cert.InProjIdeal.main_v18_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v38) = v0 c
          ∧ r.2.mem ((c.tc : Thread Cert.InProjRefIdeal.nD Cert.InProjRefIdeal.τ).loc Cert.InProjRefIdeal.main_v39) = v1 c
          ∧ r.2.mem ((c.tc : Thread Cert.InProjRefIdeal.nD Cert.InProjRefIdeal.τ).loc Cert.InProjRefIdeal.main_v40) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def Claim : Prop :=
  ∃ (hMerge : Cert.Merge.Facts) (hMergeIdeal : Cert.MergeIdeal.Facts) (hMergeRefIdeal : Cert.MergeRefIdeal.Facts) (hPoolA : Cert.PoolA.Facts) (hPoolAIdeal : Cert.PoolAIdeal.Facts) (hPoolARefIdeal : Cert.PoolARefIdeal.Facts) (hPoolB : Cert.PoolB.Facts) (hPoolBIdeal : Cert.PoolBIdeal.Facts) (hPoolBRefIdeal : Cert.PoolBRefIdeal.Facts) (hFlash : Cert.Flash.Facts) (hFlashIdeal : Cert.FlashIdeal.Facts) (hFlashRefIdeal : Cert.FlashRefIdeal.Facts) (hFlashF : Cert.FlashF.Facts) (hFlashFIdeal : Cert.FlashFIdeal.Facts) (hFlashFRefIdeal : Cert.FlashFRefIdeal.Facts) (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hLoss : Cert.Loss.Facts) (hLossIdeal : Cert.LossIdeal.Facts) (hLossRefIdeal : Cert.LossRefIdeal.Facts) (hInProj : Cert.InProj.Facts) (hInProjIdeal : Cert.InProjIdeal.Facts) (hInProjRefIdeal : Cert.InProjRefIdeal.Facts) (hPre_finite_poolb : Cert.Pre_finite_poolb.Facts) (hPre_finite_flash : Cert.Pre_finite_flash.Facts) (hPre_finite_flashf : Cert.Pre_finite_flashf.Facts) (hPre_finite_mla : Cert.Pre_finite_mla.Facts) (hPre_finite_ffn : Cert.Pre_finite_ffn.Facts) (hPre_finite_ple : Cert.Pre_finite_ple.Facts) (hPre_finite_loss : Cert.Pre_finite_loss.Facts) (hPre_finite_in : Cert.Pre_finite_in.Facts),
    quiescent_Merge (hMerge := hMerge)
    ∧ quiescent_MergeIdeal (hMergeIdeal := hMergeIdeal)
    ∧ quiescent_MergeRefIdeal (hMergeRefIdeal := hMergeRefIdeal)
    ∧ quiescent_PoolA (hPoolA := hPoolA)
    ∧ quiescent_PoolAIdeal (hPoolAIdeal := hPoolAIdeal)
    ∧ quiescent_PoolARefIdeal (hPoolARefIdeal := hPoolARefIdeal)
    ∧ quiescent_PoolB (hPoolB := hPoolB)
    ∧ quiescent_PoolBIdeal (hPoolBIdeal := hPoolBIdeal)
    ∧ quiescent_PoolBIdeal_pre_finite_poolb (hPoolBIdeal := hPoolBIdeal) (hPre_finite_poolb := hPre_finite_poolb)
    ∧ quiescent_PoolBRefIdeal (hPoolBRefIdeal := hPoolBRefIdeal)
    ∧ quiescent_PoolBRefIdeal_pre_finite_poolb (hPoolBRefIdeal := hPoolBRefIdeal) (hPre_finite_poolb := hPre_finite_poolb)
    ∧ quiescent_Flash (hFlash := hFlash)
    ∧ quiescent_FlashIdeal (hFlashIdeal := hFlashIdeal)
    ∧ quiescent_FlashIdeal_pre_finite_flash (hFlashIdeal := hFlashIdeal) (hPre_finite_flash := hPre_finite_flash)
    ∧ quiescent_FlashRefIdeal (hFlashRefIdeal := hFlashRefIdeal)
    ∧ quiescent_FlashRefIdeal_pre_finite_flash (hFlashRefIdeal := hFlashRefIdeal) (hPre_finite_flash := hPre_finite_flash)
    ∧ quiescent_FlashF (hFlashF := hFlashF)
    ∧ quiescent_FlashFIdeal (hFlashFIdeal := hFlashFIdeal)
    ∧ quiescent_FlashFIdeal_pre_finite_flashf (hFlashFIdeal := hFlashFIdeal) (hPre_finite_flashf := hPre_finite_flashf)
    ∧ quiescent_FlashFRefIdeal (hFlashFRefIdeal := hFlashFRefIdeal)
    ∧ quiescent_FlashFRefIdeal_pre_finite_flashf (hFlashFRefIdeal := hFlashFRefIdeal) (hPre_finite_flashf := hPre_finite_flashf)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_InProjRefIdeal (hInProjRefIdeal := hInProjRefIdeal)
    ∧ quiescent_InProjRefIdeal_pre_finite_in (hInProjRefIdeal := hInProjRefIdeal) (hPre_finite_in := hPre_finite_in)
    ∧ preserves_Merge_MergeIdeal
    ∧ algebraic_MergeIdeal_MergeRefIdeal (hMergeIdeal := hMergeIdeal) (hMergeRefIdeal := hMergeRefIdeal)
    ∧ preserves_PoolA_PoolAIdeal
    ∧ algebraic_PoolAIdeal_PoolARefIdeal (hPoolAIdeal := hPoolAIdeal) (hPoolARefIdeal := hPoolARefIdeal)
    ∧ preserves_PoolB_PoolBIdeal
    ∧ algebraic_PoolBIdeal_PoolBRefIdeal_pre_finite_poolb (hPoolBIdeal := hPoolBIdeal) (hPoolBRefIdeal := hPoolBRefIdeal) (hPre_finite_poolb := hPre_finite_poolb)
    ∧ preserves_Flash_FlashIdeal
    ∧ algebraic_FlashIdeal_FlashRefIdeal_pre_finite_flash (hFlashIdeal := hFlashIdeal) (hFlashRefIdeal := hFlashRefIdeal) (hPre_finite_flash := hPre_finite_flash)
    ∧ preserves_FlashF_FlashFIdeal
    ∧ algebraic_FlashFIdeal_FlashFRefIdeal_pre_finite_flashf (hFlashFIdeal := hFlashFIdeal) (hFlashFRefIdeal := hFlashFRefIdeal) (hPre_finite_flashf := hPre_finite_flashf)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_InProj_InProjIdeal
    ∧ algebraic_InProjIdeal_InProjRefIdeal_pre_finite_in (hInProjIdeal := hInProjIdeal) (hInProjRefIdeal := hInProjRefIdeal) (hPre_finite_in := hPre_finite_in)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S2816x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S2816x1024 .f32 := broadcastInDim S2816x1024 ![] bcast_S_S2816x1024 main_cst_13
  let main_v35 : IVec S2816x1024 1 := cmpf .ogt main_arg5 main_v34
  let main_cst_14 : FVec F S_ .f32 := constant S_ .f32 0x7F800000#32
  let main_v36 : FVec F S2816x1024 .f32 := broadcastInDim S2816x1024 ![] bcast_S_S2816x1024 main_cst_14
  let main_v37 : IVec S2816x1024 1 := cmpf .olt main_arg5 main_v36
  let main_v38 : IVec S2816x1024 1 := andi main_v35 main_v37
  let main_c_15 : IVec S_ 1 := constantI S_ 1 1#1
  let main_v39 : IVec S_ 1 := (fun x v => Host.reduce IntOp.andi x v reducesTo_S2816x1024_S_d0_1 h_S_) main_v38 main_c_15
  let main_v40 : IVec S_ 1 := andi main_v33 main_v39
  main_v40

def fn_part1 {F : FTy → Type} [FloatOps F] (main_arg2 : FVec F S1024 .f32) (main_arg3 : FVec F S1024x2816 .f32) (main_arg4 : FVec F S1024x2816 .f32) (main_arg5 : FVec F S2816x1024 .f32) (main_v12 : IVec S_ 1) (main_v14 : IVec S1024 1) (main_v15 : FVec F S1024 .f32) : IVec S_ 1 :=
  let main_v16 : IVec S1024 1 := cmpf .olt main_arg2 main_v15
  let main_v17 : IVec S1024 1 := andi main_v14 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v12 main_v18
  let main_cst_7 : FVec F S_ .f32 := constant S_ .f32 0xFF800000#32
  let main_v20 : FVec F S1024x2816 .f32 := broadcastInDim S1024x2816 ![] bcast_S_S1024x2816 main_cst_7
  let main_v21 : IVec S1024x2816 1 := cmpf .ogt main_arg3 main_v20
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_arg3 main_v22
  let main_v24 : IVec S1024x2816 1 := andi main_v21 main_v23
  let main_c_9 : IVec S_ 1 := constantI S_ 1 1#1
  let main_v25 : IVec S_ 1 := (fun x v => Host.reduce IntOp.andi x v reducesTo_S1024x2816_S_d0_1 h_S_) main_v24 main_c_9
  let main_v26 : IVec S_ 1 := andi main_v19 main_v25
  let main_cst_10 : FVec F S_ .f32 := constant S_ .f32 0xFF800000#32
  let main_v27 : FVec F S1024x2816 .f32 := broadcastInDim S1024x2816 ![] bcast_S_S1024x2816 main_cst_10
  let main_v28 : IVec S1024x2816 1 := cmpf .ogt main_arg4 main_v27
  let main_cst_11 : FVec F S_ .f32 := constant S_ .f32 0x7F800000#32
  let main_v29 : FVec F S1024x2816 .f32 := broadcastInDim S1024x2816 ![] bcast_S_S1024x2816 main_cst_11
  let main_v30 : IVec S1024x2816 1 := cmpf .olt main_arg4 main_v29
  let main_v31 : IVec S1024x2816 1 := andi main_v28 main_v30
  let main_c_12 : IVec S_ 1 := constantI S_ 1 1#1
  let main_v32 : IVec S_ 1 := (fun x v => Host.reduce IntOp.andi x v reducesTo_S1024x2816_S_d0_1 h_S_) main_v31 main_c_12
  fn_part2 (F := F) main_arg5 main_v26 main_v32

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S1024 .f32 := broadcastInDim S1024 ![] bcast_S_S1024 main_cst_4
  let main_v14 : IVec S1024 1 := cmpf .ogt main_arg2 main_v13
  let main_cst_5 : FVec F S_ .f32 := constant S_ .f32 0x7F800000#32
  let main_v15 : FVec F S1024 .f32 := broadcastInDim S1024 ![] bcast_S_S1024 main_cst_5
  fn_part1 (F := F) main_arg2 main_arg3 main_arg4 main_arg5 main_v12 main_v14 main_v15
-- ==== Pre_finite_flash.lean ====
abbrev S8192x8x192 : Shape := ⟨3, ![8192, 8, 192]⟩
abbrev S8192x8x128 : Shape := ⟨3, ![8192, 8, 128]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg2 : FVec F S8192x8x128 .f32) (main_arg3 : FVec F S8192x1024 .f32) (main_v12 : IVec S_ 1) (main_v14 : IVec S8192x8x128 1) (main_v15 : FVec F S8192x8x128 .f32) : IVec S_ 1 :=
  let main_v16 : IVec S8192x8x128 1 := cmpf .olt main_arg2 main_v15
  let main_v17 : IVec S8192x8x128 1 := andi main_v14 main_v16
  let main_c_6 : IVec S_ 1 := constantI S_ 1 1#1
  let main_v18 : IVec S_ 1 := (fun x v => Host.reduce IntOp.andi x v reducesTo_S8192x8x128_S_d0_1_2 h_S_) main_v17 main_c_6
  let main_v19 : IVec S_ 1 := andi main_v12 main_v18
  let main_cst_7 : FVec F S_ .f32 := constant S_ .f32 0xFF800000#32
  let main_v20 : FVec F S8192x1024 .f32 := broadcastInDim S8192x1024 ![] bcast_S_S8192x1024 main_cst_7
  let main_v21 : IVec S8192x1024 1 := cmpf .ogt main_arg3 main_v20
  let main_cst_8 : FVec F S_ .f32 := constant S_ .f32 0x7F800000#32
  let main_v22 : FVec F S8192x1024 .f32 := broadcastInDim S8192x1024 ![] bcast_S_S8192x1024 main_cst_8
  let main_v23 : IVec S8192x1024 1 := cmpf .olt main_arg3 main_v22
  let main_v24 : IVec S8192x1024 1 := andi main_v21 main_v23
  let main_c_9 : IVec S_ 1 := constantI S_ 1 1#1
  let main_v25 : IVec S_ 1 := (fun x v => Host.reduce IntOp.andi x v reducesTo_S8192x1024_S_d0_1 h_S_) main_v24 main_c_9
  let main_v26 : IVec S_ 1 := andi main_v19 main_v25
  main_v26

def fn {F : FTy → Type} [FloatOps F] (main_arg0 : FVec F S8192x8x192 .f32) (main_arg1 : FVec F S8192x8x192 .f32) (main_arg2 : FVec F S8192x8x128 .f32) (main_arg3 : FVec F S8192x1024 .f32) : IVec S_ 1 :=
  let main_cst : FVec F S_ .f32 := constant S_ .f32 0xFF800000#32
  let main_v0 : FVec F S8192x8x192 .f32 := broadcastInDim S8192x8x192 ![] bcast_S_S8192x8x192 main_cst
  let main_v1 : IVec S8192x8x192 1 := cmpf .ogt main_arg0 main_v0
  let main_cst_0 : FVec F S_ .f32 := constant S_ .f32 0x7F800000#32
  let main_v2 : FVec F S8192x8x192 .f32 := broadcastInDim S8192x8x192 ![] bcast_S_S8192x8x192 main_cst_0
  let main_v3 : IVec S8192x8x192 1 := cmpf .olt main_arg0 main_v2
  let main_v4 : IVec S8192x8x192 1 := andi main_v1 main_v3
  let main_c : IVec S_ 1 := constantI S_ 1 1#1
  let main_v5 : IVec S_ 1 := (fun x v => Host.reduce IntOp.andi x v reducesTo_S8192x8x192_S_d0_1_2 h_S_) main_v4 main_c
  let main_cst_1 : FVec F S_ .f32 := constant S_ .f32 0xFF800000#32
  let main_v6 : FVec F S8192x8x192 .f32 := broadcastInDim S8192x8x192 ![] bcast_S_S8192x8x192 main_cst_1
  let main_v7 : IVec S8192x8x192 1 := cmpf .ogt main_arg1 main_v6
  let main_cst_2 : FVec F S_ .f32 := constant S_ .f32 0x7F800000#32
  let main_v8 : FVec F S8192x8x192 .f32 := broadcastInDim S8192x8x192 ![] bcast_S_S8192x8x192 main_cst_2
  let main_v9 : IVec S8192x8x192 1 := cmpf .olt main_arg1 main_v8
  let main_v10 : IVec S8192x8x192 1 := andi main_v7 main_v9
  let main_c_3 : IVec S_ 1 := constantI S_ 1 1#1
  let main_v11 : IVec S_ 1 := (fun x v => Host.reduce IntOp.andi x v reducesTo_S8192x8x192_S_d0_1_2 h_S_) main_v10 main_c_3
  let main_v12 : IVec S_ 1 := andi main_v5 main_v11
  let main_cst_4 : FVec F S_ .f32 := constant S_ .f32 0xFF800000#32
  let main_v13 : FVec F S8192x8x128 .f32 := broadcastInDim S8192x8x128 ![] bcast_S_S8192x8x128 main_cst_4
  let main_v14 : IVec S8192x8x128 1 := cmpf .ogt main_arg2 main_v13
  let main_cst_5 : FVec F S_ .f32 := constant S_ .f32 0x7F800000#32
  let main_v15 : FVec F S8192x8x128 .f32 := broadcastInDim S8192x8x128 ![] bcast_S_S8192x8x128 main_cst_5
  fn_part1 (F := F) main_arg2 main_arg3 main_v12 main_v14 main_v15
-- ==== Pre_finite_flashf.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  reducesTo_S8192x8x192_S_d0_1_2 : S8192x8x192.ReducesTo [0, 1, 2] S_
  h_S_ : 0 < S_.numel
  bcast_S_S8192x8x128 : S_.BroadcastsInDim S8192x8x128 (![] : Fin 0 → Fin S8192x8x128.rank)
  reducesTo_S8192x8x128_S_d0_1_2 : S8192x8x128.ReducesTo [0, 1, 2] S_

variable [Facts]

def fn_part1 {F : FTy → Type} [FloatOps F] (main_arg2 : FVec F S8192x8x128 .f32) (main_v12 : IVec S_ 1) (main_v14 : IVec S8192x8x128 1) (main_v15 : FVec F S8192x8x128 .f32) : IVec S_ 1 :=
  let main_v16 : IVec S8192x8x128 1 := cmpf .olt main_arg2 main_v15
  let main_v17 : IVec S8192x8x128 1 := andi main_v14 main_v16
  let main_c_6 : IVec S_ 1 := constantI S_ 1 1#1
  let main_v18 : IVec S_ 1 := (fun x v => Host.reduce IntOp.andi x v reducesTo_S8192x8x128_S_d0_1_2 h_S_) main_v17 main_c_6
  let main_v19 : IVec S_ 1 := andi main_v12 main_v18
  main_v19

def fn {F : FTy → Type} [FloatOps F] (main_arg0 : FVec F S8192x8x192 .f32) (main_arg1 : FVec F S8192x8x192 .f32) (main_arg2 : FVec F S8192x8x128 .f32) : IVec S_ 1 :=
  let main_cst : FVec F S_ .f32 := constant S_ .f32 0xFF800000#32
  let main_v0 : FVec F S8192x8x192 .f32 := broadcastInDim S8192x8x192 ![] bcast_S_S8192x8x192 main_cst
  let main_v1 : IVec S8192x8x192 1 := cmpf .ogt main_arg0 main_v0
  let main_cst_0 : FVec F S_ .f32 := constant S_ .f32 0x7F800000#32
  let main_v2 : FVec F S8192x8x192 .f32 := broadcastInDim S8192x8x192 ![] bcast_S_S8192x8x192 main_cst_0
  let main_v3 : IVec S8192x8x192 1 := cmpf .olt main_arg0 main_v2
  let main_v4 : IVec S8192x8x192 1 := andi main_v1 main_v3
  let main_c : IVec S_ 1 := constantI S_ 1 1#1
  let main_v5 : IVec S_ 1 := (fun x v => Host.reduce IntOp.andi x v reducesTo_S8192x8x192_S_d0_1_2 h_S_) main_v4 main_c
  let main_cst_1 : FVec F S_ .f32 := constant S_ .f32 0xFF800000#32
  let main_v6 : FVec F S8192x8x192 .f32 := broadcastInDim S8192x8x192 ![] bcast_S_S8192x8x192 main_cst_1
  let main_v7 : IVec S8192x8x192 1 := cmpf .ogt main_arg1 main_v6
  let main_cst_2 : FVec F S_ .f32 := constant S_ .f32 0x7F800000#32
  let main_v8 : FVec F S8192x8x192 .f32 := broadcastInDim S8192x8x192 ![] bcast_S_S8192x8x192 main_cst_2
  let main_v9 : IVec S8192x8x192 1 := cmpf .olt main_arg1 main_v8
  let main_v10 : IVec S8192x8x192 1 := andi main_v7 main_v9
  let main_c_3 : IVec S_ 1 := constantI S_ 1 1#1
  let main_v11 : IVec S_ 1 := (fun x v => Host.reduce IntOp.andi x v reducesTo_S8192x8x192_S_d0_1_2 h_S_) main_v10 main_c_3
  let main_v12 : IVec S_ 1 := andi main_v5 main_v11
  let main_cst_4 : FVec F S_ .f32 := constant S_ .f32 0xFF800000#32
  let main_v13 : FVec F S8192x8x128 .f32 := broadcastInDim S8192x8x128 ![] bcast_S_S8192x8x128 main_cst_4
  let main_v14 : IVec S8192x8x128 1 := cmpf .ogt main_arg2 main_v13
  let main_cst_5 : FVec F S_ .f32 := constant S_ .f32 0x7F800000#32
  let main_v15 : FVec F S8192x8x128 .f32 := broadcastInDim S8192x8x128 ![] bcast_S_S8192x8x128 main_cst_5
  fn_part1 (F := F) main_arg2 main_v12 main_v14 main_v15
-- ==== Pre_finite_in.lean ====
abbrev S8192x1024 : Shape := ⟨2, ![8192, 1024]⟩
abbrev S1024 : Shape := ⟨1, ![1024]⟩
abbrev S8192x3392 : Shape := ⟨2, ![8192, 3392]⟩
abbrev S1024x3392 : Shape := ⟨2, ![1024, 3392]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x3392 : S_.BroadcastsInDim S8192x3392 (![] : Fin 0 → Fin S8192x3392.rank)
  reducesTo_S8192x3392_S_d0_1 : S8192x3392.ReducesTo [0, 1] S_
  bcast_S_S1024x3392 : S_.BroadcastsInDim S1024x3392 (![] : Fin 0 → Fin S1024x3392.rank)
  reducesTo_S1024x3392_S_d0_1 : S1024x3392.ReducesTo [0, 1] S_

variable [Facts]

def fn_part1 {F : FTy → Type} [FloatOps F] (main_arg3 : FVec F S8192x3392 .f32) (main_arg4 : FVec F S1024x3392 .f32) (main_v12 : IVec S_ 1) (main_v14 : IVec S8192x3392 1) (main_v15 : FVec F S8192x3392 .f32) : IVec S_ 1 :=
  let main_v16 : IVec S8192x3392 1 := cmpf .olt main_arg3 main_v15
  let main_v17 : IVec S8192x3392 1 := andi main_v14 main_v16
  let main_c_6 : IVec S_ 1 := constantI S_ 1 1#1
  let main_v18 : IVec S_ 1 := (fun x v => Host.reduce IntOp.andi x v reducesTo_S8192x3392_S_d0_1 h_S_) main_v17 main_c_6
  let main_v19 : IVec S_ 1 := andi main_v12 main_v18
  let main_cst_7 : FVec F S_ .f32 := constant S_ .f32 0xFF800000#32
  let main_v20 : FVec F S1024x3392 .f32 := broadcastInDim S1024x3392 ![] bcast_S_S1024x3392 main_cst_7
  let main_v21 : IVec S1024x3392 1 := cmpf .ogt main_arg4 main_v20
  let main_cst_8 : FVec F S_ .f32 := constant S_ .f32 0x7F800000#32
  let main_v22 : FVec F S1024x3392 .f32 := broadcastInDim S1024x3392 ![] bcast_S_S1024x3392 main_cst_8
  let main_v23 : IVec S1024x3392 1 := cmpf .olt main_arg4 main_v22
  let main_v24 : IVec S1024x3392 1 := andi main_v21 main_v23
  let main_c_9 : IVec S_ 1 := constantI S_ 1 1#1
  let main_v25 : IVec S_ 1 := (fun x v => Host.reduce IntOp.andi x v reducesTo_S1024x3392_S_d0_1 h_S_) main_v24 main_c_9
  let main_v26 : IVec S_ 1 := andi main_v19 main_v25
  main_v26

def fn {F : FTy → Type} [FloatOps F] (main_arg0 : FVec F S8192x1024 .f32) (main_arg1 : FVec F S8192x1024 .f32) (main_arg2 : FVec F S1024 .f32) (main_arg3 : FVec F S8192x3392 .f32) (main_arg4 : FVec F S1024x3392 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg1 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg1 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg2 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg2 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S8192x3392 .f32 := broadcastInDim S8192x3392 ![] bcast_S_S8192x3392 main_cst_4
  let main_v14 : IVec S8192x3392 1 := cmpf .ogt main_arg3 main_v13
  let main_cst_5 : FVec F S_ .f32 := constant S_ .f32 0x7F800000#32
  let main_v15 : FVec F S8192x3392 .f32 := broadcastInDim S8192x3392 ![] bcast_S_S8192x3392 main_cst_5
  fn_part1 (F := F) main_arg3 main_arg4 main_v12 main_v14 main_v15
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S8192x1024 .f32) (main_v12 : IVec S_ 1) (main_v14 : IVec S8192x1024 1) (main_v15 : FVec F S8192x1024 .f32) : IVec S_ 1 :=
  let main_v16 : IVec S8192x1024 1 := cmpf .olt main_arg2 main_v15
  let main_v17 : IVec S8192x1024 1 := andi main_v14 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v12 main_v18
  main_v19

def fn {F : FTy → Type} [FloatOps F] (main_arg0 : FVec F S8192x1024 .f32) (main_arg1 : FVec F S1024 .f32) (main_arg2 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S8192x1024 .f32 := broadcastInDim S8192x1024 ![] bcast_S_S8192x1024 main_cst_4
  let main_v14 : IVec S8192x1024 1 := cmpf .ogt main_arg2 main_v13
  let main_cst_5 : FVec F S_ .f32 := constant S_ .f32 0x7F800000#32
  let main_v15 : FVec F S8192x1024 .f32 := broadcastInDim S8192x1024 ![] bcast_S_S8192x1024 main_cst_5
  fn_part1 (F := F) main_arg2 main_v12 main_v14 main_v15
-- ==== Pre_finite_mla.lean ====
abbrev S8x8192x192 : Shape := ⟨3, ![8, 8192, 192]⟩
abbrev S8x8192x128 : Shape := ⟨3, ![8, 8192, 128]⟩
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S512 : Shape := ⟨1, ![512]⟩
abbrev S256 : Shape := ⟨1, ![256]⟩
abbrev S512x8x192 : Shape := ⟨3, ![512, 8, 192]⟩
abbrev S256x8x256 : Shape := ⟨3, ![256, 8, 256]⟩
abbrev S_ : Shape := ⟨0, ![]⟩

class Facts : Prop where
  bcast_S_S8x8192x192 : S_.BroadcastsInDim S8x8192x192 (![] : Fin 0 → Fin S8x8192x192.rank)
  reducesTo_S8x8192x192_S_d0_1_2 : S8x8192x192.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S512x8x192 : S_.BroadcastsInDim S512x8x192 (![] : Fin 0 → Fin S512x8x192.rank)
  reducesTo_S512x8x192_S_d0_1_2 : S512x8x192.ReducesTo [0, 1, 2] S_
  bcast_S_S256x8x256 : S_.BroadcastsInDim S256x8x256 (![] : Fin 0 → Fin S256x8x256.rank)
  reducesTo_S256x8x256_S_d0_1_2 : S256x8x256.ReducesTo [0, 1, 2] S_

variable [Facts]

def fn_part3 {F : FTy → Type} [FloatOps F] (main_arg9 : FVec F S512x8x192 .f32) (main_arg10 : FVec F S256x8x256 .f32) (main_v47 : IVec S_ 1) (main_v49 : IVec S512x8x192 1) : IVec S_ 1 :=
  let main_cst_20 : FVec F S_ .f32 := constant S_ .f32 0x7F800000#32
  let main_v50 : FVec F S512x8x192 .f32 := broadcastInDim S512x8x192 ![] bcast_S_S512x8x192 main_cst_20
  let main_v51 : IVec S512x8x192 1 := cmpf .olt main_arg9 main_v50
  let main_v52 : IVec S512x8x192 1 := andi main_v49 main_v51
  let main_c_21 : IVec S_ 1 := constantI S_ 1 1#1
  let main_v53 : IVec S_ 1 := (fun x v => Host.reduce IntOp.andi x v reducesTo_S512x8x192_S_d0_1_2 h_S_) main_v52 main_c_21
  let main_v54 : IVec S_ 1 := andi main_v47 main_v53
  let main_cst_22 : FVec F S_ .f32 := constant S_ .f32 0xFF800000#32
  let main_v55 : FVec F S256x8x256 .f32 := broadcastInDim S256x8x256 ![] bcast_S_S256x8x256 main_cst_22
  let main_v56 : IVec S256x8x256 1 := cmpf .ogt main_arg10 main_v55
  let main_cst_23 : FVec F S_ .f32 := constant S_ .f32 0x7F800000#32
  let main_v57 : FVec F S256x8x256 .f32 := broadcastInDim S256x8x256 ![] bcast_S_S256x8x256 main_cst_23
  let main_v58 : IVec S256x8x256 1 := cmpf .olt main_arg10 main_v57
  let main_v59 : IVec S256x8x256 1 := andi main_v56 main_v58
  let main_c_24 : IVec S_ 1 := constantI S_ 1 1#1
  let main_v60 : IVec S_ 1 := (fun x v => Host.reduce IntOp.andi x v reducesTo_S256x8x256_S_d0_1_2 h_S_) main_v59 main_c_24
  let main_v61 : IVec S_ 1 := andi main_v54 main_v60
  main_v61

def fn_part2 {F : FTy → Type} [FloatOps F] (main_arg7 : FVec F S512 .f32) (main_arg8 : FVec F S256 .f32) (main_arg9 : FVec F S512x8x192 .f32) (main_arg10 : FVec F S256x8x256 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S512 .f32 := broadcastInDim S512 ![] bcast_S_S512 main_cst_13
  let main_v35 : IVec S512 1 := cmpf .ogt main_arg7 main_v34
  let main_cst_14 : FVec F S_ .f32 := constant S_ .f32 0x7F800000#32
  let main_v36 : FVec F S512 .f32 := broadcastInDim S512 ![] bcast_S_S512 main_cst_14
  let main_v37 : IVec S512 1 := cmpf .olt main_arg7 main_v36
  let main_v38 : IVec S512 1 := andi main_v35 main_v37
  let main_c_15 : IVec S_ 1 := constantI S_ 1 1#1
  let main_v39 : IVec S_ 1 := (fun x v => Host.reduce IntOp.andi x v reducesTo_S512_S_d0 h_S_) main_v38 main_c_15
  let main_v40 : IVec S_ 1 := andi main_v33 main_v39
  let main_cst_16 : FVec F S_ .f32 := constant S_ .f32 0xFF800000#32
  let main_v41 : FVec F S256 .f32 := broadcastInDim S256 ![] bcast_S_S256 main_cst_16
  let main_v42 : IVec S256 1 := cmpf .ogt main_arg8 main_v41
  let main_cst_17 : FVec F S_ .f32 := constant S_ .f32 0x7F800000#32
  let main_v43 : FVec F S256 .f32 := broadcastInDim S256 ![] bcast_S_S256 main_cst_17
  let main_v44 : IVec S256 1 := cmpf .olt main_arg8 main_v43
  let main_v45 : IVec S256 1 := andi main_v42 main_v44
  let main_c_18 : IVec S_ 1 := constantI S_ 1 1#1
  let main_v46 : IVec S_ 1 := (fun x v => Host.reduce IntOp.andi x v reducesTo_S256_S_d0 h_S_) main_v45 main_c_18
  let main_v47 : IVec S_ 1 := andi main_v40 main_v46
  let main_cst_19 : FVec F S_ .f32 := constant S_ .f32 0xFF800000#32
  let main_v48 : FVec F S512x8x192 .f32 := broadcastInDim S512x8x192 ![] bcast_S_S512x8x192 main_cst_19
  let main_v49 : IVec S512x8x192 1 := cmpf .ogt main_arg9 main_v48
  fn_part3 (F := F) main_arg9 main_arg10 main_v47 main_v49

def fn_part1 {F : FTy → Type} [FloatOps F] (main_arg2 : FVec F S8x8192x128 .f32) (main_arg3 : FVec F S8192x512 .f32) (main_arg4 : FVec F S8192x256 .f32) (main_arg7 : FVec F S512 .f32) (main_arg8 : FVec F S256 .f32) (main_arg9 : FVec F S512x8x192 .f32) (main_arg10 : FVec F S256x8x256 .f32) (main_v12 : IVec S_ 1) (main_v14 : IVec S8x8192x128 1) (main_v15 : FVec F S8x8192x128 .f32) : IVec S_ 1 :=
  let main_v16 : IVec S8x8192x128 1 := cmpf .olt main_arg2 main_v15
  let main_v17 : IVec S8x8192x128 1 := andi main_v14 main_v16
  let main_c_6 : IVec S_ 1 := constantI S_ 1 1#1
  let main_v18 : IVec S_ 1 := (fun x v => Host.reduce IntOp.andi x v reducesTo_S8x8192x128_S_d0_1_2 h_S_) main_v17 main_c_6
  let main_v19 : IVec S_ 1 := andi main_v12 main_v18
  let main_cst_7 : FVec F S_ .f32 := constant S_ .f32 0xFF800000#32
  let main_v20 : FVec F S8192x512 .f32 := broadcastInDim S8192x512 ![] bcast_S_S8192x512 main_cst_7
  let main_v21 : IVec S8192x512 1 := cmpf .ogt main_arg3 main_v20
  let main_cst_8 : FVec F S_ .f32 := constant S_ .f32 0x7F800000#32
  let main_v22 : FVec F S8192x512 .f32 := broadcastInDim S8192x512 ![] bcast_S_S8192x512 main_cst_8
  let main_v23 : IVec S8192x512 1 := cmpf .olt main_arg3 main_v22
  let main_v24 : IVec S8192x512 1 := andi main_v21 main_v23
  let main_c_9 : IVec S_ 1 := constantI S_ 1 1#1
  let main_v25 : IVec S_ 1 := (fun x v => Host.reduce IntOp.andi x v reducesTo_S8192x512_S_d0_1 h_S_) main_v24 main_c_9
  let main_v26 : IVec S_ 1 := andi main_v19 main_v25
  let main_cst_10 : FVec F S_ .f32 := constant S_ .f32 0xFF800000#32
  let main_v27 : FVec F S8192x256 .f32 := broadcastInDim S8192x256 ![] bcast_S_S8192x256 main_cst_10
  let main_v28 : IVec S8192x256 1 := cmpf .ogt main_arg4 main_v27
  let main_cst_11 : FVec F S_ .f32 := constant S_ .f32 0x7F800000#32
  let main_v29 : FVec F S8192x256 .f32 := broadcastInDim S8192x256 ![] bcast_S_S8192x256 main_cst_11
  let main_v30 : IVec S8192x256 1 := cmpf .olt main_arg4 main_v29
  let main_v31 : IVec S8192x256 1 := andi main_v28 main_v30
  let main_c_12 : IVec S_ 1 := constantI S_ 1 1#1
  let main_v32 : IVec S_ 1 := (fun x v => Host.reduce IntOp.andi x v reducesTo_S8192x256_S_d0_1 h_S_) main_v31 main_c_12
  fn_part2 (F := F) main_arg7 main_arg8 main_arg9 main_arg10 main_v26 main_v32

def fn {F : FTy → Type} [FloatOps F] (main_arg0 : FVec F S8x8192x192 .f32) (main_arg1 : FVec F S8x8192x192 .f32) (main_arg2 : FVec F S8x8192x128 .f32) (main_arg3 : FVec F S8192x512 .f32) (main_arg4 : FVec F S8192x256 .f32) (main_arg5 : FVec F S8192x64 .f32) (main_arg6 : IVec S8192 32) (main_arg7 : FVec F S512 .f32) (main_arg8 : FVec F S256 .f32) (main_arg9 : FVec F S512x8x192 .f32) (main_arg10 : FVec F S256x8x256 .f32) : IVec S_ 1 :=
  let main_cst : FVec F S_ .f32 := constant S_ .f32 0xFF800000#32
  let main_v0 : FVec F S8x8192x192 .f32 := broadcastInDim S8x8192x192 ![] bcast_S_S8x8192x192 main_cst
  let main_v1 : IVec S8x8192x192 1 := cmpf .ogt main_arg0 main_v0
  let main_cst_0 : FVec F S_ .f32 := constant S_ .f32 0x7F800000#32
  let main_v2 : FVec F S8x8192x192 .f32 := broadcastInDim S8x8192x192 ![] bcast_S_S8x8192x192 main_cst_0
  let main_v3 : IVec S8x8192x192 1 := cmpf .olt main_arg0 main_v2
  let main_v4 : IVec S8x8192x192 1 := andi main_v1 main_v3
  let main_c : IVec S_ 1 := constantI S_ 1 1#1
  let main_v5 : IVec S_ 1 := (fun x v => Host.reduce IntOp.andi x v reducesTo_S8x8192x192_S_d0_1_2 h_S_) main_v4 main_c
  let main_cst_1 : FVec F S_ .f32 := constant S_ .f32 0xFF800000#32
  let main_v6 : FVec F S8x8192x192 .f32 := broadcastInDim S8x8192x192 ![] bcast_S_S8x8192x192 main_cst_1
  let main_v7 : IVec S8x8192x192 1 := cmpf .ogt main_arg1 main_v6
  let main_cst_2 : FVec F S_ .f32 := constant S_ .f32 0x7F800000#32
  let main_v8 : FVec F S8x8192x192 .f32 := broadcastInDim S8x8192x192 ![] bcast_S_S8x8192x192 main_cst_2
  let main_v9 : IVec S8x8192x192 1 := cmpf .olt main_arg1 main_v8
  let main_v10 : IVec S8x8192x192 1 := andi main_v7 main_v9
  let main_c_3 : IVec S_ 1 := constantI S_ 1 1#1
  let main_v11 : IVec S_ 1 := (fun x v => Host.reduce IntOp.andi x v reducesTo_S8x8192x192_S_d0_1_2 h_S_) main_v10 main_c_3
  let main_v12 : IVec S_ 1 := andi main_v5 main_v11
  let main_cst_4 : FVec F S_ .f32 := constant S_ .f32 0xFF800000#32
  let main_v13 : FVec F S8x8192x128 .f32 := broadcastInDim S8x8192x128 ![] bcast_S_S8x8192x128 main_cst_4
  let main_v14 : IVec S8x8192x128 1 := cmpf .ogt main_arg2 main_v13
  let main_cst_5 : FVec F S_ .f32 := constant S_ .f32 0x7F800000#32
  let main_v15 : FVec F S8x8192x128 .f32 := broadcastInDim S8x8192x128 ![] bcast_S_S8x8192x128 main_cst_5
  fn_part1 (F := F) main_arg2 main_arg3 main_arg4 main_arg7 main_arg8 main_arg9 main_arg10 main_v12 main_v14 main_v15
-- ==== Pre_finite_ple.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg5 : FVec F S256x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S256x1024 .f32 := broadcastInDim S256x1024 ![] bcast_S_S256x1024 main_cst_13
  let main_v35 : IVec S256x1024 1 := cmpf .ogt main_arg5 main_v34
  let main_cst_14 : FVec F S_ .f32 := constant S_ .f32 0x7F800000#32
  let main_v36 : FVec F S256x1024 .f32 := broadcastInDim S256x1024 ![] bcast_S_S256x1024 main_cst_14
  let main_v37 : IVec S256x1024 1 := cmpf .olt main_arg5 main_v36
  let main_v38 : IVec S256x1024 1 := andi main_v35 main_v37
  let main_c_15 : IVec S_ 1 := constantI S_ 1 1#1
  let main_v39 : IVec S_ 1 := (fun x v => Host.reduce IntOp.andi x v reducesTo_S256x1024_S_d0_1 h_S_) main_v38 main_c_15
  let main_v40 : IVec S_ 1 := andi main_v33 main_v39
  main_v40

def fn_part1 {F : FTy → Type} [FloatOps F] (main_arg2 : FVec F S8192x256 .f32) (main_arg3 : FVec F S1024 .f32) (main_arg4 : FVec F S1024x1024 .f32) (main_arg5 : FVec F S256x1024 .f32) (main_v12 : IVec S_ 1) (main_v14 : IVec S8192x256 1) (main_v15 : FVec F S8192x256 .f32) : IVec S_ 1 :=
  let main_v16 : IVec S8192x256 1 := cmpf .olt main_arg2 main_v15
  let main_v17 : IVec S8192x256 1 := andi main_v14 main_v16
  let main_c_6 : IVec S_ 1 := constantI S_ 1 1#1
  let main_v18 : IVec S_ 1 := (fun x v => Host.reduce IntOp.andi x v reducesTo_S8192x256_S_d0_1 h_S_) main_v17 main_c_6
  let main_v19 : IVec S_ 1 := andi main_v12 main_v18
  let main_cst_7 : FVec F S_ .f32 := constant S_ .f32 0xFF800000#32
  let main_v20 : FVec F S1024 .f32 := broadcastInDim S1024 ![] bcast_S_S1024 main_cst_7
  let main_v21 : IVec S1024 1 := cmpf .ogt main_arg3 main_v20
  let main_cst_8 : FVec F S_ .f32 := constant S_ .f32 0x7F800000#32
  let main_v22 : FVec F S1024 .f32 := broadcastInDim S1024 ![] bcast_S_S1024 main_cst_8
  let main_v23 : IVec S1024 1 := cmpf .olt main_arg3 main_v22
  let main_v24 : IVec S1024 1 := andi main_v21 main_v23
  let main_c_9 : IVec S_ 1 := constantI S_ 1 1#1
  let main_v25 : IVec S_ 1 := (fun x v => Host.reduce IntOp.andi x v reducesTo_S1024_S_d0 h_S_) main_v24 main_c_9
  let main_v26 : IVec S_ 1 := andi main_v19 main_v25
  let main_cst_10 : FVec F S_ .f32 := constant S_ .f32 0xFF800000#32
  let main_v27 : FVec F S1024x1024 .f32 := broadcastInDim S1024x1024 ![] bcast_S_S1024x1024 main_cst_10
  let main_v28 : IVec S1024x1024 1 := cmpf .ogt main_arg4 main_v27
  let main_cst_11 : FVec F S_ .f32 := constant S_ .f32 0x7F800000#32
  let main_v29 : FVec F S1024x1024 .f32 := broadcastInDim S1024x1024 ![] bcast_S_S1024x1024 main_cst_11
  let main_v30 : IVec S1024x1024 1 := cmpf .olt main_arg4 main_v29
  let main_v31 : IVec S1024x1024 1 := andi main_v28 main_v30
  let main_c_12 : IVec S_ 1 := constantI S_ 1 1#1
  let main_v32 : IVec S_ 1 := (fun x v => Host.reduce IntOp.andi x v reducesTo_S1024x1024_S_d0_1 h_S_) main_v31 main_c_12
  fn_part2 (F := F) main_arg5 main_v26 main_v32

def fn {F : FTy → Type} [FloatOps F] (main_arg0 : FVec F S8192x1024 .f32) (main_arg1 : FVec F S8192x1024 .f32) (main_arg2 : FVec F S8192x256 .f32) (main_arg3 : FVec F S1024 .f32) (main_arg4 : FVec F S1024x1024 .f32) (main_arg5 : FVec F S256x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S8192x256 .f32 := broadcastInDim S8192x256 ![] bcast_S_S8192x256 main_cst_4
  let main_v14 : IVec S8192x256 1 := cmpf .ogt main_arg2 main_v13
  let main_cst_5 : FVec F S_ .f32 := constant S_ .f32 0x7F800000#32
  let main_v15 : FVec F S8192x256 .f32 := broadcastInDim S8192x256 ![] bcast_S_S8192x256 main_cst_5
  fn_part1 (F := F) main_arg2 main_arg3 main_arg4 main_arg5 main_v12 main_v14 main_v15
-- ==== Pre_finite_poolb.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_cst : FVec F S_ .f32 := constant S_ .f32 0xFF800000#32
  let main_v0 : FVec F S8192x512 .f32 := broadcastInDim S8192x512 ![] bcast_S_S8192x512 main_cst
  let main_v1 : IVec S8192x512 1 := cmpf .ogt main_arg0 main_v0
  let main_cst_0 : FVec F S_ .f32 := constant S_ .f32 0x7F800000#32
  let main_v2 : FVec F S8192x512 .f32 := broadcastInDim S8192x512 ![] bcast_S_S8192x512 main_cst_0
  let main_v3 : IVec S8192x512 1 := cmpf .olt main_arg0 main_v2
  let main_v4 : IVec S8192x512 1 := andi main_v1 main_v3
  let main_c : IVec S_ 1 := constantI S_ 1 1#1
  let main_v5 : IVec S_ 1 := (fun x v => Host.reduce IntOp.andi x v reducesTo_S8192x512_S_d0_1 h_S_) main_v4 main_c
  main_v5
-- ==== Merge.lean ====
abbrev S8192x1024 : Shape := ⟨2, ![8192, 1024]⟩
abbrev S1024x1024 : Shape := ⟨2, ![1024, 1024]⟩
abbrev S8192x2048 : Shape := ⟨2, ![8192, 2048]⟩
abbrev S_ : Shape := ⟨0, ![]⟩
abbrev S8x128 : Shape := ⟨2, ![8, 128]⟩
abbrev S512x1024 : Shape := ⟨2, ![512, 1024]⟩

abbrev nBuf : Space → Nat
  | .hbm => 19
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S8192x2048, .f32⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .f32⟩
  | .hbm, ⟨12, _⟩ => ⟨S_, .f32⟩
  | .hbm, ⟨13, _⟩ => ⟨S8x128, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== PoolA.lean ====
abbrev S8192x1024 : Shape := ⟨2, ![8192, 1024]⟩
abbrev S8192x512 : Shape := ⟨2, ![8192, 512]⟩
abbrev S4x128x128 : Shape := ⟨3, ![4, 128, 128]⟩
abbrev S512 : Shape := ⟨1, ![512]⟩
abbrev S512x1024 : Shape := ⟨2, ![512, 1024]⟩
abbrev S8192x4x128 : Shape := ⟨3, ![8192, 4, 128]⟩
abbrev S_ : Shape := ⟨0, ![]⟩
abbrev S1x4x128 : Shape := ⟨3, ![1, 4, 128]⟩
abbrev S8193x4x128 : Shape := ⟨3, ![8193, 4, 128]⟩
abbrev S8192 : Shape := ⟨1, ![8192]⟩
abbrev S8192x1x128 : Shape := ⟨3, ![8192, 1, 128]⟩
abbrev S8192x128 : Shape := ⟨2, ![8192, 128]⟩
abbrev S1x128 : Shape := ⟨2, ![1, 128]⟩
abbrev S8191x1x128 : Shape := ⟨3, ![8191, 1, 128]⟩
abbrev S8191x128 : Shape := ⟨2, ![8191, 128]⟩
abbrev S8192x1 : Shape := ⟨2, ![8192, 1]⟩
abbrev S3x128 : Shape := ⟨2, ![3, 128]⟩
abbrev S8189x1x128 : Shape := ⟨3, ![8189, 1, 128]⟩
abbrev S8189x128 : Shape := ⟨2, ![8189, 128]⟩
abbrev S7x128 : Shape := ⟨2, ![7, 128]⟩
abbrev S8185x1x128 : Shape := ⟨3, ![8185, 1, 128]⟩
abbrev S8185x128 : Shape := ⟨2, ![8185, 128]⟩
abbrev S15x128 : Shape := ⟨2, ![15, 128]⟩
abbrev S8177x1x128 : Shape := ⟨3, ![8177, 1, 128]⟩
abbrev S8177x128 : Shape := ⟨2, ![8177, 128]⟩
abbrev S1x512 : Shape := ⟨2, ![1, 512]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 110
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S4x128x128, .f32⟩
  | .hbm, ⟨3, _⟩ => ⟨S512, .f32⟩
  | .hbm, ⟨4, _⟩ => ⟨S512x1024, .f32⟩
  | .hbm, ⟨5, _⟩ => ⟨S8192x4x128, .f32⟩
  | .hbm, ⟨6, _⟩ => ⟨S_, .f32⟩
  | .hbm, ⟨7, _⟩ => ⟨S1x4x128, .f32⟩
  | .hbm, ⟨8, _⟩ => ⟨S_, .f32⟩
  | .hbm, ⟨9, _⟩ => ⟨S_, .f32⟩
  | .hbm, ⟨10, _⟩ => ⟨S8192x4x128, .f32⟩
  | .hbm, ⟨11, _⟩ => ⟨S8193x4x128, .f32⟩
  | .hbm, ⟨12, _⟩ => ⟨S8192, .i32⟩
  | .hbm, ⟨13, _⟩ => ⟨S8192x1x128, .f32⟩
  | .hbm, ⟨14, _⟩ => ⟨S8192x128, .f32⟩
  | .hbm, ⟨15, _⟩ => ⟨S_, .f32⟩
  | .hbm, ⟨16, _⟩ => ⟨S1x128, .f32⟩
  | .hbm, ⟨17, _⟩ => ⟨S8191x1x128, .f32⟩
  | .hbm, ⟨18, _⟩ => ⟨S8191x128, .f32⟩
  | .hbm, ⟨19, _⟩ => ⟨S8192x128, .f32⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .f32⟩
  | .hbm, ⟨27, _⟩ => ⟨S8192x1, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x1x128, .f32⟩
  | .hbm, ⟨32, _⟩ => ⟨S8192x128, .f32⟩
  | .hbm, ⟨33, _⟩ => ⟨S8192x128, .f32⟩
  | .hbm, ⟨34, _⟩ => ⟨S8192x1x128, .f32⟩
  | .hbm, ⟨35, _⟩ => ⟨S8192x128, .f32⟩
  | .hbm, ⟨36, _⟩ => ⟨S_, .f32⟩
  | .hbm, ⟨37, _⟩ => ⟨S3x128, .f32⟩
  | .hbm, ⟨38, _⟩ => ⟨S8189x1x128, .f32⟩
  | .hbm, ⟨39, _⟩ => ⟨S8189x128, .f32⟩
  | .hbm, ⟨40, _⟩ => ⟨S8192x128, .f32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .f32⟩
  | .hbm, ⟨48, _⟩ => ⟨S8192x1, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S8192x1x128, .f32⟩
  | .hbm, ⟨53, _⟩ => ⟨S8192x128, .f32⟩
  | .hbm, ⟨54, _⟩ => ⟨S8192x128, .f32⟩
  | .hbm, ⟨55, _⟩ => ⟨S8192x1x128, .f32⟩
  | .hbm, ⟨56, _⟩ => ⟨S8192x128, .f32⟩
  | .hbm, ⟨57, _⟩ => ⟨S_, .f32⟩
  | .hbm, ⟨58, _⟩ => ⟨S7x128, .f32⟩
  | .hbm, ⟨59, _⟩ => ⟨S8185x1x128, .f32⟩
  | .hbm, ⟨60, _⟩ => ⟨S8185x128, .f32⟩
  | .hbm, ⟨61, _⟩ => ⟨S8192x128, .f32⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .f32⟩
  | .hbm, ⟨69, _⟩ => ⟨S8192x1, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x1x128, .f32⟩
  | .hbm, ⟨74, _⟩ => ⟨S8192x128, .f32⟩
  | .hbm, ⟨75, _⟩ => ⟨S8192x128, .f32⟩
  | .hbm, ⟨76, _⟩ => ⟨S8192x1x128, .f32⟩
  | .hbm, ⟨77, _⟩ => ⟨S8192x128, .f32⟩
  | .hbm, ⟨78, _⟩ => ⟨S_, .f32⟩
  | .hbm, ⟨79, _⟩ => ⟨S15x128, .f32⟩
  | .hbm, ⟨80, _⟩ => ⟨S8177x1x128, .f32⟩
  | .hbm, ⟨81, _⟩ => ⟨S8177x128, .f32⟩
  | .hbm, ⟨82, _⟩ => ⟨S8192x128, .f32⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S8192, .f32⟩
  | .hbm, ⟨90, _⟩ => ⟨S8192x1, .f32⟩
  | .hbm, ⟨91, _⟩ => ⟨S8192x128, .f32⟩
  | .hbm, ⟨92, _⟩ => ⟨S8192x128, .f32⟩
  | .hbm, ⟨93, _⟩ => ⟨S8192x128, .f32⟩
  | .hbm, ⟨94, _⟩ => ⟨S8192x1x128, .f32⟩
  | .hbm, ⟨95, _⟩ => ⟨S8192x128, .f32⟩
  | .hbm, ⟨96, _⟩ => ⟨S8192x128, .f32⟩
  | .hbm, ⟨97, _⟩ => ⟨S8192x1x128, .f32⟩
  | .hbm, ⟨98, _⟩ => ⟨S8192x1x128, .f32⟩
  | .hbm, ⟨99, _⟩ => ⟨S8192x1x128, .f32⟩
  | .hbm, ⟨100, _⟩ => ⟨S8192x1x128, .f32⟩
  | .hbm, ⟨101, _⟩ => ⟨S8192x4x128, .f32⟩
  | .hbm, ⟨102, _⟩ => ⟨S8192x512, .f32⟩
  | .hbm, ⟨103, _⟩ => ⟨S8192x512, .bf16⟩
  | .hbm, ⟨104, _⟩ => ⟨S512x1024, .bf16⟩
  | .hbm, ⟨105, _⟩ => ⟨S4x128x128, .bf16⟩
  | .hbm, ⟨106, _⟩ => ⟨S1x512, .f32⟩
  | .hbm, ⟨107, _⟩ => ⟨S8192x512, .f32⟩
  | .hbm, ⟨108, _⟩ => ⟨S1x512, .f32⟩
  | .hbm, ⟨109, _⟩ => ⟨S4x128x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S4x128x128, .bf16⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S4x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_9 : Ref sig .tc := ⟨.hbm, 83, rfl⟩
abbrev main_v65 : Ref sig .tc := ⟨.hbm, 84, rfl⟩
abbrev main_v66 : Ref sig .tc := ⟨.hbm, 85, rfl⟩
abbrev main_c_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87_0 : Ref sig .tc := ⟨.hbm, 107, rfl⟩
abbrev main_v87_1 : Ref sig .tc := ⟨.hbm, 108, rfl⟩
abbrev main_v87_2 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolARefIdeal.lean ====
abbrev S8192x1024 : Shape := ⟨2, ![8192, 1024]⟩
abbrev S8192x512 : Shape := ⟨2, ![8192, 512]⟩
abbrev S4x128x128 : Shape := ⟨3, ![4, 128, 128]⟩
abbrev S512 : Shape := ⟨1, ![512]⟩
abbrev S512x1024 : Shape := ⟨2, ![512, 1024]⟩
abbrev S_ : Shape := ⟨0, ![]⟩
abbrev S8192x4x128 : Shape := ⟨3, ![8192, 4, 128]⟩
abbrev S1x4x128 : Shape := ⟨3, ![1, 4, 128]⟩
abbrev S8193x4x128 : Shape := ⟨3, ![8193, 4, 128]⟩
abbrev S8192 : Shape := ⟨1, ![8192]⟩
abbrev S8192x1x128 : Shape := ⟨3, ![8192, 1, 128]⟩
abbrev S8192x128 : Shape := ⟨2, ![8192, 128]⟩
abbrev S1x128 : Shape := ⟨2, ![1, 128]⟩
abbrev S8191x1x128 : Shape := ⟨3, ![8191, 1, 128]⟩
abbrev S8191x128 : Shape := ⟨2, ![8191, 128]⟩
abbrev S8192x1 : Shape := ⟨2, ![8192, 1]⟩
abbrev S3x128 : Shape := ⟨2, ![3, 128]⟩
abbrev S8189x1x128 : Shape := ⟨3, ![8189, 1, 128]⟩
abbrev S8189x128 : Shape := ⟨2, ![8189, 128]⟩
abbrev S7x128 : Shape := ⟨2, ![7, 128]⟩
abbrev S8185x1x128 : Shape := ⟨3, ![8185, 1, 128]⟩
abbrev S8185x128 : Shape := ⟨2, ![8185, 128]⟩
abbrev S15x128 : Shape := ⟨2, ![15, 128]⟩
abbrev S8177x1x128 : Shape := ⟨3, ![8177, 1, 128]⟩
abbrev S8177x128 : Shape := ⟨2, ![8177, 128]⟩
abbrev S4x128x8192 : Shape := ⟨3, ![4, 128, 8192]⟩
abbrev S1x512 : Shape := ⟨2, ![1, 512]⟩
abbrev S4x8192x128 : Shape := ⟨3, ![4, 8192, 128]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S8192x512, .f32⟩
  | 2 => ⟨S4x128x128, .f32⟩
  | 3 => ⟨S512, .f32⟩
  | 4 => ⟨S512x1024, .f32⟩
  | 5 => ⟨S_, .f32⟩
  | 6 => ⟨S8192x512, .f32⟩
  | 7 => ⟨S8192x4x128, .f32⟩
  | 8 => ⟨S_, .f32⟩
  | 9 => ⟨S1x4x128, .f32⟩
  | 10 => ⟨S_, .f32⟩
  | 11 => ⟨S_, .f32⟩
  | 12 => ⟨S8192x4x128, .f32⟩
  | 13 => ⟨S8193x4x128, .f32⟩
  | 14 => ⟨S8192, .i32⟩
  | 15 => ⟨S8192x1x128, .f32⟩
  | 16 => ⟨S8192x128, .f32⟩
  | 17 => ⟨S_, .f32⟩
  | 18 => ⟨S1x128, .f32⟩
  | 19 => ⟨S8191x1x128, .f32⟩
  | 20 => ⟨S8191x128, .f32⟩
  | 21 => ⟨S8192x128, .f32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S8192, .f32⟩
  | 29 => ⟨S8192x1, .f32⟩
  | 30 => ⟨S8192x128, .f32⟩
  | 31 => ⟨S8192x128, .f32⟩
  | 32 => ⟨S8192x128, .f32⟩
  | 33 => ⟨S8192x128, .f32⟩
  | 34 => ⟨S8192x128, .f32⟩
  | 35 => ⟨S8192x1x128, .f32⟩
  | 36 => ⟨S8192x128, .f32⟩
  | 37 => ⟨S8192x128, .f32⟩
  | 38 => ⟨S8192x1x128, .f32⟩
  | 39 => ⟨S8192x128, .f32⟩
  | 40 => ⟨S_, .f32⟩
  | 41 => ⟨S3x128, .f32⟩
  | 42 => ⟨S8189x1x128, .f32⟩
  | 43 => ⟨S8189x128, .f32⟩
  | 44 => ⟨S8192x128, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192, .f32⟩
  | 52 => ⟨S8192x1, .f32⟩
  | 53 => ⟨S8192x128, .f32⟩
  | 54 => ⟨S8192x128, .f32⟩
  | 55 => ⟨S8192x128, .f32⟩
  | 56 => ⟨S8192x128, .f32⟩
  | 57 => ⟨S8192x128, .f32⟩
  | 58 => ⟨S8192x1x128, .f32⟩
  | 59 => ⟨S8192x128, .f32⟩
  | 60 => ⟨S8192x128, .f32⟩
  | 61 => ⟨S8192x1x128, .f32⟩
  | 62 => ⟨S8192x128, .f32⟩
  | 63 => ⟨S_, .f32⟩
  | 64 => ⟨S7x128, .f32⟩
  | 65 => ⟨S8185x1x128, .f32⟩
  | 66 => ⟨S8185x128, .f32⟩
  | 67 => ⟨S8192x128, .f32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .f32⟩
  | 75 => ⟨S8192x1, .f32⟩
  | 76 => ⟨S8192x128, .f32⟩
  | 77 => ⟨S8192x128, .f32⟩
  | 78 => ⟨S8192x128, .f32⟩
  | 79 => ⟨S8192x128, .f32⟩
  | 80 => ⟨S8192x128, .f32⟩
  | 81 => ⟨S8192x1x128, .f32⟩
  | 82 => ⟨S8192x128, .f32⟩
  | 83 => ⟨S8192x128, .f32⟩
  | 84 => ⟨S8192x1x128, .f32⟩
  | 85 => ⟨S8192x128, .f32⟩
  | 86 => ⟨S_, .f32⟩
  | 87 => ⟨S15x128, .f32⟩
  | 88 => ⟨S8177x1x128, .f32⟩
  | 89 => ⟨S8177x128, .f32⟩
  | 90 => ⟨S8192x128, .f32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .f32⟩
  | 98 => ⟨S8192x1, .f32⟩
  | 99 => ⟨S8192x128, .f32⟩
  | 100 => ⟨S8192x128, .f32⟩
  | 101 => ⟨S8192x128, .f32⟩
  | 102 => ⟨S8192x128, .f32⟩
  | 103 => ⟨S8192x128, .f32⟩
  | 104 => ⟨S8192x1x128, .f32⟩
  | 105 => ⟨S8192x128, .f32⟩
  | 106 => ⟨S8192x128, .f32⟩
  | 107 => ⟨S8192x1x128, .f32⟩
  | 108 => ⟨S8192x1x128, .f32⟩
  | 109 => ⟨S8192x1x128, .f32⟩
  | 110 => ⟨S8192x1x128, .f32⟩
  | 111 => ⟨S8192x4x128, .f32⟩
  | 112 => ⟨S8192x512, .f32⟩
  | 113 => ⟨S8192x4x128, .f32⟩
  | 114 => ⟨S4x128x8192, .f32⟩
  | 115 => ⟨S8192x4x128, .f32⟩
  | 116 => ⟨S8192x512, .f32⟩
  | 117 => ⟨S1x512, .f32⟩
  | 118 => ⟨S8192x512, .f32⟩
  | 119 => ⟨S8192x512, .f32⟩
  | 120 => ⟨S8192x1024, .f32⟩
  | 121 => ⟨S8192x512, .f32⟩
  | 122 => ⟨S8192x512, .f32⟩
  | 123 => ⟨S_, .f32⟩
  | 124 => ⟨S512, .f32⟩
  | 125 => ⟨S1x512, .f32⟩
  | 126 => ⟨S8192x512, .f32⟩
  | 127 => ⟨S8192x512, .f32⟩
  | _ => ⟨S8192x1024, .f32⟩

abbrev hbmTy0_1 (i : Nat) : BufTy := match i % 128 with
  | 0 => ⟨S_, .f32⟩
  | 1 => ⟨S512, .f32⟩
  | 2 => ⟨S8192x4x128, .f32⟩
  | 3 => ⟨S4x128x8192, .f32⟩
  | 4 => ⟨S4x8192x128, .f32⟩
  | 5 => ⟨S8192x4x128, .f32⟩
  | 6 => ⟨S4x128x128, .f32⟩
  | 7 => ⟨S4x128x128, .f32⟩
  | 8 => ⟨S8192x512, .f32⟩
  | 9 => ⟨S8192x4x128, .f32⟩
  | 10 => ⟨S8192x1x128, .f32⟩
  | 11 => ⟨S8192x128, .f32⟩
  | 12 => ⟨S8192x1x128, .f32⟩
  | 13 => ⟨S8192x128, .f32⟩
  | 14 => ⟨S8192x1x128, .f32⟩
  | 15 => ⟨S8192x128, .f32⟩
  | 16 => ⟨S8192x1x128, .f32⟩
  | 17 => ⟨S8192x128, .f32⟩
  | 18 => ⟨S8192x128, .f32⟩
  | 19 => ⟨S8192x128, .f32⟩
  | 20 => ⟨S_, .f32⟩
  | 21 => ⟨S8192x512, .f32⟩
  | 22 => ⟨S8192x128, .f32⟩
  | 23 => ⟨S8192x128, .f32⟩
  | 24 => ⟨S_, .f32⟩
  | 25 => ⟨S8192x512, .f32⟩
  | 26 => ⟨S8192x512, .f32⟩
  | 27 => ⟨S8192x128, .f32⟩
  | 28 => ⟨S8192x128, .f32⟩
  | 29 => ⟨S_, .f32⟩
  | 30 => ⟨S8192x512, .f32⟩
  | 31 => ⟨S8192x512, .f32⟩
  | 32 => ⟨S8192x128, .f32⟩
  | 33 => ⟨S8192x128, .f32⟩
  | 34 => ⟨S_, .f32⟩
  | 35 => ⟨S8192x512, .f32⟩
  | 36 => ⟨S8192x512, .f32⟩
  | 37 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_7 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_10 : Ref sig .tc := ⟨.hbm, 91, rfl⟩
abbrev main_v72 : Ref sig .tc := ⟨.hbm, 92, rfl⟩
abbrev main_v73 : Ref sig .tc := ⟨.hbm, 93, rfl⟩
abbrev main_c_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_12 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_13 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_14 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_16 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_17 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩

abbrev nD : Nat := 1
abbrev τ : Topo := Topo.v7x

variable {F : FTy → Type} [FloatOps F]
-- ==== PoolB.lean ====
abbrev S8192x512 : Shape := ⟨2, ![8192, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S4x128x128 : Shape := ⟨3, ![4, 128, 128]⟩
abbrev S8192 : Shape := ⟨1, ![8192]⟩
abbrev S8192x1 : Shape := ⟨2, ![8192, 1]⟩
abbrev S8192x128 : Shape := ⟨2, ![8192, 128]⟩
abbrev S512x512 : Shape := ⟨2, ![512, 512]⟩
abbrev S128x512 : Shape := ⟨2, ![128, 512]⟩

abbrev nBuf : Space → Nat
  | .hbm => 153
  | .vmem => 8
  | .smem => 0
  | _ => 0

abbrev hbmTy0_0 (i : Nat) : BufTy := match i % 128 with
  | 0 => ⟨S8192x512, .f32⟩
  | 1 => ⟨S128, .i32⟩
  | 2 => ⟨S128x1, .i32⟩
  | 3 => ⟨S128, .i32⟩
  | 4 => ⟨S1x128, .i32⟩
  | 5 => ⟨S128x128, .i32⟩
  | 6 => ⟨S128x128, .i32⟩
  | 7 => ⟨S128x128, .i32⟩
  | 8 => ⟨S_, .i32⟩
  | 9 => ⟨S128x128, .i32⟩
  | 10 => ⟨S128x128, .i1⟩
  | 11 => ⟨S128x128, .i32⟩
  | 12 => ⟨S128x128, .i32⟩
  | 13 => ⟨S128x128, .i32⟩
  | 14 => ⟨S_, .i32⟩
  | 15 => ⟨S128x128, .i32⟩
  | 16 => ⟨S128x128, .i1⟩
  | 17 => ⟨S128x128, .i1⟩
  | 18 => ⟨S128x128, .i32⟩
  | 19 => ⟨S128x128, .i32⟩
  | 20 => ⟨S128x128, .i32⟩
  | 21 => ⟨S_, .i32⟩
  | 22 => ⟨S128x128, .i32⟩
  | 23 => ⟨S128x128, .i1⟩
  | 24 => ⟨S128x128, .i32⟩
  | 25 => ⟨S128x128, .i32⟩
  | 26 => ⟨S128x128, .i32⟩
  | 27 => ⟨S_, .i32⟩
  | 28 => ⟨S128x128, .i32⟩
  | 29 => ⟨S128x128, .i1⟩
  | 30 => ⟨S128x128, .i1⟩
  | 31 => ⟨S128x128, .i32⟩
  | 32 => ⟨S128x128, .i32⟩
  | 33 => ⟨S128x128, .i32⟩
  | 34 => ⟨S_, .i32⟩
  | 35 => ⟨S128x128, .i32⟩
  | 36 => ⟨S128x128, .i1⟩
  | 37 => ⟨S128x128, .i32⟩
  | 38 => ⟨S128x128, .i32⟩
  | 39 => ⟨S128x128, .i32⟩
  | 40 => ⟨S_, .i32⟩
  | 41 => ⟨S128x128, .i32⟩
  | 42 => ⟨S128x128, .i1⟩
  | 43 => ⟨S128x128, .i1⟩
  | 44 => ⟨S128x128, .i32⟩
  | 45 => ⟨S128x128, .i32⟩
  | 46 => ⟨S128x128, .i32⟩
  | 47 => ⟨S_, .i32⟩
  | 48 => ⟨S128x128, .i32⟩
  | 49 => ⟨S128x128, .i1⟩
  | 50 => ⟨S128x128, .i32⟩
  | 51 => ⟨S128x128, .i32⟩
  | 52 => ⟨S128x128, .i32⟩
  | 53 => ⟨S_, .i32⟩
  | 54 => ⟨S128x128, .i32⟩
  | 55 => ⟨S128x128, .i1⟩
  | 56 => ⟨S128x128, .i1⟩
  | 57 => ⟨S1x128x128, .i1⟩
  | 58 => ⟨S1x128x128, .i1⟩
  | 59 => ⟨S1x128x128, .i1⟩
  | 60 => ⟨S1x128x128, .i1⟩
  | 61 => ⟨S4x128x128, .i1⟩
  | 62 => ⟨S4x128x128, .f32⟩
  | 63 => ⟨S_, .i32⟩
  | 64 => ⟨S128x1, .i32⟩
  | 65 => ⟨S128x1, .i32⟩
  | 66 => ⟨S_, .i32⟩
  | 67 => ⟨S128x1, .i32⟩
  | 68 => ⟨S128x1, .i32⟩
  | 69 => ⟨S128x128, .i32⟩
  | 70 => ⟨S128x128, .i32⟩
  | 71 => ⟨S128x128, .i1⟩
  | 72 => ⟨S_, .i32⟩
  | 73 => ⟨S128x1, .i32⟩
  | 74 => ⟨S128x1, .i32⟩
  | 75 => ⟨S_, .i32⟩
  | 76 => ⟨S128x1, .i32⟩
  | 77 => ⟨S128x1, .i32⟩
  | 78 => ⟨S128x128, .i32⟩
  | 79 => ⟨S128x128, .i32⟩
  | 80 => ⟨S128x128, .i1⟩
  | 81 => ⟨S_, .i32⟩
  | 82 => ⟨S128x1, .i32⟩
  | 83 => ⟨S128x1, .i32⟩
  | 84 => ⟨S_, .i32⟩
  | 85 => ⟨S128x1, .i32⟩
  | 86 => ⟨S128x1, .i32⟩
  | 87 => ⟨S128x128, .i32⟩
  | 88 => ⟨S128x128, .i32⟩
  | 89 => ⟨S128x128, .i1⟩
  | 90 => ⟨S_, .i32⟩
  | 91 => ⟨S128x1, .i32⟩
  | 92 => ⟨S128x1, .i32⟩
  | 93 => ⟨S_, .i32⟩
  | 94 => ⟨S128x1, .i32⟩
  | 95 => ⟨S128x1, .i32⟩
  | 96 => ⟨S128x128, .i32⟩
  | 97 => ⟨S128x128, .i32⟩
  | 98 => ⟨S128x128, .i1⟩
  | 99 => ⟨S1x128x128, .i1⟩
  | 100 => ⟨S1x128x128, .i1⟩
  | 101 => ⟨S1x128x128, .i1⟩
  | 102 => ⟨S1x128x128, .i1⟩
  | 103 => ⟨S4x128x128, .i1⟩
  | 104 => ⟨S4x128x128, .f32⟩
  | 105 => ⟨S4x128x128, .f32⟩
  | 106 => ⟨S4x128x128, .bf16⟩
  | 107 => ⟨S4x128x128, .f32⟩
  | 108 => ⟨S4x128x128, .bf16⟩
  | 109 => ⟨S8192, .i32⟩
  | 110 => ⟨S8192x1, .i32⟩
  | 111 => ⟨S8192x128, .f32⟩
  | 112 => ⟨S_, .i32⟩
  | 113 => ⟨S8192x1, .i32⟩
  | 114 => ⟨S8192x1, .i32⟩
  | 115 => ⟨S_, .i32⟩
  | 116 => ⟨S8192x1, .i32⟩
  | 117 => ⟨S8192x1, .i32⟩
  | 118 => ⟨S8192x1, .f32⟩
  | 119 => ⟨S8192x128, .f32⟩
  | 120 => ⟨S8192x128, .f32⟩
  | 121 => ⟨S8192x128, .f32⟩
  | 122 => ⟨S_, .i32⟩
  | 123 => ⟨S8192x1, .i32⟩
  | 124 => ⟨S8192x1, .i32⟩
  | 125 => ⟨S_, .i32⟩
  | 126 => ⟨S8192x1, .i32⟩
  | 127 => ⟨S8192x1, .i32⟩
  | _ => ⟨S8192x512, .f32⟩

abbrev hbmTy0_1 (i : Nat) : BufTy := match i % 128 with
  | 0 => ⟨S8192x1, .f32⟩
  | 1 => ⟨S8192x128, .f32⟩
  | 2 => ⟨S8192x128, .f32⟩
  | 3 => ⟨S8192x128, .f32⟩
  | 4 => ⟨S_, .i32⟩
  | 5 => ⟨S8192x1, .i32⟩
  | 6 => ⟨S8192x1, .i32⟩
  | 7 => ⟨S_, .i32⟩
  | 8 => ⟨S8192x1, .i32⟩
  | 9 => ⟨S8192x1, .i32⟩
  | 10 => ⟨S8192x1, .f32⟩
  | 11 => ⟨S8192x128, .f32⟩
  | 12 => ⟨S8192x128, .f32⟩
  | 13 => ⟨S8192x128, .f32⟩
  | 14 => ⟨S_, .i32⟩
  | 15 => ⟨S8192x1, .i32⟩
  | 16 => ⟨S8192x1, .i32⟩
  | 17 => ⟨S_, .i32⟩
  | 18 => ⟨S8192x1, .i32⟩
  | 19 => ⟨S8192x1, .i32⟩
  | 20 => ⟨S8192x1, .f32⟩
  | 21 => ⟨S8192x128, .f32⟩
  | 22 => ⟨S8192x128, .f32⟩
  | 23 => ⟨S8192x512, .f32⟩
  | 24 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S128x512, .f32⟩
  | .local _ .vmem, ⟨3, _⟩ => ⟨S128x512, .f32⟩
  | .local _ .vmem, ⟨4, _⟩ => ⟨S4x128x128, .bf16⟩
  | .local _ .vmem, ⟨5, _⟩ => ⟨S4x128x128, .bf16⟩
  | .local _ .vmem, ⟨6, _⟩ => ⟨S512x512, .bf16⟩
  | .local _ .vmem, ⟨7, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_2 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_3 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_4 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_5 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c_6 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_c_7 : Ref sig .tc := ⟨.hbm, 63, rfl⟩
abbrev main_v54 : Ref sig .tc := ⟨.hbm, 64, rfl⟩
abbrev main_v55 : Ref sig .tc := ⟨.hbm, 65, rfl⟩
abbrev main_c_8 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_9 : Ref sig .tc := ⟨.hbm, 72, rfl⟩
abbrev main_v61 : Ref sig .tc := ⟨.hbm, 73, rfl⟩
abbrev main_v62 : Ref sig .tc := ⟨.hbm, 74, rfl⟩
abbrev main_c_10 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_c_11 : Ref sig .tc := ⟨.hbm, 81, rfl⟩
abbrev main_v68 : Ref sig .tc := ⟨.hbm, 82, rfl⟩
abbrev main_v69 : Ref sig .tc := ⟨.hbm, 83, rfl⟩
abbrev main_c_12 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_c_13 : Ref sig .tc := ⟨.hbm, 90, rfl⟩
abbrev main_v75 : Ref sig .tc := ⟨.hbm, 91, rfl⟩
abbrev main_v76 : Ref sig .tc := ⟨.hbm, 92, rfl⟩
abbrev main_c_14 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_c_15 : Ref sig .tc := ⟨.hbm, 112, rfl⟩
abbrev main_v95 : Ref sig .tc := ⟨.hbm, 113, rfl⟩
abbrev main_v96 : Ref sig .tc := ⟨.hbm, 114, rfl⟩
abbrev main_c_16 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c_17 : Ref sig .tc := ⟨.hbm, 122, rfl⟩
abbrev main_v103 : Ref sig .tc := ⟨.hbm, 123, rfl⟩
abbrev main_v104 : Ref sig .tc := ⟨.hbm, 124, rfl⟩
abbrev main_c_18 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_c_19 : Ref sig .tc := ⟨.hbm, 132, rfl⟩
abbrev main_v111 : Ref sig .tc := ⟨.hbm, 133, rfl⟩
abbrev main_v112 : Ref sig .tc := ⟨.hbm, 134, rfl⟩
abbrev main_c_20 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_c_21 : Ref sig .tc := ⟨.hbm, 142, rfl⟩
abbrev main_v119 : Ref sig .tc := ⟨.hbm, 143, rfl⟩
abbrev main_v120 : Ref sig .tc := ⟨.hbm, 144, rfl⟩
abbrev main_c_22 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolBRefIdeal.lean ====
abbrev S8192x512 : Shape := ⟨2, ![8192, 512]⟩
abbrev S_ : Shape := ⟨0, ![]⟩
abbrev S8192x4x128 : Shape := ⟨3, ![8192, 4, 128]⟩
abbrev S1x4x128 : Shape := ⟨3, ![1, 4, 128]⟩
abbrev S8193x4x128 : Shape := ⟨3, ![8193, 4, 128]⟩
abbrev S8192 : Shape := ⟨1, ![8192]⟩
abbrev S8192x1x128 : Shape := ⟨3, ![8192, 1, 128]⟩
abbrev S8192x128 : Shape := ⟨2, ![8192, 128]⟩
abbrev S1x128 : Shape := ⟨2, ![1, 128]⟩
abbrev S8191x1x128 : Shape := ⟨3, ![8191, 1, 128]⟩
abbrev S8191x128 : Shape := ⟨2, ![8191, 128]⟩
abbrev S8192x1 : Shape := ⟨2, ![8192, 1]⟩
abbrev S3x128 : Shape := ⟨2, ![3, 128]⟩
abbrev S8189x1x128 : Shape := ⟨3, ![8189, 1, 128]⟩
abbrev S8189x128 : Shape := ⟨2, ![8189, 128]⟩
abbrev S7x128 : Shape := ⟨2, ![7, 128]⟩
abbrev S8185x1x128 : Shape := ⟨3, ![8185, 1, 128]⟩
abbrev S8185x128 : Shape := ⟨2, ![8185, 128]⟩
abbrev S15x128 : Shape := ⟨2, ![15, 128]⟩
abbrev S8177x1x128 : Shape := ⟨3, ![8177, 1, 128]⟩
abbrev S8177x128 : Shape := ⟨2, ![8177, 128]⟩

abbrev nBuf : Space → Nat
  | .hbm => 198
  | .vmem => 0
  | .smem => 0
  | _ => 0

abbrev hbmTy0_0 (i : Nat) : BufTy := match i % 128 with
  | 0 => ⟨S8192x512, .f32⟩
  | 1 => ⟨S_, .f32⟩
  | 2 => ⟨S8192x512, .f32⟩
  | 3 => ⟨S8192x4x128, .f32⟩
  | 4 => ⟨S_, .f32⟩
  | 5 => ⟨S1x4x128, .f32⟩
  | 6 => ⟨S_, .f32⟩
  | 7 => ⟨S_, .f32⟩
  | 8 => ⟨S8192x4x128, .f32⟩
  | 9 => ⟨S8193x4x128, .f32⟩
  | 10 => ⟨S_, .f32⟩
  | 11 => ⟨S1x4x128, .f32⟩
  | 12 => ⟨S8192, .i32⟩
  | 13 => ⟨S8192x1x128, .f32⟩
  | 14 => ⟨S8192x128, .f32⟩
  | 15 => ⟨S_, .f32⟩
  | 16 => ⟨S1x128, .f32⟩
  | 17 => ⟨S8191x1x128, .f32⟩
  | 18 => ⟨S8191x128, .f32⟩
  | 19 => ⟨S8192x128, .f32⟩
  | 20 => ⟨S_, .f32⟩
  | 21 => ⟨S1x128, .f32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S8192, .f32⟩
  | 29 => ⟨S8192x1, .f32⟩
  | 30 => ⟨S8192x128, .f32⟩
  | 31 => ⟨S8192x128, .f32⟩
  | 32 => ⟨S8192x128, .f32⟩
  | 33 => ⟨S8192x1x128, .f32⟩
  | 34 => ⟨S8192x128, .f32⟩
  | 35 => ⟨S8192x128, .f32⟩
  | 36 => ⟨S8192x1x128, .f32⟩
  | 37 => ⟨S8192x128, .f32⟩
  | 38 => ⟨S_, .f32⟩
  | 39 => ⟨S3x128, .f32⟩
  | 40 => ⟨S8189x1x128, .f32⟩
  | 41 => ⟨S8189x128, .f32⟩
  | 42 => ⟨S8192x128, .f32⟩
  | 43 => ⟨S_, .f32⟩
  | 44 => ⟨S3x128, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192, .f32⟩
  | 52 => ⟨S8192x1, .f32⟩
  | 53 => ⟨S8192x128, .f32⟩
  | 54 => ⟨S8192x128, .f32⟩
  | 55 => ⟨S8192x128, .f32⟩
  | 56 => ⟨S8192x1x128, .f32⟩
  | 57 => ⟨S8192x128, .f32⟩
  | 58 => ⟨S8192x128, .f32⟩
  | 59 => ⟨S8192x1x128, .f32⟩
  | 60 => ⟨S8192x128, .f32⟩
  | 61 => ⟨S_, .f32⟩
  | 62 => ⟨S7x128, .f32⟩
  | 63 => ⟨S8185x1x128, .f32⟩
  | 64 => ⟨S8185x128, .f32⟩
  | 65 => ⟨S8192x128, .f32⟩
  | 66 => ⟨S_, .f32⟩
  | 67 => ⟨S7x128, .f32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .f32⟩
  | 75 => ⟨S8192x1, .f32⟩
  | 76 => ⟨S8192x128, .f32⟩
  | 77 => ⟨S8192x128, .f32⟩
  | 78 => ⟨S8192x128, .f32⟩
  | 79 => ⟨S8192x1x128, .f32⟩
  | 80 => ⟨S8192x128, .f32⟩
  | 81 => ⟨S8192x128, .f32⟩
  | 82 => ⟨S8192x1x128, .f32⟩
  | 83 => ⟨S8192x128, .f32⟩
  | 84 => ⟨S_, .f32⟩
  | 85 => ⟨S15x128, .f32⟩
  | 86 => ⟨S8177x1x128, .f32⟩
  | 87 => ⟨S8177x128, .f32⟩
  | 88 => ⟨S8192x128, .f32⟩
  | 89 => ⟨S_, .f32⟩
  | 90 => ⟨S15x128, .f32⟩
  | 91 => ⟨S_, .i32⟩
  | 92 => ⟨S8192, .i32⟩
  | 93 => ⟨S8192, .i32⟩
  | 94 => ⟨S_, .i32⟩
  | 95 => ⟨S8192, .i32⟩
  | 96 => ⟨S8192, .i32⟩
  | 97 => ⟨S8192, .f32⟩
  | 98 => ⟨S8192x1, .f32⟩
  | 99 => ⟨S8192x128, .f32⟩
  | 100 => ⟨S8192x128, .f32⟩
  | 101 => ⟨S8192x128, .f32⟩
  | 102 => ⟨S8192x1x128, .f32⟩
  | 103 => ⟨S8192x128, .f32⟩
  | 104 => ⟨S8192x128, .f32⟩
  | 105 => ⟨S8192x1x128, .f32⟩
  | 106 => ⟨S8192x1x128, .f32⟩
  | 107 => ⟨S8192x1x128, .f32⟩
  | 108 => ⟨S8192x1x128, .f32⟩
  | 109 => ⟨S8192x4x128, .f32⟩
  | 110 => ⟨S8192x512, .f32⟩
  | 111 => ⟨S8192x4x128, .f32⟩
  | 112 => ⟨S8192x1x128, .f32⟩
  | 113 => ⟨S8192x128, .f32⟩
  | 114 => ⟨S8192x1x128, .f32⟩
  | 115 => ⟨S8192x128, .f32⟩
  | 116 => ⟨S8192x1x128, .f32⟩
  | 117 => ⟨S8192x128, .f32⟩
  | 118 => ⟨S8192x1x128, .f32⟩
  | 119 => ⟨S8192x128, .f32⟩
  | 120 => ⟨S8192x128, .f32⟩
  | 121 => ⟨S8192x1x128, .f32⟩
  | 122 => ⟨S_, .f32⟩
  | 123 => ⟨S8192x4x128, .f32⟩
  | 124 => ⟨S8192x128, .f32⟩
  | 125 => ⟨S8192x128, .f32⟩
  | 126 => ⟨S8192x128, .f32⟩
  | 127 => ⟨S15x128, .f32⟩
  | _ => ⟨S8192x512, .f32⟩

abbrev hbmTy0_1 (i : Nat) : BufTy := match i % 128 with
  | 0 => ⟨S8177x128, .f32⟩
  | 1 => ⟨S8177x1x128, .f32⟩
  | 2 => ⟨S_, .f32⟩
  | 3 => ⟨S8193x4x128, .f32⟩
  | 4 => ⟨S8192x1x128, .f32⟩
  | 5 => ⟨S_, .f32⟩
  | 6 => ⟨S8193x4x128, .f32⟩
  | 7 => ⟨S8193x4x128, .f32⟩
  | 8 => ⟨S8192x128, .f32⟩
  | 9 => ⟨S8192x1x128, .f32⟩
  | 10 => ⟨S_, .f32⟩
  | 11 => ⟨S8192x4x128, .f32⟩
  | 12 => ⟨S8192x4x128, .f32⟩
  | 13 => ⟨S8192x128, .f32⟩
  | 14 => ⟨S8192x128, .f32⟩
  | 15 => ⟨S8192x128, .f32⟩
  | 16 => ⟨S7x128, .f32⟩
  | 17 => ⟨S8185x128, .f32⟩
  | 18 => ⟨S8185x1x128, .f32⟩
  | 19 => ⟨S_, .f32⟩
  | 20 => ⟨S8193x4x128, .f32⟩
  | 21 => ⟨S8193x4x128, .f32⟩
  | 22 => ⟨S8192x1x128, .f32⟩
  | 23 => ⟨S_, .f32⟩
  | 24 => ⟨S8193x4x128, .f32⟩
  | 25 => ⟨S8193x4x128, .f32⟩
  | 26 => ⟨S8192x128, .f32⟩
  | 27 => ⟨S8192x1x128, .f32⟩
  | 28 => ⟨S_, .f32⟩
  | 29 => ⟨S8192x4x128, .f32⟩
  | 30 => ⟨S8192x4x128, .f32⟩
  | 31 => ⟨S8192x128, .f32⟩
  | 32 => ⟨S8192x128, .f32⟩
  | 33 => ⟨S8192x128, .f32⟩
  | 34 => ⟨S3x128, .f32⟩
  | 35 => ⟨S8189x128, .f32⟩
  | 36 => ⟨S8189x1x128, .f32⟩
  | 37 => ⟨S_, .f32⟩
  | 38 => ⟨S8193x4x128, .f32⟩
  | 39 => ⟨S8193x4x128, .f32⟩
  | 40 => ⟨S8192x1x128, .f32⟩
  | 41 => ⟨S_, .f32⟩
  | 42 => ⟨S8193x4x128, .f32⟩
  | 43 => ⟨S8193x4x128, .f32⟩
  | 44 => ⟨S8192x128, .f32⟩
  | 45 => ⟨S8192x1x128, .f32⟩
  | 46 => ⟨S_, .f32⟩
  | 47 => ⟨S8192x4x128, .f32⟩
  | 48 => ⟨S8192x4x128, .f32⟩
  | 49 => ⟨S8192x128, .f32⟩
  | 50 => ⟨S8192x128, .f32⟩
  | 51 => ⟨S8192x128, .f32⟩
  | 52 => ⟨S1x128, .f32⟩
  | 53 => ⟨S8191x128, .f32⟩
  | 54 => ⟨S8191x1x128, .f32⟩
  | 55 => ⟨S_, .f32⟩
  | 56 => ⟨S8193x4x128, .f32⟩
  | 57 => ⟨S8193x4x128, .f32⟩
  | 58 => ⟨S8192x1x128, .f32⟩
  | 59 => ⟨S_, .f32⟩
  | 60 => ⟨S8193x4x128, .f32⟩
  | 61 => ⟨S8193x4x128, .f32⟩
  | 62 => ⟨S1x4x128, .f32⟩
  | 63 => ⟨S8192x4x128, .f32⟩
  | 64 => ⟨S_, .f32⟩
  | 65 => ⟨S_, .f32⟩
  | 66 => ⟨S8192x4x128, .f32⟩
  | 67 => ⟨S8192x4x128, .f32⟩
  | 68 => ⟨S8192x512, .f32⟩
  | 69 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_c_11 : Ref sig .tc := ⟨.hbm, 68, rfl⟩
abbrev main_v52 : Ref sig .tc := ⟨.hbm, 69, rfl⟩
abbrev main_v53 : Ref sig .tc := ⟨.hbm, 70, rfl⟩
abbrev main_c_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_c_15 : Ref sig .tc := ⟨.hbm, 91, rfl⟩
abbrev main_v71 : Ref sig .tc := ⟨.hbm, 92, rfl⟩
abbrev main_v72 : Ref sig .tc := ⟨.hbm, 93, rfl⟩
abbrev main_c_16 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_17 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_18 : Ref sig .tc := ⟨.hbm, 130, rfl⟩
abbrev main_v107 : Ref sig .tc := ⟨.hbm, 131, rfl⟩
abbrev main_v108 : Ref sig .tc := ⟨.hbm, 132, rfl⟩
abbrev main_cst_19 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_20 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_21 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_22 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_23 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_24 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_25 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_26 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_27 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_cst_28 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_call1_call0_cst : Ref sig .tc := ⟨.hbm, 192, rfl⟩
abbrev main_call1_call0_v0 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩

abbrev nD : Nat := 1
abbrev τ : Topo := Topo.v7x

variable {F : FTy → Type} [FloatOps F]
-- ==== Flash.lean ====
abbrev S8192x8x192 : Shape := ⟨3, ![8192, 8, 192]⟩
abbrev S8192x8x128 : Shape := ⟨3, ![8192, 8, 128]⟩
abbrev S8192x1024 : Shape := ⟨2, ![8192, 1024]⟩
abbrev S_ : Shape := ⟨0, ![]⟩
abbrev S8x8192x192 : Shape := ⟨3, ![8, 8192, 192]⟩
abbrev S8x8192x128 : Shape := ⟨3, ![8, 8192, 128]⟩
abbrev S8x8192x8192 : Shape := ⟨3, ![8, 8192, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192 : Shape := ⟨2, ![8, 8192]⟩
abbrev S8x8192x1 : Shape := ⟨3, ![8, 8192, 1]⟩
abbrev S8x8x1x1024 : Shape := ⟨4, ![8, 8, 1, 1024]⟩
abbrev S8x8192x256 : Shape := ⟨3, ![8, 8192, 256]⟩
abbrev S1x8192x256 : Shape := ⟨3, ![1, 8192, 256]⟩
abbrev S8192x128 : Shape := ⟨2, ![8192, 128]⟩
abbrev S1x8x1x1024 : Shape := ⟨4, ![1, 8, 1, 1024]⟩
abbrev S1x1024x256 : Shape := ⟨3, ![1, 1024, 256]⟩
abbrev S1x1024x128 : Shape := ⟨3, ![1, 1024, 128]⟩
abbrev S8192x256 : Shape := ⟨2, ![8192, 256]⟩
abbrev S1024x256 : Shape := ⟨2, ![1024, 256]⟩
abbrev S1024x128 : Shape := ⟨2, ![1024, 128]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 56
  | .vmem => 19
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S_, .f32⟩
  | .hbm, ⟨5, _⟩ => ⟨S8192x8x192, .f32⟩
  | .hbm, ⟨6, _⟩ => ⟨S8192x8x192, .f32⟩
  | .hbm, ⟨7, _⟩ => ⟨S8x8192x192, .f32⟩
  | .hbm, ⟨8, _⟩ => ⟨S8x8192x192, .f32⟩
  | .hbm, ⟨9, _⟩ => ⟨S8x8192x128, .f32⟩
  | .hbm, ⟨10, _⟩ => ⟨S8x8192x8192, .f32⟩
  | .hbm, ⟨11, _⟩ => ⟨S8192, .i32⟩
  | .hbm, ⟨12, _⟩ => ⟨S1x1x8192, .i32⟩
  | .hbm, ⟨13, _⟩ => ⟨S1x8192x1, .i32⟩
  | .hbm, ⟨14, _⟩ => ⟨S1x8192x8192, .i32⟩
  | .hbm, ⟨15, _⟩ => ⟨S1x8192x8192, .i32⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x128, .f32⟩
  | .hbm, ⟨32, _⟩ => ⟨S8x8192x128, .f32⟩
  | .hbm, ⟨33, _⟩ => ⟨S8x8192x128, .f32⟩
  | .hbm, ⟨34, _⟩ => ⟨S8x8192x1, .f32⟩
  | .hbm, ⟨35, _⟩ => ⟨S8x8192x1, .f32⟩
  | .hbm, ⟨36, _⟩ => ⟨S8x8x1x1024, .f32⟩
  | .hbm, ⟨37, _⟩ => ⟨S8192x8x128, .f32⟩
  | .hbm, ⟨38, _⟩ => ⟨S8x8192x128, .f32⟩
  | .hbm, ⟨39, _⟩ => ⟨S8x8192x128, .f32⟩
  | .hbm, ⟨40, _⟩ => ⟨S_, .f32⟩
  | .hbm, ⟨41, _⟩ => ⟨S8x8192, .f32⟩
  | .hbm, ⟨42, _⟩ => ⟨S8x8x1x1024, .f32⟩
  | .hbm, ⟨43, _⟩ => ⟨S_, .i32⟩
  | .hbm, ⟨44, _⟩ => ⟨S_, .f32⟩
  | .hbm, ⟨45, _⟩ => ⟨S8x8192x256, .f32⟩
  | .hbm, ⟨46, _⟩ => ⟨S8x8192x256, .bf16⟩
  | .hbm, ⟨47, _⟩ => ⟨S_, .i32⟩
  | .hbm, ⟨48, _⟩ => ⟨S_, .f32⟩
  | .hbm, ⟨49, _⟩ => ⟨S8x8192x256, .f32⟩
  | .hbm, ⟨50, _⟩ => ⟨S8x8192x256, .bf16⟩
  | .hbm, ⟨51, _⟩ => ⟨S8x8192x128, .bf16⟩
  | .hbm, ⟨52, _⟩ => ⟨S8192x1024, .bf16⟩
  | .hbm, ⟨53, _⟩ => ⟨S8x8192x256, .bf16⟩
  | .hbm, ⟨54, _⟩ => ⟨S8x8192x256, .bf16⟩
  | .hbm, ⟨55, _⟩ => ⟨S8x8192x128, .bf16⟩
  | .local _ .vmem, ⟨0, _⟩ => ⟨S1x8192x256, .bf16⟩
  | .local _ .vmem, ⟨1, _⟩ => ⟨S1x8192x256, .bf16⟩
  | .local _ .vmem, ⟨2, _⟩ => ⟨S8192x128, .bf16⟩
  | .local _ .vmem, ⟨3, _⟩ => ⟨S8192x128, .bf16⟩
  | .local _ .vmem, ⟨4, _⟩ => ⟨S1x8x1x1024, .f32⟩
  | .local _ .vmem, ⟨5, _⟩ => ⟨S1x8x1x1024, .f32⟩
  | .local _ .vmem, ⟨6, _⟩ => ⟨S1x8x1x1024, .f32⟩
  | .local _ .vmem, ⟨7, _⟩ => ⟨S1x8x1x1024, .f32⟩
  | .local _ .vmem, ⟨8, _⟩ => ⟨S1x1024x256, .bf16⟩
  | .local _ .vmem, ⟨9, _⟩ => ⟨S1x1024x256, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x8192x256, .bf16⟩
  | .local _ .vmem, ⟨13, _⟩ => ⟨S1x8192x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x128, .bf16⟩
  | .local _ .vmem, ⟨17, _⟩ => ⟨S1x1024x128, .bf16⟩
  | .local _ .vmem, ⟨18, _⟩ => ⟨S8192x256, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call2_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  v27
def k0_off1 (i : grid0.Coords) : Fin 3 → Nat :=
  let c0_14 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  let v28 : BitVec 32 := v27
  let v29 : Index := Scalar.indexCast v28
  let c0_15 : Index := 0#32
  ![0, v29.toNat, 0]
def k0_off2 (i : grid0.Coords) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  let v28 : BitVec 32 := v27
  let v32 : Index := Scalar.indexCast v28
  let c0_16 : Index := 0#32
  ![v32.toNat, 0]
def k0_off3 (i : grid0.Coords) : Fin 4 → Nat :=
  let c0_21 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let v47 : Index := Scalar.indexCast v24
  let c0_22 : Index := 0#32
  let c0_23 : Index := 0#32
  ![0, v47.toNat, 0, 0]
def k0_off4 (i : grid0.Coords) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1024_i32_13 : BitVec 32 := 1024#32
  let v27 : BitVec 32 := Scalar.muli v24 c1024_i32_13
  let v28 : BitVec 32 := v27
  let v66 : Index := Scalar.indexCast v28
  let c0_30 : Index := 0#32
  ![v66.toNat, 0]
@[reducible] def k0_t1_loop (i : grid0.Coords) : Scf.Loop 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c8_i32 : BitVec 32 := 8#32
  let v75 : BitVec 32 := Scalar.subi c8_i32 v74
  let c1_i32_34 : BitVec 32 := 1#32
  let v77 : BitVec 32 := Scalar.divsi v75 c1_i32_34
  let v78 : BitVec 32 := Scalar.muli v77 c1_i32_34
  let v79 : BitVec 32 := Scalar.addi v74 v78
  let c1_i32_35 : BitVec 32 := 1#32
  ⟨v74, v79, c1_i32_35⟩
def k0_mult2 (i : grid0.Coords) (k0_t1 : Fin (k0_t1_loop i).trips) : BitVec 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c1_i32_35 : BitVec 32 := 1#32
  let arg12 : BitVec 32 := Scf.iv v74 c1_i32_35 k0_t1
  let c1024_i32_44 : BitVec 32 := 1024#32
  let v93 : BitVec 32 := Scalar.muli arg12 c1024_i32_44
  v93
def k0_off5 (i : grid0.Coords) (k0_t1 : Fin (k0_t1_loop i).trips) : Fin 3 → Nat :=
  let c0_45 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c1_i32_35 : BitVec 32 := 1#32
  let arg12 : BitVec 32 := Scf.iv v74 c1_i32_35 k0_t1
  let c1024_i32_44 : BitVec 32 := 1024#32
  let v93 : BitVec 32 := Scalar.muli arg12 c1024_i32_44
  let v94 : BitVec 32 := v93
  let v95 : Index := Scalar.indexCast v94
  let c0_46 : Index := 0#32
  ![0, v95.toNat, 0]
def k0_off6 (i : grid0.Coords) (k0_t1 : Fin (k0_t1_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c1_i32_35 : BitVec 32 := 1#32
  let arg12 : BitVec 32 := Scf.iv v74 c1_i32_35 k0_t1
  let c1024_i32_44 : BitVec 32 := 1024#32
  let v93 : BitVec 32 := Scalar.muli arg12 c1024_i32_44
  let v94 : BitVec 32 := v93
  let v98 : Index := Scalar.indexCast v94
  let c0_47 : Index := 0#32
  ![v98.toNat, 0]
def k0_off7 (i : grid0.Coords) (k0_t1 : Fin (k0_t1_loop i).trips) : Fin 4 → Nat :=
  let c0_49 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c1_i32_35 : BitVec 32 := 1#32
  let arg12 : BitVec 32 := Scf.iv v74 c1_i32_35 k0_t1
  let v102 : Index := Scalar.indexCast arg12
  let c0_50 : Index := 0#32
  let c0_51 : Index := 0#32
  ![0, v102.toNat, 0, 0]
def k0_off8 (i : grid0.Coords) (k0_t1 : Fin (k0_t1_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c1_i32_35 : BitVec 32 := 1#32
  let arg12 : BitVec 32 := Scf.iv v74 c1_i32_35 k0_t1
  let c1024_i32_44 : BitVec 32 := 1024#32
  let v93 : BitVec 32 := Scalar.muli arg12 c1024_i32_44
  let v94 : BitVec 32 := v93
  let v121 : Index := Scalar.indexCast v94
  let c0_58 : Index := 0#32
  ![v121.toNat, 0]
@[reducible] def k0_t2_loop (i : grid0.Coords) : Scf.Loop 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c8_i32 : BitVec 32 := 8#32
  let v75 : BitVec 32 := Scalar.subi c8_i32 v74
  let c1_i32_34 : BitVec 32 := 1#32
  let v77 : BitVec 32 := Scalar.divsi v75 c1_i32_34
  let v78 : BitVec 32 := Scalar.muli v77 c1_i32_34
  let v79 : BitVec 32 := Scalar.addi v74 v78
  let v76 : BitVec 32 := Scalar.addi v74 v75
  let c1_i32_36 : BitVec 32 := 1#32
  ⟨v79, v76, c1_i32_36⟩
def k0_mult3 (i : grid0.Coords) (k0_t2 : Fin (k0_t2_loop i).trips) : BitVec 32 :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c8_i32 : BitVec 32 := 8#32
  let v75 : BitVec 32 := Scalar.subi c8_i32 v74
  let c1_i32_34 : BitVec 32 := 1#32
  let v77 : BitVec 32 := Scalar.divsi v75 c1_i32_34
  let v78 : BitVec 32 := Scalar.muli v77 c1_i32_34
  let v79 : BitVec 32 := Scalar.addi v74 v78
  let c1_i32_36 : BitVec 32 := 1#32
  let arg12 : BitVec 32 := Scf.iv v79 c1_i32_36 k0_t2
  let c1024_i32_44 : BitVec 32 := 1024#32
  let v93 : BitVec 32 := Scalar.muli arg12 c1024_i32_44
  v93
def k0_off9 (i : grid0.Coords) (k0_t2 : Fin (k0_t2_loop i).trips) : Fin 3 → Nat :=
  let c0_45 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c8_i32 : BitVec 32 := 8#32
  let v75 : BitVec 32 := Scalar.subi c8_i32 v74
  let c1_i32_34 : BitVec 32 := 1#32
  let v77 : BitVec 32 := Scalar.divsi v75 c1_i32_34
  let v78 : BitVec 32 := Scalar.muli v77 c1_i32_34
  let v79 : BitVec 32 := Scalar.addi v74 v78
  let c1_i32_36 : BitVec 32 := 1#32
  let arg12 : BitVec 32 := Scf.iv v79 c1_i32_36 k0_t2
  let c1024_i32_44 : BitVec 32 := 1024#32
  let v93 : BitVec 32 := Scalar.muli arg12 c1024_i32_44
  let v94 : BitVec 32 := v93
  let v95 : Index := Scalar.indexCast v94
  let c0_46 : Index := 0#32
  ![0, v95.toNat, 0]
def k0_off10 (i : grid0.Coords) (k0_t2 : Fin (k0_t2_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c8_i32 : BitVec 32 := 8#32
  let v75 : BitVec 32 := Scalar.subi c8_i32 v74
  let c1_i32_34 : BitVec 32 := 1#32
  let v77 : BitVec 32 := Scalar.divsi v75 c1_i32_34
  let v78 : BitVec 32 := Scalar.muli v77 c1_i32_34
  let v79 : BitVec 32 := Scalar.addi v74 v78
  let c1_i32_36 : BitVec 32 := 1#32
  let arg12 : BitVec 32 := Scf.iv v79 c1_i32_36 k0_t2
  let c1024_i32_44 : BitVec 32 := 1024#32
  let v93 : BitVec 32 := Scalar.muli arg12 c1024_i32_44
  let v94 : BitVec 32 := v93
  let v98 : Index := Scalar.indexCast v94
  let c0_47 : Index := 0#32
  ![v98.toNat, 0]
def k0_off11 (i : grid0.Coords) (k0_t2 : Fin (k0_t2_loop i).trips) : Fin 4 → Nat :=
  let c0_49 : Index := 0#32
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c8_i32 : BitVec 32 := 8#32
  let v75 : BitVec 32 := Scalar.subi c8_i32 v74
  let c1_i32_34 : BitVec 32 := 1#32
  let v77 : BitVec 32 := Scalar.divsi v75 c1_i32_34
  let v78 : BitVec 32 := Scalar.muli v77 c1_i32_34
  let v79 : BitVec 32 := Scalar.addi v74 v78
  let c1_i32_36 : BitVec 32 := 1#32
  let arg12 : BitVec 32 := Scf.iv v79 c1_i32_36 k0_t2
  let v102 : Index := Scalar.indexCast arg12
  let c0_50 : Index := 0#32
  let c0_51 : Index := 0#32
  ![0, v102.toNat, 0, 0]
def k0_off12 (i : grid0.Coords) (k0_t2 : Fin (k0_t2_loop i).trips) : Fin 2 → Nat :=
  let arg1 : BitVec 32 := BitVec.ofNat 32 (i 1).val
  let c1024_i32 : BitVec 32 := 1024#32
  let v7 : BitVec 32 := Scalar.muli arg1 c1024_i32
  let c0_i32_7 : BitVec 32 := 0#32
  let v9 : BitVec 1 := Scalar.cmpi .sgt v7 c0_i32_7
  let v10 : BitVec 32 := Scalar.extui v9
  let c0_i32_8 : BitVec 32 := 0#32
  let v11 : BitVec 1 := Scalar.cmpi .slt v7 c0_i32_8
  let v12 : BitVec 32 := Scalar.extui v11
  let v13 : BitVec 32 := Scalar.subi v10 v12
  let c1024_i32_6 : BitVec 32 := 1024#32
  let c0_i32_9 : BitVec 32 := 0#32
  let v14 : BitVec 1 := Scalar.cmpi .sgt c1024_i32_6 c0_i32_9
  let v15 : BitVec 32 := Scalar.extui v14
  let c0_i32_10 : BitVec 32 := 0#32
  let v16 : BitVec 1 := Scalar.cmpi .slt c1024_i32_6 c0_i32_10
  let v17 : BitVec 32 := Scalar.extui v16
  let v18 : BitVec 32 := Scalar.subi v15 v17
  let v19 : BitVec 1 := Scalar.cmpi .ne v13 v18
  let v20 : BitVec 32 := Scalar.remsi v7 c1024_i32_6
  let c0_i32_11 : BitVec 32 := 0#32
  let v21 : BitVec 1 := Scalar.cmpi .ne v20 c0_i32_11
  let v22 : BitVec 1 := Scalar.andi v19 v21
  let v8 : BitVec 32 := Scalar.divsi v7 c1024_i32_6
  let c1_i32 : BitVec 32 := 1#32
  let v23 : BitVec 32 := Scalar.subi v8 c1_i32
  let v24 : BitVec 32 := Scalar.select v22 v23 v8
  let c1_i32_33 : BitVec 32 := 1#32
  let v74 : BitVec 32 := Scalar.addi v24 c1_i32_33
  let c8_i32 : BitVec 32 := 8#32
  let v75 : BitVec 32 := Scalar.subi c8_i32 v74
  let c1_i32_34 : BitVec 32 := 1#32
  let v77 : BitVec 32 := Scalar.divsi v75 c1_i32_34
  let v78 : BitVec 32 := Scalar.muli v77 c1_i32_34
  let v79 : BitVec 32 := Scalar.addi v74 v78
  let c1_i32_36 : BitVec 32 := 1#32
  let arg12 : BitVec 32 := Scf.iv v79 c1_i32_36 k0_t2
  let c1024_i32_44 : BitVec 32 := 1024#32
  let v93 : BitVec 32 := Scalar.muli arg12 c1024_i32_44
  let v94 : BitVec 32 := v93
  let v121 : Index := Scalar.indexCast v94
  let c0_58 : Index := 0#32
  ![v121.toNat, 0]
def k0_cond2 (i : grid0.Coords) : BitVec 1 :=
  let arg1 : BitVec 32 := BitVec.ofNat 32 (i 1).val
  let c7_i32 : BitVec 32 := 7#32
  let v90 : BitVec 1 := Scalar.cmpi .eq arg1 c7_i32
  let v91 : BitVec 32 := Scalar.extui v90
  let c0_i32_43 : BitVec 32 := 0#32
  let v92 : BitVec 1 := Scalar.cmpi .ne v91 c0_i32_43
  v92

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashIdeal.lean ====
variable {F : FTy → Type} [FloatOps F] [Named F]
def κ : String → Option EReal := fun
  | "mask" => some ⊥
  | _ => none
-- ==== FlashRefIdeal.lean ====
abbrev S8192x8x192 : Shape := ⟨3, ![8192, 8, 192]⟩
abbrev S8192x8x128 : Shape := ⟨3, ![8192, 8, 128]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x256 : Shape := ⟨3, ![8, 8192, 256]⟩
abbrev S8x8192x128 : Shape := ⟨3, ![8, 8192, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x1024, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x128x8192, .f32⟩
  | .hbm, ⟨61, _⟩ => ⟨S8192x8x128, .f32⟩
  | .hbm, ⟨62, _⟩ => ⟨S8192x1024, .f32⟩
  | .hbm, ⟨63, _⟩ => ⟨S8192x8x128, .f32⟩
  | .hbm, ⟨64, _⟩ => ⟨S8x128x8192, .f32⟩
  | .hbm, ⟨65, _⟩ => ⟨S8x8192x8192, .f32⟩
  | .hbm, ⟨66, _⟩ => ⟨S8x128x8192, .f32⟩
  | .hbm, ⟨67, _⟩ => ⟨S8192x8x128, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x8192x8192, .f32⟩
  | .hbm, ⟨88, _⟩ => ⟨S8x8192x192, .f32⟩
  | .hbm, ⟨89, _⟩ => ⟨S8192x8x192, .f32⟩
  | .hbm, ⟨90, _⟩ => ⟨S8x8192x192, .f32⟩
  | .hbm, ⟨91, _⟩ => ⟨S8192x8x192, .f32⟩
  | .hbm, ⟨92, _⟩ => ⟨S_, .f32⟩
  | .hbm, ⟨93, _⟩ => ⟨S8192x8x192, .f32⟩
  | .hbm, ⟨94, _⟩ => ⟨S8192x8x192, .f32⟩
  | .hbm, ⟨95, _⟩ => ⟨S8x8192x192, .f32⟩
  | .hbm, ⟨96, _⟩ => ⟨S_, .i32⟩
  | .hbm, ⟨97, _⟩ => ⟨S_, .f32⟩
  | .hbm, ⟨98, _⟩ => ⟨S8x8192x256, .f32⟩
  | .hbm, ⟨99, _⟩ => ⟨S8x8192x256, .bf16⟩
  | .hbm, ⟨100, _⟩ => ⟨S8x8192x192, .f32⟩
  | .hbm, ⟨101, _⟩ => ⟨S_, .i32⟩
  | .hbm, ⟨102, _⟩ => ⟨S_, .f32⟩
  | .hbm, ⟨103, _⟩ => ⟨S8x8192x256, .f32⟩
  | .hbm, ⟨104, _⟩ => ⟨S8x8192x256, .bf16⟩
  | .hbm, ⟨105, _⟩ => ⟨S8x8192x128, .f32⟩
  | .hbm, ⟨106, _⟩ => ⟨S8x8192x128, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c : Ref sig .tc := ⟨.hbm, 96, rfl⟩
abbrev main_call2_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_call3_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== FlashF.lean ====
abbrev S8192x8x192 : Shape := ⟨3, ![8192, 8, 192]⟩
abbrev S8192x8x128 : Shape := ⟨3, ![8192, 8, 128]⟩
abbrev S_ : Shape := ⟨0, ![]⟩
abbrev S8x8192x192 : Shape := ⟨3, ![8, 8192, 192]⟩
abbrev S8x8192x256 : Shape := ⟨3, ![8, 8192, 256]⟩
abbrev S8x8192x128 : Shape := ⟨3, ![8, 8192, 128]⟩
abbrev S8192x1024 : Shape := ⟨2, ![8192, 1024]⟩
abbrev S8x8x1x1024 : Shape := ⟨4, ![8, 8, 1, 1024]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1024x128 : Shape := ⟨2, ![1024, 128]⟩
abbrev S1x1x1x1024 : Shape := ⟨4, ![1, 1, 1, 1024]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩
abbrev S1x1024x128 : Shape := ⟨3, ![1, 1024, 128]⟩
abbrev S128x1024 : Shape := ⟨2, ![128, 1024]⟩
abbrev S1x1024 : Shape := ⟨2, ![1, 1024]⟩

abbrev nBuf : Space → Nat
  | .hbm => 20
  | .vmem => 10
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S_, .f32⟩
  | .hbm, ⟨4, _⟩ => ⟨S8192x8x192, .f32⟩
  | .hbm, ⟨5, _⟩ => ⟨S8192x8x192, .f32⟩
  | .hbm, ⟨6, _⟩ => ⟨S8x8192x192, .f32⟩
  | .hbm, ⟨7, _⟩ => ⟨S_, .i32⟩
  | .hbm, ⟨8, _⟩ => ⟨S_, .f32⟩
  | .hbm, ⟨9, _⟩ => ⟨S8x8192x256, .f32⟩
  | .hbm, ⟨10, _⟩ => ⟨S8x8192x256, .bf16⟩
  | .hbm, ⟨11, _⟩ => ⟨S8x8192x192, .f32⟩
  | .hbm, ⟨12, _⟩ => ⟨S_, .i32⟩
  | .hbm, ⟨13, _⟩ => ⟨S_, .f32⟩
  | .hbm, ⟨14, _⟩ => ⟨S8x8192x256, .f32⟩
  | .hbm, ⟨15, _⟩ => ⟨S8x8192x256, .bf16⟩
  | .hbm, ⟨16, _⟩ => ⟨S8x8192x128, .f32⟩
  | .hbm, ⟨17, _⟩ => ⟨S8x8192x128, .bf16⟩
  | .hbm, ⟨18, _⟩ => ⟨S8192x1024, .bf16⟩
  | .hbm, ⟨19, _⟩ => ⟨S8x8x1x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1x1024, .f32⟩
  | .local _ .vmem, ⟨9, _⟩ => ⟨S1x1x1x1024, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  ⟨c0_i32, v9, c1_i32_4⟩
def k0_mult1 (i : grid0.Coords) (k0_t1 : Fin (k0_t1_loop i).trips) : BitVec 32 :=
  let c0_i32 : BitVec 32 := 0#32
  let c1_i32_4 : BitVec 32 := 1#32
  let arg7 : BitVec 32 := Scf.iv c0_i32 c1_i32_4 k0_t1
  let c1024_i32_21 : BitVec 32 := 1024#32
  let v56 : BitVec 32 := Scalar.muli arg7 c1024_i32_21
  v56
def k0_off1 (i : grid0.Coords) (k0_t1 : Fin (k0_t1_loop i).trips) : Fin 3 → Nat :=
  let c0_22 : Index := 0#32
  let c0_i32 : BitVec 32 := 0#32
  let c1_i32_4 : BitVec 32 := 1#32
  let arg7 : BitVec 32 := Scf.iv c0_i32 c1_i32_4 k0_t1
  let c1024_i32_21 : BitVec 32 := 1024#32
  let v56 : BitVec 32 := Scalar.muli arg7 c1024_i32_21
  let v57 : BitVec 32 := v56
  let v58 : Index := Scalar.indexCast v57
  let c0_23 : Index := 0#32
  ![0, v58.toNat, 0]
def k0_off2 (i : grid0.Coords) (k0_t1 : Fin (k0_t1_loop i).trips) : Fin 3 → Nat :=
  let c0_27 : Index := 0#32
  let c0_i32 : BitVec 32 := 0#32
  let c1_i32_4 : BitVec 32 := 1#32
  let arg7 : BitVec 32 := Scf.iv c0_i32 c1_i32_4 k0_t1
  let c1024_i32_21 : BitVec 32 := 1024#32
  let v56 : BitVec 32 := Scalar.muli arg7 c1024_i32_21
  let v57 : BitVec 32 := v56
  let v77 : Index := Scalar.indexCast v57
  let c0_28 : Index := 0#32
  ![0, v77.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_5 : BitVec 32 := 1#32
  ⟨v9, v6, c1_i32_5⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_21 : BitVec 32 := 1024#32
  let v56 : BitVec 32 := Scalar.muli arg7 c1024_i32_21
  v56
def k0_off3 (i : grid0.Coords) (k0_t2 : Fin (k0_t2_loop i).trips) : Fin 3 → Nat :=
  let c0_22 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_21 : BitVec 32 := 1024#32
  let v56 : BitVec 32 := Scalar.muli arg7 c1024_i32_21
  let v57 : BitVec 32 := v56
  let v58 : Index := Scalar.indexCast v57
  let c0_23 : Index := 0#32
  ![0, v58.toNat, 0]
def k0_off4 (i : grid0.Coords) (k0_t2 : Fin (k0_t2_loop i).trips) : Fin 3 → Nat :=
  let c0_27 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_5 : BitVec 32 := 1#32
  let arg7 : BitVec 32 := Scf.iv v9 c1_i32_5 k0_t2
  let c1024_i32_21 : BitVec 32 := 1024#32
  let v56 : BitVec 32 := Scalar.muli arg7 c1024_i32_21
  let v57 : BitVec 32 := v56
  let v77 : Index := Scalar.indexCast v57
  let c0_28 : Index := 0#32
  ![0, v77.toNat, 0]
def k0_mult3 (i : grid0.Coords) : BitVec 32 :=
  let arg1 : BitVec 32 := BitVec.ofNat 32 (i 1).val
  let c1024_i32 : BitVec 32 := 1024#32
  let v12 : BitVec 32 := Scalar.muli arg1 c1024_i32
  v12
def k0_off5 (i : grid0.Coords) : Fin 3 → Nat :=
  let c0_6 : Index := 0#32
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_7 : Index := 0#32
  ![0, v14.toNat, 0]
def k0_off6 (i : grid0.Coords) : Fin 3 → Nat :=
  let c0_12 : Index := 0#32
  let arg1 : BitVec 32 := BitVec.ofNat 32 (i 1).val
  let c1024_i32 : BitVec 32 := 1024#32
  let v12 : BitVec 32 := Scalar.muli arg1 c1024_i32
  let v13 : BitVec 32 := v12
  let v38 : Index := Scalar.indexCast v13
  let c0_13 : Index := 0#32
  ![0, v38.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFIdeal.lean ====
variable {F : FTy → Type} [FloatOps F] [Named F]
def κ : String → Option EReal := fun
  | "mask" => some ⊥
  | _ => none
-- ==== FlashFRefIdeal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8x8x1x1024 : Shape := ⟨4, ![8, 8, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x128x8192, .f32⟩
  | .hbm, ⟨34, _⟩ => ⟨S8192x8x128, .f32⟩
  | .hbm, ⟨35, _⟩ => ⟨S8192x1024, .f32⟩
  | .hbm, ⟨36, _⟩ => ⟨S8192x1024, .bf16⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S8x8x1x1024, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Mla.lean ====
abbrev S8x8192x192 : Shape := ⟨3, ![8, 8192, 192]⟩
abbrev S8x8192x128 : Shape := ⟨3, ![8, 8192, 128]⟩
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S512 : Shape := ⟨1, ![512]⟩
abbrev S256 : Shape := ⟨1, ![256]⟩
abbrev S512x8x192 : Shape := ⟨3, ![512, 8, 192]⟩
abbrev S256x8x256 : Shape := ⟨3, ![256, 8, 256]⟩
abbrev S_ : Shape := ⟨0, ![]⟩
abbrev S512x8x256 : Shape := ⟨3, ![512, 8, 256]⟩
abbrev S512x2048 : Shape := ⟨2, ![512, 2048]⟩
abbrev S256x2048 : Shape := ⟨2, ![256, 2048]⟩
abbrev S8x8192x256 : Shape := ⟨3, ![8, 8192, 256]⟩
abbrev S8192x2560 : Shape := ⟨2, ![8192, 2560]⟩
abbrev S8192x128 : Shape := ⟨2, ![8192, 128]⟩
abbrev S8192x3456 : Shape := ⟨2, ![8192, 3456]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x512 : Shape := ⟨2, ![1, 512]⟩
abbrev S1x256 : Shape := ⟨2, ![1, 256]⟩
abbrev S8192x2048 : Shape := ⟨2, ![8192, 2048]⟩
abbrev S8x512x256 : Shape := ⟨3, ![8, 512, 256]⟩
abbrev S8x512x128 : Shape := ⟨3, ![8, 512, 128]⟩
abbrev S512x512 : Shape := ⟨2, ![512, 512]⟩
abbrev S512x256 : Shape := ⟨2, ![512, 256]⟩
abbrev S512x128 : Shape := ⟨2, ![512, 128]⟩
abbrev S1x512x128 : Shape := ⟨3, ![1, 512, 128]⟩
abbrev S512x1 : Shape := ⟨2, ![512, 1]⟩

abbrev nBuf : Space → Nat
  | .hbm => 74
  | .vmem => 36
  | .smem => 0
  | _ => 0

abbrev bufTy : (tb : Table) → Fin (tcTables nBuf tb) → BufTy
  | .hbm, ⟨0, _⟩ => ⟨S8x8192x192, .f32⟩
  | .hbm, ⟨1, _⟩ => ⟨S8x8192x192, .f32⟩
  | .hbm, ⟨2, _⟩ => ⟨S8x8192x128, .f32⟩
  | .hbm, ⟨3, _⟩ => ⟨S8192x512, .f32⟩
  | .hbm, ⟨4, _⟩ => ⟨S8192x256, .f32⟩
  | .hbm, ⟨5, _⟩ => ⟨S8192x64, .f32⟩
  | .hbm, ⟨6, _⟩ => ⟨S8192, .i32⟩
  | .hbm, ⟨7, _⟩ => ⟨S512, .f32⟩
  | .hbm, ⟨8, _⟩ => ⟨S256, .f32⟩
  | .hbm, ⟨9, _⟩ => ⟨S512x8x192, .f32⟩
  | .hbm, ⟨10, _⟩ => ⟨S256x8x256, .f32⟩
  | .hbm, ⟨11, _⟩ => ⟨S512x8x192, .bf16⟩
  | .hbm, ⟨12, _⟩ => ⟨S_, .i32⟩
  | .hbm, ⟨13, _⟩ => ⟨S_, .bf16⟩
  | .hbm, ⟨14, _⟩ => ⟨S512x8x256, .bf16⟩
  | .hbm, ⟨15, _⟩ => ⟨S512x2048, .bf16⟩
  | .hbm, ⟨16, _⟩ => ⟨S256x8x256, .bf16⟩
  | .hbm, ⟨17, _⟩ => ⟨S256x2048, .bf16⟩
  | .hbm, ⟨18, _⟩ => ⟨S8x8192x192, .bf16⟩
  | .hbm, ⟨19, _⟩ => ⟨S_, .i32⟩
  | .hbm, ⟨20, _⟩ => ⟨S_, .bf16⟩
  | .hbm, ⟨21, _⟩ => ⟨S8x8192x256, .bf16⟩
  | .hbm, ⟨22, _⟩ => ⟨S8x8192x192, .bf16⟩
  | .hbm, ⟨23, _⟩ => ⟨S_, .i32⟩
  | .hbm, ⟨24, _⟩ => ⟨S_, .bf16⟩
  | .hbm, ⟨25, _⟩ => ⟨S8x8192x256, .bf16⟩
  | .hbm, ⟨26, _⟩ => ⟨S8x8192x128, .bf16⟩
  | .hbm, ⟨27, _⟩ => ⟨S_, .f32⟩
  | .hbm, ⟨28, _⟩ => ⟨S8192x2560, .f32⟩
  | .hbm, ⟨29, _⟩ => ⟨S_, .i32⟩
  | .hbm, ⟨30, _⟩ => ⟨S_, .f32⟩
  | .hbm, ⟨31, _⟩ => ⟨S8192x128, .f32⟩
  | .hbm, ⟨32, _⟩ => ⟨S8192x3456, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S8192, .f32⟩
  | .hbm, ⟨50, _⟩ => ⟨S8192x1, .f32⟩
  | .hbm, ⟨51, _⟩ => ⟨S1x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S8192x32, .f32⟩
  | .hbm, ⟨56, _⟩ => ⟨S8192x32, .f32⟩
  | .hbm, ⟨57, _⟩ => ⟨S_, .f32⟩
  | .hbm, ⟨58, _⟩ => ⟨S8192x32, .f32⟩
  | .hbm, ⟨59, _⟩ => ⟨S8192x128, .f32⟩
  | .hbm, ⟨60, _⟩ => ⟨S8192x32, .f32⟩
  | .hbm, ⟨61, _⟩ => ⟨S8192x128, .f32⟩
  | .hbm, ⟨62, _⟩ => ⟨S8192x128, .f32⟩
  | .hbm, ⟨63, _⟩ => ⟨S1x512, .f32⟩
  | .hbm, ⟨64, _⟩ => ⟨S1x256, .f32⟩
  | .hbm, ⟨65, _⟩ => ⟨S8192x512, .bf16⟩
  | .hbm, ⟨66, _⟩ => ⟨S8192x256, .bf16⟩
  | .hbm, ⟨67, _⟩ => ⟨S8192x128, .bf16⟩
  | .hbm, ⟨68, _⟩ => ⟨S8192x2048, .bf16⟩
  | .hbm, ⟨69, _⟩ => ⟨S8192x2048, .bf16⟩
  | .hbm, ⟨70, _⟩ => ⟨S8192x512, .bf16⟩
  | .hbm, ⟨71, _⟩ => ⟨S8192x256, .bf16⟩
  | .hbm, ⟨72, _⟩ => ⟨S1x512, .f32⟩
  | .hbm, ⟨73, _⟩ => ⟨S1x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S8x512x128, .bf16⟩
  | .local _ .vmem, ⟨5, _⟩ => ⟨S8x512x128, .bf16⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512, .f32⟩
  | .local _ .vmem, ⟨17, _⟩ => ⟨S1x256, .f32⟩
  | .local _ .vmem, ⟨18, _⟩ => ⟨S512x2048, .bf16⟩
  | .local _ .vmem, ⟨19, _⟩ => ⟨S256x2048, .bf16⟩
  | .local _ .vmem, ⟨20, _⟩ => ⟨S512x512, .bf16⟩
  | .local _ .vmem, ⟨21, _⟩ => ⟨S512x512, .bf16⟩
  | .local _ .vmem, ⟨22, _⟩ => ⟨S512x256, .bf16⟩
  | .local _ .vmem, ⟨23, _⟩ => ⟨S512x256, .bf16⟩
  | .local _ .vmem, ⟨24, _⟩ => ⟨S512x128, .bf16⟩
  | .local _ .vmem, ⟨25, _⟩ => ⟨S512x128, .bf16⟩
  | .local _ .vmem, ⟨26, _⟩ => ⟨S512x2048, .bf16⟩
  | .local _ .vmem, ⟨27, _⟩ => ⟨S512x2048, .bf16⟩
  | .local _ .vmem, ⟨28, _⟩ => ⟨S512x2048, .bf16⟩
  | .local _ .vmem, ⟨29, _⟩ => ⟨S512x2048, .bf16⟩
  | .local _ .vmem, ⟨30, _⟩ => ⟨S512x512, .bf16⟩
  | .local _ .vmem, ⟨31, _⟩ => ⟨S512x512, .bf16⟩
  | .local _ .vmem, ⟨32, _⟩ => ⟨S512x256, .bf16⟩
  | .local _ .vmem, ⟨33, _⟩ => ⟨S512x256, .bf16⟩
  | .local _ .vmem, ⟨34, _⟩ => ⟨S1x512, .f32⟩
  | .local _ .vmem, ⟨35, _⟩ => ⟨S1x256, .f32⟩
  | _, _ => ⟨S8x8192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_call2_v0 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_c_2 : Ref sig .tc := ⟨.hbm, 29, rfl⟩
abbrev main_call3_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39_0 : Ref sig .tc := ⟨.hbm, 65, rfl⟩
abbrev main_v39_1 : Ref sig .tc := ⟨.hbm, 66, rfl⟩
abbrev main_v39_2 : Ref sig .tc := ⟨.hbm, 67, rfl⟩
abbrev main_v39_3 : Ref sig .tc := ⟨.hbm, 68, rfl⟩
abbrev main_v39_4 : Ref sig .tc := ⟨.hbm, 69, rfl⟩
abbrev main_v39_5 : Ref sig .tc := ⟨.hbm, 70, rfl⟩
abbrev main_v39_6 : Ref sig .tc := ⟨.hbm, 71, rfl⟩
abbrev main_v39_7 : Ref sig .tc := ⟨.hbm, 72, rfl⟩
abbrev main_v39_8 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MlaRefIdeal.lean ====
abbrev S8x8192x192 : Shape := ⟨3, ![8, 8192, 192]⟩
abbrev S8x8192x128 : Shape := ⟨3, ![8, 8192, 128]⟩
abbrev S8192x512 : Shape := ⟨2, ![8192, 512]⟩
abbrev S8192x256 : Shape := ⟨2, ![8192, 256]⟩
abbrev S8192x64 : Shape := ⟨2, ![8192, 64]⟩
abbrev S8192 : Shape := ⟨1, ![8192]⟩
abbrev S512 : Shape := ⟨1, ![512]⟩
abbrev S256 : Shape := ⟨1, ![256]⟩
abbrev S512x8x192 : Shape := ⟨3, ![512, 8, 192]⟩
abbrev S256x8x256 : Shape := ⟨3, ![256, 8, 256]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x192 : Shape := ⟨3, ![8192, 8, 192]⟩
abbrev S8192x8x256 : Shape := ⟨3, ![8192, 8, 256]⟩
abbrev S1x512 : Shape := ⟨2, ![1, 512]⟩
abbrev S1x256 : Shape := ⟨2, ![1, 256]⟩
abbrev S8192x8x128 : Shape := ⟨3, ![8192, 8, 128]⟩
abbrev S8192x8x64 : Shape := ⟨3, ![8192, 8, 64]⟩
abbrev S8192x8x32 : Shape := ⟨3, ![8192, 8, 32]⟩
abbrev S8192x1x64 : Shape := ⟨3, ![8192, 1, 64]⟩
abbrev S8192x128 : Shape := ⟨2, ![8192, 128]⟩
abbrev S8192x2048 : Shape := ⟨2, ![8192, 2048]⟩

abbrev nBuf : Space → Nat
  | .hbm => 247
  | .vmem => 0
  | .smem => 0
  | _ => 0

abbrev hbmTy0_0 (i : Nat) : BufTy := match i % 128 with
  | 0 => ⟨S8x8192x192, .f32⟩
  | 1 => ⟨S8x8192x192, .f32⟩
  | 2 => ⟨S8x8192x128, .f32⟩
  | 3 => ⟨S8192x512, .f32⟩
  | 4 => ⟨S8192x256, .f32⟩
  | 5 => ⟨S8192x64, .f32⟩
  | 6 => ⟨S8192, .i32⟩
  | 7 => ⟨S512, .f32⟩
  | 8 => ⟨S256, .f32⟩
  | 9 => ⟨S512x8x192, .f32⟩
  | 10 => ⟨S256x8x256, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S8192, .f32⟩
  | 28 => ⟨S8192x1, .f32⟩
  | 29 => ⟨S1x32, .f32⟩
  | 30 => ⟨S8192x32, .f32⟩
  | 31 => ⟨S8192x32, .f32⟩
  | 32 => ⟨S8192x32, .f32⟩
  | 33 => ⟨S8192x32, .f32⟩
  | 34 => ⟨S8192x1x32, .f32⟩
  | 35 => ⟨S8192x32, .f32⟩
  | 36 => ⟨S8192x1x32, .f32⟩
  | 37 => ⟨S_, .f32⟩
  | 38 => ⟨S8192x8x192, .f32⟩
  | 39 => ⟨S_, .f32⟩
  | 40 => ⟨S8192x8x256, .f32⟩
  | 41 => ⟨S8192x512, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x512, .f32⟩
  | 57 => ⟨S8192x512, .f32⟩
  | 58 => ⟨S1x512, .f32⟩
  | 59 => ⟨S8192x512, .f32⟩
  | 60 => ⟨S8192x512, .f32⟩
  | 61 => ⟨S8192x256, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x256, .f32⟩
  | 77 => ⟨S8192x256, .f32⟩
  | 78 => ⟨S1x256, .f32⟩
  | 79 => ⟨S8192x256, .f32⟩
  | 80 => ⟨S8192x256, .f32⟩
  | 81 => ⟨S8192x8x192, .f32⟩
  | 82 => ⟨S8192x8x192, .f32⟩
  | 83 => ⟨S8192x8x128, .f32⟩
  | 84 => ⟨S8192x8x64, .f32⟩
  | 85 => ⟨S8192x8x32, .f32⟩
  | 86 => ⟨S8192x8x32, .f32⟩
  | 87 => ⟨S8192x8x32, .f32⟩
  | 88 => ⟨S8192x8x32, .f32⟩
  | 89 => ⟨S8192x8x32, .f32⟩
  | 90 => ⟨S8192x8x32, .f32⟩
  | 91 => ⟨S8192x8x32, .f32⟩
  | 92 => ⟨S8192x8x32, .f32⟩
  | 93 => ⟨S8192x8x32, .f32⟩
  | 94 => ⟨S8192x8x32, .f32⟩
  | 95 => ⟨S8192x8x32, .f32⟩
  | 96 => ⟨S8192x8x32, .f32⟩
  | 97 => ⟨S8192x8x64, .f32⟩
  | 98 => ⟨S8192x8x192, .f32⟩
  | 99 => ⟨S8192x8x256, .f32⟩
  | 100 => ⟨S8192x8x256, .f32⟩
  | 101 => ⟨S8192x8x128, .f32⟩
  | 102 => ⟨S8192x8x128, .f32⟩
  | 103 => ⟨S8192x1x64, .f32⟩
  | 104 => ⟨S8192x1x32, .f32⟩
  | 105 => ⟨S8192x1x32, .f32⟩
  | 106 => ⟨S8192x1x32, .f32⟩
  | 107 => ⟨S8192x1x32, .f32⟩
  | 108 => ⟨S8192x1x32, .f32⟩
  | 109 => ⟨S8192x1x32, .f32⟩
  | 110 => ⟨S8192x1x32, .f32⟩
  | 111 => ⟨S8192x1x32, .f32⟩
  | 112 => ⟨S8192x1x64, .f32⟩
  | 113 => ⟨S8192x8x64, .f32⟩
  | 114 => ⟨S8192x8x192, .f32⟩
  | 115 => ⟨S8x8192x192, .f32⟩
  | 116 => ⟨S_, .f32⟩
  | 117 => ⟨S8x8192x192, .f32⟩
  | 118 => ⟨S8x8192x192, .f32⟩
  | 119 => ⟨S8x8192x192, .f32⟩
  | 120 => ⟨S8x8192x128, .f32⟩
  | 121 => ⟨S8192x8x128, .f32⟩
  | 122 => ⟨S8192x8x192, .f32⟩
  | 123 => ⟨S_, .f32⟩
  | 124 => ⟨S8x8192x192, .f32⟩
  | 125 => ⟨S8x8192x192, .f32⟩
  | 126 => ⟨S8192x8x192, .f32⟩
  | 127 => ⟨S8192x8x128, .f32⟩
  | _ => ⟨S8x8192x192, .f32⟩

abbrev hbmTy0_1 (i : Nat) : BufTy := match i % 128 with
  | 0 => ⟨S8192x8x64, .f32⟩
  | 1 => ⟨S_, .f32⟩
  | 2 => ⟨S8192x64, .f32⟩
  | 3 => ⟨S8192x1x64, .f32⟩
  | 4 => ⟨S8192x1x32, .f32⟩
  | 5 => ⟨S8192x1x32, .f32⟩
  | 6 => ⟨S8192x1x32, .f32⟩
  | 7 => ⟨S8192x1x32, .f32⟩
  | 8 => ⟨S8192x1x32, .f32⟩
  | 9 => ⟨S8192x1x32, .f32⟩
  | 10 => ⟨S8192x1x32, .f32⟩
  | 11 => ⟨S8192x1x32, .f32⟩
  | 12 => ⟨S8192x1x32, .f32⟩
  | 13 => ⟨S_, .f32⟩
  | 14 => ⟨S8192x1x64, .f32⟩
  | 15 => ⟨S_, .f32⟩
  | 16 => ⟨S8192x1x64, .f32⟩
  | 17 => ⟨S8192x1x64, .f32⟩
  | 18 => ⟨S_, .f32⟩
  | 19 => ⟨S8192x64, .f32⟩
  | 20 => ⟨S_, .f32⟩
  | 21 => ⟨S8192x8x256, .f32⟩
  | 22 => ⟨S_, .f32⟩
  | 23 => ⟨S8192x8x256, .f32⟩
  | 24 => ⟨S8192x8x256, .f32⟩
  | 25 => ⟨S8192x256, .f32⟩
  | 26 => ⟨S8192x8x128, .f32⟩
  | 27 => ⟨S8192x8x64, .f32⟩
  | 28 => ⟨S8192x8x32, .f32⟩
  | 29 => ⟨S8192x8x32, .f32⟩
  | 30 => ⟨S8192x8x32, .f32⟩
  | 31 => ⟨S8192x8x32, .f32⟩
  | 32 => ⟨S8192x8x32, .f32⟩
  | 33 => ⟨S8192x8x32, .f32⟩
  | 34 => ⟨S8192x8x32, .f32⟩
  | 35 => ⟨S8192x8x32, .f32⟩
  | 36 => ⟨S8192x8x32, .f32⟩
  | 37 => ⟨S8192x8x32, .f32⟩
  | 38 => ⟨S8192x8x32, .f32⟩
  | 39 => ⟨S8192x8x32, .f32⟩
  | 40 => ⟨S8192x8x32, .f32⟩
  | 41 => ⟨S_, .f32⟩
  | 42 => ⟨S8192x8x64, .f32⟩
  | 43 => ⟨S_, .f32⟩
  | 44 => ⟨S8192x8x64, .f32⟩
  | 45 => ⟨S8192x8x64, .f32⟩
  | 46 => ⟨S_, .f32⟩
  | 47 => ⟨S8192x8x192, .f32⟩
  | 48 => ⟨S_, .f32⟩
  | 49 => ⟨S8192x8x192, .f32⟩
  | 50 => ⟨S8192x8x192, .f32⟩
  | 51 => ⟨S8192x512, .f32⟩
  | 52 => ⟨S8192x256, .f32⟩
  | 53 => ⟨S_, .f32⟩
  | 54 => ⟨S256, .f32⟩
  | 55 => ⟨S1x256, .f32⟩
  | 56 => ⟨S8192x256, .f32⟩
  | 57 => ⟨S8192x256, .f32⟩
  | 58 => ⟨S_, .f32⟩
  | 59 => ⟨S256, .f32⟩
  | 60 => ⟨S8192x256, .f32⟩
  | 61 => ⟨S_, .f32⟩
  | 62 => ⟨S8192, .f32⟩
  | 63 => ⟨S8192x1, .f32⟩
  | 64 => ⟨S8192x256, .f32⟩
  | 65 => ⟨S8192x256, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S8192x512, .f32⟩
  | 78 => ⟨S_, .f32⟩
  | 79 => ⟨S512, .f32⟩
  | 80 => ⟨S1x512, .f32⟩
  | 81 => ⟨S8192x512, .f32⟩
  | 82 => ⟨S8192x512, .f32⟩
  | 83 => ⟨S_, .f32⟩
  | 84 => ⟨S512, .f32⟩
  | 85 => ⟨S8192x512, .f32⟩
  | 86 => ⟨S_, .f32⟩
  | 87 => ⟨S8192, .f32⟩
  | 88 => ⟨S8192x1, .f32⟩
  | 89 => ⟨S8192x512, .f32⟩
  | 90 => ⟨S8192x512, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S8192x512, .bf16⟩
  | 103 => ⟨S8192x256, .bf16⟩
  | 104 => ⟨S_, .i32⟩
  | 105 => ⟨S_, .f32⟩
  | 106 => ⟨S8192x128, .f32⟩
  | 107 => ⟨S8192x128, .bf16⟩
  | 108 => ⟨S_, .i32⟩
  | 109 => ⟨S_, .f32⟩
  | 110 => ⟨S8192x8x256, .f32⟩
  | 111 => ⟨S8192x2048, .f32⟩
  | 112 => ⟨S8192x2048, .bf16⟩
  | 113 => ⟨S8192x2048, .f32⟩
  | 114 => ⟨S8192x2048, .bf16⟩
  | 115 => ⟨S8192x512, .bf16⟩
  | 116 => ⟨S8192x256, .bf16⟩
  | 117 => ⟨S1x512, .f32⟩
  | 118 => ⟨S1x256, .f32⟩
  | _ => ⟨S8x8192x192, .f32⟩

abbrev hbmTy (i : Nat) : BufTy := match i / 128 with
  | 0 => hbmTy0_0 i
  | 1 => hbmTy0_1 i
  | _ => ⟨S8x8192x192, .f32⟩

abbrev bufTy : (tb : Table) → Fin (tcTables nBuf tb) → BufTy
  | .hbm, ⟨i, _⟩ => hbmTy i
  | _, _ => ⟨S8x8192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_15 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_16 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_cst_17 : Ref sig .tc := ⟨.hbm, 141, rfl⟩
abbrev main_v112 : Ref sig .tc := ⟨.hbm, 142, rfl⟩
abbrev main_cst_18 : Ref sig .tc := ⟨.hbm, 143, rfl⟩
abbrev main_v113 : Ref sig .tc := ⟨.hbm, 144, rfl⟩
abbrev main_v114 : Ref sig .tc := ⟨.hbm, 145, rfl⟩
abbrev main_cst_19 : Ref sig .tc := ⟨.hbm, 146, rfl⟩
abbrev main_v115 : Ref sig .tc := ⟨.hbm, 147, rfl⟩
abbrev main_cst_20 : Ref sig .tc := ⟨.hbm, 148, rfl⟩
abbrev main_v116 : Ref sig .tc := ⟨.hbm, 149, rfl⟩
abbrev main_cst_21 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_22 : Ref sig .tc := ⟨.hbm, 169, rfl⟩
abbrev main_v135 : Ref sig .tc := ⟨.hbm, 170, rfl⟩
abbrev main_cst_23 : Ref sig .tc := ⟨.hbm, 171, rfl⟩
abbrev main_v136 : Ref sig .tc := ⟨.hbm, 172, rfl⟩
abbrev main_v137 : Ref sig .tc := ⟨.hbm, 173, rfl⟩
abbrev main_cst_24 : Ref sig .tc := ⟨.hbm, 174, rfl⟩
abbrev main_v138 : Ref sig .tc := ⟨.hbm, 175, rfl⟩
abbrev main_cst_25 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_27 : Ref sig .tc := ⟨.hbm, 186, rfl⟩
abbrev main_v147 : Ref sig .tc := ⟨.hbm, 187, rfl⟩
abbrev main_v148 : Ref sig .tc := ⟨.hbm, 188, rfl⟩
abbrev main_cst_28 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_29 : Ref sig .tc := ⟨.hbm, 195, rfl⟩
abbrev main_v154 : Ref sig .tc := ⟨.hbm, 196, rfl⟩
abbrev main_v155 : Ref sig .tc := ⟨.hbm, 197, rfl⟩
abbrev main_cst_30 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_31 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_32 : Ref sig .tc := ⟨.hbm, 211, rfl⟩
abbrev main_v167 : Ref sig .tc := ⟨.hbm, 212, rfl⟩
abbrev main_v168 : Ref sig .tc := ⟨.hbm, 213, rfl⟩
abbrev main_cst_33 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_34 : Ref sig .tc := ⟨.hbm, 220, rfl⟩
abbrev main_v174 : Ref sig .tc := ⟨.hbm, 221, rfl⟩
abbrev main_v175 : Ref sig .tc := ⟨.hbm, 222, rfl⟩
abbrev main_cst_35 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_c : Ref sig .tc := ⟨.hbm, 232, rfl⟩
abbrev main_call0_v0 : Ref sig .tc := ⟨.hbm, 233, rfl⟩
abbrev main_v184 : Ref sig .tc := ⟨.hbm, 234, rfl⟩
abbrev main_v185 : Ref sig .tc := ⟨.hbm, 235, rfl⟩
abbrev main_c_36 : Ref sig .tc := ⟨.hbm, 236, rfl⟩
abbrev main_call1_v0 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S8x352x1024 : Shape := ⟨3, ![8, 352, 1024]⟩
abbrev S8x384x1024 : Shape := ⟨3, ![8, 384, 1024]⟩
abbrev S1x1024 : Shape := ⟨2, ![1, 1024]⟩
abbrev S8192 : Shape := ⟨1, ![8192]⟩
abbrev S8192x1 : Shape := ⟨2, ![8192, 1]⟩
abbrev S4x2x1024x384 : Shape := ⟨4, ![4, 2, 1024, 384]⟩
abbrev S4x1024x2x384 : Shape := ⟨4, ![4, 1024, 2, 384]⟩
abbrev S4x1024x768 : Shape := ⟨3, ![4, 1024, 768]⟩
abbrev S4x768x8192 : Shape := ⟨3, ![4, 768, 8192]⟩
abbrev S4x8192x768 : Shape := ⟨3, ![4, 8192, 768]⟩
abbrev S512x1024 : Shape := ⟨2, ![512, 1024]⟩
abbrev S1x512x768 : Shape := ⟨3, ![1, 512, 768]⟩
abbrev S2x1024x384 : Shape := ⟨3, ![2, 1024, 384]⟩
abbrev S2x384x1024 : Shape := ⟨3, ![2, 384, 1024]⟩
abbrev S512x768 : Shape := ⟨2, ![512, 768]⟩
abbrev S1x384x1024 : Shape := ⟨3, ![1, 384, 1024]⟩
abbrev S384x1024 : Shape := ⟨2, ![384, 1024]⟩
abbrev S768x1024 : Shape := ⟨2, ![768, 1024]⟩
abbrev S1x1024x384 : Shape := ⟨3, ![1, 1024, 384]⟩
abbrev S1024x384 : Shape := ⟨2, ![1024, 384]⟩
abbrev S1024x768 : Shape := ⟨2, ![1024, 768]⟩
abbrev S512 : Shape := ⟨1, ![512]⟩
abbrev S512x1 : Shape := ⟨2, ![512, 1]⟩

abbrev nBuf : Space → Nat
  | .hbm => 56
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x8x352, .bf16⟩
  | .hbm, ⟨8, _⟩ => ⟨S8x1024x352, .bf16⟩
  | .hbm, ⟨9, _⟩ => ⟨S_, .i32⟩
  | .hbm, ⟨10, _⟩ => ⟨S_, .bf16⟩
  | .hbm, ⟨11, _⟩ => ⟨S8x1024x384, .bf16⟩
  | .hbm, ⟨12, _⟩ => ⟨S1024x2816, .bf16⟩
  | .hbm, ⟨13, _⟩ => ⟨S1024x8x352, .bf16⟩
  | .hbm, ⟨14, _⟩ => ⟨S8x1024x352, .bf16⟩
  | .hbm, ⟨15, _⟩ => ⟨S_, .i32⟩
  | .hbm, ⟨16, _⟩ => ⟨S_, .bf16⟩
  | .hbm, ⟨17, _⟩ => ⟨S8x1024x384, .bf16⟩
  | .hbm, ⟨18, _⟩ => ⟨S2816x1024, .bf16⟩
  | .hbm, ⟨19, _⟩ => ⟨S8x352x1024, .bf16⟩
  | .hbm, ⟨20, _⟩ => ⟨S_, .i32⟩
  | .hbm, ⟨21, _⟩ => ⟨S_, .bf16⟩
  | .hbm, ⟨22, _⟩ => ⟨S8x384x1024, .bf16⟩
  | .hbm, ⟨23, _⟩ => ⟨S1x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S4x2x1024x384, .bf16⟩
  | .hbm, ⟨41, _⟩ => ⟨S4x1024x2x384, .bf16⟩
  | .hbm, ⟨42, _⟩ => ⟨S4x1024x768, .bf16⟩
  | .hbm, ⟨43, _⟩ => ⟨S4x768x8192, .f32⟩
  | .hbm, ⟨44, _⟩ => ⟨S4x8192x768, .f32⟩
  | .hbm, ⟨45, _⟩ => ⟨S4x2x1024x384, .bf16⟩
  | .hbm, ⟨46, _⟩ => ⟨S4x1024x2x384, .bf16⟩
  | .hbm, ⟨47, _⟩ => ⟨S4x1024x768, .bf16⟩
  | .hbm, ⟨48, _⟩ => ⟨S4x768x8192, .f32⟩
  | .hbm, ⟨49, _⟩ => ⟨S4x8192x768, .f32⟩
  | .hbm, ⟨50, _⟩ => ⟨S4x8192x768, .bf16⟩
  | .hbm, ⟨51, _⟩ => ⟨S4x8192x768, .bf16⟩
  | .hbm, ⟨52, _⟩ => ⟨S4x8192x768, .bf16⟩
  | .hbm, ⟨53, _⟩ => ⟨S8192x1024, .bf16⟩
  | .hbm, ⟨54, _⟩ => ⟨S8192x1024, .f32⟩
  | .hbm, ⟨55, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S2x1024x384, .bf16⟩
  | .local _ .vmem, ⟨10, _⟩ => ⟨S2x1024x384, .bf16⟩
  | .local _ .vmem, ⟨11, _⟩ => ⟨S2x1024x384, .bf16⟩
  | .local _ .vmem, ⟨12, _⟩ => ⟨S2x1024x384, .bf16⟩
  | .local _ .vmem, ⟨13, _⟩ => ⟨S2x384x1024, .bf16⟩
  | .local _ .vmem, ⟨14, _⟩ => ⟨S2x384x1024, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x768, .bf16⟩
  | .local _ .vmem, ⟨18, _⟩ => ⟨S1x512x768, .bf16⟩
  | .local _ .vmem, ⟨19, _⟩ => ⟨S1x512x768, .bf16⟩
  | .local _ .vmem, ⟨20, _⟩ => ⟨S1x512x768, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S512x1024, .bf16⟩
  | .local _ .vmem, ⟨27, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35_0 : Ref sig .tc := ⟨.hbm, 50, rfl⟩
abbrev main_v35_1 : Ref sig .tc := ⟨.hbm, 51, rfl⟩
abbrev main_v35_2 : Ref sig .tc := ⟨.hbm, 52, rfl⟩
abbrev main_v35_3 : Ref sig .tc := ⟨.hbm, 53, rfl⟩
abbrev main_v35_4 : Ref sig .tc := ⟨.hbm, 54, rfl⟩
abbrev main_v35_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v67 : BitVec 1 := Scalar.cmpi .eq arg1 c3_i32
  let v68 : BitVec 32 := Scalar.extui v67
  let c0_i32_48 : BitVec 32 := 0#32
  let v69 : BitVec 1 := Scalar.cmpi .ne v68 c0_i32_48
  v69

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1024x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S8192x8x352 : Shape := ⟨3, ![8192, 8, 352]⟩
abbrev S8192x8x384 : Shape := ⟨3, ![8192, 8, 384]⟩
abbrev S8192x4x768 : Shape := ⟨3, ![8192, 4, 768]⟩
abbrev S4x8192x768 : Shape := ⟨3, ![4, 8192, 768]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S8192x2816, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x8x352, .f32⟩
  | .hbm, ⟨86, _⟩ => ⟨S_, .i32⟩
  | .hbm, ⟨87, _⟩ => ⟨S_, .f32⟩
  | .hbm, ⟨88, _⟩ => ⟨S8192x8x384, .f32⟩
  | .hbm, ⟨89, _⟩ => ⟨S8192x4x768, .f32⟩
  | .hbm, ⟨90, _⟩ => ⟨S4x8192x768, .f32⟩
  | .hbm, ⟨91, _⟩ => ⟨S4x8192x768, .bf16⟩
  | .hbm, ⟨92, _⟩ => ⟨S8192x8x352, .f32⟩
  | .hbm, ⟨93, _⟩ => ⟨S_, .i32⟩
  | .hbm, ⟨94, _⟩ => ⟨S_, .f32⟩
  | .hbm, ⟨95, _⟩ => ⟨S8192x8x384, .f32⟩
  | .hbm, ⟨96, _⟩ => ⟨S8192x4x768, .f32⟩
  | .hbm, ⟨97, _⟩ => ⟨S4x8192x768, .f32⟩
  | .hbm, ⟨98, _⟩ => ⟨S4x8192x768, .bf16⟩
  | .hbm, ⟨99, _⟩ => ⟨S8192x8x352, .f32⟩
  | .hbm, ⟨100, _⟩ => ⟨S_, .i32⟩
  | .hbm, ⟨101, _⟩ => ⟨S_, .f32⟩
  | .hbm, ⟨102, _⟩ => ⟨S8192x8x384, .f32⟩
  | .hbm, ⟨103, _⟩ => ⟨S8192x4x768, .f32⟩
  | .hbm, ⟨104, _⟩ => ⟨S4x8192x768, .f32⟩
  | .hbm, ⟨105, _⟩ => ⟨S4x8192x768, .bf16⟩
  | .hbm, ⟨106, _⟩ => ⟨S8192x1024, .bf16⟩
  | .hbm, ⟨107, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c : Ref sig .tc := ⟨.hbm, 86, rfl⟩
abbrev main_call2_v0 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_9 : Ref sig .tc := ⟨.hbm, 93, rfl⟩
abbrev main_call3_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_10 : Ref sig .tc := ⟨.hbm, 100, rfl⟩
abbrev main_call4_v0 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩

abbrev nD : Nat := 1
abbrev τ : Topo := Topo.v7x

variable {F : FTy → Type} [FloatOps F]
-- ==== Ple.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024x1024, .bf16⟩
  | .hbm, ⟨7, _⟩ => ⟨S256x1024, .bf16⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x256, .bf16⟩
  | .hbm, ⟨27, _⟩ => ⟨S8192x1024, .f32⟩
  | .hbm, ⟨28, _⟩ => ⟨S8192x1024, .bf16⟩
  | .hbm, ⟨29, _⟩ => ⟨S8192x1024, .bf16⟩
  | .hbm, ⟨30, _⟩ => ⟨S8192x1024, .bf16⟩
  | .hbm, ⟨31, _⟩ => ⟨S8192x1024, .f32⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleRefIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S8192x1024, .bf16⟩
  | .hbm, ⟨79, _⟩ => ⟨S8192x1024, .bf16⟩
  | .hbm, ⟨80, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1, .f32⟩
  | .hbm, ⟨72, _⟩ => ⟨S_, .i32⟩
  | .hbm, ⟨73, _⟩ => ⟨S_, .f32⟩
  | .hbm, ⟨74, _⟩ => ⟨S1x128, .f32⟩
  | .hbm, ⟨75, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S8192x3392 : Shape := ⟨2, ![8192, 3392]⟩
abbrev S1024x3392 : Shape := ⟨2, ![1024, 3392]⟩
abbrev S1024x1024 : Shape := ⟨2, ![1024, 1024]⟩
abbrev S1024x512 : Shape := ⟨2, ![1024, 512]⟩
abbrev S1024x256 : Shape := ⟨2, ![1024, 256]⟩
abbrev S1024x64 : Shape := ⟨2, ![1024, 64]⟩
abbrev S_ : Shape := ⟨0, ![]⟩
abbrev S1024x3456 : Shape := ⟨2, ![1024, 3456]⟩
abbrev S8192x64 : Shape := ⟨2, ![8192, 64]⟩
abbrev S8192x128 : Shape := ⟨2, ![8192, 128]⟩
abbrev S8192x512 : Shape := ⟨2, ![8192, 512]⟩
abbrev S8192x256 : Shape := ⟨2, ![8192, 256]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S1024x128 : Shape := ⟨2, ![1024, 128]⟩
abbrev S512 : Shape := ⟨1, ![512]⟩
abbrev S512x1 : Shape := ⟨2, ![512, 1]⟩

abbrev nBuf : Space → Nat
  | .hbm => 29
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x3392, .f32⟩
  | .hbm, ⟨4, _⟩ => ⟨S1024x3392, .f32⟩
  | .hbm, ⟨5, _⟩ => ⟨S1024x3392, .bf16⟩
  | .hbm, ⟨6, _⟩ => ⟨S1024x1024, .bf16⟩
  | .hbm, ⟨7, _⟩ => ⟨S1024x1024, .bf16⟩
  | .hbm, ⟨8, _⟩ => ⟨S1024x512, .bf16⟩
  | .hbm, ⟨9, _⟩ => ⟨S1024x512, .bf16⟩
  | .hbm, ⟨10, _⟩ => ⟨S1024x256, .bf16⟩
  | .hbm, ⟨11, _⟩ => ⟨S1024x64, .bf16⟩
  | .hbm, ⟨12, _⟩ => ⟨S_, .bf16⟩
  | .hbm, ⟨13, _⟩ => ⟨S1024x64, .bf16⟩
  | .hbm, ⟨14, _⟩ => ⟨S1024x3456, .bf16⟩
  | .hbm, ⟨15, _⟩ => ⟨S8192x3392, .bf16⟩
  | .hbm, ⟨16, _⟩ => ⟨S8192x64, .bf16⟩
  | .hbm, ⟨17, _⟩ => ⟨S_, .i32⟩
  | .hbm, ⟨18, _⟩ => ⟨S_, .bf16⟩
  | .hbm, ⟨19, _⟩ => ⟨S8192x128, .bf16⟩
  | .hbm, ⟨20, _⟩ => ⟨S8192x1024, .bf16⟩
  | .hbm, ⟨21, _⟩ => ⟨S8192x1024, .bf16⟩
  | .hbm, ⟨22, _⟩ => ⟨S8192x512, .bf16⟩
  | .hbm, ⟨23, _⟩ => ⟨S8192x512, .bf16⟩
  | .hbm, ⟨24, _⟩ => ⟨S8192x256, .bf16⟩
  | .hbm, ⟨25, _⟩ => ⟨S1x1024, .f32⟩
  | .hbm, ⟨26, _⟩ => ⟨S8192x1024, .f32⟩
  | .hbm, ⟨27, _⟩ => ⟨S8192x1024, .bf16⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x256, .bf16⟩
  | .local _ .vmem, ⟨14, _⟩ => ⟨S512x256, .bf16⟩
  | .local _ .vmem, ⟨15, _⟩ => ⟨S512x128, .bf16⟩
  | .local _ .vmem, ⟨16, _⟩ => ⟨S512x128, .bf16⟩
  | .local _ .vmem, ⟨17, _⟩ => ⟨S1024x3456, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x3456 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjRefIdeal.lean ====
abbrev S8192x1024 : Shape := ⟨2, ![8192, 1024]⟩
abbrev S1024 : Shape := ⟨1, ![1024]⟩
abbrev S8192x3392 : Shape := ⟨2, ![8192, 3392]⟩
abbrev S1024x3392 : Shape := ⟨2, ![1024, 3392]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x3392, .f32⟩
  | .hbm, ⟨4, _⟩ => ⟨S1024x3392, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3392, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Whole.lean ====
/- What every kernel here shares: loads and stores of a whole block read and leave it whole, and rows of an array are
   taken in tiles. -/
module

public import Idealize.ShloMosaic.Lib.Pipeline.Value
public import Idealize.ShloMosaic.Lib.ValueIdx
public import Idealize.ShloMosaic.Lib.IdealHost
public import Idealize.ShloMosaic.Lib.StableHlo.ReadAt
public import Idealize.ShloMosaic.PureOps.Ideal.Laws
public import Idealize.ShloMosaic.Lib.MatmulPlain

@[expose] public section

noncomputable section

namespace Cert.Proof

open Idealize.ShloMosaic Idealize.ShloMosaic.ValueIdx

/-- The offsets of a store or load of a whole block are zero. -/
theorem zeros2 : (![0, 0] : Fin 2 → Nat) = fun _ => 0 := funext fun a => by fin_cases a <;> rfl

section
variable {Val : EltTy → Type} {e : EltTy} {a b : Nat}

/-- A load of a whole matrix block reads the block. -/
theorem ld2 (inb : ∀ k, (![0, 0] : Fin 2 → Nat) k + (![a, b] : Fin 2 → Nat) k ≤ (![a, b] : Fin 2 → Nat) k)
    (X : (⟨2, ![a, b]⟩ : Shape).Idx → Val e) :
    View.ld X (Rect.unit (s := ⟨2, ![a, b]⟩) ![0, 0] ![a, b] inb) = X :=
  View.ld_unit_zero (S := ⟨2, ![a, b]⟩) zeros2 inb X

/-- A last store of a whole matrix block leaves what it stored. -/
theorem canon2 [∀ e, Nonempty (Val e)]
    (inb : ∀ k, (![0, 0] : Fin 2 → Nat) k + (![a, b] : Fin 2 → Nat) k ≤ (![a, b] : Fin 2 → Nat) k)
    (X : (⟨2, ![a, b]⟩ : Shape).Idx → Val e) (L : List (View.Piece Val ⟨2, ![a, b]⟩ e)) :
    View.canon ((⟨Rect.unit (s := ⟨2, ![a, b]⟩) ![0, 0] ![a, b] inb, X⟩ : View.Piece Val ⟨2, ![a, b]⟩ e) :: L) = X :=
  View.canon_cons_unit_zero (S := ⟨2, ![a, b]⟩) zeros2 inb X L

/-- Two matrix indices with the same coordinates are equal. -/
theorem idx2_ext {a b : Nat} {i j : (⟨2, ![a, b]⟩ : Shape).Idx} (h0 : (i 0).val = (j 0).val) (h1 : (i 1).val = (j 1).val) : i = j := by
  funext k; apply Fin.ext
  match k with
  | ⟨0, _⟩ => exact h0
  | ⟨1, _⟩ => exact h1

/-- The element of an array of `n` rows at row `o + j₀` of the tile that starts at row `o`. -/
def row {n B w : Nat} (o : Nat) (h : o + B ≤ n) (j : (⟨2, ![B, w]⟩ : Shape).Idx) : (⟨2, ![n, w]⟩ : Shape).Idx :=
  ValueIdx.ix2 ⟨o + (j 0).val, Nat.lt_of_lt_of_le (Nat.add_lt_add_left (j 0).isLt o) h⟩ (j 1)

/-- The block at block index `(t, 0)` lies at rows `t B` on. -/
theorem blk_row {n B w t a b : Nat} (h : t * B + B ≤ n) (i : (⟨2, ![n, w]⟩ : Shape).Idx) (j : (⟨2, ![B, w]⟩ : Shape).Idx)
    (e : a = t ∧ b = 0) (h0 : (i 0).val = a * B + 1 * (j 0).val) (h1 : (i 1).val = b * w + 1 * (j 1).val) :
    i = row (t * B) h j := by
  obtain ⟨rfl, rfl⟩ := e
  funext k; apply Fin.ext
  match k with
  | ⟨0, _⟩ => exact h0.trans (by rw [Nat.one_mul]; rfl)
  | ⟨1, _⟩ => exact h1.trans (by rw [Nat.zero_mul, Nat.zero_add, Nat.one_mul]; rfl)

/-- The element of a wider array at column `o + j₁`. -/
def col {n w W : Nat} (o : Nat) (h : o + w ≤ W) (j : (⟨2, ![n, w]⟩ : Shape).Idx) : (⟨2, ![n, W]⟩ : Shape).Idx :=
  ValueIdx.ix2 (j 0) ⟨o + (j 1).val, Nat.lt_of_lt_of_le (Nat.add_lt_add_left (j 1).isLt o) h⟩

/-- The block at block index `(t, c)` lies at rows `t B` and columns `c w` on. -/
theorem blk_tile {n W B w t c a b : Nat} (h : t * B + B ≤ n) (h' : c * w + w ≤ W) (i : (⟨2, ![n, W]⟩ : Shape).Idx)
    (j : (⟨2, ![B, w]⟩ : Shape).Idx)
    (e : a = t ∧ b = c) (h0 : (i 0).val = a * B + 1 * (j 0).val) (h1 : (i 1).val = b * w + 1 * (j 1).val) :
    i = col (c * w) h' (row (t * B) h j) := by
  obtain ⟨rfl, rfl⟩ := e
  funext k; apply Fin.ext
  match k with
  | ⟨0, _⟩ => exact h0.trans (by rw [Nat.one_mul]; rfl)
  | ⟨1, _⟩ => exact h1.trans (by rw [Nat.one_mul]; rfl)

/-- The block of a whole array lies where the array lies. -/
theorem blk_whole {n w a b : Nat} (i : (⟨2, ![n, w]⟩ : Shape).Idx) (j : (⟨2, ![n, w]⟩ : Shape).Idx)
    (e : a = 0 ∧ b = 0) (h0 : (i 0).val = a * n + 1 * (j 0).val) (h1 : (i 1).val = b * w + 1 * (j 1).val) : i = j := by
  obtain ⟨rfl, rfl⟩ := e
  funext k; apply Fin.ext
  match k with
  | ⟨0, _⟩ => exact h0.trans (by rw [Nat.zero_mul, Nat.zero_add, Nat.one_mul]; rfl)
  | ⟨1, _⟩ => exact h1.trans (by rw [Nat.zero_mul, Nat.zero_add, Nat.one_mul]; rfl)

/-- Every index of an array of `n` rows is in the tile of its row. -/
theorem row_of {n B w : Nat} (i : (⟨2, ![n, w]⟩ : Shape).Idx) (hB : 0 < B) (h : (i 0).val / B * B + B ≤ n) :
    i = row ((i 0).val / B * B) h (ValueIdx.ix2 ⟨(i 0).val % B, Nat.mod_lt _ hB⟩ (i 1)) := by
  funext k; apply Fin.ext
  match k with
  | ⟨0, _⟩ => exact (Nat.div_add_mod' _ _).symm
  | ⟨1, _⟩ => rfl

end

/-! ## Products of two matrices over the reals, read at an index -/

section
variable {M K N : Nat} {φ₁ φ₂ : FTy}

/-- The dimension numbers of the product of a transposed left matrix, `[K, M]ᵀ × [K, N]`. -/
def lhsTransposed (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A sum over the contracted positions is a sum over their one coordinate. -/
theorem sum_contr {sl sr so : Shape} (D : DotDims sl sr so) (n : Nat) (hr : D.contr.rank = 1)
    (hs : D.contr.size ⟨0, by omega⟩ = n) (f : D.contr.Idx → EReal) (g : Fin n → EReal)
    (h : ∀ q : D.contr.Idx, ∀ k : Fin n, (q ⟨0, by omega⟩).val = k.val → f q = g k) : ∑ q, f q = ∑ k, g k := by
  rw [← Equiv.sum_comp (contrEquiv1 D n hr hs).symm]
  exact Finset.sum_congr rfl fun k _ => h _ k (contrEquiv1_symm_val D n hr hs k)

/-- The contraction of `[M, K]` with `[K, N]`. -/
theorem contr_nn (l : FVec Ideal ⟨2, ![M, K]⟩ φ₁) (r : FVec Ideal ⟨2, ![K, N]⟩ φ₂) (j : (⟨2, ![M, N]⟩ : Shape).Idx) :
    ∑ q : (DotDims.plain M K N).contr.Idx, l ((DotDims.plain M K N).lhsIdx j q) * r ((DotDims.plain M K N).rhsIdx j q)
      = ∑ k : Fin K, l (ValueIdx.ix2 (j 0) k) * r (ValueIdx.ix2 k (j 1)) := by
  refine sum_contr _ K rfl rfl _ _ fun q k hk => congrArg₂ (· * ·) (congrArg l ?_) (congrArg r ?_)
  · funext a; apply Fin.ext
    match a with
    | ⟨0, _⟩ => rfl
    | ⟨1, _⟩ => exact hk
  · funext a; apply Fin.ext
    match a with
    | ⟨0, _⟩ => exact hk
    | ⟨1, _⟩ => rfl

/-- The contraction of `[M, K]` with the transpose of `[N, K]`. -/
theorem contr_nt (l : FVec Ideal ⟨2, ![M, K]⟩ φ₁) (r : FVec Ideal ⟨2, ![N, K]⟩ φ₂) (j : (⟨2, ![M, N]⟩ : Shape).Idx) :
    ∑ q : (DotDims.transposedRhs M K N).contr.Idx,
        l ((DotDims.transposedRhs M K N).lhsIdx j q) * r ((DotDims.transposedRhs M K N).rhsIdx j q)
      = ∑ k : Fin K, l (ValueIdx.ix2 (j 0) k) * r (ValueIdx.ix2 (j 1) k) := by
  refine sum_contr _ K rfl rfl _ _ fun q k hk => congrArg₂ (· * ·) (congrArg l ?_) (congrArg r ?_) <;>
  · funext a; apply Fin.ext
    match a with
    | ⟨0, _⟩ => rfl
    | ⟨1, _⟩ => exact hk

/-- The contraction of the transpose of `[K, M]` with `[K, N]`. -/
theorem contr_tn (l : FVec Ideal ⟨2, ![K, M]⟩ φ₁) (r : FVec Ideal ⟨2, ![K, N]⟩ φ₂) (j : (⟨2, ![M, N]⟩ : Shape).Idx) :
    ∑ q : (lhsTransposed M K N).contr.Idx, l ((lhsTransposed M K N).lhsIdx j q) * r ((lhsTransposed M K N).rhsIdx j q)
      = ∑ k : Fin K, l (ValueIdx.ix2 k (j 0)) * r (ValueIdx.ix2 k (j 1)) := by
  refine sum_contr _ K rfl rfl _ _ fun q k hk => congrArg₂ (· * ·) (congrArg l ?_) (congrArg r ?_) <;>
  · funext a; apply Fin.ext
    match a with
    | ⟨0, _⟩ => exact hk
    | ⟨1, _⟩ => rfl

/-- A kernel's product onto an accumulator, by the contraction its dimension numbers name. -/
theorem matmul_nn (d : DotDims ⟨2, ![M, K]⟩ ⟨2, ![K, N]⟩ ⟨2, ![M, N]⟩) (hd : d = DotDims.plain M K N)
    (p : Option ContractPrecision) (l : FVec Ideal ⟨2, ![M, K]⟩ φ₁) (r : FVec Ideal ⟨2, ![K, N]⟩ φ₂)
    (acc : FVec Ideal ⟨2, ![M, N]⟩ .f32) (j : (⟨2, ![M, N]⟩ : Shape).Idx) :
    matmul d p l r acc j = acc j + ∑ k : Fin K, l (ValueIdx.ix2 (j 0) k) * r (ValueIdx.ix2 k (j 1)) := by
  subst hd; exact congrArg (acc j + ·) (contr_nn l r j)

theorem matmul_nt (d : DotDims ⟨2, ![M, K]⟩ ⟨2, ![N, K]⟩ ⟨2, ![M, N]⟩) (hd : d = DotDims.transposedRhs M K N)
    (p : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    matmul d p l r acc j = acc j + ∑ k : Fin K, l (ValueIdx.ix2 (j 0) k) * r (ValueIdx.ix2 (j 1) k) := by
  subst hd; exact congrArg (acc j + ·) (contr_nt l r j)

theorem matmul_tn (d : DotDims ⟨2, ![K, M]⟩ ⟨2, ![K, N]⟩ ⟨2, ![M, N]⟩) (hd : d = lhsTransposed M K N)
    (p : Option ContractPrecision) (l : FVec Ideal ⟨2, ![K, M]⟩ φ₁) (r : FVec Ideal ⟨2, ![K, N]⟩ φ₂)
    (acc : FVec Ideal ⟨2, ![M, N]⟩ .f32) (j : (⟨2, ![M, N]⟩ : Shape).Idx) :
    matmul d p l r acc j = acc j + ∑ k : Fin K, l (ValueIdx.ix2 k (j 0)) * r (ValueIdx.ix2 k (j 1)) := by
  subst hd; exact congrArg (acc j + ·) (contr_tn l r j)

/-- A host product, by the contraction its dimension numbers name. -/
theorem dot_nn (d : DotDims ⟨2, ![M, K]⟩ ⟨2, ![K, N]⟩ ⟨2, ![M, N]⟩) (hd : d = DotDims.plain M K N)
    (p : Option ContractPrecision) (l : FVec Ideal ⟨2, ![M, K]⟩ φ₁) (r : FVec Ideal ⟨2, ![K, N]⟩ φ₂)
    (j : (⟨2, ![M, N]⟩ : Shape).Idx) :
    Host.dotGeneral d p l r j = ∑ k : Fin K, l (ValueIdx.ix2 (j 0) k) * r (ValueIdx.ix2 k (j 1)) := by
  subst hd; unfold Host.dotGeneral; rw [Ideal.dotGeneral_apply]; exact contr_nn l r j

theorem dot_nt (d : DotDims ⟨2, ![M, K]⟩ ⟨2, ![N, K]⟩ ⟨2, ![M, N]⟩) (hd : d = DotDims.transposedRhs M K N)
    (p : Option ContractPrecision) (l : FVec Ideal ⟨2, ![M, K]⟩ φ₁) (r : FVec Ideal ⟨2, ![N, K]⟩ φ₂)
    (j : (⟨2, ![M, N]⟩ : Shape).Idx) :
    Host.dotGeneral d p l r j = ∑ k : Fin K, l (ValueIdx.ix2 (j 0) k) * r (ValueIdx.ix2 (j 1) k) := by
  subst hd; unfold Host.dotGeneral; rw [Ideal.dotGeneral_apply]; exact contr_nt l r j

theorem dot_tn (d : DotDims ⟨2, ![K, M]⟩ ⟨2, ![K, N]⟩ ⟨2, ![M, N]⟩) (hd : d = lhsTransposed M K N)
    (p : Option ContractPrecision) (l : FVec Ideal ⟨2, ![K, M]⟩ φ₁) (r : FVec Ideal ⟨2, ![K, N]⟩ φ₂)
    (j : (⟨2, ![M, N]⟩ : Shape).Idx) :
    Host.dotGeneral d p l r j = ∑ k : Fin K, l (ValueIdx.ix2 k (j 0)) * r (ValueIdx.ix2 k (j 1)) := by
  subst hd; unfold Host.dotGeneral; rw [Ideal.dotGeneral_apply]; exact contr_tn l r j

end

end Cert.Proof

end
-- ==== Proof.Merge.Blocks.lean ====
/- The gradient of the two-branch merge, kernel side: what the body stores at a grid point, as functions of the blocks it
   reads, and where those blocks lie in the arrays. -/
module

public import proofs.«01_k».proof.Proof.Gen.MergeIdeal.Value
public import proofs.«01_k».proof.Proof.Whole

@[expose] public section

set_option maxRecDepth 16384

noncomputable section

namespace Cert.Proof.Merge

open Cert.MergeIdeal Cert.MergeIdeal.Gen Cert.MergeIdeal.Value Idealize.ShloMosaic Idealize.ShloMosaic.TcCoe Idealize.SL.Sem

variable {F : FTy → Type} [FloatOps F]

section
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S512x1024 .f32) (h5 : a5.IsWhole) (a6 : Memref sig .tc .vmem S1024x1024 .bf16) (h6 : a6.IsWhole)
  (a7 : Memref sig .tc .vmem S1024x1024 .bf16) (h7 : a7.IsWhole) (a9 : Memref sig .tc .vmem S512x1024 .bf16) (h9 : a9.IsWhole)
  (a10 : Memref sig .tc .vmem S512x1024 .bf16) (h10 : a10.IsWhole) (a11 : Memref sig .tc .vmem S512x1024 .bf16) (h11 : a11.IsWhole)
  (a12 : Memref sig .tc .vmem S512x1024 .bf16) (h12 : a12.IsWhole) (a13 : Memref sig .tc .vmem S512x1024 .bf16) (h13 : a13.IsWhole)
  (x0 x1 x2 x3 x4 : Vec F S512x1024 .f32) (x5 x6 : Vec F S1024x1024 .bf16)

/-- What the body leaves in the five output blocks. -/
theorem outs :
    out0_A_7 c i a1 h1 a2 h2 a3 h3 a4 h4 a5 h5 a6 h6 a7 h7 a9 h9 a10 h10 a11 h11 a12 h12 a13 h13 x0 x1 x2 x3 x4 x5 x6
        = k0_pay7 x0 x5 x3
    ∧ out0_A_8 c i a1 h1 a2 h2 a3 h3 a4 h4 a5 h5 a6 h6 a7 h7 a9 h9 a10 h10 a11 h11 a12 h12 a13 h13 x0 x1 x2 x3 x4 x5 x6
        = k0_pay8 x0 x5 x4
    ∧ out0_A_9 c i a1 h1 a2 h2 a3 h3 a4 h4 a5 h5 a6 h6 a7 h7 a9 h9 a10 h10 a11 h11 a12 h12 a13 h13 x0 x1 x2 x3 x4 x5 x6
        = k0_pay3 (k0_pay8 x0 x5 x4) x6
    ∧ out0_A_10 c i a1 h1 a2 h2 a3 h3 a4 h4 a5 h5 a6 h6 a7 h7 a9 h9 a10 h10 a11 h11 a12 h12 a13 h13 x0 x1 x2 x3 x4 x5 x6
        = k0_pay1 (k0_pay9 x0 x5 x3 x1)
    ∧ out0_A_11 c i a1 h1 a2 h2 a3 h3 a4 h4 a5 h5 a6 h6 a7 h7 a9 h9 a10 h10 a11 h11 a12 h12 a13 h13 x0 x1 x2 x3 x4 x5 x6
        = k0_pay2 (k0_pay4 x0 x5) (k0_pay6 x4) x2 := by
  refine ⟨?_, ?_, ?_, ?_, ?_⟩ <;>
    (first | unfold out0_A_7 | unfold out0_A_8 | unfold out0_A_9 | unfold out0_A_10 | unfold out0_A_11) <;>
    (rw [View.read_writes_junk_eq_canon]; unfold kernelRun0_A; dsimp only; sl_unfold_words
     simp only [canon2, View.readAt_eq_ld, h1.read_unread, h2.read_unread, h3.read_unread, h4.read_unread,
       h5.read_unread, h6.read_unread, h7.read_unread, ld2])

end

/-- The row tile of point `t`. -/
theorem tile_le (t : Fin cfg0.N) : t.val * 512 + 512 ≤ 8192 := by
  have h : t.val < grid0.N := t.isLt
  rw [N_0] at h; omega

/-- Where each window's block lies: rows `512 t`, and of the joined gates the left or the right half. -/
theorem idxs : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 1)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The tile of rows of point `t`. -/
abbrev at' {w : Nat} (t : Fin cfg0.N) (j : (⟨2, ![512, w]⟩ : Shape).Idx) : (⟨2, ![8192, w]⟩ : Shape).Idx :=
  row (t.val * 512) (tile_le t) j

/-- An index of a block lies at these coordinates of its array. -/
theorem emb (t : Fin cfg0.N) (j : S512x1024.Idx) :
    ((cfg0.win 0).blk t).view.emb j = at' t j
    ∧ ((cfg0.win 1).blk t).view.emb j = at' t j
    ∧ ((cfg0.win 2).blk t).view.emb j = at' t j
    ∧ ((cfg0.win 3).blk t).view.emb j = col (0 * 1024) (by decide) (at' t j)
    ∧ ((cfg0.win 4).blk t).view.emb j = col (1 * 1024) (by decide) (at' t j)
    ∧ ((cfg0.win 7).blk t).view.emb j = at' t j
    ∧ ((cfg0.win 8).blk t).view.emb j = at' t j
    ∧ ((cfg0.win 9).blk t).view.emb j = at' t j
    ∧ ((cfg0.win 10).blk t).view.emb j = at' t j
    ∧ ((cfg0.win 11).blk t).view.emb j = at' t j := by
  obtain ⟨e0, e1, e2, e3, e4, e5, e6, e7, e8, e9, e10, e11⟩ := idxs t
  refine ⟨?_, ?_, ?_, ?_, ?_, ?_, ?_, ?_, ?_, ?_⟩
  · exact blk_row _ _ j e0 rfl rfl
  · exact blk_row _ _ j e1 rfl rfl
  · exact blk_row _ _ j e2 rfl rfl
  · exact blk_tile _ _ _ j e3 rfl rfl
  · exact blk_tile _ _ _ j e4 rfl rfl
  · exact blk_row _ _ j e7 rfl rfl
  · exact blk_row _ _ j e8 rfl rfl
  · exact blk_row _ _ j e9 rfl rfl
  · exact blk_row _ _ j e10 rfl rfl
  · exact blk_row _ _ j e11 rfl rfl

/-- The weights' blocks are the weights. -/
theorem embW (t : Fin cfg0.N) (k : S1024x1024.Idx) :
    ((cfg0.win 5).blk t).view.emb k = k ∧ ((cfg0.win 6).blk t).view.emb k = k := by
  obtain ⟨-, -, -, -, -, e5, e6, -⟩ := idxs t
  exact ⟨blk_whole _ k e5 rfl rfl, blk_whole _ k e6 rfl rfl⟩

/-- Every row is in the tile of the point that writes it. -/
theorem cover (i : S8192x1024.Idx) : ∃ (t : Fin cfg0.N) (j : S512x1024.Idx), at' t j = i := by
  have hi : (i 0).val < 8192 := (i 0).isLt
  have ht : (i 0).val / 512 < cfg0.N := by show (i 0).val / 512 < grid0.N; rw [N_0]; omega
  exact ⟨⟨(i 0).val / 512, ht⟩, _, (row_of i (by decide) (tile_le ⟨(i 0).val / 512, ht⟩)).symm⟩

variable (m : (ℓ : Loc nD τ sig) → Buf (Elt F) ℓ)

/-- The blocks the body reads at point `t`. -/
theorem iblks (c : Dev nD) (t : Fin cfg0.N) :
    iblk m c 0 t = (fun j => V m c main_arg0 (at' t j))
    ∧ iblk m c 1 t = (fun j => V m c main_arg2 (at' t j))
    ∧ iblk m c 2 t = (fun j => V m c main_v4 (at' t j))
    ∧ iblk m c 3 t = (fun j => V m c main_v0 (col (0 * 1024) (by decide) (at' t j)))
    ∧ iblk m c 4 t = (fun j => V m c main_v0 (col (1 * 1024) (by decide) (at' t j)))
    ∧ iblk m c 5 t = V m c main_v1
    ∧ iblk m c 6 t = V m c main_v2 := by
  refine ⟨?_, ?_, ?_, ?_, ?_, ?_, ?_⟩ <;> funext j
  · exact congrArg (V m c main_arg0) (emb t j).1
  · exact congrArg (V m c main_arg2) (emb t j).2.1
  · exact congrArg (V m c main_v4) (emb t j).2.2.1
  · exact congrArg (V m c main_v0) (emb t j).2.2.2.1
  · exact congrArg (V m c main_v0) (emb t j).2.2.2.2.1
  · exact congrArg (V m c main_v1) (embW t j).1
  · exact congrArg (V m c main_v2) (embW t j).2

end Cert.Proof.Merge

end
-- ==== Proof.Merge.Value.lean ====
/- The gradient of the two-branch merge over the reals: what each grid point writes back is its block of the reference's
   gradient, so the kernel's five results are the reference's. -/
module

public import proofs.«01_k».proof.Proof.Merge.Blocks
public import proofs.«01_k».proof.Proof.Gen.MergeRefIdeal.Read

@[expose] public section

set_option maxRecDepth 16384

noncomputable section

namespace Cert.Proof.Merge

open Cert.MergeIdeal Cert.MergeIdeal.Gen Cert.MergeIdeal.Value Idealize.ShloMosaic Idealize.ShloMosaic.TcCoe Idealize.SL.Sem
open Cert.MergeRefIdeal.Read

/-! ## The stored blocks against the reference's stages -/

section
variable (X0 X1 X2 X3 X4 : Vec Ideal S8192x1024 .f32) (W5 W6 : Vec Ideal S1024x1024 .f32)
  (o : Nat) (h : o + 512 ≤ 8192) (j : S512x1024.Idx)

/-- Rows of an array. -/
abbrev rows (X : Vec Ideal S8192x1024 .f32) (o : Nat) (h : o + 512 ≤ 8192) : Vec Ideal S512x1024 .f32 := fun j => X (row o h j)

/-- The cotangent of the merged rows: the cotangent times the transpose of the output weights. -/
theorem dmerged : k0_pay4 (rows X0 o h) (fun k => W6 k) j = val_main_v25 X0 W6 (row o h j) := by
  unfold k0_pay4 val_main_v25
  rw [matmul_nt, dot_nt]
  case hd => rfl
  case hd => rfl
  rw [show constant (F := Ideal) S512x1024 .f32 0x00000000#32 j = 0 from Ideal.ofBits_zero_f32, zero_add, shapeCast_self]
  rfl

/-- The first branch's gate. -/
theorem gateA : k0_pay5 (rows X3 o h) j = val_main_v8 X3 (row o h j) := by
  unfold k0_pay5
  simp only [val_main_v8_apply, val_main_v7_apply, val_main_v6_apply, val_main_v5_apply, val_main_v4_apply, val_main_v3_apply,
    val_main_cst_0_apply, val_main_cst_1_apply]
  pointwise
  simp

/-- The second branch's gate. -/
theorem gateB : k0_pay6 (rows X4 o h) j = val_main_v18 X4 (row o h j) := by
  unfold k0_pay6
  simp only [val_main_v18_apply, val_main_v17_apply, val_main_v16_apply, val_main_v15_apply, val_main_v14_apply, val_main_v13_apply,
    val_main_cst_3_apply, val_main_cst_4_apply]
  pointwise
  simp

/-- The first branch's gradient. -/
theorem dya : k0_pay7 (rows X0 o h) (fun k => W6 k) (rows X3 o h) j = val_main_v33 X0 X3 W6 (row o h j) := by
  have e := dmerged X0 W6 o h j
  have g := gateA X3 o h j
  rw [val_main_v33_apply, val_main_v29_apply, ← e, ← g]
  exact mul_comm _ _

/-- The second branch's gradient. -/
theorem dyb : k0_pay8 (rows X0 o h) (fun k => W6 k) (rows X4 o h) j = val_main_v34 X0 X4 W6 (row o h j) := by
  have e := dmerged X0 W6 o h j
  have g := gateB X4 o h j
  rw [val_main_v34_apply, val_main_v26_apply, ← e, ← g]
  exact mul_comm _ _

/-- The gradient before the second branch's output weights. -/
theorem dout : k0_pay3 (k0_pay8 (rows X0 o h) (fun k => W6 k) (rows X4 o h)) (fun k => W5 k) j
    = val_main_v35 X0 X4 W5 W6 (row o h j) := by
  rw [val_main_v35_apply]
  unfold k0_pay3 val_main_v32
  pointwise
  simp only [Ideal.truncf_def]
  rw [matmul_nt, dot_nt]
  case hd => rfl
  case hd => rfl
  rw [show constant (F := Ideal) S512x1024 .f32 0x00000000#32 j = 0 from Ideal.ofBits_zero_f32, zero_add]
  exact Finset.sum_congr rfl fun k _ => congrArg (· * W5 (ValueIdx.ix2 (j 1) k)) (dyb X0 X4 W6 o h (ValueIdx.ix2 (j 0) k))

/-- The gradient of the first gate. -/
theorem dga : k0_pay1 (k0_pay9 (rows X0 o h) (fun k => W6 k) (rows X3 o h) (rows X2 o h)) j
    = val_main_v36 X0 X2 X3 W6 (row o h j) := by
  have e := dmerged X0 W6 o h j
  have g := gateA X3 o h j
  rw [val_main_v36_apply, val_main_v31_apply, val_main_v30_apply, val_main_v11_apply, val_main_v10_apply, val_main_v9_apply,
    val_main_cst_2_apply, ← e, ← g]
  exact mul_assoc _ _ _

/-- The gradient of the second gate. -/
theorem dgb : k0_pay2 (k0_pay4 (rows X0 o h) (fun k => W6 k)) (k0_pay6 (rows X4 o h)) (rows (val_main_v2 X1 W5) o h) j
    = val_main_v37 X0 X1 X4 W5 W6 (row o h j) := by
  have e := dmerged X0 W6 o h j
  have g := gateB X4 o h j
  rw [val_main_v37_apply, val_main_v28_apply, val_main_v27_apply, val_main_v21_apply, val_main_v20_apply, val_main_v19_apply,
    val_main_cst_5_apply, ← e, ← g]
  unfold k0_pay2
  rw [shapeCast_self]
  exact mul_assoc _ _ _

end

/-! ## The arrays the region finds -/

variable (m : (ℓ : Loc nD τ sig) → Buf (Elt Ideal) ℓ) (ρ : Dev nD → PrngReg)

theorem Vwo (c : Dev nD) : V m c main_v1 = fun i => m ((c : Thread nD τ).loc main_arg6) i := by
  funext i; unfold Gen.V; after_reads_at; rfl

theorem Vwb (c : Dev nD) : V m c main_v2 = fun i => m ((c : Thread nD τ).loc main_arg5) i := by
  funext i; unfold Gen.V; after_reads_at; rfl

/-- The second branch's rows before its gate. -/
theorem Vyb (c : Dev nD) (i : S8192x1024.Idx) :
    V m c main_v4 i = val_main_v2 (m ((c : Thread nD τ).loc main_arg1)) (m ((c : Thread nD τ).loc main_arg5)) i := by
  unfold Gen.V
  after_reads_at
  rw [val_main_v2_apply, val_main_v0_apply, val_main_cst_apply]
  unfold val_main_v1
  rw [dot_nn, dot_nn]
  case hd => rfl
  case hd => rfl
  simp only [Ideal.addf_def, Ideal.ofBits_def, Ideal.ofBits_zero_f32, add_zero]
  rfl

/-- The joined gates' left half. -/
theorem Vga (c : Dev nD) (i : S8192x1024.Idx) :
    V m c main_v0 (col (0 * 1024) (by decide) i) = m ((c : Thread nD τ).loc main_arg3) i := by
  unfold Gen.V
  after_reads_at
  have e : (i 1).val < 1024 := (i 1).isLt
  refine (dif_pos (show 0 + (i 1).val < 1024 by omega)).trans ?_
  exact congrArg (m ((c : Thread nD τ).loc main_arg3)) (idx2_ext rfl (Nat.zero_add _))

/-- The joined gates' right half. -/
theorem Vgb (c : Dev nD) (i : S8192x1024.Idx) :
    V m c main_v0 (col (1 * 1024) (by decide) i) = m ((c : Thread nD τ).loc main_arg4) i := by
  unfold Gen.V
  after_reads_at
  refine (dif_neg (show ¬ 1024 + (i 1).val < 1024 by omega)).trans ?_
  exact congrArg (m ((c : Thread nD τ).loc main_arg4)) (idx2_ext rfl (Nat.add_sub_cancel_left _ _))

/-- The blocks the body reads, as rows of the arguments. -/
theorem reads (c : Dev nD) (t : Fin cfg0.N) :
    iblk m c 0 t = rows (m ((c : Thread nD τ).loc main_arg0)) (t.val * 512) (tile_le t)
    ∧ iblk m c 1 t = rows (m ((c : Thread nD τ).loc main_arg2)) (t.val * 512) (tile_le t)
    ∧ iblk m c 2 t = rows (val_main_v2 (m ((c : Thread nD τ).loc main_arg1)) (m ((c : Thread nD τ).loc main_arg5))) (t.val * 512) (tile_le t)
    ∧ iblk m c 3 t = rows (m ((c : Thread nD τ).loc main_arg3)) (t.val * 512) (tile_le t)
    ∧ iblk m c 4 t = rows (m ((c : Thread nD τ).loc main_arg4)) (t.val * 512) (tile_le t)
    ∧ iblk m c 5 t = (fun k => m ((c : Thread nD τ).loc main_arg6) k)
    ∧ iblk m c 6 t = (fun k => m ((c : Thread nD τ).loc main_arg5) k) := by
  obtain ⟨i0, i1, i2, i3, i4, i5, i6⟩ := iblks m c t
  refine ⟨i0.trans ?_, i1.trans ?_, i2.trans ?_, i3.trans ?_, i4.trans ?_, i5.trans (Vwo m c), i6.trans (Vwb m c)⟩
  · rw [V_main_arg0]
  · rw [V_main_arg2]
  · exact funext fun j => Vyb m c _
  · exact funext fun j => Vga m c _
  · exact funext fun j => Vgb m c _

/-! ## The result arrays -/

theorem final (c : Dev nD) :
    (dats m 0 c).arrAt 7 cfg0.N = val_main_v33 (m ((c : Thread nD τ).loc main_arg0)) (m ((c : Thread nD τ).loc main_arg3)) (m ((c : Thread nD τ).loc main_arg6))
    ∧ (dats m 0 c).arrAt 8 cfg0.N = val_main_v34 (m ((c : Thread nD τ).loc main_arg0)) (m ((c : Thread nD τ).loc main_arg4)) (m ((c : Thread nD τ).loc main_arg6))
    ∧ (dats m 0 c).arrAt 9 cfg0.N = val_main_v35 (m ((c : Thread nD τ).loc main_arg0)) (m ((c : Thread nD τ).loc main_arg4)) (m ((c : Thread nD τ).loc main_arg5)) (m ((c : Thread nD τ).loc main_arg6))
    ∧ (dats m 0 c).arrAt 10 cfg0.N = val_main_v36 (m ((c : Thread nD τ).loc main_arg0)) (m ((c : Thread nD τ).loc main_arg2)) (m ((c : Thread nD τ).loc main_arg3)) (m ((c : Thread nD τ).loc main_arg6))
    ∧ (dats m 0 c).arrAt 11 cfg0.N = val_main_v37 (m ((c : Thread nD τ).loc main_arg0)) (m ((c : Thread nD τ).loc main_arg1)) (m ((c : Thread nD τ).loc main_arg4)) (m ((c : Thread nD τ).loc main_arg5)) (m ((c : Thread nD τ).loc main_arg6)) := by
  refine ⟨(dats m 0 c).arrAt_eq_of_cover 7 _ (fun t _ => ?_) fun i => ?_, (dats m 0 c).arrAt_eq_of_cover 8 _ (fun t _ => ?_) fun i => ?_,
    (dats m 0 c).arrAt_eq_of_cover 9 _ (fun t _ => ?_) fun i => ?_, (dats m 0 c).arrAt_eq_of_cover 10 _ (fun t _ => ?_) fun i => ?_,
    (dats m 0 c).arrAt_eq_of_cover 11 _ (fun t _ => ?_) fun i => ?_⟩
  · obtain ⟨i0, i1, i2, i3, i4, i5, i6⟩ := reads m c t
    rw [flushed7_A, (outs ..).1, i0, i3, i5]
    funext j
    exact (dya _ _ _ _ _ j).trans (congrArg _ (emb t j).2.2.2.2.2.1.symm)
  · obtain ⟨t, j, rfl⟩ := cover i
    exact ⟨t, flush0_7 t, (emb t j).2.2.2.2.2.1 ▸ View.emb_mem_set _ j⟩
  · obtain ⟨i0, i1, i2, i3, i4, i5, i6⟩ := reads m c t
    rw [flushed8_A, (outs ..).2.1, i0, i4, i5]
    funext j
    exact (dyb  _ _ _ _ _ j).trans (congrArg _ (emb t j).2.2.2.2.2.2.1.symm)
  · obtain ⟨t, j, rfl⟩ := cover i
    exact ⟨t, flush0_8 t, (emb t j).2.2.2.2.2.2.1 ▸ View.emb_mem_set _ j⟩
  · obtain ⟨i0, i1, i2, i3, i4, i5, i6⟩ := reads m c t
    rw [flushed9_A, (outs ..).2.2.1, i0, i4, i5, i6]
    funext j
    exact (dout _ _ _ _ _ _ j).trans (congrArg _ (emb t j).2.2.2.2.2.2.2.1.symm)
  · obtain ⟨t, j, rfl⟩ := cover i
    exact ⟨t, flush0_9 t, (emb t j).2.2.2.2.2.2.2.1 ▸ View.emb_mem_set _ j⟩
  · obtain ⟨i0, i1, i2, i3, i4, i5, i6⟩ := reads m c t
    rw [flushed10_A, (outs ..).2.2.2.1, i0, i1, i3, i5]
    funext j
    exact (dga _ _ _ _ _ _ j).trans (congrArg _ (emb t j).2.2.2.2.2.2.2.2.1.symm)
  · obtain ⟨t, j, rfl⟩ := cover i
    exact ⟨t, flush0_10 t, (emb t j).2.2.2.2.2.2.2.2.1 ▸ View.emb_mem_set _ j⟩
  · obtain ⟨i0, i1, i2, i3, i4, i5, i6⟩ := reads m c t
    rw [flushed11_A, (outs ..).2.2.2.2, i0, i2, i4, i5]
    funext j
    exact (dgb _ _ _ _ _ _ _ j).trans (congrArg _ (emb t j).2.2.2.2.2.2.2.2.2.symm)
  · obtain ⟨t, j, rfl⟩ := cover i
    exact ⟨t, flush0_11 t, (emb t j).2.2.2.2.2.2.2.2.2 ▸ View.emb_mem_set _ j⟩

end Cert.Proof.Merge

end
-- ==== Proof.Merge.Claims.lean ====
/-
# The merge backward call: frames and value
-/
module

public import proofs.«01_k».proof.Proof.Merge.Value
public import proofs.«01_k».proof.Proof.Gen.Merge.Frame
public import proofs.«01_k».proof.Proof.Gen.MergeRefIdeal.Run
public import proofs.«01_k».proof.Defs

@[expose] public section

set_option maxRecDepth 16384

noncomputable section

namespace Cert.Proof.Merge

open Idealize Idealize.ShloMosaic Cert.MergeRefIdeal.Read

/-- The kernel runs at the machine's words. -/
theorem frame : Cert.quiescent_Merge := fun m ρ _ => Cert.Merge.Gen.frame m ρ

/-- The kernel runs over the reals. -/
theorem frame_ideal : Cert.quiescent_MergeIdeal := fun m ρ _ => Cert.MergeIdeal.Gen.frame m ρ

/-- The reference runs over the reals; it declares no semaphore. -/
theorem frame_ref : Cert.quiescent_MergeRefIdeal := fun m ρ _ =>
  (θ_run Cert.MergeRefIdeal.defs _ _).mono (fun r h => ⟨fun c => (h c).2.2.2.2.2,
      sem_eq_zero_of_no_sems (by decide) r.2⟩) (Cert.MergeRefIdeal.Value.run (F := Ideal) m ρ)

/-- Over the reals the kernel's five arrays are the reference's five gradients. -/
theorem algebraic : Cert.algebraic_MergeIdeal_MergeRefIdeal := by
  intro m ρ m' ρ' _ hag
  refine ⟨fun c => val_main_v33 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg3)) (m ((c.tc : Thread Cert.MergeIdeal.nD Cert.MergeIdeal.τ).loc Cert.MergeIdeal.main_arg6)),
    fun c => val_main_v34 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg4)) (m ((c.tc : Thread Cert.MergeIdeal.nD Cert.MergeIdeal.τ).loc Cert.MergeIdeal.main_arg6)),
    fun c => val_main_v35 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)),
    fun c => val_main_v36 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg6)),
    fun c => val_main_v37 (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)), ?_, ?_⟩
  · refine (θ_run Cert.MergeIdeal.defs _ _).mono (fun r h c => ?_) (Cert.MergeIdeal.Value.run_blocks m ρ)
    obtain ⟨f7, f8, f9, f10, f11⟩ := final m c
    obtain ⟨h7, h8, h9, h10, h11, hk⟩ := h c
    exact ⟨h7.trans f7, h8.trans f8, h9.trans f9, h10.trans f10, h11.trans f11, hk⟩
  · refine (θ_run Cert.MergeRefIdeal.defs _ _).mono (fun r h c => ?_)
      (Cert.MergeRefIdeal.Value.run (F := Ideal) m' ρ')
    obtain ⟨e0, e1, e2, e3, e4, e5, e6⟩ := hag c
    obtain ⟨h0, h1, h2, h3, h4, hk⟩ := h c
    rw [val_main_v33_eq, e0, e3, e6] at h0
    rw [val_main_v34_eq, e0, e4, e6] at h1
    rw [val_main_v35_eq, e0, e4, e5, e6] at h2
    rw [val_main_v36_eq, e0, e2, e3, e6] at h3
    rw [val_main_v37_eq, e0, e1, e4, e5, e6] at h4
    exact ⟨h0, h1, h2, h3, h4, hk⟩

/-- No operation was rewritten. -/
theorem preserves : Cert.preserves_Merge_MergeIdeal := trivial

end Cert.Proof.Merge

end
-- ==== Proof.Tiles.lean ====
/- Sums gathered tile by tile, and the layout operations every reference here uses, read at an index. -/
module

public import proofs.«01_k».proof.Proof.Whole
public import Idealize.ShloMosaic.Lib.KernelVsHost
public import Idealize.ShloMosaic.Lib.Pipeline.ReadBack

@[expose] public section

noncomputable section

namespace Cert.Proof

open Idealize.ShloMosaic Idealize.ShloMosaic.ValueIdx

/-- An index of a matrix is its two coordinates. -/
theorem idx2_cases {a b : Nat} (x : (⟨2, ![a, b]⟩ : Shape).Idx) : ∃ (i : Fin a) (j : Fin b), x = ValueIdx.ix2 i j :=
  ⟨x 0, x 1, idx2_ext rfl rfl⟩

/-- An index of a rank-three array is its three coordinates. -/
theorem idx3_cases {a b c : Nat} (x : (⟨3, ![a, b, c]⟩ : Shape).Idx) : ∃ (i : Fin a) (j : Fin b) (k : Fin c), x = ValueIdx.ix3 i j k :=
  ⟨x 0, x 1, x 2, funext fun d => by match d with | ⟨0, _⟩ => rfl | ⟨1, _⟩ => rfl | ⟨2, _⟩ => rfl⟩

/-- The sum over `n` tiles of `B` rows each is the sum over all rows. -/
theorem sum_tiles {n B N : Nat} (h : n * B = N) (f : Fin N → EReal) (g : Nat → EReal)
    (hg : ∀ t (_ : t < n) (hb : ∀ j : Fin B, t * B + j.val < N), g t = ∑ j : Fin B, f ⟨t * B + j.val, hb j⟩) :
    ∑ t ∈ Finset.range n, g t = ∑ i, f i := by
  subst h
  rw [← Equiv.sum_comp finProdFinEquiv f, Fintype.sum_prod_type, Finset.sum_range]
  refine Finset.sum_congr rfl fun t _ => ?_
  have hb : ∀ j : Fin B, t.val * B + j.val < n * B := fun j =>
    lt_of_lt_of_le (Nat.add_lt_add_left j.isLt _) (by rw [← Nat.succ_mul]; exact Nat.mul_le_mul_right _ t.isLt)
  rw [hg t.val t.isLt hb]
  refine Finset.sum_congr rfl fun j _ => congrArg f (Fin.ext ?_)
  show t.val * B + j.val = j.val + B * t.val
  rw [Nat.mul_comm, Nat.add_comm]

/-- Columns put into a wider array of zeros: inside. -/
theorem pad_cols {n w W o p : Nat} {α : Type} (x : (⟨2, ![n, w]⟩ : Shape).Idx → α) {u : Shape} (v : u.Idx → α)
    (h : (⟨2, ![n, w]⟩ : Shape).Pads ![0, o] ![0, p] ![0, 0] ⟨2, ![n, W]⟩) (hu : 0 < u.numel) (j : (⟨2, ![n, W]⟩ : Shape).Idx)
    (d : Fin w) (e : (j 1).val = o + d.val) : pad ⟨2, ![n, W]⟩ ![0, o] ![0, p] ![0, 0] x v h hu j = x (ValueIdx.ix2 (j 0) d) :=
  pad_apply_of_inside _ _ _ x v h hu j (ValueIdx.ix2 (j 0) d) fun a => by
    match a with
    | ⟨0, _⟩ => show (j 0).val = 0 + (j 0).val * (0 + 1); omega
    | ⟨1, _⟩ => show (j 1).val = o + d.val * (0 + 1); omega

/-- Columns put into a wider array of zeros: outside. -/
theorem pad_cols_off {n w W o p : Nat} {α : Type} (x : (⟨2, ![n, w]⟩ : Shape).Idx → α) {u : Shape} (v : u.Idx → α)
    (h : (⟨2, ![n, w]⟩ : Shape).Pads ![0, o] ![0, p] ![0, 0] ⟨2, ![n, W]⟩) (hu : 0 < u.numel) (j : (⟨2, ![n, W]⟩ : Shape).Idx)
    (e : (j 1).val < o ∨ o + w ≤ (j 1).val) :
    pad ⟨2, ![n, W]⟩ ![0, o] ![0, p] ![0, 0] x v h hu j = v (Shape.Idx.first hu) :=
  pad_apply_of_not_inside _ _ _ x v h hu j 1 fun ⟨h1, _, h3⟩ => by
    have h1 : o ≤ (j 1).val := h1
    have h3 : ((j 1).val - o) / (0 + 1) < w := h3
    rw [Nat.div_one] at h3
    omega

/-- A block that is the whole rank-three array. -/
theorem blk_whole3 {n w p a b d : Nat} (i j : (⟨3, ![n, w, p]⟩ : Shape).Idx) (e : a = 0 ∧ b = 0 ∧ d = 0) (h0 : (i 0).val = a * n + 1 * (j 0).val)
    (h1 : (i 1).val = b * w + 1 * (j 1).val) (h2 : (i 2).val = d * p + 1 * (j 2).val) : i = j := by
  obtain ⟨rfl, rfl, rfl⟩ := e
  funext k; apply Fin.ext
  match k with
  | ⟨0, _⟩ => exact h0.trans (by rw [Nat.zero_mul, Nat.zero_add, Nat.one_mul]; rfl)
  | ⟨1, _⟩ => exact h1.trans (by rw [Nat.zero_mul, Nat.zero_add, Nat.one_mul]; rfl)
  | ⟨2, _⟩ => exact h2.trans (by rw [Nat.zero_mul, Nat.zero_add, Nat.one_mul]; rfl)

/-- A total gathered point by point: what the first point leaves, and each later point over the one before. -/
theorem gathered {N : Nat} {ι : Type} (o : (n : Nat) → n < N → ι → EReal) (g : Nat → ι → EReal) (first : ∀ h, o 0 h = g 0)
    (step : ∀ n h, ∀ y, o (n + 1) h y = o n (Nat.lt_of_succ_lt h) y + g (n + 1) y) (n : Nat) (h : n < N) (y : ι) :
    o n h y = ∑ t ∈ Finset.range (n + 1), g t y := by
  induction n with
  | zero => rw [first, Finset.sum_range_one]
  | succ n ih => rw [step n h y, ih, Finset.sum_range_succ _ (n + 1)]

end Cert.Proof

end
-- ==== Proof.PoolA.Ref.lean ====
/- The gradient through the pooling mixer: the reference's stages read at a row, a group and a column of the group. -/
module

public import proofs.«01_k».proof.Proof.Gen.PoolARefIdeal.Read
public import proofs.«01_k».proof.Proof.Tiles

@[expose] public section

set_option maxRecDepth 16384

noncomputable section

namespace Cert.Proof.PoolA

open Cert.PoolARefIdeal Cert.PoolARefIdeal.Read Idealize.ShloMosaic Idealize.ShloMosaic.TcCoe

/-- Column `d` of group `g` of the joined columns. -/
abbrev gcol (g : Fin 4) (d : Fin 128) : Fin 512 := ⟨128 * g.val + d.val, by omega⟩

/-- The words the counts are cut at. -/
def window : Fin 4 → BitVec 32 := ![2#32, 4#32, 8#32, 16#32]

/-- The count of rows the window of group `g` meets at row `r`. -/
def count (g : Fin 4) (r : Nat) : EReal :=
  FloatOps.sitofp (F := Ideal) .f32 (IntOp.minsi (IntOp.addi (BitVec.ofNat 32 r) 1#32) (window g))

variable (x0 : Vec Ideal S8192x1024 .f32) (x1 : Vec Ideal S8192x512 .f32) (x2 : Vec Ideal S4x128x128 .f32) (x3 : Vec Ideal S512 .f32) (x4 : Vec Ideal S512x1024 .f32)
  (r : Fin 8192) (g : Fin 4) (d : Fin 128)

/-- The cotangent of the scaled products, times the scale. -/
theorem v105_at (j : Fin 512) : val_main_v105 x0 x3 x4 (ValueIdx.ix2 r j) = val_main_v100 x0 x4 (ValueIdx.ix2 r j) * x3 (ValueIdx.ix1 j) := by
  rw [val_main_v105_apply, val_main_v104_apply, val_main_v96_apply]
  exact congrArg (fun k => val_main_v100 x0 x4 (ValueIdx.ix2 r j) * x3 k) (funext fun a => by match a with | ⟨0, _⟩ => rfl)

theorem v108_at (k : Fin 128) : val_main_v108 x0 x3 x4 (ValueIdx.ix3 g k r) = val_main_v105 x0 x3 x4 (ValueIdx.ix2 r (gcol g k)) := by
  rw [val_main_v108_apply, val_main_v107_apply]
  refine congrArg _ (idx2_ext ?_ ?_)
  · show ((r.val * 4 + g.val) * 128 + k.val) / 512 = r.val; omega
  · show ((r.val * 4 + g.val) * 128 + k.val) % 512 = 128 * g.val + k.val; omega

/-- The gradient of the pooled rows of a group: products with the group's weights. -/
theorem v110_at : val_main_v110 x0 x2 x3 x4 (ValueIdx.ix3 r g d)
    = ∑ k : Fin 128, val_main_v100 x0 x4 (ValueIdx.ix2 r (gcol g k)) * x3 (ValueIdx.ix1 (gcol g k)) * x2 (ValueIdx.ix3 g d k) := by
  rw [val_main_v110_apply, val_main_v109_apply]
  refine Finset.sum_congr rfl fun k _ => ?_
  rw [← v105_at, ← v108_at]
  refine congrArg₂ (fun a b => val_main_v108 x0 x3 x4 a * x2 b) ?_ ?_ <;> funext a <;> (match a with | ⟨0, _⟩ => rfl | ⟨1, _⟩ => rfl | ⟨2, _⟩ => rfl)

theorem v114_at : val_main_v114 x0 x2 x3 x4 (ValueIdx.ix3 r g d) = val_main_v110 x0 x2 x3 x4 (ValueIdx.ix3 r g d) := by
  rw [val_main_v114_apply, val_main_v113_apply]
  refine congrArg _ (funext fun a => Fin.ext ?_)
  match a with
  | ⟨0, _⟩ => show (((r.val * 4 + g.val) * 128 + d.val) / 512 * 512 + ((r.val * 4 + g.val) * 128 + d.val) % 512) / 512 = r.val; omega
  | ⟨1, _⟩ => show (((r.val * 4 + g.val) * 128 + d.val) / 512 * 512 + ((r.val * 4 + g.val) * 128 + d.val) % 512) / 128 % 4 = g.val; omega
  | ⟨2, _⟩ => show (((r.val * 4 + g.val) * 128 + d.val) / 512 * 512 + ((r.val * 4 + g.val) * 128 + d.val) % 512) % 128 = d.val; omega

/-- The group's slice of the gradient of the pooled rows, each group read the same way. -/
theorem slice_at : (![val_main_v116 x0 x2 x3 x4, val_main_v118 x0 x2 x3 x4, val_main_v120 x0 x2 x3 x4, val_main_v122 x0 x2 x3 x4] g) (ValueIdx.ix2 r d)
    = val_main_v110 x0 x2 x3 x4 (ValueIdx.ix3 r g d) := by
  rw [← v114_at]
  have e0 : (r.val * 128 + d.val) / 128 = r.val := by omega
  have e2 : (r.val * 128 + d.val) % 128 = d.val := by omega
  match g with
  | ⟨0, _⟩ =>
    refine (val_main_v116_apply x0 x2 x3 x4 _).trans ((val_main_v115_apply x0 x2 x3 x4 _).trans (congrArg _ (funext fun a => Fin.ext ?_)))
    match a with | ⟨0, _⟩ => exact e0 | ⟨1, _⟩ => rfl | ⟨2, _⟩ => exact e2
  | ⟨1, _⟩ =>
    refine (val_main_v118_apply x0 x2 x3 x4 _).trans ((val_main_v117_apply x0 x2 x3 x4 _).trans (congrArg _ (funext fun a => Fin.ext ?_)))
    match a with | ⟨0, _⟩ => exact e0 | ⟨1, _⟩ => rfl | ⟨2, _⟩ => exact e2
  | ⟨2, _⟩ =>
    refine (val_main_v120_apply x0 x2 x3 x4 _).trans ((val_main_v119_apply x0 x2 x3 x4 _).trans (congrArg _ (funext fun a => Fin.ext ?_)))
    match a with | ⟨0, _⟩ => exact e0 | ⟨1, _⟩ => rfl | ⟨2, _⟩ => exact e2
  | ⟨3, _⟩ =>
    refine (val_main_v122_apply x0 x2 x3 x4 _).trans ((val_main_v121_apply x0 x2 x3 x4 _).trans (congrArg _ (funext fun a => Fin.ext ?_)))
    match a with | ⟨0, _⟩ => exact e0 | ⟨1, _⟩ => rfl | ⟨2, _⟩ => exact e2

/-- The counts, one per group. -/
theorem count_at : (![val_main_v134 (F := Ideal), val_main_v130, val_main_v126, val_main_v123] g) (ValueIdx.ix2 r d) = count g r.val := by
  match g with
  | ⟨0, _⟩ =>
    show val_main_v134 (F := Ideal) _ = _
    simp only [val_main_v134_apply, val_main_v17_apply, val_main_v16_apply, val_main_v15_apply, val_main_v14_apply, val_main_v13_apply, val_main_v12_apply]; rfl
  | ⟨1, _⟩ =>
    show val_main_v130 (F := Ideal) _ = _
    simp only [val_main_v130_apply, val_main_v37_apply, val_main_v36_apply, val_main_v35_apply, val_main_v34_apply, val_main_v33_apply, val_main_v32_apply]; rfl
  | ⟨2, _⟩ =>
    show val_main_v126 (F := Ideal) _ = _
    simp only [val_main_v126_apply, val_main_v57_apply, val_main_v56_apply, val_main_v55_apply, val_main_v54_apply, val_main_v53_apply, val_main_v52_apply]; rfl
  | ⟨3, _⟩ =>
    show val_main_v123 (F := Ideal) _ = _
    simp only [val_main_v123_apply, val_main_v77_apply, val_main_v76_apply, val_main_v75_apply, val_main_v74_apply, val_main_v73_apply, val_main_v72_apply]; rfl

/-- The gradient of the joined columns: each group's slice over the counts of its window. -/
theorem v137_at : val_main_v137 x0 x2 x3 x4 (ValueIdx.ix2 r (gcol g d)) = Ideal.div (val_main_v110 x0 x2 x3 x4 (ValueIdx.ix3 r g d)) (count g r.val) := by
  rw [← slice_at, ← count_at (d := d), val_main_v137_apply, val_main_v133_apply, val_main_v129_apply]
  have z : ∀ b : Ideal .f32, FloatOps.addf (FloatOps.ofBits (F := Ideal) .f32 0#32) b = b := fun b => by
    show Ideal.ofBits .f32 0x00000000#32 + b = b
    rw [Ideal.ofBits_zero_f32, zero_add]
  have z' : ∀ b : Ideal .f32, FloatOps.addf b (FloatOps.ofBits (F := Ideal) .f32 0#32) = b := fun b => by
    show b + Ideal.ofBits .f32 0x00000000#32 = b
    rw [Ideal.ofBits_zero_f32, add_zero]
  unfold val_main_v136 val_main_v132 val_main_v128 val_main_v125
  match g with
  | ⟨0, _⟩ =>
    rw [pad_cols_off (o := 384) _ _ _ _ _ (.inl (by show 128 * 0 + d.val < 384; omega)), pad_cols_off (o := 256) _ _ _ _ _ (.inl (by show 128 * 0 + d.val < 256; omega)),
      pad_cols_off (o := 128) _ _ _ _ _ (.inl (by show 128 * 0 + d.val < 128; omega)), pad_cols (o := 0) _ _ _ _ _ d (by show 128 * 0 + d.val = 0 + d.val; omega)]
    exact (congrArg (FloatOps.addf · _) ((congrArg (FloatOps.addf · _) (z _)).trans (z _))).trans (z _)
  | ⟨1, _⟩ =>
    rw [pad_cols_off (o := 384) _ _ _ _ _ (.inl (by show 128 * 1 + d.val < 384; omega)), pad_cols_off (o := 256) _ _ _ _ _ (.inl (by show 128 * 1 + d.val < 256; omega)),
      pad_cols (o := 128) _ _ _ _ _ d (by show 128 * 1 + d.val = 128 + d.val; omega), pad_cols_off (o := 0) _ _ _ _ _ (.inr (by show 0 + 128 ≤ 128 * 1 + d.val; omega))]
    exact (congrArg (FloatOps.addf · _) ((congrArg (FloatOps.addf · _) (z _)).trans (z _))).trans (z' _)
  | ⟨2, _⟩ =>
    rw [pad_cols_off (o := 384) _ _ _ _ _ (.inl (by show 128 * 2 + d.val < 384; omega)), pad_cols (o := 256) _ _ _ _ _ d (by show 128 * 2 + d.val = 256 + d.val; omega),
      pad_cols_off (o := 128) _ _ _ _ _ (.inr (by show 128 + 128 ≤ 128 * 2 + d.val; omega)), pad_cols_off (o := 0) _ _ _ _ _ (.inr (by show 0 + 128 ≤ 128 * 2 + d.val; omega))]
    exact (congrArg (FloatOps.addf · _) ((congrArg (FloatOps.addf · _) (z _)).trans (z' _))).trans (z' _)
  | ⟨3, _⟩ =>
    rw [pad_cols (o := 384) _ _ _ _ _ d (by show 128 * 3 + d.val = 384 + d.val; omega), pad_cols_off (o := 256) _ _ _ _ _ (.inr (by show 256 + 128 ≤ 128 * 3 + d.val; omega)),
      pad_cols_off (o := 128) _ _ _ _ _ (.inr (by show 128 + 128 ≤ 128 * 3 + d.val; omega)), pad_cols_off (o := 0) _ _ _ _ _ (.inr (by show 0 + 128 ≤ 128 * 3 + d.val; omega))]
    exact (congrArg (FloatOps.addf · _) ((congrArg (FloatOps.addf · _) (z' _)).trans (z' _))).trans (z' _)

/-- The mixed rows: the group's pooled rows times its weights. -/
theorem v95_at : val_main_v95 x1 x2 (ValueIdx.ix2 r (gcol g d))
    = ∑ k : Fin 128, x2 (ValueIdx.ix3 g k d) * val_main_v91 x1 (ValueIdx.ix2 r (gcol g k)) := by
  rw [val_main_v95_apply, val_main_v94_apply, val_main_v93_apply]
  refine Finset.sum_congr rfl fun k _ => congrArg₂ (· * ·) (congrArg x2 (funext fun a => Fin.ext ?_)) ((val_main_v92_apply x1 _).trans (congrArg _ (idx2_ext ?_ ?_)))
  · match a with
    | ⟨0, _⟩ => show (r.val * 512 + (128 * g.val + d.val)) / 128 % 4 = g.val; omega
    | ⟨1, _⟩ => rfl
    | ⟨2, _⟩ => show (r.val * 512 + (128 * g.val + d.val)) % 128 = d.val; omega
  · show (((r.val * 512 + (128 * g.val + d.val)) / 512 * 4 + (r.val * 512 + (128 * g.val + d.val)) / 128 % 4) * 128 + k.val) / 512 = r.val; omega
  · show (((r.val * 512 + (128 * g.val + d.val)) / 512 * 4 + (r.val * 512 + (128 * g.val + d.val)) / 128 % 4) * 128 + k.val) % 512 = 128 * g.val + k.val; omega

/-- The gradient of the scale: a sum over the rows. -/
theorem v138_at (j : Fin 512) : val_main_v138 x0 x1 x2 x4 (ValueIdx.ix2 0 j)
    = ∑ r : Fin 8192, val_main_v100 x0 x4 (ValueIdx.ix2 r j) * val_main_v95 x1 x2 (ValueIdx.ix2 r j) := by
  rw [val_main_v138_apply, val_main_v106_apply, Fin.sum_univ_one, val_main_v103_apply, val_main_v102_apply]
  have z1 : val_main_cst_13 (F := Ideal) (Shape.Idx.first Gen.h_S_) = 0 := Ideal.ofBits_zero_f32
  have z2 : val_main_cst_12 (F := Ideal) (Shape.Idx.first Gen.h_S_) = 0 := Ideal.ofBits_zero_f32
  rw [z1, z2, zero_add, zero_add]
  refine Finset.sum_congr rfl fun r _ => ?_
  have e : idx_main_v102 (idx_main_v103 (idx_main_v106 (idx_main_v138 (ValueIdx.ix2 0 j)) 0)) r = ValueIdx.ix2 r j :=
    idx2_ext rfl (by show 0 * 512 + j.val = j.val; omega)
  rw [e]
  exact mul_comm _ _

/-- The gradient of the weights: a sum over the rows. -/
theorem v112_at (e : Fin 128) : val_main_v112 x0 x1 x3 x4 (ValueIdx.ix3 g d e)
    = ∑ r : Fin 8192, val_main_v91 x1 (ValueIdx.ix2 r (gcol g d)) * (val_main_v100 x0 x4 (ValueIdx.ix2 r (gcol g e)) * x3 (ValueIdx.ix1 (gcol g e))) := by
  rw [val_main_v112_apply, val_main_v111_apply]
  refine Finset.sum_congr rfl fun r _ => ?_
  rw [mul_comm, ← v105_at, ← v108_at]
  refine congrArg₂ (· * ·) ((val_main_v92_apply x1 _).trans (congrArg _ (idx2_ext ?_ ?_))) (congrArg _ (funext fun a => by match a with | ⟨0, _⟩ => rfl | ⟨1, _⟩ => rfl | ⟨2, _⟩ => rfl))
  · show ((r.val * 4 + g.val) * 128 + d.val) / 512 = r.val; omega
  · show ((r.val * 4 + g.val) * 128 + d.val) % 512 = 128 * g.val + d.val; omega

/-- A product of the cotangent with the output weights. -/
theorem v100_at (j : Fin 512) : val_main_v100 x0 x4 (ValueIdx.ix2 r j) = ∑ q : Fin 1024, x0 (ValueIdx.ix2 r q) * x4 (ValueIdx.ix2 j q) :=
  (val_main_v100_apply x0 x4 _).trans (Finset.sum_congr rfl fun q _ => congrArg₂ (fun a b => x0 a * x4 b) (idx2_ext rfl rfl) (idx2_ext rfl rfl))
end Cert.Proof.PoolA

end
-- ==== Proof.PoolA.Body.lean ====
/- The gradient through the pooling mixer, kernel side: what each store of the body writes, read at an index, and what the
   body leaves in its three output blocks. The four groups of columns and the four runs of rows are read the same way. -/
module

public import proofs.«01_k».proof.Proof.Gen.PoolAIdeal.Value
public import proofs.«01_k».proof.Proof.PoolA.Ref
public import Idealize.ShloMosaic.Lib.Pointwise

@[expose] public section

set_option maxRecDepth 16384

noncomputable section

namespace Cert.Proof.PoolA

open Cert.PoolAIdeal Cert.PoolAIdeal.Gen Cert.PoolAIdeal.Value Idealize.ShloMosaic Idealize.ShloMosaic.TcCoe Idealize.SL.Sem

/-! ## The stores, one form for every group and every run of rows -/

/-- A run of rows of a group's gradient over the counts of the group's window. -/
def tail {F : FTy → Type} [FloatOps F] (o : Nat) (hs : S512x128.Slices ![o, 0] S128x128) (a b w : BitVec 32) (v : FVec F S512x128 .f32) : FVec F S128x128 .f32 :=
  divf (extractStridedSlice S128x128 ![o, 0] v hs)
    (broadcastTo S128x128 (sitofp .f32 (minsi (addi (addi (broadcast S128x1 (Scalar.addi (Scalar.muli a 512#32) b))
      (iota .tc S128x1 32 [0] iota_S128x1_d0_w32)) (broadcast S128x1 1#32)) (broadcast S128x1 w))) broadcasts_S128x1_S128x128)

/-- A group's columns of the cotangent's product. -/
def part {F : FTy → Type} [FloatOps F] (g : Fin 4) (hs : S512x512.Slices ![0, 128 * g.val] S512x128) (v : FVec F S512x512 .f32) : FVec F S512x128 .f32 :=
  extractStridedSlice S512x128 ![0, 128 * g.val] v hs

section
variable (x0 : Vec Ideal S512x1024 .f32) (x1 : Vec Ideal S512x512 .bf16) (x2 : Vec Ideal S512x1024 .bf16) (x3 : Vec Ideal S4x128x128 .bf16) (x4 : Vec Ideal S1x512 .f32)

/-- The cotangent of the scaled products at a row and a column of the block. -/
def prodAt (r j : Fin 512) : EReal := ∑ q : Fin 1024, x0 (ValueIdx.ix2 r q) * x2 (ValueIdx.ix2 j q)

/-- The mixed row of the block. -/
def mixAt (r : Fin 512) (g : Fin 4) (d : Fin 128) : EReal := ∑ k : Fin 128, x1 (ValueIdx.ix2 r (gcol g k)) * x3 (ValueIdx.ix3 g k d)

theorem pay5_at (r j : Fin 512) : k0_pay5 x0 x2 (ValueIdx.ix2 r j) = prodAt x0 x2 r j := by
  unfold k0_pay5
  rw [shapeCast_self, matmul_nt]
  case hd => rfl
  rw [show constant (F := Ideal) S512x512 .f32 0x00000000#32 (ValueIdx.ix2 r j) = 0 from Ideal.ofBits_zero_f32, zero_add]
  rfl

theorem part_at (g : Fin 4) (hs) (v : FVec Ideal S512x512 .f32) (r : Fin 512) (k : Fin 128) :
    part g hs v (ValueIdx.ix2 r k) = v (ValueIdx.ix2 r (gcol g k)) :=
  extractStridedSlice_apply _ v hs _ _ fun a => by
    match a with
    | ⟨0, _⟩ => exact (Nat.zero_add _).symm
    | ⟨1, _⟩ => rfl

theorem scaled_at (v : FVec Ideal S512x128 .f32) (s : Vec Ideal S1x128 .f32) (r : Fin 512) (k : Fin 128) :
    k0_pay22 v s (ValueIdx.ix2 r k) = v (ValueIdx.ix2 r k) * s (ValueIdx.ix2 0 k) := by
  unfold k0_pay22
  rw [shapeCast_self]
  refine congrArg (v (ValueIdx.ix2 r k) * ·) (broadcastTo_apply s _ _ _ fun a => ?_)
  match a with
  | ⟨0, _⟩ => rfl
  | ⟨1, _⟩ => rfl

/-- A block of one group's weights as a square. -/
theorem square_at {e : EltTy} (w : S1x128x128.Idx → Elt Ideal e) (h : S1x128x128.ShapeCasts S128x128) (d k : Fin 128) :
    shapeCast S128x128 w h (ValueIdx.ix2 d k) = w (ValueIdx.ix3 0 d k) :=
  shapeCast_apply w h _ _ (by
    rw [Shape.rowMajor_val_three, Shape.rowMajor_val_two]
    show (0 * 128 + d.val) * 128 + k.val = d.val * 128 + k.val
    rw [Nat.zero_mul, Nat.zero_add])

theorem pay12_at (a : FVec Ideal S512x128 .bf16) (w : Vec Ideal S1x128x128 .bf16) (r : Fin 512) (d : Fin 128) :
    k0_pay12 a w (ValueIdx.ix2 r d) = ∑ k : Fin 128, a (ValueIdx.ix2 r k) * w (ValueIdx.ix3 0 d k) := by
  unfold k0_pay12
  rw [matmul_nt]
  case hd => rfl
  rw [show constant (F := Ideal) S512x128 .f32 0x00000000#32 (ValueIdx.ix2 r d) = 0 from Ideal.ofBits_zero_f32, zero_add]
  exact Finset.sum_congr rfl fun k _ => congrArg (a (ValueIdx.ix2 r k) * ·) (square_at w _ d k)

theorem pay33_at (p : FVec Ideal S512x128 .bf16) (v : FVec Ideal S512x128 .f32) (w : Vec Ideal S1x128x128 .bf16) (s : Vec Ideal S1x128 .f32) (d : Fin 128) :
    k0_pay33 p v w s (ValueIdx.ix2 0 d)
      = s (ValueIdx.ix2 0 d) + ∑ r : Fin 512, v (ValueIdx.ix2 r d) * ∑ k : Fin 128, p (ValueIdx.ix2 r k) * w (ValueIdx.ix3 0 k d) := by
  unfold k0_pay33
  rw [shapeCast_self]
  refine congrArg (s (ValueIdx.ix2 0 d) + ·) ((shapeCast_apply _ _ _ (ValueIdx.ix1 d) ?_).trans ?_)
  · rw [Shape.rowMajor_val_one, Shape.rowMajor_val_two]
    show d.val = 0 * 128 + d.val
    rw [Nat.zero_mul, Nat.zero_add]
  · refine (Ideal.reduceAdd_r2_a0 reduces_S512x128_S128 _ _).trans ?_
    refine Finset.sum_congr rfl fun r _ => ?_
    refine congrArg (v (ValueIdx.ix2 r d) * ·) ?_
    refine (matmul_nn _ rfl _ _ _ _ _).trans ?_
    rw [show constant (F := Ideal) S512x128 .f32 0x00000000#32 _ = 0 from Ideal.ofBits_zero_f32, zero_add]
    exact Finset.sum_congr rfl fun k _ => congrArg (p (ValueIdx.ix2 r k) * ·) (square_at w _ k d)

theorem pay35_at (p : FVec Ideal S512x128 .bf16) (v : FVec Ideal S512x128 .f32) (c : Vec Ideal S1x128 .f32) (s : Vec Ideal S1x128x128 .f32) (d e : Fin 128) :
    k0_pay35 p v c s (ValueIdx.ix3 0 d e)
      = s (ValueIdx.ix3 0 d e) + ∑ r : Fin 512, p (ValueIdx.ix2 r d) * (v (ValueIdx.ix2 r e) * c (ValueIdx.ix2 0 e)) := by
  unfold k0_pay35
  refine (shapeCast_apply _ _ _ (ValueIdx.ix2 d e) ?_).trans ?_
  · rw [Shape.rowMajor_val_two, Shape.rowMajor_val_three]
    show d.val * 128 + e.val = (0 * 128 + d.val) * 128 + e.val
    rw [Nat.zero_mul, Nat.zero_add]
  · refine congrArg₂ (· + ·) (square_at s _ d e) ?_
    refine (matmul_tn _ rfl _ _ _ _ _).trans ?_
    rw [show constant (F := Ideal) S128x128 .f32 0x00000000#32 _ = 0 from Ideal.ofBits_zero_f32, zero_add]
    exact Finset.sum_congr rfl fun r _ => congrArg (p (ValueIdx.ix2 r d) * ·) (scaled_at v c r e)

/-- The row number the body counts with is the row's number in the array. -/
theorem rowWord (a o r : Nat) :
    IntOp.addi (Scalar.addi (Scalar.muli (BitVec.ofNat 32 a) 512#32) (BitVec.ofNat 32 o)) (BitVec.ofNat 32 r) = BitVec.ofNat 32 (a * 512 + (o + r)) := by
  show BitVec.ofNat 32 a * BitVec.ofNat 32 512 + BitVec.ofNat 32 o + BitVec.ofNat 32 r = _
  rw [← BitVec.ofNat_mul, ← BitVec.ofNat_add, ← BitVec.ofNat_add, Nat.add_assoc]

theorem tail_at (g : Fin 4) (a o : Nat) (ho : o + 128 ≤ 512) (hs) (v : FVec Ideal S512x128 .f32) (r d : Fin 128) :
    tail o hs (BitVec.ofNat 32 a) (BitVec.ofNat 32 o) (window g) v (ValueIdx.ix2 r d)
      = Ideal.div (v (ValueIdx.ix2 ⟨o + r.val, by omega⟩ d)) (count g (a * 512 + (o + r.val))) := by
  unfold tail
  refine congrArg₂ Ideal.div (extractStridedSlice_apply _ v hs _ _ fun b => ?_) ((broadcastTo_apply _ _ _ (ValueIdx.ix2 r 0) fun b => ?_).trans ?_)
  · match b with
    | ⟨0, _⟩ => rfl
    | ⟨1, _⟩ => exact (Nat.zero_add _).symm
  · match b with
    | ⟨0, _⟩ => rfl
    | ⟨1, _⟩ => rfl
  · unfold count
    rw [← rowWord a o r.val, show BitVec.ofNat 32 r.val = iota .tc S128x1 32 [0] iota_S128x1_d0_w32 (ValueIdx.ix2 r 0) from
      congrArg (BitVec.ofNat 32) (by show r.val = 0 * 128 + r.val; rw [Nat.zero_mul, Nat.zero_add])]
    rfl

/-- A group's columns of a row block, of the scale and of the weights. -/
theorem ld_cols {e : EltTy} (X : S512x512.Idx → Elt Ideal e) (g : Fin 4) (inb) (r : Fin 512) (k : Fin 128) :
    View.ld X (Rect.unit (s := S512x512) ![0, 128 * g.val] ![512, 128] inb) (ValueIdx.ix2 r k) = X (ValueIdx.ix2 r (gcol g k)) :=
  congrArg X (idx2_ext (by show 0 + 1 * r.val = r.val; omega) (by show 128 * g.val + 1 * k.val = 128 * g.val + k.val; omega))

theorem ld_scale {e : EltTy} (X : S1x512.Idx → Elt Ideal e) (g : Fin 4) (inb) (k : Fin 128) :
    View.ld X (Rect.unit (s := S1x512) ![0, 128 * g.val] ![1, 128] inb) (ValueIdx.ix2 0 k) = X (ValueIdx.ix2 0 (gcol g k)) :=
  congrArg X (idx2_ext rfl (by show 128 * g.val + 1 * k.val = 128 * g.val + k.val; omega))

theorem ld_group {e : EltTy} (X : S4x128x128.Idx → Elt Ideal e) (g : Fin 4) (inb) (d k : Fin 128) :
    View.ld X (Rect.unit (s := S4x128x128) ![g.val, 0, 0] ![1, 128, 128] inb) (ValueIdx.ix3 0 d k) = X (ValueIdx.ix3 g d k) :=
  congrArg X (funext fun a => Fin.ext (by
    match a with
    | ⟨0, _⟩ => show g.val + 1 * 0 = g.val; omega
    | ⟨1, _⟩ => show 0 + 1 * d.val = d.val; omega
    | ⟨2, _⟩ => show 0 + 1 * k.val = k.val; omega))

/-- A store of the first output: a run of rows of one group. -/
theorem store5 (g : Fin 4) (a o : Nat) (ho : o + 128 ≤ 512) (hs hp hb hc) (G : Vec Ideal S512x512 .f32)
    (hG : ∀ (r : Fin 512) (g : Fin 4) (d : Fin 128), G (ValueIdx.ix2 r (gcol g d)) = Ideal.div
      (∑ k : Fin 128, prodAt x0 x2 r (gcol g k) * x4 (ValueIdx.ix2 0 (gcol g k)) * x3 (ValueIdx.ix3 g d k)) (count g (a * 512 + r.val)))
    (x : S128x128.Idx) (y : S512x512.Idx) (e0 : (y 0).val = o + 1 * (x 0).val) (e1 : (y 1).val = 128 * g.val + 1 * (x 1).val) :
    tail o hs (BitVec.ofNat 32 a) (BitVec.ofNat 32 o) (window g)
      (k0_pay12 (k0_pay22 (part g hp (k0_pay5 x0 x2)) (View.ld x4 (Rect.unit (s := S1x512) ![0, 128 * g.val] ![1, 128] hb)))
        (View.ld x3 (Rect.unit (s := S4x128x128) ![g.val, 0, 0] ![1, 128, 128] hc))) x = G y := by
  obtain ⟨r, d, rfl⟩ := idx2_cases x
  have hr : o + r.val < 512 := by omega
  obtain rfl : y = ValueIdx.ix2 (⟨o + r.val, hr⟩ : Fin 512) (gcol g d) := idx2_ext (e0.trans (by rw [Nat.one_mul])) (e1.trans (by rw [Nat.one_mul]))
  rw [hG, tail_at g a o ho, pay12_at]
  refine congrArg (Ideal.div · _) (Finset.sum_congr rfl fun k _ => ?_)
  rw [scaled_at, part_at, pay5_at, ld_scale, ld_group]

/-- A store of the second output: one group's columns. -/
theorem store6 (g : Fin 4) (s : Vec Ideal S1x512 .f32) (hp hb hc hd) (G : Vec Ideal S1x512 .f32)
    (hG : ∀ (g : Fin 4) (d : Fin 128), G (ValueIdx.ix2 0 (gcol g d)) = s (ValueIdx.ix2 0 (gcol g d)) + ∑ r : Fin 512, prodAt x0 x2 r (gcol g d) * mixAt x1 x3 r g d)
    (x : S1x128.Idx) (y : S1x512.Idx) (e1 : (y 1).val = 128 * g.val + 1 * (x 1).val) :
    k0_pay33 (k0_pay31 (View.ld x1 (Rect.unit (s := S512x512) ![0, 128 * g.val] ![512, 128] hb))) (part g hp (k0_pay5 x0 x2))
      (View.ld x3 (Rect.unit (s := S4x128x128) ![g.val, 0, 0] ![1, 128, 128] hc))
      (View.ld s (Rect.unit (s := S1x512) ![0, 128 * g.val] ![1, 128] hd)) x = G y := by
  obtain ⟨z, d, rfl⟩ := idx2_cases x
  obtain rfl : z = 0 := Subsingleton.elim _ _
  obtain ⟨z, j, rfl⟩ := idx2_cases y
  obtain rfl : z = 0 := Subsingleton.elim _ _
  obtain rfl : j = gcol g d := Fin.ext (e1.trans (by rw [Nat.one_mul]))
  rw [hG, pay33_at, ld_scale]
  refine congrArg (_ + ·) (Finset.sum_congr rfl fun r _ => ?_)
  rw [part_at, pay5_at]
  refine congrArg (_ * ·) (Finset.sum_congr rfl fun k _ => ?_)
  unfold k0_pay31
  rw [shapeCast_self, ld_cols, ld_group]

/-- A store of the third output: one group. -/
theorem store7 (g : Fin 4) (s : Vec Ideal S4x128x128 .f32) (hp hb hc hd) (G : Vec Ideal S4x128x128 .f32)
    (hG : ∀ (g : Fin 4) (d e : Fin 128), G (ValueIdx.ix3 g d e) = s (ValueIdx.ix3 g d e)
      + ∑ r : Fin 512, x1 (ValueIdx.ix2 r (gcol g d)) * (prodAt x0 x2 r (gcol g e) * x4 (ValueIdx.ix2 0 (gcol g e))))
    (x : S1x128x128.Idx) (y : S4x128x128.Idx) (e0 : (y 0).val = g.val + 1 * (x 0).val) (e1 : (y 1).val = 0 + 1 * (x 1).val) (e2 : (y 2).val = 0 + 1 * (x 2).val) :
    k0_pay35 (k0_pay31 (View.ld x1 (Rect.unit (s := S512x512) ![0, 128 * g.val] ![512, 128] hb))) (part g hp (k0_pay5 x0 x2))
      (View.ld x4 (Rect.unit (s := S1x512) ![0, 128 * g.val] ![1, 128] hc))
      (View.ld s (Rect.unit (s := S4x128x128) ![g.val, 0, 0] ![1, 128, 128] hd)) x = G y := by
  obtain ⟨z, d, e, rfl⟩ := idx3_cases x
  obtain rfl : z = 0 := Subsingleton.elim _ _
  obtain ⟨g', d', e', rfl⟩ := idx3_cases y
  obtain rfl : g' = g := Fin.ext e0
  obtain rfl : d' = d := Fin.ext (e1.trans (by rw [Nat.one_mul, Nat.zero_add]))
  obtain rfl : e' = e := Fin.ext (e2.trans (by rw [Nat.one_mul, Nat.zero_add]))
  rw [hG, pay35_at, ld_group]
  refine congrArg (_ + ·) (Finset.sum_congr rfl fun r _ => ?_)
  unfold k0_pay31
  rw [shapeCast_self, ld_cols, part_at, pay5_at, ld_scale]

end
end Cert.Proof.PoolA
end
-- ==== Proof.PoolA.Outs.lean ====
/- The gradient through the pooling mixer, kernel side: what the body leaves in its three output blocks. -/
module

public import proofs.«01_k».proof.Proof.PoolA.Body

@[expose] public section

set_option maxRecDepth 16384

noncomputable section

namespace Cert.Proof.PoolA

open Cert.PoolAIdeal Cert.PoolAIdeal.Gen Cert.PoolAIdeal.Value Idealize.ShloMosaic Idealize.ShloMosaic.TcCoe Idealize.SL.Sem

/-- The five stores whose payload is split in two parts. -/
theorem joined {F : FTy → Type} [FloatOps F] (a : BitVec 32) :
    (∀ (v : FVec F S512x128 .bf16) (w : Vec F S1x128x128 .bf16), k0_pay17 (k0_pay15 v w) (k0_pay16 a) = tail 256 slices_S512x128_o256_0_S128x128 a 256#32 2#32 (k0_pay12 v w))
    ∧ (∀ (u : FVec F S512x128 .f32) (s : Vec F S1x128 .f32) (w : Vec F S1x128x128 .bf16), k0_pay28 (k0_pay26 u s w) (k0_pay27 a) = tail 128 slices_S512x128_o128_0_S128x128 a 128#32 4#32 (k0_pay12 (k0_pay22 u s) w))
    ∧ (∀ (u : FVec F S512x128 .f32) (s : Vec F S1x128 .f32) (w : Vec F S1x128x128 .bf16), k0_pay39 (k0_pay37 u s w) (k0_pay38 a) = tail 0 slices_S512x128_o0_0_S128x128 a 0#32 8#32 (k0_pay12 (k0_pay22 u s) w))
    ∧ (∀ u : FVec F S512x128 .f32, k0_pay44 (k0_pay42 u) (k0_pay43 a) = tail 384 slices_S512x128_o384_0_S128x128 a 384#32 8#32 u)
    ∧ (∀ (v : FVec F S512x128 .bf16) (w : Vec F S1x128x128 .bf16), k0_pay1 (k0_pay53 v w) (k0_pay54 a) = tail 256 slices_S512x128_o256_0_S128x128 a 256#32 16#32 (k0_pay12 v w)) :=
  ⟨fun _ _ => rfl, fun _ _ _ => rfl, fun _ _ _ => rfl, fun _ => rfl, fun _ _ => rfl⟩

variable (c : Dev nD) (i : grid0.Coords)
  (a1 : Memref sig .tc .vmem S512x1024 .f32) (h1 : a1.IsWhole) (a2 : Memref sig .tc .vmem S512x512 .bf16) (h2 : a2.IsWhole)
  (a3 : Memref sig .tc .vmem S512x1024 .bf16) (h3 : a3.IsWhole) (a4 : Memref sig .tc .vmem S4x128x128 .bf16) (h4 : a4.IsWhole)
  (a5 : Memref sig .tc .vmem S1x512 .f32) (h5 : a5.IsWhole) (a6 : Memref sig .tc .vmem S512x512 .f32) (h6 : a6.IsWhole)
  (a7 : Memref sig .tc .vmem S1x512 .f32) (h7 : a7.IsWhole) (a8 : Memref sig .tc .vmem S4x128x128 .f32) (h8 : a8.IsWhole)
  (hc : cond0_0 i) (hn : ¬cond0_0 i)
  (x0 : Vec Ideal S512x1024 .f32) (x1 : Vec Ideal S512x512 .bf16) (x2 : Vec Ideal S512x1024 .bf16) (x3 : Vec Ideal S4x128x128 .bf16) (x4 : Vec Ideal S1x512 .f32)
  (xo6 : Vec Ideal S1x512 .f32) (xo7 : Vec Ideal S4x128x128 .f32)

/-- What the body leaves in the block of the first output. -/
theorem out5 (G : Vec Ideal S512x512 .f32)
    (hG : ∀ (r : Fin 512) (g : Fin 4) (d : Fin 128), G (ValueIdx.ix2 r (gcol g d)) = Ideal.div
      (∑ k : Fin 128, prodAt x0 x2 r (gcol g k) * x4 (ValueIdx.ix2 0 (gcol g k)) * x3 (ValueIdx.ix3 g d k)) (count g ((i 0).val * 512 + r.val))) :
    out0_A_5 c i a1 h1 a2 h2 a3 h3 a4 h4 a5 h5 a6 h6 a7 h7 a8 h8 hc x0 x1 x2 x3 x4 = G := by
  unfold out0_A_5
  rw [View.read_writes_junk_eq_canon]; unfold kernelRun0_A; dsimp only; sl_unfold_words
  simp only [View.readAt_eq_ld, h1.read_unread, h2.read_unread, h3.read_unread, h4.read_unread, h5.read_unread, ld2, joined]
  have piece := fun g o (ho : o + 128 ≤ 512) hs hp hb hc x y e0 e1 => store5 x0 x2 x3 x4 g (i 0).val o ho hs hp hb hc G hG x y e0 e1
  funext y
  refine View.canon_apply_of_pieces G _ (View.PiecesOf.mem ?_) y (View.cover_of_tiledL _ (![128, 128] : Fin S512x512.rank → Nat) (by sl_kernel_rfl) y)
  exact ⟨fun x => piece 3 384 (by decide) _ _ _ _ x _ rfl rfl, fun x => piece 3 256 (by decide) _ _ _ _ x _ rfl rfl,
     fun x => piece 3 128 (by decide) _ _ _ _ x _ rfl rfl, fun x => piece 3 0 (by decide) _ _ _ _ x _ rfl rfl,
     fun x => piece 2 384 (by decide) _ _ _ _ x _ rfl rfl, fun x => piece 2 256 (by decide) _ _ _ _ x _ rfl rfl,
     fun x => piece 2 128 (by decide) _ _ _ _ x _ rfl rfl, fun x => piece 2 0 (by decide) _ _ _ _ x _ rfl rfl,
     fun x => piece 1 384 (by decide) _ _ _ _ x _ rfl rfl, fun x => piece 1 256 (by decide) _ _ _ _ x _ rfl rfl,
     fun x => piece 1 128 (by decide) _ _ _ _ x _ rfl rfl, fun x => piece 1 0 (by decide) _ _ _ _ x _ rfl rfl,
     fun x => piece 0 384 (by decide) _ _ _ _ x _ rfl rfl, fun x => piece 0 256 (by decide) _ _ _ _ x _ rfl rfl,
     fun x => piece 0 128 (by decide) _ _ _ _ x _ rfl rfl, fun x => piece 0 0 (by decide) _ _ _ _ x _ rfl rfl, trivial⟩

/-- What the body leaves in the block of the first output at a later point. -/
theorem out5B (G : Vec Ideal S512x512 .f32)
    (hG : ∀ (r : Fin 512) (g : Fin 4) (d : Fin 128), G (ValueIdx.ix2 r (gcol g d)) = Ideal.div
      (∑ k : Fin 128, prodAt x0 x2 r (gcol g k) * x4 (ValueIdx.ix2 0 (gcol g k)) * x3 (ValueIdx.ix3 g d k)) (count g ((i 0).val * 512 + r.val))) :
    out0_B_5 c i a1 h1 a2 h2 a3 h3 a4 h4 a5 h5 a6 h6 a7 h7 a8 h8 hn x0 x1 x2 x3 x4 xo6 xo7 = G := by
  unfold out0_B_5
  rw [View.read_writes_junk_eq_canon]; unfold kernelRun0_B; dsimp only; sl_unfold_words
  simp only [View.readAt_eq_ld, h1.read_unread, h2.read_unread, h3.read_unread, h4.read_unread, h5.read_unread, ld2, joined]
  have piece := fun g o (ho : o + 128 ≤ 512) hs hp hb hc x y e0 e1 => store5 x0 x2 x3 x4 g (i 0).val o ho hs hp hb hc G hG x y e0 e1
  funext y
  refine View.canon_apply_of_pieces G _ (View.PiecesOf.mem ?_) y (View.cover_of_tiledL _ (![128, 128] : Fin S512x512.rank → Nat) (by sl_kernel_rfl) y)
  exact ⟨fun x => piece 3 384 (by decide) _ _ _ _ x _ rfl rfl, fun x => piece 3 256 (by decide) _ _ _ _ x _ rfl rfl,
     fun x => piece 3 128 (by decide) _ _ _ _ x _ rfl rfl, fun x => piece 3 0 (by decide) _ _ _ _ x _ rfl rfl,
     fun x => piece 2 384 (by decide) _ _ _ _ x _ rfl rfl, fun x => piece 2 256 (by decide) _ _ _ _ x _ rfl rfl,
     fun x => piece 2 128 (by decide) _ _ _ _ x _ rfl rfl, fun x => piece 2 0 (by decide) _ _ _ _ x _ rfl rfl,
     fun x => piece 1 384 (by decide) _ _ _ _ x _ rfl rfl, fun x => piece 1 256 (by decide) _ _ _ _ x _ rfl rfl,
     fun x => piece 1 128 (by decide) _ _ _ _ x _ rfl rfl, fun x => piece 1 0 (by decide) _ _ _ _ x _ rfl rfl,
     fun x => piece 0 384 (by decide) _ _ _ _ x _ rfl rfl, fun x => piece 0 256 (by decide) _ _ _ _ x _ rfl rfl,
     fun x => piece 0 128 (by decide) _ _ _ _ x _ rfl rfl, fun x => piece 0 0 (by decide) _ _ _ _ x _ rfl rfl, trivial⟩

/-- What the body leaves in the block of the second output: at the first point over a fill of zeros, later over what was there. -/
theorem out6A (G : Vec Ideal S1x512 .f32)
    (hG : ∀ (g : Fin 4) (d : Fin 128), G (ValueIdx.ix2 0 (gcol g d)) = k0_pay3 (F := Ideal) (ValueIdx.ix2 0 (gcol g d)) + ∑ r : Fin 512, prodAt x0 x2 r (gcol g d) * mixAt x1 x3 r g d) :
    out0_A_6 c i a1 h1 a2 h2 a3 h3 a4 h4 a5 h5 a6 h6 a7 h7 a8 h8 hc x0 x1 x2 x3 x4 = G := by
  unfold out0_A_6
  rw [View.read_writes_junk_eq_canon]; unfold kernelRun0_A; dsimp only; sl_unfold_words
  simp (discharger := first | decide | rfl) only [↓View.readCov_skip, ↓View.readCov_fill, View.readAt_eq_ld, h1.read_unread, h2.read_unread, h3.read_unread, h4.read_unread, h5.read_unread, ld2]
  have piece := fun g hp hb hc hd x y e1 => store6 x0 x1 x2 x3 g (k0_pay3 (F := Ideal)) hp hb hc hd G hG x y e1
  funext y
  refine View.canon_append_of_piecesOf G [_] [_, _, _, _] ?_ y (View.cover_of_tiledL _ (![1, 128] : Fin S1x512.rank → Nat) (by sl_kernel_rfl) y)
  exact ⟨fun x => piece 3 _ _ _ _ x _ rfl, fun x => piece 2 _ _ _ _ x _ rfl, fun x => piece 1 _ _ _ _ x _ rfl, fun x => piece 0 _ _ _ _ x _ rfl, trivial⟩

theorem out6B (G : Vec Ideal S1x512 .f32)
    (hG : ∀ (g : Fin 4) (d : Fin 128), G (ValueIdx.ix2 0 (gcol g d)) = xo6 (ValueIdx.ix2 0 (gcol g d)) + ∑ r : Fin 512, prodAt x0 x2 r (gcol g d) * mixAt x1 x3 r g d) :
    out0_B_6 c i a1 h1 a2 h2 a3 h3 a4 h4 a5 h5 a6 h6 a7 h7 a8 h8 hn x0 x1 x2 x3 x4 xo6 xo7 = G := by
  unfold out0_B_6
  rw [View.read_writes_junk_eq_canon]; unfold kernelRun0_B; dsimp only; sl_unfold_words
  simp only [View.readAt_eq_ld, h1.read_unread, h2.read_unread, h3.read_unread, h4.read_unread, h5.read_unread, h7.read_unread, ld2]
  have piece := fun g hp hb hc hd x y e1 => store6 x0 x1 x2 x3 g xo6 hp hb hc hd G hG x y e1
  funext y
  refine View.canon_apply_of_pieces G _ (View.PiecesOf.mem ?_) y (View.cover_of_tiledL _ (![1, 128] : Fin S1x512.rank → Nat) (by sl_kernel_rfl) y)
  exact ⟨fun x => piece 3 _ _ _ _ x _ rfl, fun x => piece 2 _ _ _ _ x _ rfl, fun x => piece 1 _ _ _ _ x _ rfl, fun x => piece 0 _ _ _ _ x _ rfl, trivial⟩

/-- What the body leaves in the block of the third output. -/
theorem out7A (G : Vec Ideal S4x128x128 .f32)
    (hG : ∀ (g : Fin 4) (d e : Fin 128), G (ValueIdx.ix3 g d e) = k0_pay4 (F := Ideal) (ValueIdx.ix3 g d e)
      + ∑ r : Fin 512, x1 (ValueIdx.ix2 r (gcol g d)) * (prodAt x0 x2 r (gcol g e) * x4 (ValueIdx.ix2 0 (gcol g e)))) :
    out0_A_7 c i a1 h1 a2 h2 a3 h3 a4 h4 a5 h5 a6 h6 a7 h7 a8 h8 hc x0 x1 x2 x3 x4 = G := by
  unfold out0_A_7
  rw [View.read_writes_junk_eq_canon]; unfold kernelRun0_A; dsimp only; sl_unfold_words
  simp (discharger := first | decide | rfl) only [↓View.readCov_skip, ↓View.readCov_fill, View.readAt_eq_ld, h1.read_unread, h2.read_unread, h3.read_unread, h4.read_unread, h5.read_unread, ld2]
  have piece := fun g hp hb hc hd x y e0 e1 e2 => store7 x0 x1 x2 x4 g (k0_pay4 (F := Ideal)) hp hb hc hd G hG x y e0 e1 e2
  funext y
  refine View.canon_append_of_piecesOf G [_] [_, _, _, _] ?_ y (View.cover_of_tiledL _ (![1, 128, 128] : Fin S4x128x128.rank → Nat) (by sl_kernel_rfl) y)
  exact ⟨fun x => piece 3 _ _ _ _ x _ rfl rfl rfl, fun x => piece 2 _ _ _ _ x _ rfl rfl rfl, fun x => piece 1 _ _ _ _ x _ rfl rfl rfl,
    fun x => piece 0 _ _ _ _ x _ rfl rfl rfl, trivial⟩

theorem out7B (G : Vec Ideal S4x128x128 .f32)
    (hG : ∀ (g : Fin 4) (d e : Fin 128), G (ValueIdx.ix3 g d e) = xo7 (ValueIdx.ix3 g d e)
      + ∑ r : Fin 512, x1 (ValueIdx.ix2 r (gcol g d)) * (prodAt x0 x2 r (gcol g e) * x4 (ValueIdx.ix2 0 (gcol g e)))) :
    out0_B_7 c i a1 h1 a2 h2 a3 h3 a4 h4 a5 h5 a6 h6 a7 h7 a8 h8 hn x0 x1 x2 x3 x4 xo6 xo7 = G := by
  unfold out0_B_7
  rw [View.read_writes_junk_eq_canon]; unfold kernelRun0_B; dsimp only; sl_unfold_words
  simp only [View.readAt_eq_ld, h1.read_unread, h2.read_unread, h3.read_unread, h4.read_unread, h5.read_unread, h7.read_unread, h8.read_unread, ld2]
  have piece := fun g hp hb hc hd x y e0 e1 e2 => store7 x0 x1 x2 x4 g xo7 hp hb hc hd G hG x y e0 e1 e2
  funext y
  refine View.canon_apply_of_pieces G _ (View.PiecesOf.mem ?_) y (View.cover_of_tiledL _ (![1, 128, 128] : Fin S4x128x128.rank → Nat) (by sl_kernel_rfl) y)
  exact ⟨fun x => piece 3 _ _ _ _ x _ rfl rfl rfl, fun x => piece 2 _ _ _ _ x _ rfl rfl rfl, fun x => piece 1 _ _ _ _ x _ rfl rfl rfl,
    fun x => piece 0 _ _ _ _ x _ rfl rfl rfl, trivial⟩

end Cert.Proof.PoolA
end
-- ==== Proof.PoolA.Blocks.lean ====
/- The gradient through the pooling mixer, kernel side: where the blocks lie in the arrays, and what the arrays hold. -/
module

public import proofs.«01_k».proof.Proof.PoolA.Outs
public import proofs.«01_k».proof.Proof.PoolA.Ref

@[expose] public section

set_option maxRecDepth 16384

noncomputable section

namespace Cert.Proof.PoolA

open Cert.PoolAIdeal Cert.PoolAIdeal.Gen Cert.PoolAIdeal.Value Idealize.ShloMosaic Idealize.ShloMosaic.TcCoe Idealize.SL.Sem
open Cert.PoolARefIdeal.Read

theorem tile_le (t : Fin cfg0.N) : t.val * 512 + 512 ≤ 8192 := by
  have h : t.val < grid0.N := t.isLt
  rw [N_0] at h; omega

/-- The grid's only coordinate is the point. -/
theorem coord : ∀ t : Fin cfg0.N, (grid0.coords t 0).val = t.val := (by decide +kernel : ∀ t : Fin grid0.N, _)

/-- Where each window's block lies. -/
theorem idxs : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 3) = 0 ∧ win0_7.index t (1 : Fin 3) = 0 ∧ win0_7.index t (2 : Fin 3) = 0) :=
  (by decide +kernel : ∀ t : Fin grid0.N, _)

/-- The tile of rows of point `t`. -/
abbrev at' {w : Nat} (t : Fin cfg0.N) (j : (⟨2, ![512, w]⟩ : Shape).Idx) : (⟨2, ![8192, w]⟩ : Shape).Idx :=
  row (t.val * 512) (tile_le t) j

theorem emb0 (t : Fin cfg0.N) (j : S512x1024.Idx) : ((cfg0.win 0).blk t).view.emb j = at' t j := blk_row _ _ j (idxs t).1 rfl rfl

theorem emb1 (t : Fin cfg0.N) (j : S512x512.Idx) : ((cfg0.win 1).blk t).view.emb j = at' t j := blk_row _ _ j (idxs t).2.1 rfl rfl

theorem emb5 (t : Fin cfg0.N) (j : S512x512.Idx) : ((cfg0.win 5).blk t).view.emb j = at' t j := blk_row _ _ j (idxs t).2.2.2.2.2.1 rfl rfl

theorem emb2 (t : Fin cfg0.N) (j : S512x1024.Idx) : ((cfg0.win 2).blk t).view.emb j = j := blk_whole _ j (idxs t).2.2.1 rfl rfl

theorem emb3 (t : Fin cfg0.N) (j : S4x128x128.Idx) : ((cfg0.win 3).blk t).view.emb j = j := blk_whole3 _ j (idxs t).2.2.2.1 rfl rfl rfl

theorem emb4 (t : Fin cfg0.N) (j : S1x512.Idx) : ((cfg0.win 4).blk t).view.emb j = j := blk_whole _ j (idxs t).2.2.2.2.1 rfl rfl

theorem emb6 (t : Fin cfg0.N) (j : S1x512.Idx) : ((cfg0.win 6).blk t).view.emb j = j := blk_whole _ j (idxs t).2.2.2.2.2.2.1 rfl rfl

theorem emb7 (t : Fin cfg0.N) (j : S4x128x128.Idx) : ((cfg0.win 7).blk t).view.emb j = j := blk_whole3 _ j (idxs t).2.2.2.2.2.2.2 rfl rfl rfl

/-- Every row is in the tile of the point that writes it. -/
theorem cover (i : S8192x512.Idx) : ∃ (t : Fin cfg0.N) (j : S512x512.Idx), at' t j = i := by
  have hi : (i 0).val < 8192 := (i 0).isLt
  have ht : (i 0).val / 512 < cfg0.N := by show (i 0).val / 512 < grid0.N; rw [N_0]; omega
  exact ⟨⟨(i 0).val / 512, ht⟩, _, (row_of i (by decide) (tile_le ⟨(i 0).val / 512, ht⟩)).symm⟩

/-- The blocks the body reads at point `t`. -/
theorem iblks {F : FTy → Type} [FloatOps F] (m : (ℓ : Loc nD τ sig) → Buf (Elt F) ℓ) (c : Dev nD) (t : Fin cfg0.N) :
    iblk m c 0 t = (fun j => V m c main_arg0 (at' t j))
    ∧ iblk m c 1 t = (fun j => V m c main_v83 (at' t j))
    ∧ iblk m c 2 t = V m c main_v84
    ∧ iblk m c 3 t = V m c main_v85
    ∧ iblk m c 4 t = V m c main_v86 := by
  unfold iblk
  generalize V m c = X
  refine ⟨?_, ?_, ?_, ?_, ?_⟩ <;> funext j
  · exact congrArg (X main_arg0) (emb0 t j)
  · exact congrArg (X main_v83) (emb1 t j)
  · exact congrArg (X main_v84) (emb2 t j)
  · exact congrArg (X main_v85) (emb3 t j)
  · exact congrArg (X main_v86) (emb4 t j)

/-! ## The arrays the region finds -/

/-- The reference's added sums are zero. -/
theorem added (x : Vec Ideal S8192x512 .f32) :
    val_main_v20 x = val_main_v18 x ∧ val_main_v40 x = val_main_v38 x ∧ val_main_v60 x = val_main_v58 x ∧ val_main_v80 x = val_main_v78 x := by
  refine ⟨?_, ?_, ?_, ?_⟩ <;> funext i <;>
    (simp only [val_main_v20_apply, val_main_v40_apply, val_main_v60_apply, val_main_v80_apply, val_main_v19_apply, val_main_v39_apply,
      val_main_v59_apply, val_main_v79_apply, val_main_v0_apply, val_main_cst_apply, Ideal.addf_def, Ideal.ofBits_def, Ideal.ofBits_zero_f32, add_zero])

variable (m : (ℓ : Loc nD τ sig) → Buf (Elt Ideal) ℓ)

/-- What the host line leaves in a buffer after its first `n` operations. -/
abbrev line (c : Dev nD) (n : Nat) := StableHlo.upto ([hostOps0 (F := Ideal), hostOps0_1, hostOps0_2].flatten) (fun b => m (c, b)) n

/-- The running sums, after a row of zeros. -/
theorem sums (c : Dev nD) : line m c 6 (Proc.tc.devRef main_v1) = val_main_v2
    ∧ line m c 6 (Proc.tc.devRef main_v2) = val_main_v3 (m ((c : Thread nD τ).loc main_arg1)) := by
  constructor <;> (after_reads_simp; rfl)

theorem piece0 (c : Dev nD) : line m c 96 (Proc.tc.devRef main_v77) = val_main_v86 (m ((c : Thread nD τ).loc main_arg1)) := by
  obtain ⟨h1, h2⟩ := sums m c
  have h7 : line m c 14 (Proc.tc.devRef main_v7) = val_main_v8 := by after_reads_simp; rfl
  have h9 : line m c 14 (Proc.tc.devRef main_v9) = val_main_v10 (m ((c : Thread nD τ).loc main_arg1)) := by
    unfold line at *; after_reads_simp; rw [h1, h2]; rfl
  unfold val_main_v86 val_main_v25 val_main_v22
  rw [(added _).1]
  unfold line at *
  after_reads_simp
  rw [h1, h2, h7, h9]
  rfl

theorem piece1 (c : Dev nD) : line m c 96 (Proc.tc.devRef main_v78) = val_main_v87 (m ((c : Thread nD τ).loc main_arg1)) := by
  obtain ⟨h1, h2⟩ := sums m c
  have h7 : line m c 35 (Proc.tc.devRef main_v25) = val_main_v28 := by after_reads_simp; rfl
  have h9 : line m c 35 (Proc.tc.devRef main_v27) = val_main_v30 (m ((c : Thread nD τ).loc main_arg1)) := by
    unfold line at *; after_reads_simp; rw [h1, h2]; rfl
  unfold val_main_v87 val_main_v45 val_main_v42
  rw [(added _).2.1]
  unfold line at *
  after_reads_simp
  rw [h1, h2, h7, h9]
  rfl

theorem piece2 (c : Dev nD) : line m c 96 (Proc.tc.devRef main_v79) = val_main_v88 (m ((c : Thread nD τ).loc main_arg1)) := by
  obtain ⟨h1, h2⟩ := sums m c
  have h7 : line m c 56 (Proc.tc.devRef main_v43) = val_main_v48 := by after_reads_simp; rfl
  have h9 : line m c 56 (Proc.tc.devRef main_v45) = val_main_v50 (m ((c : Thread nD τ).loc main_arg1)) := by
    unfold line at *; after_reads_simp; rw [h1, h2]; rfl
  unfold val_main_v88 val_main_v65 val_main_v62
  rw [(added _).2.2.1]
  unfold line at *
  after_reads_simp
  rw [h1, h2, h7, h9]
  rfl

theorem piece3 (c : Dev nD) : line m c 96 (Proc.tc.devRef main_v80) = val_main_v89 (m ((c : Thread nD τ).loc main_arg1)) := by
  obtain ⟨h1, h2⟩ := sums m c
  have h7 : line m c 77 (Proc.tc.devRef main_v61) = val_main_v68 := by after_reads_simp; rfl
  have h9 : line m c 77 (Proc.tc.devRef main_v63) = val_main_v70 (m ((c : Thread nD τ).loc main_arg1)) := by
    unfold line at *; after_reads_simp; rw [h1, h2]; rfl
  unfold val_main_v89 val_main_v85 val_main_v82
  rw [(added _).2.2.2]
  unfold line at *
  after_reads_simp
  rw [h1, h2, h7, h9]
  rfl

/-- The pooled rows. -/
theorem Vpooled (c : Dev nD) : V m c main_v83 = val_main_v91 (m ((c : Thread nD τ).loc main_arg1)) := by
  unfold Gen.V
  after_reads_simp
  unfold val_main_v91 val_main_v90
  have e0 := piece0 m c; have e1 := piece1 m c; have e2 := piece2 m c; have e3 := piece3 m c
  unfold line at e0 e1 e2 e3
  rw [← e0, ← e1, ← e2, ← e3]
  rfl

theorem Vwa (c : Dev nD) : V m c main_v84 = fun i => m ((c : Thread nD τ).loc main_arg4) i := by
  funext i; unfold Gen.V; after_reads_at

theorem Vwp (c : Dev nD) : V m c main_v85 = fun i => m ((c : Thread nD τ).loc main_arg2) i := by
  funext i; unfold Gen.V; after_reads_at

theorem Vscale (c : Dev nD) (j : Fin 512) : V m c main_v86 (ValueIdx.ix2 0 j) = m ((c : Thread nD τ).loc main_arg3) (ValueIdx.ix1 j) := by
  unfold Gen.V
  after_reads_at
  exact congrArg (m _) (funext fun a => match a with | ⟨0, _⟩ => rfl)

/-- Rows of an array. -/
abbrev rows {w : Nat} (X : Vec Ideal ⟨2, ![8192, w]⟩ .f32) (o : Nat) (h : o + 512 ≤ 8192) : Vec Ideal ⟨2, ![512, w]⟩ .f32 := fun j => X (row o h j)

/-- The same, as rows of the arguments. -/
theorem reads (c : Dev nD) (t : Fin cfg0.N) :
    iblk m c 0 t = rows (m ((c : Thread nD τ).loc main_arg0)) (t.val * 512) (tile_le t)
    ∧ iblk m c 1 t = rows (val_main_v91 (m ((c : Thread nD τ).loc main_arg1))) (t.val * 512) (tile_le t)
    ∧ iblk m c 2 t = (fun k => m ((c : Thread nD τ).loc main_arg4) k)
    ∧ iblk m c 3 t = (fun k => m ((c : Thread nD τ).loc main_arg2) k)
    ∧ iblk m c 4 t = V m c main_v86 := by
  obtain ⟨i0, i1, i2, i3, i4⟩ := iblks m c t
  refine ⟨i0.trans ?_, i1.trans ?_, i2.trans (Vwa m c), i3.trans (Vwp m c), i4⟩
  · rw [V_main_arg0]
  · rw [Vpooled]

end Cert.Proof.PoolA
end
-- ==== Proof.PoolA.Value.lean ====
/- The gradient through the pooling mixer over the reals: the kernel's three results are the reference's. -/
module

public import proofs.«01_k».proof.Proof.PoolA.Blocks
public import proofs.«01_k».proof.Proof.Tiles

@[expose] public section

set_option maxRecDepth 16384

noncomputable section

namespace Cert.Proof.PoolA

open Cert.PoolAIdeal Cert.PoolAIdeal.Gen Cert.PoolAIdeal.Value Idealize.ShloMosaic Idealize.ShloMosaic.TcCoe Idealize.SL.Sem
open Cert.PoolARefIdeal.Read

variable (m : (ℓ : Loc nD τ sig) → Buf (Elt Ideal) ℓ) (c : Dev nD)

abbrev dya : Vec Ideal S8192x1024 .f32 := m ((c : Thread nD τ).loc main_arg0)
abbrev src : Vec Ideal S8192x512 .f32 := m ((c : Thread nD τ).loc main_arg1)
abbrev wp : Vec Ideal S4x128x128 .f32 := m ((c : Thread nD τ).loc main_arg2)
abbrev scale : Vec Ideal S512 .f32 := m ((c : Thread nD τ).loc main_arg3)
abbrev wa : Vec Ideal S512x1024 .f32 := m ((c : Thread nD τ).loc main_arg4)

/-- The row of the array that row `r` of point `t` is. -/
abbrev rowAt (t : Fin cfg0.N) (r : Fin 512) : Fin 8192 := ⟨t.val * 512 + r.val, by have := tile_le t; omega⟩

theorem rows_at {w : Nat} (X : Vec Ideal ⟨2, ![8192, w]⟩ .f32) (t : Fin cfg0.N) (r : Fin 512) (j : Fin w) :
    rows X (t.val * 512) (tile_le t) (ValueIdx.ix2 r j) = X (ValueIdx.ix2 (rowAt t r) j) :=
  congrArg X (idx2_ext rfl rfl)

/-- The gradient before the scale, at a row of a tile. -/
theorem prod_rows (t : Fin cfg0.N) (r : Fin 512) (j : Fin 512) :
    prodAt (rows (dya m c) (t.val * 512) (tile_le t)) (fun k => wa m c k) r j = val_main_v100 (dya m c) (wa m c) (ValueIdx.ix2 (rowAt t r) j) := by
  rw [v100_at]
  exact Finset.sum_congr rfl fun q _ => congrArg (· * wa m c (ValueIdx.ix2 j q)) (rows_at _ t r q)

/-- The mixed row, at a row of a tile. -/
theorem mix_rows (t : Fin cfg0.N) (r : Fin 512) (g : Fin 4) (d : Fin 128) :
    mixAt (rows (val_main_v91 (src m c)) (t.val * 512) (tile_le t)) (fun k => wp m c k) r g d
      = val_main_v95 (src m c) (wp m c) (ValueIdx.ix2 (rowAt t r) (gcol g d)) := by
  rw [v95_at]
  refine Finset.sum_congr rfl fun k _ => ?_
  rw [rows_at, mul_comm]

/-- What point `t` stores of the first result. -/
theorem tile5 (t : Fin cfg0.N) : (outsAt0 m c t.val t.isLt).1 = fun j => val_main_v137 (dya m c) (wp m c) (scale m c) (wa m c) (at' t j) := by
  obtain ⟨i0, i1, i2, i3, i4⟩ := reads m c t
  have hG : ∀ (r : Fin 512) (g : Fin 4) (d : Fin 128),
      val_main_v137 (dya m c) (wp m c) (scale m c) (wa m c) (at' t (ValueIdx.ix2 r (gcol g d))) = Ideal.div
      (∑ k : Fin 128, prodAt (iblk m c 0 t) (iblk m c 2 t) r (gcol g k) * iblk m c 4 t (ValueIdx.ix2 0 (gcol g k)) * iblk m c 3 t (ValueIdx.ix3 g d k))
      (count g ((grid0.coords t 0).val * 512 + r.val)) := by
    intro r g d
    rw [i0, i2, i3, i4, coord, show at' t (ValueIdx.ix2 r (gcol g d)) = ValueIdx.ix2 (rowAt t r) (gcol g d) from idx2_ext rfl rfl, v137_at, v110_at]
    refine congrArg₂ Ideal.div (Finset.sum_congr rfl fun k _ => ?_) rfl
    exact congrArg (· * wp m c (ValueIdx.ix3 g d k)) (congrArg₂ (· * ·) (prod_rows m c t r _).symm (Vscale m c _).symm)
  by_cases h : t.val % 16 = 0
  · rw [outsAt0_A m c t h]
    dsimp only
    exact out5 c _ _ _ _ _ _ _ _ _ _ _ _ _ _ _ _ _ _ _ _ _ _ _ _ hG
  · rw [outsAt0_B m c t h]
    dsimp only
    exact out5B c _ _ _ _ _ _ _ _ _ _ _ _ _ _ _ _ _ _ _ _ _ _ _ _ _ _ hG

/-- Point `n`'s part of the second result. -/
def part6 (n : Nat) (y : S1x512.Idx) : EReal :=
  if h : n < cfg0.N then ∑ r : Fin 512, val_main_v100 (dya m c) (wa m c) (ValueIdx.ix2 (rowAt ⟨n, h⟩ r) (y 1))
    * val_main_v95 (src m c) (wp m c) (ValueIdx.ix2 (rowAt ⟨n, h⟩ r) (y 1)) else 0

/-- Point `n`'s part of the third result. -/
def part7 (n : Nat) (y : S4x128x128.Idx) : EReal :=
  if h : n < cfg0.N then ∑ r : Fin 512, val_main_v91 (src m c) (ValueIdx.ix2 (rowAt ⟨n, h⟩ r) (gcol (y 0) (y 1)))
    * (val_main_v100 (dya m c) (wa m c) (ValueIdx.ix2 (rowAt ⟨n, h⟩ r) (gcol (y 0) (y 2))) * scale m c (ValueIdx.ix1 (gcol (y 0) (y 2)))) else 0

/-- The blocks the body reads at point `t`. -/
abbrev b0 (t : Fin cfg0.N) : Vec Ideal S512x1024 .f32 := iblk m c 0 t
abbrev b1 (t : Fin cfg0.N) : Vec Ideal S512x512 .bf16 := iblk m c 1 t
abbrev b2 (t : Fin cfg0.N) : Vec Ideal S512x1024 .bf16 := iblk m c 2 t
abbrev b3 (t : Fin cfg0.N) : Vec Ideal S4x128x128 .bf16 := iblk m c 3 t
abbrev b4 (t : Fin cfg0.N) : Vec Ideal S1x512 .f32 := iblk m c 4 t

theorem sum6 (t : Fin cfg0.N) (g : Fin 4) (d : Fin 128) :
    ∑ r : Fin 512, prodAt (b0 m c t) (b2 m c t) r (gcol g d) * mixAt (b1 m c t) (b3 m c t) r g d
      = part6 m c t.val (ValueIdx.ix2 0 (gcol g d)) := by
  obtain ⟨i0, i1, i2, i3, i4⟩ := reads m c t
  unfold b0 b1 b2 b3
  rw [part6, dif_pos t.isLt, i0, i1, i2, i3]
  exact Finset.sum_congr rfl fun r _ => congrArg₂ (· * ·) (prod_rows m c t r _) (mix_rows m c t r g d)

theorem sum7 (t : Fin cfg0.N) (g : Fin 4) (d e : Fin 128) :
    ∑ r : Fin 512, b1 m c t (ValueIdx.ix2 r (gcol g d)) * (prodAt (b0 m c t) (b2 m c t) r (gcol g e) * b4 m c t (ValueIdx.ix2 0 (gcol g e)))
      = part7 m c t.val (ValueIdx.ix3 g d e) := by
  obtain ⟨i0, i1, i2, i3, i4⟩ := reads m c t
  unfold b0 b1 b2 b4
  rw [part7, dif_pos t.isLt, i0, i1, i2, i4]
  exact Finset.sum_congr rfl fun r _ => congrArg₂ (· * ·) (rows_at _ t r _) (congrArg₂ (· * ·) (prod_rows m c t r _) (Vscale m c _))

/-- A fill of zeros. -/
theorem fill {S : Shape} (y : S.Idx) (x : EReal) : x = constant (F := Ideal) S .f32 0x00000000#32 y + x :=
  ((congrArg (· + x) Ideal.ofBits_zero_f32).trans (zero_add x)).symm

/-- The first point leaves its parts. -/
theorem firstAt (t : Fin cfg0.N) (h : t.val % 16 = 0) :
    (outsAt0 m c t.val t.isLt).2.1 = part6 m c t.val ∧ (outsAt0 m c t.val t.isLt).2.2 = part7 m c t.val := by
  rw [outsAt0_A m c t h]
  dsimp only
  exact ⟨out6A c _ _ _ _ _ _ _ _ _ _ _ _ _ _ _ _ _ _ (b0 m c t) (b1 m c t) (b2 m c t) (b3 m c t) (b4 m c t) _ fun g d => by
      rw [sum6]; exact fill (S := S1x512) (ValueIdx.ix2 0 (gcol g d)) _,
    out7A c _ _ _ _ _ _ _ _ _ _ _ _ _ _ _ _ _ _ (b0 m c t) (b1 m c t) (b2 m c t) (b3 m c t) (b4 m c t) _ fun g d e => by
      rw [sum7]; exact fill (S := S4x128x128) (ValueIdx.ix3 g d e) _⟩

/-- A later point adds its parts. -/
theorem laterAt (t : Fin cfg0.N) (h : ¬t.val % 16 = 0) :
    (outsAt0 m c t.val t.isLt).2.1 = (fun y => (outsAt0 m c (t.val - 1) (Nat.lt_of_le_of_lt (Nat.sub_le _ _) t.isLt)).2.1 y + part6 m c t.val y)
    ∧ (outsAt0 m c t.val t.isLt).2.2 = fun y => (outsAt0 m c (t.val - 1) (Nat.lt_of_le_of_lt (Nat.sub_le _ _) t.isLt)).2.2 y + part7 m c t.val y := by
  rw [outsAt0_B m c t h]
  dsimp only
  exact ⟨out6B c _ _ _ _ _ _ _ _ _ _ _ _ _ _ _ _ _ _ (b0 m c t) (b1 m c t) (b2 m c t) (b3 m c t) (b4 m c t) _ _ _ fun g d => by
      rw [sum6],
    out7B c _ _ _ _ _ _ _ _ _ _ _ _ _ _ _ _ _ _ (b0 m c t) (b1 m c t) (b2 m c t) (b3 m c t) (b4 m c t) _ _ _ fun g d e => by
      rw [sum7]⟩

/-- The sums after point `n`. -/
theorem sofar (n : Nat) (h : n < cfg0.N) :
    (∀ y, (outsAt0 m c n h).2.1 y = ∑ t ∈ Finset.range (n + 1), part6 m c t y)
    ∧ ∀ y, (outsAt0 m c n h).2.2 y = ∑ t ∈ Finset.range (n + 1), part7 m c t y := by
  have hs : ∀ k, k + 1 < cfg0.N → ¬(k + 1) % 16 = 0 := fun k hk => by
    have hk : k + 1 < grid0.N := hk
    rw [N_0] at hk; omega
  exact ⟨gathered (fun n h => (outsAt0 m c n h).2.1) (part6 m c) (fun h => (firstAt m c ⟨0, h⟩ rfl).1)
      (fun k hk => congrFun (laterAt m c ⟨k + 1, hk⟩ (hs k hk)).1) n h,
    gathered (fun n h => (outsAt0 m c n h).2.2) (part7 m c) (fun h => (firstAt m c ⟨0, h⟩ rfl).2)
      (fun k hk => congrFun (laterAt m c ⟨k + 1, hk⟩ (hs k hk)).2) n h⟩

theorem total6 (y : S1x512.Idx) : ∑ t ∈ Finset.range 16, part6 m c t y = val_main_v138 (dya m c) (src m c) (wp m c) (wa m c) y := by
  obtain ⟨i, j, rfl⟩ := idx2_cases y
  obtain rfl : i = 0 := Subsingleton.elim _ _
  rw [v138_at]
  refine sum_tiles (B := 512) (by decide) _ _ fun t ht hb => ?_
  exact dif_pos ht

theorem total7 (y : S4x128x128.Idx) : ∑ t ∈ Finset.range 16, part7 m c t y = val_main_v112 (dya m c) (src m c) (scale m c) (wa m c) y := by
  obtain ⟨g, d, e, rfl⟩ := idx3_cases y
  rw [v112_at]
  refine sum_tiles (B := 512) (by decide) _ _ fun t ht hb => ?_
  exact dif_pos ht

/-- What the last point leaves. -/
theorem lastAt (t : Fin cfg0.N) (h : t.val % 16 = 15) :
    (outsAt0 m c t.val t.isLt).2.1 = val_main_v138 (dya m c) (src m c) (wp m c) (wa m c)
    ∧ (outsAt0 m c t.val t.isLt).2.2 = val_main_v112 (dya m c) (src m c) (scale m c) (wa m c) := by
  have e : t.val + 1 = 16 := by have := tile_le t; omega
  obtain ⟨s6, s7⟩ := sofar m c t.val t.isLt
  rw [e] at s6 s7
  exact ⟨funext fun y => (s6 y).trans (total6 m c y), funext fun y => (s7 y).trans (total7 m c y)⟩

/-- The result arrays. -/
theorem final :
    (dats m 0 c).arrAt 5 cfg0.N = val_main_v137 (dya m c) (wp m c) (scale m c) (wa m c)
    ∧ (dats m 0 c).arrAt 6 cfg0.N = val_main_v138 (dya m c) (src m c) (wp m c) (wa m c)
    ∧ (dats m 0 c).arrAt 7 cfg0.N = val_main_v112 (dya m c) (src m c) (scale m c) (wa m c) := by
  have last : 15 < cfg0.N := by show 15 < grid0.N; rw [N_0]; decide
  refine ⟨(dats m 0 c).arrAt_eq_of_cover 5 _ (fun t _ => ?_) fun i => ?_, (dats m 0 c).arrAt_eq_of_cover 6 _ (fun t ht => ?_) fun i => ?_,
    (dats m 0 c).arrAt_eq_of_cover 7 _ (fun t ht => ?_) fun i => ?_⟩
  · rw [flushed5, tile5]
    funext j
    exact congrArg (val_main_v137 (dya m c) (wp m c) (scale m c) (wa m c)) (emb5 t j).symm
  · obtain ⟨t, j, rfl⟩ := cover i
    exact ⟨t, flush0_5 t, emb5 t j ▸ View.emb_mem_set _ j⟩
  · have h15 := (flush0_6 t).mp ht
    rw [flushed6, (lastAt m c t h15).1]
    funext j
    exact congrArg (val_main_v138 (dya m c) (src m c) (wp m c) (wa m c)) (emb6 t j).symm
  · exact ⟨⟨15, last⟩, (flush0_6 _).mpr rfl, emb6 ⟨15, last⟩ i ▸ View.emb_mem_set _ i⟩
  · have h15 := (flush0_7 t).mp ht
    rw [flushed7, (lastAt m c t h15).2]
    funext j
    exact congrArg (val_main_v112 (dya m c) (src m c) (scale m c) (wa m c)) (emb7 t j).symm
  · exact ⟨⟨15, last⟩, (flush0_7 _).mpr rfl, emb7 ⟨15, last⟩ i ▸ View.emb_mem_set _ i⟩

end Cert.Proof.PoolA
end
-- ==== Proof.PoolA.Claims.lean ====
/-
# The first pooling backward call: frames and value
-/
module

public import proofs.«01_k».proof.Proof.PoolA.Value
public import proofs.«01_k».proof.Proof.Gen.PoolA.Frame
public import proofs.«01_k».proof.Proof.Gen.PoolAIdeal.Frame
public import proofs.«01_k».proof.Proof.Gen.PoolARefIdeal.Run
public import proofs.«01_k».proof.Defs

@[expose] public section

set_option maxRecDepth 16384

noncomputable section

namespace Cert.Proof.PoolA

open Idealize Idealize.ShloMosaic Cert.PoolARefIdeal.Read

/-- The kernel runs at the machine's words. -/
theorem frame : Cert.quiescent_PoolA := fun m ρ _ => Cert.PoolA.Gen.frame m ρ

/-- The kernel runs over the reals. -/
theorem frame_ideal : Cert.quiescent_PoolAIdeal := fun m ρ _ => Cert.PoolAIdeal.Gen.frame m ρ

/-- The reference runs over the reals; it declares no semaphore. -/
theorem frame_ref : Cert.quiescent_PoolARefIdeal := fun m ρ _ =>
  (θ_run Cert.PoolARefIdeal.defs _ _).mono (fun r h => ⟨fun c => (h c).2.2.2, sem_eq_zero_of_no_sems (by decide) r.2⟩) (Cert.PoolARefIdeal.Value.run (F := Ideal) m ρ)

/-- Over the reals the kernel's three arrays are the reference's three gradients. -/
theorem algebraic : Cert.algebraic_PoolAIdeal_PoolARefIdeal := by
  intro m ρ m' ρ' _ hag
  refine ⟨fun c => val_main_v137 (F := Ideal) (dya m c) (wp m c) (scale m c) (wa m c), fun c => val_main_v138 (F := Ideal) (dya m c) (src m c) (wp m c) (wa m c),
    fun c => val_main_v112 (F := Ideal) (dya m c) (src m c) (scale m c) (wa m c), ?_, ?_⟩
  · refine (θ_run Cert.PoolAIdeal.defs _ _).mono (fun r h c => ?_) (Cert.PoolAIdeal.Value.run_blocks m ρ)
    obtain ⟨f5, f6, f7⟩ := final m c
    obtain ⟨h5, h6, h7, hk⟩ := h c
    exact ⟨h5.trans f5, h6.trans f6, h7.trans f7, hk⟩
  · refine (θ_run Cert.PoolARefIdeal.defs _ _).mono (fun r h c => ?_) (Cert.PoolARefIdeal.Value.run (F := Ideal) m' ρ')
    obtain ⟨e0, e1, e2, e3, e4⟩ := hag c
    obtain ⟨h0, h1, h2, hk⟩ := h c
    rw [val_main_v137_eq, e0, e2, e3, e4] at h0
    rw [val_main_v138_eq, e0, e1, e2, e4] at h1
    rw [val_main_v112_eq, e0, e1, e3, e4] at h2
    exact ⟨h0, h1, h2, hk⟩

/-- No operation was rewritten. -/
theorem preserves : Cert.preserves_PoolA_PoolAIdeal := trivial

end Cert.Proof.PoolA

end
-- ==== Proof.Reals.lean ====
/- Sums, products and quotients of reals, taken over the extended reals. -/
module

public import Idealize.ShloMosaic.PureOps.Ideal

@[expose] public section

noncomputable section

namespace Cert.Proof

open Idealize.ShloMosaic

/-- A sum of reals, taken over the extended reals. -/
theorem sum_real {ι : Type} (s : Finset ι) (f : ι → ℝ) : ∑ k ∈ s, ((f k : ℝ) : EReal) = ((∑ k ∈ s, f k : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sum of products of reals. -/
theorem sum_mul_real {ι : Type} [Fintype ι] (x y : ι → EReal) (f g : ι → ℝ) (hx : ∀ k, x k = ((f k : ℝ) : EReal)) (hy : ∀ k, y k = ((g k : ℝ) : EReal)) :
    ∑ k, x k * y k = ((∑ k, f k * g k : ℝ) : EReal) := by
  rw [← sum_real]
  exact Finset.sum_congr rfl fun k _ => by rw [hx, hy, EReal.coe_mul]

/-- A finite extended real over a positive count is the quotient of the reals. -/
theorem div_real (x : ℝ) (n : ℝ) (hn : n ≠ 0) : Ideal.div (x : EReal) (n : EReal) = ((x / n : ℝ) : EReal) := by
  rw [Ideal.div_coe hn, ← EReal.coe_mul, mul_one_div]

/-- The sum over the first `B` rows after row `o` is what the rows below `o + B` add to those below `o`. -/
theorem sum_rows (f : ℕ → ℝ) (o B : ℕ) : ∑ k ∈ Finset.range o, f k + ∑ k : Fin B, f (o + k.val) = ∑ k ∈ Finset.range (o + B), f k := by
  rw [Finset.sum_range_add, Finset.sum_range fun k => f (o + k)]

end Cert.Proof
end
-- ==== Proof.PoolB.Bands.lean ====
/- The gradient through the windows of the pooling mixer: sums over windows, over the reals and over the extended reals. -/
module

public import Idealize.ShloMosaic.Lib.Pointwise
public import proofs.«01_k».proof.Proof.Tiles
public import proofs.«01_k».proof.Proof.Reals

@[expose] public section

noncomputable section

namespace Cert.Proof.PoolB

open Idealize.ShloMosaic

/-- The widths of the four windows. -/
abbrev width : Fin 4 → Nat := ![2, 4, 8, 16]

/-- Differences at distance `w` add up to the first `w` terms less the last `w`. -/
theorem sum_diff (f : Nat → ℝ) (N w : Nat) :
    ∑ k ∈ Finset.range N, (f k - f (k + w)) = ∑ k ∈ Finset.range w, f k - ∑ k ∈ Finset.range w, f (N + k) := by
  have h1 := Finset.sum_range_add f w N
  have h2 := Finset.sum_range_add f N w
  rw [Nat.add_comm w N, h2] at h1
  rw [Finset.sum_sub_distrib]
  have h3 : ∑ k ∈ Finset.range N, f (k + w) = ∑ k ∈ Finset.range N, f (w + k) := Finset.sum_congr rfl fun k _ => by rw [Nat.add_comm]
  rw [h3]
  linarith

/-- The two runs of rows a window reaches, row by row against the bands, add up to the window. -/
theorem sum_bands (f : Nat → ℝ) (s w : Nat) (hs : s < 128) (hw : w ≤ 16) :
    ∑ k : Fin 128, (if s ≤ k.val ∧ k.val < s + w then f k.val else 0) + ∑ k : Fin 128, (if 128 + k.val < s + w then f (128 + k.val) else 0)
      = ∑ k ∈ Finset.range w, f (s + k) := by
  have e1 : ∑ k : Fin 128, (if s ≤ k.val ∧ k.val < s + w then f k.val else 0)
      = ∑ k ∈ Finset.range 128, (if s ≤ k ∧ k < s + w then f k else 0) :=
    (Finset.sum_range fun k => if s ≤ k ∧ k < s + w then f k else 0).symm
  have e2 : ∑ k : Fin 128, (if 128 + k.val < s + w then f (128 + k.val) else 0)
      = ∑ k ∈ Finset.range 128, (if s ≤ 128 + k ∧ 128 + k < s + w then f (128 + k) else 0) := by
    rw [Finset.sum_range fun k => if s ≤ 128 + k ∧ 128 + k < s + w then f (128 + k) else 0]
    refine Finset.sum_congr rfl fun k _ => ?_
    simp only [show s ≤ 128 + k.val from by omega, true_and]
  rw [e1, e2, ← Finset.sum_range_add (fun k => if s ≤ k ∧ k < s + w then f k else 0) 128 128, ← Finset.sum_filter]
  rw [show (Finset.range (128 + 128)).filter (fun k => s ≤ k ∧ k < s + w) = Finset.Ico s (s + w) from by
    ext k; simp only [Finset.mem_filter, Finset.mem_range, Finset.mem_Ico]; omega]
  rw [Finset.sum_Ico_eq_sum_range, Nat.add_sub_cancel_left]

end Cert.Proof.PoolB
end
-- ==== Proof.PoolB.Windows.lean ====
/- The gradient through the windows of the pooling mixer: host operations read at an index. A running sum from a row to the end,
   and a group's columns with zeros around them. -/
module

public import proofs.«01_k».proof.Proof.PoolB.Bands
public import Idealize.ShloMosaic.Lib.KernelVsHost

@[expose] public section

noncomputable section

namespace Cert.Proof.PoolB

open Idealize.ShloMosaic Idealize.ShloMosaic.TcCoe

/-- Adding real terms one after another. -/
theorem fold_real {α : Type} (l : List α) (st : EReal → α → EReal) (t : α → ℝ) (h : ∀ v n, st v n = v + ((t n : ℝ) : EReal)) (v : ℝ) :
    l.foldl st (v : EReal) = ((v + (l.map t).sum : ℝ) : EReal) := by
  induction l generalizing v with
  | nil => simp
  | cons a l ih => rw [List.foldl_cons, h, ← EReal.coe_add, ih, List.map_cons, List.sum_cons, add_assoc]

/-- The running sum from a row to the end, where nothing but zeros follows the array: all the entries `R` rows on. -/
theorem tail_sum {R A B : Nat} (x : (⟨3, ![R, A, B]⟩ : Shape).Idx → Ideal .f32) {u : Shape} (init : u.Idx → Ideal .f32) (hinit : ∀ i, init i = (0 : EReal)) (hi : Fin 3 → Nat)
    (h : (⟨3, ![R, A, B]⟩ : Shape).ReduceWindows (![R, 1, 1] : Fin 3 → Nat) ![1, 1, 1] ![0, 0, 0] hi ⟨3, ![R, A, B]⟩) (hu : 0 < u.numel)
    (r : Fin R) (g : Fin A) (d : Fin B) (f : Nat → ℝ) (hx : ∀ q : Fin R, x (ValueIdx.ix3 q g d) = ((f q.val : ℝ) : EReal)) (hz : ∀ n, R ≤ n → f n = 0)
    (hnum : (⟨3, ![R, 1, 1]⟩ : Shape).numel = R) :
    Host.reduceWindowAdd ![R, 1, 1] ![1, 1, 1] ![0, 0, 0] hi x init h hu (ValueIdx.ix3 r g d) = ((∑ k ∈ Finset.range R, f (r.val + k) : ℝ) : EReal) := by
  show Host.reduceWindow (s := ⟨3, ![R, A, B]⟩) (· + ·) ![R, 1, 1] ![1, 1, 1] ![0, 0, 0] hi x (fun _ : u.Idx => init (Shape.Idx.first hu)) h hu (ValueIdx.ix3 r g d) = _
  unfold Host.reduceWindow
  have pos : ∀ n : Fin (⟨3, ![R, 1, 1]⟩ : Shape).numel, ((⟨3, ![R, 1, 1]⟩ : Shape).rowMajor.symm n 0).val = n.val
      ∧ ((⟨3, ![R, 1, 1]⟩ : Shape).rowMajor.symm n 1).val = 0 ∧ ((⟨3, ![R, 1, 1]⟩ : Shape).rowMajor.symm n 2).val = 0 := fun n => by
    have e := Shape.rowMajor_val_three (d := ![R, 1, 1]) ((⟨3, ![R, 1, 1]⟩ : Shape).rowMajor.symm n)
    rw [Equiv.apply_symm_apply] at e
    have h1 : ((⟨3, ![R, 1, 1]⟩ : Shape).rowMajor.symm n 1).val < 1 := ((⟨3, ![R, 1, 1]⟩ : Shape).rowMajor.symm n 1).isLt
    have h2 : ((⟨3, ![R, 1, 1]⟩ : Shape).rowMajor.symm n 2).val < 1 := ((⟨3, ![R, 1, 1]⟩ : Shape).rowMajor.symm n 2).isLt
    change n.val = (((⟨3, ![R, 1, 1]⟩ : Shape).rowMajor.symm n 0).val * 1 + ((⟨3, ![R, 1, 1]⟩ : Shape).rowMajor.symm n 1).val) * 1
      + ((⟨3, ![R, 1, 1]⟩ : Shape).rowMajor.symm n 2).val at e
    omega
  dsimp only
  rw [hinit, ← EReal.coe_zero]
  refine (fold_real _ _ (fun n => f (r.val + n.val)) (fun v n => ?_) 0).trans ?_
  · refine congrArg (v + ·) ?_
    obtain ⟨p0, p1, p2⟩ := pos n
    split
    · next hin =>
      have h0 : r.val * 1 + ((⟨3, ![R, 1, 1]⟩ : Shape).rowMajor.symm n 0).val - 0 < R := (hin 0).2
      rw [p0] at h0
      refine (congrArg x (funext fun a => Fin.ext ?_)).trans ((hx ⟨r.val + n.val, by omega⟩).trans rfl)
      match a with
      | ⟨0, _⟩ => show r.val * 1 + ((⟨3, ![R, 1, 1]⟩ : Shape).rowMajor.symm n 0).val - 0 = r.val + n.val; rw [p0]; omega
      | ⟨1, _⟩ => show g.val * 1 + ((⟨3, ![R, 1, 1]⟩ : Shape).rowMajor.symm n 1).val - 0 = g.val; rw [p1]; omega
      | ⟨2, _⟩ => show d.val * 1 + ((⟨3, ![R, 1, 1]⟩ : Shape).rowMajor.symm n 2).val - 0 = d.val; rw [p2]; omega
    · next hin =>
      refine (EReal.coe_eq_zero.mpr (hz _ ?_)).symm
      refine Nat.le_of_not_lt fun hlt => hin fun a => ?_
      match a with
      | ⟨0, _⟩ =>
        show 0 ≤ r.val * 1 + ((⟨3, ![R, 1, 1]⟩ : Shape).rowMajor.symm n 0).val ∧ r.val * 1 + ((⟨3, ![R, 1, 1]⟩ : Shape).rowMajor.symm n 0).val - 0 < R
        rw [p0]; omega
      | ⟨1, _⟩ =>
        show 0 ≤ g.val * 1 + ((⟨3, ![R, 1, 1]⟩ : Shape).rowMajor.symm n 1).val ∧ g.val * 1 + ((⟨3, ![R, 1, 1]⟩ : Shape).rowMajor.symm n 1).val - 0 < A
        rw [p1]; have := g.isLt; omega
      | ⟨2, _⟩ =>
        show 0 ≤ d.val * 1 + ((⟨3, ![R, 1, 1]⟩ : Shape).rowMajor.symm n 2).val ∧ d.val * 1 + ((⟨3, ![R, 1, 1]⟩ : Shape).rowMajor.symm n 2).val - 0 < B
        rw [p2]; have := d.isLt; omega
  · refine congrArg _ ((zero_add _).trans ?_)
    rw [← List.ofFn_eq_map, List.sum_ofFn]
    rw [Finset.sum_range fun k => f (r.val + k)]
    exact Fintype.sum_equiv (finCongr hnum) _ _ fun n => rfl

/-- One group's columns with zeros around them: the column where the group and the row are its own, and zero elsewhere. -/
theorem pad_group {N M lo hi e hi' : Nat} (x : (⟨3, ![N, 1, 128]⟩ : Shape).Idx → Ideal .f32) {u : Shape} (v : u.Idx → Ideal .f32) (hv : ∀ i, v i = (0 : EReal))
    (h : (⟨3, ![N, 1, 128]⟩ : Shape).Pads ![lo, e, 0] ![hi, hi', 0] ![0, 0, 0] ⟨3, ![M, 4, 128]⟩) (hu : 0 < u.numel) (p : Fin M) (g : Fin 4) (d : Fin 128)
    (f : Nat → ℝ) (hx : ∀ q : Fin N, x (ValueIdx.ix3 q 0 d) = ((f q.val : ℝ) : EReal)) :
    pad ⟨3, ![M, 4, 128]⟩ ![lo, e, 0] ![hi, hi', 0] ![0, 0, 0] x v h hu (ValueIdx.ix3 p g d)
      = ((if g.val = e ∧ lo ≤ p.val ∧ p.val - lo < N then f (p.val - lo) else 0 : ℝ) : EReal) := by
  split
  · next hc =>
    refine (pad_apply_of_inside _ _ _ x v h hu _ (ValueIdx.ix3 ⟨p.val - lo, hc.2.2⟩ 0 d) fun a => ?_).trans (hx ⟨p.val - lo, hc.2.2⟩)
    match a with
    | ⟨0, _⟩ => show p.val = lo + (p.val - lo) * (0 + 1); omega
    | ⟨1, _⟩ => show g.val = e + 0 * (0 + 1); omega
    | ⟨2, _⟩ => show d.val = 0 + d.val * (0 + 1); omega
  · next hc =>
    rw [EReal.coe_zero]
    by_cases hg : g.val = e
    · refine (pad_apply_of_not_inside _ _ _ x v h hu _ 0 fun hin => hc ⟨hg, ?_⟩).trans (hv _)
      obtain ⟨i0, _, i2⟩ := hin
      change (p.val - lo) / (0 + 1) < N at i2
      change lo ≤ p.val at i0
      rw [Nat.div_one] at i2
      exact ⟨i0, i2⟩
    · refine (pad_apply_of_not_inside _ _ _ x v h hu _ 1 fun hin => hg ?_).trans (hv _)
      obtain ⟨i0, _, i2⟩ := hin
      change (g.val - e) / (0 + 1) < 1 at i2
      change e ≤ g.val at i0
      rw [Nat.div_one] at i2
      omega

end Cert.Proof.PoolB
end
-- ==== Proof.PoolB.Body.lean ====
/- The gradient through the windows of the pooling mixer, kernel side: what each of the body's sixteen stores writes, read at
   an index, and what the body leaves in its output block. -/
module

public import proofs.«01_k».proof.Proof.Gen.PoolBIdeal.Value
public import proofs.«01_k».proof.Proof.PoolB.Bands

@[expose] public section

set_option maxRecDepth 16384

noncomputable section

namespace Cert.Proof.PoolB

open Cert.PoolBIdeal Cert.PoolBIdeal.Gen Cert.PoolBIdeal.Value Idealize.ShloMosaic Idealize.ShloMosaic.TcCoe Idealize.SL.Sem

/-- Column `d` of group `g` of the joined columns. -/
abbrev gcol (g : Fin 4) (d : Fin 128) : Fin 512 := ⟨128 * g.val + d.val, by omega⟩

/-- The words the counts are cut at. -/
def window : Fin 4 → BitVec 32 := ![2#32, 4#32, 8#32, 16#32]

/-- The count of rows the window of group `g` meets at row `r`. -/
def count (g : Fin 4) (r : Nat) : ℝ := ((IntOp.minsi (IntOp.addi (BitVec.ofNat 32 r) 1#32) (window g)).toInt : ℝ)

/-- No count is zero. -/
theorem count_ne (g : Fin 4) (r : Nat) (hr : r < 8192) : count g r ≠ 0 := by
  have ne : ∀ b : BitVec 32, b ≠ 0#32 → ((b.toInt : ℝ)) ≠ 0 := fun b hb h =>
    hb (BitVec.eq_of_toInt_eq ((Int.cast_eq_zero.mp h).trans BitVec.toInt_zero.symm))
  unfold count IntOp.minsi
  split
  · refine ne _ fun h => ?_
    have h1 := congrArg BitVec.toNat h
    have h2 : (BitVec.ofNat 32 r + 1#32).toNat = 0 := h1
    rw [BitVec.toNat_add, BitVec.toNat_ofNat] at h2
    have h3 : (1#32).toNat = 1 := rfl
    rw [h3] at h2
    omega
  · exact ne _ ((by decide : ∀ g : Fin 4, window g ≠ 0#32) g)

/-- A band matrix times a square of rows, the square split in three parts. -/
def band {F : FTy → Type} [FloatOps F] (M : FVec F S128x128 .bf16) (x : FVec F S128x128 .f32) : FVec F S128x128 .f32 :=
  have x1 : FVec F S128x128 .bf16 := truncf .bf16 x bitsLt_bf16_f32
  have y1 : FVec F S128x128 .f32 := subf x (extf .f32 x1 bitsLt_bf16_f32)
  have x2 : FVec F S128x128 .bf16 := truncf .bf16 y1 bitsLt_bf16_f32
  have x3 : FVec F S128x128 .bf16 := truncf .bf16 (subf y1 (extf .f32 x2 bitsLt_bf16_f32)) bitsLt_bf16_f32
  addf (addf (matmul dot_S128x128_S128x128_S128x128_1_0_0_1_n_n none M x1 (constant S128x128 .f32 0x00000000#32))
    (matmul dot_S128x128_S128x128_S128x128_1_0_0_1_n_n none M x2 (constant S128x128 .f32 0x00000000#32)))
    (matmul dot_S128x128_S128x128_S128x128_1_0_0_1_n_n none M x3 (constant S128x128 .f32 0x00000000#32))

/-- What one store writes: the bands times the rows and the next rows, less the rows times their counts. -/
def chunk {F : FTy → Type} [FloatOps F] (a b w : BitVec 32) (cur nxt : FVec F S128x128 .f32) (lo up : Vec F S1x128x128 .bf16) : FVec F S128x128 .bf16 :=
  truncf .bf16 (subf (addf (band (shapeCast S128x128 lo shapeCasts_S1x128x128_S128x128) cur) (band (shapeCast S128x128 up shapeCasts_S1x128x128_S128x128) nxt))
    (mulf cur (broadcastTo S128x128 (sitofp .f32 (minsi (addi (addi (broadcast S128x1 (Scalar.addi (Scalar.muli a 512#32) b))
      (iota .tc S128x1 32 [0] iota_S128x1_d0_w32)) (broadcast S128x1 1#32)) (broadcast S128x1 w))) broadcasts_S128x1_S128x128))) bitsLt_bf16_f32

/-- The rows after the last run of the block: the halo, or zeros at the last point. -/
def halo {F : FTy → Type} [FloatOps F] (a : BitVec 32) (x : Vec F S128x128 .f32) : FVec F S128x128 .f32 :=
  Scalar.select (Scalar.cmpi .slt a 15#32) (shapeCast S128x128 x shapeCasts_S128x128_S128x128) (broadcast S128x128 (Scalar.ofBits .f32 0x00000000#32))

abbrev rows' {F : FTy → Type} [FloatOps F] (x : Vec F S128x128 .f32) : FVec F S128x128 .f32 := shapeCast S128x128 x shapeCasts_S128x128_S128x128

/-- Over the reals the second and third part are zero, so the three products are one. -/
theorem band_at (M : FVec Ideal S128x128 .bf16) (x : FVec Ideal S128x128 .f32) (m g : Fin 128 → Fin 128 → ℝ) (s d : Fin 128)
    (hM : ∀ k, M (ValueIdx.ix2 s k) = ((m s k : ℝ) : EReal)) (hx : ∀ k, x (ValueIdx.ix2 k d) = ((g k d : ℝ) : EReal)) :
    band M x (ValueIdx.ix2 s d) = ((∑ k : Fin 128, m s k * g k d : ℝ) : EReal) := by
  have prod : ∀ (y : FVec Ideal S128x128 .bf16) (h : Fin 128 → ℝ), (∀ k, y (ValueIdx.ix2 k d) = ((h k : ℝ) : EReal)) →
      matmul dot_S128x128_S128x128_S128x128_1_0_0_1_n_n none M y (constant (F := Ideal) S128x128 .f32 0x00000000#32) (ValueIdx.ix2 s d)
        = ((∑ k : Fin 128, m s k * h k : ℝ) : EReal) := fun y h hy => by
    refine (matmul_nn _ rfl _ _ _ _ _).trans ?_
    rw [show constant (F := Ideal) S128x128 .f32 0x00000000#32 _ = 0 from Ideal.ofBits_zero_f32, zero_add, ← sum_real]
    refine Finset.sum_congr rfl fun k _ => ?_
    rw [EReal.coe_mul]
    exact congrArg₂ (· * ·) (hM k) (hy k)
  have z : ∀ k, x (ValueIdx.ix2 k d) - x (ValueIdx.ix2 k d) = ((0 : ℝ) : EReal) := fun k => by rw [hx k, ← EReal.coe_sub, sub_self]
  unfold band
  refine (congrArg₂ (· + ·) (congrArg₂ (· + ·) (prod _ (fun k => g k d) hx) (prod _ (fun _ => 0) z)) (prod _ (fun _ => 0) fun k => ?_)).trans ?_
  · show (x (ValueIdx.ix2 k d) - x (ValueIdx.ix2 k d)) - (x (ValueIdx.ix2 k d) - x (ValueIdx.ix2 k d)) = _
    rw [z k, ← EReal.coe_sub, sub_self]
  · simp only [mul_zero, Finset.sum_const_zero, EReal.coe_zero, add_zero]

/-- The row number the body counts with is the row's number in the array. -/
theorem rowWord (a o r : Nat) :
    IntOp.addi (Scalar.addi (Scalar.muli (BitVec.ofNat 32 a) 512#32) (BitVec.ofNat 32 o)) (BitVec.ofNat 32 r) = BitVec.ofNat 32 (a * 512 + (o + r)) := by
  show BitVec.ofNat 32 a * BitVec.ofNat 32 512 + BitVec.ofNat 32 o + BitVec.ofNat 32 r = _
  rw [← BitVec.ofNat_mul, ← BitVec.ofNat_add, ← BitVec.ofNat_add, Nat.add_assoc]

theorem square_at {e : EltTy} (w : S1x128x128.Idx → Elt Ideal e) (h : S1x128x128.ShapeCasts S128x128) (d k : Fin 128) :
    shapeCast S128x128 w h (ValueIdx.ix2 d k) = w (ValueIdx.ix3 0 d k) :=
  shapeCast_apply w h _ _ (by
    rw [Shape.rowMajor_val_three, Shape.rowMajor_val_two]
    show (0 * 128 + d.val) * 128 + k.val = d.val * 128 + k.val
    rw [Nat.zero_mul, Nat.zero_add])

theorem count_at (g : Fin 4) (a o : Nat) (s d : Fin 128) :
    broadcastTo S128x128 (sitofp (F := Ideal) .f32 (minsi (addi (addi (broadcast S128x1 (Scalar.addi (Scalar.muli (BitVec.ofNat 32 a) 512#32) (BitVec.ofNat 32 o)))
      (iota .tc S128x1 32 [0] iota_S128x1_d0_w32)) (broadcast S128x1 1#32)) (broadcast S128x1 (window g)))) broadcasts_S128x1_S128x128 (ValueIdx.ix2 s d)
      = ((count g (a * 512 + (o + s.val)) : ℝ) : EReal) := by
  refine (broadcastTo_apply _ _ _ (ValueIdx.ix2 s 0) fun b => ?_).trans ?_
  · match b with
    | ⟨0, _⟩ => rfl
    | ⟨1, _⟩ => rfl
  · unfold count
    rw [← rowWord a o s.val, show BitVec.ofNat 32 s.val = iota .tc S128x1 32 [0] iota_S128x1_d0_w32 (ValueIdx.ix2 s 0) from
      congrArg (BitVec.ofNat 32) (by show s.val = 0 * 128 + s.val; rw [Nat.zero_mul, Nat.zero_add])]
    rfl

/-- The bands of group `g`. -/
abbrev inLow (g : Fin 4) (s k : Nat) : Prop := s ≤ k ∧ k < s + width g
abbrev inUp (g : Fin 4) (s k : Nat) : Prop := 128 + k < s + width g

theorem width_le (g : Fin 4) : width g ≤ 16 := by revert g; decide

/-- A store at an index: the rows of the window less the row times its count. -/
theorem chunk_at (g : Fin 4) (a o : Nat) (cur nxt : FVec Ideal S128x128 .f32) (lo up : Vec Ideal S1x128x128 .bf16) (f : Nat → ℝ) (s d : Fin 128)
    (hlo : ∀ k : Fin 128, lo (ValueIdx.ix3 0 s k) = (((if inLow g s.val k.val then 1 else 0 : ℝ)) : EReal))
    (hup : ∀ k : Fin 128, up (ValueIdx.ix3 0 s k) = (((if inUp g s.val k.val then 1 else 0 : ℝ)) : EReal))
    (hc : ∀ k : Fin 128, cur (ValueIdx.ix2 k d) = ((f (o + k.val) : ℝ) : EReal))
    (hn : ∀ k : Fin 128, nxt (ValueIdx.ix2 k d) = ((f (o + 128 + k.val) : ℝ) : EReal)) :
    chunk (BitVec.ofNat 32 a) (BitVec.ofNat 32 o) (window g) cur nxt lo up (ValueIdx.ix2 s d)
      = ((∑ k ∈ Finset.range (width g), f (o + s.val + k) - f (o + s.val) * count g (a * 512 + (o + s.val)) : ℝ) : EReal) := by
  unfold chunk
  refine (congrArg₂ (· - ·) (congrArg₂ (· + ·)
    (band_at _ _ (fun s k => if inLow g s.val k.val then 1 else 0) (fun k _ => f (o + k.val)) s d (fun k => (square_at _ _ s k).trans (hlo k)) hc)
    (band_at _ _ (fun s k => if inUp g s.val k.val then 1 else 0) (fun k _ => f (o + 128 + k.val)) s d (fun k => (square_at _ _ s k).trans (hup k)) hn))
    (congrArg₂ (· * ·) (hc s) (count_at g a o s d))).trans ?_
  rw [← EReal.coe_add, ← EReal.coe_mul, ← EReal.coe_sub]
  refine congrArg _ (congrArg (· - f (o + s.val) * count g (a * 512 + (o + s.val))) ?_)
  simp only [ite_mul, one_mul, zero_mul]
  have h := sum_bands (fun k => f (o + k)) s.val (width g) s.isLt (width_le g)
  simp only [← Nat.add_assoc] at h
  exact h

theorem select_pos {α : Type} (a : BitVec 32) (x y : α) (h : BitVec.slt a 15#32 = true) : Scalar.select (Scalar.cmpi .slt a 15#32) x y = x := by
  show (if (BitVec.ofBool (BitVec.slt a 15#32)) = 1#1 then x else y) = x
  rw [h]; rfl

theorem select_neg {α : Type} (a : BitVec 32) (x y : α) (h : BitVec.slt a 15#32 = false) : Scalar.select (Scalar.cmpi .slt a 15#32) x y = y := by
  show (if (BitVec.ofBool (BitVec.slt a 15#32)) = 1#1 then x else y) = y
  rw [h]; rfl

variable {x0 : Vec Ideal S512x512 .f32} {x1 : Vec Ideal S128x512 .f32} {x2 x3 : Vec Ideal S4x128x128 .bf16} {a : Nat} {f : Fin 512 → Nat → ℝ}

/-- What a block's inputs hold: the rows, the rows after them (the halo at every point but the last, zeros at the last), the
    two bands. -/
structure Inputs (x0 : Vec Ideal S512x512 .f32) (x1 : Vec Ideal S128x512 .f32) (x2 x3 : Vec Ideal S4x128x128 .bf16) (a : Nat) (f : Fin 512 → Nat → ℝ) : Prop where
  rows : ∀ (r : Fin 512) (j : Fin 512), x0 (ValueIdx.ix2 r j) = ((f j r.val : ℝ) : EReal)
  next : ∀ (r : Fin 128) (j : Fin 512), BitVec.slt (BitVec.ofNat 32 a) 15#32 = true → x1 (ValueIdx.ix2 r j) = ((f j (512 + r.val) : ℝ) : EReal)
  last : ∀ (r : Fin 128) (j : Fin 512), BitVec.slt (BitVec.ofNat 32 a) 15#32 = false → f j (512 + r.val) = 0
  low : ∀ (g : Fin 4) (s k : Fin 128), x2 (ValueIdx.ix3 g s k) = (((if inLow g s.val k.val then 1 else 0 : ℝ)) : EReal)
  up : ∀ (g : Fin 4) (s k : Fin 128), x3 (ValueIdx.ix3 g s k) = (((if inUp g s.val k.val then 1 else 0 : ℝ)) : EReal)

theorem ld_square (X : Vec Ideal S512x512 .f32) (o : Nat) (g : Fin 4) (inb) (k d : Fin 128) (h : o + k.val < 512) :
    rows' (View.ld X (Rect.unit (s := S512x512) ![o, 128 * g.val] ![128, 128] inb)) (ValueIdx.ix2 k d) = X (ValueIdx.ix2 ⟨o + k.val, h⟩ (gcol g d)) := by
  unfold rows'
  rw [shapeCast_self]
  exact congrArg X (idx2_ext (by show o + 1 * k.val = o + k.val; omega) (by show 128 * g.val + 1 * d.val = 128 * g.val + d.val; omega))

theorem ld_halo (X : Vec Ideal S128x512 .f32) (g : Fin 4) (inb) (k d : Fin 128) :
    View.ld X (Rect.unit (s := S128x512) ![0, 128 * g.val] ![128, 128] inb) (ValueIdx.ix2 k d) = X (ValueIdx.ix2 k (gcol g d)) :=
  congrArg X (idx2_ext (by show 0 + 1 * k.val = k.val; omega) (by show 128 * g.val + 1 * d.val = 128 * g.val + d.val; omega))

theorem ld_group {e : EltTy} (X : S4x128x128.Idx → Elt Ideal e) (g : Fin 4) (inb) (d k : Fin 128) :
    View.ld X (Rect.unit (s := S4x128x128) ![g.val, 0, 0] ![1, 128, 128] inb) (ValueIdx.ix3 0 d k) = X (ValueIdx.ix3 g d k) :=
  congrArg X (funext fun b => Fin.ext (by
    match b with
    | ⟨0, _⟩ => show g.val + 1 * 0 = g.val; omega
    | ⟨1, _⟩ => show 0 + 1 * d.val = d.val; omega
    | ⟨2, _⟩ => show 0 + 1 * k.val = k.val; omega))

/-- The halo's rows, or zeros, are the rows after the block's. -/
theorem halo_at (I : Inputs x0 x1 x2 x3 a f) (g : Fin 4) (inb) (k d : Fin 128) :
    halo (BitVec.ofNat 32 a) (View.ld x1 (Rect.unit (s := S128x512) ![0, 128 * g.val] ![128, 128] inb)) (ValueIdx.ix2 k d)
      = ((f (gcol g d) (512 + k.val) : ℝ) : EReal) := by
  unfold halo
  cases h : BitVec.slt (BitVec.ofNat 32 a) 15#32 with
  | true => rw [select_pos _ _ _ h, shapeCast_self, ld_halo, I.next _ _ h]
  | false => rw [select_neg _ _ _ h, I.last _ _ h]; exact Ideal.ofBits_zero_f32

/-- What a store writes, at its place in the block. -/
abbrev Wanted (G : Vec Ideal S512x512 .bf16) (a : Nat) (f : Fin 512 → Nat → ℝ) : Prop := ∀ (r : Fin 512) (g : Fin 4) (d : Fin 128),
  G (ValueIdx.ix2 r (gcol g d)) = ((∑ k ∈ Finset.range (width g), f (gcol g d) (r.val + k) - f (gcol g d) r.val * count g (a * 512 + r.val) : ℝ) : EReal)

/-- A store whose next rows lie in the block or after it. -/
theorem store (I : Inputs x0 x1 x2 x3 a f) (g : Fin 4) (o : Nat) (ho : o + 128 ≤ 512) (G : Vec Ideal S512x512 .bf16) (hG : Wanted G a f)
    (nxt : FVec Ideal S128x128 .f32) (hb hc hd) (hn : ∀ k d, nxt (ValueIdx.ix2 k d) = ((f (gcol g d) (o + 128 + k.val) : ℝ) : EReal))
    (x : S128x128.Idx) (y : S512x512.Idx) (e0 : (y 0).val = o + 1 * (x 0).val) (e1 : (y 1).val = 128 * g.val + 1 * (x 1).val) :
    chunk (BitVec.ofNat 32 a) (BitVec.ofNat 32 o) (window g) (rows' (View.ld x0 (Rect.unit (s := S512x512) ![o, 128 * g.val] ![128, 128] hb))) nxt
      (View.ld x2 (Rect.unit (s := S4x128x128) ![g.val, 0, 0] ![1, 128, 128] hc)) (View.ld x3 (Rect.unit (s := S4x128x128) ![g.val, 0, 0] ![1, 128, 128] hd)) x = G y := by
  obtain ⟨s, d, rfl⟩ := idx2_cases x
  have hr : o + s.val < 512 := by omega
  obtain rfl : y = ValueIdx.ix2 (⟨o + s.val, hr⟩ : Fin 512) (gcol g d) := idx2_ext (e0.trans (by rw [Nat.one_mul])) (e1.trans (by rw [Nat.one_mul]))
  rw [hG]
  exact chunk_at g a o _ _ _ _ (f (gcol g d)) s d (fun k => (ld_group _ _ _ _ _).trans (I.low g s k)) (fun k => (ld_group _ _ _ _ _).trans (I.up g s k))
    (fun k => (ld_square x0 o g hb k d (by omega)).trans (I.rows _ _)) (fun k => hn k d)

/-- A store of one of the first three runs: the next rows are the block's next run. -/
theorem inner (I : Inputs x0 x1 x2 x3 a f) (g : Fin 4) (o : Nat) (ho : o + 256 ≤ 512) (G : Vec Ideal S512x512 .bf16) (hG : Wanted G a f) (hb hb' hc hd)
    (x : S128x128.Idx) (y : S512x512.Idx) (e0 : (y 0).val = o + 1 * (x 0).val) (e1 : (y 1).val = 128 * g.val + 1 * (x 1).val) :
    chunk (BitVec.ofNat 32 a) (BitVec.ofNat 32 o) (window g) (rows' (View.ld x0 (Rect.unit (s := S512x512) ![o, 128 * g.val] ![128, 128] hb)))
      (rows' (View.ld x0 (Rect.unit (s := S512x512) ![o + 128, 128 * g.val] ![128, 128] hb')))
      (View.ld x2 (Rect.unit (s := S4x128x128) ![g.val, 0, 0] ![1, 128, 128] hc)) (View.ld x3 (Rect.unit (s := S4x128x128) ![g.val, 0, 0] ![1, 128, 128] hd)) x = G y :=
  store I g o (by omega) G hG _ hb hc hd (fun k d => (ld_square x0 (o + 128) g hb' k d (by omega)).trans (I.rows _ _)) x y e0 e1

/-- A store of the last run: the next rows are the halo's. -/
theorem outer (I : Inputs x0 x1 x2 x3 a f) (g : Fin 4) (G : Vec Ideal S512x512 .bf16) (hG : Wanted G a f) (hb hb' hc hd)
    (x : S128x128.Idx) (y : S512x512.Idx) (e0 : (y 0).val = 384 + 1 * (x 0).val) (e1 : (y 1).val = 128 * g.val + 1 * (x 1).val) :
    chunk (BitVec.ofNat 32 a) 384#32 (window g) (rows' (View.ld x0 (Rect.unit (s := S512x512) ![384, 128 * g.val] ![128, 128] hb)))
      (halo (BitVec.ofNat 32 a) (View.ld x1 (Rect.unit (s := S128x512) ![0, 128 * g.val] ![128, 128] hb')))
      (View.ld x2 (Rect.unit (s := S4x128x128) ![g.val, 0, 0] ![1, 128, 128] hc)) (View.ld x3 (Rect.unit (s := S4x128x128) ![g.val, 0, 0] ![1, 128, 128] hd)) x = G y :=
  store I g 384 (by omega) G hG _ hb hc hd (fun k d => halo_at I g hb' k d) x y e0 e1

/-- What the body leaves in its output block. -/
theorem out_eq (i : grid0.Coords) (I : Inputs x0 x1 x2 x3 (i 0).val f) (G : Vec Ideal S512x512 .bf16) (hG : Wanted G (i 0).val f) :
    out0_4 i x0 x1 x2 x3 = G := by
  funext y
  unfold out0_4
  refine View.canon_apply_of_pieces G _ (View.PiecesOf.mem ?_) y (cover0_4 _ _ _ _ _ _ _ _ _ _ _ _ _ _ _ _ y)
  exact ⟨fun x => outer I 3 G hG _ _ _ _ x _ rfl rfl, fun x => outer I 2 G hG _ _ _ _ x _ rfl rfl,
    fun x => outer I 1 G hG _ _ _ _ x _ rfl rfl, fun x => outer I 0 G hG _ _ _ _ x _ rfl rfl,
    fun x => inner I 3 256 (by decide) G hG _ _ _ _ x _ rfl rfl, fun x => inner I 2 256 (by decide) G hG _ _ _ _ x _ rfl rfl,
    fun x => inner I 1 256 (by decide) G hG _ _ _ _ x _ rfl rfl, fun x => inner I 0 256 (by decide) G hG _ _ _ _ x _ rfl rfl,
    fun x => inner I 3 128 (by decide) G hG _ _ _ _ x _ rfl rfl, fun x => inner I 2 128 (by decide) G hG _ _ _ _ x _ rfl rfl,
    fun x => inner I 1 128 (by decide) G hG _ _ _ _ x _ rfl rfl, fun x => inner I 0 128 (by decide) G hG _ _ _ _ x _ rfl rfl,
    fun x => inner I 3 0 (by decide) G hG _ _ _ _ x _ rfl rfl, fun x => inner I 2 0 (by decide) G hG _ _ _ _ x _ rfl rfl,
    fun x => inner I 1 0 (by decide) G hG _ _ _ _ x _ rfl rfl, fun x => inner I 0 0 (by decide) G hG _ _ _ _ x _ rfl rfl, trivial⟩

end Cert.Proof.PoolB
end
-- ==== Proof.PoolB.Ref.lean ====
/- The gradient through the windows of the pooling mixer: the reference's stages read at a row, a group and a column of the
   group, where the cotangent is real. -/
module

public import proofs.«01_k».proof.Proof.Gen.PoolBRefIdeal.Read
public import proofs.«01_k».proof.Proof.PoolB.Windows
public import proofs.«01_k».proof.Proof.PoolB.Body

@[expose] public section

set_option maxRecDepth 16384

noncomputable section

namespace Cert.Proof.PoolB

open Cert.PoolBRefIdeal Cert.PoolBRefIdeal.Gen Cert.PoolBRefIdeal.Read Idealize.ShloMosaic Idealize.ShloMosaic.TcCoe

/-- The cotangent over its window's count. -/
def share (D : Fin 512 → Nat → ℝ) (g : Fin 4) (d : Fin 128) (n : Nat) : ℝ := D (gcol g d) n / count g n

variable {x0 : Vec Ideal S8192x512 .f32} {D : Fin 512 → Nat → ℝ}

/-- The array holds the reals of the table, and the table is zero below the array. -/
structure Holds (x0 : Vec Ideal S8192x512 .f32) (D : Fin 512 → Nat → ℝ) : Prop where
  at' : ∀ (r : Fin 8192) (j : Fin 512), x0 (ValueIdx.ix2 r j) = ((D j r.val : ℝ) : EReal)
  out : ∀ j n, 8192 ≤ n → D j n = 0

theorem share_out (H : Holds x0 D) (g : Fin 4) (d : Fin 128) (n : Nat) (h : 8192 ≤ n) : share D g d n = 0 := by
  unfold share; rw [H.out _ _ h, zero_div]

theorem v89_at (x0 : Vec Ideal S8192x512 .f32) (r : Fin 8192) (g : Fin 4) (d : Fin 128) : val_main_v89 x0 (ValueIdx.ix3 r g d) = x0 (ValueIdx.ix2 r (gcol g d)) := by
  rw [val_main_v89_apply]
  refine congrArg x0 (idx2_ext ?_ ?_)
  · show ((r.val * 4 + g.val) * 128 + d.val) / 512 = r.val; omega
  · show ((r.val * 4 + g.val) * 128 + d.val) % 512 = 128 * g.val + d.val; omega

/-- The group's slice of the cotangent. -/
theorem slice_at (x0 : Vec Ideal S8192x512 .f32) (r : Fin 8192) (g : Fin 4) (d : Fin 128) :
    (![val_main_v91 x0, val_main_v93 x0, val_main_v95 x0, val_main_v97 x0] g) (ValueIdx.ix2 r d) = x0 (ValueIdx.ix2 r (gcol g d)) := by
  rw [← v89_at x0]
  have e0 : (r.val * 128 + d.val) / 128 = r.val := by omega
  have e2 : (r.val * 128 + d.val) % 128 = d.val := by omega
  have e : ∀ (k : S8192x4x128.Idx) (g : Fin 4), (k 0).val = (r.val * 128 + d.val) / 128 → (k 1).val = g.val → (k 2).val = (r.val * 128 + d.val) % 128 →
      val_main_v89 x0 k = val_main_v89 x0 (ValueIdx.ix3 r g d) := fun k g k0 k1 k2 => congrArg _ (funext fun a => Fin.ext (by
    match a with | ⟨0, _⟩ => exact k0.trans e0 | ⟨1, _⟩ => exact k1 | ⟨2, _⟩ => exact k2.trans e2))
  match g with
  | ⟨0, _⟩ => exact (val_main_v91_apply x0 _).trans ((val_main_v90_apply x0 _).trans (e _ 0 rfl rfl rfl))
  | ⟨1, _⟩ => exact (val_main_v93_apply x0 _).trans ((val_main_v92_apply x0 _).trans (e _ 1 rfl rfl rfl))
  | ⟨2, _⟩ => exact (val_main_v95_apply x0 _).trans ((val_main_v94_apply x0 _).trans (e _ 2 rfl rfl rfl))
  | ⟨3, _⟩ => exact (val_main_v97_apply x0 _).trans ((val_main_v96_apply x0 _).trans (e _ 3 rfl rfl rfl))

/-- The counts, one per group. -/
theorem counts_at (r : Fin 8192) (g : Fin 4) (d : Fin 128) :
    (![val_main_v145 (F := Ideal), val_main_v130, val_main_v115, val_main_v101] g) (ValueIdx.ix2 r d) = ((count g r.val : ℝ) : EReal) := by
  match g with
  | ⟨0, _⟩ =>
    show val_main_v145 (F := Ideal) _ = _
    simp only [val_main_v145_apply, val_main_v19_apply, val_main_v18_apply, val_main_v17_apply, val_main_v16_apply, val_main_v15_apply, val_main_v14_apply]; rfl
  | ⟨1, _⟩ =>
    show val_main_v130 (F := Ideal) _ = _
    simp only [val_main_v130_apply, val_main_v38_apply, val_main_v37_apply, val_main_v36_apply, val_main_v35_apply, val_main_v34_apply, val_main_v33_apply]; rfl
  | ⟨2, _⟩ =>
    show val_main_v115 (F := Ideal) _ = _
    simp only [val_main_v115_apply, val_main_v57_apply, val_main_v56_apply, val_main_v55_apply, val_main_v54_apply, val_main_v53_apply, val_main_v52_apply]; rfl
  | ⟨3, _⟩ =>
    show val_main_v101 (F := Ideal) _ = _
    simp only [val_main_v101_apply, val_main_v76_apply, val_main_v75_apply, val_main_v74_apply, val_main_v73_apply, val_main_v72_apply, val_main_v71_apply]; rfl

/-- A group's slice over its counts. -/
theorem share_at (H : Holds x0 D) (r : Fin 8192) (g : Fin 4) (d : Fin 128) :
    (![val_main_v146 x0, val_main_v131 x0, val_main_v116 x0, val_main_v102 x0] g) (ValueIdx.ix2 r d) = ((share D g d r.val : ℝ) : EReal) := by
  unfold share
  rw [← div_real _ _ (count_ne g r.val r.isLt), ← H.at' r (gcol g d), ← slice_at x0, ← counts_at r g d]
  match g with
  | ⟨0, _⟩ => rfl
  | ⟨1, _⟩ => rfl
  | ⟨2, _⟩ => rfl
  | ⟨3, _⟩ => rfl

/-- The slices at the fixed ends of the windows, negated. -/
theorem far (H : Holds x0 D) (g : Fin 4) (d : Fin 128) (r : Fin 8192) :
    (![val_main_v147 x0, val_main_v132 x0, val_main_v117 x0, val_main_v103 x0] g) (ValueIdx.ix2 r d) = ((-share D g d r.val : ℝ) : EReal) := by
  rw [EReal.coe_neg, ← share_at H r g d]
  match g with
  | ⟨0, _⟩ => rfl
  | ⟨1, _⟩ => rfl
  | ⟨2, _⟩ => rfl
  | ⟨3, _⟩ => rfl

theorem zero_word : (FloatOps.ofBits (F := Ideal) .f32 0x00000000#32 : EReal) = 0 := Ideal.ofBits_zero_f32

/-- The differences that are summed from the end: a share at its own row, less the share a window on. -/
theorem v157_at (H : Holds x0 D) (r : Fin 8192) (g : Fin 4) (d : Fin 128) :
    val_main_v157 x0 (ValueIdx.ix3 r g d) = ((share D g d r.val - share D g d (r.val + width g) : ℝ) : EReal) := by
  rw [val_main_v157_apply]
  have hp : idx_main_v157 (ValueIdx.ix3 r g d) = ValueIdx.ix3 (⟨1 + r.val, by omega⟩ : Fin 8193) g d := funext fun a => by
    match a with | ⟨0, _⟩ => rfl | ⟨1, _⟩ => rfl | ⟨2, _⟩ => rfl
  rw [hp]
  have near : ∀ (g : Fin 4) (q : Fin 8192), (![val_main_v153 x0, val_main_v138 x0, val_main_v123 x0, val_main_v108 x0] g) (ValueIdx.ix3 q 0 d)
      = ((share D g d q.val : ℝ) : EReal) := fun g q => by
    rw [← share_at H q g d]
    match g with
    | ⟨0, _⟩ => exact (val_main_v153_apply x0 _).trans (congrArg (val_main_v146 x0) (idx2_ext rfl rfl))
    | ⟨1, _⟩ => exact (val_main_v138_apply x0 _).trans (congrArg (val_main_v131 x0) (idx2_ext rfl rfl))
    | ⟨2, _⟩ => exact (val_main_v123_apply x0 _).trans (congrArg (val_main_v116 x0) (idx2_ext rfl rfl))
    | ⟨3, _⟩ => exact (val_main_v108_apply x0 _).trans (congrArg (val_main_v102 x0) (idx2_ext rfl rfl))
  have s0 : ∀ q : Fin 8191, val_main_v150 x0 (ValueIdx.ix3 q 0 d) = ((-share D 0 d (1 + q.val) : ℝ) : EReal) := fun q => by
    have e : idx_main_v149 (idx_main_v150 (ValueIdx.ix3 q 0 d)) = ValueIdx.ix2 (⟨1 + q.val, by omega⟩ : Fin 8192) d := idx2_ext rfl rfl
    rw [val_main_v150_apply, val_main_v149_apply, e]
    exact far H 0 d ⟨1 + q.val, by omega⟩
  have s1 : ∀ q : Fin 8189, val_main_v135 x0 (ValueIdx.ix3 q 0 d) = ((-share D 1 d (3 + q.val) : ℝ) : EReal) := fun q => by
    have e : idx_main_v134 (idx_main_v135 (ValueIdx.ix3 q 0 d)) = ValueIdx.ix2 (⟨3 + q.val, by omega⟩ : Fin 8192) d := idx2_ext rfl rfl
    rw [val_main_v135_apply, val_main_v134_apply, e]
    exact far H 1 d ⟨3 + q.val, by omega⟩
  have s2 : ∀ q : Fin 8185, val_main_v120 x0 (ValueIdx.ix3 q 0 d) = ((-share D 2 d (7 + q.val) : ℝ) : EReal) := fun q => by
    have e : idx_main_v119 (idx_main_v120 (ValueIdx.ix3 q 0 d)) = ValueIdx.ix2 (⟨7 + q.val, by omega⟩ : Fin 8192) d := idx2_ext rfl rfl
    rw [val_main_v120_apply, val_main_v119_apply, e]
    exact far H 2 d ⟨7 + q.val, by omega⟩
  have s3 : ∀ q : Fin 8177, val_main_v106 x0 (ValueIdx.ix3 q 0 d) = ((-share D 3 d (15 + q.val) : ℝ) : EReal) := fun q => by
    have e : idx_main_v105 (idx_main_v106 (ValueIdx.ix3 q 0 d)) = ValueIdx.ix2 (⟨15 + q.val, by omega⟩ : Fin 8192) d := idx2_ext rfl rfl
    rw [val_main_v106_apply, val_main_v105_apply, e]
    exact far H 3 d ⟨15 + q.val, by omega⟩
  have a0 := pad_group (val_main_v150 x0) (val_main_cst_27 (F := Ideal)) (fun _ => zero_word) pads_S8191x1x128_S8193x4x128_020_030_000 h_S_ ⟨1 + r.val, by omega⟩ g d
    (fun n => -share D 0 d (1 + n)) s0
  have a1 := pad_group (val_main_v135 x0) (val_main_cst_24 (F := Ideal)) (fun _ => zero_word) pads_S8189x1x128_S8193x4x128_040_120_000 h_S_ ⟨1 + r.val, by omega⟩ g d
    (fun n => -share D 1 d (3 + n)) s1
  have a2 := pad_group (val_main_v120 x0) (val_main_cst_21 (F := Ideal)) (fun _ => zero_word) pads_S8185x1x128_S8193x4x128_080_210_000 h_S_ ⟨1 + r.val, by omega⟩ g d
    (fun n => -share D 2 d (7 + n)) s2
  have a3 := pad_group (val_main_v106 x0) (val_main_cst_18 (F := Ideal)) (fun _ => zero_word) pads_S8177x1x128_S8193x4x128_0160_300_000 h_S_ ⟨1 + r.val, by omega⟩ g d
    (fun n => -share D 3 d (15 + n)) s3
  have b0 := pad_group (val_main_v153 x0) (val_main_cst_28 (F := Ideal)) (fun _ => zero_word) pads_S8192x1x128_S8193x4x128_100_030_000 h_S_ ⟨1 + r.val, by omega⟩ g d (share D 0 d) (near 0)
  have b1 := pad_group (val_main_v138 x0) (val_main_cst_25 (F := Ideal)) (fun _ => zero_word) pads_S8192x1x128_S8193x4x128_100_120_000 h_S_ ⟨1 + r.val, by omega⟩ g d (share D 1 d) (near 1)
  have b2 := pad_group (val_main_v123 x0) (val_main_cst_22 (F := Ideal)) (fun _ => zero_word) pads_S8192x1x128_S8193x4x128_100_210_000 h_S_ ⟨1 + r.val, by omega⟩ g d (share D 2 d) (near 2)
  have b3 := pad_group (val_main_v108 x0) (val_main_cst_19 (F := Ideal)) (fun _ => zero_word) pads_S8192x1x128_S8193x4x128_100_300_000 h_S_ ⟨1 + r.val, by omega⟩ g d (share D 3 d) (near 3)
  refine (congrArg₂ (· + ·) (congrArg₂ (· + ·) (congrArg₂ (· + ·) (congrArg₂ (· + ·) (congrArg₂ (· + ·) (congrArg₂ (· + ·) (congrArg₂ (· + ·) a3 b3) a2) b2) a1) b1) a0) b0).trans ?_
  simp only [← EReal.coe_add]
  refine congrArg _ ?_
  have hz := share_out H g d (r.val + width g)
  have hr := r.isLt
  rw [Nat.add_sub_cancel_left]
  match g, hz with
  | ⟨0, _⟩, hz =>
    change 8192 ≤ r.val + 2 → share D 0 d (r.val + 2) = 0 at hz
    show _ = share D 0 d r.val - share D 0 d (r.val + 2)
    by_cases h : 1 + r.val < 8191
    · simp (disch := omega) [h, hr, show 1 + (1 + r.val) = r.val + 2 by omega]; ring
    · simp [h, hr, hz (by omega)]
  | ⟨1, _⟩, hz =>
    change 8192 ≤ r.val + 4 → share D 1 d (r.val + 4) = 0 at hz
    show _ = share D 1 d r.val - share D 1 d (r.val + 4)
    by_cases h : 1 + r.val < 8189
    · simp (disch := omega) [h, hr, show 3 + (1 + r.val) = r.val + 4 by omega]; ring
    · simp [h, hr, hz (by omega)]
  | ⟨2, _⟩, hz =>
    change 8192 ≤ r.val + 8 → share D 2 d (r.val + 8) = 0 at hz
    show _ = share D 2 d r.val - share D 2 d (r.val + 8)
    by_cases h : 1 + r.val < 8185
    · simp (disch := omega) [h, hr, show 7 + (1 + r.val) = r.val + 8 by omega]; ring
    · simp [h, hr, hz (by omega)]
  | ⟨3, _⟩, hz =>
    change 8192 ≤ r.val + 16 → share D 3 d (r.val + 16) = 0 at hz
    show _ = share D 3 d r.val - share D 3 d (r.val + 16)
    by_cases h : 1 + r.val < 8177
    · simp (disch := omega) [h, hr, show 15 + (1 + r.val) = r.val + 16 by omega]; ring
    · simp [h, hr, hz (by omega)]

/-- The running sums from the end. -/
theorem v158_at (H : Holds x0 D) (r : Fin 8192) (g : Fin 4) (d : Fin 128) :
    val_main_v158 x0 (ValueIdx.ix3 r g d) = ((∑ k ∈ Finset.range (width g), share D g d (r.val + k) : ℝ) : EReal) := by
  refine (tail_sum (R := 8192) (val_main_v157 x0) (val_main_call1_call0_v0 (F := Ideal)) (fun _ => zero_word) _ _ _ r g d
    (fun n => share D g d n - share D g d (n + width g)) (fun q => v157_at H q g d) (fun n hn => ?_) rfl).trans (congrArg _ ?_)
  · rw [share_out H g d n hn, share_out H g d (n + width g) (by omega), sub_zero]
  · have h := sum_diff (fun k => share D g d (r.val + k)) 8192 (width g)
    simp only [← Nat.add_assoc] at h
    refine h.trans ?_
    rw [Finset.sum_eq_zero (s := Finset.range (width g)) (f := fun k => share D g d (r.val + 8192 + k)) fun k _ => share_out H g d _ (by omega), sub_zero]

/-- The cotangent itself, negated. -/
theorem v144_at (H : Holds x0 D) (r : Fin 8192) (g : Fin 4) (d : Fin 128) :
    val_main_v144 x0 (ValueIdx.ix3 r g d) = ((-D (gcol g d) r.val : ℝ) : EReal) := by
  have neg : ∀ (g : Fin 4) (q : Fin 8192), (![val_main_v142 x0, val_main_v127 x0, val_main_v112 x0, val_main_v99 x0] g) (ValueIdx.ix3 q 0 d)
      = ((-D (gcol g d) q.val : ℝ) : EReal) := fun g q => by
    rw [EReal.coe_neg, ← H.at' q (gcol g d), ← slice_at x0]
    match g with
    | ⟨0, _⟩ => exact (val_main_v142_apply x0 _).trans (congrArg (val_main_v141 x0) (idx2_ext rfl rfl))
    | ⟨1, _⟩ => exact (val_main_v127_apply x0 _).trans (congrArg (val_main_v126 x0) (idx2_ext rfl rfl))
    | ⟨2, _⟩ => exact (val_main_v112_apply x0 _).trans (congrArg (val_main_v111 x0) (idx2_ext rfl rfl))
    | ⟨3, _⟩ => exact (val_main_v99_apply x0 _).trans (congrArg (val_main_v98 x0) (idx2_ext rfl rfl))
  have b0 := pad_group (val_main_v142 x0) (val_main_cst_26 (F := Ideal)) (fun _ => zero_word) pads_S8192x1x128_S8192x4x128_000_030_000 h_S_ r g d (fun n => -D (gcol 0 d) n) (neg 0)
  have b1 := pad_group (val_main_v127 x0) (val_main_cst_23 (F := Ideal)) (fun _ => zero_word) pads_S8192x1x128_S8192x4x128_000_120_000 h_S_ r g d (fun n => -D (gcol 1 d) n) (neg 1)
  have b2 := pad_group (val_main_v112 x0) (val_main_cst_20 (F := Ideal)) (fun _ => zero_word) pads_S8192x1x128_S8192x4x128_000_210_000 h_S_ r g d (fun n => -D (gcol 2 d) n) (neg 2)
  have b3 := pad_group (val_main_v99 x0) (val_main_cst_17 (F := Ideal)) (fun _ => zero_word) pads_S8192x1x128_S8192x4x128_000_300_000 h_S_ r g d (fun n => -D (gcol 3 d) n) (neg 3)
  refine (congrArg₂ (· + ·) (congrArg₂ (· + ·) (congrArg₂ (· + ·) b3 b2) b1) b0).trans ?_
  simp only [← EReal.coe_add]
  refine congrArg _ ?_
  have hr := r.isLt
  match g with
  | ⟨0, _⟩ => simp [hr]
  | ⟨1, _⟩ => simp [hr]
  | ⟨2, _⟩ => simp [hr]
  | ⟨3, _⟩ => simp [hr]

/-- The reference's result: the shares of the window less the cotangent. -/
theorem v161_at (H : Holds x0 D) (r : Fin 8192) (g : Fin 4) (d : Fin 128) :
    val_main_v161 x0 (ValueIdx.ix2 r (gcol g d)) = ((∑ k ∈ Finset.range (width g), share D g d (r.val + k) - D (gcol g d) r.val : ℝ) : EReal) := by
  have e : idx_main_v160 (ValueIdx.ix2 r (gcol g d)) = ValueIdx.ix3 r g d := funext fun a => Fin.ext (by
    match a with
    | ⟨0, _⟩ => show (r.val * 512 + (128 * g.val + d.val)) / 512 = r.val; omega
    | ⟨1, _⟩ => show (r.val * 512 + (128 * g.val + d.val)) / 128 % 4 = g.val; omega
    | ⟨2, _⟩ => show (r.val * 512 + (128 * g.val + d.val)) % 128 = d.val; omega)
  refine (val_main_v161_apply x0 _).trans ((val_main_v160_apply x0 _).trans ?_)
  rw [e]
  refine (congrArg₂ (· + ·) (v144_at H r g d) (v158_at H r g d)).trans ?_
  rw [← EReal.coe_add, neg_add_eq_sub]

end Cert.Proof.PoolB
end
-- ==== Proof.PoolB.Blocks.lean ====
/- The gradient through the windows of the pooling mixer, kernel side: where the blocks lie in the arrays, and what the arrays
   hold. -/
module

public import proofs.«01_k».proof.Proof.PoolB.Ref

@[expose] public section

set_option maxRecDepth 16384

noncomputable section

namespace Cert.Proof.PoolB

open Cert.PoolBIdeal Cert.PoolBIdeal.Gen Cert.PoolBIdeal.Value Idealize.ShloMosaic Idealize.ShloMosaic.TcCoe Idealize.SL.Sem

theorem tile_le (t : Fin cfg0.N) : t.val * 512 + 512 ≤ 8192 := by
  have h : t.val < grid0.N := t.isLt
  rw [N_0] at h; omega

/-- The grid's only coordinate is the point. -/
theorem coord : ∀ t : Fin cfg0.N, (grid0.coords t 0).val = t.val := (by decide +kernel : ∀ t : Fin grid0.N, _)

/-- Where each window's block lies. -/
theorem idxs : ∀ t : Fin cfg0.N,
    (win0_0.index t (0 : Fin 2) = t.val ∧ win0_0.index t (1 : Fin 2) = 0)
    ∧ (win0_1.index t (0 : Fin 2) = min ((t.val + 1) * 4) 63 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = t.val ∧ win0_4.index t (1 : Fin 2) = 0) :=
  (by decide +kernel : ∀ t : Fin grid0.N, _)

/-- The tile of rows of point `t`. -/
abbrev at' {w : Nat} (t : Fin cfg0.N) (j : (⟨2, ![512, w]⟩ : Shape).Idx) : (⟨2, ![8192, w]⟩ : Shape).Idx :=
  row (t.val * 512) (tile_le t) j

theorem halo_le (t : Fin cfg0.N) : min ((t.val + 1) * 4) 63 * 128 + 128 ≤ 8192 := by omega

/-- The halo of rows of point `t`. -/
abbrev after' {w : Nat} (t : Fin cfg0.N) (j : (⟨2, ![128, w]⟩ : Shape).Idx) : (⟨2, ![8192, w]⟩ : Shape).Idx :=
  row (min ((t.val + 1) * 4) 63 * 128) (halo_le t) j

theorem emb0 (t : Fin cfg0.N) (j : S512x512.Idx) : ((cfg0.win 0).blk t).view.emb j = at' t j := blk_row _ _ j (idxs t).1 rfl rfl

theorem emb1 (t : Fin cfg0.N) (j : S128x512.Idx) : ((cfg0.win 1).blk t).view.emb j = after' t j := blk_row _ _ j (idxs t).2.1 rfl rfl

theorem emb2 (t : Fin cfg0.N) (j : S4x128x128.Idx) : ((cfg0.win 2).blk t).view.emb j = j := blk_whole3 _ j (idxs t).2.2.1 rfl rfl rfl

theorem emb3 (t : Fin cfg0.N) (j : S4x128x128.Idx) : ((cfg0.win 3).blk t).view.emb j = j := blk_whole3 _ j (idxs t).2.2.2.1 rfl rfl rfl

theorem emb4 (t : Fin cfg0.N) (j : S512x512.Idx) : ((cfg0.win 4).blk t).view.emb j = at' t j := blk_row _ _ j (idxs t).2.2.2.2 rfl rfl

/-- Every row is in the tile of the point that writes it. -/
theorem cover (i : S8192x512.Idx) : ∃ (t : Fin cfg0.N) (j : S512x512.Idx), at' t j = i := by
  have hi : (i 0).val < 8192 := (i 0).isLt
  have ht : (i 0).val / 512 < cfg0.N := by show (i 0).val / 512 < grid0.N; rw [N_0]; omega
  exact ⟨⟨(i 0).val / 512, ht⟩, _, (row_of i (by decide) (tile_le ⟨(i 0).val / 512, ht⟩)).symm⟩

/-- The blocks the body reads at point `t`. -/
theorem iblks {F : FTy → Type} [FloatOps F] (m : (ℓ : Loc nD τ sig) → Buf (Elt F) ℓ) (c : Dev nD) (t : Fin cfg0.N) :
    iblk m c 0 t = (fun j => V m c main_v126 (at' t j))
    ∧ iblk m c 1 t = (fun j => V m c main_v126 (after' t j))
    ∧ iblk m c 2 t = V m c main_v89
    ∧ iblk m c 3 t = V m c main_v91 := by
  unfold iblk
  generalize V m c = X
  refine ⟨?_, ?_, ?_, ?_⟩ <;> funext j
  · exact congrArg (X main_v126) (emb0 t j)
  · exact congrArg (X main_v126) (emb1 t j)
  · exact congrArg (X main_v89) (emb2 t j)
  · exact congrArg (X main_v91) (emb3 t j)

/-! ## The arrays the region finds -/

variable (m : (ℓ : Loc nD τ sig) → Buf (Elt Ideal) ℓ)

/-- What the host line leaves in a buffer after its first `n` operations. -/
abbrev line (c : Dev nD) (n : Nat) := StableHlo.upto (hostOps0 (F := Ideal)) (fun b => m (c, b)) n

/-- Four squares stacked, read at an index. -/
theorem stack_at {α : Type} (y0 y1 y2 y3 : S1x128x128.Idx → α) (h) (g : Fin 4) (k s : Fin 128) :
    concatenate S4x128x128 0 [⟨S1x128x128, y0⟩, ⟨S1x128x128, y1⟩, ⟨S1x128x128, y2⟩, ⟨S1x128x128, y3⟩] h (ValueIdx.ix3 g k s)
      = (![y0, y1, y2, y3] g) (ValueIdx.ix3 0 k s) := by
  have off : ∀ (g : Fin 4) (b : Fin 3), b.cast rfl ≠ (0 : Fin 3) → ((ValueIdx.ix3 (0 : Fin 1) k s : S1x128x128.Idx) b).val = ((ValueIdx.ix3 g k s : S4x128x128.Idx) b).val :=
    fun g b hb => by match b with | ⟨0, _⟩ => exact absurd rfl hb | ⟨1, _⟩ => rfl | ⟨2, _⟩ => rfl
  match g with
  | ⟨0, _⟩ => exact concatenate_apply_piece 0 _ h _ 0 (by show 0 < 4; omega) S1x128x128 y0 rfl rfl 0 rfl _ (off 0) rfl
  | ⟨1, _⟩ => exact concatenate_apply_piece 0 _ h _ 1 (by show 1 < 4; omega) S1x128x128 y1 rfl rfl 1 rfl _ (off 1) rfl
  | ⟨2, _⟩ => exact concatenate_apply_piece 0 _ h _ 2 (by show 2 < 4; omega) S1x128x128 y2 rfl rfl 2 rfl _ (off 2) rfl
  | ⟨3, _⟩ => exact concatenate_apply_piece 0 _ h _ 3 (by show 3 < 4; omega) S1x128x128 y3 rfl rfl 3 rfl _ (off 3) rfl

/-- Four groups of columns side by side, read at an index. -/
theorem side_at {α : Type} (y0 y1 y2 y3 : S8192x128.Idx → α) (h) (r : Fin 8192) (g : Fin 4) (d : Fin 128) :
    concatenate S8192x512 1 [⟨S8192x128, y0⟩, ⟨S8192x128, y1⟩, ⟨S8192x128, y2⟩, ⟨S8192x128, y3⟩] h (ValueIdx.ix2 r (gcol g d))
      = (![y0, y1, y2, y3] g) (ValueIdx.ix2 r d) := by
  have off : ∀ (g : Fin 4) (b : Fin 2), b.cast rfl ≠ (1 : Fin 2) → ((ValueIdx.ix2 r d : S8192x128.Idx) b).val = ((ValueIdx.ix2 r (gcol g d) : S8192x512.Idx) b).val :=
    fun g b hb => by match b with | ⟨0, _⟩ => rfl | ⟨1, _⟩ => exact absurd rfl hb
  match g with
  | ⟨0, _⟩ => exact concatenate_apply_piece 1 _ h _ 0 (by show 0 < 4; omega) S8192x128 y0 rfl rfl 0 rfl _ (off 0) rfl
  | ⟨1, _⟩ => exact concatenate_apply_piece 1 _ h _ 1 (by show 1 < 4; omega) S8192x128 y1 rfl rfl 128 rfl _ (off 1) rfl
  | ⟨2, _⟩ => exact concatenate_apply_piece 1 _ h _ 2 (by show 2 < 4; omega) S8192x128 y2 rfl rfl 256 rfl _ (off 2) rfl
  | ⟨3, _⟩ => exact concatenate_apply_piece 1 _ h _ 3 (by show 3 < 4; omega) S8192x128 y3 rfl rfl 384 rfl _ (off 3) rfl

/-- A bit of a band, as the host line computes it: row `t`, column `s`. -/
def lowBit (g : Fin 4) (t s : Nat) : BitVec 1 :=
  IntOp.andi (IntOp.cmpi .sge (IntOp.subi (BitVec.ofNat 32 t) (BitVec.ofNat 32 s)) 0#32) (IntOp.cmpi .slt (IntOp.subi (BitVec.ofNat 32 t) (BitVec.ofNat 32 s)) (window g))
def upBit (g : Fin 4) (t s : Nat) : BitVec 1 :=
  IntOp.cmpi .sgt (BitVec.ofNat 32 s) (IntOp.subi (IntOp.addi (BitVec.ofNat 32 t) 128#32) (window g))

theorem low_bits (c : Dev nD) (g : Fin 4) (t s : Fin 128) :
    (![line m c 60 (Proc.tc.devRef main_v48), line m c 60 (Proc.tc.devRef main_v49), line m c 60 (Proc.tc.devRef main_v50), line m c 60 (Proc.tc.devRef main_v51)] g)
      (ValueIdx.ix3 0 t s) = lowBit g t.val s.val := by
  match g with
  | ⟨0, _⟩ => show line m c 60 (Proc.tc.devRef main_v48) _ = _; unfold line; after_reads_at; rfl
  | ⟨1, _⟩ => show line m c 60 (Proc.tc.devRef main_v49) _ = _; unfold line; after_reads_at; rfl
  | ⟨2, _⟩ => show line m c 60 (Proc.tc.devRef main_v50) _ = _; unfold line; after_reads_at; rfl
  | ⟨3, _⟩ => show line m c 60 (Proc.tc.devRef main_v51) _ = _; unfold line; after_reads_at; rfl

theorem up_bits (c : Dev nD) (g : Fin 4) (t s : Fin 128) :
    (![line m c 102 (Proc.tc.devRef main_v82), line m c 102 (Proc.tc.devRef main_v83), line m c 102 (Proc.tc.devRef main_v84), line m c 102 (Proc.tc.devRef main_v85)] g)
      (ValueIdx.ix3 0 t s) = upBit g t.val s.val := by
  match g with
  | ⟨0, _⟩ => show line m c 102 (Proc.tc.devRef main_v82) _ = _; unfold line; after_reads_at; rfl
  | ⟨1, _⟩ => show line m c 102 (Proc.tc.devRef main_v83) _ = _; unfold line; after_reads_at; rfl
  | ⟨2, _⟩ => show line m c 102 (Proc.tc.devRef main_v84) _ = _; unfold line; after_reads_at; rfl
  | ⟨3, _⟩ => show line m c 102 (Proc.tc.devRef main_v85) _ = _; unfold line; after_reads_at; rfl

theorem word_sub (a b : Nat) (ha : a < 1024) (hb : b < 1024) : (BitVec.ofNat 32 a - BitVec.ofNat 32 b).toInt = (a : Int) - b := by
  rw [BitVec.toInt_sub, BitVec.toInt_eq_toNat_bmod, BitVec.toInt_eq_toNat_bmod, BitVec.toNat_ofNat, BitVec.toNat_ofNat]
  simp only [Int.bmod]
  omega

theorem word (a : Nat) (ha : a < 1024) : (BitVec.ofNat 32 a).toInt = (a : Int) := by
  rw [BitVec.toInt_eq_toNat_bmod, BitVec.toNat_ofNat]; simp only [Int.bmod]; omega

theorem window_word (g : Fin 4) : window g = BitVec.ofNat 32 (width g) := by revert g; decide

theorem low_bit (g : Fin 4) (s k : Fin 128) : lowBit g k.val s.val = if inLow g s.val k.val then 1#1 else 0#1 := by
  have hw := width_le g
  have e1 : BitVec.sle 0#32 (BitVec.ofNat 32 k.val - BitVec.ofNat 32 s.val) = decide (s.val ≤ k.val) := by
    unfold BitVec.sle; rw [word_sub _ _ (by omega) (by omega)]; exact decide_eq_decide.mpr (by rw [BitVec.toInt_zero]; omega)
  have e2 : BitVec.slt (BitVec.ofNat 32 k.val - BitVec.ofNat 32 s.val) (window g) = decide (k.val < s.val + width g) := by
    unfold BitVec.slt; rw [word_sub _ _ (by omega) (by omega), window_word, word _ (by omega)]; exact decide_eq_decide.mpr (by omega)
  show BitVec.ofBool (BitVec.sle 0#32 (BitVec.ofNat 32 k.val - BitVec.ofNat 32 s.val)) &&& BitVec.ofBool (BitVec.slt (BitVec.ofNat 32 k.val - BitVec.ofNat 32 s.val) (window g)) = _
  rw [e1, e2]
  unfold inLow
  by_cases h1 : s.val ≤ k.val <;> by_cases h2 : k.val < s.val + width g <;> simp [h1, h2]

theorem up_bit (g : Fin 4) (s k : Fin 128) : upBit g k.val s.val = if inUp g s.val k.val then 1#1 else 0#1 := by
  have hw := width_le g
  have e0 : IntOp.addi (BitVec.ofNat 32 k.val) 128#32 = BitVec.ofNat 32 (k.val + 128) := (BitVec.ofNat_add _ _).symm
  have e1 : BitVec.slt (BitVec.ofNat 32 (k.val + 128) - window g) (BitVec.ofNat 32 s.val) = decide (128 + k.val < s.val + width g) := by
    unfold BitVec.slt; rw [window_word, word_sub _ _ (by omega) (by omega), word _ (by omega)]; exact decide_eq_decide.mpr (by omega)
  unfold upBit
  rw [e0]
  show BitVec.ofBool (BitVec.slt (BitVec.ofNat 32 (k.val + 128) - window g) (BitVec.ofNat 32 s.val)) = _
  rw [e1]
  unfold inUp
  by_cases h2 : 128 + k.val < s.val + width g <;> simp [h2]

/-- The real of a bit. -/
theorem bit_real (p : Prop) [Decidable p] : FloatOps.uitofp (F := Ideal) .f32 (if p then 1#1 else 0#1) = (((if p then 1 else 0 : ℝ)) : EReal) := by
  split <;> (show (((BitVec.toNat _ : Nat) : ℝ) : EReal) = _; simp)

/-- A stack of bits, made real and turned about. -/
abbrev bands (y : Fin 4 → (S1x128x128.Idx → BitVec 1)) : Vec Ideal S4x128x128 .bf16 :=
  truncf .bf16 (transpose S4x128x128 [0, 2, 1] (uitofp (F := Ideal) .f32 (concatenate S4x128x128 0
    [⟨S1x128x128, y 0⟩, ⟨S1x128x128, y 1⟩, ⟨S1x128x128, y 2⟩, ⟨S1x128x128, y 3⟩] concatenates_S1x128x128_S1x128x128_S1x128x128_S1x128x128_S4x128x128_d0))
    transposes_S4x128x128_S4x128x128_0_2_1) bitsLt_bf16_f32

theorem bands_at (y : Fin 4 → (S1x128x128.Idx → BitVec 1)) (g : Fin 4) (s k : Fin 128) (p : Prop) [Decidable p] (h : y g (ValueIdx.ix3 0 k s) = if p then 1#1 else 0#1) :
    bands y (ValueIdx.ix3 g s k) = (((if p then 1 else 0 : ℝ)) : EReal) := by
  rw [← bit_real, ← h]
  refine (congrArg (FloatOps.uitofp (F := Ideal) .f32) ?_ : _)
  refine (congrArg (concatenate S4x128x128 0 [⟨S1x128x128, y 0⟩, ⟨S1x128x128, y 1⟩, ⟨S1x128x128, y 2⟩, ⟨S1x128x128, y 3⟩]
    concatenates_S1x128x128_S1x128x128_S1x128x128_S1x128x128_S4x128x128_d0) (?_ : _ = ValueIdx.ix3 g k s)).trans ((stack_at _ _ _ _ _ g k s).trans ?_)
  · funext a; match a with | ⟨0, _⟩ => rfl | ⟨1, _⟩ => rfl | ⟨2, _⟩ => rfl
  · match g with | ⟨0, _⟩ => rfl | ⟨1, _⟩ => rfl | ⟨2, _⟩ => rfl | ⟨3, _⟩ => rfl

theorem Vlow (c : Dev nD) : V m c main_v89 = bands ![line m c 60 (Proc.tc.devRef main_v48), line m c 60 (Proc.tc.devRef main_v49),
    line m c 60 (Proc.tc.devRef main_v50), line m c 60 (Proc.tc.devRef main_v51)] := by
  generalize hy : (![line m c 60 (Proc.tc.devRef main_v48), line m c 60 (Proc.tc.devRef main_v49), line m c 60 (Proc.tc.devRef main_v50),
    line m c 60 (Proc.tc.devRef main_v51)] : Fin 4 → (S1x128x128.Idx → BitVec 1)) = y
  unfold Gen.V
  after_reads_simp
  rw [← hy]
  rfl

theorem Vup (c : Dev nD) : V m c main_v91 = bands ![line m c 102 (Proc.tc.devRef main_v82), line m c 102 (Proc.tc.devRef main_v83),
    line m c 102 (Proc.tc.devRef main_v84), line m c 102 (Proc.tc.devRef main_v85)] := by
  generalize hy : (![line m c 102 (Proc.tc.devRef main_v82), line m c 102 (Proc.tc.devRef main_v83), line m c 102 (Proc.tc.devRef main_v84),
    line m c 102 (Proc.tc.devRef main_v85)] : Fin 4 → (S1x128x128.Idx → BitVec 1)) = y
  unfold Gen.V
  after_reads_simp
  rw [← hy]
  rfl

theorem low_at (c : Dev nD) (g : Fin 4) (s k : Fin 128) : V m c main_v89 (ValueIdx.ix3 g s k) = (((if inLow g s.val k.val then 1 else 0 : ℝ)) : EReal) := by
  rw [Vlow]
  refine bands_at _ g s k _ (Eq.trans ?_ ((low_bits m c g k s).trans (low_bit g s k)))
  rfl

theorem up_at (c : Dev nD) (g : Fin 4) (s k : Fin 128) : V m c main_v91 (ValueIdx.ix3 g s k) = (((if inUp g s.val k.val then 1 else 0 : ℝ)) : EReal) := by
  rw [Vup]
  refine bands_at _ g s k _ (Eq.trans ?_ ((up_bits m c g k s).trans (up_bit g s k)))
  rfl

abbrev dpooled (c : Dev nD) : Vec Ideal S8192x512 .f32 := m ((c : Thread nD τ).loc main_arg0)

/-- A group's columns over the counts, as the host line computes them. -/
theorem shares (c : Dev nD) {D : Fin 512 → Nat → ℝ} (H : Holds (dpooled m c) D) (g : Fin 4) (r : Fin 8192) (d : Fin 128) :
    (![line m c 150 (Proc.tc.devRef main_v101), line m c 150 (Proc.tc.devRef main_v109), line m c 150 (Proc.tc.devRef main_v117), line m c 150 (Proc.tc.devRef main_v125)] g)
      (ValueIdx.ix2 r d) = ((share D g d r.val : ℝ) : EReal) := by
  unfold share
  rw [← div_real _ _ (count_ne g r.val r.isLt), ← H.at' r (gcol g d)]
  match g with
  | ⟨0, _⟩ => show line m c 150 (Proc.tc.devRef main_v101) _ = _; unfold line; after_reads_at; exact congrArg₂ Ideal.div (congrArg (dpooled m c) (idx2_ext rfl (Nat.zero_add _).symm)) rfl
  | ⟨1, _⟩ => show line m c 150 (Proc.tc.devRef main_v109) _ = _; unfold line; after_reads_at; exact congrArg₂ Ideal.div (congrArg (dpooled m c) (idx2_ext rfl rfl)) rfl
  | ⟨2, _⟩ => show line m c 150 (Proc.tc.devRef main_v117) _ = _; unfold line; after_reads_at; exact congrArg₂ Ideal.div (congrArg (dpooled m c) (idx2_ext rfl rfl)) rfl
  | ⟨3, _⟩ => show line m c 150 (Proc.tc.devRef main_v125) _ = _; unfold line; after_reads_at; exact congrArg₂ Ideal.div (congrArg (dpooled m c) (idx2_ext rfl rfl)) rfl

theorem Vshares (c : Dev nD) {D : Fin 512 → Nat → ℝ} (H : Holds (dpooled m c) D) (g : Fin 4) (r : Fin 8192) (d : Fin 128) :
    V m c main_v126 (ValueIdx.ix2 r (gcol g d)) = ((share D g d r.val : ℝ) : EReal) := by
  rw [← shares m c H g r d, ← side_at _ _ _ _ concatenates_S8192x128_S8192x128_S8192x128_S8192x128_S8192x512_d1]
  refine congrFun ?_ _
  generalize hy : (![line m c 150 (Proc.tc.devRef main_v101), line m c 150 (Proc.tc.devRef main_v109), line m c 150 (Proc.tc.devRef main_v117),
    line m c 150 (Proc.tc.devRef main_v125)] : Fin 4 → (S8192x128.Idx → Ideal .f32)) = y
  refine Eq.trans (b := concatenate S8192x512 1 [⟨S8192x128, y 0⟩, ⟨S8192x128, y 1⟩, ⟨S8192x128, y 2⟩, ⟨S8192x128, y 3⟩]
    concatenates_S8192x128_S8192x128_S8192x128_S8192x128_S8192x512_d1) ?_ (by rw [← hy]; rfl)
  unfold Gen.V
  after_reads_simp
  rw [← hy]
  rfl

end Cert.Proof.PoolB
end
-- ==== Proof.PoolB.Value.lean ====
/- The gradient through the windows of the pooling mixer over the reals: the kernel's result is the reference's where the
   cotangent is real. -/
module

public import proofs.«01_k».proof.Proof.PoolB.Blocks
public import proofs.«01_k».proof.Proof.Tiles

@[expose] public section

set_option maxRecDepth 16384

noncomputable section

namespace Cert.Proof.PoolB

open Cert.PoolBIdeal Cert.PoolBIdeal.Gen Cert.PoolBIdeal.Value Idealize.ShloMosaic Idealize.ShloMosaic.TcCoe Idealize.SL.Sem
open Cert.PoolBRefIdeal.Read

variable (m : (ℓ : Loc nD τ sig) → Buf (Elt Ideal) ℓ) (c : Dev nD)

/-- The point's number, compared with the last point's. -/
theorem not_last : ∀ t : Fin cfg0.N, BitVec.slt (BitVec.ofNat 32 t.val) 15#32 = decide (t.val < 15) := (by decide +kernel : ∀ t : Fin grid0.N, _)

/-- What the blocks of point `t` hold of an array of shares. -/
theorem inputs_of {D : Fin 512 → Nat → ℝ} (out : ∀ j n, 8192 ≤ n → D j n = 0) (t : Fin cfg0.N) (X : Vec Ideal S8192x512 .f32)
    (hX : ∀ (r : Fin 8192) (j : Fin 512), X (ValueIdx.ix2 r j) = ((D j r.val / count ⟨j.val / 128, by omega⟩ r.val : ℝ) : EReal))
    (x2 x3 : Vec Ideal S4x128x128 .bf16)
    (low : ∀ (g : Fin 4) (s k : Fin 128), x2 (ValueIdx.ix3 g s k) = (((if inLow g s.val k.val then 1 else 0 : ℝ)) : EReal))
    (up : ∀ (g : Fin 4) (s k : Fin 128), x3 (ValueIdx.ix3 g s k) = (((if inUp g s.val k.val then 1 else 0 : ℝ)) : EReal)) :
    Inputs (fun j => X (at' t j)) (fun j => X (after' t j)) x2 x3 t.val
      (fun j n => D j (t.val * 512 + n) / count ⟨j.val / 128, by omega⟩ (t.val * 512 + n)) := by
  have ht := tile_le t
  refine ⟨fun r j => ?_, fun r j h => ?_, fun r j h => ?_, low, up⟩
  · exact (congrArg X (idx2_ext (j := ValueIdx.ix2 ⟨t.val * 512 + r.val, by omega⟩ j) rfl rfl)).trans (hX ⟨t.val * 512 + r.val, by omega⟩ j)
  · rw [not_last t] at h
    have h15 : t.val < 15 := of_decide_eq_true h
    have e : after' t (ValueIdx.ix2 r j) = ValueIdx.ix2 ⟨t.val * 512 + (512 + r.val), by omega⟩ j :=
      idx2_ext (by show min ((t.val + 1) * 4) 63 * 128 + r.val = t.val * 512 + (512 + r.val); omega) rfl
    show X (after' t (ValueIdx.ix2 r j)) = _
    rw [e]
    exact hX _ j
  · rw [not_last t] at h
    have h15 : ¬t.val < 15 := of_decide_eq_false h
    show D j (t.val * 512 + (512 + r.val)) / _ = 0
    rw [out _ _ (by omega), zero_div]

/-- A column, found from its group and its place in it. -/
theorem gcol_col (j : Fin 512) : gcol ⟨j.val / 128, by omega⟩ ⟨j.val % 128, Nat.mod_lt _ (by decide)⟩ = j :=
  Fin.ext (by show 128 * (j.val / 128) + j.val % 128 = j.val; omega)

/-- What point `t`'s blocks hold. -/
theorem inputs {D : Fin 512 → Nat → ℝ} (H : Holds (dpooled m c) D) (t : Fin cfg0.N) :
    Inputs (iblk m c 0 t) (iblk m c 1 t) (iblk m c 2 t) (iblk m c 3 t) (grid0.coords t 0).val
      (fun j n => D j (t.val * 512 + n) / count ⟨j.val / 128, by omega⟩ (t.val * 512 + n)) := by
  obtain ⟨i0, i1, i2, i3⟩ := iblks m c t
  rw [i0, i1, i2, i3, coord]
  refine inputs_of H.out t (V m c main_v126) (fun r j => ?_) _ _ (low_at m c) (up_at m c)
  have h := Vshares m c H ⟨j.val / 128, by omega⟩ r ⟨j.val % 128, Nat.mod_lt _ (by decide)⟩
  unfold share at h
  rw [gcol_col j] at h
  exact h

/-- What the body is to leave at point `t`, of an array that holds the windows' sums less the entry. -/
theorem wanted_of {D : Fin 512 → Nat → ℝ} (t : Fin cfg0.N) (X : Vec Ideal S8192x512 .f32)
    (hX : ∀ (r : Fin 8192) (g : Fin 4) (d : Fin 128), X (ValueIdx.ix2 r (gcol g d)) =
      ((∑ k ∈ Finset.range (width g), share D g d (r.val + k) - D (gcol g d) r.val : ℝ) : EReal)) :
    Wanted (fun j => X (at' t j)) t.val (fun j n => D j (t.val * 512 + n) / count ⟨j.val / 128, by omega⟩ (t.val * 512 + n)) := by
  have ht := tile_le t
  intro r g d
  have hg : (⟨(gcol g d).val / 128, by omega⟩ : Fin 4) = g := Fin.ext (by show (128 * g.val + d.val) / 128 = g.val; omega)
  refine (congrArg X (idx2_ext (j := ValueIdx.ix2 ⟨t.val * 512 + r.val, by omega⟩ (gcol g d)) rfl rfl)).trans ((hX _ g d).trans ?_)
  refine congrArg _ ?_
  dsimp only
  rw [hg, div_mul_cancel₀ _ (count_ne g _ (by omega))]
  refine congrArg₂ (· - ·) (Finset.sum_congr rfl fun k _ => ?_) rfl
  unfold share
  rw [Nat.add_assoc]

/-- The reference's result, at point `t`'s rows, is what the body is to leave. -/
theorem wanted {D : Fin 512 → Nat → ℝ} (H : Holds (dpooled m c) D) (t : Fin cfg0.N) :
    Wanted (fun j => val_main_v161 (dpooled m c) (at' t j)) (grid0.coords t 0).val
      (fun j n => D j (t.val * 512 + n) / count ⟨j.val / 128, by omega⟩ (t.val * 512 + n)) := by
  rw [coord]
  exact wanted_of t (val_main_v161 (dpooled m c)) fun r g d => v161_at H r g d

/-- The result array is the reference's. -/
theorem final {D : Fin 512 → Nat → ℝ} (H : Holds (dpooled m c) D) : (dats m 0 c).arrAt 4 cfg0.N = val_main_v161 (dpooled m c) := by
  refine (dats m 0 c).arrAt_eq_of_cover 4 _ (fun t _ => ?_) fun i => ?_
  · rw [flushed4, out_eq (grid0.coords t) (inputs m c H t) _ (wanted m c H t)]
    funext j
    exact congrArg (val_main_v161 (dpooled m c)) (emb4 t j).symm
  · obtain ⟨t, j, rfl⟩ := cover i
    exact ⟨t, flush0_4 t, emb4 t j ▸ View.emb_mem_set _ j⟩

/-- An array of reals as a table. -/
theorem holds (x : Vec Ideal S8192x512 .f32) (h : ∀ i, x i = (((x i).toReal : ℝ) : EReal)) :
    Holds x fun j n => if hn : n < 8192 then (x (ValueIdx.ix2 ⟨n, hn⟩ j)).toReal else 0 :=
  ⟨fun r j => (h _).trans (by rw [dif_pos r.isLt]), fun j n hn => dif_neg (by omega)⟩

end Cert.Proof.PoolB
end
-- ==== Proof.Finite.lean ====
/- Arrays whose entries all lie strictly between the two infinities hold reals. -/
module

public import Idealize.ShloMosaic.Lib.ReduceAll
public import Idealize.ShloMosaic.Lib.Pointwise
public import Idealize.ShloMosaic.PureOps.Ideal

@[expose] public section

noncomputable section

namespace Cert.Proof

open Idealize.ShloMosaic

/-- The word of plus infinity. -/
theorem ofBits_top : Ideal.ofBits .f32 0x7F800000#32 = ⊤ := by
  simp [Ideal.ofBits, Ideal.ieee]

/-- The word of minus infinity. -/
theorem ofBits_bot : Ideal.ofBits .f32 0xFF800000#32 = ⊥ := by
  simp [Ideal.ofBits, Ideal.ieee]

/-- Both bits of a conjunction are one. -/
theorem andi_one {x y : BitVec 1} (h : IntOp.andi x y = 1#1) : x = 1#1 ∧ y = 1#1 := by
  revert x y; decide

/-- An entry above minus infinity and below plus infinity is a real. -/
theorem real_of_bits (x : EReal) (h : IntOp.andi (Ideal.cmp .ogt x (Ideal.ofBits .f32 0xFF800000#32)) (Ideal.cmp .olt x (Ideal.ofBits .f32 0x7F800000#32)) = 1#1) :
    x = ((x.toReal : ℝ) : EReal) := by
  rw [ofBits_top, ofBits_bot] at h
  obtain ⟨h1, h2⟩ := andi_one h
  refine (EReal.coe_toReal ?_ ?_).symm
  · rintro rfl; simp [Ideal.cmp] at h2
  · rintro rfl; simp [Ideal.cmp] at h1

/-- All entries of an array are real where the conjunction over the array of the two comparisons is one. -/
theorem real_of_all {s t u : Shape} [Subsingleton t.Idx] {axes : List (Fin s.rank)} (x : FVec Ideal s .f32) (init : u.Idx → BitVec 1) (h : s.ReducesTo axes t) (hu : 0 < u.numel) (j : t.Idx)
    (p q : FVec Ideal s .f32) (hp : ∀ i, p i = Ideal.ofBits .f32 0xFF800000#32) (hq : ∀ i, q i = Ideal.ofBits .f32 0x7F800000#32)
    (e : Host.reduce IntOp.andi (andi (cmpf .ogt x p) (cmpf .olt x q)) init h hu j = 1#1) (i : s.Idx) :
    x i = (((x i).toReal : ℝ) : EReal) := by
  refine real_of_bits (x i) ?_
  have k := Host.reduce_andi_all _ init h hu j e i
  rw [← hp i, ← hq i]
  exact k

end Cert.Proof
end
-- ==== Proof.PoolB.Claims.lean ====
/-
# The second pooling backward call: frames and value
-/
module

public import proofs.«01_k».proof.Proof.PoolB.Value
public import proofs.«01_k».proof.Proof.Gen.PoolB.Frame
public import proofs.«01_k».proof.Proof.Gen.PoolBIdeal.Frame
public import proofs.«01_k».proof.Proof.Gen.PoolBRefIdeal.Run
public import proofs.«01_k».proof.Proof.Finite
public import proofs.«01_k».proof.Proof.Gen.Pre_finite_poolb
public import proofs.«01_k».proof.Defs

@[expose] public section

set_option maxRecDepth 16384

noncomputable section

namespace Cert.Proof.PoolB

open Idealize Idealize.ShloMosaic Cert.PoolBRefIdeal.Read

/-- The kernel runs at the machine's words. -/
theorem frame : Cert.quiescent_PoolB := fun m ρ _ => Cert.PoolB.Gen.frame m ρ

/-- The kernel runs over the reals. -/
theorem frame_ideal : Cert.quiescent_PoolBIdeal := fun m ρ _ => Cert.PoolBIdeal.Gen.frame m ρ

/-- The reference runs over the reals; it declares no semaphore. -/
theorem frame_ref : Cert.quiescent_PoolBRefIdeal := fun m ρ _ =>
  (θ_run Cert.PoolBRefIdeal.defs _ _).mono (fun r h => ⟨fun c => (h c).2, sem_eq_zero_of_no_sems (by decide) r.2⟩) (Cert.PoolBRefIdeal.Value.run (F := Ideal) m ρ)

/-- The precondition makes every entry of the cotangent real. -/
theorem finite (x : FVec Ideal Cert.Pre_finite_poolb.S8192x512 .f32) (h : Cert.Pre_finite_poolb.fn (F := Ideal) x = fun _ => 1#1) (i) :
    x i = (((x i).toReal : ℝ) : EReal) := by
  have : Subsingleton Cert.Pre_finite_poolb.S_.Idx := ⟨fun a b => funext fun k => k.elim0⟩
  have k := congrFun h ValueIdx.ix0
  unfold Cert.Pre_finite_poolb.fn at k
  dsimp only at k
  exact real_of_all x _ _ _ _ _ _ (fun _ => rfl) (fun _ => rfl) k i

/-- Over the reals the kernel's array is the reference's gradient, where the cotangent is real. -/
theorem algebraic : Cert.algebraic_PoolBIdeal_PoolBRefIdeal_pre_finite_poolb := by
  intro m ρ m' ρ' hpre hag
  refine ⟨fun c => val_main_v161 (F := Ideal) (dpooled m c), ?_, ?_⟩
  · refine (θ_run Cert.PoolBIdeal.defs _ _).mono (fun r h c => ?_) (Cert.PoolBIdeal.Value.run_blocks m ρ)
    obtain ⟨h4, hk⟩ := h c
    exact ⟨h4.trans (final m c (holds _ (finite _ (hpre c)))), hk⟩
  · refine (θ_run Cert.PoolBRefIdeal.defs _ _).mono (fun r h c => ?_) (Cert.PoolBRefIdeal.Value.run (F := Ideal) m' ρ')
    obtain ⟨h0, hk⟩ := h c
    have e : StableHlo.launchContents m' c (Proc.tc.devRef Cert.PoolBRefIdeal.main_arg0) = dpooled m c := hag c
    rw [val_main_v161_eq, e] at h0
    exact ⟨h0, hk⟩

/-- No operation was rewritten. -/
theorem preserves : Cert.preserves_PoolB_PoolBIdeal := trivial

end Cert.Proof.PoolB

end
-- ==== Proof.Flash.Loop.lean ====
/- The attention gradient: what one tile of queries does to the running sums, and the loop over the tiles. -/
module

public import proofs.«01_k».proof.Proof.Gen.FlashIdeal.Frame
public import proofs.«01_k».proof.Proof.Gen.FlashIdeal.Skeleton
public import Idealize.ShloMosaic.Lib.Exec
public import Idealize.ShloMosaic.Lib.Tactic
public import Idealize.ShloMosaic.Lib.VecWindow

@[expose] public section

set_option maxRecDepth 8192

noncomputable section

namespace Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashIdeal Cert.FlashIdeal.Gen

variable {F : FTy → Type} [FloatOps F] [Named F]

local notation "𝕄" => MT nD τ sig Unit (Elt F) ℕ (UR sig nD τ) ℕ

/-! ## The words -/

theorem off1 : ∀ i : grid0.Coords, k0_off1 i = ![0, 1024 * (i 1).val, 0] := by decide +kernel
theorem off2 : ∀ i : grid0.Coords, k0_off2 i = ![1024 * (i 1).val, 0] := by decide +kernel
theorem off3 : ∀ i : grid0.Coords, k0_off3 i = ![0, (i 1).val, 0, 0] := by decide +kernel
theorem off4 : ∀ i : grid0.Coords, k0_off4 i = ![1024 * (i 1).val, 0] := by decide +kernel
theorem trips1 : ∀ i : grid0.Coords, (k0_t1_loop i).trips = 7 - (i 1).val := by decide +kernel
theorem trips2 : ∀ i : grid0.Coords, (k0_t2_loop i).trips = 0 := by decide +kernel
theorem off5 : ∀ (i : grid0.Coords) (k : Fin (k0_t1_loop i).trips), k0_off5 i k = ![0, 1024 * ((i 1).val + 1 + k.val), 0] := by decide +kernel
theorem off6 : ∀ (i : grid0.Coords) (k : Fin (k0_t1_loop i).trips), k0_off6 i k = ![1024 * ((i 1).val + 1 + k.val), 0] := by decide +kernel
theorem off7 : ∀ (i : grid0.Coords) (k : Fin (k0_t1_loop i).trips), k0_off7 i k = ![0, (i 1).val + 1 + k.val, 0, 0] := by decide +kernel
theorem off8 : ∀ (i : grid0.Coords) (k : Fin (k0_t1_loop i).trips), k0_off8 i k = ![1024 * ((i 1).val + 1 + k.val), 0] := by decide +kernel

/-! ## One tile -/

theorem inQ (n : Fin 8) : ∀ a, (![0, 1024 * n.val, 0] : Fin 3 → ℕ) a + S1x1024x256.size a ≤ S1x8192x256.size a := by revert n; decide +kernel
theorem inO (n : Fin 8) : ∀ a, (![1024 * n.val, 0] : Fin 2 → ℕ) a + S1024x128.size a ≤ S8192x128.size a := by revert n; decide +kernel
theorem inL (n : Fin 8) : ∀ a, (![0, n.val, 0, 0] : Fin 4 → ℕ) a + S1x1x1x1024.size a ≤ S1x8x1x1024.size a := by revert n; decide +kernel
theorem inA (n : Fin 8) : ∀ a, (![1024 * n.val, 0] : Fin 2 → ℕ) a + S1024x256.size a ≤ S8192x256.size a := by revert n; decide +kernel

/-- Tile `n` of the queries, of the output gradients, of the row statistics and of the running query gradient. -/
def tq (x : Vec F S1x8192x256 .bf16) (n : Fin 8) : Vec F S1x1024x256 .bf16 := VecWindow.window x ![0, 1024 * n.val, 0] S1x1024x256.size (inQ n)
def td (x : Vec F S8192x128 .bf16) (n : Fin 8) : Vec F S1024x128 .bf16 := VecWindow.window x ![1024 * n.val, 0] S1024x128.size (inO n)
def tl (x : Vec F S1x8x1x1024 .f32) (n : Fin 8) : Vec F S1x1x1x1024 .f32 := VecWindow.window x ![0, n.val, 0, 0] S1x1x1x1024.size (inL n)
def ta (x : Vec F S8192x256 .f32) (n : Fin 8) : Vec F S1024x256 .f32 := VecWindow.window x ![1024 * n.val, 0] S1024x256.size (inA n)

/-- The running sums: the key gradient, the value gradient, and the query gradient of every row. -/
abbrev Sums (F : FTy → Type) [FloatOps F] : Type := (FVec F S1024x256 .f32 × FVec F S1024x128 .f32) × Vec F S8192x256 .f32

section
variable (x2 : Vec F S1x8192x256 .bf16) (x3 : Vec F S8192x128 .bf16) (x4 x5 : Vec F S1x8x1x1024 .f32) (v4 : FVec F S1024x256 .bf16) (v6 : FVec F S1024x128 .bf16)

/-- What a tile of queries after the key block's own adds to the running sums. -/
def tile (n : Fin 8) (s : Sums F) : Sums F :=
  ((k0_pay6 v4 v6 s.1.1 (tq x2 n) (td x3 n) (tl x4 n) (tl x5 n), k0_pay4 v4 s.1.2 (tq x2 n) (td x3 n) (tl x4 n)),
    VecWindow.put s.2 ![1024 * n.val, 0] S1024x256.size (k0_pay7 v4 v6 (tq x2 n) (td x3 n) (tl x4 n) (tl x5 n) (ta s.2 n)))

/-- The running sums after `k` further tiles, from the one after tile `j` on. -/
def tiles (j : ℕ) (s : Sums F) : ℕ → Sums F
  | 0 => s
  | k + 1 => if h : j + 1 + k < 8 then tile x2 x3 x4 x5 v4 v6 ⟨j + 1 + k, h⟩ (tiles j s k) else tiles j s k
end

section Trip
variable (c : Dev nD) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole) (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
  (v4 : FVec F S1024x256 .bf16) (v6 : FVec F S1024x128 .bf16)
  (X2 : BufTy.Contents (Elt F) arg2.view.ty) (X3 : BufTy.Contents (Elt F) arg3.view.ty) (X4 : BufTy.Contents (Elt F) arg4.view.ty) (X5 : BufTy.Contents (Elt F) arg5.view.ty)
  (G : BufTy.Contents (Elt F) arg11.view.ty) (init : FVec F S1024x256 .f32 × FVec F S1024x128 .f32)

/-- The sums before trip `k`, from what the loop finds. -/
abbrev sumsAt (k : ℕ) : Sums F :=
  tiles (arg2.view.read (Elt F) X2) (arg3.view.read (Elt F) X3) (arg4.view.read (Elt F) X4) (arg5.view.read (Elt F) X5) v4 v6 (i 1).val (init, arg11.view.read (Elt F) G) k

/-- The loop's resources before trip `k`. -/
abbrev invAt (k : ℕ) (acc : FVec F S1024x256 .f32 × FVec F S1024x128 .f32) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (∃ f, (arg11.view.loc (c : Thread nD τ) ↦[arg11.view.set]{fullShare} f) ∗ ⌜arg11.view.read (Elt F) f = (sumsAt i arg2 arg3 arg4 arg5 arg11 v4 v6 X2 X3 X4 X5 G init k).2⌝)
    ∗ ⌜acc = (sumsAt i arg2 arg3 arg4 arg5 arg11 v4 v6 X2 X3 X4 X5 G init k).1⌝)

set_option maxHeartbeats 1000000 in
set_option warn.classDefReducibility false in
/-- The loop over the further tiles, by its invariant. -/
def loop1 (E : Set ℕ) :
    LoopInv (M := 𝕄) Idealize.ShloMosaic.frame (wpE (defs₀ (F := F)) Variants.none (c : Thread nD τ) none) E
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 arg11 harg11 v4 v6) where
  inv := invAt c i arg2 arg3 arg4 arg5 arg11 v4 v6 X2 X3 X4 X5 G init
  step k acc := by
    have hk : (i 1).val + 1 + k.val < 8 := by
      have h1 : k.val < (k0_t1_loop i).trips := k.isLt
      rw [trips1] at h1; omega
    have hs : sumsAt i arg2 arg3 arg4 arg5 arg11 v4 v6 X2 X3 X4 X5 G init (k.val + 1) = tile (arg2.view.read (Elt F) X2) (arg3.view.read (Elt F) X3) (arg4.view.read (Elt F) X4) (arg5.view.read (Elt F) X5) v4 v6 ⟨(i 1).val + 1 + k.val, hk⟩ (sumsAt i arg2 arg3 arg4 arg5 arg11 v4 v6 X2 X3 X4 X5 G init k.val) := by
      show (if h : _ then _ else _) = _
      rw [dif_pos hk]
    unfold invAt
    rw [hs]
    generalize sumsAt i arg2 arg3 arg4 arg5 arg11 v4 v6 X2 X3 X4 X5 G init k.val = s
    unfold k0_t1_body
    iintro ⟨H2, H3, H4, H5, ⟨%f, H11, %hf⟩, %hacc⟩
    sl_exec
    sl_step
    isplitl [H2]; · iexact H2
    isplitl [H3]; · iexact H3
    isplitl [H4]; · iexact H4
    isplitl [H5]; · iexact H5
    isplitl [H11]
    · iexists _
      isplitl [H11]; · iexact H11
      ipureintro
      have hn : (⟨(i 1).val + 1 + k.val, hk⟩ : Fin 8).val = (i 1).val + 1 + k.val := rfl
      rw [View.read_writes_cons_put arg11.view f (k0_off8_inb i k) _ [] (off8 i k), View.writes_nil, hf,
        View.readAt_unit arg2.view X2 (k0_off5_inb i k) (off5 i k) (inQ ⟨_, hk⟩), View.readAt_unit arg3.view X3 (k0_off6_inb i k) (off6 i k) (inO ⟨_, hk⟩),
        View.readAt_unit arg4.view X4 (k0_off7_inb i k) (off7 i k) (inL ⟨_, hk⟩), View.readAt_unit arg5.view X5 (k0_off7_inb i k) (off7 i k) (inL ⟨_, hk⟩),
        View.readAt_unit arg11.view f (k0_off8_inb i k) (off8 i k) (inA ⟨_, hk⟩), hf]
      rfl
    · ipureintro
      rw [View.readAt_unit arg2.view X2 (k0_off5_inb i k) (off5 i k) (inQ ⟨_, hk⟩), View.readAt_unit arg3.view X3 (k0_off6_inb i k) (off6 i k) (inO ⟨_, hk⟩),
        View.readAt_unit arg4.view X4 (k0_off7_inb i k) (off7 i k) (inL ⟨_, hk⟩), View.readAt_unit arg5.view X5 (k0_off7_inb i k) (off7 i k) (inL ⟨_, hk⟩), hacc]
      rfl

set_option warn.classDefReducibility false in
/-- The remainder loop makes no trip: nothing is asked of it but what it finds. -/
def loop2 (E : Set ℕ) :
    LoopInv (M := 𝕄) Idealize.ShloMosaic.frame (wpE (defs₀ (F := F)) Variants.none (c : Thread nD τ) none) E
      (k0_t2_loop i).lb (k0_t2_loop i).ub (k0_t2_loop i).st (k0_t2_ok i) init
      (k0_t2_body (F := F) i arg2 harg2 arg3 harg3 arg4 harg4 arg5 harg5 arg6 harg6 arg7 harg7 arg8 harg8 arg9 harg9 arg10 harg10 arg11 harg11 v4 v6) where
  inv _ acc := iprop(⌜acc = init⌝)
  step k _ := (Nat.not_lt_zero _ (Nat.lt_of_lt_of_eq k.isLt (trips2 i))).elim
end Trip

end Flash

end
-- ==== Proof.Flash.Body.lean ====
/- The attention gradient: one grid point's body, with what it leaves in every buffer. -/
module

public import proofs.«01_k».proof.Proof.Flash.Loop

@[expose] public section

set_option maxRecDepth 8192

noncomputable section

namespace Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashIdeal Cert.FlashIdeal.Gen

variable {F : FTy → Type} [FloatOps F] [Named F]

local notation "𝕄" => MT nD τ sig Unit (Elt F) ℕ (UR sig nD τ) ℕ

section
variable (x2 : Vec F S1x8192x256 .bf16) (x3 : Vec F S8192x128 .bf16) (x4 x5 : Vec F S1x8x1x1024 .f32) (x6 : Vec F S1x1024x256 .bf16) (x7 : Vec F S1x1024x128 .bf16)

/-- The running sums after the key block's own tile, the one under the causal mask. -/
def first (j : Fin 8) (A : Vec F S8192x256 .f32) : Sums F :=
  ((k0_pay28 (BitVec.ofNat 32 j.val) (k0_pay19 x6) (k0_pay20 x7) (BitVec.ofNat 32 j.val) (k0_pay21 (F := F)) (k0_pay23 (tq x2 j)) (k0_pay24 (td x3 j)) (tl x4 j) (tl x5 j),
    k0_pay26 (BitVec.ofNat 32 j.val) (k0_pay19 x6) (BitVec.ofNat 32 j.val) (k0_pay22 (F := F)) (k0_pay23 (tq x2 j)) (k0_pay24 (td x3 j)) (tl x4 j)),
    VecWindow.put A ![1024 * j.val, 0] S1024x256.size
      (k0_pay29 (BitVec.ofNat 32 j.val) (k0_pay19 x6) (k0_pay20 x7) (BitVec.ofNat 32 j.val) (k0_pay23 (tq x2 j)) (k0_pay24 (td x3 j)) (tl x4 j) (tl x5 j) (ta A j)))

/-- The query gradient the point starts from: zero at a head's first key block. -/
def start (j : Fin 8) (A : Vec F S8192x256 .f32) : Vec F S8192x256 .f32 := if j.val = 0 then k0_pay18 (F := F) else A

/-- The running sums at the end of the point. -/
def point (j : Fin 8) (A : Vec F S8192x256 .f32) : Sums F :=
  tiles x2 x3 x4 x5 (k0_pay19 x6) (k0_pay20 x7) j.val (first x2 x3 x4 x5 x6 x7 j (start j A)) (7 - j.val)
end

/-- The tile's number as the kernel computes it. -/
abbrev word (i : grid0.Coords) : BitVec 32 :=
  let v7 : BitVec 32 := Scalar.muli (BitVec.ofNat 32 (i 1).val) 1024#32
  let v8 : BitVec 32 := Scalar.divsi v7 1024#32
  let v9 : BitVec 1 := Scalar.cmpi .sgt v7 0#32
  let v10 : BitVec 32 := Scalar.extui v9
  let v11 : BitVec 1 := Scalar.cmpi .slt v7 0#32
  let v12 : BitVec 32 := Scalar.extui v11
  let v13 : BitVec 32 := Scalar.subi v10 v12
  let v14 : BitVec 1 := Scalar.cmpi .sgt 1024#32 0#32
  let v15 : BitVec 32 := Scalar.extui v14
  let v16 : BitVec 1 := Scalar.cmpi .slt 1024#32 0#32
  let v17 : BitVec 32 := Scalar.extui v16
  let v18 : BitVec 32 := Scalar.subi v15 v17
  let v19 : BitVec 1 := Scalar.cmpi .ne v13 v18
  let v20 : BitVec 32 := Scalar.remsi v7 1024#32
  let v21 : BitVec 1 := Scalar.cmpi .ne v20 0#32
  let v22 : BitVec 1 := Scalar.andi v19 v21
  let v23 : BitVec 32 := Scalar.subi v8 1#32
  Scalar.select v22 v23 v8

theorem word_eq : ∀ i : grid0.Coords, word i = BitVec.ofNat 32 (i 1).val := by decide +kernel

/-- The two conditions of the body, as the kernel computes them. -/
abbrev atFirst (i : grid0.Coords) : Prop := Scalar.cmpi .ne (Scalar.extui (Scalar.cmpi .eq (BitVec.ofNat 32 (i 1).val) 0#32) : BitVec 32) 0#32 = 1#1
theorem atFirst_iff : ∀ i : grid0.Coords, atFirst i ↔ (i 1).val = 0 := by decide +kernel
theorem atLast_iff : ∀ i : grid0.Coords, k0_cond2 i = 1#1 ↔ (i 1).val = 7 := by decide +kernel

section Body
variable (c : Dev nD) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole) (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
  (x2 : Vec F S1x8192x256 .bf16) (x3 : Vec F S8192x128 .bf16) (x4 x5 : Vec F S1x8x1x1024 .f32) (x6 : Vec F S1x1024x256 .bf16) (x7 : Vec F S1x1024x128 .bf16)
  (d8 : Vec F S1x8192x256 .bf16) (d9 : Vec F S1x1024x256 .bf16) (d10 : Vec F S1x1024x128 .bf16) (A : Vec F S8192x256 .f32)

/-- The buffers the body is handed, the three it stores into and the running query gradient at the contents named. -/
abbrev held (y8 : Vec F S1x8192x256 .bf16) (y9 : Vec F S1x1024x256 .bf16) (y10 : Vec F S1x1024x128 .bf16) (y11 : Vec F S8192x256 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5
    ∗ owns (c : Thread nD τ) arg6 fullShare x6 ∗ owns (c : Thread nD τ) arg7 fullShare x7 ∗ owns (c : Thread nD τ) arg8 fullShare y8
    ∗ owns (c : Thread nD τ) arg9 fullShare y9 ∗ owns (c : Thread nD τ) arg10 fullShare y10 ∗ owns (c : Thread nD τ) arg11 fullShare y11)

/-- What the loop leaves, from what it finds: the sums the point's own tile left. -/
theorem sums_point {v4 : FVec F S1024x256 .bf16} {v6 : FVec F S1024x128 .bf16} {X2 : BufTy.Contents (Elt F) arg2.view.ty} {X3 : BufTy.Contents (Elt F) arg3.view.ty} {X4 : BufTy.Contents (Elt F) arg4.view.ty} {X5 : BufTy.Contents (Elt F) arg5.view.ty}
    {G : BufTy.Contents (Elt F) arg11.view.ty} {init : FVec F S1024x256 .f32 × FVec F S1024x128 .f32}
    (h2 : arg2.view.read (Elt F) X2 = x2) (h3 : arg3.view.read (Elt F) X3 = x3) (h4 : arg4.view.read (Elt F) X4 = x4) (h5 : arg5.view.read (Elt F) X5 = x5)
    (h6 : v4 = k0_pay19 x6) (h7 : v6 = k0_pay20 x7) (hi : init = (first x2 x3 x4 x5 x6 x7 (i 1) (start (i 1) A)).1) (hG : arg11.view.read (Elt F) G = (first x2 x3 x4 x5 x6 x7 (i 1) (start (i 1) A)).2) :
    sumsAt i arg2 arg3 arg4 arg5 arg11 v4 v6 X2 X3 X4 X5 G init (Scf.trips (k0_t1_loop i).lb (k0_t1_loop i).ub (k0_t1_loop i).st) = point x2 x3 x4 x5 x6 x7 (i 1) A := by
  have ht : Scf.trips (k0_t1_loop i).lb (k0_t1_loop i).ub (k0_t1_loop i).st = 7 - (i 1).val := trips1 i
  unfold sumsAt point
  rw [ht, h2, h3, h4, h5, h6, h7, hi, hG]

set_option maxHeartbeats 4000000 in
/-- A middle point's body. -/
theorem body_mid (h1 : ¬ atFirst i) (h2 : ¬ k0_cond2 i = 1#1) (E : Set ℕ) :
    held c arg2 arg3 arg4 arg5 arg6 arg7 arg8 arg9 arg10 arg11 x2 x3 x4 x5 x6 x7 d8 d9 d10 A
    ⊢ wp frame (wpE (defs₀ (F := F)) Variants.none (c : Thread nD τ) none) E (cc0_flash_bwd i arg2 harg2 arg3 harg3 arg4 harg4 arg5 harg5 arg6 harg6 arg7 harg7 arg8 harg8 arg9 harg9 arg10 harg10 arg11 harg11)
      (fun _ => held c arg2 arg3 arg4 arg5 arg6 arg7 arg8 arg9 arg10 arg11 x2 x3 x4 x5 x6 x7 d8
        (k0_pay15 (point x2 x3 x4 x5 x6 x7 (i 1) A).1.1) (k0_pay16 (point x2 x3 x4 x5 x6 x7 (i 1) A).1.2) (point x2 x3 x4 x5 x6 x7 (i 1) A).2) := by
  simp only [cc0_flash_bwd_eq_skeleton]; unfold cc0_flash_bwd_skel
  simp only [k0_part2_eq_skeleton, k0_part1_eq_skeleton]
  unfold held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, ⟨%f10, -, H10⟩, ⟨%f11, %hf11, H11⟩⟩
  sl_exec (disch := first | sl_exact h1 | sl_exact h2)
  sl_for (invAt c i arg2 arg3 arg4 arg5 arg11 (body_mid.sl.r c arg6 f6) (body_mid.sl.r_1 c arg7 f7) f2 f3 f4 f5 ?G ?init) $$ [H2 H3 H4 H5 H11]
  case region => intro k a; exact (loop1 c i arg2 harg2 arg3 harg3 arg4 harg4 arg5 harg5 arg6 harg6 arg7 harg7 arg8 harg8 arg9 harg9 arg10 harg10 arg11 harg11 _ _ f2 f3 f4 f5 _ _ E).step k a
  · unfold invAt
    isplitl [H2]; · iexact H2
    isplitl [H3]; · iexact H3
    isplitl [H4]; · iexact H4
    isplitl [H5]; · iexact H5
    isplitl [H11]
    · iexists _
      isplitl [H11]; · iexact H11
      ipureintro
      exact (rfl : arg11.view.read (Elt F) _ = arg11.view.read (Elt F) _)
    · ipureintro; rfl
  iintro %acc ⟨H2, H3, H4, H5, ⟨%f, H11, %hf⟩, %hacc⟩
  sl_for (fun _ a => iprop(⌜a = acc⌝)) $$ []
  case region => intro k a; exact (Nat.not_lt_zero _ (Nat.lt_of_lt_of_eq k.isLt (trips2 i))).elim
  · ipureintro; rfl
  iintro %acc2 %hacc2
  sl_exec (disch := first | sl_exact h1 | sl_exact h2)
  sl_step
  have hw : body_mid.sl.v24 i = BitVec.ofNat 32 (i 1).val := word_eq i
  have start0 : start (i 1) A = A := if_neg fun h => h1 ((atFirst_iff i).2 h)
  generalize hS : sumsAt i arg2 arg3 arg4 arg5 arg11 _ _ f2 f3 f4 f5 _ _ _ = S at hf hacc
  rw [sums_point i arg2 arg3 arg4 arg5 arg11 x2 x3 x4 x5 x6 x7 A hf2 hf3 hf4 hf5 ?r4 ?r6 ?ri ?rG] at hS
  case r4 => unfold body_mid.sl.r; rw [View.readAt_full, hf6]
  case r6 => unfold body_mid.sl.r_1; rw [View.readAt_full, hf7]
  case ri =>
    rw [start0]
    unfold body_mid.sl.r_5 body_mid.sl.r_4 body_mid.sl.r_3 body_mid.sl.r_2 body_mid.sl.r_1 body_mid.sl.r
    rw [hw, View.readAt_unit arg2.view f2 (k0_off1_inb i) (off1 i) (inQ (i 1)), View.readAt_unit arg3.view f3 (k0_off2_inb i) (off2 i) (inO (i 1)),
      View.readAt_unit arg4.view f4 (k0_off3_inb i) (off3 i) (inL (i 1)), View.readAt_unit arg5.view f5 (k0_off3_inb i) (off3 i) (inL (i 1)), View.readAt_full, View.readAt_full, hf2, hf3, hf4, hf5, hf6, hf7]
    rfl
  case rG =>
    rw [start0]
    unfold body_mid.sl.r_3 body_mid.sl.r_2 body_mid.sl.r_1 body_mid.sl.r
    rw [View.read_writes_cons_put arg11.view f11 (k0_off4_inb i) _ [] (off4 i), View.writes_nil, hf11, hw, View.readAt_unit arg2.view f2 (k0_off1_inb i) (off1 i) (inQ (i 1)), View.readAt_unit arg3.view f3 (k0_off2_inb i) (off2 i) (inO (i 1)),
      View.readAt_unit arg4.view f4 (k0_off3_inb i) (off3 i) (inL (i 1)), View.readAt_unit arg5.view f5 (k0_off3_inb i) (off3 i) (inL (i 1)), View.readAt_unit arg11.view f11 (k0_off4_inb i) (off4 i) (inA (i 1)), View.readAt_full, View.readAt_full, hf2, hf3, hf4, hf5, hf6, hf7, hf11]
    rfl
  subst hS
  isplitl [H2]; · iexists f2; isplitr [H2]; · ipureintro; exact hf2
                  iexact H2
  isplitl [H3]; · iexists f3; isplitr [H3]; · ipureintro; exact hf3
                  iexact H3
  isplitl [H4]; · iexists f4; isplitr [H4]; · ipureintro; exact hf4
                  iexact H4
  isplitl [H5]; · iexists f5; isplitr [H5]; · ipureintro; exact hf5
                  iexact H5
  isplitl [H6]; · iexists f6; isplitr [H6]; · ipureintro; exact hf6
                  iexact H6
  isplitl [H7]; · iexists f7; isplitr [H7]; · ipureintro; exact hf7
                  iexact H7
  isplitl [H8]; · iexists f8; isplitr [H8]; · ipureintro; exact hf8
                  iexact H8
  isplitl [H9]; · iexists _; isplitr [H9]; rotate_left; · iexact H9
                  ipureintro; rw [View.read_writes_full, hacc2, hacc]
  isplitl [H10]; · iexists _; isplitr [H10]; rotate_left; · iexact H10
                   ipureintro; rw [View.read_writes_full, hacc2, hacc]
  iexists f; isplitr [H11]; · ipureintro; exact hf
  iexact H11
end Body

end Flash

end
-- ==== Proof.Flash.Body2.lean ====
/- The attention gradient: one grid point's body, with what it leaves in every buffer. -/
module

public import proofs.«01_k».proof.Proof.Flash.Body

@[expose] public section

set_option maxRecDepth 8192

noncomputable section

namespace Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FlashIdeal Cert.FlashIdeal.Gen

variable {F : FTy → Type} [FloatOps F] [Named F]

local notation "𝕄" => MT nD τ sig Unit (Elt F) ℕ (UR sig nD τ) ℕ

section Body
variable (c : Dev nD) (i : grid0.Coords) (arg2 : Memref sig .tc .vmem S1x8192x256 .bf16) (harg2 : arg2.IsWhole) (arg3 : Memref sig .tc .vmem S8192x128 .bf16) (harg3 : arg3.IsWhole) (arg4 : Memref sig .tc .vmem S1x8x1x1024 .f32) (harg4 : arg4.IsWhole) (arg5 : Memref sig .tc .vmem S1x8x1x1024 .f32) (harg5 : arg5.IsWhole) (arg6 : Memref sig .tc .vmem S1x1024x256 .bf16) (harg6 : arg6.IsWhole) (arg7 : Memref sig .tc .vmem S1x1024x128 .bf16) (harg7 : arg7.IsWhole) (arg8 : Memref sig .tc .vmem S1x8192x256 .bf16) (harg8 : arg8.IsWhole) (arg9 : Memref sig .tc .vmem S1x1024x256 .bf16) (harg9 : arg9.IsWhole) (arg10 : Memref sig .tc .vmem S1x1024x128 .bf16) (harg10 : arg10.IsWhole) (arg11 : Memref sig .tc .vmem S8192x256 .f32) (harg11 : arg11.IsWhole)
  (x2 : Vec F S1x8192x256 .bf16) (x3 : Vec F S8192x128 .bf16) (x4 x5 : Vec F S1x8x1x1024 .f32) (x6 : Vec F S1x1024x256 .bf16) (x7 : Vec F S1x1024x128 .bf16)
  (d8 : Vec F S1x8192x256 .bf16) (d9 : Vec F S1x1024x256 .bf16) (d10 : Vec F S1x1024x128 .bf16) (A : Vec F S8192x256 .f32)

set_option maxHeartbeats 4000000 in
/-- The body at a head's first key block: the running query gradient starts at zero. -/
theorem body_first (h1 : atFirst i) (h2 : ¬ k0_cond2 i = 1#1) (E : Set ℕ) :
    held c arg2 arg3 arg4 arg5 arg6 arg7 arg8 arg9 arg10 arg11 x2 x3 x4 x5 x6 x7 d8 d9 d10 A
    ⊢ wp frame (wpE (defs₀ (F := F)) Variants.none (c : Thread nD τ) none) E (cc0_flash_bwd i arg2 harg2 arg3 harg3 arg4 harg4 arg5 harg5 arg6 harg6 arg7 harg7 arg8 harg8 arg9 harg9 arg10 harg10 arg11 harg11)
      (fun _ => held c arg2 arg3 arg4 arg5 arg6 arg7 arg8 arg9 arg10 arg11 x2 x3 x4 x5 x6 x7 d8
        (k0_pay15 (point x2 x3 x4 x5 x6 x7 (i 1) A).1.1) (k0_pay16 (point x2 x3 x4 x5 x6 x7 (i 1) A).1.2) (point x2 x3 x4 x5 x6 x7 (i 1) A).2) := by
  simp only [cc0_flash_bwd_eq_skeleton]; unfold cc0_flash_bwd_skel
  simp only [k0_part2_eq_skeleton, k0_part1_eq_skeleton]
  unfold held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, ⟨%f10, -, H10⟩, ⟨%f11, %hf11, H11⟩⟩
  sl_exec (disch := first | sl_exact h1 | sl_exact h2)
  sl_for (invAt c i arg2 arg3 arg4 arg5 arg11 (body_first.sl.r c arg6 f6) (body_first.sl.r_1 c arg7 f7) f2 f3 f4 f5 ?G ?init) $$ [H2 H3 H4 H5 H11]
  case region => intro k a; exact (loop1 c i arg2 harg2 arg3 harg3 arg4 harg4 arg5 harg5 arg6 harg6 arg7 harg7 arg8 harg8 arg9 harg9 arg10 harg10 arg11 harg11 _ _ f2 f3 f4 f5 _ _ E).step k a
  · unfold invAt
    isplitl [H2]; · iexact H2
    isplitl [H3]; · iexact H3
    isplitl [H4]; · iexact H4
    isplitl [H5]; · iexact H5
    isplitl [H11]
    · iexists _
      isplitl [H11]; · iexact H11
      ipureintro
      exact (rfl : arg11.view.read (Elt F) _ = arg11.view.read (Elt F) _)
    · ipureintro; rfl
  iintro %acc ⟨H2, H3, H4, H5, ⟨%f, H11, %hf⟩, %hacc⟩
  sl_for (fun _ a => iprop(⌜a = acc⌝)) $$ []
  case region => intro k a; exact (Nat.not_lt_zero _ (Nat.lt_of_lt_of_eq k.isLt (trips2 i))).elim
  · ipureintro; rfl
  iintro %acc2 %hacc2
  sl_exec (disch := first | sl_exact h1 | sl_exact h2)
  sl_step
  have hw : body_first.sl.v24 i = BitVec.ofNat 32 (i 1).val := word_eq i
  have start0 : start (i 1) A = k0_pay18 (F := F) := if_pos ((atFirst_iff i).1 h1)
  generalize hS : sumsAt i arg2 arg3 arg4 arg5 arg11 _ _ f2 f3 f4 f5 _ _ _ = S at hf hacc
  rw [sums_point i arg2 arg3 arg4 arg5 arg11 x2 x3 x4 x5 x6 x7 A hf2 hf3 hf4 hf5 ?r4 ?r6 ?ri ?rG] at hS
  case r4 => unfold body_first.sl.r; rw [View.readAt_full, hf6]
  case r6 => unfold body_first.sl.r_1; rw [View.readAt_full, hf7]
  case ri =>
    rw [start0]
    unfold body_first.sl.r_5 body_first.sl.r_4 body_first.sl.r_3 body_first.sl.r_2 body_first.sl.r_1 body_first.sl.r
    rw [hw, View.readAt_unit arg2.view f2 (k0_off1_inb i) (off1 i) (inQ (i 1)), View.readAt_unit arg3.view f3 (k0_off2_inb i) (off2 i) (inO (i 1)),
      View.readAt_unit arg4.view f4 (k0_off3_inb i) (off3 i) (inL (i 1)), View.readAt_unit arg5.view f5 (k0_off3_inb i) (off3 i) (inL (i 1)), View.readAt_full, View.readAt_full, hf2, hf3, hf4, hf5, hf6, hf7]
    rfl
  case rG =>
    rw [start0]
    unfold body_first.sl.r_3 body_first.sl.r_2 body_first.sl.r_1 body_first.sl.r body_first.sl.H11_1
    rw [View.read_writes_cons_put arg11.view _ (k0_off4_inb i) _ _ (off4 i), View.read_writes_full, hw, View.readAt_unit arg2.view f2 (k0_off1_inb i) (off1 i) (inQ (i 1)), View.readAt_unit arg3.view f3 (k0_off2_inb i) (off2 i) (inO (i 1)),
      View.readAt_unit arg4.view f4 (k0_off3_inb i) (off3 i) (inL (i 1)), View.readAt_unit arg5.view f5 (k0_off3_inb i) (off3 i) (inL (i 1)), View.readAt_unit arg11.view _ (k0_off4_inb i) (off4 i) (inA (i 1)), View.read_writes_full, View.readAt_full, View.readAt_full, hf2, hf3, hf4, hf5, hf6, hf7]
    rfl
  subst hS
  isplitl [H2]; · iexists f2; isplitr [H2]; · ipureintro; exact hf2
                  iexact H2
  isplitl [H3]; · iexists f3; isplitr [H3]; · ipureintro; exact hf3
                  iexact H3
  isplitl [H4]; · iexists f4; isplitr [H4]; · ipureintro; exact hf4
                  iexact H4
  isplitl [H5]; · iexists f5; isplitr [H5]; · ipureintro; exact hf5
                  iexact H5
  isplitl [H6]; · iexists f6; isplitr [H6]; · ipureintro; exact hf6
                  iexact H6
  isplitl [H7]; · iexists f7; isplitr [H7]; · ipureintro; exact hf7
                  iexact H7
  isplitl [H8]; · iexists f8; isplitr [H8]; · ipureintro; exact hf8
                  iexact H8
  isplitl [H9]; · iexists _; isplitr [H9]; rotate_left; · iexact H9
                  ipureintro; rw [View.read_writes_full, hacc2, hacc]
  isplitl [H10]; · iexists _; isplitr [H10]; rotate_left; · iexact H10
                   ipureintro; rw [View.read_writes_full, hacc2, hacc]
  iexists f; isplitr [H11]; · ipureintro; exact hf
  iexact H11

set_option maxHeartbeats 4000000 in
/-- The body at a head's last key block: the query gradient is stored. -/
theorem body_last (h1 : ¬ atFirst i) (h2 : k0_cond2 i = 1#1) (E : Set ℕ) :
    held c arg2 arg3 arg4 arg5 arg6 arg7 arg8 arg9 arg10 arg11 x2 x3 x4 x5 x6 x7 d8 d9 d10 A
    ⊢ wp frame (wpE (defs₀ (F := F)) Variants.none (c : Thread nD τ) none) E (cc0_flash_bwd i arg2 harg2 arg3 harg3 arg4 harg4 arg5 harg5 arg6 harg6 arg7 harg7 arg8 harg8 arg9 harg9 arg10 harg10 arg11 harg11)
      (fun _ => held c arg2 arg3 arg4 arg5 arg6 arg7 arg8 arg9 arg10 arg11 x2 x3 x4 x5 x6 x7 (k0_pay17 (point x2 x3 x4 x5 x6 x7 (i 1) A).2)
        (k0_pay15 (point x2 x3 x4 x5 x6 x7 (i 1) A).1.1) (k0_pay16 (point x2 x3 x4 x5 x6 x7 (i 1) A).1.2) (point x2 x3 x4 x5 x6 x7 (i 1) A).2) := by
  simp only [cc0_flash_bwd_eq_skeleton]; unfold cc0_flash_bwd_skel
  simp only [k0_part2_eq_skeleton, k0_part1_eq_skeleton]
  unfold held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, ⟨%f10, -, H10⟩, ⟨%f11, %hf11, H11⟩⟩
  sl_exec (disch := first | sl_exact h1 | sl_exact h2)
  sl_for (invAt c i arg2 arg3 arg4 arg5 arg11 (body_last.sl.r c arg6 f6) (body_last.sl.r_1 c arg7 f7) f2 f3 f4 f5 ?G ?init) $$ [H2 H3 H4 H5 H11]
  case region => intro k a; exact (loop1 c i arg2 harg2 arg3 harg3 arg4 harg4 arg5 harg5 arg6 harg6 arg7 harg7 arg8 harg8 arg9 harg9 arg10 harg10 arg11 harg11 _ _ f2 f3 f4 f5 _ _ E).step k a
  · unfold invAt
    isplitl [H2]; · iexact H2
    isplitl [H3]; · iexact H3
    isplitl [H4]; · iexact H4
    isplitl [H5]; · iexact H5
    isplitl [H11]
    · iexists _
      isplitl [H11]; · iexact H11
      ipureintro
      exact (rfl : arg11.view.read (Elt F) _ = arg11.view.read (Elt F) _)
    · ipureintro; rfl
  iintro %acc ⟨H2, H3, H4, H5, ⟨%f, H11, %hf⟩, %hacc⟩
  sl_for (fun _ a => iprop(⌜a = acc⌝)) $$ []
  case region => intro k a; exact (Nat.not_lt_zero _ (Nat.lt_of_lt_of_eq k.isLt (trips2 i))).elim
  · ipureintro; rfl
  iintro %acc2 %hacc2
  sl_exec (disch := first | sl_exact h1 | sl_exact h2)
  sl_step
  have hw : body_last.sl.v24 i = BitVec.ofNat 32 (i 1).val := word_eq i
  have start0 : start (i 1) A = A := if_neg fun h => h1 ((atFirst_iff i).2 h)
  generalize hS : sumsAt i arg2 arg3 arg4 arg5 arg11 _ _ f2 f3 f4 f5 _ _ _ = S at hf hacc
  rw [sums_point i arg2 arg3 arg4 arg5 arg11 x2 x3 x4 x5 x6 x7 A hf2 hf3 hf4 hf5 ?r4 ?r6 ?ri ?rG] at hS
  case r4 => unfold body_last.sl.r; rw [View.readAt_full, hf6]
  case r6 => unfold body_last.sl.r_1; rw [View.readAt_full, hf7]
  case ri =>
    rw [start0]
    unfold body_last.sl.r_5 body_last.sl.r_4 body_last.sl.r_3 body_last.sl.r_2 body_last.sl.r_1 body_last.sl.r
    rw [hw, View.readAt_unit arg2.view f2 (k0_off1_inb i) (off1 i) (inQ (i 1)), View.readAt_unit arg3.view f3 (k0_off2_inb i) (off2 i) (inO (i 1)),
      View.readAt_unit arg4.view f4 (k0_off3_inb i) (off3 i) (inL (i 1)), View.readAt_unit arg5.view f5 (k0_off3_inb i) (off3 i) (inL (i 1)), View.readAt_full, View.readAt_full, hf2, hf3, hf4, hf5, hf6, hf7]
    rfl
  case rG =>
    rw [start0]
    unfold body_last.sl.r_3 body_last.sl.r_2 body_last.sl.r_1 body_last.sl.r
    rw [View.read_writes_cons_put arg11.view f11 (k0_off4_inb i) _ [] (off4 i), View.writes_nil, hf11, hw, View.readAt_unit arg2.view f2 (k0_off1_inb i) (off1 i) (inQ (i 1)), View.readAt_unit arg3.view f3 (k0_off2_inb i) (off2 i) (inO (i 1)),
      View.readAt_unit arg4.view f4 (k0_off3_inb i) (off3 i) (inL (i 1)), View.readAt_unit arg5.view f5 (k0_off3_inb i) (off3 i) (inL (i 1)), View.readAt_unit arg11.view f11 (k0_off4_inb i) (off4 i) (inA (i 1)), View.readAt_full, View.readAt_full, hf2, hf3, hf4, hf5, hf6, hf7, hf11]
    rfl
  subst hS
  isplitl [H2]; · iexists f2; isplitr [H2]; · ipureintro; exact hf2
                  iexact H2
  isplitl [H3]; · iexists f3; isplitr [H3]; · ipureintro; exact hf3
                  iexact H3
  isplitl [H4]; · iexists f4; isplitr [H4]; · ipureintro; exact hf4
                  iexact H4
  isplitl [H5]; · iexists f5; isplitr [H5]; · ipureintro; exact hf5
                  iexact H5
  isplitl [H6]; · iexists f6; isplitr [H6]; · ipureintro; exact hf6
                  iexact H6
  isplitl [H7]; · iexists f7; isplitr [H7]; · ipureintro; exact hf7
                  iexact H7
  isplitl [H8]; · iexists _; isplitr [H8]; rotate_left; · iexact H8
                  ipureintro; rw [View.read_writes_full, View.readAt_full, hf]
  isplitl [H9]; · iexists _; isplitr [H9]; rotate_left; · iexact H9
                  ipureintro; rw [View.read_writes_full, hacc2, hacc]
  isplitl [H10]; · iexists _; isplitr [H10]; rotate_left; · iexact H10
                   ipureintro; rw [View.read_writes_full, hacc2, hacc]
  iexists f; isplitr [H11]; · ipureintro; exact hf
  iexact H11
/-- The body at any point. -/
theorem body (E : Set ℕ) :
    held c arg2 arg3 arg4 arg5 arg6 arg7 arg8 arg9 arg10 arg11 x2 x3 x4 x5 x6 x7 d8 d9 d10 A
    ⊢ wp frame (wpE (defs₀ (F := F)) Variants.none (c : Thread nD τ) none) E (cc0_flash_bwd i arg2 harg2 arg3 harg3 arg4 harg4 arg5 harg5 arg6 harg6 arg7 harg7 arg8 harg8 arg9 harg9 arg10 harg10 arg11 harg11)
      (fun _ => held c arg2 arg3 arg4 arg5 arg6 arg7 arg8 arg9 arg10 arg11 x2 x3 x4 x5 x6 x7 (if (i 1).val = 7 then k0_pay17 (point x2 x3 x4 x5 x6 x7 (i 1) A).2 else d8)
        (k0_pay15 (point x2 x3 x4 x5 x6 x7 (i 1) A).1.1) (k0_pay16 (point x2 x3 x4 x5 x6 x7 (i 1) A).1.2) (point x2 x3 x4 x5 x6 x7 (i 1) A).2) := by
  by_cases h2 : (i 1).val = 7
  · rw [if_pos h2]
    exact body_last c i arg2 harg2 arg3 harg3 arg4 harg4 arg5 harg5 arg6 harg6 arg7 harg7 arg8 harg8 arg9 harg9 arg10 harg10 arg11 harg11 x2 x3 x4 x5 x6 x7 d8 d9 d10 A (fun h => by have := (atFirst_iff i).1 h; omega) ((atLast_iff i).2 h2) E
  · rw [if_neg h2]
    by_cases h1 : (i 1).val = 0
    · exact body_first c i arg2 harg2 arg3 harg3 arg4 harg4 arg5 harg5 arg6 harg6 arg7 harg7 arg8 harg8 arg9 harg9 arg10 harg10 arg11 harg11 x2 x3 x4 x5 x6 x7 d8 d9 d10 A ((atFirst_iff i).2 h1) (fun h => h2 ((atLast_iff i).1 h)) E
    · exact body_mid c i arg2 harg2 arg3 harg3 arg4 harg4 arg5 harg5 arg6 harg6 arg7 harg7 arg8 harg8 arg9 harg9 arg10 harg10 arg11 harg11 x2 x3 x4 x5 x6 x7 d8 d9 d10 A (fun h => h1 ((atFirst_iff i).1 h)) (fun h => h2 ((atLast_iff i).1 h)) E
end Body

end Flash

end
-- ==== Proof.Flash.Frame.lean ====
/- The attention gradient: the frame, from the body's triple. -/
module

public import proofs.«01_k».proof.Proof.Flash.Body2
public import Idealize.ShloMosaic.Lib.Claim

@[expose] public section

set_option maxRecDepth 8192

noncomputable section

namespace Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashIdeal Cert.FlashIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The key block's number at a point. -/
theorem coord1 : ∀ t : Fin cfg0.N, (grid0.coords t 1).val = t.val % 8 := by decide +kernel
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem idle_6 : ∀ t : Fin cfg0.N, ¬ t.val % 8 = 7 → cfg0.idle 6 (grid0.coords t) = true := by decide +kernel
theorem live_6 : ∀ t : Fin cfg0.N, t.val % 8 = 7 → cfg0.idle 6 (grid0.coords t) = false := by decide +kernel
theorem noFlush_6 : ∀ t : Fin cfg0.N, ¬ t.val % 8 = 7 → (cfg0.win 6).flush t = false := by decide +kernel

/-- The running sums at the end of point `t`, from the running query gradient it finds. -/
def pointAt (c : Dev nD) (t : Fin cfg0.N) (A : Vec F S8192x256 .f32) : Sums F :=
  point (iblk m c 0 t) (iblk m c 1 t) (iblk m c 2 t) (iblk m c 3 t) (iblk m c 4 t) (iblk m c 5 t) (grid0.coords t 1) A

/-- A head's first point does not read the running query gradient it finds. -/
theorem pointAt_first (c : Dev nD) (t : Fin cfg0.N) (h : t.val % 8 = 0) (A A' : Vec F S8192x256 .f32) : pointAt m c t A = pointAt m c t A' := by
  have e : ∀ B : Vec F S8192x256 .f32, start (grid0.coords t 1) B = k0_pay18 (F := F) := fun B => if_pos ((coord1 t).trans h)
  unfold pointAt point
  rw [e A, e A']

/-- The running query gradient before point `n`. -/
def dqAt (c : Dev nD) : (n : ℕ) → n ≤ cfg0.N → Vec F S8192x256 .f32
  | 0, _ => k0_pay18 (F := F)
  | n + 1, h => (pointAt m c ⟨n, h⟩ (dqAt c n (Nat.le_of_succ_le h))).2

/-- The running sums at the end of point `t`. -/
def sumsOf (c : Dev nD) (t : Fin cfg0.N) : Sums F := pointAt m c t (dqAt m c t.val (Nat.le_of_lt t.isLt))

/-- The scratch that holds the running query gradient. -/
abbrev scr : Memref sig .tc .vmem S8192x256 .f32 := Memref.whole cc0_scratch0

theorem given_eq (c : Dev nD) : (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- What holds between points: before the first, what the launch hands over; later, the scratch at the running query gradient. -/
def between (c : Dev nD) : (n : ℕ) → n ≤ cfg0.N → sProp 𝕄
  | 0, _ => Pipeline.ΦA spec0 c
  | n + 1, h => iprop(owns (c : Thread nD τ) scr fullShare (dqAt m c (n + 1) h) ∗ (∃ r, prngReg c r))

/-- Before any point the scratch holds something from which the point computes the sums named. -/
theorem between_elim (c : Dev nD) (t : Fin cfg0.N) :
    between m c t.val (Nat.le_of_lt t.isLt) ⊢ iprop(∃ A, owns (c : Thread nD τ) scr fullShare A ∗ ⌜pointAt m c t A = sumsOf m c t⌝ ∗ (∃ r, prngReg c r)) := by
  obtain ⟨n, hn⟩ := t
  cases n with
  | zero =>
    rw [show between m c 0 (Nat.le_of_lt hn) = Pipeline.ΦA spec0 c from rfl, given_eq]
    iintro ⟨⟨%A, HA⟩, Hg⟩
    iexists A
    isplitl [HA]; · iexact HA
    isplitr [Hg]; · ipureintro; exact pointAt_first m c ⟨0, hn⟩ rfl _ _
    iexact Hg
  | succ n =>
    rw [show between m c (n + 1) (Nat.le_of_lt hn) = iprop(owns (c : Thread nD τ) scr fullShare (dqAt m c (n + 1) (Nat.le_of_lt hn)) ∗ (∃ r, prngReg c r)) from rfl]
    iintro ⟨HA, Hg⟩
    iexists _
    isplitl [HA]; · iexact HA
    isplitr [Hg]; · ipureintro; rfl
    iexact Hg

/-- The proof data: what every window's buffer holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay17 (sumsOf m c t).2
    | ⟨7, _⟩ => k0_pay15 (sumsOf m c t).1.1
    | ⟨8, _⟩ => k0_pay16 (sumsOf m c t).1.2
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay17 (sumsOf m c t).2 := by dsimp only [dats]
theorem after_7 (c : Dev nD) (t : Fin cfg0.N) : (dats m 0 c).after 7 t = k0_pay15 (sumsOf m c t).1.1 := by dsimp only [dats]
theorem after_8 (c : Dev nD) (t : Fin cfg0.N) : (dats m 0 c).after 8 t = k0_pay16 (sumsOf m c t).1.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem leaves_0 (c : Dev nD) (t : Fin cfg0.N) : (dats m 0 c).leavesExact 0 t = owns (c : Thread nD τ) (win0_0.stage (cfg0.slots t 0)) fullShare ((dats m 0 c).after 0 t) := by
  unfold Dat.leavesExact; rw [live_0 t]
theorem leaves_1 (c : Dev nD) (t : Fin cfg0.N) : (dats m 0 c).leavesExact 1 t = owns (c : Thread nD τ) (win0_1.stage (cfg0.slots t 1)) fullShare ((dats m 0 c).after 1 t) := by
  unfold Dat.leavesExact; rw [live_1 t]
theorem leaves_2 (c : Dev nD) (t : Fin cfg0.N) : (dats m 0 c).leavesExact 2 t = owns (c : Thread nD τ) (win0_2.stage (cfg0.slots t 2)) fullShare ((dats m 0 c).after 2 t) := by
  unfold Dat.leavesExact; rw [live_2 t]
theorem leaves_3 (c : Dev nD) (t : Fin cfg0.N) : (dats m 0 c).leavesExact 3 t = owns (c : Thread nD τ) (win0_3.stage (cfg0.slots t 3)) fullShare ((dats m 0 c).after 3 t) := by
  unfold Dat.leavesExact; rw [live_3 t]
theorem leaves_4 (c : Dev nD) (t : Fin cfg0.N) : (dats m 0 c).leavesExact 4 t = owns (c : Thread nD τ) (win0_4.stage (cfg0.slots t 4)) fullShare ((dats m 0 c).after 4 t) := by
  unfold Dat.leavesExact; rw [live_4 t]
theorem leaves_5 (c : Dev nD) (t : Fin cfg0.N) : (dats m 0 c).leavesExact 5 t = owns (c : Thread nD τ) (win0_5.stage (cfg0.slots t 5)) fullShare ((dats m 0 c).after 5 t) := by
  unfold Dat.leavesExact; rw [live_5 t]
theorem leaves_7 (c : Dev nD) (t : Fin cfg0.N) : (dats m 0 c).leavesExact 7 t = owns (c : Thread nD τ) (win0_7.stage (cfg0.slots t 7)) fullShare ((dats m 0 c).after 7 t) := by
  unfold Dat.leavesExact; rw [live_7 t]
theorem leaves_8 (c : Dev nD) (t : Fin cfg0.N) : (dats m 0 c).leavesExact 8 t = owns (c : Thread nD τ) (win0_8.stage (cfg0.slots t 8)) fullShare ((dats m 0 c).after 8 t) := by
  unfold Dat.leavesExact; rw [live_8 t]
theorem leaves_6 (c : Dev nD) (t : Fin cfg0.N) (h : t.val % 8 = 7) : (dats m 0 c).leavesExact 6 t = owns (c : Thread nD τ) (win0_6.stage (cfg0.slots t 6)) fullShare ((dats m 0 c).after 6 t) := by
  unfold Dat.leavesExact; rw [live_6 t h]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body's triple at any point of the pipeline. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, leaves_0, leaves_1, leaves_2, leaves_3, leaves_4, leaves_5, leaves_7, leaves_8,
    after_0, after_1, after_2, after_3, after_4, after_5, after_7, after_8]
  rw [show (dats m 0 c).owesAt () t.succ = (dats m 0 c).owesAt () t.castSucc from rfl,
    show (dats m 0 c).Φ t.succ = iprop(owns (c : Thread nD τ) scr fullShare (sumsOf m c t).2 ∗ (∃ r, prngReg c r)) from rfl,
    show (dats m 0 c).Φ t.castSucc = between m c t.val (Nat.le_of_lt t.isLt) from by dsimp only [dats]; exact Pipeline.Dat.Φ_castSucc (between m c) t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HP := (between_elim m c t) $$ HP
  icases HP with ⟨%A, HA, %hA, Hg⟩
  iapply (wp_wand_r Idealize.ShloMosaic.frame (wpE (defs₀ (F := F)) Variants.none (c : Thread nD τ) none) Set.univ (Q := fun _ => held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) scr (iblk m c 0 t) (iblk m c 1 t) (iblk m c 2 t) (iblk m c 3 t) (iblk m c 4 t) (iblk m c 5 t)
    (if (grid0.coords t 1).val = 7 then k0_pay17 (pointAt m c t A).2 else (dats m 0 c).before 6 t d6) (k0_pay15 (pointAt m c t A).1.1) (k0_pay16 (pointAt m c t A).1.2) (pointAt m c t A).2))
  isplitl [H0 H1 H2 H3 H4 H5 H6 H7 H8 HA]
  · iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) scr (Memref.isWhole_whole _) (iblk m c 0 t) (iblk m c 1 t) (iblk m c 2 t) (iblk m c 3 t) (iblk m c 4 t) (iblk m c 5 t) ((dats m 0 c).before 6 t d6) ((dats m 0 c).before 7 t d7) ((dats m 0 c).before 8 t d8) A Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HA
  rw [hA]
  iintro %_ ⟨H0, H1, H2, H3, H4, H5, H6, H7, H8, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases h : t.val % 8 = 7
    · rw [leaves_6 m c t h, after_6, if_pos ((coord1 t).trans h)]
      iexact H6
    · rw [Dat.leavesExact_idle (dats m 0 c) 6 t (idle_6 t h) (noFlush_6 t h), if_neg (fun e => h ((coord1 t).symm.trans e))]
      iexists d6
      iexact H6
  isplitl [H7]; · iexact H7
  iexact H8

/-- The body table's row at a point is the body. -/
theorem row (t : Fin cfg0.N) : defs₀ (F := F) .tc cfg0.body (cfg0.bodyArgs t (cfg0.slots t)) = bodyAt0 t := by
  unfold defs₀; rw [Defs.onTc_tc]

/-- The body's triple in the form the pipeline rule takes. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands over is what holds before the first point. -/
theorem enters (c : Dev nD) : Pipeline.ΦA spec0 c ⊢ (dats m 0 c).Φ 0 := Idealize.SL.BI.Entails.refl _

/-- What holds after the last point gives the scratch back. -/
theorem leaves (c : Dev nD) : (dats m 0 c).Φ (Fin.last cfg0.N) ⊢ Pipeline.ΦA spec0 c := by
  have e : ∀ (n : ℕ) (h : n ≤ cfg0.N), n ≠ 0 → between m c n h ⊢ Pipeline.ΦA spec0 c := by
    intro n h hn
    cases n with
    | zero => exact absurd rfl hn
    | succ n =>
      rw [given_eq, show between m c (n + 1) h = iprop(owns (c : Thread nD τ) scr fullShare (dqAt m c (n + 1) h) ∗ (∃ r, prngReg c r)) from rfl]
      iintro ⟨HA, Hg⟩
      isplitl [HA]; · iexists _; iexact HA
      iexact Hg
  exact e cfg0.N (Nat.le_refl _) (by rw [show cfg0.N = 64 from N_0]; decide)

set_option backward.isDefEq.respectTransparency.types false in
/-- The launch: every array of the pipeline ends at what the proof data say, every other buffer as it was, every counter at zero. -/
theorem launch : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enters m) (hout := leaves m)

/-- The frame: the run terminates, the arguments end unchanged and every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launch m ρ))) ((θ_run defs _ _).mono (fun _ h => h.2) (launch m ρ))

end Flash

end
-- ==== Proof.Flash.Bits.lean ====
/- The attention gradient: the frame of the kernel as written, from the run of its ideal reading. -/
module

public import proofs.«01_k».proof.Proof.Flash.Frame
public import proofs.«01_k».proof.Proof.Gen.Flash
public import proofs.«01_k».proof.Proof.Gen.FlashRefIdeal.Run
public import proofs.«01_k».proof.Defs
public import Idealize.ShloMosaic.Lib.Tactic

@[expose] public section

set_option maxRecDepth 65536

noncomputable section

namespace Flash

open Idealize.ShloMosaic Idealize.ShloMosaic.TcCoe Idealize.ShloMosaic.Tactic
open Idealize.SL Idealize.SL.RA Idealize.SL.BI Idealize.SL.Sem

/-- At the machine's words the mask is the word the kernel writes. -/
local instance asWritten : Named Bits := ⟨fun _ _ {φ} bits => Scalar.ofBits φ bits⟩

/-- The kernel as written is the ideal reading's text at the machine's words, the mask the word written. -/
theorem text_eq : Cert.quiescent_Flash = ∀ (m : (ℓ : Loc Cert.FlashIdeal.nD Cert.FlashIdeal.τ Cert.FlashIdeal.sig) → Buf (Elt Bits) ℓ) (g : Dev Cert.FlashIdeal.nD → PrngReg), Cert.Pre_Flash m →
    θ_run (Cert.FlashIdeal.defs (F := Bits)) (onTc (τ := Cert.FlashIdeal.τ) (Cert.FlashIdeal.main (F := Bits))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0) := by sl_kernel_rfl

theorem frame : Cert.quiescent_Flash := text_eq.mpr fun m g _ => kept (F := Bits) m g

theorem frame_ideal : Cert.quiescent_FlashIdeal := fun m ρ _ => kept m ρ

end Flash

end
-- ==== Proof.Flash.Head.lean ====
/- One head of the causal attention over the reals: the weights, their gradient, and what a tile of queries adds to the three
   gradients. -/
module

public import proofs.«01_k».proof.Proof.Flash.Loop
public import proofs.«01_k».proof.Proof.Whole
public import proofs.«01_k».proof.Proof.Tiles
public import proofs.«01_k».proof.Proof.Reals
public import Idealize.ShloMosaic.Lib.ValueLayout

@[expose] public section

set_option maxRecDepth 8192

noncomputable section

namespace Flash

open Idealize.ShloMosaic Idealize.ShloMosaic.TcCoe Idealize.ShloMosaic.ValueIdx Cert.Proof
open Cert.FlashIdeal Cert.FlashIdeal.Gen

/-- The tables of one head: scaled queries, keys, values, the output's gradient, and for every query the logarithm of the
    sum of the exponentials and the sum of the output's gradient times the output. -/
structure Head where
  (Q K V D : ℕ → ℕ → ℝ)
  (lse delta : ℕ → ℝ)

namespace Head
variable (H : Head)

/-- The logit of query `r` and key `k`. -/
def logit (r k : ℕ) : ℝ := ∑ d : Fin 256, H.K k d.val * H.Q r d.val

/-- The weight: none for a key after the query. -/
def P (r k : ℕ) : ℝ := if k ≤ r then Real.exp (H.logit r k - H.lse r) else 0

/-- The gradient of the logit. -/
def dS (r k : ℕ) : ℝ := H.P r k * (∑ d : Fin 128, H.V k d.val * H.D r d.val - H.delta r)

theorem P_zero {r k : ℕ} (h : r < k) : H.P r k = 0 := if_neg (by omega)

theorem dS_zero {r k : ℕ} (h : r < k) : H.dS r k = 0 := by unfold dS; rw [H.P_zero h, zero_mul]

/-- What the queries below `n` add to the gradients of key `k`, and what the keys below `n` add to that of query `r`. -/
def dk (n k d : ℕ) : ℝ := ∑ r ∈ Finset.range n, H.dS r k * H.Q r d
def dv (n k d : ℕ) : ℝ := ∑ r ∈ Finset.range n, H.P r k * H.D r d
def dq (n r d : ℕ) : ℝ := ∑ k ∈ Finset.range n, H.dS r k * H.K k d

/-- Queries before the key add nothing. -/
theorem dk_zero {n k : ℕ} (h : n ≤ k) (d : ℕ) : H.dk n k d = 0 :=
  Finset.sum_eq_zero fun r hr => by rw [H.dS_zero (by have := Finset.mem_range.mp hr; omega), zero_mul]
theorem dv_zero {n k : ℕ} (h : n ≤ k) (d : ℕ) : H.dv n k d = 0 :=
  Finset.sum_eq_zero fun r hr => by rw [H.P_zero (by have := Finset.mem_range.mp hr; omega), zero_mul]

/-- Keys after the query add nothing. -/
theorem dq_more {n r : ℕ} (h : r < n) (B d : ℕ) : H.dq (n + B) r d = H.dq n r d := by
  unfold dq
  rw [Finset.sum_range_add, Finset.sum_eq_zero (s := Finset.range B) fun k _ => by rw [H.dS_zero (by omega), zero_mul], add_zero]
end Head

/-- A row of statistics spread over the keys. -/
theorem spread (x : Vec Ideal S1x1x1x1024 .f32) (a b : Fin 1024) :
    broadcastTo S1024x1024 (shapeCast S1x1024 x shapeCasts_S1x1x1x1024_S1x1024) broadcasts_S1x1024_S1024x1024 (ValueIdx.ix2 a b) = x (ValueIdx.ix4 0 0 0 b) := by
  refine (broadcastTo_1b_ab_apply _ _ a b).trans (shapeCast_apply x _ _ _ ?_)
  rw [Shape.rowMajor_val_four, Shape.rowMajor_val_two]
  rfl

/-- The zero a product starts from. -/
theorem zero_at (S : Shape) (i : S.Idx) : constant (F := Ideal) S .f32 0x00000000#32 i = 0 := Ideal.ofBits_zero_f32

section
variable (H : Head) (k0 r0 : ℕ)

/-- What a tile of queries and a block of keys hold. -/
structure Tile (kk : FVec Ideal S1024x256 .bf16) (vv : FVec Ideal S1024x128 .bf16) (x : Vec Ideal S1x1024x256 .bf16) (dd : Vec Ideal S1024x128 .bf16)
    (l dl : Vec Ideal S1x1x1x1024 .f32) : Prop where
  k : ∀ (a : Fin 1024) (d : Fin 256), kk (ValueIdx.ix2 a d) = ((H.K (k0 + a.val) d.val : ℝ) : EReal)
  v : ∀ (a : Fin 1024) (d : Fin 128), vv (ValueIdx.ix2 a d) = ((H.V (k0 + a.val) d.val : ℝ) : EReal)
  q : ∀ (b : Fin 1024) (d : Fin 256), x (ValueIdx.ix3 0 b d) = ((H.Q (r0 + b.val) d.val : ℝ) : EReal)
  d : ∀ (b : Fin 1024) (d : Fin 128), dd (ValueIdx.ix2 b d) = ((H.D (r0 + b.val) d.val : ℝ) : EReal)
  l : ∀ b : Fin 1024, l (ValueIdx.ix4 0 0 0 b) = ((H.lse (r0 + b.val) : ℝ) : EReal)
  dl : ∀ b : Fin 1024, dl (ValueIdx.ix4 0 0 0 b) = ((H.delta (r0 + b.val) : ℝ) : EReal)

variable {H k0 r0}
variable {kk : FVec Ideal S1024x256 .bf16} {vv : FVec Ideal S1024x128 .bf16} {x : Vec Ideal S1x1024x256 .bf16} {dd : Vec Ideal S1024x128 .bf16}
  {l dl : Vec Ideal S1x1x1x1024 .f32} (h : Tile H k0 r0 kk vv x dd l dl)

include h

theorem Tile.q1 (b : Fin 1024) (d : Fin 256) : k0_pay1 (F := Ideal) x (ValueIdx.ix2 b d) = ((H.Q (r0 + b.val) d.val : ℝ) : EReal) :=
  (shapeCast_1ab_ab_apply x _ b d).trans (h.q b d)

theorem Tile.d1 (b : Fin 1024) (d : Fin 128) : k0_pay2 (F := Ideal) dd (ValueIdx.ix2 b d) = ((H.D (r0 + b.val) d.val : ℝ) : EReal) := by
  unfold k0_pay2; rw [shapeCast_self]; exact h.d b d

/-- The logits of the tile, from a product started at zero. -/
theorem Tile.logits (a b : Fin 1024) :
    matmul dot_S1024x256_S1024x256_S1024x1024_1_1_0_0_n_n none kk (k0_pay1 (F := Ideal) x) (constant S1024x1024 .f32 0x00000000#32) (ValueIdx.ix2 a b)
      = ((H.logit (r0 + b.val) (k0 + a.val) : ℝ) : EReal) := by
  refine (matmul_nt _ rfl _ _ _ _ _).trans ?_
  rw [zero_at, zero_add]
  exact sum_mul_real _ _ (fun d : Fin 256 => H.K (k0 + a.val) d.val) (fun d : Fin 256 => H.Q (r0 + b.val) d.val) (fun d => h.k a d) (fun d => h.q1 b d)

/-- The products of values and output gradients. -/
theorem Tile.dp (a b : Fin 1024) :
    matmul dot_S1024x128_S1024x128_S1024x1024_1_1_0_0_n_n none vv (k0_pay2 (F := Ideal) dd) (constant S1024x1024 .f32 0x00000000#32) (ValueIdx.ix2 a b)
      = ((∑ d : Fin 128, H.V (k0 + a.val) d.val * H.D (r0 + b.val) d.val : ℝ) : EReal) := by
  refine (matmul_nt _ rfl _ _ _ _ _).trans ?_
  rw [zero_at, zero_add]
  exact sum_mul_real _ _ (fun d : Fin 128 => H.V (k0 + a.val) d.val) (fun d : Fin 128 => H.D (r0 + b.val) d.val) (fun d => h.v a d) (fun d => h.d1 b d)

/-- The weights of a tile of queries that all come after the keys. -/
theorem Tile.weights (hk : k0 + 1024 ≤ r0) (a b : Fin 1024) : k0_pay3 (F := Ideal) kk x l (ValueIdx.ix2 a b) = ((H.P (r0 + b.val) (k0 + a.val) : ℝ) : EReal) := by
  unfold k0_pay3
  show Ideal.exp (_ - _) = _
  rw [h.logits a b, spread, h.l b, ← EReal.coe_sub, Ideal.exp_coe, Head.P, if_pos (by have := a.isLt; omega)]

/-- The gradients of its logits. -/
theorem Tile.grads (hk : k0 + 1024 ≤ r0) (a b : Fin 1024) : k0_pay5 (F := Ideal) kk vv x dd l dl (ValueIdx.ix2 a b) = ((H.dS (r0 + b.val) (k0 + a.val) : ℝ) : EReal) := by
  unfold k0_pay5
  show (_ : EReal) * (_ - _) = _
  rw [h.weights hk a b, h.dp a b, spread, h.dl b, ← EReal.coe_sub, ← EReal.coe_mul, Head.dS]
end

/-! ## The tile on the diagonal -/

/-- Key `1024 j + a` against query `1024 j + b`, by words. -/
theorem masked (j : Fin 8) (a b : Fin 1024) :
    BitVec.sle (Scalar.muli (BitVec.ofNat 32 j.val) 1024#32 + BitVec.ofNat 32 a.val) (Scalar.muli (BitVec.ofNat 32 j.val) 1024#32 + BitVec.ofNat 32 b.val)
      = decide (a.val ≤ b.val) := by
  have hj := j.isLt; have ha := a.isLt; have hb := b.isLt
  have e : ∀ n : ℕ, n < 1024 → (Scalar.muli (BitVec.ofNat 32 j.val) 1024#32 + BitVec.ofNat 32 n).toInt = 1024 * j.val + n := fun n hn => by
    show (BitVec.ofNat 32 j.val * 1024#32 + BitVec.ofNat 32 n).toInt = _
    rw [BitVec.toInt_eq_toNat_bmod, BitVec.toNat_add, BitVec.toNat_mul, BitVec.toNat_ofNat, BitVec.toNat_ofNat, BitVec.toNat_ofNat]
    simp only [Int.bmod]; omega
  unfold BitVec.sle
  rw [e _ ha, e _ hb]
  exact decide_eq_decide.mpr (by omega)

section
variable {H : Head} {j : Fin 8}
variable {kk : FVec Ideal S1024x256 .bf16} {vv : FVec Ideal S1024x128 .bf16} {x : Vec Ideal S1x1024x256 .bf16} {dd : Vec Ideal S1024x128 .bf16}
  {l dl : Vec Ideal S1x1x1x1024 .f32} (h : Tile H (1024 * j.val) (1024 * j.val) kk vv x dd l dl)
include h

/-- The weights of the diagonal tile. -/
theorem Tile.weights' (a b : Fin 1024) :
    k0_pay25 (F := Ideal) (BitVec.ofNat 32 j.val) kk (BitVec.ofNat 32 j.val) (k0_pay23 x) l (ValueIdx.ix2 a b)
      = ((H.P (1024 * j.val + b.val) (1024 * j.val + a.val) : ℝ) : EReal) := by
  unfold k0_pay25
  dsimp only
  show Ideal.exp ((if BitVec.ofBool (BitVec.sle (Scalar.muli (BitVec.ofNat 32 j.val) 1024#32 + BitVec.ofNat 32 (0 * 1024 + a.val)) (Scalar.muli (BitVec.ofNat 32 j.val) 1024#32 + BitVec.ofNat 32 (0 * 1024 + b.val))) = 1 then _ else (⊥ : EReal)) - _) = _
  rw [Nat.zero_mul, Nat.zero_add, Nat.zero_add, masked, show k0_pay23 (F := Ideal) x = k0_pay1 x from rfl, h.logits a b, spread, h.l b, Head.P]
  by_cases hab : a.val ≤ b.val
  · rw [if_pos (by rw [decide_eq_true hab]; rfl), if_pos (by omega), ← EReal.coe_sub, Ideal.exp_coe]
  · rw [if_neg (by rw [decide_eq_false hab]; decide), if_neg (by omega), EReal.bot_sub, Ideal.exp_bot]; rfl

/-- The gradients of its logits. -/
theorem Tile.grads' (a b : Fin 1024) :
    k0_pay27 (F := Ideal) (BitVec.ofNat 32 j.val) kk vv (BitVec.ofNat 32 j.val) (k0_pay23 x) (k0_pay24 dd) l dl (ValueIdx.ix2 a b)
      = ((H.dS (1024 * j.val + b.val) (1024 * j.val + a.val) : ℝ) : EReal) := by
  unfold k0_pay27
  show (_ : EReal) * (_ - _) = _
  rw [h.weights' a b, show k0_pay24 (F := Ideal) dd = k0_pay2 dd from rfl, h.dp a b, spread, h.dl b, ← EReal.coe_sub, ← EReal.coe_mul, Head.dS]
end

/-! ## What a tile adds -/

/-- A product of real tables added to a real sum, the left factor by rows. -/
theorem add_nn {N : ℕ} (d : DotDims ⟨2, ![1024, 1024]⟩ ⟨2, ![1024, N]⟩ ⟨2, ![1024, N]⟩) (hd : d = DotDims.plain 1024 1024 N)
    (acc : FVec Ideal ⟨2, ![1024, N]⟩ .f32) (W : FVec Ideal ⟨2, ![1024, 1024]⟩ .bf16) (R : FVec Ideal ⟨2, ![1024, N]⟩ .bf16) (f : ℕ → ℕ → ℝ) (g : ℕ → ℕ → ℝ)
    (k0 r0 : ℕ) (hW : ∀ a b : Fin 1024, W (ValueIdx.ix2 a b) = ((f (r0 + b.val) (k0 + a.val) : ℝ) : EReal)) (hR : ∀ (b : Fin 1024) (e : Fin N), R (ValueIdx.ix2 b e) = ((g (r0 + b.val) e.val : ℝ) : EReal))
    (a : Fin 1024) (e : Fin N) (hacc : acc (ValueIdx.ix2 a e) = ((∑ r ∈ Finset.range r0, f r (k0 + a.val) * g r e.val : ℝ) : EReal)) :
    addf acc (matmul d none W R (constant ⟨2, ![1024, N]⟩ .f32 0x00000000#32)) (ValueIdx.ix2 a e) = ((∑ r ∈ Finset.range (r0 + 1024), f r (k0 + a.val) * g r e.val : ℝ) : EReal) := by
  show acc (ValueIdx.ix2 a e) + matmul d none W R _ (ValueIdx.ix2 a e) = _
  rw [matmul_nn d hd, zero_at, zero_add, hacc, ← sum_rows, EReal.coe_add]
  exact congrArg _ (sum_mul_real _ _ (fun b : Fin 1024 => f (r0 + b.val) (k0 + a.val)) (fun b : Fin 1024 => g (r0 + b.val) e.val) (fun b => hW a b) (fun b => hR b e))

/-- The same, the left factor by columns. -/
theorem add_tn {N : ℕ} (d : DotDims ⟨2, ![1024, 1024]⟩ ⟨2, ![1024, N]⟩ ⟨2, ![1024, N]⟩) (hd : d = lhsTransposed 1024 1024 N)
    (acc : FVec Ideal ⟨2, ![1024, N]⟩ .f32) (W : FVec Ideal ⟨2, ![1024, 1024]⟩ .bf16) (R : FVec Ideal ⟨2, ![1024, N]⟩ .bf16) (f : ℕ → ℕ → ℝ) (g : ℕ → ℕ → ℝ)
    (k0 r0 : ℕ) (hW : ∀ a b : Fin 1024, W (ValueIdx.ix2 a b) = ((f (r0 + b.val) (k0 + a.val) : ℝ) : EReal)) (hR : ∀ (a : Fin 1024) (e : Fin N), R (ValueIdx.ix2 a e) = ((g (k0 + a.val) e.val : ℝ) : EReal))
    (b : Fin 1024) (e : Fin N) (hacc : acc (ValueIdx.ix2 b e) = ((∑ k ∈ Finset.range k0, f (r0 + b.val) k * g k e.val : ℝ) : EReal)) :
    addf acc (matmul d none W R (constant ⟨2, ![1024, N]⟩ .f32 0x00000000#32)) (ValueIdx.ix2 b e) = ((∑ k ∈ Finset.range (k0 + 1024), f (r0 + b.val) k * g k e.val : ℝ) : EReal) := by
  show acc (ValueIdx.ix2 b e) + matmul d none W R _ (ValueIdx.ix2 b e) = _
  rw [matmul_tn d hd, zero_at, zero_add, hacc, ← sum_rows, EReal.coe_add]
  exact congrArg _ (sum_mul_real _ _ (fun a : Fin 1024 => f (r0 + b.val) (k0 + a.val)) (fun a : Fin 1024 => g (k0 + a.val) e.val) (fun a => hW a b) (fun a => hR a e))

/-- Rows put over a window of an array. -/
theorem put_rows (x : Vec Ideal S8192x256 .f32) (n : Fin 8) (w : Vec Ideal S1024x256 .f32) (r : Fin 8192) (d : Fin 256) :
    VecWindow.put x ![1024 * n.val, 0] S1024x256.size w (ValueIdx.ix2 r d)
      = if h : 1024 * n.val ≤ r.val ∧ r.val < 1024 * n.val + 1024 then w (ValueIdx.ix2 ⟨r.val - 1024 * n.val, by omega⟩ d) else x (ValueIdx.ix2 r d) := by
  unfold VecWindow.put
  by_cases h : 1024 * n.val ≤ r.val ∧ r.val < 1024 * n.val + 1024
  · rw [dif_pos h, dif_pos (fun a => match a with | ⟨0, _⟩ => h | ⟨1, _⟩ => ⟨Nat.zero_le _, by show d.val < 0 + 256; omega⟩)]
    exact congrArg w (idx2_ext (j := ValueIdx.ix2 (⟨r.val - 1024 * n.val, by omega⟩ : Fin 1024) d) rfl rfl)
  · rw [dif_neg h, dif_neg fun k => h (k 0)]

/-- What the running sums hold at key block `j` once the queries of the tiles below `n` are in: those tiles' rows of the query gradient have the
    block's keys, the later rows only the blocks before. -/
structure Holds (H : Head) (j n : ℕ) (s : Sums Ideal) : Prop where
  dk : ∀ (a : Fin 1024) (d : Fin 256), s.1.1 (ValueIdx.ix2 a d) = ((H.dk (1024 * n) (1024 * j + a.val) d.val : ℝ) : EReal)
  dv : ∀ (a : Fin 1024) (d : Fin 128), s.1.2 (ValueIdx.ix2 a d) = ((H.dv (1024 * n) (1024 * j + a.val) d.val : ℝ) : EReal)
  dq : ∀ (r : Fin 8192) (d : Fin 256), s.2 (ValueIdx.ix2 r d) = ((H.dq (1024 * if r.val < 1024 * n then j + 1 else j) r.val d.val : ℝ) : EReal)

section
variable {H : Head} {j n : Fin 8} {s : Sums Ideal} (hs : Holds H j.val n.val s)
variable {kk : FVec Ideal S1024x256 .bf16} {vv : FVec Ideal S1024x128 .bf16} {x : Vec Ideal S1x1024x256 .bf16} {dd : Vec Ideal S1024x128 .bf16}
  {l dl : Vec Ideal S1x1x1x1024 .f32} (h : Tile H (1024 * j.val) (1024 * n.val) kk vv x dd l dl)
include hs h

/-- One tile more, from its weights and their gradients. -/
theorem Holds.step (W Z : FVec Ideal S1024x1024 .bf16)
    (hW : ∀ a b : Fin 1024, W (ValueIdx.ix2 a b) = ((H.P (1024 * n.val + b.val) (1024 * j.val + a.val) : ℝ) : EReal))
    (hZ : ∀ a b : Fin 1024, Z (ValueIdx.ix2 a b) = ((H.dS (1024 * n.val + b.val) (1024 * j.val + a.val) : ℝ) : EReal)) :
    Holds H j.val (n.val + 1) ((addf s.1.1 (matmul dot_S1024x1024_S1024x256_S1024x256_1_0_0_1_n_n none Z (k0_pay1 x) (constant S1024x256 .f32 0x00000000#32)),
      addf s.1.2 (matmul dot_S1024x1024_S1024x128_S1024x128_1_0_0_1_n_n none W (k0_pay2 dd) (constant S1024x128 .f32 0x00000000#32))),
      VecWindow.put s.2 ![1024 * n.val, 0] S1024x256.size
        (shapeCast S1024x256 (addf (ta s.2 n) (matmul dot_S1024x1024_S1024x256_S1024x256_0_0_1_1_n_n none Z kk (constant S1024x256 .f32 0x00000000#32))) shapeCasts_S1024x256_S1024x256)) where
  dk a d := by
    rw [Nat.mul_add]
    exact add_nn _ rfl s.1.1 Z _ H.dS H.Q (1024 * j.val) (1024 * n.val) hZ h.q1 a d (hs.dk a d)
  dv a d := by
    rw [Nat.mul_add]
    exact add_nn _ rfl s.1.2 W _ H.P H.D (1024 * j.val) (1024 * n.val) hW h.d1 a d (hs.dv a d)
  dq r d := by
    show VecWindow.put _ _ _ _ _ = _
    rw [put_rows, shapeCast_self]
    by_cases hr : 1024 * n.val ≤ r.val ∧ r.val < 1024 * n.val + 1024
    · have e : 1024 * n.val + (r.val - 1024 * n.val) = r.val := by omega
      rw [dif_pos hr, if_pos (by omega), Nat.mul_add]
      have k := add_tn dot_S1024x1024_S1024x256_S1024x256_0_0_1_1_n_n rfl (ta s.2 n) Z kk H.dS H.K (1024 * j.val) (1024 * n.val) hZ h.k ⟨r.val - 1024 * n.val, by omega⟩ d (by
        have i : ta s.2 n (ValueIdx.ix2 ⟨r.val - 1024 * n.val, by omega⟩ d) = s.2 (ValueIdx.ix2 r d) :=
          congrArg s.2 (idx2_ext (by show 1024 * n.val + 1 * (r.val - 1024 * n.val) = r.val; omega) (by show 0 + 1 * d.val = d.val; omega))
        rw [i, hs.dq, if_neg (by omega)]
        show _ = ((∑ k ∈ Finset.range (1024 * j.val), H.dS (1024 * n.val + (r.val - 1024 * n.val)) k * H.K k d.val : ℝ) : EReal)
        rw [e]; rfl)
      refine k.trans ?_
      show ((∑ k ∈ Finset.range (1024 * j.val + 1024), H.dS (1024 * n.val + (r.val - 1024 * n.val)) k * H.K k d.val : ℝ) : EReal) = _
      rw [e]; rfl
    · rw [dif_neg hr, hs.dq]
      by_cases h1 : r.val < 1024 * n.val
      · rw [if_pos h1, if_pos (by omega)]
      · rw [if_neg h1, if_neg (by omega)]

end

end Flash
end
-- ==== Proof.Flash.Soft.lean ====
/- The causal softmax of one head over the reals, and its gradient: what the shift by the row's largest logit cancels, and the tables of a head. -/
module

public import proofs.«01_k».proof.Proof.Flash.Head
public import Mathlib.Data.Finset.Fold

@[expose] public section

set_option maxRecDepth 8192

noncomputable section

namespace Flash

open Idealize.ShloMosaic Cert.Proof

/-- The largest of a row of reals, some of them masked, is a real. -/
theorem row_max {n : ℕ} (x : Fin n → EReal) (S : Fin n → ℝ) (r : Fin n) (hx : ∀ k, x k = if k.val ≤ r.val then ((S k : ℝ) : EReal) else ⊥) :
    ∃ μ : ℝ, Finset.univ.fold max ⊥ x = (μ : EReal) := by
  have top : Finset.univ.fold max ⊥ x ≠ ⊤ := by
    refine ne_of_lt ((Finset.fold_max_lt _).mpr ⟨bot_lt_top, fun k _ => ?_⟩)
    rw [hx k]
    split
    · exact EReal.coe_lt_top _
    · exact bot_lt_top
  have bot : Finset.univ.fold max ⊥ x ≠ ⊥ := by
    have h : x r ≤ Finset.univ.fold max ⊥ x := Finset.le_fold_max _ |>.mpr (Or.inr ⟨r, Finset.mem_univ r, le_rfl⟩)
    rw [hx r, if_pos le_rfl] at h
    exact fun e => (EReal.coe_ne_bot _) (le_bot_iff.mp (e ▸ h))
  exact ⟨_, (EReal.coe_toReal top bot).symm⟩

/-- The numerator and the denominator of a weight, with no shift. -/
def num (S : ℕ → ℝ) (r k : ℕ) : ℝ := if k ≤ r then Real.exp (S k) else 0
def den (S : ℕ → ℝ) (r : ℕ) : ℝ := ∑ k : Fin 8192, num S r k.val

/-- The weight of key `k` for query `r`. -/
def soft (S : ℕ → ℝ) (r k : ℕ) : ℝ := num S r k / den S r

theorem num_nonneg (S : ℕ → ℝ) (r k : ℕ) : 0 ≤ num S r k := by
  unfold num; split
  · exact (Real.exp_pos _).le
  · exact le_rfl

theorem den_pos (S : ℕ → ℝ) (r : ℕ) (hr : r < 8192) : 0 < den S r := by
  refine Finset.sum_pos' (fun k _ => num_nonneg S r k.val) ⟨⟨r, hr⟩, Finset.mem_univ _, ?_⟩
  unfold num
  rw [if_pos (show r ≤ r from le_rfl)]
  exact Real.exp_pos _

/-- A shifted exponential, masked, is the numerator times a constant of the row. -/
theorem shifted (S : ℕ → ℝ) (r k : ℕ) (μ : ℝ) (x : EReal) (hx : x = if k ≤ r then ((S k : ℝ) : EReal) else ⊥) :
    Ideal.exp (x - (μ : EReal)) = ((Real.exp (-μ) * num S r k : ℝ) : EReal) := by
  unfold num
  rw [hx]
  split
  · rw [← EReal.coe_sub, Ideal.exp_coe, sub_eq_add_neg, Real.exp_add, mul_comm]
  · rw [EReal.bot_sub, Ideal.exp_bot, mul_zero, EReal.coe_zero]

/-- The row's sum of them. -/
theorem shifted_sum (S : ℕ → ℝ) (r : ℕ) (μ : ℝ) : ∑ k : Fin 8192, ((Real.exp (-μ) * num S r k.val : ℝ) : EReal) = ((Real.exp (-μ) * den S r : ℝ) : EReal) := by
  rw [sum_real, ← Finset.mul_sum]; rfl

theorem shifted_pos (S : ℕ → ℝ) (r : ℕ) (hr : r < 8192) (μ : ℝ) : 0 < Real.exp (-μ) * den S r := mul_pos (Real.exp_pos _) (den_pos S r hr)

/-- The constant cancels in the weight, -/
theorem soft_of (S : ℕ → ℝ) (r k : ℕ) (hr : r < 8192) (μ : ℝ) : Real.exp (-μ) * num S r k / (Real.exp (-μ) * den S r) = soft S r k :=
  mul_div_mul_left _ _ (Real.exp_pos _).ne'

/-- in the logarithm of the sum, -/
theorem log_of (S : ℕ → ℝ) (r : ℕ) (hr : r < 8192) (μ : ℝ) : μ + Real.log (Real.exp (-μ) * den S r) = Real.log (den S r) := by
  rw [Real.log_mul (Real.exp_pos _).ne' (den_pos S r hr).ne', Real.log_exp]; ring

/-- and the weight is the exponential of the logit less that logarithm. -/
theorem soft_exp (S : ℕ → ℝ) (r k : ℕ) (hr : r < 8192) : (if k ≤ r then Real.exp (S k - Real.log (den S r)) else 0) = soft S r k := by
  unfold soft num
  split
  · rw [Real.exp_sub, Real.exp_log (den_pos S r hr)]
  · rw [zero_div]

/-- The logits and the products of values and output gradients, from the tables. -/
def lg (Q K : ℕ → ℕ → ℝ) (r k : ℕ) : ℝ := ∑ d : Fin 256, K k d.val * Q r d.val
def dp (V D : ℕ → ℕ → ℝ) (r k : ℕ) : ℝ := ∑ d : Fin 128, V k d.val * D r d.val

/-- The weighted sum of those products, over the keys. -/
def dlt (Q K V D : ℕ → ℕ → ℝ) (r : ℕ) : ℝ := ∑ k : Fin 8192, soft (lg Q K r) r k.val * dp V D r k.val

/-- The tables of a head from its scaled queries, keys, values and output gradients. -/
def headOf (Q K V D : ℕ → ℕ → ℝ) : Head where
  Q := Q
  K := K
  V := V
  D := D
  lse r := Real.log (den (lg Q K r) r)
  delta := dlt Q K V D

variable (Q K V D : ℕ → ℕ → ℝ)

/-- Its weights are the softmax, -/
theorem head_P (r k : ℕ) (hr : r < 8192) : (headOf Q K V D).P r k = soft (lg Q K r) r k := soft_exp (lg Q K r) r k hr

/-- and its gradients of the logits the softmax's. -/
theorem head_dS (r k : ℕ) (hr : r < 8192) :
    (headOf Q K V D).dS r k = soft (lg Q K r) r k * (dp V D r k - dlt Q K V D r) := by
  rw [← head_P Q K V D r k hr]
  unfold Head.dS dp
  dsimp only [headOf]

end Flash
end
-- ==== Proof.Flash.Host.lean ====
/- What the attention gradient's call finds in its operands: the host lines that scale, pad and split the heads, and those that compute the row
   statistics the forward call would have saved. -/
module

public import proofs.«01_k».proof.Proof.Flash.Soft
public import proofs.«01_k».proof.Proof.Gen.FlashIdeal.Frame
public import Idealize.ShloMosaic.Lib.StableHlo.ReadAt
public import Idealize.ShloMosaic.Lib.Pointwise

@[expose] public section

set_option maxRecDepth 8192

noncomputable section

namespace Flash

open Idealize.ShloMosaic Idealize.ShloMosaic.TcCoe Cert.Proof
open Cert.FlashIdeal Cert.FlashIdeal.Gen

/-! ## The lines, as functions of the arguments -/

section
variable (q k : FVec Ideal S8192x8x192 .f32) (v : FVec Ideal S8192x8x128 .f32) (o : FVec Ideal S8192x1024 .f32)

def sq : FVec Ideal S8x8192x192 .f32 :=
  transpose S8x8192x192 [1, 0, 2] (mulf q (broadcastInDim S8192x8x192 ![] bcast_S_S8192x8x192 (constant S_ .f32 0x3D93CD3A#32))) transposes_S8192x8x192_S8x8192x192_1_0_2
def hk : FVec Ideal S8x8192x192 .f32 := transpose S8x8192x192 [1, 0, 2] k transposes_S8192x8x192_S8x8192x192_1_0_2
def hv : FVec Ideal S8x8192x128 .f32 := transpose S8x8192x128 [1, 0, 2] v transposes_S8192x8x128_S8x8192x128_1_0_2
def causal : IVec S8x8192x8192 1 :=
  broadcastInDim S8x8192x8192 ![0, 1, 2] bcast_S1x8192x8192_S8x8192x8192_0_1_2
    (cmpi .sle (broadcastInDim S1x8192x8192 ![0, 1, 2] bcast_S1x1x8192_S1x8192x8192_0_1_2 (broadcastInDim S1x1x8192 ![2] bcast_S8192_S1x1x8192_2 (iotaInDim S8192 32 0)))
      (broadcastInDim S1x8192x8192 ![0, 1, 2] bcast_S1x8192x1_S1x8192x8192_0_1_2 (broadcastInDim S1x8192x1 ![1] bcast_S8192_S1x8192x1_1 (iotaInDim S8192 32 0))))
def dots : FVec Ideal S8x8192x8192 .f32 := Host.dotGeneral dot_S8x8192x192_S8x8192x192_S8x8192x8192_2_2_1_1_0_0 none (sq q) (hk k)
def scores : FVec Ideal S8x8192x8192 .f32 := select causal (dots q k) (broadcastInDim S8x8192x8192 ![] bcast_S_S8x8192x8192 (constant S_ .f32 0xFF800000#32))
def top : FVec Ideal S8x8192 .f32 := Host.reduce FloatOps.maximumf (scores q k) (constant S_ .f32 0xFF800000#32) reducesTo_S8x8192x8192_S8x8192_d2 h_S_
def topCol : FVec Ideal S8x8192x1 .f32 := broadcastInDim S8x8192x1 ![0, 1] bcast_S8x8192_S8x8192x1_0_1 (top q k)
def expo : FVec Ideal S8x8192x8192 .f32 := Host.exp (subf (scores q k) (broadcastInDim S8x8192x8192 ![0, 1, 2] bcast_S8x8192x1_S8x8192x8192_0_1_2 (topCol q k)))
def totalCol : FVec Ideal S8x8192x1 .f32 :=
  broadcastInDim S8x8192x1 ![0, 1] bcast_S8x8192_S8x8192x1_0_1 (Host.reduceAdd (expo q k) (constant S_ .f32 0x00000000#32) reducesTo_S8x8192x8192_S8x8192_d2 h_S_)
def out : FVec Ideal S8x8192x128 .f32 :=
  Host.divf (Host.dotGeneral dot_S8x8192x8192_S8x8192x128_S8x8192x128_2_1_1_2_0_0 none (expo q k) (hv v))
    (broadcastInDim S8x8192x128 ![0, 1, 2] bcast_S8x8192x1_S8x8192x128_0_1_2 (totalCol q k))
def lseCol : FVec Ideal S8x8192x1 .f32 := addf (topCol q k) (Host.log (totalCol q k))
def ho : FVec Ideal S8x8192x128 .f32 := transpose S8x8192x128 [1, 0, 2] (shapeCast S8192x8x128 o shapeCasts_S8192x1024_S8192x8x128) transposes_S8192x8x128_S8x8192x128_1_0_2
def deltas : FVec Ideal S8x8192 .f32 := Host.reduceAdd (mulf (ho o) (out q k v)) (constant S_ .f32 0x00000000#32) reducesTo_S8x8192x128_S8x8192_d2 h_S_
def padded (x : FVec Ideal S8x8192x192 .f32) : FVec Ideal S8x8192x256 .bf16 :=
  truncf .bf16 (pad S8x8192x256 ![0, 0, 0] ![0, 0, 64] ![0, 0, 0] x (sitofp (F := Ideal) .f32 (constantI S_ 32 0#32)) pads_S8x8192x192_S8x8192x256_000_000_0640 h_S_) bitsLt_bf16_f32
end

section
variable (m : (ℓ : Loc nD τ sig) → Buf (Elt Ideal) ℓ) (c : Dev nD)

abbrev argQ : FVec Ideal S8192x8x192 .f32 := m ((c : Thread nD τ).loc main_arg0)
abbrev argK : FVec Ideal S8192x8x192 .f32 := m ((c : Thread nD τ).loc main_arg1)
abbrev argV : FVec Ideal S8192x8x128 .f32 := m ((c : Thread nD τ).loc main_arg2)
abbrev argO : FVec Ideal S8192x1024 .f32 := m ((c : Thread nD τ).loc main_arg3)

theorem Vq : V m c main_v32 = padded (sq (argQ m c)) := by unfold Gen.V; after_reads_simp; rfl
theorem Vk : V m c main_v34 = padded (hk (argK m c)) := by unfold Gen.V; after_reads_simp; rfl
theorem Vv : V m c main_v35 = truncf .bf16 (hv (argV m c)) bitsLt_bf16_f32 := by unfold Gen.V; after_reads_simp; rfl
theorem Vo : V m c main_v36 = truncf .bf16 (argO m c) bitsLt_bf16_f32 := by unfold Gen.V; after_reads_simp
theorem Vlse : V m c main_v25 = shapeCast S8x8x1x1024 (lseCol (argQ m c) (argK m c)) shapeCasts_S8x8192x1_S8x8x1x1024 := by unfold Gen.V; after_reads_simp; rfl
theorem Vdelta : V m c main_v30 = shapeCast S8x8x1x1024 (deltas (argQ m c) (argK m c) (argV m c) (argO m c)) shapeCasts_S8x8192_S8x8x1x1024 := by
  unfold Gen.V; after_reads_simp; rfl
end

end Flash
end
-- ==== Proof.Flash.Stats.lean ====
/- The entries of the host lines: the logits, the softmax's row statistics and the output, over the reals. -/
module

public import proofs.«01_k».proof.Proof.Flash.Host
public import proofs.«01_k».proof.Proof.Finite
public import proofs.«01_k».proof.Proof.Whole
public import Idealize.ShloMosaic.Lib.KernelVsHost

@[expose] public section

set_option maxRecDepth 8192

noncomputable section

namespace Flash

open Idealize.ShloMosaic Idealize.ShloMosaic.TcCoe Cert.Proof
open Cert.FlashIdeal Cert.FlashIdeal.Gen

/-- Entry `(r, h, d)` of an array of finite entries, zero outside the array. -/
def cell {n : ℕ} (x : FVec Ideal ⟨3, ![8192, 8, n]⟩ .f32) (h : Fin 8) (r d : ℕ) : ℝ :=
  if g : r < 8192 ∧ d < n then (x (ValueIdx.ix3 ⟨r, g.1⟩ h ⟨d, g.2⟩)).toReal else 0

/-- Entry `(r, 128 h + d)` of the cotangent, whose columns are the heads' in turn. -/
def cellO (x : FVec Ideal S8192x1024 .f32) (h : Fin 8) (r d : ℕ) : ℝ :=
  if g : r < 8192 ∧ d < 128 then (x (ValueIdx.ix2 ⟨r, g.1⟩ ⟨128 * h.val + d, by omega⟩)).toReal else 0

/-- The factor of the logits. -/
def scale : ℝ := (Ideal.ofBits .f32 0x3D93CD3A#32).toReal

theorem scale_word : Ideal.ofBits .f32 0x3D93CD3A#32 = ((9686330 / 134217728 : ℝ) : EReal) := by
  simp [Ideal.ofBits, Ideal.ieee, -EReal.coe_mul]; norm_num

theorem scale_eq : Ideal.ofBits .f32 0x3D93CD3A#32 = ((scale : ℝ) : EReal) := by
  unfold scale; rw [scale_word, EReal.toReal_coe]

theorem scale_ne : scale ≠ 0 := by
  unfold scale; rw [scale_word, EReal.toReal_coe]; norm_num

/-- What finite arguments hold. -/
structure Fin4 (q k : FVec Ideal S8192x8x192 .f32) (v : FVec Ideal S8192x8x128 .f32) (o : FVec Ideal S8192x1024 .f32) : Prop where
  q : ∀ i, q i = (((q i).toReal : ℝ) : EReal)
  k : ∀ i, k i = (((k i).toReal : ℝ) : EReal)
  v : ∀ i, v i = (((v i).toReal : ℝ) : EReal)
  o : ∀ i, o i = (((o i).toReal : ℝ) : EReal)

theorem cell_at {n : ℕ} (x : FVec Ideal ⟨3, ![8192, 8, n]⟩ .f32) (hx : ∀ i, x i = (((x i).toReal : ℝ) : EReal)) (r : Fin 8192) (h : Fin 8) (d : Fin n) :
    x (ValueIdx.ix3 r h d) = ((cell x h r.val d.val : ℝ) : EReal) := by
  unfold cell
  rw [dif_pos ⟨r.isLt, d.isLt⟩]
  exact hx _

theorem cellO_at (x : FVec Ideal S8192x1024 .f32) (hx : ∀ i, x i = (((x i).toReal : ℝ) : EReal)) (r : Fin 8192) (h : Fin 8) (d : Fin 128) (e : Fin 1024) (he : e.val = 128 * h.val + d.val) :
    x (ValueIdx.ix2 r e) = ((cellO x h r.val d.val : ℝ) : EReal) := by
  unfold cellO
  rw [dif_pos ⟨r.isLt, d.isLt⟩]
  rw [show e = ⟨128 * h.val + d.val, by omega⟩ from Fin.ext he]
  exact hx _

section
variable (q k : FVec Ideal S8192x8x192 .f32) (v : FVec Ideal S8192x8x128 .f32) (o : FVec Ideal S8192x1024 .f32)

/-- The tables of head `h`: the scaled queries, keys, values and cotangent. -/
def tQ (h : Fin 8) (r d : ℕ) : ℝ := cell q h r d * scale
def head (h : Fin 8) : Head := headOf (tQ q h) (cell k h) (cell v h) (cellO o h)

variable {q k v o}

theorem sq_at (H : Fin4 q k v o) (h : Fin 8) (r : Fin 8192) (d : Fin 192) : sq q (ValueIdx.ix3 h r d) = ((tQ q h r.val d.val : ℝ) : EReal) := by
  show q _ * Ideal.ofBits .f32 0x3D93CD3A#32 = _
  unfold tQ
  rw [scale_eq, EReal.coe_mul, ← cell_at q H.q]
  refine congrArg (q · * _) (funext fun a => Fin.ext ?_)
  match a with
  | ⟨0, _⟩ => rfl
  | ⟨1, _⟩ => rfl
  | ⟨2, _⟩ => rfl

theorem hk_at (H : Fin4 q k v o) (h : Fin 8) (r : Fin 8192) (d : Fin 192) : hk k (ValueIdx.ix3 h r d) = ((cell k h r.val d.val : ℝ) : EReal) := by
  rw [← cell_at k H.k]
  refine congrArg k (funext fun a => Fin.ext ?_)
  match a with
  | ⟨0, _⟩ => rfl
  | ⟨1, _⟩ => rfl
  | ⟨2, _⟩ => rfl

theorem hv_at (H : Fin4 q k v o) (h : Fin 8) (r : Fin 8192) (d : Fin 128) : hv v (ValueIdx.ix3 h r d) = ((cell v h r.val d.val : ℝ) : EReal) := by
  rw [← cell_at v H.v]
  refine congrArg v (funext fun a => Fin.ext ?_)
  match a with
  | ⟨0, _⟩ => rfl
  | ⟨1, _⟩ => rfl
  | ⟨2, _⟩ => rfl

theorem ho_at (H : Fin4 q k v o) (h : Fin 8) (r : Fin 8192) (d : Fin 128) : ho o (ValueIdx.ix3 h r d) = ((cellO o h r.val d.val : ℝ) : EReal) := by
  rw [← cellO_at o H.o r h d ⟨128 * h.val + d.val, by omega⟩ rfl]
  refine Eq.trans (congrArg (shapeCast S8192x8x128 o shapeCasts_S8192x1024_S8192x8x128) (a₂ := ValueIdx.ix3 r h d) (funext fun a => Fin.ext ?_)) ?_
  · match a with
    | ⟨0, _⟩ => rfl
    | ⟨1, _⟩ => rfl
    | ⟨2, _⟩ => rfl
  · exact shapeCast_apply o _ _ _ (by rw [Shape.rowMajor_val_three, Shape.rowMajor_val_two]; show r.val * 1024 + (128 * h.val + d.val) = (r.val * 8 + h.val) * 128 + d.val; omega)

/-- A sum over 256 columns of a table that is zero from the 192nd on. -/
theorem sum_pad (f : ℕ → ℝ) (hf : ∀ d, 192 ≤ d → d < 256 → f d = 0) : ∑ d : Fin 256, f d.val = ∑ d : Fin 192, f d.val := by
  rw [← Finset.sum_range f, ← Finset.sum_range f, show (256 : ℕ) = 192 + 64 from rfl, Finset.sum_range_add]
  rw [Finset.sum_eq_zero (s := Finset.range 64) fun d hd => hf _ (by omega) (by have := Finset.mem_range.mp hd; omega), add_zero]

theorem cell_pad {n : ℕ} (x : FVec Ideal ⟨3, ![8192, 8, n]⟩ .f32) (h : Fin 8) (r d : ℕ) (hd : n ≤ d) : cell x h r d = 0 := by
  unfold cell; rw [dif_neg (by omega)]

/-- The logits of a head, as the sum over its 192 columns. -/
theorem lg_eq (h : Fin 8) (r s : ℕ) : lg (tQ q h) (cell k h) r s = ∑ d : Fin 192, tQ q h r d.val * cell k h s d.val := by
  unfold lg
  rw [sum_pad (fun d => cell k h s d * tQ q h r d) fun d h1 _ => by rw [cell_pad k h s d h1, zero_mul]]
  exact Finset.sum_congr rfl fun d _ => mul_comm _ _

theorem dots_at (H : Fin4 q k v o) (h : Fin 8) (r s : Fin 8192) : dots q k (ValueIdx.ix3 h r s) = ((lg (tQ q h) (cell k h) r.val s.val : ℝ) : EReal) := by
  rw [lg_eq, ← sum_mul_real (fun d : Fin 192 => sq q (ValueIdx.ix3 h r d)) (fun d => hk k (ValueIdx.ix3 h s d)) _ _ (fun d => sq_at H h r d) (fun d => hk_at H h s d)]
  unfold dots
  generalize sq q = a
  generalize hk k = b
  simp only [Host.dotGeneral]
  rw [Ideal.dotGeneral_apply]
  refine sum_contr _ 192 rfl rfl _ _ fun p d hp => ?_
  congr 1
  · refine congrArg a (funext fun i => Fin.ext ?_)
    match i with
    | ⟨0, _⟩ => show (dot_S8x8192x192_S8x8192x192_S8x8192x8192_2_2_1_1_0_0.lhsIdx _ p (0 : Fin S8x8192x192.rank)).val = _; unfold DotDims.lhsIdx; rw [dif_pos (show (0 : Fin S8x8192x192.rank) ∈ dot_S8x8192x192_S8x8192x192_S8x8192x8192_2_2_1_1_0_0.lhsBatch by decide)]; rfl
    | ⟨1, _⟩ => show (dot_S8x8192x192_S8x8192x192_S8x8192x8192_2_2_1_1_0_0.lhsIdx _ p (1 : Fin S8x8192x192.rank)).val = _; unfold DotDims.lhsIdx; rw [dif_neg (show ¬(1 : Fin S8x8192x192.rank) ∈ dot_S8x8192x192_S8x8192x192_S8x8192x8192_2_2_1_1_0_0.lhsBatch by decide), dif_pos (show (1 : Fin S8x8192x192.rank) ∈ dot_S8x8192x192_S8x8192x192_S8x8192x8192_2_2_1_1_0_0.lhsNonContracting by decide)]; rfl
    | ⟨2, _⟩ => exact (DotDims.lhsIdx_val_of_single _ rfl _ p).trans hp
  · refine congrArg b (funext fun i => Fin.ext ?_)
    match i with
    | ⟨0, _⟩ => show (dot_S8x8192x192_S8x8192x192_S8x8192x8192_2_2_1_1_0_0.rhsIdx _ p (0 : Fin S8x8192x192.rank)).val = _; unfold DotDims.rhsIdx; rw [dif_pos (show (0 : Fin S8x8192x192.rank) ∈ dot_S8x8192x192_S8x8192x192_S8x8192x8192_2_2_1_1_0_0.rhsBatch by decide)]; rfl
    | ⟨1, _⟩ => show (dot_S8x8192x192_S8x8192x192_S8x8192x8192_2_2_1_1_0_0.rhsIdx _ p (1 : Fin S8x8192x192.rank)).val = _; unfold DotDims.rhsIdx; rw [dif_neg (show ¬(1 : Fin S8x8192x192.rank) ∈ dot_S8x8192x192_S8x8192x192_S8x8192x8192_2_2_1_1_0_0.rhsBatch by decide), dif_pos (show (1 : Fin S8x8192x192.rank) ∈ dot_S8x8192x192_S8x8192x192_S8x8192x8192_2_2_1_1_0_0.rhsNonContracting by decide)]; rfl
    | ⟨2, _⟩ => exact (DotDims.rhsIdx_val_of_single _ rfl _ p).trans hp

theorem causal_at (h : Fin 8) (r s : Fin 8192) : causal (ValueIdx.ix3 h r s) = if s.val ≤ r.val then 1#1 else 0#1 := by
  show IntOp.cmpi .sle (BitVec.ofNat 32 s.val) (BitVec.ofNat 32 r.val) = _
  have e (n : Fin 8192) : (BitVec.ofNat 32 n.val).toInt = n.val := by
    rw [BitVec.toInt_eq_toNat_bmod, BitVec.toNat_ofNat]; simp only [Int.bmod]; omega
  simp only [IntOp.cmpi, BitVec.sle, e]
  by_cases g : s.val ≤ r.val
  · rw [if_pos g]; simp [g]
  · rw [if_neg g]; simp [g]

theorem scores_at (H : Fin4 q k v o) (h : Fin 8) (r s : Fin 8192) :
    scores q k (ValueIdx.ix3 h r s) = if s.val ≤ r.val then ((lg (tQ q h) (cell k h) r.val s.val : ℝ) : EReal) else ⊥ := by
  show Scalar.select (causal (ValueIdx.ix3 h r s)) (dots q k (ValueIdx.ix3 h r s)) (Ideal.ofBits .f32 0xFF800000#32) = _
  rw [causal_at, dots_at H, ofBits_bot]
  by_cases g : s.val ≤ r.val
  · rw [if_pos g, if_pos g]; rfl
  · rw [if_neg g, if_neg g]; rfl

/-- The largest score of a row is a real. -/
theorem top_at (H : Fin4 q k v o) (h : Fin 8) (r : Fin 8192) : ∃ μ : ℝ, top q k (ValueIdx.ix2 h r) = ((μ : ℝ) : EReal) := by
  obtain ⟨μ, e⟩ := row_max (fun s : Fin 8192 => scores q k (ValueIdx.ix3 h r s)) (fun s => lg (tQ q h) (cell k h) r.val s.val) r fun s => scores_at H h r s
  refine ⟨μ, Eq.trans ?_ e⟩
  unfold top
  rw [Host.reduce_eq_fold_single FloatOps.maximumf (scores q k) _ _ (by decide : S8x8192x8192.Reduces [2] S8x8192) h_S_]
  show Finset.univ.fold max (Ideal.ofBits .f32 0xFF800000#32) _ = _
  rw [ofBits_bot]
  refine congrArg (Finset.univ.fold max ⊥) (funext fun s => congrArg (scores q k) (funext fun a => Fin.ext ?_))
  match a with
  | ⟨0, _⟩ => rfl
  | ⟨1, _⟩ => rfl
  | ⟨2, _⟩ => rfl

theorem topCol_at (h : Fin 8) (r : Fin 8192) (z : Fin 1) : topCol q k (ValueIdx.ix3 h r z) = top q k (ValueIdx.ix2 h r) := by
  unfold topCol
  generalize top q k = x
  exact broadcastInDim_apply _ bcast_S8x8192_S8x8192x1_0_1 _ (ValueIdx.ix3 h r z) (ValueIdx.ix2 h r) (fun a => match a with | ⟨0, _⟩ => rfl | ⟨1, _⟩ => rfl)

theorem expo_eq (h : Fin 8) (r s : Fin 8192) : expo q k (ValueIdx.ix3 h r s) = Ideal.exp (scores q k (ValueIdx.ix3 h r s) - top q k (ValueIdx.ix2 h r)) := by
  rw [← topCol_at h r 0]
  unfold expo
  generalize topCol q k = x
  generalize scores q k = y
  refine congrArg (fun x => Ideal.exp (y _ - x)) ?_
  exact broadcastInDim_apply _ bcast_S8x8192x1_S8x8192x8192_0_1_2 _ (ValueIdx.ix3 h r s) (ValueIdx.ix3 h r 0) (fun a => match a with | ⟨0, _⟩ => rfl | ⟨1, _⟩ => rfl | ⟨2, _⟩ => rfl)

theorem expo_at (H : Fin4 q k v o) (h : Fin 8) (r : Fin 8192) (μ : ℝ) (e : top q k (ValueIdx.ix2 h r) = ((μ : ℝ) : EReal)) (s : Fin 8192) :
    expo q k (ValueIdx.ix3 h r s) = ((Real.exp (-μ) * num (lg (tQ q h) (cell k h) r.val) r.val s.val : ℝ) : EReal) := by
  rw [← shifted (lg (tQ q h) (cell k h) r.val) r.val s.val μ _ (scores_at H h r s), ← e]
  exact expo_eq h r s

theorem total_at (H : Fin4 q k v o) (h : Fin 8) (r : Fin 8192) (μ : ℝ) (e : top q k (ValueIdx.ix2 h r) = ((μ : ℝ) : EReal)) (z : Fin 1) :
    totalCol q k (ValueIdx.ix3 h r z) = ((Real.exp (-μ) * den (lg (tQ q h) (cell k h) r.val) r.val : ℝ) : EReal) := by
  rw [← shifted_sum, ← Finset.sum_congr rfl fun s _ => expo_at H h r μ e s]
  unfold totalCol
  generalize expo q k = x
  refine (broadcastInDim_apply _ bcast_S8x8192_S8x8192x1_0_1 _ (ValueIdx.ix3 h r z) (ValueIdx.ix2 h r) (fun a => match a with | ⟨0, _⟩ => rfl | ⟨1, _⟩ => rfl)).trans ?_
  simp only [Host.reduceAdd, Ideal.hostReduceAdd_def]
  rw [Ideal.hostReduceAdd_single reducesTo_S8x8192x8192_S8x8192_d2 (by decide)]
  show Ideal.ofBits .f32 0x00000000#32 + _ = _
  rw [Ideal.ofBits_zero_f32, zero_add]
  refine Finset.sum_congr rfl fun s _ => congrArg x (funext fun a => Fin.ext ?_)
  match a with
  | ⟨0, _⟩ => rfl
  | ⟨1, _⟩ => rfl
  | ⟨2, _⟩ => rfl

theorem log_add {s : Shape} (x y : FVec Ideal s .f32) (i : s.Idx) : addf x (Host.log y) i = x i + Ideal.log (y i) := rfl

theorem lse_eq (h : Fin 8) (r : Fin 8192) (z : Fin 1) :
    lseCol q k (ValueIdx.ix3 h r z) = topCol q k (ValueIdx.ix3 h r z) + Ideal.log (totalCol q k (ValueIdx.ix3 h r z)) := log_add _ _ _

/-- The saved statistic of a row is the logarithm of its softmax's denominator. -/
theorem lse_at (H : Fin4 q k v o) (h : Fin 8) (r : Fin 8192) (z : Fin 1) :
    lseCol q k (ValueIdx.ix3 h r z) = ((Real.log (den (lg (tQ q h) (cell k h) r.val) r.val) : ℝ) : EReal) := by
  obtain ⟨μ, e⟩ := top_at H h r
  rw [← log_of _ _ r.isLt μ, EReal.coe_add, ← e]
  rw [lse_eq, topCol_at, total_at H h r μ e z, Ideal.log_coe, if_neg (not_le.mpr (shifted_pos _ _ r.isLt μ))]

theorem out_at (H : Fin4 q k v o) (h : Fin 8) (r : Fin 8192) (d : Fin 128) :
    out q k v (ValueIdx.ix3 h r d) = ((∑ s : Fin 8192, soft (lg (tQ q h) (cell k h) r.val) r.val s.val * cell v h s.val d.val : ℝ) : EReal) := by
  obtain ⟨μ, e⟩ := top_at H h r
  have t : out q k v (ValueIdx.ix3 h r d) = Ideal.div (∑ s : Fin 8192, expo q k (ValueIdx.ix3 h r s) * hv v (ValueIdx.ix3 h s d)) (totalCol q k (ValueIdx.ix3 h r 0)) := by
    unfold out
    generalize expo q k = a
    generalize hv v = b
    generalize totalCol q k = y
    refine congrArg₂ Ideal.div ?_ (congrArg y (funext fun i => Fin.ext ?_))
    · simp only [Host.dotGeneral]
      rw [Ideal.dotGeneral_apply]
      refine sum_contr _ 8192 rfl rfl _ _ fun p s hp => ?_
      refine congrArg₂ (· * ·) ?_ ?_
      · refine congrArg a (funext fun i => Fin.ext ?_)
        match i with
        | ⟨0, _⟩ => show (dot_S8x8192x8192_S8x8192x128_S8x8192x128_2_1_1_2_0_0.lhsIdx _ p (0 : Fin S8x8192x8192.rank)).val = _; unfold DotDims.lhsIdx; rw [dif_pos (show (0 : Fin S8x8192x8192.rank) ∈ dot_S8x8192x8192_S8x8192x128_S8x8192x128_2_1_1_2_0_0.lhsBatch by decide)]; rfl
        | ⟨1, _⟩ => show (dot_S8x8192x8192_S8x8192x128_S8x8192x128_2_1_1_2_0_0.lhsIdx _ p (1 : Fin S8x8192x8192.rank)).val = _; unfold DotDims.lhsIdx; rw [dif_neg (show ¬(1 : Fin S8x8192x8192.rank) ∈ dot_S8x8192x8192_S8x8192x128_S8x8192x128_2_1_1_2_0_0.lhsBatch by decide), dif_pos (show (1 : Fin S8x8192x8192.rank) ∈ dot_S8x8192x8192_S8x8192x128_S8x8192x128_2_1_1_2_0_0.lhsNonContracting by decide)]; rfl
        | ⟨2, _⟩ => exact (DotDims.lhsIdx_val_of_single _ rfl _ p).trans hp
      · refine congrArg b (funext fun i => Fin.ext ?_)
        match i with
        | ⟨0, _⟩ => show (dot_S8x8192x8192_S8x8192x128_S8x8192x128_2_1_1_2_0_0.rhsIdx _ p (0 : Fin S8x8192x128.rank)).val = _; unfold DotDims.rhsIdx; rw [dif_pos (show (0 : Fin S8x8192x128.rank) ∈ dot_S8x8192x8192_S8x8192x128_S8x8192x128_2_1_1_2_0_0.rhsBatch by decide)]; rfl
        | ⟨1, _⟩ => exact (DotDims.rhsIdx_val_of_single _ rfl _ p).trans hp
        | ⟨2, _⟩ => show (dot_S8x8192x8192_S8x8192x128_S8x8192x128_2_1_1_2_0_0.rhsIdx _ p (2 : Fin S8x8192x128.rank)).val = _; unfold DotDims.rhsIdx; rw [dif_neg (show ¬(2 : Fin S8x8192x128.rank) ∈ dot_S8x8192x8192_S8x8192x128_S8x8192x128_2_1_1_2_0_0.rhsBatch by decide), dif_pos (show (2 : Fin S8x8192x128.rank) ∈ dot_S8x8192x8192_S8x8192x128_S8x8192x128_2_1_1_2_0_0.rhsNonContracting by decide)]; rfl
    · match i with
      | ⟨0, _⟩ => rfl
      | ⟨1, _⟩ => rfl
      | ⟨2, _⟩ => rfl
  rw [t, total_at H h r μ e, sum_mul_real _ _ _ _ (fun s => expo_at H h r μ e s) (fun s => hv_at H h s d), div_real _ _ (shifted_pos _ _ r.isLt μ).ne', Finset.sum_div]
  refine congrArg _ (Finset.sum_congr rfl fun s _ => ?_)
  rw [← soft_of _ _ _ r.isLt μ]
  ring

/-- The other saved statistic of a row is the softmax's mean of the products of the cotangent with the values. -/
theorem delta_at (H : Fin4 q k v o) (h : Fin 8) (r : Fin 8192) :
    deltas q k v o (ValueIdx.ix2 h r) = ((dlt (tQ q h) (cell k h) (cell v h) (cellO o h) r.val : ℝ) : EReal) := by
  have t : deltas q k v o (ValueIdx.ix2 h r) = ∑ d : Fin 128, ho o (ValueIdx.ix3 h r d) * out q k v (ValueIdx.ix3 h r d) := by
    unfold deltas
    simp only [Host.reduceAdd, Ideal.hostReduceAdd_def]
    rw [Ideal.hostReduceAdd_single reducesTo_S8x8192x128_S8x8192_d2 (by decide)]
    show Ideal.ofBits .f32 0x00000000#32 + _ = _
    rw [Ideal.ofBits_zero_f32, zero_add]
    generalize ho o = a
    generalize out q k v = b
    refine Finset.sum_congr rfl fun s _ => congrArg (fun i => a i * b i) (funext fun a => Fin.ext ?_)
    match a with
    | ⟨0, _⟩ => rfl
    | ⟨1, _⟩ => rfl
    | ⟨2, _⟩ => rfl
  rw [t, sum_mul_real _ _ _ _ (fun d => ho_at H h r d) (fun d => out_at H h r d)]
  refine congrArg _ ?_
  unfold dlt dp
  simp only [Finset.mul_sum]
  rw [Finset.sum_comm]
  exact Finset.sum_congr rfl fun s _ => Finset.sum_congr rfl fun d _ => by ring

end

end Flash
end
-- ==== Proof.Flash.Point.lean ====
/- One key block of a head: the running sums at the end of a grid point, and over the points of a head. -/
module

public import proofs.«01_k».proof.Proof.Flash.Head
public import proofs.«01_k».proof.Proof.Flash.Frame

@[expose] public section

set_option maxRecDepth 8192

noncomputable section

namespace Flash

open Idealize.ShloMosaic Idealize.ShloMosaic.TcCoe Idealize.ShloMosaic.ValueIdx Cert.Proof
open Cert.FlashIdeal Cert.FlashIdeal.Gen

/-- What a grid point's blocks hold of a head: all queries, output gradients and row statistics, and key block `j`. -/
structure Reads (H : Head) (j : ℕ) (x2 : Vec Ideal S1x8192x256 .bf16) (x3 : Vec Ideal S8192x128 .bf16) (x4 x5 : Vec Ideal S1x8x1x1024 .f32)
    (x6 : Vec Ideal S1x1024x256 .bf16) (x7 : Vec Ideal S1x1024x128 .bf16) : Prop where
  q : ∀ (r : Fin 8192) (d : Fin 256), x2 (ValueIdx.ix3 0 r d) = ((H.Q r.val d.val : ℝ) : EReal)
  d : ∀ (r : Fin 8192) (d : Fin 128), x3 (ValueIdx.ix2 r d) = ((H.D r.val d.val : ℝ) : EReal)
  l : ∀ (n : Fin 8) (b : Fin 1024), x4 (ValueIdx.ix4 0 n 0 b) = ((H.lse (1024 * n.val + b.val) : ℝ) : EReal)
  dl : ∀ (n : Fin 8) (b : Fin 1024), x5 (ValueIdx.ix4 0 n 0 b) = ((H.delta (1024 * n.val + b.val) : ℝ) : EReal)
  k : ∀ (a : Fin 1024) (d : Fin 256), x6 (ValueIdx.ix3 0 a d) = ((H.K (1024 * j + a.val) d.val : ℝ) : EReal)
  v : ∀ (a : Fin 1024) (d : Fin 128), x7 (ValueIdx.ix3 0 a d) = ((H.V (1024 * j + a.val) d.val : ℝ) : EReal)

/-- Tile `n` of the queries, and of a row statistic, at an index. -/
theorem tq_at (x : Vec Ideal S1x8192x256 .bf16) (n : Fin 8) (b : Fin 1024) (d : Fin 256) :
    tq x n (ValueIdx.ix3 0 b d) = x (ValueIdx.ix3 0 ⟨1024 * n.val + b.val, by omega⟩ d) := by
  unfold tq VecWindow.window
  refine congrArg x (funext fun a => Fin.ext ?_)
  match a with
  | ⟨0, _⟩ => rfl
  | ⟨1, _⟩ => show 1024 * n.val + 1 * b.val = 1024 * n.val + b.val; omega
  | ⟨2, _⟩ => show 0 + 1 * d.val = d.val; omega

theorem tl_at (x : Vec Ideal S1x8x1x1024 .f32) (n : Fin 8) (b : Fin 1024) : tl x n (ValueIdx.ix4 0 0 0 b) = x (ValueIdx.ix4 0 n 0 b) := by
  unfold tl VecWindow.window
  refine congrArg x (funext fun a => Fin.ext ?_)
  match a with
  | ⟨0, _⟩ => rfl
  | ⟨1, _⟩ => show n.val + 1 * 0 = n.val; omega
  | ⟨2, _⟩ => rfl
  | ⟨3, _⟩ => show 0 + 1 * b.val = b.val; omega

section
variable {H : Head} {j : Fin 8} {x2 : Vec Ideal S1x8192x256 .bf16} {x3 : Vec Ideal S8192x128 .bf16} {x4 x5 : Vec Ideal S1x8x1x1024 .f32}
  {x6 : Vec Ideal S1x1024x256 .bf16} {x7 : Vec Ideal S1x1024x128 .bf16} (h : Reads H j.val x2 x3 x4 x5 x6 x7)
include h

/-- Tile `n` of the queries against the key block. -/
theorem Reads.tile (n : Fin 8) : Tile H (1024 * j.val) (1024 * n.val) (k0_pay19 x6) (k0_pay20 x7) (tq x2 n) (td x3 n) (tl x4 n) (tl x5 n) where
  k a d := (shapeCast_1ab_ab_apply x6 _ a d).trans (h.k a d)
  v a d := (shapeCast_1ab_ab_apply x7 _ a d).trans (h.v a d)
  q b d := (tq_at x2 n b d).trans (h.q ⟨1024 * n.val + b.val, by omega⟩ d)
  d b d := (congrArg x3 (idx2_ext (j := ValueIdx.ix2 (⟨1024 * n.val + b.val, by omega⟩ : Fin 8192) d)
    (by show 1024 * n.val + 1 * b.val = 1024 * n.val + b.val; omega) (by show 0 + 1 * d.val = d.val; omega))).trans (h.d ⟨1024 * n.val + b.val, by omega⟩ d)
  l b := (tl_at x4 n b).trans (h.l n b)
  dl b := (tl_at x5 n b).trans (h.dl n b)

/-- The sums before the first tile: no query below the block has a weight in it, so nothing is missing. -/
theorem Reads.start (A : Vec Ideal S8192x256 .f32) (hA : j.val ≠ 0 → ∀ (r : Fin 8192) (d : Fin 256), A (ValueIdx.ix2 r d) = ((H.dq (1024 * j.val) r.val d.val : ℝ) : EReal)) :
    Holds H j.val j.val ((k0_pay21 (F := Ideal), k0_pay22 (F := Ideal)), start j A) where
  dk a d := by
    rw [H.dk_zero (by omega)]
    exact Ideal.ofBits_zero_f32
  dv a d := by
    rw [H.dv_zero (by omega)]
    exact Ideal.ofBits_zero_f32
  dq r d := by
    have e : (H.dq (1024 * if r.val < 1024 * j.val then j.val + 1 else j.val) r.val d.val) = H.dq (1024 * j.val) r.val d.val := by
      by_cases hr : r.val < 1024 * j.val
      · rw [if_pos hr, Nat.mul_add]; exact H.dq_more hr 1024 d.val
      · rw [if_neg hr]
    rw [e]
    unfold Flash.start
    by_cases hj : j.val = 0
    · rw [if_pos hj, hj]
      unfold k0_pay18
      dsimp only
      rw [shapeCast_self]
      exact Ideal.ofBits_zero_f32
    · rw [if_neg hj]; exact hA hj r d

/-- The sums after the diagonal tile. -/
theorem Reads.first (A : Vec Ideal S8192x256 .f32) (hA : Holds H j.val j.val ((k0_pay21 (F := Ideal), k0_pay22 (F := Ideal)), A)) :
    Holds H j.val (j.val + 1) (first x2 x3 x4 x5 x6 x7 j A) :=
  hA.step (h.tile j) (truncf .bf16 (k0_pay25 (F := Ideal) (BitVec.ofNat 32 j.val) (k0_pay19 x6) (BitVec.ofNat 32 j.val) (k0_pay23 (tq x2 j)) (tl x4 j)) bitsLt_bf16_f32) _
    (h.tile j).weights' (h.tile j).grads'

/-- The sums after a later tile. -/
theorem Reads.later (n : Fin 8) (hn : j.val < n.val) (s : Sums Ideal) (hs : Holds H j.val n.val s) :
    Holds H j.val (n.val + 1) (Flash.tile x2 x3 x4 x5 (k0_pay19 x6) (k0_pay20 x7) n s) :=
  hs.step (h.tile n) (truncf .bf16 (k0_pay3 (F := Ideal) (k0_pay19 x6) (tq x2 n) (tl x4 n)) bitsLt_bf16_f32) _
    ((h.tile n).weights (by omega)) ((h.tile n).grads (by omega))

/-- The sums after `k` later tiles. -/
theorem Reads.tiles (s : Sums Ideal) (hs : Holds H j.val (j.val + 1) s) (k : ℕ) (hk : j.val + 1 + k ≤ 8) :
    Holds H j.val (j.val + 1 + k) (Flash.tiles x2 x3 x4 x5 (k0_pay19 x6) (k0_pay20 x7) j.val s k) := by
  induction k with
  | zero => exact hs
  | succ k ih =>
    show Holds H j.val (j.val + 1 + k + 1) (if g : j.val + 1 + k < 8 then _ else _)
    rw [dif_pos (by omega)]
    exact h.later ⟨j.val + 1 + k, by omega⟩ (by show j.val < j.val + 1 + k; omega) _ (ih (by omega))

/-- The sums at the end of the point. -/
theorem Reads.point (A : Vec Ideal S8192x256 .f32) (hA : j.val ≠ 0 → ∀ (r : Fin 8192) (d : Fin 256), A (ValueIdx.ix2 r d) = ((H.dq (1024 * j.val) r.val d.val : ℝ) : EReal)) :
    Holds H j.val 8 (Flash.point x2 x3 x4 x5 x6 x7 j A) := by
  have k := h.tiles _ (h.first _ (h.start A hA)) (7 - j.val) (by omega)
  rw [show j.val + 1 + (7 - j.val) = 8 by omega] at k
  exact k
end

/-- Every row of the query gradient has the block's keys once all the tiles are in. -/
theorem Holds.row {H : Head} {j : ℕ} {s : Sums Ideal} (hs : Holds H j 8 s) (r : Fin 8192) (d : Fin 256) : s.2 (ValueIdx.ix2 r d) = ((H.dq (1024 * (j + 1)) r.val d.val : ℝ) : EReal) := by
  rw [hs.dq, if_pos (by omega)]

section
variable (m : (l : Loc nD τ sig) → BufTy.Contents (Elt Ideal) l.ty) (c : Dev nD) (H : ℕ → Head)
  (h : ∀ t : Fin cfg0.N, Reads (H (t.val / 8)) (t.val % 8) (iblk m c 0 t) (iblk m c 1 t) (iblk m c 2 t) (iblk m c 3 t) (iblk m c 4 t) (iblk m c 5 t))
include h

/-- The sums at the end of every point of the grid. -/
theorem sums_at (n : ℕ) (hn : n < cfg0.N) : Holds (H (n / 8)) (n % 8) 8 (pointAt m c ⟨n, hn⟩ (dqAt m c n (Nat.le_of_lt hn))) := by
  have hj : (grid0.coords ⟨n, hn⟩ 1).val = n % 8 := coord1 ⟨n, hn⟩
  have k := h ⟨n, hn⟩
  dsimp only at k
  rw [← hj] at k ⊢
  refine k.point _ fun h0 r d => ?_
  rw [hj] at h0 ⊢
  match n, hn, h0 with
  | n + 1, hn, h0 =>
    have := (sums_at n (Nat.lt_of_succ_lt hn)).row r d
    rw [show (n + 1) / 8 = n / 8 by omega, show (n + 1) % 8 = n % 8 + 1 by omega]
    exact this
end

end Flash
end
-- ==== Proof.Flash.Blocks.lean ====
/- The blocks the attention gradient's body reads at a point, and that they hold a head of finite entries with the statistics of its softmax. -/
module

public import proofs.«01_k».proof.Proof.Flash.Stats
public import proofs.«01_k».proof.Proof.Flash.Point

@[expose] public section

set_option maxRecDepth 8192

noncomputable section

namespace Flash

open Idealize.ShloMosaic Idealize.ShloMosaic.TcCoe Cert.Proof
open Cert.FlashIdeal Cert.FlashIdeal.Gen

theorem idxs : ∀ t : Fin cfg0.N,
    (win0_0.index t (0 : Fin 3) = t.val / 8 ∧ win0_0.index t (1 : Fin 3) = 0 ∧ win0_0.index t (2 : Fin 3) = 0)
    ∧ (win0_1.index t (0 : Fin 2) = 0 ∧ win0_1.index t (1 : Fin 2) = t.val / 8)
    ∧ (win0_2.index t (0 : Fin 4) = t.val / 8 ∧ win0_2.index t (1 : Fin 4) = 0 ∧ win0_2.index t (2 : Fin 4) = 0 ∧ win0_2.index t (3 : Fin 4) = 0)
    ∧ (win0_3.index t (0 : Fin 4) = t.val / 8 ∧ win0_3.index t (1 : Fin 4) = 0 ∧ win0_3.index t (2 : Fin 4) = 0 ∧ win0_3.index t (3 : Fin 4) = 0)
    ∧ (win0_4.index t (0 : Fin 3) = t.val / 8 ∧ win0_4.index t (1 : Fin 3) = t.val % 8 ∧ win0_4.index t (2 : Fin 3) = 0)
    ∧ (win0_5.index t (0 : Fin 3) = t.val / 8 ∧ win0_5.index t (1 : Fin 3) = t.val % 8 ∧ win0_5.index t (2 : Fin 3) = 0)
    ∧ (win0_6.index t (0 : Fin 3) = t.val / 8 ∧ win0_6.index t (1 : Fin 3) = 0 ∧ win0_6.index t (2 : Fin 3) = 0)
    ∧ (win0_7.index t (0 : Fin 3) = t.val / 8 ∧ win0_7.index t (1 : Fin 3) = t.val % 8 ∧ win0_7.index t (2 : Fin 3) = 0)
    ∧ (win0_8.index t (0 : Fin 3) = t.val / 8 ∧ win0_8.index t (1 : Fin 3) = t.val % 8 ∧ win0_8.index t (2 : Fin 3) = 0) :=
  (by decide +kernel : ∀ t : Fin grid0.N, _)

/-- The head of a point. -/
def hd (t : Fin cfg0.N) : Fin 8 := ⟨t.val / 8, by have h : t.val < grid0.N := t.isLt; rw [N_0] at h; omega⟩

/-- Row `a` of the tile of keys at point `t`. -/
def key (t : Fin cfg0.N) (a : Fin 1024) : Fin 8192 := ⟨1024 * (t.val % 8) + a.val, by omega⟩

/-- A block of a stack of matrices: block `(a, b, d)` of blocks of one size. -/
theorem blk3 {N W P n w p a b d : ℕ} (i : (⟨3, ![N, W, P]⟩ : Shape).Idx) (j : (⟨3, ![n, w, p]⟩ : Shape).Idx) (x : Fin N) (y : Fin W) (z : Fin P) {a' b' d' : ℕ}
    (e : a = a' ∧ b = b' ∧ d = d') (h0 : (i 0).val = a * n + 1 * (j 0).val) (h1 : (i 1).val = b * w + 1 * (j 1).val) (h2 : (i 2).val = d * p + 1 * (j 2).val)
    (hx : a' * n + 1 * (j 0).val = x.val) (hy : b' * w + 1 * (j 1).val = y.val) (hz : d' * p + 1 * (j 2).val = z.val) : i = ValueIdx.ix3 x y z := by
  obtain ⟨rfl, rfl, rfl⟩ := e
  funext k; apply Fin.ext
  match k with
  | ⟨0, _⟩ => exact h0.trans hx
  | ⟨1, _⟩ => exact h1.trans hy
  | ⟨2, _⟩ => exact h2.trans hz

section
variable {F : FTy → Type} [FloatOps F] (m : (ℓ : Loc nD τ sig) → Buf (Elt F) ℓ) (c : Dev nD) (t : Fin cfg0.N)

theorem iblk0_at (r : Fin 8192) (d : Fin 256) : iblk m c 0 t (ValueIdx.ix3 0 r d) = V m c main_v32 (ValueIdx.ix3 (hd t) r d) := by
  unfold iblk
  generalize V m c = X
  exact congrArg (X main_v32) (blk3 _ (ValueIdx.ix3 (0 : Fin 1) r d) (hd t) r d (idxs t).1 rfl rfl rfl
    (by show t.val / 8 * 1 + 1 * 0 = t.val / 8; omega) (by show 0 * 8192 + 1 * r.val = r.val; omega) (by show 0 * 256 + 1 * d.val = d.val; omega))

theorem iblk4_at (a : Fin 1024) (d : Fin 256) : iblk m c 4 t (ValueIdx.ix3 0 a d) = V m c main_v34 (ValueIdx.ix3 (hd t) (key t a) d) := by
  unfold iblk
  generalize V m c = X
  exact congrArg (X main_v34) (blk3 _ (ValueIdx.ix3 (0 : Fin 1) a d) (hd t) (key t a) d (idxs t).2.2.2.2.1 rfl rfl rfl
    (by show t.val / 8 * 1 + 1 * 0 = t.val / 8; omega) (by show t.val % 8 * 1024 + 1 * a.val = 1024 * (t.val % 8) + a.val; omega) (by show 0 * 256 + 1 * d.val = d.val; omega))

theorem iblk5_at (a : Fin 1024) (d : Fin 128) : iblk m c 5 t (ValueIdx.ix3 0 a d) = V m c main_v35 (ValueIdx.ix3 (hd t) (key t a) d) := by
  unfold iblk
  generalize V m c = X
  exact congrArg (X main_v35) (blk3 _ (ValueIdx.ix3 (0 : Fin 1) a d) (hd t) (key t a) d (idxs t).2.2.2.2.2.1 rfl rfl rfl
    (by show t.val / 8 * 1 + 1 * 0 = t.val / 8; omega) (by show t.val % 8 * 1024 + 1 * a.val = 1024 * (t.val % 8) + a.val; omega) (by show 0 * 128 + 1 * d.val = d.val; omega))

theorem iblk1_at (r : Fin 8192) (d : Fin 128) : iblk m c 1 t (ValueIdx.ix2 r d) = V m c main_v36 (ValueIdx.ix2 r ⟨128 * (hd t).val + d.val, by omega⟩) := by
  unfold iblk
  generalize V m c = X
  refine congrArg (X main_v36) (idx2_ext ?_ ?_)
  · show win0_1.index t (0 : Fin 2) * 8192 + 1 * r.val = r.val
    rw [(idxs t).2.1.1]; omega
  · show win0_1.index t (1 : Fin 2) * 128 + 1 * d.val = 128 * (t.val / 8) + d.val
    rw [(idxs t).2.1.2]; omega

theorem iblk2_at (n : Fin 8) (b : Fin 1024) : iblk m c 2 t (ValueIdx.ix4 0 n 0 b) = V m c main_v25 (ValueIdx.ix4 (hd t) n 0 b) := by
  unfold iblk
  generalize V m c = X
  refine congrArg (X main_v25) (funext fun a => Fin.ext ?_)
  obtain ⟨e0, e1, e2, e3⟩ := (idxs t).2.2.1
  match a with
  | ⟨0, _⟩ => show win0_2.index t (0 : Fin 4) * 1 + 1 * 0 = t.val / 8; rw [e0]; omega
  | ⟨1, _⟩ => show win0_2.index t (1 : Fin 4) * 8 + 1 * n.val = n.val; rw [e1]; omega
  | ⟨2, _⟩ => show win0_2.index t (2 : Fin 4) * 1 + 1 * 0 = 0; rw [e2]
  | ⟨3, _⟩ => show win0_2.index t (3 : Fin 4) * 1024 + 1 * b.val = b.val; rw [e3]; omega

theorem iblk3_at (n : Fin 8) (b : Fin 1024) : iblk m c 3 t (ValueIdx.ix4 0 n 0 b) = V m c main_v30 (ValueIdx.ix4 (hd t) n 0 b) := by
  unfold iblk
  generalize V m c = X
  refine congrArg (X main_v30) (funext fun a => Fin.ext ?_)
  obtain ⟨e0, e1, e2, e3⟩ := (idxs t).2.2.2.1
  match a with
  | ⟨0, _⟩ => show win0_3.index t (0 : Fin 4) * 1 + 1 * 0 = t.val / 8; rw [e0]; omega
  | ⟨1, _⟩ => show win0_3.index t (1 : Fin 4) * 8 + 1 * n.val = n.val; rw [e1]; omega
  | ⟨2, _⟩ => show win0_3.index t (2 : Fin 4) * 1 + 1 * 0 = 0; rw [e2]
  | ⟨3, _⟩ => show win0_3.index t (3 : Fin 4) * 1024 + 1 * b.val = b.val; rw [e3]; omega
end

/-! ## What they hold -/

/-- A padded head: its 192 columns, then zeros. -/
theorem padded_at (x : FVec Ideal S8x8192x192 .f32) (f : Fin 8 → ℕ → ℕ → ℝ) (hx : ∀ (h : Fin 8) (r : Fin 8192) (d : Fin 192), x (ValueIdx.ix3 h r d) = ((f h r.val d.val : ℝ) : EReal))
    (h0 : ∀ h r d, 192 ≤ d → f h r d = 0) (h : Fin 8) (r : Fin 8192) (d : Fin 256) : padded x (ValueIdx.ix3 h r d) = ((f h r.val d.val : ℝ) : EReal) := by
  unfold padded
  rw [truncf_apply]
  by_cases g : d.val < 192
  · refine (pad_apply_of_inside _ _ _ x _ _ _ (ValueIdx.ix3 h r d) (ValueIdx.ix3 h r ⟨d.val, g⟩) fun a => ?_).trans (hx h r ⟨d.val, g⟩)
    match a with
    | ⟨0, _⟩ => show h.val = 0 + h.val * 1; omega
    | ⟨1, _⟩ => show r.val = 0 + r.val * 1; omega
    | ⟨2, _⟩ => show d.val = 0 + d.val * 1; omega
  · rw [h0 h r.val d.val (by omega)]
    refine (pad_apply_of_not_inside _ _ _ x _ _ _ (ValueIdx.ix3 h r d) (2 : Fin 3) ?_).trans ?_
    · show ¬(0 ≤ d.val ∧ (d.val - 0) % (0 + 1) = 0 ∧ (d.val - 0) / (0 + 1) < 192)
      omega
    · show ((((0#32 : BitVec 32).toInt : ℤ) : ℝ) : EReal) = ((0 : ℝ) : EReal)
      simp

section
variable {q k : FVec Ideal S8192x8x192 .f32} {v : FVec Ideal S8192x8x128 .f32} {o : FVec Ideal S8192x1024 .f32}

theorem stat_lse (H : Fin4 q k v o) (h : Fin 8) (n : Fin 8) (b : Fin 1024) :
    shapeCast S8x8x1x1024 (lseCol q k) shapeCasts_S8x8192x1_S8x8x1x1024 (ValueIdx.ix4 h n 0 b) = (((head q k v o h).lse (1024 * n.val + b.val) : ℝ) : EReal) := by
  refine Eq.trans ?_ (lse_at H h ⟨1024 * n.val + b.val, by omega⟩ 0)
  generalize lseCol q k = x
  exact shapeCast_apply x _ _ (ValueIdx.ix3 h ⟨1024 * n.val + b.val, by omega⟩ 0) (by
    rw [Shape.rowMajor_val_four, Shape.rowMajor_val_three]
    show (h.val * 8192 + (1024 * n.val + b.val)) * 1 + 0 = ((h.val * 8 + n.val) * 1 + 0) * 1024 + b.val; omega)

theorem head_delta (h : Fin 8) : (head q k v o h).delta = dlt (tQ q h) (cell k h) (cell v h) (cellO o h) := by
  unfold head headOf
  dsimp only

theorem stat_delta (H : Fin4 q k v o) (h : Fin 8) (n : Fin 8) (b : Fin 1024) :
    shapeCast S8x8x1x1024 (deltas q k v o) shapeCasts_S8x8192_S8x8x1x1024 (ValueIdx.ix4 h n 0 b) = (((head q k v o h).delta (1024 * n.val + b.val) : ℝ) : EReal) := by
  rw [head_delta]
  refine Eq.trans ?_ (delta_at H h ⟨1024 * n.val + b.val, by omega⟩)
  generalize deltas q k v o = x
  exact shapeCast_apply x _ _ (ValueIdx.ix2 h ⟨1024 * n.val + b.val, by omega⟩) (by
    rw [Shape.rowMajor_val_four, Shape.rowMajor_val_two]
    show h.val * 8192 + (1024 * n.val + b.val) = ((h.val * 8 + n.val) * 1 + 0) * 1024 + b.val; omega)
end

section
variable (m : (l : Loc nD τ sig) → BufTy.Contents (Elt Ideal) l.ty) (c : Dev nD)

/-- Every point's blocks hold its head. -/
theorem reads (H : Fin4 (argQ m c) (argK m c) (argV m c) (argO m c)) (t : Fin cfg0.N) :
    Reads (head (argQ m c) (argK m c) (argV m c) (argO m c) (hd t)) (t.val % 8) (iblk m c 0 t) (iblk m c 1 t) (iblk m c 2 t) (iblk m c 3 t) (iblk m c 4 t) (iblk m c 5 t) where
  q r d := by
    rw [iblk0_at, Vq]
    exact padded_at _ (fun h => tQ (argQ m c) h) (fun h r d => sq_at H h r d) (fun h r d hd => by unfold tQ; rw [cell_pad _ _ _ _ hd, zero_mul]) (hd t) r d
  d r d := by
    rw [iblk1_at, Vo, truncf_apply]
    exact cellO_at _ H.o r (hd t) d _ rfl
  l n b := by
    rw [iblk2_at, Vlse]
    exact stat_lse H (hd t) n b
  dl n b := by
    rw [iblk3_at, Vdelta]
    exact stat_delta H (hd t) n b
  k a d := by
    rw [iblk4_at, Vk]
    exact padded_at _ (fun h => cell (argK m c) h) (fun h r d => hk_at H h r d) (fun h r d hd => cell_pad _ _ _ _ hd) (hd t) (key t a) d
  v a d := by
    rw [iblk5_at, Vv, truncf_apply]
    exact hv_at H (hd t) (key t a) d
end

end Flash
end
-- ==== Proof.Flash.Ref.lean ====
/- The reference's entries, over the reals: a softmax, its gradient, and the gradients of the scaled queries, the keys and the values. -/
module

public import proofs.«01_k».proof.Proof.Flash.Stats
public import proofs.«01_k».proof.Proof.Gen.FlashRefIdeal.Read

@[expose] public section

set_option maxRecDepth 8192

noncomputable section

namespace Flash

open Idealize.ShloMosaic Idealize.ShloMosaic.TcCoe Cert.Proof
open Cert.FlashRefIdeal.Read

theorem ext3 {n w p : ℕ} {i : (⟨3, ![n, w, p]⟩ : Shape).Idx} {a : Fin n} {b : Fin w} {d : Fin p} (h0 : (i 0).val = a.val) (h1 : (i 1).val = b.val) (h2 : (i 2).val = d.val) :
    i = ValueIdx.ix3 a b d := by
  funext k; apply Fin.ext
  match k with
  | ⟨0, _⟩ => exact h0
  | ⟨1, _⟩ => exact h1
  | ⟨2, _⟩ => exact h2

theorem ext2 {n w : ℕ} {i : (⟨2, ![n, w]⟩ : Shape).Idx} {a : Fin n} {b : Fin w} (h0 : (i 0).val = a.val) (h1 : (i 1).val = b.val) : i = ValueIdx.ix2 a b := idx2_ext h0 h1

variable {q k : FVec Ideal Cert.FlashIdeal.S8192x8x192 .f32} {v : FVec Ideal Cert.FlashIdeal.S8192x8x128 .f32} {o : FVec Ideal Cert.FlashIdeal.S8192x1024 .f32}

/-! ## The softmax -/

theorem ref_logit (H : Fin4 q k v o) (h : Fin 8) (r s : Fin 8192) :
    val_main_v2 (F := Ideal) q k (ValueIdx.ix3 h r s) = ((lg (tQ q h) (cell k h) r.val s.val : ℝ) : EReal) := by
  rw [val_main_v2_apply, val_main_v1_apply, val_main_cst_apply, Ideal.ofBits_def, scale_eq, Ideal.mulf_def, val_main_v0_apply]
  rw [sum_mul_real _ _ (fun d : Fin 192 => cell q h r.val d.val) (fun d => cell k h s.val d.val)
    (fun d => by rw [show lidx_main_v0 (ValueIdx.ix3 h r s) d = ValueIdx.ix3 r h d from ext3 rfl rfl rfl]; exact cell_at q H.q r h d)
    (fun d => by rw [show ridx_main_v0 (ValueIdx.ix3 h r s) d = ValueIdx.ix3 s h d from ext3 rfl rfl rfl]; exact cell_at k H.k s h d)]
  rw [← EReal.coe_mul, lg_eq, Finset.sum_mul]
  refine congrArg _ (Finset.sum_congr rfl fun d _ => ?_)
  unfold tQ
  ring

theorem ref_mask (h : Fin 8) (r s : Fin 8192) : val_main_v10_1 (F := Ideal) (ValueIdx.ix3 h r s) = if s.val ≤ r.val then 1#1 else 0#1 := by
  rw [val_main_v10_1_apply, val_main_v9_apply, val_main_v8_apply, val_main_v6_apply, val_main_v7_apply, val_main_v4_apply, val_main_v5_apply, val_main_v3_apply, val_main_v3_apply]
  exact causal_at h r s

theorem ref_score (H : Fin4 q k v o) (h : Fin 8) (r s : Fin 8192) :
    val_main_v10_0 (F := Ideal) q k (ValueIdx.ix3 h r s) = if s.val ≤ r.val then ((lg (tQ q h) (cell k h) r.val s.val : ℝ) : EReal) else ⊥ := by
  rw [val_main_v10_0_apply, ref_mask, ref_logit H, val_main_call0_v2_apply, val_main_call0_v0_apply, val_main_cst_0_apply, Ideal.ofBits_def, ofBits_bot]
  by_cases g : s.val ≤ r.val
  · rw [if_pos g, if_pos g]; rfl
  · rw [if_neg g, if_neg g]; rfl

theorem ref_top (H : Fin4 q k v o) (h : Fin 8) (r : Fin 8192) : ∃ μ : ℝ, val_main_v18 (F := Ideal) q k (ValueIdx.ix2 h r) = ((μ : ℝ) : EReal) := by
  obtain ⟨μ, e⟩ := row_max (fun s : Fin 8192 => val_main_v10_0 (F := Ideal) q k (ValueIdx.ix3 h r s)) (fun s => lg (tQ q h) (cell k h) r.val s.val) r fun s => ref_score H h r s
  refine ⟨μ, Eq.trans ?_ e⟩
  rw [val_main_v18_apply, val_main_v17_apply, val_main_cst_3_apply, Ideal.ofBits_def, ofBits_bot, Ideal.maximumf_def, max_eq_right bot_le]
  unfold val_main_v11
  generalize val_main_v10_0 (F := Ideal) q k = x
  refine (Host.reduce_eq_fold_single (FloatOps.maximumf (F := Ideal) (φ := .f32)) x (val_main_cst_1 (F := Ideal)) Cert.FlashRefIdeal.Gen.reducesTo_S8x8192x8192_S8x8192_d2
    (by decide : Cert.FlashRefIdeal.S8x8192x8192.Reduces [2] Cert.FlashRefIdeal.S8x8192) Cert.FlashRefIdeal.Gen.h_S_ (ValueIdx.ix2 h r)).trans ?_
  show Finset.univ.fold max (Ideal.ofBits .f32 0xFF800000#32) _ = _
  rw [ofBits_bot]
  exact congrArg (Finset.univ.fold max ⊥) (funext fun s => congrArg x (ext3 rfl rfl rfl))

section
variable (H : Fin4 q k v o) (h : Fin 8) (r : Fin 8192) (μ : ℝ) (e : val_main_v18 (F := Ideal) q k (ValueIdx.ix2 h r) = ((μ : ℝ) : EReal))
include H e

theorem ref_exp (s : Fin 8192) : val_main_v31 (F := Ideal) q k (ValueIdx.ix3 h r s) = ((Real.exp (-μ) * num (lg (tQ q h) (cell k h) r.val) r.val s.val : ℝ) : EReal) := by
  rw [← shifted (lg (tQ q h) (cell k h) r.val) r.val s.val μ _ (ref_score H h r s), ← e]
  rw [val_main_v31_apply, Ideal.hostUnary_exp_def, val_main_v30_apply, Ideal.subf_def, val_main_v29_apply, val_main_v28_apply,
    show idx_main_v28 (idx_main_v29 (ValueIdx.ix3 h r s)) = ValueIdx.ix2 h r from ext2 rfl rfl]

theorem ref_total : val_main_v32 (F := Ideal) q k (ValueIdx.ix2 h r) = ((Real.exp (-μ) * den (lg (tQ q h) (cell k h) r.val) r.val : ℝ) : EReal) := by
  rw [val_main_v32_apply, val_main_cst_9_apply, Ideal.ofBits_def, Ideal.ofBits_zero_f32, zero_add, ← shifted_sum]
  exact Finset.sum_congr rfl fun s _ => by rw [show idx_main_v32 (ValueIdx.ix2 h r) s = ValueIdx.ix3 h r s from ext3 rfl rfl rfl]; exact ref_exp H h r μ e s

theorem ref_totalCol : val_main_v33 (F := Ideal) q k (ValueIdx.ix3 h r 0) = ((Real.exp (-μ) * den (lg (tQ q h) (cell k h) r.val) r.val : ℝ) : EReal) := by
  rw [val_main_v33_apply, show idx_main_v33 (ValueIdx.ix3 h r 0) = ValueIdx.ix2 h r from ext2 rfl rfl]
  exact ref_total H h r μ e
end

theorem ref_soft (H : Fin4 q k v o) (h : Fin 8) (r s : Fin 8192) :
    val_main_v35 (F := Ideal) q k (ValueIdx.ix3 h r s) = ((soft (lg (tQ q h) (cell k h) r.val) r.val s.val : ℝ) : EReal) := by
  obtain ⟨μ, e⟩ := ref_top H h r
  rw [val_main_v35_apply, val_main_v34_apply, show idx_main_v34 (ValueIdx.ix3 h r s) = ValueIdx.ix3 h r 0 from ext3 rfl rfl rfl, ref_totalCol H h r μ e, ref_exp H h r μ e,
    ← soft_of _ _ _ r.isLt μ]
  exact div_real _ _ (shifted_pos _ _ r.isLt μ).ne'

/-! ## Its gradient -/

theorem ref_do (H : Fin4 q k v o) (h : Fin 8) (d : Fin 128) (r : Fin 8192) : val_main_v43 (F := Ideal) o (ValueIdx.ix3 h d r) = ((cellO o h r.val d.val : ℝ) : EReal) := by
  rw [val_main_v43_apply, val_main_v42_apply]
  rw [show idx_main_v42 (idx_main_v43 (ValueIdx.ix3 h d r)) = ValueIdx.ix2 r ⟨128 * h.val + d.val, by omega⟩ from ext2
    (by show ((r.val * 8 + h.val) * 128 + d.val) / 1024 = r.val; omega) (by show ((r.val * 8 + h.val) * 128 + d.val) % 1024 = 128 * h.val + d.val; omega)]
  exact cellO_at o H.o r h d _ rfl

theorem ref_dp (H : Fin4 q k v o) (h : Fin 8) (r s : Fin 8192) :
    val_main_v44 (F := Ideal) v o (ValueIdx.ix3 h r s) = ((dp (cell v h) (cellO o h) r.val s.val : ℝ) : EReal) := by
  rw [val_main_v44_apply, sum_mul_real _ _ (fun d : Fin 128 => cellO o h r.val d.val) (fun d => cell v h s.val d.val)
    (fun d => by rw [show lidx_main_v44 (ValueIdx.ix3 h r s) d = ValueIdx.ix3 h d r from ext3 rfl rfl rfl]; exact ref_do H h d r)
    (fun d => by rw [show ridx_main_v44 (ValueIdx.ix3 h r s) d = ValueIdx.ix3 s h d from ext3 rfl rfl rfl]; exact cell_at v H.v s h d)]
  unfold dp
  exact congrArg _ (Finset.sum_congr rfl fun d _ => mul_comm _ _)

/-- The quotient's gradient: the product with the exponential over the total, less the mean. -/
theorem quotient (P E : Fin 8192 → ℝ) (L : ℝ) (hL : L ≠ 0) (s : Fin 8192) :
    (P s / L + -∑ j, P j * (1 / (L * L)) * E j) * E s = E s / L * (P s - ∑ j, E j / L * P j) := by
  have e : ∑ j, P j * (1 / (L * L)) * E j = (∑ j, E j / L * P j) / L := by
    rw [Finset.sum_div]
    exact Finset.sum_congr rfl fun j _ => by field_simp
  rw [e]
  field_simp
  ring

/-- The gradient of a head's logits. -/
def gl (q k : FVec Ideal Cert.FlashIdeal.S8192x8x192 .f32) (v : FVec Ideal Cert.FlashIdeal.S8192x8x128 .f32) (o : FVec Ideal Cert.FlashIdeal.S8192x1024 .f32)
    (h : Fin 8) (r s : ℕ) : ℝ :=
  soft (lg (tQ q h) (cell k h) r) r s * (dp (cell v h) (cellO o h) r s - dlt (tQ q h) (cell k h) (cell v h) (cellO o h) r)

/-- What the quotient's lines compute from real exponentials, total and products. -/
theorem ref_quotient (h : Fin 8) (r : Fin 8192) (P E : Fin 8192 → ℝ) (L : ℝ) (hL : L ≠ 0) (hP : ∀ s, val_main_v44 (F := Ideal) v o (ValueIdx.ix3 h r s) = ((P s : ℝ) : EReal))
    (hE : ∀ s, val_main_v31 (F := Ideal) q k (ValueIdx.ix3 h r s) = ((E s : ℝ) : EReal)) (hT : val_main_v33 (F := Ideal) q k (ValueIdx.ix3 h r 0) = ((L : ℝ) : EReal)) (s : Fin 8192) :
    val_main_v58 (F := Ideal) q k v o (ValueIdx.ix3 h r s) = ((E s / L * (P s - ∑ j, E j / L * P j) : ℝ) : EReal) := by
  have one : Ideal.ofBits .f32 0x3F800000#32 = ((1 : ℝ) : EReal) := by rw [Ideal.ofBits_one_f32, EReal.coe_one]
  have e38 : val_main_v38 (F := Ideal) q k (ValueIdx.ix3 h r 0) = ((1 / (L * L) : ℝ) : EReal) := by
    rw [val_main_v38_apply, val_main_v36_apply, Ideal.mulf_def, hT, val_main_v37_apply, val_main_cst_10_apply, Ideal.ofBits_def, one, ← EReal.coe_mul]
    exact div_real _ _ (mul_ne_zero hL hL)
  have e49 (j : Fin 8192) : val_main_v49 (F := Ideal) q k v o (ValueIdx.ix3 h r j) = ((P j * (1 / (L * L)) * E j : ℝ) : EReal) := by
    rw [val_main_v49_apply, Ideal.mulf_def, hE, val_main_v48_apply, Ideal.mulf_def, hP, val_main_v47_apply,
      show idx_main_v47 (ValueIdx.ix3 h r j) = ValueIdx.ix3 h r 0 from ext3 rfl rfl rfl, e38, EReal.coe_mul, EReal.coe_mul]
  have e50 : val_main_v50 (F := Ideal) q k v o (ValueIdx.ix2 h r) = ((∑ j, P j * (1 / (L * L)) * E j : ℝ) : EReal) := by
    rw [val_main_v50_apply, val_main_cst_11_apply, Ideal.ofBits_def, Ideal.ofBits_zero_f32, zero_add, ← sum_real]
    exact Finset.sum_congr rfl fun j _ => by rw [show idx_main_v50 (ValueIdx.ix2 h r) j = ValueIdx.ix3 h r j from ext3 rfl rfl rfl]; exact e49 j
  have e52 : val_main_v52 (F := Ideal) q k v o (ValueIdx.ix3 h r 0) = ((-∑ j, P j * (1 / (L * L)) * E j : ℝ) : EReal) := by
    rw [val_main_v52_apply, val_main_v51_apply, show idx_main_v51 (ValueIdx.ix3 h r 0) = ValueIdx.ix2 h r from ext2
      (by show ((h.val * 8192 + r.val) * 1 + 0) / 8192 = h.val; omega) (by show ((h.val * 8192 + r.val) * 1 + 0) % 8192 = r.val; omega), e50, EReal.coe_neg]
    rfl
  have e56 : val_main_v56 (F := Ideal) q k v o (ValueIdx.ix3 h r s) = ((-∑ j, P j * (1 / (L * L)) * E j : ℝ) : EReal) := by
    rw [val_main_v56_apply, show idx_main_v56 (ValueIdx.ix3 h r s) = ValueIdx.ix2 h r from ext2 rfl rfl, val_main_v55_apply, val_main_cst_12_apply, Ideal.ofBits_def,
      Ideal.ofBits_zero_f32, zero_add, Fin.sum_univ_one, show idx_main_v55 (ValueIdx.ix2 h r) 0 = ValueIdx.ix3 h r 0 from ext3 rfl rfl rfl, e52]
  have e54 : val_main_v54 (F := Ideal) q k v o (ValueIdx.ix3 h r s) = ((P s / L : ℝ) : EReal) := by
    rw [val_main_v54_apply, hP, val_main_v53_apply, show idx_main_v53 (ValueIdx.ix3 h r s) = ValueIdx.ix3 h r 0 from ext3 rfl rfl rfl, hT]
    exact div_real _ _ hL
  rw [val_main_v58_apply, Ideal.mulf_def, hE, val_main_v57_apply, Ideal.addf_def, e54, e56, ← EReal.coe_add, ← EReal.coe_mul, quotient P E L hL s]

theorem ref_unmasked (H : Fin4 q k v o) (h : Fin 8) (r s : Fin 8192) : val_main_v58 (F := Ideal) q k v o (ValueIdx.ix3 h r s) = ((gl q k v o h r.val s.val : ℝ) : EReal) := by
  obtain ⟨μ, e⟩ := ref_top H h r
  rw [ref_quotient h r _ _ _ (shifted_pos (lg (tQ q h) (cell k h) r.val) r.val r.isLt μ).ne' (ref_dp H h r) (ref_exp H h r μ e) (ref_totalCol H h r μ e) s]
  unfold gl dlt
  simp only [soft_of _ _ _ r.isLt μ]

theorem ref_gl (H : Fin4 q k v o) (h : Fin 8) (r s : Fin 8192) : val_main_v61 (F := Ideal) q k v o (ValueIdx.ix3 h r s) = ((gl q k v o h r.val s.val * scale : ℝ) : EReal) := by
  rw [val_main_v61_apply, Ideal.mulf_def, val_main_v60_apply, val_main_cst_13_apply, Ideal.ofBits_def, scale_eq, EReal.coe_mul]
  refine congrArg (· * _) ?_
  rw [val_main_v59_apply, ref_mask, ref_unmasked H]
  by_cases g : s.val ≤ r.val
  · rw [if_pos g]; rfl
  · rw [if_neg g, val_main_call1_v0_apply, val_main_call1_cst_apply, Ideal.ofBits_def, Ideal.ofBits_zero_f32]
    unfold gl soft num
    rw [if_neg g, zero_div, zero_mul, EReal.coe_zero]
    rfl

/-! ## The three results -/

theorem ref_dv (H : Fin4 q k v o) (h : Fin 8) (s : Fin 8192) (d : Fin 128) : val_main_v75 (F := Ideal) q k o (ValueIdx.ix3 h s d)
    = ((∑ r : Fin 8192, soft (lg (tQ q h) (cell k h) r.val) r.val s.val * cellO o h r.val d.val : ℝ) : EReal) := by
  rw [val_main_v75_apply, Ideal.truncf_def, val_main_v74_apply, val_main_v46_apply,
    show idx_main_v46 (idx_main_v74 (ValueIdx.ix3 h s d)) = ValueIdx.ix3 h d s from ext3 rfl rfl rfl, val_main_v45_apply,
    sum_mul_real _ _ (fun r : Fin 8192 => cellO o h r.val d.val) (fun r => soft (lg (tQ q h) (cell k h) r.val) r.val s.val)
    (fun r => by rw [show lidx_main_v45 (ValueIdx.ix3 h d s) r = ValueIdx.ix3 h d r from ext3 rfl rfl rfl]; exact ref_do H h d r)
    (fun r => by rw [show ridx_main_v45 (ValueIdx.ix3 h d s) r = ValueIdx.ix3 h r s from ext3 rfl rfl rfl]; exact ref_soft H h r s)]
  exact congrArg _ (Finset.sum_congr rfl fun r _ => mul_comm _ _)

/-- A padded stack of heads at an index. -/
theorem pad_at {u : Shape} (x : FVec Ideal ⟨3, ![8, 8192, 192]⟩ .f32) (z : u.Idx → EReal) (hz : ∀ i, z i = ((0 : ℝ) : EReal)) (f : Fin 8 → ℕ → ℕ → ℝ)
    (hx : ∀ (h : Fin 8) (r : Fin 8192) (d : Fin 192), x (ValueIdx.ix3 h r d) = ((f h r.val d.val : ℝ) : EReal)) (h0 : ∀ h r d, 192 ≤ d → f h r d = 0)
    (hp : (⟨3, ![8, 8192, 192]⟩ : Shape).Pads ![0, 0, 0] ![0, 0, 64] ![0, 0, 0] ⟨3, ![8, 8192, 256]⟩) (hu : 0 < u.numel) (h : Fin 8) (r : Fin 8192) (d : Fin 256) :
    pad ⟨3, ![8, 8192, 256]⟩ ![0, 0, 0] ![0, 0, 64] ![0, 0, 0] x z hp hu (ValueIdx.ix3 h r d) = ((f h r.val d.val : ℝ) : EReal) := by
  by_cases g : d.val < 192
  · refine (pad_apply_of_inside _ _ _ x _ _ _ (ValueIdx.ix3 h r d) (ValueIdx.ix3 h r ⟨d.val, g⟩) fun a => ?_).trans (hx h r ⟨d.val, g⟩)
    match a with
    | ⟨0, _⟩ => show h.val = 0 + h.val * 1; omega
    | ⟨1, _⟩ => show r.val = 0 + r.val * 1; omega
    | ⟨2, _⟩ => show d.val = 0 + d.val * 1; omega
  · rw [h0 h r.val d.val (by omega)]
    refine (pad_apply_of_not_inside _ _ _ x _ _ _ (ValueIdx.ix3 h r d) (2 : Fin 3) ?_).trans (hz _)
    show ¬(0 ≤ d.val ∧ (d.val - 0) % (0 + 1) = 0 ∧ (d.val - 0) / (0 + 1) < 192)
    omega

theorem ref_dk (H : Fin4 q k v o) (h : Fin 8) (s : Fin 8192) (d : Fin 256) : val_main_v73 (F := Ideal) q k v o (ValueIdx.ix3 h s d)
    = ((∑ r : Fin 8192, gl q k v o h r.val s.val * tQ q h r.val d.val : ℝ) : EReal) := by
  rw [val_main_v73_apply, Ideal.truncf_def]
  unfold val_main_v72
  refine pad_at _ _ (fun i => ?_) (fun h s d => ∑ r : Fin 8192, gl q k v o h r.val s * tQ q h r.val d) (fun h s d => ?_) (fun h s d hd => ?_) _ _ h s d
  · rw [val_main_call3_v0_apply, val_main_c_15_apply]
    show ((((0#32 : BitVec 32).toInt : ℤ) : ℝ) : EReal) = ((0 : ℝ) : EReal)
    simp
  · rw [val_main_v71_apply, val_main_v63_apply, show idx_main_v63 (idx_main_v71 (ValueIdx.ix3 h s d)) = ValueIdx.ix3 h s d from ext3 rfl rfl rfl, val_main_v62_apply,
      sum_mul_real _ _ (fun r : Fin 8192 => gl q k v o h r.val s.val * scale) (fun r => cell q h r.val d.val)
      (fun r => by rw [show lidx_main_v62 (ValueIdx.ix3 h s d) r = ValueIdx.ix3 h r s from ext3 rfl rfl rfl]; exact ref_gl H h r s)
      (fun r => by rw [show ridx_main_v62 (ValueIdx.ix3 h s d) r = ValueIdx.ix3 r h d from ext3 rfl rfl rfl]; exact cell_at q H.q r h d)]
    refine congrArg _ (Finset.sum_congr rfl fun r _ => ?_)
    unfold tQ
    ring
  · refine Finset.sum_eq_zero fun r _ => ?_
    unfold tQ
    rw [cell_pad q h _ d hd, zero_mul, mul_zero]

theorem ref_dq (H : Fin4 q k v o) (h : Fin 8) (r : Fin 8192) (d : Fin 256) : val_main_v70 (F := Ideal) q k v o (ValueIdx.ix3 h r d)
    = ((∑ s : Fin 8192, gl q k v o h r.val s.val * cell k h s.val d.val : ℝ) : EReal) := by
  rw [val_main_v70_apply, Ideal.truncf_def]
  unfold val_main_v69
  refine pad_at _ _ (fun i => ?_) (fun h r d => ∑ s : Fin 8192, gl q k v o h r s.val * cell k h s.val d) (fun h r d => ?_) (fun h s d hd => ?_) _ _ h r d
  · rw [val_main_call2_v0_apply, val_main_c_apply]
    show ((((0#32 : BitVec 32).toInt : ℤ) : ℝ) : EReal) = ((0 : ℝ) : EReal)
    simp
  · rw [val_main_v68_apply, val_main_v67_apply, val_main_v66_apply, val_main_cst_14_apply, Ideal.ofBits_def, scale_eq, val_main_v65_apply,
      show idx_main_v65 (idx_main_v68 (ValueIdx.ix3 h r d)) = ValueIdx.ix3 h r d from ext3 rfl rfl rfl, val_main_v64_apply,
      sum_mul_real _ _ (fun s : Fin 8192 => gl q k v o h r.val s.val * scale) (fun s => cell k h s.val d.val)
      (fun s => by rw [show lidx_main_v64 (ValueIdx.ix3 h r d) s = ValueIdx.ix3 h r s from ext3 rfl rfl rfl]; exact ref_gl H h r s)
      (fun s => by rw [show ridx_main_v64 (ValueIdx.ix3 h r d) s = ValueIdx.ix3 s h d from ext3 rfl rfl rfl]; exact cell_at k H.k s h d)]
    refine (div_real _ _ scale_ne).trans (congrArg _ ?_)
    rw [Finset.sum_div]
    refine Finset.sum_congr rfl fun s _ => ?_
    have := scale_ne
    field_simp
  · refine Finset.sum_eq_zero fun r _ => ?_
    rw [cell_pad k h _ d hd, mul_zero]

end Flash
end
-- ==== Proof.Flash.Value.lean ====
/- The three result arrays of the attention gradient's call are the reference's. -/
module

public import proofs.«01_k».proof.Proof.Flash.Blocks
public import proofs.«01_k».proof.Proof.Flash.Ref

@[expose] public section

set_option maxRecDepth 8192

noncomputable section

namespace Flash

open Idealize.ShloMosaic Idealize.ShloMosaic.TcCoe Cert.Proof Idealize.SL.Sem
open Cert.FlashIdeal Cert.FlashIdeal.Gen Cert.FlashRefIdeal.Read

/-! ## The head's sums are the reference's -/

section
variable {q k : FVec Ideal S8192x8x192 .f32} {v : FVec Ideal S8192x8x128 .f32} {o : FVec Ideal S8192x1024 .f32}

theorem head_gl (h : Fin 8) (r s : ℕ) (hr : r < 8192) : (head q k v o h).dS r s = gl q k v o h r s := head_dS _ _ _ _ r s hr

theorem head_dk (H : Fin4 q k v o) (h : Fin 8) (s : Fin 8192) (d : Fin 256) :
    (((head q k v o h).dk 8192 s.val d.val : ℝ) : EReal) = val_main_v73 (F := Ideal) q k v o (ValueIdx.ix3 h s d) := by
  rw [ref_dk H]
  refine congrArg _ ?_
  unfold Head.dk
  rw [Finset.sum_range]
  exact Finset.sum_congr rfl fun r _ => by rw [head_gl h r.val s.val r.isLt]; rfl

theorem head_dv (H : Fin4 q k v o) (h : Fin 8) (s : Fin 8192) (d : Fin 128) :
    (((head q k v o h).dv 8192 s.val d.val : ℝ) : EReal) = val_main_v75 (F := Ideal) q k o (ValueIdx.ix3 h s d) := by
  rw [ref_dv H]
  refine congrArg _ ?_
  unfold Head.dv
  rw [Finset.sum_range]
  exact Finset.sum_congr rfl fun r _ => by
    unfold head
    rw [head_P _ _ _ _ r.val s.val r.isLt]
    rfl

theorem head_dq (H : Fin4 q k v o) (h : Fin 8) (r : Fin 8192) (d : Fin 256) :
    (((head q k v o h).dq 8192 r.val d.val : ℝ) : EReal) = val_main_v70 (F := Ideal) q k v o (ValueIdx.ix3 h r d) := by
  rw [ref_dq H]
  refine congrArg _ ?_
  unfold Head.dq
  rw [Finset.sum_range]
  exact Finset.sum_congr rfl fun s _ => by rw [head_gl h r.val s.val r.isLt]; rfl
end

/-! ## What a point writes back -/

theorem pay15_at (x : FVec Ideal S1024x256 .f32) (z : Fin 1) (a : Fin 1024) (d : Fin 256) : k0_pay15 (F := Ideal) x (ValueIdx.ix3 z a d) = x (ValueIdx.ix2 a d) :=
  shapeCast_apply (truncf .bf16 x bitsLt_bf16_f32) shapeCasts_S1024x256_S1x1024x256 (ValueIdx.ix3 z a d) (ValueIdx.ix2 a d) (by
    rw [Shape.rowMajor_val_three, Shape.rowMajor_val_two]; show a.val * 256 + d.val = (z.val * 1024 + a.val) * 256 + d.val; omega)

theorem pay16_at (x : FVec Ideal S1024x128 .f32) (z : Fin 1) (a : Fin 1024) (d : Fin 128) : k0_pay16 (F := Ideal) x (ValueIdx.ix3 z a d) = x (ValueIdx.ix2 a d) :=
  shapeCast_apply (truncf .bf16 x bitsLt_bf16_f32) shapeCasts_S1024x128_S1x1024x128 (ValueIdx.ix3 z a d) (ValueIdx.ix2 a d) (by
    rw [Shape.rowMajor_val_three, Shape.rowMajor_val_two]; show a.val * 128 + d.val = (z.val * 1024 + a.val) * 128 + d.val; omega)

theorem pay17_at (x : FVec Ideal S8192x256 .f32) (z : Fin 1) (a : Fin 8192) (d : Fin 256) : k0_pay17 (F := Ideal) x (ValueIdx.ix3 z a d) = x (ValueIdx.ix2 a d) :=
  shapeCast_apply (truncf .bf16 x bitsLt_bf16_f32) shapeCasts_S8192x256_S1x8192x256 (ValueIdx.ix3 z a d) (ValueIdx.ix2 a d) (by
    rw [Shape.rowMajor_val_three, Shape.rowMajor_val_two]; show a.val * 256 + d.val = (z.val * 8192 + a.val) * 256 + d.val; omega)

theorem emb7 (t : Fin cfg0.N) (z : Fin 1) (a : Fin 1024) (d : Fin 256) : ((cfg0.win 7).blk t).view.emb (ValueIdx.ix3 z a d) = ValueIdx.ix3 (hd t) (key t a) d :=
  blk3 _ (ValueIdx.ix3 z a d) (hd t) (key t a) d (idxs t).2.2.2.2.2.2.2.1 rfl rfl rfl (by show t.val / 8 * 1 + 1 * z.val = t.val / 8; omega)
    (by show t.val % 8 * 1024 + 1 * a.val = 1024 * (t.val % 8) + a.val; omega) (by show 0 * 256 + 1 * d.val = d.val; omega)

theorem emb8 (t : Fin cfg0.N) (z : Fin 1) (a : Fin 1024) (d : Fin 128) : ((cfg0.win 8).blk t).view.emb (ValueIdx.ix3 z a d) = ValueIdx.ix3 (hd t) (key t a) d :=
  blk3 _ (ValueIdx.ix3 z a d) (hd t) (key t a) d (idxs t).2.2.2.2.2.2.2.2 rfl rfl rfl (by show t.val / 8 * 1 + 1 * z.val = t.val / 8; omega)
    (by show t.val % 8 * 1024 + 1 * a.val = 1024 * (t.val % 8) + a.val; omega) (by show 0 * 128 + 1 * d.val = d.val; omega)

theorem emb6 (t : Fin cfg0.N) (z : Fin 1) (a : Fin 8192) (d : Fin 256) : ((cfg0.win 6).blk t).view.emb (ValueIdx.ix3 z a d) = ValueIdx.ix3 (hd t) a d :=
  blk3 _ (ValueIdx.ix3 z a d) (hd t) a d (idxs t).2.2.2.2.2.2.1 rfl rfl rfl (by show t.val / 8 * 1 + 1 * z.val = t.val / 8; omega)
    (by show 0 * 8192 + 1 * a.val = a.val; omega) (by show 0 * 256 + 1 * d.val = d.val; omega)

theorem flush_7 : ∀ t : Fin cfg0.N, (cfg0.win 7).flush t = true := by decide +kernel
theorem flush_8 : ∀ t : Fin cfg0.N, (cfg0.win 8).flush t = true := by decide +kernel
theorem flush_6 : ∀ t : Fin cfg0.N, t.val % 8 = 7 → (cfg0.win 6).flush t = true := by decide +kernel

/-- The point that holds key row `s` of head `h`. -/
def ptOf (h : Fin 8) (s : Fin 8192) : Fin cfg0.N := ⟨8 * h.val + s.val / 1024, by show _ < grid0.N; rw [N_0]; omega⟩

theorem hd_ptOf (h : Fin 8) (s : Fin 8192) : hd (ptOf h s) = h := Fin.ext (by show (8 * h.val + s.val / 1024) / 8 = h.val; omega)

theorem key_ptOf (h : Fin 8) (s : Fin 8192) : key (ptOf h s) ⟨s.val % 1024, by omega⟩ = s :=
  Fin.ext (by show 1024 * ((8 * h.val + s.val / 1024) % 8) + s.val % 1024 = s.val; omega)

theorem mem7 (h : Fin 8) (s : Fin 8192) (d : Fin 256) : ∃ t : Fin cfg0.N, (cfg0.win 7).flush t = true ∧ ValueIdx.ix3 h s d ∈ ((cfg0.win 7).blk t).view.set := by
  have e := emb7 (ptOf h s) 0 ⟨s.val % 1024, Nat.mod_lt _ (by decide)⟩ d
  rw [hd_ptOf, key_ptOf] at e
  refine ⟨ptOf h s, flush_7 _, ?_⟩
  rw [← e]
  exact View.emb_mem_set _ _

theorem cover7 (i : S8x8192x256.Idx) : ∃ t : Fin cfg0.N, (cfg0.win 7).flush t = true ∧ (i : S8x8192x256.Idx) ∈ ((cfg0.win 7).blk t).view.set := by
  obtain ⟨h, s, d, rfl⟩ : ∃ (h : Fin 8) (s : Fin 8192) (d : Fin 256), i = ValueIdx.ix3 h s d := ⟨i 0, i 1, i 2, ext3 rfl rfl rfl⟩
  exact mem7 h s d

theorem mem8 (h : Fin 8) (s : Fin 8192) (d : Fin 128) : ∃ t : Fin cfg0.N, (cfg0.win 8).flush t = true ∧ ValueIdx.ix3 h s d ∈ ((cfg0.win 8).blk t).view.set := by
  have e := emb8 (ptOf h s) 0 ⟨s.val % 1024, Nat.mod_lt _ (by decide)⟩ d
  rw [hd_ptOf, key_ptOf] at e
  refine ⟨ptOf h s, flush_8 _, ?_⟩
  rw [← e]
  exact View.emb_mem_set _ _

theorem cover8 (i : S8x8192x128.Idx) : ∃ t : Fin cfg0.N, (cfg0.win 8).flush t = true ∧ (i : S8x8192x128.Idx) ∈ ((cfg0.win 8).blk t).view.set := by
  obtain ⟨h, s, d, rfl⟩ : ∃ (h : Fin 8) (s : Fin 8192) (d : Fin 128), i = ValueIdx.ix3 h s d := ⟨i 0, i 1, i 2, ext3 rfl rfl rfl⟩
  exact mem8 h s d

theorem mem6 (h : Fin 8) (s : Fin 8192) (d : Fin 256) : ∃ t : Fin cfg0.N, (cfg0.win 6).flush t = true ∧ ValueIdx.ix3 h s d ∈ ((cfg0.win 6).blk t).view.set := by
  have e := emb6 (ptOf h ⟨8191, by decide⟩) 0 s d
  rw [hd_ptOf] at e
  refine ⟨ptOf h ⟨8191, by decide⟩, flush_6 _ (by show (8 * h.val + 8191 / 1024) % 8 = 7; omega), ?_⟩
  rw [← e]
  exact View.emb_mem_set _ _

theorem cover6 (i : S8x8192x256.Idx) : ∃ t : Fin cfg0.N, (cfg0.win 6).flush t = true ∧ (i : S8x8192x256.Idx) ∈ ((cfg0.win 6).blk t).view.set := by
  obtain ⟨h, s, d, rfl⟩ : ∃ (h : Fin 8) (s : Fin 8192) (d : Fin 256), i = ValueIdx.ix3 h s d := ⟨i 0, i 1, i 2, ext3 rfl rfl rfl⟩
  exact mem6 h s d

section
variable (m : (l : Loc nD τ sig) → BufTy.Contents (Elt Ideal) l.ty) (c : Dev nD) (H : Fin4 (argQ m c) (argK m c) (argV m c) (argO m c))
include H

/-- The running sums at the end of point `t`. -/
theorem sums (t : Fin cfg0.N) : Holds (head (argQ m c) (argK m c) (argV m c) (argO m c) (hd t)) (t.val % 8) 8 (sumsOf m c t) := by
  have e := sums_at m c (fun n => if g : n < 8 then head (argQ m c) (argK m c) (argV m c) (argO m c) ⟨n, g⟩ else head (argQ m c) (argK m c) (argV m c) (argO m c) 0) (fun t => by
    have h := reads m c H t
    have g : t.val / 8 < 8 := (hd t).isLt
    rw [dif_pos g]
    exact h) t.val t.isLt
  have g : t.val / 8 < 8 := (hd t).isLt
  rw [dif_pos g] at e
  exact e

theorem final7 : (dats m 0 c).arrAt 7 cfg0.N = val_main_v73 (F := Ideal) (argQ m c) (argK m c) (argV m c) (argO m c) := by
  refine (dats m 0 c).arrAt_eq_of_cover 7 _ (fun t _ => ?_) fun i => ?_
  · show (cfg0.win 7).cut (grid0.coords t) ((dats m 0 c).after 7 t) = _
    rw [after_7]
    funext j
    rw [show j = ValueIdx.ix3 (j 0) (j 1) (j 2) from ext3 rfl rfl rfl]
    refine (pay15_at _ (j 0) (j 1) (j 2)).trans (((sums m c H t).dk (j 1) (j 2)).trans ?_)
    exact (head_dk H (hd t) (key t (j 1)) (j 2)).trans (congrArg (val_main_v73 (F := Ideal) (argQ m c) (argK m c) (argV m c) (argO m c)) (emb7 t (j 0) (j 1) (j 2)).symm)
  · exact cover7 i

theorem final8 : (dats m 0 c).arrAt 8 cfg0.N = val_main_v75 (F := Ideal) (argQ m c) (argK m c) (argO m c) := by
  refine (dats m 0 c).arrAt_eq_of_cover 8 _ (fun t _ => ?_) fun i => ?_
  · show (cfg0.win 8).cut (grid0.coords t) ((dats m 0 c).after 8 t) = _
    rw [after_8]
    funext j
    rw [show j = ValueIdx.ix3 (j 0) (j 1) (j 2) from ext3 rfl rfl rfl]
    refine (pay16_at _ (j 0) (j 1) (j 2)).trans (((sums m c H t).dv (j 1) (j 2)).trans ?_)
    exact (head_dv H (hd t) (key t (j 1)) (j 2)).trans (congrArg (val_main_v75 (F := Ideal) (argQ m c) (argK m c) (argO m c)) (emb8 t (j 0) (j 1) (j 2)).symm)
  · exact cover8 i

theorem final6 : (dats m 0 c).arrAt 6 cfg0.N = val_main_v70 (F := Ideal) (argQ m c) (argK m c) (argV m c) (argO m c) := by
  refine (dats m 0 c).arrAt_eq_of_cover 6 _ (fun t hf => ?_) fun i => ?_
  · have h7 : t.val % 8 = 7 := by
      by_contra hn
      rw [noFlush_6 t hn] at hf
      exact Bool.false_ne_true hf
    show (cfg0.win 6).cut (grid0.coords t) ((dats m 0 c).after 6 t) = _
    rw [after_6]
    funext j
    rw [show j = ValueIdx.ix3 (j 0) (j 1) (j 2) from ext3 rfl rfl rfl]
    have g := (sums m c H t).dq (j 1) (j 2)
    rw [h7, if_pos (by have h : (j 1).val < 8192 := (j 1).isLt; exact h)] at g
    refine (pay17_at _ (j 0) (j 1) (j 2)).trans (g.trans ?_)
    exact (head_dq H (hd t) (j 1) (j 2)).trans (congrArg (val_main_v70 (F := Ideal) (argQ m c) (argK m c) (argV m c) (argO m c)) (emb6 t (j 0) (j 1) (j 2)).symm)
  · exact cover6 i
end

end Flash
end
-- ==== Proof.Flash.Claims.lean ====
/-
# The attention backward call: frames and value
-/
module

public import proofs.«01_k».proof.Proof.Flash.Bits
public import proofs.«01_k».proof.Proof.Flash.Value
public import proofs.«01_k».proof.Proof.Gen.FlashRefIdeal.Run
public import proofs.«01_k».proof.Proof.Finite
public import proofs.«01_k».proof.Proof.Gen.Pre_finite_flash
public import proofs.«01_k».proof.Defs

@[expose] public section

set_option maxRecDepth 16384

noncomputable section

namespace Cert.Proof.Flash

open Idealize Idealize.ShloMosaic Cert.FlashRefIdeal.Read
open _root_.Flash (Fin4 argQ argK argV argO final6 final7 final8 launch kept)

/-- The kernel runs at the machine's words. -/
theorem frame : Cert.quiescent_Flash := _root_.Flash.frame

/-- The kernel runs over the reals. -/
theorem frame_ideal : Cert.quiescent_FlashIdeal := _root_.Flash.frame_ideal

/-- The reference runs over the reals; it declares no semaphore. -/
theorem frame_ref : Cert.quiescent_FlashRefIdeal := fun m ρ _ =>
  (θ_run Cert.FlashRefIdeal.defs _ _).mono (fun r h => ⟨fun c => (h c).2.2.2, sem_eq_zero_of_no_sems (by decide) r.2⟩) (Cert.FlashRefIdeal.Value.run (F := Ideal) m ρ)

/-- The one constant the kernel rounded, the mask's −10³⁰, is the name the reals read as −∞. -/
theorem preserves : Cert.preserves_Flash_FlashIdeal :=
  IdealRules.named_const.statement Cert.FlashIdeal.κ "mask" .f32 0xF149F2CA#32 ⊥ rfl

/-- The precondition makes every entry of the four arguments real. -/
theorem finite (q k : FVec Ideal Cert.Pre_finite_flash.S8192x8x192 .f32) (v : FVec Ideal Cert.Pre_finite_flash.S8192x8x128 .f32) (o : FVec Ideal Cert.Pre_finite_flash.S8192x1024 .f32)
    (h : Cert.Pre_finite_flash.fn (F := Ideal) q k v o = fun _ => 1#1) : Fin4 q k v o := by
  have : Subsingleton Cert.Pre_finite_flash.S_.Idx := ⟨fun a b => funext fun k => k.elim0⟩
  have g := congrFun h ValueIdx.ix0
  unfold Cert.Pre_finite_flash.fn Cert.Pre_finite_flash.fn_part1 at g
  dsimp only at g
  obtain ⟨g, g4⟩ := andi_one g
  obtain ⟨g, g3⟩ := andi_one g
  obtain ⟨g1, g2⟩ := andi_one g
  exact ⟨real_of_all q _ _ _ _ _ _ (fun _ => rfl) (fun _ => rfl) g1, real_of_all k _ _ _ _ _ _ (fun _ => rfl) (fun _ => rfl) g2,
    real_of_all v _ _ _ _ _ _ (fun _ => rfl) (fun _ => rfl) g3, real_of_all o _ _ _ _ _ _ (fun _ => rfl) (fun _ => rfl) g4⟩

/-- Over the reals the kernel's arrays are the reference's gradients, where the arguments are real. -/
theorem algebraic : Cert.algebraic_FlashIdeal_FlashRefIdeal_pre_finite_flash := by
  intro m ρ m' ρ' hpre hag
  refine ⟨fun c => val_main_v70 (F := Ideal) (argQ m c) (argK m c) (argV m c) (argO m c), fun c => val_main_v73 (F := Ideal) (argQ m c) (argK m c) (argV m c) (argO m c),
    fun c => val_main_v75 (F := Ideal) (argQ m c) (argK m c) (argO m c), ?_, ?_⟩
  · refine (θ_run Cert.FlashIdeal.defs _ _).mono (fun r h c => ?_) (θ_run_and (launch m ρ) (kept m ρ))
    have H := finite _ _ _ _ (hpre c)
    exact ⟨((h.1.1 c).1 6).trans (final6 m c H), ((h.1.1 c).1 7).trans (final7 m c H), ((h.1.1 c).1 8).trans (final8 m c H), h.2.1 c⟩
  · refine (θ_run Cert.FlashRefIdeal.defs _ _).mono (fun r h c => ?_) (Cert.FlashRefIdeal.Value.run (F := Ideal) m' ρ')
    obtain ⟨h0, h1, h2, hk⟩ := h c
    obtain ⟨a0, a1, a2, a3⟩ := hag c
    have e0 : m' ((c.tc : Thread Cert.FlashRefIdeal.nD Cert.FlashRefIdeal.τ).loc Cert.FlashRefIdeal.main_arg0) = argQ m c := a0
    have e1 : m' ((c.tc : Thread Cert.FlashRefIdeal.nD Cert.FlashRefIdeal.τ).loc Cert.FlashRefIdeal.main_arg1) = argK m c := a1
    have e2 : m' ((c.tc : Thread Cert.FlashRefIdeal.nD Cert.FlashRefIdeal.τ).loc Cert.FlashRefIdeal.main_arg2) = argV m c := a2
    have e3 : m' ((c.tc : Thread Cert.FlashRefIdeal.nD Cert.FlashRefIdeal.τ).loc Cert.FlashRefIdeal.main_arg3) = argO m c := a3
    rw [val_main_v70_eq, e0, e1, e2, e3] at h0
    rw [val_main_v73_eq, e0, e1, e2, e3] at h1
    rw [val_main_v75_eq, e0, e1, e3] at h2
    exact ⟨h0, h1, h2, hk⟩

end Cert.Proof.Flash

end
-- ==== Proof.FlashF.Loop.lean ====
/- Forward attention: what a tile of keys does to a block of queries' running maxima, sums and products, and what a grid point leaves in its two
   output blocks. -/
module

public import proofs.«01_k».proof.Proof.Whole
public import proofs.«01_k».proof.Proof.Gen.FlashFIdeal.Frame
public import proofs.«01_k».proof.Proof.Gen.FlashFIdeal.Skeleton
public import Idealize.ShloMosaic.Lib.Exec
public import Idealize.ShloMosaic.Lib.Tactic
public import Idealize.ShloMosaic.Lib.VecWindow

@[expose] public section

set_option maxRecDepth 8192

noncomputable section

namespace FlashF

open Idealize.ShloMosaic Idealize.ShloMosaic.TcCoe Idealize.ShloMosaic.Tactic Cert.Proof
open Cert.FlashFIdeal Cert.FlashFIdeal.Gen

variable {F : FTy → Type} [FloatOps F] [Named F]

/-! ## The words -/

theorem trips1 : ∀ i : grid0.Coords, (k0_t1_loop i).trips = (i 1).val := by decide +kernel
theorem trips2 : ∀ i : grid0.Coords, (k0_t2_loop i).trips = 0 := by decide +kernel
theorem off1 : ∀ (i : grid0.Coords) (k : Fin (k0_t1_loop i).trips), k0_off1 i k = ![0, 1024 * k.val, 0] := by decide +kernel
theorem off2 : ∀ (i : grid0.Coords) (k : Fin (k0_t1_loop i).trips), k0_off2 i k = ![0, 1024 * k.val, 0] := by decide +kernel
theorem off5 : ∀ i : grid0.Coords, k0_off5 i = ![0, 1024 * (i 1).val, 0] := by decide +kernel
theorem off6 : ∀ i : grid0.Coords, k0_off6 i = ![0, 1024 * (i 1).val, 0] := by decide +kernel

/-! ## One tile of keys -/

theorem inK (n : Fin 8) : ∀ a, (![0, 1024 * n.val, 0] : Fin 3 → ℕ) a + S1x1024x256.size a ≤ S1x8192x256.size a := by revert n; decide +kernel
theorem inV (n : Fin 8) : ∀ a, (![0, 1024 * n.val, 0] : Fin 3 → ℕ) a + S1x1024x128.size a ≤ S1x8192x128.size a := by revert n; decide +kernel

/-- Tile `n` of the keys and of the values. -/
def tk (x : Vec F S1x8192x256 .bf16) (n : Fin 8) : Vec F S1x1024x256 .bf16 := VecWindow.window x ![0, 1024 * n.val, 0] S1x1024x256.size (inK n)
def tv (x : Vec F S1x8192x128 .bf16) (n : Fin 8) : Vec F S1x1024x128 .bf16 := VecWindow.window x ![0, 1024 * n.val, 0] S1x1024x128.size (inV n)

/-- What runs along the tiles: each query's largest logit, its sum of shifted exponentials, and its sum of weighted values. -/
abbrev Run (F : FTy → Type) [FloatOps F] : Type := FVec F S1024x1 .f32 × FVec F S1024x1 .f32 × FVec F S1024x128 .f32

section
variable (x0 : Vec F S1x1024x256 .bf16) (x1 : Vec F S1x8192x256 .bf16) (x2 : Vec F S1x8192x128 .bf16)

/-- What a tile of keys before the queries' own does to them. -/
def tile (n : Fin 8) (s : Run F) : Run F := (k0_pay8 x0 s.1 (tk x1 n), k0_pay11 x0 s.1 s.2.1 (tk x1 n), k0_pay12 x0 s.1 s.2.2 (tk x1 n) (tv x2 n))

/-- They, after the first `k` tiles. -/
def tiles : ℕ → Run F
  | 0 => (k0_pay4, k0_pay5, k0_pay6)
  | k + 1 => if h : k < 8 then tile x0 x1 x2 ⟨k, h⟩ (tiles k) else tiles k

/-- What the point leaves in the block of the output and in the block of the row statistics: the queries' own tile comes last, under the causal mask. -/
def outBlock (j : Fin 8) : FVec F S1024x128 .bf16 :=
  k0_pay1 (k0_pay23 x0 (tiles x0 x1 x2 j.val).1 (tiles x0 x1 x2 j.val).2.1 (tk x1 j)) (k0_pay24 x0 (tiles x0 x1 x2 j.val).1 (tiles x0 x1 x2 j.val).2.2 (tk x1 j))
    (k0_pay25 x0 (tiles x0 x1 x2 j.val).1 (tk x1 j)) (tv x2 j)
def lseBlock (j : Fin 8) : FVec F S1x1x1x1024 .f32 :=
  k0_pay2 (k0_pay20 x0 (tiles x0 x1 x2 j.val).1 (tk x1 j)) (k0_pay23 x0 (tiles x0 x1 x2 j.val).1 (tiles x0 x1 x2 j.val).2.1 (tk x1 j))
end

section
variable (c : Dev nD) (i : grid0.Coords) (a2 : Memref sig .tc .vmem S1x1024x256 .bf16) (h2 : a2.IsWhole) (a3 : Memref sig .tc .vmem S1x8192x256 .bf16) (h3 : a3.IsWhole) (a4 : Memref sig .tc .vmem S1x8192x128 .bf16) (h4 : a4.IsWhole)
  (a5 : Memref sig .tc .vmem S1024x128 .bf16) (h5 : a5.IsWhole) (a6 : Memref sig .tc .vmem S1x1x1x1024 .f32) (h6 : a6.IsWhole)
  (x0 : Vec F S1x1024x256 .bf16) (x1 : Vec F S1x8192x256 .bf16) (x2 : Vec F S1x8192x128 .bf16)

/-- One trip is one tile. -/
theorem trip_eq (k : Fin (k0_t1_loop i).trips) (hk : k.val < 8) (s : Run F) :
    tripR_k0_t1 (F := F) Variants.none c none i a2 h2 a3 h3 a4 h4 a5 h5 a6 h6 x0 (h3.unread x1) (h4.unread x2) k s = tile x0 x1 x2 ⟨k.val, hk⟩ s := by
  unfold tripR_k0_t1 trip_k0_t1
  dsimp only
  rw [View.readAt_unit a3.view _ (k0_off1_inb i k) (off1 i k) (inK ⟨k.val, hk⟩), View.readAt_unit a4.view _ (k0_off2_inb i k) (off2 i k) (inV ⟨k.val, hk⟩),
    h3.read_unread, h4.read_unread]
  rfl

/-- So the loop leaves what the tiles before the queries' own leave. -/
theorem loop_eq (k : ℕ) (hk : k ≤ (k0_t1_loop i).trips) :
    st_k0_t1 (F := F) Variants.none c none i a2 h2 a3 h3 a4 h4 a5 h5 a6 h6 x0 (h3.unread x1) (h4.unread x2) (k0_pay4, k0_pay5, k0_pay6) k = tiles x0 x1 x2 k := by
  induction k with
  | zero => rfl
  | succ k ih =>
    have h8 : k < 8 := by have := trips1 i; have e : (i 1).val < 8 := (i 1).isLt; omega
    rw [st_k0_t1_succ Variants.none c none i a2 h2 a3 h3 a4 h4 a5 h5 a6 h6 x0 (h3.unread x1) (h4.unread x2) _ ⟨k, hk⟩]
    rw [ih (Nat.le_of_succ_le hk), trip_eq c i a2 h2 a3 h3 a4 h4 a5 h5 a6 h6 x0 x1 x2 ⟨k, hk⟩ h8]
    rw [tiles, dif_pos h8]

/-- After all its trips, those are all the tiles before the queries' own; -/
theorem loop_end : st_k0_t1 (F := F) Variants.none c none i a2 h2 a3 h3 a4 h4 a5 h5 a6 h6 x0 (h3.unread x1) (h4.unread x2) (k0_pay4, k0_pay5, k0_pay6)
    (Scf.trips (k0_t1_loop i).lb (k0_t1_loop i).ub (k0_t1_loop i).st) = tiles x0 x1 x2 (i 1).val := by
  show st_k0_t1 (F := F) Variants.none c none i a2 h2 a3 h3 a4 h4 a5 h5 a6 h6 x0 (h3.unread x1) (h4.unread x2) (k0_pay4, k0_pay5, k0_pay6) (k0_t1_loop i).trips = _
  rw [loop_eq c i a2 h2 a3 h3 a4 h4 a5 h5 a6 h6 x0 x1 x2 _ le_rfl, trips1]

/-- and the remainder loop makes no trip. -/
theorem loop_rest (X3 : BufTy.Contents (Elt F) a3.view.ty) (X4 : BufTy.Contents (Elt F) a4.view.ty) (s : Run F) :
    st_k0_t2 (F := F) Variants.none c none i a2 h2 a3 h3 a4 h4 a5 h5 a6 h6 x0 X3 X4 s (Scf.trips (k0_t2_loop i).lb (k0_t2_loop i).ub (k0_t2_loop i).st) = s := by
  show st_k0_t2 (F := F) Variants.none c none i a2 h2 a3 h3 a4 h4 a5 h5 a6 h6 x0 X3 X4 s (k0_t2_loop i).trips = _
  rw [trips2]
  rfl

/-- The point's own tile of keys and of values. -/
theorem own_k : View.readAt (Elt F) a3.view (Rect.unit (s := S1x8192x256) (k0_off5 i) S1x1024x256.size (k0_off5_inb i)).toLoadRect (h3.unread x1) = tk x1 (i 1) := by
  rw [View.readAt_unit a3.view _ (k0_off5_inb i) (off5 i) (inK (i 1)), h3.read_unread]; rfl
theorem own_v : View.readAt (Elt F) a4.view (Rect.unit (s := S1x8192x128) (k0_off6 i) S1x1024x128.size (k0_off6_inb i)).toLoadRect (h4.unread x2) = tv x2 (i 1) := by
  rw [View.readAt_unit a4.view _ (k0_off6_inb i) (off6 i) (inV (i 1)), h4.read_unread]; rfl
theorem own_q : View.readAt (Elt F) a2.view (Rect.unit (s := S1x1024x256) ![0, 0, 0] S1x1024x256.size inb_S1x1024x256_S1x1024x256_0_0_0).toLoadRect (h2.unread x0) = x0 := by
  rw [View.readAt_full, h2.read_unread]

/-- What runs along the tiles, as the body has it when it comes to the queries' own. -/
theorem run_end : st_k0_t2 (F := F) Variants.none c none i a2 h2 a3 h3 a4 h4 a5 h5 a6 h6
      (View.readAt (Elt F) a2.view (Rect.unit (s := S1x1024x256) ![0, 0, 0] S1x1024x256.size inb_S1x1024x256_S1x1024x256_0_0_0).toLoadRect (h2.unread x0)) (h3.unread x1) (h4.unread x2)
      (st_k0_t1 (F := F) Variants.none c none i a2 h2 a3 h3 a4 h4 a5 h5 a6 h6
        (View.readAt (Elt F) a2.view (Rect.unit (s := S1x1024x256) ![0, 0, 0] S1x1024x256.size inb_S1x1024x256_S1x1024x256_0_0_0).toLoadRect (h2.unread x0)) (h3.unread x1) (h4.unread x2)
        (k0_pay4, k0_pay5, k0_pay6) (Scf.trips (k0_t1_loop i).lb (k0_t1_loop i).ub (k0_t1_loop i).st))
      (Scf.trips (k0_t2_loop i).lb (k0_t2_loop i).ub (k0_t2_loop i).st) = tiles x0 x1 x2 (i 1).val := by
  rw [own_q, loop_rest, loop_end]

theorem outBlock_of {q : Vec F S1x1024x256 .bf16} {s : Run F} {k : Vec F S1x1024x256 .bf16} {v : Vec F S1x1024x128 .bf16} {j : Fin 8}
    (hq : q = x0) (hs : s = tiles x0 x1 x2 j.val) (hk : k = tk x1 j) (hv : v = tv x2 j) :
    k0_pay1 (k0_pay23 q s.1 s.2.1 k) (k0_pay24 q s.1 s.2.2 k) (k0_pay25 q s.1 k) v = outBlock x0 x1 x2 j := by
  subst hq hs hk hv; rfl

theorem lseBlock_of {q : Vec F S1x1024x256 .bf16} {s : Run F} {k : Vec F S1x1024x256 .bf16} {j : Fin 8} (hq : q = x0) (hs : s = tiles x0 x1 x2 j.val) (hk : k = tk x1 j) :
    k0_pay2 (k0_pay20 q s.1 k) (k0_pay23 q s.1 s.2.1 k) = lseBlock x0 x1 x2 j := by
  subst hq hs hk; rfl

/-- What a point leaves in its output block, -/
theorem out3 : out0_A_3 c i a2 h2 a3 h3 a4 h4 a5 h5 a6 h6 x0 x1 x2 = outBlock x0 x1 x2 (i 1) := by
  unfold out0_A_3
  rw [View.read_writes_junk_eq_canon]
  unfold kernelRun0_A
  dsimp only
  sl_unfold_words
  rw [canon2]
  exact outBlock_of x0 x1 x2 (own_q a2 h2 x0) (run_end c i a2 h2 a3 h3 a4 h4 a5 h5 a6 h6 x0 x1 x2) (own_k i a3 h3 x1) (own_v i a4 h4 x2)

/-- and in its block of row statistics. -/
theorem out4 : out0_A_4 c i a2 h2 a3 h3 a4 h4 a5 h5 a6 h6 x0 x1 x2 = lseBlock x0 x1 x2 (i 1) := by
  unfold out0_A_4
  rw [View.read_writes_junk_eq_canon]
  unfold kernelRun0_A
  dsimp only
  sl_unfold_words
  refine (View.canon_cons_unit_zero (S := S1x1x1x1024) (funext fun a => by fin_cases a <;> rfl) _ _ _).trans ?_
  exact lseBlock_of x0 x1 x2 (own_q a2 h2 x0) (run_end c i a2 h2 a3 h3 a4 h4 a5 h5 a6 h6 x0 x1 x2) (own_k i a3 h3 x1)
end

end FlashF

end
-- ==== Proof.FlashF.Online.lean ====
/- One row of a softmax taken a tile of keys at a time: the largest logit so far, the sum of the exponentials shifted by it, and the values they
   weigh. -/
module

public import proofs.«01_k».proof.Proof.Flash.Soft

@[expose] public section

noncomputable section

namespace FlashF

open Idealize.ShloMosaic Cert.Proof Flash

/-- A change of the shift rescales what was summed. -/
theorem rescale (μ ν s : ℝ) : Ideal.exp ((μ : EReal) - (ν : EReal)) * ((Real.exp (-μ) * s : ℝ) : EReal) = ((Real.exp (-ν) * s : ℝ) : EReal) := by
  rw [← EReal.coe_sub, Ideal.exp_coe, ← EReal.coe_mul, ← mul_assoc, ← Real.exp_add]
  exact congrArg (fun z : ℝ => ((Real.exp z * s : ℝ) : EReal)) (by ring)

/-- Before the first tile there is nothing to rescale. -/
theorem rescale_bot (ν : ℝ) (f : ℕ → ℝ) : Ideal.exp ((⊥ : EReal) - (ν : EReal)) * 0 = ((Real.exp (-ν) * ∑ k ∈ Finset.range 0, f k : ℝ) : EReal) := by
  rw [mul_zero, Finset.sum_range_zero, mul_zero, EReal.coe_zero]

/-- A tile's sum joins the sum so far. -/
theorem join (f : ℕ → ℝ) (n : ℕ) (e : ℝ) {x y : EReal} (hx : x = ((e * ∑ k ∈ Finset.range n, f k : ℝ) : EReal)) (hy : y = ((e * ∑ b : Fin 1024, f (n + b.val) : ℝ) : EReal)) :
    x + y = ((e * ∑ k ∈ Finset.range (n + 1024), f k : ℝ) : EReal) := by
  rw [hx, hy, ← EReal.coe_add, ← mul_add, sum_rows]

section
variable (S : ℕ → ℝ) (V : ℕ → ℕ → ℝ) (r : ℕ)

/-- What the row holds once the keys below `n` are in. -/
def Part (n : ℕ) (m l : EReal) (a : Fin 128 → EReal) : Prop :=
  (n = 0 ∧ m = ⊥ ∧ l = 0 ∧ ∀ d, a d = 0) ∨ ∃ μ : ℝ, m = (μ : EReal) ∧ l = ((Real.exp (-μ) * ∑ k ∈ Finset.range n, num S r k : ℝ) : EReal)
    ∧ ∀ d, a d = ((Real.exp (-μ) * ∑ k ∈ Finset.range n, num S r k * V k d.val : ℝ) : EReal)

variable {S V r} {n : ℕ} {m l : EReal} {a : Fin 128 → EReal}

/-- One tile more, of which the row sees the first key at least. -/
theorem Part.step (h : Part S V r n m l a) (hn : n ≤ r) (x : Fin 1024 → EReal) (hx : ∀ b, x b = if n + b.val ≤ r then ((S (n + b.val) : ℝ) : EReal) else ⊥)
    (m' : EReal) (hm : m' = max m (Finset.univ.fold max ⊥ x)) :
    Part S V r (n + 1024) m' (Ideal.exp (m - m') * l + ∑ b, Ideal.exp (x b - m'))
      (fun d => Ideal.exp (m - m') * a d + ∑ b : Fin 1024, Ideal.exp (x b - m') * ((V (n + b.val) d.val : ℝ) : EReal)) := by
  obtain ⟨τ, e⟩ := row_max x (fun b => S (n + b.val)) ⟨min (r - n) 1023, by omega⟩ fun b => by
    rw [hx b]
    by_cases g : n + b.val ≤ r
    · rw [if_pos g, if_pos (show b.val ≤ min (r - n) 1023 by omega)]
    · rw [if_neg g, if_neg (show ¬b.val ≤ min (r - n) 1023 by omega)]
  rw [e] at hm
  obtain ⟨ν, hν, hl, ha⟩ : ∃ ν : ℝ, m' = (ν : EReal) ∧ Ideal.exp (m - m') * l = ((Real.exp (-ν) * ∑ k ∈ Finset.range n, num S r k : ℝ) : EReal)
      ∧ ∀ d, Ideal.exp (m - m') * a d = ((Real.exp (-ν) * ∑ k ∈ Finset.range n, num S r k * V k d.val : ℝ) : EReal) := by
    rcases h with ⟨rfl, rfl, rfl, h⟩ | ⟨μ, rfl, rfl, h⟩
    · rw [max_eq_right bot_le] at hm
      exact ⟨τ, hm, hm ▸ rescale_bot τ _, fun d => by rw [h d, hm]; exact rescale_bot τ _⟩
    · refine ⟨max μ τ, hm.trans (EReal.coe_strictMono.monotone.map_max).symm, ?_, fun d => ?_⟩
      · rw [hm, ← EReal.coe_strictMono.monotone.map_max]; exact rescale _ _ _
      · rw [hm, ← EReal.coe_strictMono.monotone.map_max, h d]; exact rescale _ _ _
  have p (b : Fin 1024) : Ideal.exp (x b - m') = ((Real.exp (-ν) * num S r (n + b.val) : ℝ) : EReal) := by
    rw [hν]; exact shifted S r (n + b.val) ν _ (hx b)
  refine Or.inr ⟨ν, hν, join (num S r) n _ hl ?_, fun d => join (fun k => num S r k * V k d.val) n _ (ha d) ?_⟩
  · rw [Finset.mul_sum, ← sum_real]
    exact Finset.sum_congr rfl fun b _ => p b
  · rw [sum_mul_real _ _ (fun b : Fin 1024 => Real.exp (-ν) * num S r (n + b.val)) (fun b => V (n + b.val) d.val) p fun _ => rfl, Finset.mul_sum]
    exact congrArg _ (Finset.sum_congr rfl fun b _ => mul_assoc _ _ _)

/-- Keys after the row's own weigh nothing. -/
theorem past (g : ℕ → ℝ) (h : r < n) (hn : n ≤ 8192) : ∑ k ∈ Finset.range n, num S r k * g k = ∑ k : Fin 8192, num S r k.val * g k.val := by
  rw [← Finset.sum_range fun k => num S r k * g k]
  refine Finset.sum_subset (Finset.range_mono hn) fun k _ hk => ?_
  rw [Finset.mem_range] at hk
  unfold num
  rw [if_neg (by omega), zero_mul]

theorem past_one (h : r < n) (hn : n ≤ 8192) : ∑ k ∈ Finset.range n, num S r k = den S r := by
  have e := past (S := S) (fun _ => 1) h hn
  simp only [mul_one] at e
  exact e

/-- Once the row's own key is in, the quotient is the softmax's mean of the values, -/
theorem Part.mean (P : Part S V r n m l a) (h : r < n) (hn : n ≤ 8192) (d : Fin 128) :
    Ideal.div (a d) l = ((∑ k : Fin 8192, soft S r k.val * V k.val d.val : ℝ) : EReal) := by
  obtain ⟨h0, -⟩ | ⟨μ, -, hl, ha⟩ := P
  · omega
  · rw [hl, ha d, past_one h hn, past (fun k => V k d.val) h hn, div_real _ _ (shifted_pos S r (by omega) μ).ne', mul_div_mul_left _ _ (Real.exp_pos _).ne', Finset.sum_div]
    refine congrArg _ (Finset.sum_congr rfl fun k _ => ?_)
    unfold soft
    ring

/-- and the shift and the logarithm of the sum give the logarithm of its denominator. -/
theorem Part.log (P : Part S V r n m l a) (h : r < n) (hn : n ≤ 8192) : m + Ideal.log l = ((Real.log (den S r) : ℝ) : EReal) := by
  obtain ⟨h0, -⟩ | ⟨μ, hm, hl, -⟩ := P
  · omega
  · rw [hm, hl, past_one h hn, ← log_of S r (by omega) μ, EReal.coe_add, Ideal.log_coe, if_neg (not_le.mpr (shifted_pos _ _ (by omega) μ))]
end

end FlashF
end
-- ==== Proof.Rms.lean ====
/-
# The root-mean-square norm and its gradient, for every call that has one

`x · (mean x² + ε)^(-1/2) · g` has, for a cotangent `e = dy · g` before the gain, the gradient `r (e − x r · mean (e x r))`. A kernel
computes it in this form; the reference's transposed norm adds the parts that reach `x` through the square twice. Over the reals the
two agree on a row whose entries are real.
-/
module

public import proofs.«01_k».proof.Proof.Tiles
public import proofs.«01_k».proof.Proof.Reals
public import proofs.«01_k».proof.Proof.Whole
public import Idealize.ShloMosaic.Lib.KernelVsHost
public import Idealize.ShloMosaic.Lib.ValueLayout
public import Idealize.ShloMosaic.Lib.Pointwise

@[expose] public section

set_option maxRecDepth 16384

noncomputable section

namespace Cert.Proof.Rms

open Idealize Idealize.ShloMosaic

/-! ## One row -/

section
variable {N : Nat}

/-- The mean square of a row and the small number. -/
def msq (C ε : EReal) (x : Fin N → EReal) : EReal := Ideal.div (∑ k, x k * x k) C + ε

/-- One over the root of the mean square. -/
def inv (C ε : EReal) (x : Fin N → EReal) : EReal := Ideal.rsqrt (msq C ε x)

/-- The gradient as a kernel computes it. -/
def kgrad (C ε : EReal) (x e : Fin N → EReal) (d : Fin N) : EReal :=
  inv C ε x * (e d - x d * inv C ε x * Ideal.div (∑ k, e k * (x k * inv C ε x)) C)

/-- What reaches the square's argument. -/
def slope (C ε h : EReal) (x e : Fin N → EReal) : EReal :=
  Ideal.div ((∑ k, x k * e k) * (h * Ideal.div (inv C ε x) (msq C ε x))) C

/-- The mean square of a row of reals is a positive real. -/
theorem msq_real (C ε : ℝ) (hC : 0 < C) (x : Fin N → ℝ) :
    msq (C : EReal) (ε : EReal) (fun k => (x k : EReal)) = (((∑ k, x k * x k) / C + ε : ℝ) : EReal) := by
  unfold msq
  rw [sum_mul_real _ _ x x (fun _ => rfl) (fun _ => rfl), div_real _ _ hC.ne', ← EReal.coe_add]

/-- The root's inverse of a row of reals is a real. -/
theorem inv_real (C ε : ℝ) (hC : 0 < C) (hε : 0 < ε) (x : Fin N → ℝ) :
    inv (C : EReal) (ε : EReal) (fun k => (x k : EReal)) = (((√((∑ k, x k * x k) / C + ε))⁻¹ : ℝ) : EReal) := by
  have h : 0 < (∑ k, x k * x k) / C + ε :=
    add_pos_of_nonneg_of_pos (div_nonneg (Finset.sum_nonneg fun k _ => mul_self_nonneg _) hC.le) hε
  unfold inv
  rw [msq_real C ε hC, Ideal.rsqrt_coe, if_neg h.not_gt, if_neg h.ne']

/-- On a row of reals the kernel's gradient is the reference's, and it is a real. -/
theorem grad_row (C ε : ℝ) (hC : 0 < C) (hε : 0 < ε) (x e : Fin N → ℝ) (d : Fin N) :
    kgrad (C : EReal) (ε : EReal) (fun k => (x k : EReal)) (fun k => (e k : EReal)) d
      = (e d : EReal) * inv (C : EReal) (ε : EReal) (fun k => (x k : EReal))
        + (x d : EReal) * slope (C : EReal) (ε : EReal) ((-(1 / 2) : ℝ) : EReal) (fun k => (x k : EReal)) (fun k => (e k : EReal))
        + slope (C : EReal) (ε : EReal) ((-(1 / 2) : ℝ) : EReal) (fun k => (x k : EReal)) (fun k => (e k : EReal)) * (x d : EReal) := by
  have h : 0 < (∑ k, x k * x k) / C + ε :=
    add_pos_of_nonneg_of_pos (div_nonneg (Finset.sum_nonneg fun k _ => mul_self_nonneg _) hC.le) hε
  unfold kgrad slope
  rw [inv_real C ε hC hε, msq_real C ε hC, sum_mul_real _ _ x e (fun _ => rfl) (fun _ => rfl)]
  generalize (∑ k, x k * x k) / C + ε = s at h
  have hr : √s ^ 2 = s := Real.sq_sqrt h.le
  have h0 : 0 < √s := Real.sqrt_pos.mpr h
  rw [sum_mul_real _ _ e (fun k => x k * (√s)⁻¹) (fun _ => rfl) (fun k => (EReal.coe_mul _ _).symm), div_real _ _ h.ne']
  dsimp only
  simp only [← EReal.coe_mul, div_real _ _ hC.ne', ← EReal.coe_add, ← EReal.coe_sub]
  refine congrArg _ ?_
  rw [show ∑ k, e k * (x k * (√s)⁻¹) = (∑ k, x k * e k) * (√s)⁻¹ by
    rw [Finset.sum_mul]; exact Finset.sum_congr rfl fun k _ => by ring]
  generalize ∑ k, x k * e k = q
  rw [show (√s)⁻¹ / s = (√s)⁻¹ ^ 3 by field_simp; exact hr]
  ring

end

/-! ## Reals among the extended reals -/

/-- An extended real that is a real. -/
def IsReal (a : EReal) : Prop := ∃ r : ℝ, a = (r : EReal)

theorem IsReal.of {a : EReal} (h : a = ((a.toReal : ℝ) : EReal)) : IsReal a := ⟨_, h⟩

theorem IsReal.coe (r : ℝ) : IsReal (r : EReal) := ⟨r, rfl⟩

theorem IsReal.mul {a b : EReal} (ha : IsReal a) (hb : IsReal b) : IsReal (a * b) := by
  obtain ⟨a, rfl⟩ := ha
  obtain ⟨b, rfl⟩ := hb
  exact ⟨a * b, (EReal.coe_mul a b).symm⟩

theorem IsReal.add {a b : EReal} (ha : IsReal a) (hb : IsReal b) : IsReal (a + b) := by
  obtain ⟨a, rfl⟩ := ha
  obtain ⟨b, rfl⟩ := hb
  exact ⟨a + b, (EReal.coe_add a b).symm⟩

theorem IsReal.sub {a b : EReal} (ha : IsReal a) (hb : IsReal b) : IsReal (a - b) := by
  obtain ⟨a, rfl⟩ := ha
  obtain ⟨b, rfl⟩ := hb
  exact ⟨a - b, (EReal.coe_sub a b).symm⟩

theorem IsReal.sum {ι : Type} [Fintype ι] {f : ι → EReal} (h : ∀ k, IsReal (f k)) : IsReal (∑ k, f k) := by
  choose g hg using h
  exact ⟨∑ k, g k, (Finset.sum_congr rfl fun k _ => hg k).trans (sum_real _ g)⟩

/-- A product of matrices of reals has real entries. -/
theorem IsReal.dot {ι : Type} [Fintype ι] {f g : ι → EReal} (hf : ∀ k, IsReal (f k)) (hg : ∀ k, IsReal (g k)) : IsReal (∑ k, f k * g k) :=
  IsReal.sum fun k => (hf k).mul (hg k)

theorem IsReal.inv {N : Nat} {C ε : ℝ} (hC : 0 < C) (hε : 0 < ε) {x : Fin N → EReal} (hx : ∀ k, IsReal (x k)) : IsReal (Rms.inv (C : EReal) (ε : EReal) x) := by
  choose y hy using hx
  obtain rfl : x = fun k => (y k : EReal) := funext hy
  exact ⟨_, inv_real C ε hC hε y⟩

/-- On a row of reals the kernel's gradient, added to anything, is what the reference adds up. -/
theorem grad_sum {N : Nat} {C ε : ℝ} (hC : 0 < C) (hε : 0 < ε) {x e : Fin N → EReal} (hx : ∀ k, IsReal (x k)) (he : ∀ k, IsReal (e k)) (d : Fin N) :
    kgrad (C : EReal) (ε : EReal) x e d = e d * Rms.inv (C : EReal) (ε : EReal) x + x d * slope (C : EReal) (ε : EReal) ((-(1 / 2) : ℝ) : EReal) x e
      + slope (C : EReal) (ε : EReal) ((-(1 / 2) : ℝ) : EReal) x e * x d := by
  choose y hy using hx
  choose f hf using he
  obtain rfl : x = fun k => (y k : EReal) := funext hy
  obtain rfl : e = fun k => (f k : EReal) := funext hf
  exact grad_row C ε hC hε y f d

/-- The logistic function. -/
def sig (l : EReal) : EReal := Ideal.div 1 (1 + Ideal.exp (-l))

/-- It is a real everywhere. -/
theorem sig_real (l : EReal) : IsReal (sig l) := by
  unfold sig
  induction l using EReal.rec with
  | bot => exact ⟨0, by rw [EReal.neg_bot, show Ideal.exp ⊤ = ⊤ from rfl, show (1 : EReal) + ⊤ = ⊤ from EReal.coe_add_top 1]; simp [Ideal.div]⟩
  | coe r =>
    refine ⟨1 / (1 + Real.exp (-r)), ?_⟩
    rw [← EReal.coe_neg, Ideal.exp_coe, ← EReal.coe_one, ← EReal.coe_add, div_real _ _ (by positivity)]
  | top => exact ⟨1, by rw [EReal.neg_top, Ideal.exp_bot, add_zero, ← EReal.coe_one, div_real _ _ one_ne_zero, div_one]⟩

/-! ## Constants -/

theorem ofBits_1024 : Ideal.ofBits .f32 0x44800000#32 = ((1024 : ℝ) : EReal) := by
  simp [Ideal.ofBits, Ideal.ieee, -EReal.coe_mul]; norm_num

theorem ofBits_eps : Ideal.ofBits .f32 0x358637BD#32 = ((8796093 / 2 ^ 43 : ℝ) : EReal) := by
  simp [Ideal.ofBits, Ideal.ieee, -EReal.coe_mul]; norm_num

theorem ofBits_half_neg : Ideal.ofBits .f32 0xBF000000#32 = ((-(1 / 2) : ℝ) : EReal) := by
  simp [Ideal.ofBits, Ideal.ieee, -EReal.coe_mul]; norm_num

theorem ofBits_zero : Ideal.ofBits .f32 0x00000000#32 = 0 := Ideal.ofBits_zero_f32

/-! ## Arrays, kernel side -/

section
variable {M N : Nat}

/-- Row sums, as a column. -/
theorem row_sum (x : FVec Ideal ⟨2, ![M, N]⟩ .f32) (h : (⟨2, ![M, N]⟩ : Shape).Reduces [1] ⟨1, ![M]⟩) (h2 h3) (h4 : (⟨1, ![M]⟩ : Shape).ShapeCasts ⟨2, ![M, 1]⟩) (r : Fin M) :
    shapeCast ⟨2, ![M, 1]⟩ (multiReduction .add [1] ⟨1, ![M]⟩ x 0x00000000#32 h h2 h3) h4 (ValueIdx.ix2 r 0) = ∑ k : Fin N, x (ValueIdx.ix2 r k) := by
  refine (shapeCast_apply _ _ _ (ValueIdx.ix1 r) ?_).trans (Ideal.reduceAdd_r2_a1 h _ _)
  rw [Shape.rowMajor_val_one, Shape.rowMajor_val_two]
  show r.val = r.val * 1 + 0
  omega

/-- Column sums, as a row. -/
theorem col_sum (x : FVec Ideal ⟨2, ![M, N]⟩ .f32) (h : (⟨2, ![M, N]⟩ : Shape).Reduces [0] ⟨1, ![N]⟩) (h2 h3) (h4 : (⟨1, ![N]⟩ : Shape).ShapeCasts ⟨2, ![1, N]⟩) (d : Fin N) :
    shapeCast ⟨2, ![1, N]⟩ (multiReduction .add [0] ⟨1, ![N]⟩ x 0x00000000#32 h h2 h3) h4 (ValueIdx.ix2 0 d) = ∑ r : Fin M, x (ValueIdx.ix2 r d) := by
  refine (shapeCast_apply _ _ _ (ValueIdx.ix1 d) ?_).trans (Ideal.reduceAdd_r2_a0 h _ _)
  rw [Shape.rowMajor_val_one, Shape.rowMajor_val_two]
  show d.val = 0 * N + d.val
  omega

/-- A column over all columns. -/
theorem over_cols {α : Type} (v : (⟨2, ![M, 1]⟩ : Shape).Idx → α) (h : (⟨2, ![M, 1]⟩ : Shape).Broadcasts ⟨2, ![M, N]⟩) (r : Fin M) (d : Fin N) :
    broadcastTo ⟨2, ![M, N]⟩ v h (ValueIdx.ix2 r d) = v (ValueIdx.ix2 r 0) :=
  broadcastTo_apply v h _ _ fun a => by
    match a with
    | ⟨0, _⟩ =>
      by_cases hM : M = 1
      · subst hM; obtain rfl : r = 0 := Subsingleton.elim _ _; rfl
      · exact (if_neg hM).symm
    | ⟨1, _⟩ => rfl

/-- A row over all rows. -/
theorem over_rows {α : Type} (v : (⟨2, ![1, N]⟩ : Shape).Idx → α) (h : (⟨2, ![1, N]⟩ : Shape).Broadcasts ⟨2, ![M, N]⟩) (r : Fin M) (d : Fin N) :
    broadcastTo ⟨2, ![M, N]⟩ v h (ValueIdx.ix2 r d) = v (ValueIdx.ix2 0 d) :=
  broadcastTo_apply v h _ _ fun a => by
    match a with
    | ⟨0, _⟩ => rfl
    | ⟨1, _⟩ =>
      by_cases hN : N = 1
      · subst hN; obtain rfl : d = 0 := Subsingleton.elim _ _; rfl
      · exact (if_neg hN).symm

/-- The column of inverse roots of a block. -/
theorem inv_at (x : FVec Ideal ⟨2, ![M, N]⟩ .f32) (wc we : BitVec 32) (h h2 h3 h4) (r : Fin M) :
    rsqrt (addf (divf (shapeCast ⟨2, ![M, 1]⟩ (multiReduction .add [1] ⟨1, ![M]⟩ (mulf x x) 0x00000000#32 h h2 h3) h4)
        (broadcast ⟨2, ![M, 1]⟩ (Scalar.ofBits (F := Ideal) .f32 wc))) (broadcast ⟨2, ![M, 1]⟩ (Scalar.ofBits (F := Ideal) .f32 we))) (ValueIdx.ix2 r 0)
      = inv (Ideal.ofBits .f32 wc) (Ideal.ofBits .f32 we) fun k => x (ValueIdx.ix2 r k) :=
  congrArg (fun s => Ideal.rsqrt (Ideal.div s (Ideal.ofBits .f32 wc) + Ideal.ofBits .f32 we)) (row_sum (mulf x x) h h2 h3 h4 r)

/-- The gradient of a block, its inverse roots and its normalised rows given. -/
theorem grad_at (e y : FVec Ideal ⟨2, ![M, N]⟩ .f32) (s : FVec Ideal ⟨2, ![M, 1]⟩ .f32) (wc : BitVec 32) (h h2 h3 h4 hb hc) (r : Fin M) (d : Fin N) :
    mulf (broadcastTo ⟨2, ![M, N]⟩ s hb) (subf e (mulf y (broadcastTo ⟨2, ![M, N]⟩ (divf (shapeCast ⟨2, ![M, 1]⟩
        (multiReduction .add [1] ⟨1, ![M]⟩ (mulf e y) 0x00000000#32 h h2 h3) h4) (broadcast ⟨2, ![M, 1]⟩ (Scalar.ofBits (F := Ideal) .f32 wc))) hc))) (ValueIdx.ix2 r d)
      = s (ValueIdx.ix2 r 0) * (e (ValueIdx.ix2 r d) - y (ValueIdx.ix2 r d)
        * Ideal.div (∑ k, e (ValueIdx.ix2 r k) * y (ValueIdx.ix2 r k)) (Ideal.ofBits .f32 wc)) := by
  refine congrArg₂ (fun a b => a * (e (ValueIdx.ix2 r d) - y (ValueIdx.ix2 r d) * b)) (over_cols s hb r d) ((over_cols _ hc r d).trans ?_)
  exact congrArg (fun t => Ideal.div t (Ideal.ofBits .f32 wc)) (row_sum (mulf e y) h h2 h3 h4 r)

/-- The column of inverse roots of a block, as a kernel computes it. -/
abbrev invCol (x : FVec Ideal ⟨2, ![M, N]⟩ .f32) (wc we : BitVec 32) (h : (⟨2, ![M, N]⟩ : Shape).Reduces [1] ⟨1, ![M]⟩) (h2 : FKind.Formats .f32)
    (h3 : 0x00000000#32 = FKind.add.neutral .f32 h2) (h4 : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf x x) 0x00000000#32 h h2 h3) h4)
    (broadcast ⟨2, ![M, 1]⟩ (Scalar.ofBits (F := Ideal) .f32 wc))) (broadcast ⟨2, ![M, 1]⟩ (Scalar.ofBits (F := Ideal) .f32 we)))

/-- The rows of a block over their roots. -/
theorem unit_at (x : FVec Ideal ⟨2, ![M, N]⟩ .f32) (wc we : BitVec 32) (h h2 h3 h4 hb) (r : Fin M) (d : Fin N) :
    mulf x (broadcastTo ⟨2, ![M, N]⟩ (invCol x wc we h h2 h3 h4) hb) (ValueIdx.ix2 r d)
      = x (ValueIdx.ix2 r d) * inv (Ideal.ofBits .f32 wc) (Ideal.ofBits .f32 we) fun k => x (ValueIdx.ix2 r k) :=
  congrArg (x (ValueIdx.ix2 r d) * ·) ((over_cols _ hb r d).trans (inv_at x wc we h h2 h3 h4 r))

/-- The gradient of a block through the norm. -/
theorem block_grad (x e : FVec Ideal ⟨2, ![M, N]⟩ .f32) (wc we : BitVec 32) (h h2 h3 h4 hb h5 h6 h7 h8 hc) (r : Fin M) (d : Fin N) :
    mulf (broadcastTo ⟨2, ![M, N]⟩ (invCol x wc we h h2 h3 h4) hb) (subf e (mulf (mulf x (broadcastTo ⟨2, ![M, N]⟩ (invCol x wc we h h2 h3 h4) hb))
        (broadcastTo ⟨2, ![M, N]⟩ (divf (shapeCast ⟨2, ![M, 1]⟩ (multiReduction .add [1] ⟨1, ![M]⟩
          (mulf e (mulf x (broadcastTo ⟨2, ![M, N]⟩ (invCol x wc we h h2 h3 h4) hb))) 0x00000000#32 h5 h6 h7) h8)
          (broadcast ⟨2, ![M, 1]⟩ (Scalar.ofBits (F := Ideal) .f32 wc))) hc))) (ValueIdx.ix2 r d)
      = kgrad (Ideal.ofBits .f32 wc) (Ideal.ofBits .f32 we) (fun k => x (ValueIdx.ix2 r k)) (fun k => e (ValueIdx.ix2 r k)) d := by
  refine (grad_at e _ _ wc h5 h6 h7 h8 hb hc r d).trans ?_
  have u := fun k => unit_at x wc we h h2 h3 h4 hb r k
  unfold kgrad
  exact congrArg₂ (· * ·) (inv_at x wc we h h2 h3 h4 r) (congrArg₂ (fun a b => e (ValueIdx.ix2 r d) - a * Ideal.div b (Ideal.ofBits .f32 wc)) (u d)
    (Finset.sum_congr rfl fun k _ => congrArg (e (ValueIdx.ix2 r k) * ·) (u k)))

end

/-! ## Arrays, reference side -/

section
variable {M N : Nat}

/-- A host row sum. -/
theorem ref_row_sum (x : FVec Ideal ⟨2, ![M, N]⟩ .f32) (h : (⟨2, ![M, N]⟩ : Shape).ReducesTo [1] ⟨1, ![M]⟩) (hu) (r : Fin M) :
    Host.reduceAdd x (constant (F := Ideal) ⟨0, ![]⟩ .f32 0x00000000#32) h hu (ValueIdx.ix1 r) = ∑ k : Fin N, x (ValueIdx.ix2 r k) := by
  simp only [Host.reduceAdd, Ideal.hostReduceAdd_def]
  refine (Ideal.hostReduceAdd_r2_a1 h _ _ _).trans ?_
  exact (congrArg (· + _) Ideal.ofBits_zero_f32).trans (zero_add _)

/-- A host column sum. -/
theorem ref_col_sum (x : FVec Ideal ⟨2, ![M, N]⟩ .f32) (h : (⟨2, ![M, N]⟩ : Shape).ReducesTo [0] ⟨1, ![N]⟩) (hu) (d : Fin N) :
    Host.reduceAdd x (constant (F := Ideal) ⟨0, ![]⟩ .f32 0x00000000#32) h hu (ValueIdx.ix1 d) = ∑ r : Fin M, x (ValueIdx.ix2 r d) := by
  simp only [Host.reduceAdd, Ideal.hostReduceAdd_def]
  refine (Ideal.hostReduceAdd_r2_a0 h _ _ _).trans ?_
  exact (congrArg (· + _) Ideal.ofBits_zero_f32).trans (zero_add _)

/-- A vector as a column. -/
theorem as_col {α : Type} (v : (⟨1, ![M]⟩ : Shape).Idx → α) (h) (r : Fin M) :
    broadcastInDim ⟨2, ![M, 1]⟩ ![0] h v (ValueIdx.ix2 r 0) = v (ValueIdx.ix1 r) :=
  broadcastInDim_apply _ h _ _ _ fun a => by
    match a with
    | ⟨0, _⟩ =>
      by_cases hM : M = 1
      · subst hM; obtain rfl : r = 0 := Subsingleton.elim _ _; rfl
      · exact (if_neg hM).symm

/-- A vector over all columns. -/
theorem vec_cols {α : Type} (v : (⟨1, ![M]⟩ : Shape).Idx → α) (h) (r : Fin M) (d : Fin N) :
    broadcastInDim ⟨2, ![M, N]⟩ ![0] h v (ValueIdx.ix2 r d) = v (ValueIdx.ix1 r) :=
  broadcastInDim_apply _ h _ _ _ fun a => by
    match a with
    | ⟨0, _⟩ =>
      by_cases hM : M = 1
      · subst hM; obtain rfl : r = 0 := Subsingleton.elim _ _; rfl
      · exact (if_neg hM).symm

/-- A column over all columns. -/
theorem col_cols {α : Type} (v : (⟨2, ![M, 1]⟩ : Shape).Idx → α) (h) (r : Fin M) (d : Fin N) :
    broadcastInDim ⟨2, ![M, N]⟩ ![0, 1] h v (ValueIdx.ix2 r d) = v (ValueIdx.ix2 r 0) :=
  broadcastInDim_apply _ h _ _ _ fun a => by
    match a with
    | ⟨0, _⟩ =>
      by_cases hM : M = 1
      · subst hM; obtain rfl : r = 0 := Subsingleton.elim _ _; rfl
      · exact (if_neg hM).symm
    | ⟨1, _⟩ => rfl

/-- The reference's column of mean squares. -/
theorem ref_msq_at (x : FVec Ideal ⟨2, ![M, N]⟩ .f32) (wc we : BitVec 32) (h hu hb hc he) (r : Fin M) :
    addf (Host.divf (broadcastInDim ⟨2, ![M, 1]⟩ ![0] hb (Host.reduceAdd (t := ⟨1, ![M]⟩) (axes := [1]) (mulf x x) (constant (F := Ideal) ⟨0, ![]⟩ .f32 0x00000000#32) h hu))
        (broadcastInDim ⟨2, ![M, 1]⟩ ![] hc (constant (F := Ideal) ⟨0, ![]⟩ .f32 wc))) (broadcastInDim ⟨2, ![M, 1]⟩ ![] he (constant (F := Ideal) ⟨0, ![]⟩ .f32 we)) (ValueIdx.ix2 r 0)
      = msq (Ideal.ofBits .f32 wc) (Ideal.ofBits .f32 we) fun k => x (ValueIdx.ix2 r k) :=
  congrArg (fun s => Ideal.div s (Ideal.ofBits .f32 wc) + Ideal.ofBits .f32 we) ((as_col _ hb r).trans (ref_row_sum (mulf x x) h hu r))

/-- The reference's column of mean squares. -/
abbrev refMsq (x : FVec Ideal ⟨2, ![M, N]⟩ .f32) (wc we : BitVec 32) (h : (⟨2, ![M, N]⟩ : Shape).ReducesTo [1] ⟨1, ![M]⟩) (hu : 0 < (⟨0, ![]⟩ : Shape).numel)
    (hb : (⟨1, ![M]⟩ : Shape).BroadcastsInDim ⟨2, ![M, 1]⟩ ![0]) (hc : (⟨0, ![]⟩ : Shape).BroadcastsInDim ⟨2, ![M, 1]⟩ ![]) : FVec Ideal ⟨2, ![M, 1]⟩ .f32 :=
  addf (Host.divf (broadcastInDim ⟨2, ![M, 1]⟩ ![0] hb (Host.reduceAdd (t := ⟨1, ![M]⟩) (axes := [1]) (mulf x x) (constant (F := Ideal) ⟨0, ![]⟩ .f32 0x00000000#32) h hu))
    (broadcastInDim ⟨2, ![M, 1]⟩ ![] hc (constant (F := Ideal) ⟨0, ![]⟩ .f32 wc))) (broadcastInDim ⟨2, ![M, 1]⟩ ![] hc (constant (F := Ideal) ⟨0, ![]⟩ .f32 we))

/-- The reference's rows over their roots. -/
theorem ref_unit_at (x : FVec Ideal ⟨2, ![M, N]⟩ .f32) (wc we : BitVec 32) (h hu hb hc hd) (r : Fin M) (d : Fin N) :
    mulf x (broadcastInDim ⟨2, ![M, N]⟩ ![0, 1] hd (Host.rsqrt (refMsq x wc we h hu hb hc))) (ValueIdx.ix2 r d)
      = x (ValueIdx.ix2 r d) * inv (Ideal.ofBits .f32 wc) (Ideal.ofBits .f32 we) fun k => x (ValueIdx.ix2 r k) :=
  congrArg (x (ValueIdx.ix2 r d) * ·) ((col_cols _ hd r d).trans (congrArg Ideal.rsqrt (ref_msq_at x wc we h hu hb hc hc r)))

/-- What reaches the square's argument, in the reference. -/
theorem ref_slope_at (x e : FVec Ideal ⟨2, ![M, N]⟩ .f32) (i s : FVec Ideal ⟨2, ![M, 1]⟩ .f32) (wc wh : BitVec 32) (h hu hs hh hc h' hu') (r : Fin M) :
    Host.reduceAdd (t := ⟨1, ![M]⟩) (axes := [1]) (Host.divf (mulf (shapeCast ⟨2, ![M, 1]⟩ (Host.reduceAdd (t := ⟨1, ![M]⟩) (axes := [1]) (mulf x e) (constant (F := Ideal) ⟨0, ![]⟩ .f32 0x00000000#32) h hu) hs)
        (mulf (broadcastInDim ⟨2, ![M, 1]⟩ ![] hh (constant (F := Ideal) ⟨0, ![]⟩ .f32 wh)) (Host.divf i s))) (broadcastInDim ⟨2, ![M, 1]⟩ ![] hc (constant (F := Ideal) ⟨0, ![]⟩ .f32 wc)))
        (constant (F := Ideal) ⟨0, ![]⟩ .f32 0x00000000#32) h' hu' (ValueIdx.ix1 r)
      = Ideal.div ((∑ k, x (ValueIdx.ix2 r k) * e (ValueIdx.ix2 r k)) * (Ideal.ofBits .f32 wh * Ideal.div (i (ValueIdx.ix2 r 0)) (s (ValueIdx.ix2 r 0)))) (Ideal.ofBits .f32 wc) := by
  refine (ref_row_sum _ h' hu' r).trans ((Fin.sum_univ_one _).trans ?_)
  refine congrArg (fun t => Ideal.div (t * (Ideal.ofBits .f32 wh * Ideal.div (i (ValueIdx.ix2 r 0)) (s (ValueIdx.ix2 r 0)))) (Ideal.ofBits .f32 wc)) ?_
  refine (shapeCast_apply _ hs _ (ValueIdx.ix1 r) ?_).trans (ref_row_sum (mulf x e) h hu r)
  rw [Shape.rowMajor_val_one, Shape.rowMajor_val_two]
  show r.val = r.val * 1 + 0
  omega

/-- The reference's gradient through the norm: the part by the root, then the part by the square twice. -/
theorem ref_grad_at (A x e : FVec Ideal ⟨2, ![M, N]⟩ .f32) (wc we wh : BitVec 32) (h hu hb hc h' hs h'' hd) (r : Fin M) (d : Fin N) :
    addf (addf A (mulf x (broadcastInDim ⟨2, ![M, N]⟩ ![0] hd (Host.reduceAdd (t := ⟨1, ![M]⟩) (axes := [1]) (Host.divf (mulf (shapeCast ⟨2, ![M, 1]⟩
        (Host.reduceAdd (t := ⟨1, ![M]⟩) (axes := [1]) (mulf x e) (constant (F := Ideal) ⟨0, ![]⟩ .f32 0x00000000#32) h' hu) hs)
        (mulf (broadcastInDim ⟨2, ![M, 1]⟩ ![] hc (constant (F := Ideal) ⟨0, ![]⟩ .f32 wh)) (Host.divf (Host.rsqrt (refMsq x wc we h hu hb hc)) (refMsq x wc we h hu hb hc))))
        (broadcastInDim ⟨2, ![M, 1]⟩ ![] hc (constant (F := Ideal) ⟨0, ![]⟩ .f32 wc))) (constant (F := Ideal) ⟨0, ![]⟩ .f32 0x00000000#32) h'' hu))))
      (mulf (broadcastInDim ⟨2, ![M, N]⟩ ![0] hd (Host.reduceAdd (t := ⟨1, ![M]⟩) (axes := [1]) (Host.divf (mulf (shapeCast ⟨2, ![M, 1]⟩
        (Host.reduceAdd (t := ⟨1, ![M]⟩) (axes := [1]) (mulf x e) (constant (F := Ideal) ⟨0, ![]⟩ .f32 0x00000000#32) h' hu) hs)
        (mulf (broadcastInDim ⟨2, ![M, 1]⟩ ![] hc (constant (F := Ideal) ⟨0, ![]⟩ .f32 wh)) (Host.divf (Host.rsqrt (refMsq x wc we h hu hb hc)) (refMsq x wc we h hu hb hc))))
        (broadcastInDim ⟨2, ![M, 1]⟩ ![] hc (constant (F := Ideal) ⟨0, ![]⟩ .f32 wc))) (constant (F := Ideal) ⟨0, ![]⟩ .f32 0x00000000#32) h'' hu)) x) (ValueIdx.ix2 r d)
      = A (ValueIdx.ix2 r d)
        + x (ValueIdx.ix2 r d) * slope (Ideal.ofBits .f32 wc) (Ideal.ofBits .f32 we) (Ideal.ofBits .f32 wh) (fun k => x (ValueIdx.ix2 r k)) (fun k => e (ValueIdx.ix2 r k))
        + slope (Ideal.ofBits .f32 wc) (Ideal.ofBits .f32 we) (Ideal.ofBits .f32 wh) (fun k => x (ValueIdx.ix2 r k)) (fun k => e (ValueIdx.ix2 r k)) * x (ValueIdx.ix2 r d) := by
  have m : refMsq x wc we h hu hb hc (ValueIdx.ix2 r 0) = msq (Ideal.ofBits .f32 wc) (Ideal.ofBits .f32 we) fun k => x (ValueIdx.ix2 r k) :=
    ref_msq_at x wc we h hu hb hc hc r
  have s := (vec_cols _ hd r d).trans (ref_slope_at x e (Host.rsqrt (refMsq x wc we h hu hb hc)) (refMsq x wc we h hu hb hc) wc wh h' hu hs hc hc h'' hu r)
  rw [show Host.rsqrt (refMsq x wc we h hu hb hc) (ValueIdx.ix2 r 0) = inv (Ideal.ofBits .f32 wc) (Ideal.ofBits .f32 we) fun k => x (ValueIdx.ix2 r k) from
    congrArg Ideal.rsqrt m, m] at s
  exact congrArg (fun t => A (ValueIdx.ix2 r d) + x (ValueIdx.ix2 r d) * t + t * x (ValueIdx.ix2 r d)) s

/-- The gradient of the gain, as the reference sums and reshapes it. -/
theorem ref_gain_at (x : FVec Ideal ⟨2, ![M, N]⟩ .f32) (h : (⟨2, ![M, N]⟩ : Shape).ReducesTo [0] ⟨1, ![N]⟩) (hu hs)
    (h' : (⟨2, ![1, N]⟩ : Shape).ReducesTo [0] ⟨1, ![N]⟩) (hb : (⟨1, ![N]⟩ : Shape).BroadcastsInDim ⟨2, ![1, N]⟩ ![1]) (d : Fin N) :
    broadcastInDim ⟨2, ![1, N]⟩ ![1] hb (Host.reduceAdd (t := ⟨1, ![N]⟩) (axes := [0]) (shapeCast ⟨2, ![1, N]⟩
        (Host.reduceAdd (t := ⟨1, ![N]⟩) (axes := [0]) x (constant (F := Ideal) ⟨0, ![]⟩ .f32 0x00000000#32) h hu) hs)
        (constant (F := Ideal) ⟨0, ![]⟩ .f32 0x00000000#32) h' hu) (ValueIdx.ix2 0 d) = ∑ r : Fin M, x (ValueIdx.ix2 r d) := by
  refine (broadcastInDim_apply _ hb _ _ (ValueIdx.ix1 d) fun a => ?_).trans ((ref_col_sum _ h' hu d).trans ((Fin.sum_univ_one _).trans
    ((shapeCast_apply _ hs _ (ValueIdx.ix1 d) ?_).trans (ref_col_sum x h hu d))))
  · match a with
    | ⟨0, _⟩ =>
      by_cases hN : N = 1
      · subst hN; obtain rfl : d = 0 := Subsingleton.elim _ _; rfl
      · exact (if_neg hN).symm
  · rw [Shape.rowMajor_val_one, Shape.rowMajor_val_two]
    show d.val = 0 * N + d.val
    omega

end

end Cert.Proof.Rms
end
-- ==== Proof.FlashF.Row.lean ====
/- What a tile of keys does to the rows of a block of queries, entry by entry. -/
module

public import proofs.«01_k».proof.Proof.FlashF.Loop
public import proofs.«01_k».proof.Proof.FlashF.Online
public import proofs.«01_k».proof.Proof.Finite
public import proofs.«01_k».proof.Proof.Rms

@[expose] public section

set_option maxRecDepth 8192

noncomputable section

namespace FlashF

open Idealize.ShloMosaic Idealize.ShloMosaic.TcCoe Idealize.ShloMosaic.ValueIdx Cert.Proof
open Cert.FlashFIdeal Cert.FlashFIdeal.Gen
open Cert.Proof.Rms (over_cols row_sum)

/-- The largest entry of each row, as a column. -/
theorem row_top (x : FVec Ideal S1024x1024 .f32) (r : Fin 1024) :
    shapeCast S1024x1 (multiReduction .maximumf [1] S1024 x 0xFF800000#32 reduces_S1024x1024_S1024 (.inl rfl) rfl) shapeCasts_S1024_S1024x1 (ValueIdx.ix2 r 0)
      = Finset.univ.fold max ⊥ fun k : Fin 1024 => x (ValueIdx.ix2 r k) := by
  refine (shapeCast_apply _ _ _ (ValueIdx.ix1 r) ?_).trans ((Ideal.multiReduction_maximumf_single x _ reduces_S1024x1024_S1024 _ rfl _).trans ?_)
  · rw [Shape.rowMajor_val_one, Shape.rowMajor_val_two]
    show r.val = r.val * 1 + 0
    omega
  · show Finset.univ.fold max (Ideal.ofBits .f32 0xFF800000#32) _ = _
    rw [ofBits_bot]
    exact congrArg (Finset.univ.fold max ⊥) (funext fun k => congrArg x (idx2_ext rfl rfl))

section
variable (L : FVec Ideal S1024x1024 .f32) (s : Run Ideal) (W : FVec Ideal S1024x128 .bf16)

/-- From a tile's logits and its values: the new largest logits, the factor of the old sums, the weights, and the new sums. -/
def top : FVec Ideal S1024x1 .f32 :=
  maximumf s.1 (shapeCast S1024x1 (multiReduction .maximumf [1] S1024 L 0xFF800000#32 reduces_S1024x1024_S1024 (.inl rfl) rfl) shapeCasts_S1024_S1024x1)
def fade : FVec Ideal S1024x1 .f32 := exp (subf s.1 (top L s))
def wts : FVec Ideal S1024x1024 .f32 := exp (subf L (broadcastTo S1024x1024 (top L s) broadcasts_S1024x1_S1024x1024))
def total : FVec Ideal S1024x1 .f32 :=
  addf (mulf (fade L s) s.2.1) (shapeCast S1024x1 (multiReduction .add [1] S1024 (wts L s) 0x00000000#32 reduces_S1024x1024_S1024 (.inl rfl) rfl) shapeCasts_S1024_S1024x1)
def mix : FVec Ideal S1024x128 .f32 :=
  addf (mulf (broadcastTo S1024x128 (fade L s) broadcasts_S1024x1_S1024x128) s.2.2)
    (matmul dot_S1024x1024_S1024x128_S1024x128_1_0_0_1_n_n none (truncf .bf16 (wts L s) bitsLt_bf16_f32) W (constant S1024x128 .f32 0x00000000#32))

theorem top_at (a : Fin 1024) : top L s (ValueIdx.ix2 a 0) = max (s.1 (ValueIdx.ix2 a 0)) (Finset.univ.fold max ⊥ fun k : Fin 1024 => L (ValueIdx.ix2 a k)) :=
  congrArg (max _) (row_top L a)

theorem wts_at (a b : Fin 1024) : wts L s (ValueIdx.ix2 a b) = Ideal.exp (L (ValueIdx.ix2 a b) - top L s (ValueIdx.ix2 a 0)) :=
  congrArg (fun z => Ideal.exp (L _ - z)) (over_cols (top L s) broadcasts_S1024x1_S1024x1024 a b)

theorem total_at (a : Fin 1024) : total L s (ValueIdx.ix2 a 0) = Ideal.exp (s.1 (ValueIdx.ix2 a 0) - top L s (ValueIdx.ix2 a 0)) * s.2.1 (ValueIdx.ix2 a 0)
    + ∑ b : Fin 1024, Ideal.exp (L (ValueIdx.ix2 a b) - top L s (ValueIdx.ix2 a 0)) :=
  congrArg (_ + ·) ((row_sum (wts L s) reduces_S1024x1024_S1024 _ _ _ a).trans (Finset.sum_congr rfl fun b _ => wts_at L s a b))

theorem mix_at (a : Fin 1024) (d : Fin 128) : mix L s W (ValueIdx.ix2 a d) = Ideal.exp (s.1 (ValueIdx.ix2 a 0) - top L s (ValueIdx.ix2 a 0)) * s.2.2 (ValueIdx.ix2 a d)
    + ∑ b : Fin 1024, Ideal.exp (L (ValueIdx.ix2 a b) - top L s (ValueIdx.ix2 a 0)) * W (ValueIdx.ix2 b d) := by
  refine congrArg₂ (· + ·) (congrArg (· * _) (over_cols (fade L s) broadcasts_S1024x1_S1024x128 a d)) ?_
  refine (matmul_nn _ rfl _ _ _ _ _).trans ?_
  rw [Flash.zero_at, zero_add]
  exact Finset.sum_congr rfl fun b _ => congrArg (· * _) (wts_at L s a b)
end

/-! ## Against the tables of a head -/

section
variable (Q K V : ℕ → ℕ → ℝ) (r0 : ℕ)

/-- What a block of queries, the first of them query `r0`, holds once the keys below `n` are in. -/
def Rows (n : ℕ) (s : Run Ideal) : Prop :=
  ∀ a : Fin 1024, Part (Flash.lg Q K (r0 + a.val)) V (r0 + a.val) n (s.1 (ValueIdx.ix2 a 0)) (s.2.1 (ValueIdx.ix2 a 0)) fun d => s.2.2 (ValueIdx.ix2 a d)

variable {Q K V r0} {n : ℕ} {s : Run Ideal}

/-- One tile more. -/
theorem Rows.up (h : Rows Q K V r0 n s) (hn : n ≤ r0) (L : FVec Ideal S1024x1024 .f32) (W : FVec Ideal S1024x128 .bf16)
    (hL : ∀ a b : Fin 1024, L (ValueIdx.ix2 a b) = if n + b.val ≤ r0 + a.val then ((Flash.lg Q K (r0 + a.val) (n + b.val) : ℝ) : EReal) else ⊥)
    (hW : ∀ (b : Fin 1024) (d : Fin 128), W (ValueIdx.ix2 b d) = ((V (n + b.val) d.val : ℝ) : EReal)) :
    Rows Q K V r0 (n + 1024) (top L s, total L s, mix L s W) := fun a => by
  have k := (h a).step (by omega) (fun b => L (ValueIdx.ix2 a b)) (hL a) _ (top_at L s a)
  show Part _ _ _ _ (top L s _) (total L s _) fun d => mix L s W _
  rw [total_at, show (fun d => mix L s W (ValueIdx.ix2 a d)) = _ from funext fun d => (mix_at L s W a d).trans
    (congrArg (_ + ·) (Finset.sum_congr rfl fun b _ => congrArg (_ * ·) (hW b d)))]
  exact k

variable (Q K V) in
/-- What a point's blocks hold: query block `j`, all keys and all values. -/
structure Holds (j : ℕ) (x0 : Vec Ideal S1x1024x256 .bf16) (x1 : Vec Ideal S1x8192x256 .bf16) (x2 : Vec Ideal S1x8192x128 .bf16) : Prop where
  q : ∀ (a : Fin 1024) (d : Fin 256), x0 (ValueIdx.ix3 0 a d) = ((Q (1024 * j + a.val) d.val : ℝ) : EReal)
  k : ∀ (r : Fin 8192) (d : Fin 256), x1 (ValueIdx.ix3 0 r d) = ((K r.val d.val : ℝ) : EReal)
  v : ∀ (r : Fin 8192) (d : Fin 128), x2 (ValueIdx.ix3 0 r d) = ((V r.val d.val : ℝ) : EReal)
end

theorem tk_at (x : Vec Ideal S1x8192x256 .bf16) (n : Fin 8) (b : Fin 1024) (d : Fin 256) :
    tk x n (ValueIdx.ix3 0 b d) = x (ValueIdx.ix3 0 ⟨1024 * n.val + b.val, by omega⟩ d) := by
  unfold tk VecWindow.window
  refine congrArg x (funext fun a => Fin.ext ?_)
  match a with
  | ⟨0, _⟩ => rfl
  | ⟨1, _⟩ => show 1024 * n.val + 1 * b.val = 1024 * n.val + b.val; omega
  | ⟨2, _⟩ => show 0 + 1 * d.val = d.val; omega

theorem tv_at (x : Vec Ideal S1x8192x128 .bf16) (n : Fin 8) (b : Fin 1024) (d : Fin 128) :
    tv x n (ValueIdx.ix3 0 b d) = x (ValueIdx.ix3 0 ⟨1024 * n.val + b.val, by omega⟩ d) := by
  unfold tv VecWindow.window
  refine congrArg x (funext fun a => Fin.ext ?_)
  match a with
  | ⟨0, _⟩ => rfl
  | ⟨1, _⟩ => show 1024 * n.val + 1 * b.val = 1024 * n.val + b.val; omega
  | ⟨2, _⟩ => show 0 + 1 * d.val = d.val; omega

section
variable {Q K V : ℕ → ℕ → ℝ} {j : Fin 8} {x0 : Vec Ideal S1x1024x256 .bf16} {x1 : Vec Ideal S1x8192x256 .bf16} {x2 : Vec Ideal S1x8192x128 .bf16} (h : Holds Q K V j.val x0 x1 x2)
include h

/-- The logits of a tile of keys. -/
theorem Holds.logits (n : Fin 8) (a b : Fin 1024) : k0_pay7 (F := Ideal) x0 (tk x1 n) (ValueIdx.ix2 a b) = ((Flash.lg Q K (1024 * j.val + a.val) (1024 * n.val + b.val) : ℝ) : EReal) := by
  unfold k0_pay7
  refine (matmul_nt _ rfl _ _ _ _ _).trans ?_
  rw [Flash.zero_at, zero_add]
  refine (sum_mul_real _ _ (fun d : Fin 256 => Q (1024 * j.val + a.val) d.val) (fun d : Fin 256 => K (1024 * n.val + b.val) d.val)
    (fun d => (shapeCast_1ab_ab_apply x0 _ a d).trans (h.q a d))
    (fun d => (shapeCast_1ab_ab_apply (tk x1 n) _ b d).trans ((tk_at x1 n b d).trans (h.k ⟨1024 * n.val + b.val, by omega⟩ d)))).trans ?_
  unfold Flash.lg
  exact congrArg _ (Finset.sum_congr rfl fun d _ => mul_comm _ _)

/-- The values of a tile. -/
theorem Holds.vals (n : Fin 8) (b : Fin 1024) (d : Fin 128) : shapeCast S1024x128 (tv x2 n) shapeCasts_S1x1024x128_S1024x128 (ValueIdx.ix2 b d) = ((V (1024 * n.val + b.val) d.val : ℝ) : EReal) :=
  (shapeCast_1ab_ab_apply (tv x2 n) _ b d).trans ((tv_at x2 n b d).trans (h.v ⟨1024 * n.val + b.val, by omega⟩ d))

/-- The logits of the queries' own tile, under the causal mask. -/
theorem Holds.masked (a b : Fin 1024) : k0_pay19 (F := Ideal) x0 (tk x1 j) (ValueIdx.ix2 a b)
    = if 1024 * j.val + b.val ≤ 1024 * j.val + a.val then ((Flash.lg Q K (1024 * j.val + a.val) (1024 * j.val + b.val) : ℝ) : EReal) else ⊥ := by
  have e (n : Fin 1024) : (BitVec.ofNat 32 n.val).toInt = n.val := by
    rw [BitVec.toInt_eq_toNat_bmod, BitVec.toNat_ofNat]; simp only [Int.bmod]; omega
  show (if BitVec.ofBool (BitVec.sle (BitVec.ofNat 32 (0 * 1024 + b.val)) (BitVec.ofNat 32 (0 * 1024 + a.val))) = 1 then k0_pay7 (F := Ideal) x0 (tk x1 j) (ValueIdx.ix2 a b) else (⊥ : EReal)) = _
  rw [Nat.zero_mul, Nat.zero_add, Nat.zero_add, h.logits]
  unfold BitVec.sle
  rw [e, e]
  by_cases g : b.val ≤ a.val
  · rw [if_pos (by rw [decide_eq_true (by omega)]; rfl), if_pos (by omega)]
  · rw [if_neg (by rw [decide_eq_false (by omega)]; decide), if_neg (by omega)]

/-- The rows after the first `k` tiles, all before the queries' own. -/
theorem Holds.tiles (k : ℕ) (hk : k ≤ j.val) : Rows Q K V (1024 * j.val) (1024 * k) (tiles x0 x1 x2 k) := by
  induction k with
  | zero => exact fun a => Or.inl ⟨rfl, rfl, Ideal.ofBits_zero_f32, fun d => Ideal.ofBits_zero_f32⟩
  | succ k ih =>
    have h8 : k < 8 := by omega
    have e : FlashF.tiles x0 x1 x2 (k + 1) = tile x0 x1 x2 ⟨k, h8⟩ (FlashF.tiles x0 x1 x2 k) := dif_pos h8
    rw [e]
    refine (ih (by omega)).up (by omega) (k0_pay7 (F := Ideal) x0 (tk x1 ⟨k, h8⟩)) (shapeCast S1024x128 (tv x2 ⟨k, h8⟩) shapeCasts_S1x1024x128_S1024x128) (fun a b => ?_) (h.vals ⟨k, h8⟩)
    rw [if_pos (by omega)]
    exact h.logits ⟨k, h8⟩ a b

/-- The rows after the queries' own tile. -/
theorem Holds.last : Rows Q K V (1024 * j.val) (1024 * j.val + 1024) (top (k0_pay19 (F := Ideal) x0 (tk x1 j)) (FlashF.tiles x0 x1 x2 j.val),
    total (k0_pay19 (F := Ideal) x0 (tk x1 j)) (FlashF.tiles x0 x1 x2 j.val),
    mix (k0_pay19 (F := Ideal) x0 (tk x1 j)) (FlashF.tiles x0 x1 x2 j.val) (shapeCast S1024x128 (tv x2 j) shapeCasts_S1x1024x128_S1024x128)) :=
  (h.tiles j.val le_rfl).up le_rfl _ _ h.masked (h.vals j)

/-- The block of the output holds the softmax's means of the values, -/
theorem Holds.out (a : Fin 1024) (d : Fin 128) : outBlock x0 x1 x2 j (ValueIdx.ix2 a d)
    = ((∑ k : Fin 8192, Flash.soft (Flash.lg Q K (1024 * j.val + a.val)) (1024 * j.val + a.val) k.val * V k.val d.val : ℝ) : EReal) := by
  rw [← (h.last a).mean (by omega) (by omega) d]
  exact congrArg (Ideal.div _) (over_cols (total (k0_pay19 (F := Ideal) x0 (tk x1 j)) (FlashF.tiles x0 x1 x2 j.val)) broadcasts_S1024x1_S1024x128 a d)

/-- and the block of row statistics the logarithms of its denominators. -/
theorem Holds.lse (z0 z1 z2 : Fin 1) (a : Fin 1024) : lseBlock x0 x1 x2 j (ValueIdx.ix4 z0 z1 z2 a)
    = ((Real.log (Flash.den (Flash.lg Q K (1024 * j.val + a.val)) (1024 * j.val + a.val)) : ℝ) : EReal) := by
  rw [← (h.last a).log (by omega) (by omega)]
  have e (m l : FVec Ideal S1024x1 .f32) : k0_pay2 (F := Ideal) m l (ValueIdx.ix4 z0 z1 z2 a) = m (ValueIdx.ix2 a 0) + Ideal.log (l (ValueIdx.ix2 a 0)) := by
    unfold k0_pay2
    dsimp only
    refine (shapeCast_apply _ _ _ (ValueIdx.ix2 0 a) ?_).trans ((extractStridedSlice_apply _ _ _ _ (ValueIdx.ix2 (0 : Fin 128) a) fun ax => ?_).trans
      ((transpose_ix2_apply _ _ _ _).trans ((over_cols _ _ a 0).trans ?_)))
    · rw [Shape.rowMajor_val_four, Shape.rowMajor_val_two]
      show 0 * 1024 + a.val = ((z0.val * 1 + z1.val) * 1 + z2.val) * 1024 + a.val
      omega
    · match ax with
      | ⟨0, _⟩ => rfl
      | ⟨1, _⟩ => show a.val = 0 + a.val; omega
    · rw [shapeCast_self]; rfl
  exact e _ _
end

end FlashF
end
-- ==== Proof.FlashF.Ref.lean ====
/- The forward attention's reference, entry by entry, over the reals: the softmax's means of the values and the logarithms of its denominators. -/
module

public import proofs.«01_k».proof.Proof.Flash.Ref
public import proofs.«01_k».proof.Proof.Gen.FlashFRefIdeal.Read

@[expose] public section

set_option maxRecDepth 8192

noncomputable section

namespace FlashF

open Idealize.ShloMosaic Idealize.ShloMosaic.TcCoe Cert.Proof
open Flash (Fin4 cell cell_at tQ lg lg_eq scale scale_eq num den soft row_max shifted shifted_sum shifted_pos soft_of ext2 ext3)
open Cert.FlashFRefIdeal Cert.FlashFRefIdeal.Read

/-- The three arguments are finite. -/
abbrev Fin3 (q k : FVec Ideal S8192x8x192 .f32) (v : FVec Ideal S8192x8x128 .f32) : Prop := Fin4 q k v fun _ => 0

variable {q k : FVec Ideal S8192x8x192 .f32} {v : FVec Ideal S8192x8x128 .f32}

theorem ref_logit (H : Fin3 q k v) (h : Fin 8) (r s : Fin 8192) :
    val_main_v2 (F := Ideal) q k (ValueIdx.ix3 h r s) = ((lg (tQ q h) (cell k h) r.val s.val : ℝ) : EReal) := by
  rw [val_main_v2_apply, val_main_v1_apply, val_main_cst_apply, Ideal.ofBits_def, scale_eq, Ideal.mulf_def, val_main_v0_apply]
  rw [sum_mul_real _ _ (fun d : Fin 192 => cell q h r.val d.val) (fun d => cell k h s.val d.val)
    (fun d => by rw [show lidx_main_v0 (ValueIdx.ix3 h r s) d = ValueIdx.ix3 r h d from ext3 rfl rfl rfl]; exact cell_at q H.q r h d)
    (fun d => by rw [show ridx_main_v0 (ValueIdx.ix3 h r s) d = ValueIdx.ix3 s h d from ext3 rfl rfl rfl]; exact cell_at k H.k s h d)]
  rw [← EReal.coe_mul, lg_eq, Finset.sum_mul]
  refine congrArg _ (Finset.sum_congr rfl fun d _ => ?_)
  unfold tQ
  ring

theorem ref_mask (h : Fin 8) (r s : Fin 8192) : val_main_call0_v1 (F := Ideal) (ValueIdx.ix3 h r s) = if s.val ≤ r.val then 1#1 else 0#1 := by
  rw [val_main_call0_v1_apply, val_main_v9_apply, val_main_v8_apply, val_main_v6_apply, val_main_v7_apply, val_main_v4_apply, val_main_v5_apply, val_main_v3_apply, val_main_v3_apply]
  exact Flash.causal_at h r s

theorem ref_score (H : Fin3 q k v) (h : Fin 8) (r s : Fin 8192) :
    val_main_v10 (F := Ideal) q k (ValueIdx.ix3 h r s) = if s.val ≤ r.val then ((lg (tQ q h) (cell k h) r.val s.val : ℝ) : EReal) else ⊥ := by
  rw [val_main_v10_apply, ref_mask, ref_logit H, val_main_call0_v2_apply, val_main_call0_v0_apply, val_main_cst_0_apply, Ideal.ofBits_def, ofBits_bot]
  by_cases g : s.val ≤ r.val
  · rw [if_pos g, if_pos g]; rfl
  · rw [if_neg g, if_neg g]; rfl

theorem ref_top (H : Fin3 q k v) (h : Fin 8) (r : Fin 8192) : ∃ μ : ℝ, val_main_v13 (F := Ideal) q k (ValueIdx.ix2 h r) = ((μ : ℝ) : EReal) := by
  obtain ⟨μ, e⟩ := row_max (fun s : Fin 8192 => val_main_v10 (F := Ideal) q k (ValueIdx.ix3 h r s)) (fun s => lg (tQ q h) (cell k h) r.val s.val) r fun s => ref_score H h r s
  refine ⟨μ, Eq.trans ?_ e⟩
  rw [val_main_v13_apply, val_main_v12_apply, val_main_cst_2_apply, Ideal.ofBits_def, ofBits_bot, Ideal.maximumf_def, max_eq_right bot_le]
  unfold val_main_v11
  generalize val_main_v10 (F := Ideal) q k = x
  refine (Host.reduce_eq_fold_single (FloatOps.maximumf (F := Ideal) (φ := .f32)) x (val_main_cst_1 (F := Ideal)) Gen.reducesTo_S8x8192x8192_S8x8192_d2
    (by decide : S8x8192x8192.Reduces [2] S8x8192) Gen.h_S_ (ValueIdx.ix2 h r)).trans ?_
  show Finset.univ.fold max (Ideal.ofBits .f32 0xFF800000#32) _ = _
  rw [ofBits_bot]
  exact congrArg (Finset.univ.fold max ⊥) (funext fun s => congrArg x (ext3 rfl rfl rfl))

section
variable (H : Fin3 q k v) (h : Fin 8) (r : Fin 8192) (μ : ℝ) (e : val_main_v13 (F := Ideal) q k (ValueIdx.ix2 h r) = ((μ : ℝ) : EReal))
include H e

theorem ref_exp (s : Fin 8192) : val_main_v17 (F := Ideal) q k (ValueIdx.ix3 h r s) = ((Real.exp (-μ) * num (lg (tQ q h) (cell k h) r.val) r.val s.val : ℝ) : EReal) := by
  rw [← shifted (lg (tQ q h) (cell k h) r.val) r.val s.val μ _ (ref_score H h r s), ← e]
  rw [val_main_v17_apply, Ideal.hostUnary_exp_def, val_main_v16_apply, Ideal.subf_def, val_main_v15_apply, val_main_v14_apply,
    show idx_main_v14 (idx_main_v15 (ValueIdx.ix3 h r s)) = ValueIdx.ix2 h r from ext2 rfl rfl]

theorem ref_total (s : Fin 8192) : val_main_v20 (F := Ideal) q k (ValueIdx.ix3 h r s) = ((Real.exp (-μ) * den (lg (tQ q h) (cell k h) r.val) r.val : ℝ) : EReal) := by
  rw [val_main_v20_apply, val_main_v19_apply, show idx_main_v19 (idx_main_v20 (ValueIdx.ix3 h r s)) = ValueIdx.ix2 h r from ext2 rfl rfl,
    val_main_v18_apply, val_main_cst_3_apply, Ideal.ofBits_def, Ideal.ofBits_zero_f32, zero_add, ← shifted_sum]
  exact Finset.sum_congr rfl fun s _ => by rw [show idx_main_v18 (ValueIdx.ix2 h r) s = ValueIdx.ix3 h r s from ext3 rfl rfl rfl]; exact ref_exp H h r μ e s
end

theorem ref_soft (H : Fin3 q k v) (h : Fin 8) (r s : Fin 8192) :
    val_main_v21 (F := Ideal) q k (ValueIdx.ix3 h r s) = ((soft (lg (tQ q h) (cell k h) r.val) r.val s.val : ℝ) : EReal) := by
  obtain ⟨μ, e⟩ := ref_top H h r
  rw [val_main_v21_apply, ref_total H h r μ e, ref_exp H h r μ e, ← soft_of _ _ _ r.isLt μ]
  exact div_real _ _ (shifted_pos _ _ r.isLt μ).ne'

/-- The output. -/
theorem ref_out (H : Fin3 q k v) (h : Fin 8) (r : Fin 8192) (d : Fin 128) : val_main_v25 (F := Ideal) q k v (ValueIdx.ix2 r ⟨128 * h.val + d.val, by omega⟩)
    = ((∑ s : Fin 8192, soft (lg (tQ q h) (cell k h) r.val) r.val s.val * cell v h s.val d.val : ℝ) : EReal) := by
  rw [val_main_v25_apply, Ideal.truncf_def, val_main_v24_apply, val_main_v23_apply]
  rw [show idx_main_v23 (idx_main_v24 (ValueIdx.ix2 r ⟨128 * h.val + d.val, by omega⟩)) = ValueIdx.ix3 h d r from ext3
    (by show (r.val * 1024 + (128 * h.val + d.val)) / 128 % 8 = h.val; omega) (by show (r.val * 1024 + (128 * h.val + d.val)) % 128 = d.val; omega)
    (by show (r.val * 1024 + (128 * h.val + d.val)) / 1024 = r.val; omega)]
  rw [val_main_v22_apply, sum_mul_real _ _ (fun s : Fin 8192 => cell v h s.val d.val) (fun s => soft (lg (tQ q h) (cell k h) r.val) r.val s.val)
    (fun s => by rw [show lidx_main_v22 (ValueIdx.ix3 h d r) s = ValueIdx.ix3 s h d from ext3 rfl rfl rfl]; exact cell_at v H.v s h d)
    (fun s => by rw [show ridx_main_v22 (ValueIdx.ix3 h d r) s = ValueIdx.ix3 h r s from ext3 rfl rfl rfl]; exact ref_soft H h r s)]
  exact congrArg _ (Finset.sum_congr rfl fun s _ => mul_comm _ _)

/-- The row statistics. -/
theorem ref_lse (H : Fin3 q k v) (h n : Fin 8) (z : Fin 1) (b : Fin 1024) : val_main_v29 (F := Ideal) q k (ValueIdx.ix4 h n z b)
    = ((Real.log (den (lg (tQ q h) (cell k h) (1024 * n.val + b.val)) (1024 * n.val + b.val)) : ℝ) : EReal) := by
  have hr : 1024 * n.val + b.val < 8192 := by omega
  have one (s : Fin 8192) : val_main_v26 (F := Ideal) q k (ValueIdx.ix3 h ⟨1024 * n.val + b.val, hr⟩ s)
      = ((num (lg (tQ q h) (cell k h) (1024 * n.val + b.val)) (1024 * n.val + b.val) s.val : ℝ) : EReal) := by
    rw [val_main_v26_apply, Ideal.hostUnary_exp_def, ref_score H]
    unfold num
    by_cases g : s.val ≤ 1024 * n.val + b.val
    · rw [if_pos g, if_pos g, Ideal.exp_coe]
    · rw [if_neg g, if_neg g, Ideal.exp_bot, EReal.coe_zero]
  rw [val_main_v29_apply, show idx_main_v29 (ValueIdx.ix4 h n z b) = ValueIdx.ix2 h ⟨1024 * n.val + b.val, hr⟩ from ext2
    (by show (((h.val * 8 + n.val) * 1 + z.val) * 1024 + b.val) / 8192 = h.val; omega) (by show (((h.val * 8 + n.val) * 1 + z.val) * 1024 + b.val) % 8192 = 1024 * n.val + b.val; omega)]
  have t : val_main_v27 (F := Ideal) q k (ValueIdx.ix2 h ⟨1024 * n.val + b.val, hr⟩)
      = ((den (lg (tQ q h) (cell k h) (1024 * n.val + b.val)) (1024 * n.val + b.val) : ℝ) : EReal) := by
    rw [val_main_v27_apply, val_main_cst_4_apply, Ideal.ofBits_def, Ideal.ofBits_zero_f32, zero_add]
    unfold den
    rw [← sum_real]
    exact Finset.sum_congr rfl fun s _ => by
      rw [show idx_main_v27 (ValueIdx.ix2 h ⟨1024 * n.val + b.val, hr⟩) s = ValueIdx.ix3 h ⟨1024 * n.val + b.val, hr⟩ s from ext3 rfl rfl rfl]; exact one s
  rw [val_main_v28_apply, t, Ideal.hostUnary_log_def]
  rw [Ideal.log_coe, if_neg (not_le.mpr (Flash.den_pos _ _ hr))]

end FlashF
end
-- ==== Proof.FlashF.Value.lean ====
/- The two result arrays of the forward attention's call are the reference's. -/
module

public import proofs.«01_k».proof.Proof.FlashF.Row
public import proofs.«01_k».proof.Proof.FlashF.Ref
public import proofs.«01_k».proof.Proof.Flash.Blocks
public import proofs.«01_k».proof.Proof.Gen.FlashFIdeal.Value

@[expose] public section

set_option maxRecDepth 8192

noncomputable section

namespace FlashF

open Idealize.ShloMosaic Idealize.ShloMosaic.TcCoe Cert.Proof Idealize.SL.Sem
open Flash (blk3 padded padded_at ext2 ext3 cell tQ sq hk hv sq_at hk_at hv_at cell_pad)
open Cert.FlashFIdeal Cert.FlashFIdeal.Gen Cert.FlashFIdeal.Value Cert.FlashFRefIdeal.Read

theorem idxs : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 2) = t.val % 8 ∧ win0_3.index t (1 : Fin 2) = t.val / 8)
    ∧ (win0_4.index t (0 : Fin 4) = t.val / 8 ∧ win0_4.index t (1 : Fin 4) = t.val % 8 ∧ win0_4.index t (2 : Fin 4) = 0 ∧ win0_4.index t (3 : Fin 4) = 0)
    ∧ ((grid0.coords t) 1).val = t.val % 8 :=
  (by decide +kernel : ∀ t : Fin grid0.N, _)

/-- The head of a point, its block of queries, and row `a` of that block. -/
def hd (t : Fin cfg0.N) : Fin 8 := ⟨t.val / 8, by have h : t.val < grid0.N := t.isLt; rw [N_0] at h; omega⟩
def qb (t : Fin cfg0.N) : Fin 8 := ⟨t.val % 8, by omega⟩
def row (t : Fin cfg0.N) (a : Fin 1024) : Fin 8192 := ⟨1024 * (t.val % 8) + a.val, by omega⟩

section
variable {F : FTy → Type} [FloatOps F] [Named F] (m : (ℓ : Loc nD τ sig) → Buf (Elt F) ℓ) (c : Dev nD) (t : Fin cfg0.N)

theorem iblk0_at (a : Fin 1024) (d : Fin 256) : iblk m c 0 t (ValueIdx.ix3 0 a d) = V m c main_v4 (ValueIdx.ix3 (hd t) (row t a) d) := by
  unfold iblk
  generalize V m c = X
  exact congrArg (X main_v4) (blk3 _ (ValueIdx.ix3 (0 : Fin 1) a d) (hd t) (row t a) d (idxs t).1 rfl rfl rfl
    (by show t.val / 8 * 1 + 1 * 0 = t.val / 8; omega) (by show t.val % 8 * 1024 + 1 * a.val = 1024 * (t.val % 8) + a.val; omega) (by show 0 * 256 + 1 * d.val = d.val; omega))

theorem iblk1_at (r : Fin 8192) (d : Fin 256) : iblk m c 1 t (ValueIdx.ix3 0 r d) = V m c main_v7 (ValueIdx.ix3 (hd t) r d) := by
  unfold iblk
  generalize V m c = X
  exact congrArg (X main_v7) (blk3 _ (ValueIdx.ix3 (0 : Fin 1) r d) (hd t) r d (idxs t).2.1 rfl rfl rfl
    (by show t.val / 8 * 1 + 1 * 0 = t.val / 8; omega) (by show 0 * 8192 + 1 * r.val = r.val; omega) (by show 0 * 256 + 1 * d.val = d.val; omega))

theorem iblk2_at (r : Fin 8192) (d : Fin 128) : iblk m c 2 t (ValueIdx.ix3 0 r d) = V m c main_v9 (ValueIdx.ix3 (hd t) r d) := by
  unfold iblk
  generalize V m c = X
  exact congrArg (X main_v9) (blk3 _ (ValueIdx.ix3 (0 : Fin 1) r d) (hd t) r d (idxs t).2.2.1 rfl rfl rfl
    (by show t.val / 8 * 1 + 1 * 0 = t.val / 8; omega) (by show 0 * 8192 + 1 * r.val = r.val; omega) (by show 0 * 128 + 1 * d.val = d.val; omega))
end

section
variable (m : (ℓ : Loc nD τ sig) → Buf (Elt Ideal) ℓ) (c : Dev nD)

abbrev argQ : FVec Ideal S8192x8x192 .f32 := m ((c : Thread nD τ).loc main_arg0)
abbrev argK : FVec Ideal S8192x8x192 .f32 := m ((c : Thread nD τ).loc main_arg1)
abbrev argV : FVec Ideal S8192x8x128 .f32 := m ((c : Thread nD τ).loc main_arg2)

theorem Vq : V m c main_v4 = padded (sq (argQ m c)) := by unfold Gen.V; after_reads_simp; rfl
theorem Vk : V m c main_v7 = padded (hk (argK m c)) := by unfold Gen.V; after_reads_simp; rfl
theorem Vv : V m c main_v9 = truncf .bf16 (hv (argV m c)) bitsLt_bf16_f32 := by unfold Gen.V; after_reads_simp; rfl

variable (H : Fin3 (argQ m c) (argK m c) (argV m c))
include H

/-- Every point's blocks hold its head. -/
theorem reads (t : Fin cfg0.N) : Holds (tQ (argQ m c) (hd t)) (cell (argK m c) (hd t)) (cell (argV m c) (hd t)) (qb t).val (iblk m c 0 t) (iblk m c 1 t) (iblk m c 2 t) where
  q a d := by
    rw [iblk0_at, Vq]
    exact padded_at _ (fun h => tQ (argQ m c) h) (fun h r d => sq_at H h r d) (fun h r d hd => by unfold tQ; rw [cell_pad _ _ _ _ hd, zero_mul]) (hd t) (row t a) d
  k r d := by
    rw [iblk1_at, Vk]
    exact padded_at _ (fun h => cell (argK m c) h) (fun h r d => hk_at H h r d) (fun h r d hd => cell_pad _ _ _ _ hd) (hd t) r d
  v r d := by
    rw [iblk2_at, Vv, truncf_apply]
    exact hv_at H (hd t) r d
end

/-! ## What a point writes back -/

theorem emb3 (t : Fin cfg0.N) (a : Fin 1024) (d : Fin 128) : ((cfg0.win 3).blk t).view.emb (ValueIdx.ix2 a d) = ValueIdx.ix2 (row t a) (⟨128 * (hd t).val + d.val, by omega⟩ : Fin 1024) := by
  refine ext2 ?_ ?_
  · show win0_3.index t (0 : Fin 2) * 1024 + 1 * a.val = 1024 * (t.val % 8) + a.val
    rw [(idxs t).2.2.2.1.1]; omega
  · show win0_3.index t (1 : Fin 2) * 128 + 1 * d.val = 128 * (t.val / 8) + d.val
    rw [(idxs t).2.2.2.1.2]; omega

theorem emb4 (t : Fin cfg0.N) (z0 z1 z2 : Fin 1) (b : Fin 1024) : ((cfg0.win 4).blk t).view.emb (ValueIdx.ix4 z0 z1 z2 b) = ValueIdx.ix4 (hd t) (qb t) z2 b := by
  obtain ⟨e0, e1, e2, e3⟩ := (idxs t).2.2.2.2.1
  funext a; apply Fin.ext
  match a with
  | ⟨0, _⟩ => show win0_4.index t (0 : Fin 4) * 1 + 1 * z0.val = t.val / 8; rw [e0]; omega
  | ⟨1, _⟩ => show win0_4.index t (1 : Fin 4) * 1 + 1 * z1.val = t.val % 8; rw [e1]; omega
  | ⟨2, _⟩ => show win0_4.index t (2 : Fin 4) * 1 + 1 * z2.val = z2.val; rw [e2]; omega
  | ⟨3, _⟩ => show win0_4.index t (3 : Fin 4) * 1024 + 1 * b.val = b.val; rw [e3]; omega

theorem flush_3 : ∀ t : Fin cfg0.N, (cfg0.win 3).flush t = true := by decide +kernel
theorem flush_4 : ∀ t : Fin cfg0.N, (cfg0.win 4).flush t = true := by decide +kernel

/-- The point of query block `n` of head `h`. -/
def ptOf (h n : Fin 8) : Fin cfg0.N := ⟨8 * h.val + n.val, by show _ < grid0.N; rw [N_0]; omega⟩

theorem hd_ptOf (h n : Fin 8) : hd (ptOf h n) = h := Fin.ext (by show (8 * h.val + n.val) / 8 = h.val; omega)
theorem qb_ptOf (h n : Fin 8) : qb (ptOf h n) = n := Fin.ext (by show (8 * h.val + n.val) % 8 = n.val; omega)

theorem cover3 (i : S8192x1024.Idx) : ∃ t : Fin cfg0.N, (cfg0.win 3).flush t = true ∧ (i : S8192x1024.Idx) ∈ ((cfg0.win 3).blk t).view.set := by
  obtain ⟨r, e, rfl⟩ : ∃ (r : Fin 8192) (e : Fin 1024), i = ValueIdx.ix2 r e := ⟨i 0, i 1, ext2 rfl rfl⟩
  refine ⟨ptOf ⟨e.val / 128, by omega⟩ ⟨r.val / 1024, by omega⟩, flush_3 _, ?_⟩
  have k := emb3 (ptOf ⟨e.val / 128, by omega⟩ ⟨r.val / 1024, by omega⟩) ⟨r.val % 1024, by omega⟩ ⟨e.val % 128, by omega⟩
  rw [show ValueIdx.ix2 r e = _ from (k.trans (ext2 (by show 1024 * ((8 * (e.val / 128) + r.val / 1024) % 8) + r.val % 1024 = r.val; omega)
    (by show 128 * ((8 * (e.val / 128) + r.val / 1024) / 8) + e.val % 128 = e.val; omega))).symm]
  exact View.emb_mem_set _ _

theorem cover4 (i : S8x8x1x1024.Idx) : ∃ t : Fin cfg0.N, (cfg0.win 4).flush t = true ∧ (i : S8x8x1x1024.Idx) ∈ ((cfg0.win 4).blk t).view.set := by
  obtain ⟨h, n, z, b, rfl⟩ : ∃ (h n : Fin 8) (z : Fin 1) (b : Fin 1024), i = ValueIdx.ix4 h n z b :=
    ⟨i 0, i 1, i 2, i 3, funext fun a => match a with | ⟨0, _⟩ => rfl | ⟨1, _⟩ => rfl | ⟨2, _⟩ => rfl | ⟨3, _⟩ => rfl⟩
  have e := emb4 (ptOf h n) 0 0 z b
  rw [hd_ptOf, qb_ptOf] at e
  refine ⟨ptOf h n, flush_4 _, ?_⟩
  rw [← e]
  exact View.emb_mem_set _ _

section
variable (m : (ℓ : Loc nD τ sig) → Buf (Elt Ideal) ℓ) (c : Dev nD)

theorem qb_eq (t : Fin cfg0.N) : (grid0.coords t) 1 = qb t := Fin.ext (idxs t).2.2.2.2.2

/-- The blocks a point writes. -/
theorem left3 (t : Fin cfg0.N) : (outsAt0 m c t).1 = outBlock (iblk m c 0 t) (iblk m c 1 t) (iblk m c 2 t) (qb t) := by
  unfold outsAt0
  dsimp only
  rw [out3, qb_eq]
theorem left4 (t : Fin cfg0.N) : (outsAt0 m c t).2 = lseBlock (iblk m c 0 t) (iblk m c 1 t) (iblk m c 2 t) (qb t) := by
  unfold outsAt0
  dsimp only
  rw [out4, qb_eq]

variable (H : Fin3 (argQ m c) (argK m c) (argV m c))
include H

theorem final3 : (dats m 0 c).arrAt 3 cfg0.N = val_main_v25 (F := Ideal) (argQ m c) (argK m c) (argV m c) := by
  refine (dats m 0 c).arrAt_eq_of_cover 3 _ (fun t _ => ?_) cover3
  rw [flushed3, left3]
  funext j
  rw [show j = ValueIdx.ix2 (j 0) (j 1) from ext2 rfl rfl]
  exact ((reads m c H t).out (j := qb t) (j 0) (j 1)).trans ((ref_out H (hd t) (row t (j 0)) (j 1)).symm.trans
    (congrArg (val_main_v25 (F := Ideal) (argQ m c) (argK m c) (argV m c)) (emb3 t (j 0) (j 1)).symm))

theorem final4 : (dats m 0 c).arrAt 4 cfg0.N = val_main_v29 (F := Ideal) (argQ m c) (argK m c) := by
  refine (dats m 0 c).arrAt_eq_of_cover 4 _ (fun t _ => ?_) cover4
  rw [flushed4, left4]
  funext j
  rw [show j = ValueIdx.ix4 (j 0) (j 1) (j 2) (j 3) from funext fun a => match a with | ⟨0, _⟩ => rfl | ⟨1, _⟩ => rfl | ⟨2, _⟩ => rfl | ⟨3, _⟩ => rfl]
  exact ((reads m c H t).lse (j := qb t) (j 0) (j 1) (j 2) (j 3)).trans ((ref_lse H (hd t) (qb t) (j 2) (j 3)).symm.trans
    (congrArg (val_main_v29 (F := Ideal) (argQ m c) (argK m c)) (emb4 t (j 0) (j 1) (j 2) (j 3)).symm))
end

end FlashF
end
-- ==== Proof.FlashF.Claims.lean ====
/-
# The attention forward call: frames and value
-/
module

public import proofs.«01_k».proof.Proof.FlashF.Value
public import proofs.«01_k».proof.Proof.Gen.FlashF.Frame
public import proofs.«01_k».proof.Proof.Gen.FlashFRefIdeal.Run
public import proofs.«01_k».proof.Proof.Finite
public import proofs.«01_k».proof.Proof.Gen.Pre_finite_flashf
public import proofs.«01_k».proof.Defs

@[expose] public section

set_option maxRecDepth 16384

noncomputable section

namespace Cert.Proof.FlashF

open Idealize Idealize.ShloMosaic Cert.FlashFRefIdeal.Read
open _root_.FlashF (Fin3 argQ argK argV final3 final4)

/-- The kernel runs at the machine's words. -/
theorem frame : Cert.quiescent_FlashF := fun m ρ _ => Cert.FlashF.Gen.frame m ρ

/-- The kernel runs over the reals. -/
theorem frame_ideal : Cert.quiescent_FlashFIdeal := fun m ρ _ => Cert.FlashFIdeal.Gen.frame m ρ

/-- The reference runs over the reals; it declares no semaphore. -/
theorem frame_ref : Cert.quiescent_FlashFRefIdeal := fun m ρ _ =>
  (θ_run Cert.FlashFRefIdeal.defs _ _).mono (fun r h => ⟨fun c => (h c).2.2, sem_eq_zero_of_no_sems (by decide) r.2⟩) (Cert.FlashFRefIdeal.Value.run (F := Ideal) m ρ)

/-- The one constant the kernel rounded, the mask's −10³⁰, is the name the reals read as −∞. -/
theorem preserves : Cert.preserves_FlashF_FlashFIdeal :=
  IdealRules.named_const.statement Cert.FlashFIdeal.κ "mask" .f32 0xF149F2CA#32 ⊥ rfl

/-- The precondition makes every entry of the three arguments real. -/
theorem finite (q k : FVec Ideal Cert.Pre_finite_flashf.S8192x8x192 .f32) (v : FVec Ideal Cert.Pre_finite_flashf.S8192x8x128 .f32)
    (h : Cert.Pre_finite_flashf.fn (F := Ideal) q k v = fun _ => 1#1) : Fin3 q k v := by
  have : Subsingleton Cert.Pre_finite_flashf.S_.Idx := ⟨fun a b => funext fun k => k.elim0⟩
  have g := congrFun h ValueIdx.ix0
  unfold Cert.Pre_finite_flashf.fn at g
  dsimp only at g
  obtain ⟨g, g3⟩ := andi_one g
  obtain ⟨g1, g2⟩ := andi_one g
  exact ⟨real_of_all q _ _ _ _ _ _ (fun _ => rfl) (fun _ => rfl) g1, real_of_all k _ _ _ _ _ _ (fun _ => rfl) (fun _ => rfl) g2,
    real_of_all v _ _ _ _ _ _ (fun _ => rfl) (fun _ => rfl) g3, fun _ => by rw [EReal.toReal_zero, EReal.coe_zero]⟩

/-- Over the reals the kernel's arrays are the reference's output and statistics, where the arguments are real. -/
theorem algebraic : Cert.algebraic_FlashFIdeal_FlashFRefIdeal_pre_finite_flashf := by
  intro m ρ m' ρ' hpre hag
  refine ⟨fun c => val_main_v25 (F := Ideal) (argQ m c) (argK m c) (argV m c), fun c => val_main_v29 (F := Ideal) (argQ m c) (argK m c), ?_, ?_⟩
  · refine (θ_run Cert.FlashFIdeal.defs _ _).mono (fun r h c => ?_) (Cert.FlashFIdeal.Value.run_blocks m ρ)
    have H := finite _ _ _ (hpre c)
    obtain ⟨h3, h4, hk⟩ := h c
    exact ⟨h3.trans (final3 m c H), h4.trans (final4 m c H), hk⟩
  · refine (θ_run Cert.FlashFRefIdeal.defs _ _).mono (fun r h c => ?_) (Cert.FlashFRefIdeal.Value.run (F := Ideal) m' ρ')
    obtain ⟨h0, h1, hk⟩ := h c
    obtain ⟨a0, a1, a2⟩ := hag c
    have e0 : m' ((c.tc : Thread Cert.FlashFRefIdeal.nD Cert.FlashFRefIdeal.τ).loc Cert.FlashFRefIdeal.main_arg0) = argQ m c := a0
    have e1 : m' ((c.tc : Thread Cert.FlashFRefIdeal.nD Cert.FlashFRefIdeal.τ).loc Cert.FlashFRefIdeal.main_arg1) = argK m c := a1
    have e2 : m' ((c.tc : Thread Cert.FlashFRefIdeal.nD Cert.FlashFRefIdeal.τ).loc Cert.FlashFRefIdeal.main_arg2) = argV m c := a2
    rw [val_main_v25_eq, e0, e1, e2] at h0
    rw [val_main_v29_eq, e0, e1] at h1
    exact ⟨h0, h1, hk⟩

end Cert.Proof.FlashF

end
-- ==== Proof.Mla.Outs.lean ====
/- The gradient through the rotary low-rank projections and their norms, kernel side: what the body leaves in its output blocks. -/
module

public import proofs.«01_k».proof.Proof.Gen.MlaIdeal.Value
public import proofs.«01_k».proof.Proof.Rms
public import Idealize.ShloMosaic.Lib.Pipeline.ValueKit.Tiles

@[expose] public section

set_option maxHeartbeats 2000000
set_option maxRecDepth 16384

noncomputable section

namespace Cert.Proof.Mla

open Cert.MlaIdeal Cert.MlaIdeal.Gen Cert.MlaIdeal.Value Idealize.ShloMosaic Idealize.ShloMosaic.TcCoe Idealize.SL.Sem

section
variable {Val : EltTy → Type} {e : EltTy} [∀ e, Nonempty (Val e)]

/-- Sixteen blocks of 128 columns each, side by side. -/
def sideBySide (W : Fin 16 → S512x128.Idx → Val e) : S512x2048.Idx → Val e :=
  fun y => W ⟨(y 1).val / 128, by have : (y 1).val < 2048 := (y 1).isLt; omega⟩ (ix2 (y 0) (⟨(y 1).val % 128, by omega⟩ : Fin 128))

theorem fits (k : Fin 16) : ∀ a, (![0, 128 * k.val] : Fin 2 → Nat) a + S512x128.size a ≤ S512x2048.size a := by
  intro a; match a with
  | ⟨0, _⟩ => exact Nat.le_refl 512
  | ⟨1, _⟩ => show 128 * k.val + 128 ≤ 2048; have := k.isLt; omega

/-- A store of one block of columns. -/
abbrev stored (W : Fin 16 → S512x128.Idx → Val e) (k : Fin 16) : View.Piece Val S512x2048 e :=
  ⟨Rect.unit (s := S512x2048) ![0, 128 * k.val] S512x128.size (fits k), W k⟩

/-- The sixteen stores, the last one first. -/
abbrev stores (W : Fin 16 → S512x128.Idx → Val e) : List (View.Piece Val S512x2048 e) :=
  (List.finRange 16).reverse.map (stored W)

/-- The sixteen stores leave the blocks side by side. -/
theorem canon_stores (W : Fin 16 → S512x128.Idx → Val e) : View.canon (stores W) = sideBySide W := by
  funext y
  have hy : (y 1).val < 2048 := (y 1).isLt
  refine View.canon_eq_of_allAt _ y _ ?_ ?_
  · refine ⟨stored W ⟨(y 1).val / 128, by omega⟩, List.mem_map_of_mem (List.mem_reverse.mpr (List.mem_finRange _)), ?_⟩
    refine (stored W ⟨(y 1).val / 128, by omega⟩).1.mem_set.mpr fun a => ?_
    match a with
    | ⟨0, _⟩ => exact ⟨(y 0).val, (y 0).isLt, by show (y 0).val = 0 + 1 * (y 0).val; omega⟩
    | ⟨1, _⟩ => exact ⟨(y 1).val % 128, by show _ < 128; omega, by
        show (y 1).val = 128 * ((y 1).val / 128) + 1 * ((y 1).val % 128); omega⟩
  · intro p hp x hx
    obtain ⟨k, -, rfl⟩ := List.mem_map.mp hp
    have h0 : 0 + 1 * (x 0).val = (y 0).val := congrArg (fun z : S512x2048.Idx => (z 0).val) hx
    have h1 : 128 * k.val + 1 * (x 1).val = (y 1).val := congrArg (fun z : S512x2048.Idx => (z 1).val) hx
    have hx1 : (x 1).val < 128 := (x 1).isLt
    unfold sideBySide
    refine congr (congrArg W (Fin.ext ?_)) (funext fun a => Fin.ext ?_)
    · show k.val = (y 1).val / 128; omega
    · match a with
      | ⟨0, _⟩ => show (x 0).val = (y 0).val; omega
      | ⟨1, _⟩ => show (x 1).val = (y 1).val % 128; omega

/-- A read of the whole block after them reads the blocks side by side. -/
theorem readCov_stores {κ : Kind} {sp : Space} (v : View sig κ sp S512x2048 e) (W : Fin 16 → S512x128.Idx → Val e)
    (inb : ∀ k, (![0, 0] : Fin 2 → Nat) k + S512x2048.size k ≤ S512x2048.size k) :
    v.readCov (stores W) (Rect.unit (s := S512x2048) ![0, 0] S512x2048.size inb) = sideBySide W := by
  rw [View.readCov_eq_canon']
  funext y
  refine (congrFun (canon_stores W) _).trans (congrArg (sideBySide W) (funext fun a => Fin.ext ?_))
  match a with
  | ⟨0, _⟩ => show 0 + 1 * (y 0).val = (y 0).val; omega
  | ⟨1, _⟩ => show 0 + 1 * (y 1).val = (y 1).val; omega

end

section
variable {F : FTy → Type} [FloatOps F]

theorem fits3 (k : Fin 8) (o w : Nat) (h : o + 128 ≤ w) :
    ∀ a, (![k.val, 0, o] : Fin 3 → Nat) a + S1x512x128.size a ≤ (![8, 512, w] : Fin 3 → Nat) a := by
  intro a; match a with
  | ⟨0, _⟩ => show k.val + 1 ≤ 8; have := k.isLt; omega
  | ⟨1, _⟩ => exact Nat.le_refl 512
  | ⟨2, _⟩ => exact h

/-- One head's plain columns, its columns of positions, and its values. -/
abbrev plain (x : Vec F S8x512x256 .bf16) (k : Fin 8) : Vec F S1x512x128 .bf16 :=
  View.ld x (Rect.unit (s := S8x512x256) ![k.val, 0, 0] S1x512x128.size (fits3 k 0 256 (by decide)))
abbrev turned (x : Vec F S8x512x256 .bf16) (k : Fin 8) : Vec F S1x512x128 .bf16 :=
  View.ld x (Rect.unit (s := S8x512x256) ![k.val, 0, 128] S1x512x128.size (fits3 k 128 256 (by decide)))
abbrev headOf (x : Vec F S8x512x128 .bf16) (k : Fin 8) : Vec F S1x512x128 .bf16 :=
  View.ld x (Rect.unit (s := S8x512x128) ![k.val, 0, 0] S1x512x128.size (fits3 k 0 128 (by decide)))

/-- The stored blocks of the query's gradient: a head's plain columns scaled, its columns of positions turned back and scaled. -/
def dqW (x0 : Vec F S8x512x256 .bf16) (x5 x6 x7 : Vec F S512x128 .f32) : Fin 16 → Vec F S512x128 .bf16 :=
  fun k => if k.val % 2 = 0 then k0_pay8 (plain x0 ⟨k.val / 2, by omega⟩) else k0_pay9 x5 x6 x7 (turned x0 ⟨k.val / 2, by omega⟩)

/-- The stored blocks of the gradient of keys and values. -/
def dkvW (x1 : Vec F S8x512x256 .bf16) (x2 : Vec F S8x512x128 .bf16) : Fin 16 → Vec F S512x128 .bf16 :=
  fun k => if k.val % 2 = 0 then k0_pay10 (plain x1 ⟨k.val / 2, by omega⟩) else k0_pay10 (headOf x2 ⟨k.val / 2, by omega⟩)

/-- What the query's and the key's columns make of the two gradients, as whole blocks. -/
abbrev dqB (x0 : Vec F S8x512x256 .bf16) (x5 x6 x7 : Vec F S512x128 .f32) : Vec F S512x2048 .bf16 := sideBySide (dqW x0 x5 x6 x7)
abbrev dkvB (x1 : Vec F S8x512x256 .bf16) (x2 : Vec F S8x512x128 .bf16) : Vec F S512x2048 .bf16 := sideBySide (dkvW x1 x2)

/-- The columns of positions of the first seven heads' keys, added up. -/
def peSum (x1 : Vec F S8x512x256 .bf16) : FVec F S512x128 .f32 :=
  k0_pay52 (k0_pay52 (k0_pay52 (k0_pay52 (k0_pay52 (k0_pay52 (k0_pay52 k0_pay7 (turned x1 0)) (turned x1 1)) (turned x1 2)) (turned x1 3))
    (turned x1 4)) (turned x1 5)) (turned x1 6)

variable (c : Dev nD) (i : grid0.Coords)
  (a2 : Memref sig .tc .vmem S8x512x256 .bf16) (h2 : a2.IsWhole)
  (a3 : Memref sig .tc .vmem S8x512x256 .bf16) (h3 : a3.IsWhole)
  (a4 : Memref sig .tc .vmem S8x512x128 .bf16) (h4 : a4.IsWhole)
  (a5 : Memref sig .tc .vmem S512x512 .f32) (h5 : a5.IsWhole)
  (a6 : Memref sig .tc .vmem S512x256 .f32) (h6 : a6.IsWhole)
  (a7 : Memref sig .tc .vmem S512x128 .f32) (h7 : a7.IsWhole)
  (a8 : Memref sig .tc .vmem S512x128 .f32) (h8 : a8.IsWhole)
  (a9 : Memref sig .tc .vmem S512x128 .f32) (h9 : a9.IsWhole)
  (a10 : Memref sig .tc .vmem S1x512 .f32) (h10 : a10.IsWhole)
  (a11 : Memref sig .tc .vmem S1x256 .f32) (h11 : a11.IsWhole)
  (a12 : Memref sig .tc .vmem S512x2048 .bf16) (h12 : a12.IsWhole)
  (a13 : Memref sig .tc .vmem S256x2048 .bf16) (h13 : a13.IsWhole)
  (a14 : Memref sig .tc .vmem S512x512 .bf16) (h14 : a14.IsWhole)
  (a15 : Memref sig .tc .vmem S512x256 .bf16) (h15 : a15.IsWhole)
  (a16 : Memref sig .tc .vmem S512x128 .bf16) (h16 : a16.IsWhole)
  (a17 : Memref sig .tc .vmem S512x2048 .bf16) (h17 : a17.IsWhole)
  (a18 : Memref sig .tc .vmem S512x2048 .bf16) (h18 : a18.IsWhole)
  (a19 : Memref sig .tc .vmem S512x512 .bf16) (h19 : a19.IsWhole)
  (a20 : Memref sig .tc .vmem S512x256 .bf16) (h20 : a20.IsWhole)
  (a21 : Memref sig .tc .vmem S1x512 .f32) (h21 : a21.IsWhole)
  (a22 : Memref sig .tc .vmem S1x256 .f32) (h22 : a22.IsWhole)
  (c0 : cond0_0 i) (n0 : ¬cond0_0 i)
  (x0 x1 : Vec F S8x512x256 .bf16) (x2 : Vec F S8x512x128 .bf16) (x3 : Vec F S512x512 .f32) (x4 : Vec F S512x256 .f32) (x5 x6 x7 : Vec F S512x128 .f32)
  (x8 : Vec F S1x512 .f32) (x9 : Vec F S1x256 .f32) (x10 : Vec F S512x2048 .bf16) (x11 : Vec F S256x2048 .bf16) (xo19 : Vec F S1x512 .f32) (xo20 : Vec F S1x256 .f32)

/-- The first tile of rows. -/
theorem outsA :
    out0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = k0_pay65 (k0_pay59 x3) (k0_pay61 x8) (k0_pay62 (dqB x0 x5 x6 x7) x10)
    ∧ out0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = k0_pay75 (k0_pay67 x4) x9 (dkvB x1 x2) x11
    ∧ out0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = k0_pay58 (k0_pay4 x5) (k0_pay5 x6) (k0_pay6 x7) (peSum x1) (k0_pay57 (turned x1 7))
    ∧ out0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = dqB x0 x5 x6 x7
    ∧ out0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = dkvB x1 x2
    ∧ out0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = k0_pay60 x3 x8
    ∧ out0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = k0_pay70 (k0_pay67 x4) (k0_pay68 x9) (k0_pay69 x4)
    ∧ out0_A_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = k0_pay66 (k0_pay59 x3) (k0_pay62 (dqB x0 x5 x6 x7) x10) k0_pay2
    ∧ out0_A_20 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 c0 x0 x1 x2 x3 x4 x5 x6 x7 x8 x9 x10 x11
      = k0_pay1 (k0_pay74 (k0_pay67 x4) (dkvB x1 x2) x11) k0_pay3 := by
  refine ⟨?_, ?_, ?_, ?_, ?_, ?_, ?_, ?_, ?_⟩
  · unfold out0_A_12; rw [View.read_writes_junk_eq_canon]; unfold kernelRun0_A; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread]
    exact congrArg (fun a => k0_pay65 (k0_pay59 x3) (k0_pay61 x8) (k0_pay62 a x10)) (readCov_stores _ (dqW x0 x5 x6 x7) _)
  · unfold out0_A_13; rw [View.read_writes_junk_eq_canon]; unfold kernelRun0_A; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread]
    exact congrArg (fun a => k0_pay75 (k0_pay67 x4) x9 a x11) (readCov_stores _ (dkvW x1 x2) _)
  · unfold out0_A_14; rw [View.read_writes_junk_eq_canon]; unfold kernelRun0_A; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread]
    rfl
  · unfold out0_A_15; rw [View.read_writes_junk_eq_canon]; unfold kernelRun0_A; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread]
    exact canon_stores (dqW x0 x5 x6 x7)
  · unfold out0_A_16; rw [View.read_writes_junk_eq_canon]; unfold kernelRun0_A; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread]
    exact canon_stores (dkvW x1 x2)
  · unfold out0_A_17; rw [View.read_writes_junk_eq_canon]; unfold kernelRun0_A; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread]
  · unfold out0_A_18; rw [View.read_writes_junk_eq_canon]; unfold kernelRun0_A; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread]
  · unfold out0_A_19; rw [View.read_writes_junk_eq_canon]; unfold kernelRun0_A; dsimp only; sl_unfold_words
    simp (discharger := first | decide | rfl) only [↓View.readCov_skip, ↓View.readCov_fill, canon2, View.readAt_eq_ld, ld2, h2.read_unread, h3.read_unread, h4.read_unread, h5.read_unread, h6.read_unread, h7.read_unread, h8.read_unread, h9.read_unread, h10.read_unread, h11.read_unread, h12.read_unread, h13.read_unread]
    exact congrArg (fun a => k0_pay66 (k0_pay59 x3) (k0_pay62 a x10) _) (readCov_stores _ (dqW x0 x5 x6 x7) _)
  · unfold out0_A_20; rw [View.read_writes_junk_eq_canon]; unfold kernelRun0_A; dsimp only; sl_unfold_words
    simp (discharger := first | decide | rfl) only [↓View.readCov_skip, ↓View.readCov_fill, canon2, View.readAt_eq_ld, ld2, h2.read_unread, h3.read_unread, h4.read_unread, h5.read_unread, h6.read_unread, h7.read_unread, h8.read_unread, h9.read_unread, h10.read_unread, h11.read_unread, h12.read_unread, h13.read_unread]
    exact congrArg (fun a => k0_pay1 (k0_pay74 (k0_pay67 x4) a x11) _) (readCov_stores _ (dkvW x1 x2) _)

/-- A later tile of rows. -/
theorem outsB :
    out0_B_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = k0_pay65 (k0_pay59 x3) (k0_pay61 x8) (k0_pay62 (dqB x0 x5 x6 x7) x10)
    ∧ out0_B_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = k0_pay75 (k0_pay67 x4) x9 (dkvB x1 x2) x11
    ∧ out0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = k0_pay58 (k0_pay4 x5) (k0_pay5 x6) (k0_pay6 x7) (peSum x1) (k0_pay57 (turned x1 7))
    ∧ out0_B_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = dqB x0 x5 x6 x7
    ∧ out0_B_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = dkvB x1 x2
    ∧ out0_B_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = k0_pay60 x3 x8
    ∧ out0_B_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = k0_pay70 (k0_pay67 x4) (k0_pay68 x9) (k0_pay69 x4)
    ∧ out0_B_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = k0_pay66 (k0_pay59 x3) (k0_pay62 (dqB x0 x5 x6 x7) x10) xo19
    ∧ out0_B_20 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 n0 x0 x1 x2 x3 x4 x5 x6 x7 x8 x9 x10 x11 xo19 xo20
      = k0_pay1 (k0_pay74 (k0_pay67 x4) (dkvB x1 x2) x11) xo20 := by
  refine ⟨?_, ?_, ?_, ?_, ?_, ?_, ?_, ?_, ?_⟩
  · unfold out0_B_12; rw [View.read_writes_junk_eq_canon]; unfold kernelRun0_B; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
    exact congrArg (fun a => k0_pay65 (k0_pay59 x3) (k0_pay61 x8) (k0_pay62 a x10)) (readCov_stores _ (dqW x0 x5 x6 x7) _)
  · unfold out0_B_13; rw [View.read_writes_junk_eq_canon]; unfold kernelRun0_B; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
    exact congrArg (fun a => k0_pay75 (k0_pay67 x4) x9 a x11) (readCov_stores _ (dkvW x1 x2) _)
  · unfold out0_B_14; rw [View.read_writes_junk_eq_canon]; unfold kernelRun0_B; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
    rfl
  · unfold out0_B_15; rw [View.read_writes_junk_eq_canon]; unfold kernelRun0_B; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
    exact canon_stores (dqW x0 x5 x6 x7)
  · unfold out0_B_16; rw [View.read_writes_junk_eq_canon]; unfold kernelRun0_B; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
    exact canon_stores (dkvW x1 x2)
  · unfold out0_B_17; rw [View.read_writes_junk_eq_canon]; unfold kernelRun0_B; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
  · unfold out0_B_18; rw [View.read_writes_junk_eq_canon]; unfold kernelRun0_B; dsimp only; sl_unfold_words
    simp (discharger := first | decide | rfl) only [canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
  · unfold out0_B_19; rw [View.read_writes_junk_eq_canon]; unfold kernelRun0_B; dsimp only; sl_unfold_words
    simp (discharger := first | decide | rfl) only [↓View.readCov_skip, ↓View.readCov_fill, canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
    exact congrArg (fun a => k0_pay66 (k0_pay59 x3) (k0_pay62 a x10) _) (readCov_stores _ (dqW x0 x5 x6 x7) _)
  · unfold out0_B_20; rw [View.read_writes_junk_eq_canon]; unfold kernelRun0_B; dsimp only; sl_unfold_words
    simp (discharger := first | decide | rfl) only [↓View.readCov_skip, ↓View.readCov_fill, canon2, View.readAt_eq_ld, ld2, h2.read_unread, h3.read_unread, h4.read_unread, h5.read_unread, h6.read_unread, h7.read_unread, h8.read_unread, h9.read_unread, h10.read_unread, h11.read_unread, h12.read_unread, h13.read_unread, h21.read_unread, h22.read_unread]
    exact congrArg (fun a => k0_pay1 (k0_pay74 (k0_pay67 x4) a x11) _) (readCov_stores _ (dkvW x1 x2) _)

end

end Cert.Proof.Mla
-- ==== Proof.Mla.Ref.lean ====
/- The gradient through the rotary low-rank projections and their norms: the reference's stages, read at a row and a column. -/
module

public import proofs.«01_k».proof.Proof.Gen.MlaRefIdeal.Read
public import proofs.«01_k».proof.Proof.Mla.Outs
public import Idealize.ShloMosaic.Lib.TwoAxisContraction

@[expose] public section

set_option maxRecDepth 16384

noncomputable section

namespace Cert.Proof.Mla

open Idealize.ShloMosaic hiding ix1 ix2 ix3
open Idealize.ShloMosaic.TcCoe Cert.Proof.Rms
open ValueIdx (ix1 ix2 ix3)

/-- Two indices of a three-axis array with the same coordinates are equal. -/
theorem idx3_ext {a b c : Nat} {i j : (⟨3, ![a, b, c]⟩ : Shape).Idx} (h0 : (i 0).val = (j 0).val) (h1 : (i 1).val = (j 1).val)
    (h2 : (i 2).val = (j 2).val) : i = j := by
  funext k; apply Fin.ext
  match k with
  | ⟨0, _⟩ => exact h0
  | ⟨1, _⟩ => exact h1
  | ⟨2, _⟩ => exact h2

section pads
variable {n h w w' lo hi : Nat} {α : Type} (x : (⟨3, ![n, h, w]⟩ : Shape).Idx → α) {u : Shape} (v : u.Idx → α)
  (H : (⟨3, ![n, h, w]⟩ : Shape).Pads ![0, 0, lo] ![0, 0, hi] ![0, 0, 0] ⟨3, ![n, h, w']⟩) (hu : 0 < u.numel) (r : Fin n) (a : Fin h) (k : Fin w')

/-- Padding of the last axis, inside. -/
theorem pad3_in (j : Fin w) (hj : k.val = lo + j.val) : pad ⟨3, ![n, h, w']⟩ ![0, 0, lo] ![0, 0, hi] ![0, 0, 0] x v H hu (ix3 r a k) = x (ix3 r a j) :=
  pad_apply_of_inside _ _ _ _ _ H hu _ _ fun b => by
    match b with
    | ⟨0, _⟩ => show r.val = 0 + r.val * (0 + 1); omega
    | ⟨1, _⟩ => show a.val = 0 + a.val * (0 + 1); omega
    | ⟨2, _⟩ => show k.val = lo + j.val * (0 + 1); omega

/-- Padding of the last axis, outside. -/
theorem pad3_out (hk : k.val < lo ∨ lo + w ≤ k.val) :
    pad ⟨3, ![n, h, w']⟩ ![0, 0, lo] ![0, 0, hi] ![0, 0, 0] x v H hu (ix3 r a k) = v (Shape.Idx.first hu) :=
  pad_apply_of_not_inside _ _ _ _ _ H hu _ (2 : Fin 3) (by
    show ¬(lo ≤ k.val ∧ (k.val - lo) % (0 + 1) = 0 ∧ (k.val - lo) / (0 + 1) < w)
    rw [Nat.div_one]; omega)

end pads

section reference
open Cert.MlaRefIdeal Cert.MlaRefIdeal.Gen Cert.MlaRefIdeal.Read

variable (x0 x1 : Vec Ideal S8x8192x192 .f32) (x2 : Vec Ideal S8x8192x128 .f32) (x3 : Vec Ideal S8192x512 .f32) (x4 : Vec Ideal S8192x256 .f32)
  (x6 : Vec Ideal S8192 .i32) (x7 : Vec Ideal S512 .f32) (x8 : Vec Ideal S256 .f32) (x9 : Vec Ideal S512x8x192 .f32) (x10 : Vec Ideal S256x8x256 .f32)

/-- The cosine and the sine of a position's angle. -/
abbrev co (r : Fin 8192) (j : Fin 32) : EReal := val_main_v17 (F := Ideal) x6 (ix2 r j)
abbrev si (r : Fin 8192) (j : Fin 32) : EReal := val_main_v19 (F := Ideal) x6 (ix2 r j)

/-- The scale of the queries. -/
abbrev scale : EReal := Ideal.ofBits .f32 0x3D93CD3A#32

/-! ### The query's gradient -/

theorem v98_at (r : Fin 8192) (h : Fin 8) (k : Fin 192) : val_main_v98 x0 (ix3 r h k) = x0 (ix3 h r k) * scale := by
  rw [val_main_v98_apply, val_main_v97_apply, val_main_v96_apply, val_main_cst_15_apply]
  exact congrArg (fun i => x0 i * scale) (idx3_ext rfl rfl rfl)

theorem v120_at (r : Fin 8192) (h : Fin 8) (k : Fin 128) : val_main_v120 x0 (ix3 r h k) = x0 (ix3 h r ⟨k.val, by omega⟩) * scale := by
  rw [val_main_v120_apply]
  refine (congrArg (val_main_v98 x0) (idx3_ext (j := ix3 r h ⟨k.val, by omega⟩) ?_ ?_ ?_)).trans (v98_at x0 r h ⟨k.val, by omega⟩) <;> rfl

theorem v122_at (r : Fin 8192) (h : Fin 8) (j : Fin 32) : val_main_v122 x0 (ix3 r h j) = x0 (ix3 h r ⟨128 + j.val, by omega⟩) * scale := by
  rw [val_main_v122_apply, val_main_v121_apply]
  refine (congrArg (val_main_v98 x0) (idx3_ext (j := ix3 r h ⟨128 + j.val, by omega⟩) ?_ ?_ ?_)).trans (v98_at x0 r h ⟨128 + j.val, by omega⟩) <;> rfl

theorem v123_at (r : Fin 8192) (h : Fin 8) (j : Fin 32) : val_main_v123 x0 (ix3 r h j) = x0 (ix3 h r ⟨160 + j.val, by omega⟩) * scale := by
  rw [val_main_v123_apply, val_main_v121_apply]
  refine (congrArg (val_main_v98 x0) (idx3_ext (j := ix3 r h ⟨160 + j.val, by omega⟩) ?_ ?_ ?_)).trans (v98_at x0 r h ⟨160 + j.val, by omega⟩)
  · rfl
  · rfl
  · show 128 + (32 + j.val) = 160 + j.val; omega

theorem cos_at (r : Fin 8192) (j : Fin 32) : val_main_v18 (F := Ideal) x6 (ix3 r 0 j) = co x6 r j := by
  rw [val_main_v18_apply]; exact congrArg (val_main_v17 x6) (idx2_ext rfl rfl)
theorem sin_at (r : Fin 8192) (j : Fin 32) : val_main_v20 (F := Ideal) x6 (ix3 r 0 j) = si x6 r j := by
  rw [val_main_v20_apply]; exact congrArg (val_main_v19 x6) (idx2_ext rfl rfl)

theorem v134_at (r : Fin 8192) (h : Fin 8) (j : Fin 32) : val_main_v134 x0 x6 (ix3 r h j)
    = x0 (ix3 h r ⟨160 + j.val, by omega⟩) * scale * si x6 r j + x0 (ix3 h r ⟨128 + j.val, by omega⟩) * scale * co x6 r j := by
  have c : val_main_v132 (F := Ideal) x6 (ix3 r h j) = co x6 r j := by
    rw [val_main_v132_apply]; refine (congrArg (val_main_v18 x6) (idx3_ext (j := ix3 r 0 j) ?_ ?_ ?_)).trans (cos_at x6 r j) <;> rfl
  have s : val_main_v124 (F := Ideal) x6 (ix3 r h j) = si x6 r j := by
    rw [val_main_v124_apply]; refine (congrArg (val_main_v20 x6) (idx3_ext (j := ix3 r 0 j) ?_ ?_ ?_)).trans (sin_at x6 r j) <;> rfl
  exact congrArg₂ (fun a b : EReal => a + b) (congrArg₂ (fun a b : EReal => a * b) (v123_at x0 r h j) s)
    (congrArg₂ (fun a b : EReal => a * b) (v122_at x0 r h j) c)

theorem v131_at (r : Fin 8192) (h : Fin 8) (j : Fin 32) : val_main_v131 x0 x6 (ix3 r h j)
    = x0 (ix3 h r ⟨160 + j.val, by omega⟩) * scale * co x6 r j + -(x0 (ix3 h r ⟨128 + j.val, by omega⟩) * scale) * si x6 r j := by
  have c : val_main_v126 (F := Ideal) x6 (ix3 r h j) = co x6 r j := by
    rw [val_main_v126_apply]; refine (congrArg (val_main_v18 x6) (idx3_ext (j := ix3 r 0 j) ?_ ?_ ?_)).trans (cos_at x6 r j) <;> rfl
  have s : val_main_v129 (F := Ideal) x6 (ix3 r h j) = si x6 r j := by
    rw [val_main_v129_apply]; refine (congrArg (val_main_v20 x6) (idx3_ext (j := ix3 r 0 j) ?_ ?_ ?_)).trans (sin_at x6 r j) <;> rfl
  exact congrArg₂ (fun a b : EReal => a + b) (congrArg₂ (fun a b : EReal => a * b) (v123_at x0 r h j) c)
    (congrArg₂ (fun a b : EReal => -a * b) (v122_at x0 r h j) s)

theorem z : FloatOps.ofBits (F := Ideal) .f32 0x00000000#32 = (0 : EReal) := Ideal.ofBits_zero_f32

/-- The plain columns. -/
theorem v140_plain (r : Fin 8192) (h : Fin 8) (k : Fin 128) : val_main_v140 x0 x6 (ix3 r h ⟨k.val, by omega⟩) = x0 (ix3 h r ⟨k.val, by omega⟩) * scale := by
  refine (congrArg₂ (fun a b : EReal => a + b) ((pad3_out (val_main_v137 x0 x6) val_main_cst_24 pads_S8192x8x64_S8192x8x192_000_000_12800 h_S_ r h ⟨k.val, by omega⟩ (Or.inl k.isLt)).trans z)
    ((pad3_in (val_main_v120 x0) val_main_cst_25 pads_S8192x8x128_S8192x8x192_000_000_0640 h_S_ r h ⟨k.val, by omega⟩ k (by show k.val = 0 + k.val; omega)).trans
      (v120_at x0 r h k))).trans (zero_add _)

theorem v140_turned (r : Fin 8192) (h : Fin 8) (k : Fin 64) : val_main_v140 x0 x6 (ix3 r h ⟨128 + k.val, by omega⟩) = val_main_v137 x0 x6 (ix3 r h k) :=
  (congrArg₂ (fun a b : EReal => a + b) (pad3_in (val_main_v137 x0 x6) val_main_cst_24 pads_S8192x8x64_S8192x8x192_000_000_12800 h_S_ r h ⟨128 + k.val, by omega⟩ k rfl)
    ((pad3_out (val_main_v120 x0) val_main_cst_25 pads_S8192x8x128_S8192x8x192_000_000_0640 h_S_ r h ⟨128 + k.val, by omega⟩
      (Or.inr (by show 0 + 128 ≤ 128 + k.val; omega))).trans z)).trans (add_zero _)

/-- The first half of the columns of positions. -/
theorem v140_lo (r : Fin 8192) (h : Fin 8) (j : Fin 32) : val_main_v140 x0 x6 (ix3 r h ⟨128 + j.val, by omega⟩)
    = x0 (ix3 h r ⟨160 + j.val, by omega⟩) * scale * si x6 r j + x0 (ix3 h r ⟨128 + j.val, by omega⟩) * scale * co x6 r j :=
  (v140_turned x0 x6 r h ⟨j.val, by omega⟩).trans ((congrArg₂ (fun a b : EReal => a + b)
    ((pad3_out (val_main_v131 x0 x6) val_main_cst_22 pads_S8192x8x32_S8192x8x64_000_000_3200 h_S_ r h ⟨j.val, by omega⟩ (Or.inl j.isLt)).trans z)
    ((pad3_in (val_main_v134 x0 x6) val_main_cst_23 pads_S8192x8x32_S8192x8x64_000_000_0320 h_S_ r h ⟨j.val, by omega⟩ j (by show j.val = 0 + j.val; omega)).trans
      (v134_at x0 x6 r h j))).trans (zero_add _))

/-- The second half. -/
theorem v140_hi (r : Fin 8192) (h : Fin 8) (j : Fin 32) : val_main_v140 x0 x6 (ix3 r h ⟨160 + j.val, by omega⟩)
    = x0 (ix3 h r ⟨160 + j.val, by omega⟩) * scale * co x6 r j + -(x0 (ix3 h r ⟨128 + j.val, by omega⟩) * scale) * si x6 r j :=
  (congrArg (val_main_v140 x0 x6) (idx3_ext (i := ix3 r h ⟨160 + j.val, by omega⟩) (j := ix3 r h ⟨128 + (32 + j.val), by omega⟩) rfl rfl (by show 160 + j.val = 128 + (32 + j.val); omega))).trans
  ((v140_turned x0 x6 r h ⟨32 + j.val, by omega⟩).trans ((congrArg₂ (fun a b : EReal => a + b)
    ((pad3_in (val_main_v131 x0 x6) val_main_cst_22 pads_S8192x8x32_S8192x8x64_000_000_3200 h_S_ r h ⟨32 + j.val, by omega⟩ j rfl).trans (v131_at x0 x6 r h j))
    ((pad3_out (val_main_v134 x0 x6) val_main_cst_23 pads_S8192x8x32_S8192x8x64_000_000_0320 h_S_ r h ⟨32 + j.val, by omega⟩
      (Or.inr (by show 0 + 32 ≤ 32 + j.val; omega))).trans z)).trans (add_zero _)))

/-- The result, head by head, with zeros after each head. -/
theorem v188_in (r : Fin 8192) (h : Fin 8) (k : Fin 192) : val_main_v188 x0 x6 (ix2 r ⟨256 * h.val + k.val, by omega⟩) = val_main_v140 x0 x6 (ix3 r h k) := by
  rw [val_main_v188_apply]
  show val_main_v187 x0 x6 _ = _
  rw [val_main_v187_apply]
  refine (congrArg (val_main_v186 x0 x6) (idx3_ext (j := ix3 r h ⟨k.val, by omega⟩) ?_ ?_ ?_)).trans
    (pad3_in (val_main_v140 x0 x6) val_main_call1_v0 pads_S8192x8x192_S8192x8x256_000_000_0640 h_S_ r h ⟨k.val, by omega⟩ k (by show k.val = 0 + k.val; omega))
  · show (r.val * 2048 + (256 * h.val + k.val)) / 2048 = r.val; omega
  · show (r.val * 2048 + (256 * h.val + k.val)) / 256 % 8 = h.val; omega
  · show (r.val * 2048 + (256 * h.val + k.val)) % 256 = k.val; omega

theorem v188_out (r : Fin 8192) (h : Fin 8) (k : Fin 256) (hk : 192 ≤ k.val) : val_main_v188 x0 x6 (ix2 r ⟨256 * h.val + k.val, by omega⟩) = (0 : EReal) := by
  rw [val_main_v188_apply]
  show val_main_v187 x0 x6 _ = _
  rw [val_main_v187_apply]
  refine (congrArg (val_main_v186 x0 x6) (idx3_ext (j := ix3 r h k) ?_ ?_ ?_)).trans
    ((pad3_out (val_main_v140 x0 x6) val_main_call1_v0 pads_S8192x8x192_S8192x8x256_000_000_0640 h_S_ r h k (Or.inr (by show 0 + 192 ≤ k.val; omega))).trans ?_)
  · show (r.val * 2048 + (256 * h.val + k.val)) / 2048 = r.val; omega
  · show (r.val * 2048 + (256 * h.val + k.val)) / 256 % 8 = h.val; omega
  · show (r.val * 2048 + (256 * h.val + k.val)) % 256 = k.val; omega
  · show ((((0#32 : BitVec 32).toInt : ℝ)) : EReal) = 0
    simp

/-! ### The gradient of keys and values -/

theorem v118_key (r : Fin 8192) (h : Fin 8) (k : Fin 128) : val_main_v118 x1 x2 (ix3 r h ⟨k.val, by omega⟩) = x1 (ix3 h r ⟨k.val, by omega⟩) := by
  have e : val_main_v99 x1 (ix3 r h k) = x1 (ix3 h r ⟨k.val, by omega⟩) := by
    rw [val_main_v99_apply, val_main_v95_apply]
    exact congrArg x1 (idx3_ext rfl rfl rfl)
  exact (congrArg₂ (fun a b : EReal => a + b) ((pad3_out (val_main_v94 x2) val_main_cst_20 pads_S8192x8x128_S8192x8x256_000_000_12800 h_S_ r h ⟨k.val, by omega⟩ (Or.inl k.isLt)).trans z)
    ((pad3_in (val_main_v99 x1) val_main_cst_21 pads_S8192x8x128_S8192x8x256_000_000_01280 h_S_ r h ⟨k.val, by omega⟩ k (by show k.val = 0 + k.val; omega)).trans e)).trans (zero_add _)

theorem v118_value (r : Fin 8192) (h : Fin 8) (k : Fin 128) : val_main_v118 x1 x2 (ix3 r h ⟨128 + k.val, by omega⟩) = x2 (ix3 h r k) := by
  have e : val_main_v94 x2 (ix3 r h k) = x2 (ix3 h r k) := by
    rw [val_main_v94_apply]
    exact congrArg x2 (idx3_ext rfl rfl rfl)
  exact (congrArg₂ (fun a b : EReal => a + b) ((pad3_in (val_main_v94 x2) val_main_cst_20 pads_S8192x8x128_S8192x8x256_000_000_12800 h_S_ r h ⟨128 + k.val, by omega⟩ k rfl).trans e)
    ((pad3_out (val_main_v99 x1) val_main_cst_21 pads_S8192x8x128_S8192x8x256_000_000_01280 h_S_ r h ⟨128 + k.val, by omega⟩
      (Or.inr (by show 0 + 128 ≤ 128 + k.val; omega))).trans z)).trans (add_zero _)

theorem v190_at (r : Fin 8192) (h : Fin 8) (k : Fin 256) : val_main_v190 x1 x2 (ix2 r ⟨256 * h.val + k.val, by omega⟩) = val_main_v118 x1 x2 (ix3 r h k) := by
  rw [val_main_v190_apply]
  show val_main_v189 x1 x2 _ = _
  rw [val_main_v189_apply]
  refine congrArg (val_main_v118 x1 x2) (idx3_ext ?_ ?_ ?_)
  · show (r.val * 2048 + (256 * h.val + k.val)) / 2048 = r.val; omega
  · show (r.val * 2048 + (256 * h.val + k.val)) / 256 % 8 = h.val; omega
  · show (r.val * 2048 + (256 * h.val + k.val)) % 256 = k.val; omega

/-! ### The gradient of the shared columns of positions -/

/-- The heads' columns of positions, added up. -/
abbrev pe (r : Fin 8192) (k : Fin 64) : EReal := ∑ h : Fin 8, x1 (ix3 h r ⟨128 + k.val, by omega⟩)

theorem v101_at (r : Fin 8192) (k : Fin 64) : val_main_v101 x1 (ix2 r k) = pe x1 r k := by
  rw [val_main_v101_apply]
  refine (congrArg (· + _) z).trans ((zero_add _).trans (Finset.sum_congr rfl fun h _ => ?_))
  rw [val_main_v100_apply, val_main_v95_apply]
  exact congrArg x1 (idx3_ext rfl rfl rfl)

theorem v103_at (r : Fin 8192) (j : Fin 32) : val_main_v103 x1 (ix3 r 0 j) = pe x1 r ⟨j.val, by omega⟩ := by
  rw [val_main_v103_apply, val_main_v102_apply]
  refine (congrArg (val_main_v101 x1) (idx2_ext (j := ix2 r ⟨j.val, by omega⟩) ?_ ?_)).trans (v101_at x1 r ⟨j.val, by omega⟩)
  · rfl
  · rfl
theorem v104_at (r : Fin 8192) (j : Fin 32) : val_main_v104 x1 (ix3 r 0 j) = pe x1 r ⟨32 + j.val, by omega⟩ := by
  rw [val_main_v104_apply, val_main_v102_apply]
  refine (congrArg (val_main_v101 x1) (idx2_ext (j := ix2 r ⟨32 + j.val, by omega⟩) ?_ ?_)).trans (v101_at x1 r ⟨32 + j.val, by omega⟩)
  · rfl
  · rfl

theorem v115_at (r : Fin 8192) (k : Fin 64) : val_main_v115 x1 x6 (ix2 r k) = val_main_v114 x1 x6 (ix3 r 0 k) := by
  rw [val_main_v115_apply]
  refine (congrArg (· + _) z).trans ((zero_add _).trans ((Fin.sum_univ_one _).trans (congrArg (val_main_v114 x1 x6) (idx3_ext rfl rfl rfl))))

theorem v115_lo (r : Fin 8192) (j : Fin 32) : val_main_v115 x1 x6 (ix2 r ⟨j.val, by omega⟩)
    = pe x1 r ⟨32 + j.val, by omega⟩ * si x6 r j + pe x1 r ⟨j.val, by omega⟩ * co x6 r j :=
  (v115_at x1 x6 r ⟨j.val, by omega⟩).trans ((congrArg₂ (fun a b : EReal => a + b)
    ((pad3_out (val_main_v109 x1 x6) val_main_cst_17 pads_S8192x1x32_S8192x1x64_000_000_3200 h_S_ r 0 ⟨j.val, by omega⟩ (Or.inl j.isLt)).trans z)
    ((pad3_in (val_main_v111 x1 x6) val_main_cst_18 pads_S8192x1x32_S8192x1x64_000_000_0320 h_S_ r 0 ⟨j.val, by omega⟩ j (by show j.val = 0 + j.val; omega)).trans
      (congrArg₂ (fun a b : EReal => a + b) (congrArg₂ (fun a b : EReal => a * b) (v104_at x1 r j) (sin_at x6 r j))
        (congrArg₂ (fun a b : EReal => a * b) (v103_at x1 r j) (cos_at x6 r j))))).trans (zero_add _))

theorem v115_hi (r : Fin 8192) (j : Fin 32) : val_main_v115 x1 x6 (ix2 r ⟨32 + j.val, by omega⟩)
    = pe x1 r ⟨32 + j.val, by omega⟩ * co x6 r j + -pe x1 r ⟨j.val, by omega⟩ * si x6 r j :=
  (v115_at x1 x6 r ⟨32 + j.val, by omega⟩).trans ((congrArg₂ (fun a b : EReal => a + b)
    ((pad3_in (val_main_v109 x1 x6) val_main_cst_17 pads_S8192x1x32_S8192x1x64_000_000_3200 h_S_ r 0 ⟨32 + j.val, by omega⟩ j rfl).trans
      (congrArg₂ (fun a b : EReal => a + b) (congrArg₂ (fun a b : EReal => a * b) (v104_at x1 r j) (cos_at x6 r j))
        (congrArg₂ (fun a b : EReal => -a * b) (v103_at x1 r j) (sin_at x6 r j))))
    ((pad3_out (val_main_v111 x1 x6) val_main_cst_18 pads_S8192x1x32_S8192x1x64_000_000_0320 h_S_ r 0 ⟨32 + j.val, by omega⟩
      (Or.inr (by show 0 + 32 ≤ 32 + j.val; omega))).trans z)).trans (add_zero _))

theorem v185_in (r : Fin 8192) (k : Fin 64) : val_main_v185 x1 x6 (ix2 r ⟨k.val, by omega⟩) = val_main_v115 x1 x6 (ix2 r k) :=
  pad_apply_of_inside _ _ _ (val_main_v115 x1 x6) val_main_call0_v0 pads_S8192x64_S8192x128_000_0640 h_S_ _ _ fun b => by
    match b with
    | ⟨0, _⟩ => show r.val = 0 + r.val * (0 + 1); omega
    | ⟨1, _⟩ => show k.val = 0 + k.val * (0 + 1); omega

theorem v185_out (r : Fin 8192) (k : Fin 128) (hk : 64 ≤ k.val) : val_main_v185 x1 x6 (ix2 r k) = (0 : EReal) := by
  refine (pad_apply_of_not_inside _ _ _ (val_main_v115 x1 x6) val_main_call0_v0 pads_S8192x64_S8192x128_000_0640 h_S_ _ (1 : Fin 2) ?_).trans ?_
  · show ¬(0 ≤ k.val ∧ (k.val - 0) % (0 + 1) = 0 ∧ (k.val - 0) / (0 + 1) < 64)
    rw [Nat.div_one]; omega
  · show ((((0#32 : BitVec 32).toInt : ℝ)) : EReal) = 0
    simp

/-! ### The products with the weights, and the norms -/

theorem v141_at (r : Fin 8192) (d : Fin 512) : val_main_v141 x0 x6 x9 (ix2 r d)
    = ∑ h : Fin 8, ∑ k : Fin 192, val_main_v140 x0 x6 (ix3 r h k) * x9 (ix3 d h k) := by
  unfold val_main_v141 Host.dotGeneral
  rw [Ideal.dotGeneral_apply]
  refine (ValueIdx.sum_contr2 _ 8 192 rfl rfl rfl _).trans (Finset.sum_congr rfl fun h _ => Finset.sum_congr rfl fun k _ => ?_)
  exact congrArg₂ (fun a b : EReal => a * b) (congrArg (val_main_v140 x0 x6) (idx3_ext rfl rfl rfl)) (congrArg x9 (idx3_ext rfl rfl rfl))

theorem v119_at (r : Fin 8192) (d : Fin 256) : val_main_v119 x1 x2 x10 (ix2 r d)
    = ∑ h : Fin 8, ∑ k : Fin 256, val_main_v118 x1 x2 (ix3 r h k) * x10 (ix3 d h k) := by
  unfold val_main_v119 Host.dotGeneral
  rw [Ideal.dotGeneral_apply]
  refine (ValueIdx.sum_contr2 _ 8 256 rfl rfl rfl _).trans (Finset.sum_congr rfl fun h _ => Finset.sum_congr rfl fun k _ => ?_)
  exact congrArg₂ (fun a b : EReal => a * b) (congrArg (val_main_v118 x1 x2) (idx3_ext rfl rfl rfl)) (congrArg x10 (idx3_ext rfl rfl rfl))

theorem v35_at (r : Fin 8192) (d : Fin 512) : val_main_v35 x3 (ix2 r d)
    = x3 (ix2 r d) * inv (Ideal.ofBits .f32 0x44000000#32) (Ideal.ofBits .f32 0x358637BD#32) fun k => x3 (ix2 r k) :=
  ref_unit_at x3 0x44000000#32 0x358637BD#32 _ _ _ _ _ r d
theorem v51_at (r : Fin 8192) (d : Fin 256) : val_main_v51 x4 (ix2 r d)
    = x4 (ix2 r d) * inv (Ideal.ofBits .f32 0x43800000#32) (Ideal.ofBits .f32 0x358637BD#32) fun k => x4 (ix2 r k) :=
  ref_unit_at x4 0x43800000#32 0x358637BD#32 _ _ _ _ _ r d

theorem v37_at (r : Fin 8192) (d : Fin 512) : val_main_v37 x7 (ix2 r d) = x7 (ix1 d) := by
  rw [val_main_v37_apply, val_main_v36_apply]
  exact congrArg x7 (funext fun a => by match a with | ⟨0, _⟩ => rfl)
theorem v53_at (r : Fin 8192) (d : Fin 256) : val_main_v53 x8 (ix2 r d) = x8 (ix1 d) := by
  rw [val_main_v53_apply, val_main_v52_apply]
  exact congrArg x8 (funext fun a => by match a with | ⟨0, _⟩ => rfl)

/-- The normalised rows. -/
theorem v191_at (r : Fin 8192) (d : Fin 512) : val_main_v191 x3 x7 (ix2 r d)
    = x3 (ix2 r d) * inv (Ideal.ofBits .f32 0x44000000#32) (Ideal.ofBits .f32 0x358637BD#32) (fun k => x3 (ix2 r k)) * x7 (ix1 d) :=
  congrArg₂ (fun a b : EReal => a * b) (v35_at x3 r d) (v37_at x7 r d)
theorem v192_at (r : Fin 8192) (d : Fin 256) : val_main_v192 x4 x8 (ix2 r d)
    = x4 (ix2 r d) * inv (Ideal.ofBits .f32 0x43800000#32) (Ideal.ofBits .f32 0x358637BD#32) (fun k => x4 (ix2 r k)) * x8 (ix1 d) :=
  congrArg₂ (fun a b : EReal => a * b) (v51_at x4 r d) (v53_at x8 r d)

/-- The gains' gradients. -/
theorem v193_at (d : Fin 512) : val_main_v193 x0 x3 x6 x9 (ix2 0 d)
    = ∑ r : Fin 8192, x3 (ix2 r d) * inv (Ideal.ofBits .f32 0x44000000#32) (Ideal.ofBits .f32 0x358637BD#32) (fun k => x3 (ix2 r k)) * val_main_v141 x0 x6 x9 (ix2 r d) :=
  (ref_gain_at (val_main_v162 x0 x3 x6 x9) _ _ _ _ _ d).trans (Finset.sum_congr rfl fun r _ => congrArg (fun a : EReal => a * _) (v35_at x3 r d))
theorem v194_at (d : Fin 256) : val_main_v194 x1 x2 x4 x10 (ix2 0 d)
    = ∑ r : Fin 8192, x4 (ix2 r d) * inv (Ideal.ofBits .f32 0x43800000#32) (Ideal.ofBits .f32 0x358637BD#32) (fun k => x4 (ix2 r k)) * val_main_v119 x1 x2 x10 (ix2 r d) :=
  (ref_gain_at (val_main_v142 x1 x2 x4 x10) _ _ _ _ _ d).trans (Finset.sum_congr rfl fun r _ => congrArg (fun a : EReal => a * _) (v51_at x4 r d))

theorem ofBits_512 : Ideal.ofBits .f32 0x44000000#32 = ((512 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num

theorem v166_at (r : Fin 8192) (k : Fin 512) : val_main_v166 x0 x6 x7 x9 (ix2 r k) = val_main_v141 x0 x6 x9 (ix2 r k) * x7 (ix1 k) := by
  refine congrArg (fun a : EReal => val_main_v141 x0 x6 x9 (ix2 r k) * a) ?_
  rw [val_main_v165_apply, val_main_v36_apply]
  exact congrArg x7 (funext fun a => by match a with | ⟨0, _⟩ => rfl)
theorem v146_at (r : Fin 8192) (k : Fin 256) : val_main_v146 x1 x2 x8 x10 (ix2 r k) = val_main_v119 x1 x2 x10 (ix2 r k) * x8 (ix1 k) := by
  refine congrArg (fun a : EReal => val_main_v119 x1 x2 x10 (ix2 r k) * a) ?_
  rw [val_main_v145_apply, val_main_v52_apply]
  exact congrArg x8 (funext fun a => by match a with | ⟨0, _⟩ => rfl)

/-- The gradients of the rows, as the kernel orders them. -/
theorem v182_at (hx : ∀ i, IsReal (x3 i)) (he : ∀ r k, IsReal (val_main_v141 x0 x6 x9 (ix2 r k) * x7 (ix1 k))) (r : Fin 8192) (d : Fin 512) :
    val_main_v182 x0 x3 x6 x7 x9 (ix2 r d)
    = kgrad (Ideal.ofBits .f32 0x44000000#32) (Ideal.ofBits .f32 0x358637BD#32) (fun k => x3 (ix2 r k)) (fun k => val_main_v141 x0 x6 x9 (ix2 r k) * x7 (ix1 k)) d := by
  have e : (fun k => val_main_v141 x0 x6 x9 (ix2 r k) * x7 (ix1 k)) = fun k => val_main_v166 x0 x6 x7 x9 (ix2 r k) := funext fun k => (v166_at x0 x6 x7 x9 r k).symm
  have he' : ∀ k, IsReal (val_main_v166 x0 x6 x7 x9 (ix2 r k)) := fun k => by rw [v166_at]; exact he r k
  refine (ref_grad_at (val_main_v172 x0 x3 x6 x7 x9) x3 (val_main_v166 x0 x6 x7 x9) 0x44000000#32 0x358637BD#32 0xBF000000#32
    reducesTo_S8192x512_S8192_d1 h_S_ bcast_S8192_S8192x1_0 bcast_S_S8192x1 reducesTo_S8192x512_S8192_d1 shapeCasts_S8192_S8192x1 reducesTo_S8192x1_S8192_d1
    bcast_S8192_S8192x512_0 r d).trans ?_
  rw [e, show val_main_v172 x0 x3 x6 x7 x9 (ix2 r d) = val_main_v166 x0 x6 x7 x9 (ix2 r d)
      * inv (Ideal.ofBits .f32 0x44000000#32) (Ideal.ofBits .f32 0x358637BD#32) fun k => x3 (ix2 r k) from
    congrArg (fun t => val_main_v166 x0 x6 x7 x9 (ix2 r d) * t)
      ((col_cols _ _ r d).trans (congrArg Ideal.rsqrt (ref_msq_at x3 0x44000000#32 0x358637BD#32 _ _ _ _ _ r)))]
  rw [ofBits_512, ofBits_eps, ofBits_half_neg, grad_sum (C := 512) (ε := 8796093 / 2 ^ 43) (by norm_num) (by norm_num) (fun k => hx _) he']

theorem v183_at (hx : ∀ i, IsReal (x4 i)) (he : ∀ r k, IsReal (val_main_v119 x1 x2 x10 (ix2 r k) * x8 (ix1 k))) (r : Fin 8192) (d : Fin 256) :
    val_main_v183 x1 x2 x4 x8 x10 (ix2 r d)
    = kgrad (Ideal.ofBits .f32 0x43800000#32) (Ideal.ofBits .f32 0x358637BD#32) (fun k => x4 (ix2 r k)) (fun k => val_main_v119 x1 x2 x10 (ix2 r k) * x8 (ix1 k)) d := by
  have e : (fun k => val_main_v119 x1 x2 x10 (ix2 r k) * x8 (ix1 k)) = fun k => val_main_v146 x1 x2 x8 x10 (ix2 r k) := funext fun k => (v146_at x1 x2 x8 x10 r k).symm
  have he' : ∀ k, IsReal (val_main_v146 x1 x2 x8 x10 (ix2 r k)) := fun k => by rw [v146_at]; exact he r k
  refine (ref_grad_at (val_main_v152 x1 x2 x4 x8 x10) x4 (val_main_v146 x1 x2 x8 x10) 0x43800000#32 0x358637BD#32 0xBF000000#32
    reducesTo_S8192x256_S8192_d1 h_S_ bcast_S8192_S8192x1_0 bcast_S_S8192x1 reducesTo_S8192x256_S8192_d1 shapeCasts_S8192_S8192x1 reducesTo_S8192x1_S8192_d1
    bcast_S8192_S8192x256_0 r d).trans ?_
  rw [e, show val_main_v152 x1 x2 x4 x8 x10 (ix2 r d) = val_main_v146 x1 x2 x8 x10 (ix2 r d)
      * inv (Ideal.ofBits .f32 0x43800000#32) (Ideal.ofBits .f32 0x358637BD#32) fun k => x4 (ix2 r k) from
    congrArg (fun t => val_main_v146 x1 x2 x8 x10 (ix2 r d) * t)
      ((col_cols _ _ r d).trans (congrArg Ideal.rsqrt (ref_msq_at x4 0x43800000#32 0x358637BD#32 _ _ _ _ _ r)))]
  rw [ofBits_256, ofBits_eps, ofBits_half_neg, grad_sum (C := 256) (ε := 8796093 / 2 ^ 43) (by norm_num) (by norm_num) (fun k => hx _) he']

/-! ### What is real -/

/-- An angle is a real. -/
theorem angle_real (r : Fin 8192) (j : Fin 32) : IsReal (val_main_v16 (F := Ideal) x6 (ix2 r j)) := by
  rw [val_main_v16_apply, val_main_v14_apply, val_main_v12_apply, val_main_v15_apply, val_main_v13_apply]
  refine IsReal.mul ⟨_, rfl⟩ ?_
  generalize idx_main_v13 _ = i
  have p : IsReal (val_main_v6 (F := Ideal) i) := by
    have : val_main_v6 (F := Ideal) i = Ideal.div (Ideal.ofBits .f32 0x00000000#32 + Ideal.ofBits .f32 0x40000000#32 * (((BitVec.ofNat 32 (i 0).val).toInt : ℝ) : EReal)) (Ideal.ofBits .f32 0x42800000#32) := rfl
    rw [this, show Ideal.ofBits .f32 0x40000000#32 = ((2 : ℝ) : EReal) by simp [Ideal.ofBits, Ideal.ieee, -EReal.coe_mul]; norm_num,
      show Ideal.ofBits .f32 0x42800000#32 = ((64 : ℝ) : EReal) by simp [Ideal.ofBits, Ideal.ieee, -EReal.coe_mul]; norm_num, ofBits_zero, zero_add, ← EReal.coe_mul,
      div_real _ _ (by norm_num)]
    exact ⟨_, rfl⟩
  obtain ⟨y, hy⟩ := p
  have q : val_main_v10 (F := Ideal) i = Ideal.div (Ideal.ofBits .f32 0x3F800000#32) (Ideal.pow (Ideal.ofBits .f32 0x461C4000#32) (val_main_v6 (F := Ideal) i)) := rfl
  rw [q, hy, show Ideal.ofBits .f32 0x461C4000#32 = ((10000 : ℝ) : EReal) by simp [Ideal.ofBits, Ideal.ieee, -EReal.coe_mul]; norm_num,
    show Ideal.ofBits .f32 0x3F800000#32 = ((1 : ℝ) : EReal) by simp [Ideal.ofBits, Ideal.ieee, -EReal.coe_mul]; norm_num, Ideal.pow_coe_coe,
    show Real.rpow 10000 y = (10000 : ℝ) ^ y from rfl, div_real _ _ (Real.rpow_pos_of_pos (by norm_num) y).ne']
  exact ⟨_, rfl⟩

theorem co_real (r : Fin 8192) (j : Fin 32) : IsReal (co x6 r j) := by
  obtain ⟨a, ha⟩ := angle_real x6 r j
  exact ⟨Real.cos a, congrArg Ideal.cos ha⟩
theorem si_real (r : Fin 8192) (j : Fin 32) : IsReal (si x6 r j) := by
  obtain ⟨a, ha⟩ := angle_real x6 r j
  exact ⟨Real.sin a, congrArg Ideal.sin ha⟩

theorem scale_real : ∃ s : ℝ, 0 ≤ s ∧ scale = (s : EReal) :=
  ⟨4843165 / 67108864, by positivity, by simp [Ideal.ofBits, Ideal.ieee, -EReal.coe_mul]; norm_num⟩

theorem neg_real {a : EReal} (h : IsReal a) : IsReal (-a) := by
  obtain ⟨a, rfl⟩ := h
  exact ⟨-a, (EReal.coe_neg a).symm⟩

theorem v140_real (hx : ∀ i, IsReal (x0 i)) (r : Fin 8192) (h : Fin 8) (k : Fin 192) : IsReal (val_main_v140 x0 x6 (ix3 r h k)) := by
  have hs : IsReal scale := let ⟨s, _, e⟩ := scale_real; ⟨s, e⟩
  rcases lt_or_ge k.val 128 with hk | hk
  · have e := v140_plain x0 x6 r h ⟨k.val, hk⟩
    exact e ▸ (hx _).mul hs
  · rcases lt_or_ge k.val 160 with hk' | hk'
    · have e := v140_lo x0 x6 r h ⟨k.val - 128, by omega⟩
      rw [show (⟨128 + (⟨k.val - 128, by omega⟩ : Fin 32).val, by show 128 + (k.val - 128) < 192; omega⟩ : Fin 192) = k from Fin.ext (by show 128 + (k.val - 128) = k.val; omega)] at e
      exact e ▸ (((hx _).mul hs).mul (si_real x6 r _)).add (((hx _).mul hs).mul (co_real x6 r _))
    · have e := v140_hi x0 x6 r h ⟨k.val - 160, by omega⟩
      rw [show (⟨160 + (⟨k.val - 160, by omega⟩ : Fin 32).val, by show 160 + (k.val - 160) < 192; omega⟩ : Fin 192) = k from Fin.ext (by show 160 + (k.val - 160) = k.val; omega)] at e
      exact e ▸ (((hx _).mul hs).mul (co_real x6 r _)).add ((neg_real ((hx _).mul hs)).mul (si_real x6 r _))

theorem v118_real (h1 : ∀ i, IsReal (x1 i)) (h2 : ∀ i, IsReal (x2 i)) (r : Fin 8192) (h : Fin 8) (k : Fin 256) : IsReal (val_main_v118 x1 x2 (ix3 r h k)) := by
  rcases lt_or_ge k.val 128 with hk | hk
  · exact v118_key x1 x2 r h ⟨k.val, hk⟩ ▸ h1 _
  · have e := v118_value x1 x2 r h ⟨k.val - 128, by omega⟩
    rw [show (⟨128 + (⟨k.val - 128, by omega⟩ : Fin 128).val, by show 128 + (k.val - 128) < 256; omega⟩ : Fin 256) = k from Fin.ext (by show 128 + (k.val - 128) = k.val; omega)] at e
    exact e ▸ h2 _

end reference

end Cert.Proof.Mla
end
-- ==== Proof.Mla.Body.lean ====
/- The gradient through the rotary low-rank projections and their norms: what the body computes, read at a row and a column. -/
module

public import proofs.«01_k».proof.Proof.Mla.Outs

@[expose] public section

set_option maxRecDepth 16384

noncomputable section

namespace Cert.Proof.Mla

open Cert.MlaIdeal Cert.MlaIdeal.Gen Cert.MlaIdeal.Value Idealize.ShloMosaic Idealize.ShloMosaic.TcCoe Idealize.SL.Sem Cert.Proof.Rms

/-! ### One head's columns -/

theorem plain_at (x : Vec Ideal S8x512x256 .bf16) (h : Fin 8) (r : Fin 512) (k : Fin 128) :
    plain x h (ValueIdx.ix3 0 r k) = x (ValueIdx.ix3 h r ⟨k.val, by omega⟩) := by
  refine congrArg x (funext fun a => Fin.ext ?_)
  match a with
  | ⟨0, _⟩ => show h.val + 1 * 0 = h.val; omega
  | ⟨1, _⟩ => show 0 + 1 * r.val = r.val; omega
  | ⟨2, _⟩ => show 0 + 1 * k.val = k.val; omega

theorem turned_at (x : Vec Ideal S8x512x256 .bf16) (h : Fin 8) (r : Fin 512) (k : Fin 128) :
    turned x h (ValueIdx.ix3 0 r k) = x (ValueIdx.ix3 h r ⟨128 + k.val, by omega⟩) := by
  refine congrArg x (funext fun a => Fin.ext ?_)
  match a with
  | ⟨0, _⟩ => show h.val + 1 * 0 = h.val; omega
  | ⟨1, _⟩ => show 0 + 1 * r.val = r.val; omega
  | ⟨2, _⟩ => show 128 + 1 * k.val = 128 + k.val; omega

theorem headOf_at (x : Vec Ideal S8x512x128 .bf16) (h : Fin 8) (r : Fin 512) (k : Fin 128) :
    headOf x h (ValueIdx.ix3 0 r k) = x (ValueIdx.ix3 h r k) := by
  refine congrArg x (funext fun a => Fin.ext ?_)
  match a with
  | ⟨0, _⟩ => show h.val + 1 * 0 = h.val; omega
  | ⟨1, _⟩ => show 0 + 1 * r.val = r.val; omega
  | ⟨2, _⟩ => show 0 + 1 * k.val = k.val; omega

theorem cast_at (v : Vec Ideal S1x512x128 .bf16) (h) (r : Fin 512) (k : Fin 128) :
    shapeCast S512x128 v h (ValueIdx.ix2 r k) = v (ValueIdx.ix3 0 r k) := ValueIdx.shapeCast_1ab_ab_apply v h r k

theorem pay10_at (v : Vec Ideal S1x512x128 .bf16) (r : Fin 512) (k : Fin 128) : k0_pay10 (F := Ideal) v (ValueIdx.ix2 r k) = v (ValueIdx.ix3 0 r k) := cast_at v _ r k

theorem pay57_at (v : Vec Ideal S1x512x128 .bf16) (r : Fin 512) (k : Fin 128) : k0_pay57 (F := Ideal) v (ValueIdx.ix2 r k) = v (ValueIdx.ix3 0 r k) := cast_at v _ r k

theorem pay8_at (v : Vec Ideal S1x512x128 .bf16) (r : Fin 512) (k : Fin 128) :
    k0_pay8 (F := Ideal) v (ValueIdx.ix2 r k) = v (ValueIdx.ix3 0 r k) * Ideal.ofBits .f32 0x3D93CD3A#32 :=
  congrArg (fun a : EReal => a * Ideal.ofBits .f32 0x3D93CD3A#32) (cast_at v _ r k)

theorem pay52_at (s : FVec Ideal S512x128 .f32) (v : Vec Ideal S1x512x128 .bf16) (r : Fin 512) (k : Fin 128) :
    k0_pay52 (F := Ideal) s v (ValueIdx.ix2 r k) = s (ValueIdx.ix2 r k) + v (ValueIdx.ix3 0 r k) :=
  congrArg (fun a : EReal => s (ValueIdx.ix2 r k) + a) (cast_at v _ r k)

/-- The heads' columns of positions, added up. -/
theorem pe_at (x : Vec Ideal S8x512x256 .bf16) (r : Fin 512) (k : Fin 128) :
    addf (peSum x) (k0_pay57 (turned x 7)) (ValueIdx.ix2 r k) = ∑ h : Fin 8, x (ValueIdx.ix3 h r ⟨128 + k.val, by omega⟩) := by
  have e : ∀ h : Fin 8, turned x h (ValueIdx.ix3 0 r k) = x (ValueIdx.ix3 h r ⟨128 + k.val, by omega⟩) := fun h => turned_at x h r k
  show peSum x (ValueIdx.ix2 r k) + k0_pay57 (F := Ideal) (turned x 7) (ValueIdx.ix2 r k) = _
  rw [pay57_at, peSum, pay52_at, pay52_at, pay52_at, pay52_at, pay52_at, pay52_at, pay52_at, e, e, e, e, e, e, e, e,
    show k0_pay7 (F := Ideal) (ValueIdx.ix2 r k) = 0 from Ideal.ofBits_zero_f32, zero_add, Fin.sum_univ_eight]

/-! ### Turning back -/

/-- The column `s` further on, cyclically. -/
abbrev onward (s : Nat) (j : Fin 128) : Fin 128 := ⟨(j.val + s) % 128, by omega⟩

/-- What the body makes of a row of columns of positions, with the three tables' rows. -/
def turn (y c s1 s2 : Fin 128 → EReal) (j : Fin 128) : EReal :=
  y j * c j + Ideal.ofBits .f32 0xBF800000#32 * (y (onward 32 j) * s1 j + y (onward 96 j) * s2 j)

theorem rolled (x : FVec Ideal S512x128 .f32) (r : Fin 512) (j : Fin 128) :
    dynamicRotate 1 96#32 none x rotates_S512x128_d1 (ValueIdx.ix2 r j) = x (ValueIdx.ix2 r (onward 32 j))
    ∧ dynamicRotate 1 32#32 none x rotates_S512x128_d1 (ValueIdx.ix2 r j) = x (ValueIdx.ix2 r (onward 96 j)) := by
  constructor
  · refine dynamicRotate_apply 1 96#32 x _ _ _ fun b => ?_
    match b with
    | ⟨0, _⟩ => rfl
    | ⟨1, _⟩ => show (j.val + 32) % 128 = (j.val + 128 - 96 % 128) % 128; omega
  · refine dynamicRotate_apply 1 32#32 x _ _ _ fun b => ?_
    match b with
    | ⟨0, _⟩ => rfl
    | ⟨1, _⟩ => show (j.val + 96) % 128 = (j.val + 128 - 32 % 128) % 128; omega

/-- The body's turn of a block. -/
theorem turn_at (x c s1 s2 : FVec Ideal S512x128 .f32) (r : Fin 512) (j : Fin 128) :
    addf (mulf x c) (mulf (broadcast S512x128 (Scalar.ofBits (F := Ideal) .f32 0xBF800000#32))
      (addf (mulf (dynamicRotate 1 96#32 none x rotates_S512x128_d1) s1) (mulf (dynamicRotate 1 32#32 none x rotates_S512x128_d1) s2))) (ValueIdx.ix2 r j)
    = turn (fun k => x (ValueIdx.ix2 r k)) (fun k => c (ValueIdx.ix2 r k)) (fun k => s1 (ValueIdx.ix2 r k)) (fun k => s2 (ValueIdx.ix2 r k)) j :=
  congrArg (fun a : EReal => x (ValueIdx.ix2 r j) * c (ValueIdx.ix2 r j) + Ideal.ofBits .f32 0xBF800000#32 * a)
    (congrArg₂ (fun a b : EReal => a * s1 (ValueIdx.ix2 r j) + b * s2 (ValueIdx.ix2 r j)) (rolled x r j).1 (rolled x r j).2)

theorem pay9_at (x5 x6 x7 : Vec Ideal S512x128 .f32) (v : Vec Ideal S1x512x128 .bf16) (r : Fin 512) (j : Fin 128) :
    k0_pay9 (F := Ideal) x5 x6 x7 v (ValueIdx.ix2 r j)
    = turn (fun k => v (ValueIdx.ix3 0 r k)) (fun k => x5 (ValueIdx.ix2 r k)) (fun k => x6 (ValueIdx.ix2 r k)) (fun k => x7 (ValueIdx.ix2 r k)) j
      * Ideal.ofBits .f32 0x3D93CD3A#32 := by
  unfold k0_pay9 k0_pay4 k0_pay5 k0_pay6
  rw [shapeCast_self, shapeCast_self, shapeCast_self]
  refine congrArg (fun a : EReal => a * Ideal.ofBits .f32 0x3D93CD3A#32) ((turn_at _ x5 x6 x7 r j).trans ?_)
  refine congrArg (fun y => turn y (fun k => x5 (ValueIdx.ix2 r k)) (fun k => x6 (ValueIdx.ix2 r k)) (fun k => x7 (ValueIdx.ix2 r k)) j) (funext fun k => ?_)
  exact cast_at v _ r k

theorem pay58_at (x5 x6 x7 : Vec Ideal S512x128 .f32) (s v : FVec Ideal S512x128 .f32) (r : Fin 512) (j : Fin 128) :
    k0_pay58 (F := Ideal) (k0_pay4 x5) (k0_pay5 x6) (k0_pay6 x7) s v (ValueIdx.ix2 r j)
    = turn (fun k => addf s v (ValueIdx.ix2 r k)) (fun k => x5 (ValueIdx.ix2 r k)) (fun k => x6 (ValueIdx.ix2 r k)) (fun k => x7 (ValueIdx.ix2 r k)) j := by
  unfold k0_pay58 k0_pay4 k0_pay5 k0_pay6
  rw [shapeCast_self, shapeCast_self, shapeCast_self]
  exact turn_at _ x5 x6 x7 r j

/-- The three tables' rows: the cosine twice, the negated sine first, the sine second, zeros after. -/
def Tables (c s1 s2 : Fin 128 → EReal) (C S : Fin 32 → EReal) : Prop :=
  (∀ j : Fin 32, (c ⟨j.val, by omega⟩ = C j ∧ s1 ⟨j.val, by omega⟩ = -S j ∧ s2 ⟨j.val, by omega⟩ = 0)
    ∧ c ⟨32 + j.val, by omega⟩ = C j ∧ s1 ⟨32 + j.val, by omega⟩ = 0 ∧ s2 ⟨32 + j.val, by omega⟩ = S j)
  ∧ ∀ k : Fin 128, 64 ≤ k.val → c k = 0 ∧ s1 k = 0 ∧ s2 k = 0

theorem ofBits_neg_one : Ideal.ofBits .f32 0xBF800000#32 = -(1 : EReal) := by
  rw [show Ideal.ofBits .f32 0xBF800000#32 = ((-1 : ℝ) : EReal) by simp [Ideal.ofBits, Ideal.ieee, -EReal.coe_mul]; norm_num]
  simp

section
variable {y c s1 s2 : Fin 128 → EReal} {C S : Fin 32 → EReal} (T : Tables c s1 s2 C S)
include T

theorem turn_lo (j : Fin 32) : turn y c s1 s2 ⟨j.val, by omega⟩ = y ⟨32 + j.val, by omega⟩ * S j + y ⟨j.val, by omega⟩ * C j := by
  obtain ⟨⟨a, b, d⟩, -⟩ := T.1 j
  have e : onward 32 ⟨j.val, by omega⟩ = ⟨32 + j.val, by omega⟩ := Fin.ext (by show (j.val + 32) % 128 = 32 + j.val; omega)
  unfold turn
  rw [a, b, d, e, ofBits_neg_one, mul_zero, add_zero, neg_mul, one_mul, mul_neg, neg_neg, add_comm]

theorem turn_hi (j : Fin 32) : turn y c s1 s2 ⟨32 + j.val, by omega⟩ = y ⟨32 + j.val, by omega⟩ * C j + -y ⟨j.val, by omega⟩ * S j := by
  obtain ⟨-, a, b, d⟩ := T.1 j
  have e : onward 96 ⟨32 + j.val, by omega⟩ = ⟨j.val, by omega⟩ := Fin.ext (by show (32 + j.val + 96) % 128 = j.val; omega)
  unfold turn
  rw [a, b, d, e, ofBits_neg_one, mul_zero, zero_add, neg_mul, one_mul, neg_mul]

theorem turn_off (k : Fin 128) (hk : 64 ≤ k.val) : turn y c s1 s2 k = 0 := by
  obtain ⟨a, b, d⟩ := T.2 k hk
  unfold turn
  rw [a, b, d, mul_zero, mul_zero, mul_zero, add_zero, mul_zero, add_zero]

end

/-- A scale of the turned columns is a turn of the scaled ones. -/
theorem scaled {s : EReal} (h0 : 0 ≤ s) (ht : s ≠ ⊤) (a b p q : EReal) : (a * p + b * q) * s = a * s * p + b * s * q := by
  rw [EReal.right_distrib_of_nonneg_of_ne_top h0 ht, mul_right_comm, mul_right_comm b]

/-! ### Side by side -/

theorem side_even {e : EltTy} (W : Fin 16 → S512x128.Idx → Elt Ideal e) (r : Fin 512) (h : Fin 8) (k : Fin 128) :
    sideBySide W (ValueIdx.ix2 r ⟨256 * h.val + k.val, by omega⟩) = W ⟨2 * h.val, by omega⟩ (ValueIdx.ix2 r k) := by
  unfold sideBySide
  refine congr (congrArg W (Fin.ext ?_)) (idx2_ext rfl ?_)
  · show (256 * h.val + k.val) / 128 = 2 * h.val; omega
  · show (256 * h.val + k.val) % 128 = k.val; omega

theorem side_odd {e : EltTy} (W : Fin 16 → S512x128.Idx → Elt Ideal e) (r : Fin 512) (h : Fin 8) (k : Fin 128) :
    sideBySide W (ValueIdx.ix2 r ⟨256 * h.val + (128 + k.val), by omega⟩) = W ⟨2 * h.val + 1, by omega⟩ (ValueIdx.ix2 r k) := by
  unfold sideBySide
  refine congr (congrArg W (Fin.ext ?_)) (idx2_ext rfl ?_)
  · show (256 * h.val + (128 + k.val)) / 128 = 2 * h.val + 1; omega
  · show (256 * h.val + (128 + k.val)) % 128 = k.val; omega

variable (x0 x1 : Vec Ideal S8x512x256 .bf16) (x2 : Vec Ideal S8x512x128 .bf16) (x5 x6 x7 : Vec Ideal S512x128 .f32)

theorem dqB_plain (r : Fin 512) (h : Fin 8) (k : Fin 128) :
    dqB x0 x5 x6 x7 (ValueIdx.ix2 r ⟨256 * h.val + k.val, by omega⟩) = x0 (ValueIdx.ix3 h r ⟨k.val, by omega⟩) * Ideal.ofBits .f32 0x3D93CD3A#32 := by
  refine (side_even (dqW x0 x5 x6 x7) r h k).trans ?_
  have e : dqW x0 x5 x6 x7 ⟨2 * h.val, by omega⟩ = k0_pay8 (plain x0 h) :=
    (if_pos (by show 2 * h.val % 2 = 0; omega)).trans (congrArg (fun z => k0_pay8 (plain x0 z)) (Fin.ext (by show 2 * h.val / 2 = h.val; omega)))
  rw [e, pay8_at, plain_at]

theorem dqB_turned (r : Fin 512) (h : Fin 8) (k : Fin 128) :
    dqB x0 x5 x6 x7 (ValueIdx.ix2 r ⟨256 * h.val + (128 + k.val), by omega⟩)
    = turn (fun j => x0 (ValueIdx.ix3 h r ⟨128 + j.val, by omega⟩)) (fun j => x5 (ValueIdx.ix2 r j)) (fun j => x6 (ValueIdx.ix2 r j)) (fun j => x7 (ValueIdx.ix2 r j)) k
      * Ideal.ofBits .f32 0x3D93CD3A#32 := by
  refine (side_odd (dqW x0 x5 x6 x7) r h k).trans ?_
  have e : dqW x0 x5 x6 x7 ⟨2 * h.val + 1, by omega⟩ = k0_pay9 x5 x6 x7 (turned x0 h) :=
    (if_neg (by show ¬(2 * h.val + 1) % 2 = 0; omega)).trans (congrArg (fun z => k0_pay9 x5 x6 x7 (turned x0 z)) (Fin.ext (by show (2 * h.val + 1) / 2 = h.val; omega)))
  rw [e, pay9_at]
  exact congrArg (fun y => turn y (fun j => x5 (ValueIdx.ix2 r j)) (fun j => x6 (ValueIdx.ix2 r j)) (fun j => x7 (ValueIdx.ix2 r j)) k * Ideal.ofBits .f32 0x3D93CD3A#32)
    (funext fun j => turned_at x0 h r j)

theorem dkvB_key (r : Fin 512) (h : Fin 8) (k : Fin 128) :
    dkvB x1 x2 (ValueIdx.ix2 r ⟨256 * h.val + k.val, by omega⟩) = x1 (ValueIdx.ix3 h r ⟨k.val, by omega⟩) := by
  refine (side_even (dkvW x1 x2) r h k).trans ?_
  have e : dkvW x1 x2 ⟨2 * h.val, by omega⟩ = k0_pay10 (plain x1 h) :=
    (if_pos (by show 2 * h.val % 2 = 0; omega)).trans (congrArg (fun z => k0_pay10 (plain x1 z)) (Fin.ext (by show 2 * h.val / 2 = h.val; omega)))
  rw [e, pay10_at, plain_at]

theorem dkvB_value (r : Fin 512) (h : Fin 8) (k : Fin 128) :
    dkvB x1 x2 (ValueIdx.ix2 r ⟨256 * h.val + (128 + k.val), by omega⟩) = x2 (ValueIdx.ix3 h r k) := by
  refine (side_odd (dkvW x1 x2) r h k).trans ?_
  have e : dkvW x1 x2 ⟨2 * h.val + 1, by omega⟩ = k0_pay10 (headOf x2 h) :=
    (if_neg (by show ¬(2 * h.val + 1) % 2 = 0; omega)).trans (congrArg (fun z => k0_pay10 (headOf x2 z)) (Fin.ext (by show (2 * h.val + 1) / 2 = h.val; omega)))
  rw [e, pay10_at, headOf_at]

/-! ### The products and the norms -/

theorem pay62_at (a w : Vec Ideal S512x2048 .bf16) (r d : Fin 512) :
    k0_pay62 (F := Ideal) a w (ValueIdx.ix2 r d) = ∑ k : Fin 2048, a (ValueIdx.ix2 r k) * w (ValueIdx.ix2 d k) := by
  unfold k0_pay62
  rw [shapeCast_self, shapeCast_self]
  refine (matmul_nt _ rfl _ _ _ _ (ValueIdx.ix2 r d)).trans ?_
  show Ideal.ofBits .f32 0x00000000#32 + _ = _
  rw [Ideal.ofBits_zero_f32, zero_add]

theorem pay71_at (a : Vec Ideal S512x2048 .bf16) (w : Vec Ideal S256x2048 .bf16) (r : Fin 512) (d : Fin 256) :
    k0_pay71 (F := Ideal) a w (ValueIdx.ix2 r d) = ∑ k : Fin 2048, a (ValueIdx.ix2 r k) * w (ValueIdx.ix2 d k) := by
  unfold k0_pay71
  rw [shapeCast_self, shapeCast_self]
  refine (matmul_nt _ rfl _ _ _ _ (ValueIdx.ix2 r d)).trans ?_
  show Ideal.ofBits .f32 0x00000000#32 + _ = _
  rw [Ideal.ofBits_zero_f32, zero_add]

/-- A sum over all columns, head by head. -/
theorem by_heads (f : Fin 2048 → EReal) : ∑ q, f q = ∑ h : Fin 8, ∑ k : Fin 256, f ⟨256 * h.val + k.val, by omega⟩ := by
  refine ((finProdFinEquiv (m := 8) (n := 256)).sum_comp f).symm.trans ((Fintype.sum_prod_type _).trans (Finset.sum_congr rfl fun h _ => Finset.sum_congr rfl fun k _ => ?_))
  exact congrArg f (Fin.ext (by show k.val + 256 * h.val = 256 * h.val + k.val; omega))

/-- A sum over a head's columns, of which the last ones are zero. -/
theorem first_192 (f : Fin 256 → EReal) (h : ∀ k : Fin 256, 192 ≤ k.val → f k = 0) : ∑ k, f k = ∑ k : Fin 192, f ⟨k.val, by omega⟩ := by
  refine (Fin.sum_univ_add (a := 192) (b := 64) f).trans ?_
  rw [Finset.sum_eq_zero (s := Finset.univ) (f := fun i : Fin 64 => f (Fin.natAdd 192 i)) fun i _ => h _ (by show 192 ≤ 192 + i.val; omega), add_zero]
  rfl

variable (x3 : Vec Ideal S512x512 .f32) (x4 : Vec Ideal S512x256 .f32) (x8 : Vec Ideal S1x512 .f32) (x9 : Vec Ideal S1x256 .f32)
  (y3 : FVec Ideal S512x512 .f32)

theorem pay60_at (r d : Fin 512) : k0_pay60 (F := Ideal) x3 x8 (ValueIdx.ix2 r d)
    = x3 (ValueIdx.ix2 r d) * inv (Ideal.ofBits .f32 0x44000000#32) (Ideal.ofBits .f32 0x358637BD#32) (fun k => x3 (ValueIdx.ix2 r k)) * x8 (ValueIdx.ix2 0 d) := by
  unfold k0_pay60 k0_pay59
  rw [shapeCast_self, shapeCast_self]
  exact congrArg₂ (fun a b : EReal => a * b) (unit_at x3 0x44000000#32 0x358637BD#32 _ _ _ _ _ r d) (over_rows _ _ r d)

theorem pay70_at (r : Fin 512) (d : Fin 256) : k0_pay70 (F := Ideal) (k0_pay67 x4) (k0_pay68 x9) (k0_pay69 x4) (ValueIdx.ix2 r d)
    = x4 (ValueIdx.ix2 r d) * inv (Ideal.ofBits .f32 0x43800000#32) (Ideal.ofBits .f32 0x358637BD#32) (fun k => x4 (ValueIdx.ix2 r k)) * x9 (ValueIdx.ix2 0 d) := by
  unfold k0_pay70 k0_pay69 k0_pay67 k0_pay68
  rw [shapeCast_self, shapeCast_self]
  exact congrArg₂ (fun a b : EReal => a * b) (unit_at x4 0x43800000#32 0x358637BD#32 _ _ _ _ _ r d) (over_rows _ _ r d)

theorem pay65_at (r d : Fin 512) : k0_pay65 (F := Ideal) (k0_pay59 x3) (k0_pay61 x8) y3 (ValueIdx.ix2 r d)
    = kgrad (Ideal.ofBits .f32 0x44000000#32) (Ideal.ofBits .f32 0x358637BD#32) (fun k => x3 (ValueIdx.ix2 r k))
      (fun k => y3 (ValueIdx.ix2 r k) * x8 (ValueIdx.ix2 0 k)) d := by
  have e : (fun k => y3 (ValueIdx.ix2 r k) * x8 (ValueIdx.ix2 0 k))
      = fun k => mulf y3 (broadcastTo S512x512 x8 broadcasts_S1x512_S512x512) (ValueIdx.ix2 r k) :=
    funext fun k => congrArg (fun a : EReal => y3 (ValueIdx.ix2 r k) * a) (over_rows x8 _ r k).symm
  unfold k0_pay65 k0_pay64 k0_pay63 k0_pay59 k0_pay61
  rw [shapeCast_self, shapeCast_self, e]
  exact block_grad x3 _ 0x44000000#32 0x358637BD#32 _ _ _ _ _ _ _ _ _ _ r d

theorem pay75_at (a : Vec Ideal S512x2048 .bf16) (w : Vec Ideal S256x2048 .bf16) (r : Fin 512) (d : Fin 256) :
    k0_pay75 (F := Ideal) (k0_pay67 x4) x9 a w (ValueIdx.ix2 r d)
    = kgrad (Ideal.ofBits .f32 0x43800000#32) (Ideal.ofBits .f32 0x358637BD#32) (fun k => x4 (ValueIdx.ix2 r k))
      (fun k => k0_pay71 a w (ValueIdx.ix2 r k) * x9 (ValueIdx.ix2 0 k)) d := by
  have e : (fun k => k0_pay71 a w (ValueIdx.ix2 r k) * x9 (ValueIdx.ix2 0 k))
      = fun k => mulf (k0_pay71 a w) (broadcastTo S512x256 x9 broadcasts_S1x256_S512x256) (ValueIdx.ix2 r k) :=
    funext fun k => congrArg (fun b : EReal => k0_pay71 a w (ValueIdx.ix2 r k) * b) (over_rows x9 _ r k).symm
  rw [e]
  generalize hy : k0_pay71 a w = y
  unfold k0_pay75 k0_pay73 k0_pay72 k0_pay67
  rw [shapeCast_self, shapeCast_self, hy]
  exact block_grad x4 _ 0x43800000#32 0x358637BD#32 _ _ _ _ _ _ _ _ _ _ r d

theorem pay66_at (xo : Vec Ideal S1x512 .f32) (d : Fin 512) : k0_pay66 (F := Ideal) (k0_pay59 x3) y3 xo (ValueIdx.ix2 0 d)
    = xo (ValueIdx.ix2 0 d) + ∑ r : Fin 512, y3 (ValueIdx.ix2 r d) * (x3 (ValueIdx.ix2 r d)
      * inv (Ideal.ofBits .f32 0x44000000#32) (Ideal.ofBits .f32 0x358637BD#32) (fun k => x3 (ValueIdx.ix2 r k))) := by
  unfold k0_pay66 k0_pay64 k0_pay63 k0_pay59
  rw [shapeCast_self, shapeCast_self]
  refine congrArg (xo (ValueIdx.ix2 0 d) + ·) ((col_sum _ _ _ _ _ d).trans (Finset.sum_congr rfl fun r _ => ?_))
  exact congrArg (fun a : EReal => y3 (ValueIdx.ix2 r d) * a) (unit_at x3 0x44000000#32 0x358637BD#32 _ _ _ _ _ r d)

theorem pay1_at (a : Vec Ideal S512x2048 .bf16) (w : Vec Ideal S256x2048 .bf16) (xo : Vec Ideal S1x256 .f32) (d : Fin 256) :
    k0_pay1 (F := Ideal) (k0_pay74 (k0_pay67 x4) a w) xo (ValueIdx.ix2 0 d)
    = xo (ValueIdx.ix2 0 d) + ∑ r : Fin 512, k0_pay71 a w (ValueIdx.ix2 r d) * (x4 (ValueIdx.ix2 r d)
      * inv (Ideal.ofBits .f32 0x43800000#32) (Ideal.ofBits .f32 0x358637BD#32) (fun k => x4 (ValueIdx.ix2 r k))) := by
  unfold k0_pay1 k0_pay74
  generalize k0_pay71 a w = y
  unfold k0_pay73 k0_pay72 k0_pay67
  rw [shapeCast_self, shapeCast_self]
  refine congrArg (xo (ValueIdx.ix2 0 d) + ·) ((col_sum _ _ _ _ _ d).trans (Finset.sum_congr rfl fun r _ => ?_))
  exact congrArg (fun a : EReal => y (ValueIdx.ix2 r d) * a) (unit_at x4 0x43800000#32 0x358637BD#32 _ _ _ _ _ r d)

end Cert.Proof.Mla
end
-- ==== Proof.Mla.Blocks.lean ====
/- The gradient through the rotary low-rank projections and their norms, kernel side: where the blocks lie in the arrays, and what the arrays hold. -/
module

public import proofs.«01_k».proof.Proof.Mla.Ref
public import proofs.«01_k».proof.Proof.Mla.Body
public import proofs.«01_k».proof.Proof.Tiles

@[expose] public section

set_option maxRecDepth 16384

noncomputable section

namespace Cert.Proof.Mla

open Cert.MlaIdeal Cert.MlaIdeal.Gen Cert.MlaIdeal.Value
open Idealize.ShloMosaic hiding ix1 ix2 ix3
open Idealize.ShloMosaic.TcCoe Idealize.SL.Sem Cert.Proof.Rms
open Cert.MlaRefIdeal.Read
open ValueIdx (ix1 ix2 ix3)

theorem lt_16 (t : Fin cfg0.N) : t.val < 16 := by
  have h : t.val < grid0.N := t.isLt
  rw [N_0] at h; exact h

theorem tile_le (t : Fin cfg0.N) : t.val * 512 + 512 ≤ 8192 := by have := lt_16 t; omega

/-- Where each window's block lies: a tile of rows, at a block of columns, or the whole array. -/
theorem idxs : ∀ t : Fin cfg0.N,
    ((win0_0.index t (0 : Fin 3) = 0 ∧ win0_0.index t (1 : Fin 3) = t.val ∧ win0_0.index t (2 : Fin 3) = 0)
      ∧ (win0_1.index t (0 : Fin 3) = 0 ∧ win0_1.index t (1 : Fin 3) = t.val ∧ win0_1.index t (2 : Fin 3) = 0)
      ∧ (win0_2.index t (0 : Fin 3) = 0 ∧ win0_2.index t (1 : Fin 3) = t.val ∧ win0_2.index t (2 : Fin 3) = 0))
    ∧ ((win0_3.index t (0 : Fin 2) = t.val ∧ win0_3.index t (1 : Fin 2) = 5) ∧ (win0_4.index t (0 : Fin 2) = t.val ∧ win0_4.index t (1 : Fin 2) = 12))
    ∧ ((win0_5.index t (0 : Fin 2) = t.val ∧ win0_5.index t (1 : Fin 2) = 0) ∧ (win0_6.index t (0 : Fin 2) = t.val ∧ win0_6.index t (1 : Fin 2) = 0)
      ∧ (win0_7.index t (0 : Fin 2) = t.val ∧ win0_7.index t (1 : Fin 2) = 0))
    ∧ ((win0_8.index t (0 : Fin 2) = 0 ∧ win0_8.index t (1 : Fin 2) = 0) ∧ (win0_9.index t (0 : Fin 2) = 0 ∧ win0_9.index t (1 : Fin 2) = 0)
      ∧ (win0_10.index t (0 : Fin 2) = 0 ∧ win0_10.index t (1 : Fin 2) = 0) ∧ (win0_11.index t (0 : Fin 2) = 0 ∧ win0_11.index t (1 : Fin 2) = 0))
    ∧ ((win0_12.index t (0 : Fin 2) = t.val ∧ win0_12.index t (1 : Fin 2) = 0) ∧ (win0_13.index t (0 : Fin 2) = t.val ∧ win0_13.index t (1 : Fin 2) = 0)
      ∧ (win0_14.index t (0 : Fin 2) = t.val ∧ win0_14.index t (1 : Fin 2) = 0) ∧ (win0_15.index t (0 : Fin 2) = t.val ∧ win0_15.index t (1 : Fin 2) = 0)
      ∧ (win0_16.index t (0 : Fin 2) = t.val ∧ win0_16.index t (1 : Fin 2) = 0) ∧ (win0_17.index t (0 : Fin 2) = t.val ∧ win0_17.index t (1 : Fin 2) = 0)
      ∧ (win0_18.index t (0 : Fin 2) = t.val ∧ win0_18.index t (1 : Fin 2) = 0))
    ∧ (win0_19.index t (0 : Fin 2) = 0 ∧ win0_19.index t (1 : Fin 2) = 0) ∧ (win0_20.index t (0 : Fin 2) = 0 ∧ win0_20.index t (1 : Fin 2) = 0) :=
  (by decide +kernel : ∀ t : Fin grid0.N, _)

/-- The tile of rows of point `t`. -/
abbrev tileAt {w : Nat} (t : Fin cfg0.N) (j : (⟨2, ![512, w]⟩ : Shape).Idx) : (⟨2, ![8192, w]⟩ : Shape).Idx := row (t.val * 512) (tile_le t) j
abbrev rowAt (t : Fin cfg0.N) (r : Fin 512) : Fin 8192 := ⟨t.val * 512 + r.val, by have := tile_le t; omega⟩
abbrev headsAt {w : Nat} (t : Fin cfg0.N) (j : (⟨3, ![8, 512, w]⟩ : Shape).Idx) : (⟨3, ![8, 8192, w]⟩ : Shape).Idx := ix3 (j 0) (rowAt t (j 1)) (j 2)

theorem at_ix {w : Nat} (t : Fin cfg0.N) (r : Fin 512) (d : Fin w) : tileAt t (ix2 r d) = ix2 (rowAt t r) d := idx2_ext rfl rfl

/-- A block of all heads, a tile of rows. -/
theorem blk_heads {w a b d : Nat} (t : Fin cfg0.N) (i : (⟨3, ![8, 8192, w]⟩ : Shape).Idx) (j : (⟨3, ![8, 512, w]⟩ : Shape).Idx) (e : a = 0 ∧ b = t.val ∧ d = 0)
    (h0 : (i 0).val = a * 8 + 1 * (j 0).val) (h1 : (i 1).val = b * 512 + 1 * (j 1).val) (h2 : (i 2).val = d * w + 1 * (j 2).val) : i = headsAt t j := by
  obtain ⟨rfl, rfl, rfl⟩ := e
  exact idx3_ext (h0.trans (by show 0 * 8 + 1 * (j 0).val = (j 0).val; omega)) (h1.trans (by show t.val * 512 + 1 * (j 1).val = t.val * 512 + (j 1).val; omega))
    (h2.trans (by rw [Nat.zero_mul, Nat.zero_add, Nat.one_mul]; rfl))

theorem emb0 (t : Fin cfg0.N) (j : S8x512x256.Idx) : ((cfg0.win 0).blk t).view.emb j = headsAt t j := blk_heads t _ j (idxs t).1.1 rfl rfl rfl
theorem emb1 (t : Fin cfg0.N) (j : S8x512x256.Idx) : ((cfg0.win 1).blk t).view.emb j = headsAt t j := blk_heads t _ j (idxs t).1.2.1 rfl rfl rfl
theorem emb2 (t : Fin cfg0.N) (j : S8x512x128.Idx) : ((cfg0.win 2).blk t).view.emb j = headsAt t j := blk_heads t _ j (idxs t).1.2.2 rfl rfl rfl
theorem emb5 (t : Fin cfg0.N) (j : S512x128.Idx) : ((cfg0.win 5).blk t).view.emb j = tileAt t j := blk_row _ _ j (idxs t).2.2.1.1 rfl rfl
theorem emb6 (t : Fin cfg0.N) (j : S512x128.Idx) : ((cfg0.win 6).blk t).view.emb j = tileAt t j := blk_row _ _ j (idxs t).2.2.1.2.1 rfl rfl
theorem emb7 (t : Fin cfg0.N) (j : S512x128.Idx) : ((cfg0.win 7).blk t).view.emb j = tileAt t j := blk_row _ _ j (idxs t).2.2.1.2.2 rfl rfl
theorem emb8 (t : Fin cfg0.N) (j : S1x512.Idx) : ((cfg0.win 8).blk t).view.emb j = j := blk_whole _ j (idxs t).2.2.2.1.1 rfl rfl
theorem emb9 (t : Fin cfg0.N) (j : S1x256.Idx) : ((cfg0.win 9).blk t).view.emb j = j := blk_whole _ j (idxs t).2.2.2.1.2.1 rfl rfl
theorem emb10 (t : Fin cfg0.N) (j : S512x2048.Idx) : ((cfg0.win 10).blk t).view.emb j = j := blk_whole _ j (idxs t).2.2.2.1.2.2.1 rfl rfl
theorem emb11 (t : Fin cfg0.N) (j : S256x2048.Idx) : ((cfg0.win 11).blk t).view.emb j = j := blk_whole _ j (idxs t).2.2.2.1.2.2.2 rfl rfl
theorem emb12 (t : Fin cfg0.N) (j : S512x512.Idx) : ((cfg0.win 12).blk t).view.emb j = tileAt t j := blk_row _ _ j (idxs t).2.2.2.2.1.1 rfl rfl
theorem emb13 (t : Fin cfg0.N) (j : S512x256.Idx) : ((cfg0.win 13).blk t).view.emb j = tileAt t j := blk_row _ _ j (idxs t).2.2.2.2.1.2.1 rfl rfl
theorem emb14 (t : Fin cfg0.N) (j : S512x128.Idx) : ((cfg0.win 14).blk t).view.emb j = tileAt t j := blk_row _ _ j (idxs t).2.2.2.2.1.2.2.1 rfl rfl
theorem emb15 (t : Fin cfg0.N) (j : S512x2048.Idx) : ((cfg0.win 15).blk t).view.emb j = tileAt t j := blk_row _ _ j (idxs t).2.2.2.2.1.2.2.2.1 rfl rfl
theorem emb16 (t : Fin cfg0.N) (j : S512x2048.Idx) : ((cfg0.win 16).blk t).view.emb j = tileAt t j := blk_row _ _ j (idxs t).2.2.2.2.1.2.2.2.2.1 rfl rfl
theorem emb17 (t : Fin cfg0.N) (j : S512x512.Idx) : ((cfg0.win 17).blk t).view.emb j = tileAt t j := blk_row _ _ j (idxs t).2.2.2.2.1.2.2.2.2.2.1 rfl rfl
theorem emb18 (t : Fin cfg0.N) (j : S512x256.Idx) : ((cfg0.win 18).blk t).view.emb j = tileAt t j := blk_row _ _ j (idxs t).2.2.2.2.1.2.2.2.2.2.2 rfl rfl
theorem emb19 (t : Fin cfg0.N) (j : S1x512.Idx) : ((cfg0.win 19).blk t).view.emb j = j := blk_whole _ j (idxs t).2.2.2.2.2.1 rfl rfl
theorem emb20 (t : Fin cfg0.N) (j : S1x256.Idx) : ((cfg0.win 20).blk t).view.emb j = j := blk_whole _ j (idxs t).2.2.2.2.2.2 rfl rfl

/-- Every row is in the tile of the point that writes it. -/
theorem cover {w : Nat} (i : (⟨2, ![8192, w]⟩ : Shape).Idx) : ∃ (t : Fin cfg0.N) (j : (⟨2, ![512, w]⟩ : Shape).Idx), tileAt t j = i := by
  have hi : (i 0).val < 8192 := (i 0).isLt
  have ht : (i 0).val / 512 < cfg0.N := by show (i 0).val / 512 < grid0.N; rw [N_0]; omega
  exact ⟨⟨(i 0).val / 512, ht⟩, _, (row_of i (by decide) (tile_le ⟨(i 0).val / 512, ht⟩)).symm⟩

/-- The blocks the body reads at point `t`. -/
theorem iblks {F : FTy → Type} [FloatOps F] (m : (ℓ : Loc nD τ sig) → Buf (Elt F) ℓ) (c : Dev nD) (t : Fin cfg0.N) :
    (iblk m c 0 t = (fun j => V m c main_v6 (headsAt t j)) ∧ iblk m c 1 t = (fun j => V m c main_v8 (headsAt t j))
      ∧ iblk m c 2 t = fun j => V m c main_v9 (headsAt t j))
    ∧ (iblk m c 5 t = (fun j => V m c main_v33 (tileAt t j)) ∧ iblk m c 6 t = (fun j => V m c main_v35 (tileAt t j))
      ∧ iblk m c 7 t = fun j => V m c main_v36 (tileAt t j))
    ∧ iblk m c 8 t = V m c main_v37 ∧ iblk m c 9 t = V m c main_v38 ∧ iblk m c 10 t = V m c main_v2 ∧ iblk m c 11 t = V m c main_v4 := by
  unfold iblk
  generalize V m c = X
  refine ⟨⟨?_, ?_, ?_⟩, ⟨?_, ?_, ?_⟩, ?_, ?_, ?_, ?_⟩ <;> funext j
  · exact congrArg (X main_v6) (emb0 t j)
  · exact congrArg (X main_v8) (emb1 t j)
  · exact congrArg (X main_v9) (emb2 t j)
  · exact congrArg (X main_v33) (emb5 t j)
  · exact congrArg (X main_v35) (emb6 t j)
  · exact congrArg (X main_v36) (emb7 t j)
  · exact congrArg (X main_v37) (emb8 t j)
  · exact congrArg (X main_v38) (emb9 t j)
  · exact congrArg (X main_v2) (emb10 t j)
  · exact congrArg (X main_v4) (emb11 t j)

/-- The two blocks of columns cut from the rows before the norms. -/
theorem X3 {F : FTy → Type} [FloatOps F] (m : (ℓ : Loc nD τ sig) → Buf (Elt F) ℓ) (c : Dev nD) (t : Fin cfg0.N) (r d : Fin 512) :
    X0_3 m c t (ix2 r d) = V m c main_v12 (ix2 (rowAt t r) ⟨2560 + d.val, by omega⟩) := by
  unfold X0_3 Pipeline.Window.fill
  rw [dif_pos (moved0_3 t (ix2 r d))]
  unfold iblk
  generalize V m c = X
  obtain ⟨e0, e1⟩ := (idxs t).2.1.1
  refine congrArg (X main_v12) (idx2_ext ?_ ?_)
  · show win0_3.index t (0 : Fin 2) * 512 + 1 * r.val = t.val * 512 + r.val
    rw [e0]; omega
  · show win0_3.index t (1 : Fin 2) * 512 + 1 * d.val = 2560 + d.val
    rw [e1]; omega
theorem X4 {F : FTy → Type} [FloatOps F] (m : (ℓ : Loc nD τ sig) → Buf (Elt F) ℓ) (c : Dev nD) (t : Fin cfg0.N) (r : Fin 512) (d : Fin 256) :
    X0_4 m c t (ix2 r d) = V m c main_v12 (ix2 (rowAt t r) ⟨3072 + d.val, by omega⟩) := by
  unfold X0_4 Pipeline.Window.fill
  rw [dif_pos (moved0_4 t (ix2 r d))]
  unfold iblk
  generalize V m c = X
  obtain ⟨e0, e1⟩ := (idxs t).2.1.2
  refine congrArg (X main_v12) (idx2_ext ?_ ?_)
  · show win0_4.index t (0 : Fin 2) * 512 + 1 * r.val = t.val * 512 + r.val
    rw [e0]; omega
  · show win0_4.index t (1 : Fin 2) * 256 + 1 * d.val = 3072 + d.val
    rw [e1]; omega

variable (m : (ℓ : Loc nD τ sig) → Buf (Elt Ideal) ℓ) (c : Dev nD)

abbrev dq : Vec Ideal S8x8192x192 .f32 := m ((c : Thread nD τ).loc main_arg0)
abbrev dk : Vec Ideal S8x8192x192 .f32 := m ((c : Thread nD τ).loc main_arg1)
abbrev dv : Vec Ideal S8x8192x128 .f32 := m ((c : Thread nD τ).loc main_arg2)
abbrev cq : Vec Ideal S8192x512 .f32 := m ((c : Thread nD τ).loc main_arg3)
abbrev ckv : Vec Ideal S8192x256 .f32 := m ((c : Thread nD τ).loc main_arg4)
abbrev kr : Vec Ideal S8192x64 .f32 := m ((c : Thread nD τ).loc main_arg5)
abbrev pos : Vec Ideal S8192 .i32 := m ((c : Thread nD τ).loc main_arg6)
abbrev qg : Vec Ideal S512 .f32 := m ((c : Thread nD τ).loc main_arg7)
abbrev kg : Vec Ideal S256 .f32 := m ((c : Thread nD τ).loc main_arg8)
abbrev wq : Vec Ideal S512x8x192 .f32 := m ((c : Thread nD τ).loc main_arg9)
abbrev wkv : Vec Ideal S256x8x256 .f32 := m ((c : Thread nD τ).loc main_arg10)

/-! ## The arrays the region finds -/

theorem Vqg (j : Fin 512) : V m c main_v37 (ix2 0 j) = qg m c (ix1 j) := by
  unfold Gen.V
  after_reads_at
  exact congrArg (m _) (funext fun a => match a with | ⟨0, _⟩ => rfl)
theorem Vkg (j : Fin 256) : V m c main_v38 (ix2 0 j) = kg m c (ix1 j) := by
  unfold Gen.V
  after_reads_at
  exact congrArg (m _) (funext fun a => match a with | ⟨0, _⟩ => rfl)

/-- A head's columns with zeros after them. -/
def padded (x : FVec Ideal S8x8192x192 .bf16) : FVec Ideal S8x8192x256 .bf16 :=
  pad S8x8192x256 ![0, 0, 0] ![0, 0, 64] ![0, 0, 0] x (sitofp (F := Ideal) .bf16 (constantI S_ 32 0#32)) pads_S8x8192x192_S8x8192x256_000_000_0640 h_S_

theorem zero_int : (sitofp (F := Ideal) .bf16 (constantI S_ 32 0#32)) (Shape.Idx.first h_S_) = (0 : EReal) := by
  show ((((0#32 : BitVec 32).toInt : ℝ)) : EReal) = 0
  simp

theorem padded_in (x : FVec Ideal S8x8192x192 .bf16) (h : Fin 8) (r : Fin 8192) (k : Fin 192) : padded x (ix3 h r ⟨k.val, by omega⟩) = x (ix3 h r k) :=
  pad3_in x _ _ _ h r ⟨k.val, by omega⟩ k (by show k.val = 0 + k.val; omega)
theorem padded_out (x : FVec Ideal S8x8192x192 .bf16) (h : Fin 8) (r : Fin 8192) (k : Fin 256) (hk : 192 ≤ k.val) : padded x (ix3 h r k) = (0 : EReal) :=
  (pad3_out x _ _ _ h r k (Or.inr (by show 0 + 192 ≤ k.val; omega))).trans zero_int

theorem Vdq : V m c main_v6 = padded fun i => dq m c i := by
  unfold Gen.V
  after_reads_simp
  rfl
theorem Vdk : V m c main_v8 = padded fun i => dk m c i := by
  unfold Gen.V
  after_reads_simp
  rfl
theorem Vdv : V m c main_v9 = fun i => dv m c i := by
  unfold Gen.V
  after_reads_simp
  rfl

/-- The weights, padded and laid out. -/
def laidQ (w : FVec Ideal S512x8x192 .bf16) : FVec Ideal S512x2048 .bf16 :=
  shapeCast S512x2048 (pad S512x8x256 ![0, 0, 0] ![0, 0, 64] ![0, 0, 0] w (sitofp (F := Ideal) .bf16 (constantI S_ 32 0#32)) pads_S512x8x192_S512x8x256_000_000_0640 h_S_)
    shapeCasts_S512x8x256_S512x2048
def laidKv (w : FVec Ideal S256x8x256 .bf16) : FVec Ideal S256x2048 .bf16 := shapeCast S256x2048 w shapeCasts_S256x8x256_S256x2048

theorem laidKv_at (w : FVec Ideal S256x8x256 .bf16) (d : Fin 256) (h : Fin 8) (k : Fin 256) : laidKv w (ix2 d ⟨256 * h.val + k.val, by omega⟩) = w (ix3 d h k) := by
  refine shapeCast_apply _ _ _ (ix3 d h k) ?_
  rw [Shape.rowMajor_val_three, Shape.rowMajor_val_two]
  show (d.val * 8 + h.val) * 256 + k.val = d.val * 2048 + (256 * h.val + k.val)
  omega
theorem laidQ_cast (w : FVec Ideal S512x8x192 .bf16) (d : Fin 512) (h : Fin 8) (k : Fin 256) : laidQ w (ix2 d ⟨256 * h.val + k.val, by omega⟩)
    = pad S512x8x256 ![0, 0, 0] ![0, 0, 64] ![0, 0, 0] w (sitofp (F := Ideal) .bf16 (constantI S_ 32 0#32)) pads_S512x8x192_S512x8x256_000_000_0640 h_S_ (ix3 d h k) := by
  refine shapeCast_apply _ _ _ (ix3 d h k) ?_
  rw [Shape.rowMajor_val_three, Shape.rowMajor_val_two]
  show (d.val * 8 + h.val) * 256 + k.val = d.val * 2048 + (256 * h.val + k.val)
  omega
theorem laidQ_in (w : FVec Ideal S512x8x192 .bf16) (d : Fin 512) (h : Fin 8) (k : Fin 192) : laidQ w (ix2 d ⟨256 * h.val + k.val, by omega⟩) = w (ix3 d h k) :=
  (laidQ_cast w d h ⟨k.val, by omega⟩).trans (pad3_in w _ _ _ d h ⟨k.val, by omega⟩ k (by show k.val = 0 + k.val; omega))
theorem laidQ_out (w : FVec Ideal S512x8x192 .bf16) (d : Fin 512) (h : Fin 8) (k : Fin 256) (hk : 192 ≤ k.val) :
    laidQ w (ix2 d ⟨256 * h.val + k.val, by omega⟩) = (0 : EReal) :=
  (laidQ_cast w d h k).trans ((pad3_out w _ _ _ d h k (Or.inr (by show 0 + 192 ≤ k.val; omega))).trans zero_int)

theorem Vwq : V m c main_v2 = laidQ fun i => wq m c i := by
  unfold Gen.V
  after_reads_simp
  rfl
theorem Vwkv : V m c main_v4 = laidKv fun i => wkv m c i := by
  unfold Gen.V
  after_reads_simp
  rfl

/-! ### The rows before the norms, and the tables -/

theorem V12_q (r : Fin 8192) (k : Fin 512) : V m c main_v12 (ix2 r ⟨2560 + k.val, by omega⟩) = cq m c (ix2 r k) := by
  unfold Gen.V
  after_reads_simp
  exact concatenate_apply_piece (t := S8192x3456) 1 _ _ _ 1 (by show 1 < 4; decide) S8192x512 (cq m c) rfl rfl 2560 rfl (ix2 r k)
    (fun b hb => match b with | ⟨0, _⟩ => rfl | ⟨1, _⟩ => absurd rfl hb) rfl
theorem V12_kv (r : Fin 8192) (k : Fin 256) : V m c main_v12 (ix2 r ⟨3072 + k.val, by omega⟩) = ckv m c (ix2 r k) := by
  unfold Gen.V
  after_reads_simp
  exact concatenate_apply_piece (t := S8192x3456) 1 _ _ _ 2 (by show 2 < 4; decide) S8192x256 (ckv m c) rfl rfl 3072 rfl (ix2 r k)
    (fun b hb => match b with | ⟨0, _⟩ => rfl | ⟨1, _⟩ => absurd rfl hb) rfl

/-- Thirty-two columns of zeros. -/
abbrev none32 : FVec Ideal S8192x32 .f32 := broadcastInDim S8192x32 ![] bcast_S_S8192x32 (constant (F := Ideal) S_ .f32 0x00000000#32)

/-- The pieces of a table. -/
abbrev tabs (a b : FVec Ideal S8192x32 .f32) : List ((s : Shape) × (s.Idx → EReal)) := [⟨S8192x32, a⟩, ⟨S8192x32, b⟩, ⟨S8192x32, none32⟩, ⟨S8192x32, none32⟩]
def tab (a b : FVec Ideal S8192x32 .f32) : FVec Ideal S8192x128 .f32 :=
  concatenate S8192x128 1 (tabs a b) concatenates_S8192x32_S8192x32_S8192x32_S8192x32_S8192x128_d1

theorem tab_piece (a b : FVec Ideal S8192x32 .f32) (p : Nat) (hp : p < (tabs a b).length) (x : S8192x32.Idx → EReal) (hx : (tabs a b)[p] = ⟨S8192x32, x⟩) (pre : Nat)
    (hpre : ((((tabs a b).take p).map (·.1)).map fun s => if h : s.rank = S8192x128.rank then s.size ((1 : Fin S8192x128.rank).cast h.symm) else 0).sum = pre)
    (r : Fin 8192) (k : Fin 32) (q : Fin 128) (hq : q.val = pre + k.val) : tab a b (ix2 r q) = x (ix2 r k) :=
  concatenate_apply_piece (t := S8192x128) 1 (tabs a b) _ _ p hp _ x hx rfl pre hpre (ix2 r k)
    (fun b hb => match b with | ⟨0, _⟩ => rfl | ⟨1, _⟩ => absurd rfl hb) hq.symm

theorem tab_at (a b : FVec Ideal S8192x32 .f32) (r : Fin 8192) (k : Fin 32) :
    (tab a b (ix2 r ⟨k.val, by omega⟩) = a (ix2 r k) ∧ tab a b (ix2 r ⟨32 + k.val, by omega⟩) = b (ix2 r k)) :=
  ⟨tab_piece a b 0 (by show 0 < 4; decide) a rfl 0 rfl r k _ (Nat.zero_add _).symm, tab_piece a b 1 (by show 1 < 4; decide) b rfl 32 rfl r k _ rfl⟩

theorem tab_off (a b : FVec Ideal S8192x32 .f32) (r : Fin 8192) (k : Fin 128) (hk : 64 ≤ k.val) : tab a b (ix2 r k) = (0 : EReal) := by
  have z : ∀ i, none32 i = (0 : EReal) := fun i => Ideal.ofBits_zero_f32
  rcases lt_or_ge k.val 96 with h | h
  · exact (tab_piece a b 2 (by show 2 < 4; decide) none32 rfl 64 rfl r ⟨k.val - 64, by omega⟩ k (by show k.val = 64 + (k.val - 64); omega)).trans (z _)
  · exact (tab_piece a b 3 (by show 3 < 4; decide) none32 rfl 96 rfl r ⟨k.val - 96, by omega⟩ k (by show k.val = 96 + (k.val - 96); omega)).trans (z _)

theorem V33 : V m c main_v33 = tab (val_main_v17 (pos m c)) (val_main_v17 (pos m c)) := by
  unfold Gen.V
  after_reads_simp
  rfl
theorem V35 : V m c main_v35 = tab (Host.negf (val_main_v19 (pos m c))) none32 := by
  unfold Gen.V
  after_reads_simp
  rfl
theorem V36 : V m c main_v36 = tab none32 (val_main_v19 (pos m c)) := by
  unfold Gen.V
  after_reads_simp
  rfl

/-- The tables' rows are those of the reference's angles. -/
theorem tables (r : Fin 8192) : Tables (fun k => V m c main_v33 (ix2 r k)) (fun k => V m c main_v35 (ix2 r k)) (fun k => V m c main_v36 (ix2 r k))
    (co (pos m c) r) (si (pos m c) r) := by
  rw [V33, V35, V36]
  have z : ∀ i, none32 i = (0 : EReal) := fun i => Ideal.ofBits_zero_f32
  exact ⟨fun j => ⟨⟨(tab_at _ _ r j).1, (tab_at _ _ r j).1, ((tab_at _ _ r j).1).trans (z _)⟩, (tab_at _ _ r j).2, ((tab_at _ _ r j).2).trans (z _), (tab_at _ _ r j).2⟩,
    fun k hk => ⟨tab_off _ _ r k hk, tab_off _ _ r k hk, tab_off _ _ r k hk⟩⟩

end Cert.Proof.Mla
end
-- ==== Proof.Mla.Value.lean ====
/- The gradient through the rotary low-rank projections and their norms over the reals: the kernel's nine results are the reference's. -/
module

public import proofs.«01_k».proof.Proof.Mla.Blocks

@[expose] public section

set_option maxRecDepth 16384

noncomputable section

namespace Cert.Proof.Mla

open Cert.MlaIdeal Cert.MlaIdeal.Gen Cert.MlaIdeal.Value
open Idealize.ShloMosaic hiding ix1 ix2 ix3
open Idealize.ShloMosaic.TcCoe Idealize.SL.Sem Cert.Proof.Rms
open Cert.MlaRefIdeal.Read
open ValueIdx (ix1 ix2 ix3)

variable (m : (ℓ : Loc nD τ sig) → Buf (Elt Ideal) ℓ) (c : Dev nD)

/-- The nine results, as the reference computes them. -/
abbrev g0 : Vec Ideal S8192x512 .bf16 := val_main_v182 (dq m c) (cq m c) (pos m c) (qg m c) (wq m c)
abbrev g1 : Vec Ideal S8192x256 .bf16 := val_main_v183 (dk m c) (dv m c) (ckv m c) (kg m c) (wkv m c)
abbrev g2 : Vec Ideal S8192x128 .bf16 := val_main_v185 (dk m c) (pos m c)
abbrev g3 : Vec Ideal S8192x2048 .bf16 := val_main_v188 (dq m c) (pos m c)
abbrev g4 : Vec Ideal S8192x2048 .bf16 := val_main_v190 (dk m c) (dv m c)
abbrev g5 : Vec Ideal S8192x512 .bf16 := val_main_v191 (cq m c) (qg m c)
abbrev g6 : Vec Ideal S8192x256 .bf16 := val_main_v192 (ckv m c) (kg m c)
abbrev g7 : Vec Ideal S1x512 .f32 := val_main_v193 (dq m c) (cq m c) (pos m c) (wq m c)
abbrev g8 : Vec Ideal S1x256 .f32 := val_main_v194 (dk m c) (dv m c) (ckv m c) (wkv m c)

/-- The gradients of the two normalised inputs, as the reference computes them. -/
abbrev yq : Vec Ideal S8192x512 .f32 := val_main_v141 (dq m c) (pos m c) (wq m c)
abbrev ykv : Vec Ideal S8192x256 .f32 := val_main_v119 (dk m c) (dv m c) (wkv m c)

/-- The blocks the body reads at point `t`. -/
abbrev b0 (t : Fin cfg0.N) : Vec Ideal S8x512x256 .bf16 := iblk m c 0 t
abbrev b1 (t : Fin cfg0.N) : Vec Ideal S8x512x256 .bf16 := iblk m c 1 t
abbrev b2 (t : Fin cfg0.N) : Vec Ideal S8x512x128 .bf16 := iblk m c 2 t
abbrev b3 (t : Fin cfg0.N) : Vec Ideal S512x512 .f32 := X0_3 m c t
abbrev b4 (t : Fin cfg0.N) : Vec Ideal S512x256 .f32 := X0_4 m c t
abbrev b5 (t : Fin cfg0.N) : Vec Ideal S512x128 .f32 := iblk m c 5 t
abbrev b6 (t : Fin cfg0.N) : Vec Ideal S512x128 .f32 := iblk m c 6 t
abbrev b7 (t : Fin cfg0.N) : Vec Ideal S512x128 .f32 := iblk m c 7 t
abbrev b8 (t : Fin cfg0.N) : Vec Ideal S1x512 .f32 := iblk m c 8 t
abbrev b9 (t : Fin cfg0.N) : Vec Ideal S1x256 .f32 := iblk m c 9 t
abbrev b10 (t : Fin cfg0.N) : Vec Ideal S512x2048 .bf16 := iblk m c 10 t
abbrev b11 (t : Fin cfg0.N) : Vec Ideal S256x2048 .bf16 := iblk m c 11 t

/-- An index past the first `lo`. -/
theorem past {n : Nat} (lo w : Nat) (k : Fin n) (h1 : lo ≤ k.val) (h2 : k.val < lo + w) (hn : lo + w ≤ n) :
    ∃ j : Fin w, k = ⟨lo + j.val, Nat.lt_of_lt_of_le (Nat.add_lt_add_left j.isLt lo) hn⟩ :=
  ⟨⟨k.val - lo, by omega⟩, Fin.ext (by show k.val = lo + (k.val - lo); omega)⟩

theorem b0_at (t : Fin cfg0.N) (h : Fin 8) (r : Fin 512) (k : Fin 256) (k' : Fin 192) (e : k.val = k'.val) :
    b0 m c t (ix3 h r k) = dq m c (ix3 h (rowAt t r) k') := by
  obtain rfl : k = ⟨k'.val, Nat.lt_trans k'.isLt (by decide)⟩ := Fin.ext e
  exact (congrFun (iblks m c t).1.1 _).trans ((congrFun (Vdq m c) _).trans (padded_in (fun i => dq m c i) h (rowAt t r) k'))
theorem b1_at (t : Fin cfg0.N) (h : Fin 8) (r : Fin 512) (k : Fin 256) (k' : Fin 192) (e : k.val = k'.val) :
    b1 m c t (ix3 h r k) = dk m c (ix3 h (rowAt t r) k') := by
  obtain rfl : k = ⟨k'.val, Nat.lt_trans k'.isLt (by decide)⟩ := Fin.ext e
  exact (congrFun (iblks m c t).1.2.1 _).trans ((congrFun (Vdk m c) _).trans (padded_in (fun i => dk m c i) h (rowAt t r) k'))
theorem b2_at (t : Fin cfg0.N) (h : Fin 8) (r : Fin 512) (k : Fin 128) : b2 m c t (ix3 h r k) = dv m c (ix3 h (rowAt t r) k) :=
  (congrFun (iblks m c t).1.2.2 _).trans (congrFun (Vdv m c) _)
theorem b3_at (t : Fin cfg0.N) (r d : Fin 512) : b3 m c t (ix2 r d) = cq m c (ix2 (rowAt t r) d) := (X3 m c t r d).trans (V12_q m c (rowAt t r) d)
theorem b4_at (t : Fin cfg0.N) (r : Fin 512) (d : Fin 256) : b4 m c t (ix2 r d) = ckv m c (ix2 (rowAt t r) d) := (X4 m c t r d).trans (V12_kv m c (rowAt t r) d)
theorem b8_at (t : Fin cfg0.N) (d : Fin 512) : b8 m c t (ix2 0 d) = qg m c (ix1 d) := (congrFun (iblks m c t).2.2.1 _).trans (Vqg m c d)
theorem b9_at (t : Fin cfg0.N) (d : Fin 256) : b9 m c t (ix2 0 d) = kg m c (ix1 d) := (congrFun (iblks m c t).2.2.2.1 _).trans (Vkg m c d)

/-- The tables' rows of the tile. -/
theorem tabs_at (t : Fin cfg0.N) (r : Fin 512) : Tables (fun k => b5 m c t (ix2 r k)) (fun k => b6 m c t (ix2 r k)) (fun k => b7 m c t (ix2 r k))
    (co (pos m c) (rowAt t r)) (si (pos m c) (rowAt t r)) := by
  have e5 : (fun k => b5 m c t (ix2 r k)) = fun k => V m c main_v33 (ix2 (rowAt t r) k) :=
    funext fun k => (congrFun (iblks m c t).2.1.1 _).trans (congrArg (V m c main_v33) (at_ix t r k))
  have e6 : (fun k => b6 m c t (ix2 r k)) = fun k => V m c main_v35 (ix2 (rowAt t r) k) :=
    funext fun k => (congrFun (iblks m c t).2.1.2.1 _).trans (congrArg (V m c main_v35) (at_ix t r k))
  have e7 : (fun k => b7 m c t (ix2 r k)) = fun k => V m c main_v36 (ix2 (rowAt t r) k) :=
    funext fun k => (congrFun (iblks m c t).2.1.2.2 _).trans (congrArg (V m c main_v36) (at_ix t r k))
  rw [e5, e6, e7]
  exact tables m c (rowAt t r)

/-- The tiles of the two projections' gradients. -/
abbrev dqT (t : Fin cfg0.N) : Vec Ideal S512x2048 .bf16 := dqB (b0 m c t) (b5 m c t) (b6 m c t) (b7 m c t)
abbrev dkvT (t : Fin cfg0.N) : Vec Ideal S512x2048 .bf16 := dkvB (b1 m c t) (b2 m c t)

theorem dq_row (t : Fin cfg0.N) (r : Fin 512) (h : Fin 8) (k : Fin 256) :
    dqT m c t (ix2 r ⟨256 * h.val + k.val, by omega⟩) = g3 m c (ix2 (rowAt t r) ⟨256 * h.val + k.val, by omega⟩) := by
  obtain ⟨s, s0, es⟩ := scale_real
  have h0 : 0 ≤ scale := by rw [es]; exact_mod_cast s0
  have ht : scale ≠ ⊤ := by rw [es]; exact EReal.coe_ne_top s
  have T := tabs_at m c t r
  rcases lt_or_ge k.val 128 with hk | hk
  · refine (dqB_plain (b0 m c t) (b5 m c t) (b6 m c t) (b7 m c t) r h ⟨k.val, hk⟩).trans (Eq.trans ?_
      ((v188_in (dq m c) (pos m c) (rowAt t r) h ⟨k.val, by omega⟩).trans (v140_plain (dq m c) (pos m c) (rowAt t r) h ⟨k.val, hk⟩)).symm)
    exact congrArg (fun a : EReal => a * scale) (b0_at m c t h r _ _ rfl)
  rcases lt_or_ge k.val 192 with hk2 | hk2
  · rcases lt_or_ge k.val 160 with hk3 | hk3
    · obtain ⟨j, rfl⟩ := past 128 32 k hk hk3 (by decide)
      refine (dqB_turned (b0 m c t) (b5 m c t) (b6 m c t) (b7 m c t) r h ⟨j.val, by omega⟩).trans ((congrArg (fun a : EReal => a * scale) (turn_lo T j)).trans ((scaled h0 ht _ _ _ _).trans (Eq.trans ?_
        ((v188_in (dq m c) (pos m c) (rowAt t r) h ⟨128 + j.val, by omega⟩).trans (v140_lo (dq m c) (pos m c) (rowAt t r) h j)).symm)))
      exact congrArg₂ (fun a b : EReal => a * scale * si (pos m c) (rowAt t r) j + b * scale * co (pos m c) (rowAt t r) j)
        (b0_at m c t h r _ _ (by show 128 + (32 + j.val) = 160 + j.val; omega)) (b0_at m c t h r _ _ rfl)
    · obtain ⟨j, rfl⟩ := past 128 64 k hk hk2 (by decide)
      obtain ⟨j, rfl⟩ := past 32 32 j (by have : 160 ≤ 128 + j.val := hk3; omega) j.isLt (by decide)
      refine (dqB_turned (b0 m c t) (b5 m c t) (b6 m c t) (b7 m c t) r h ⟨32 + j.val, by omega⟩).trans ((congrArg (fun a : EReal => a * scale) (turn_hi T j)).trans ((scaled h0 ht _ _ _ _).trans (Eq.trans ?_
        ((v188_in (dq m c) (pos m c) (rowAt t r) h ⟨128 + (32 + j.val), by omega⟩).trans
          ((congrArg (val_main_v140 (dq m c) (pos m c)) (idx3_ext (i := ix3 (rowAt t r) h ⟨128 + (32 + j.val), by omega⟩) (j := ix3 (rowAt t r) h ⟨160 + j.val, by omega⟩) rfl rfl (by show 128 + (32 + j.val) = 160 + j.val; omega))).trans
            (v140_hi (dq m c) (pos m c) (rowAt t r) h j))).symm)))
      rw [neg_mul]
      exact congrArg₂ (fun a b : EReal => a * scale * co (pos m c) (rowAt t r) j + -(b * scale) * si (pos m c) (rowAt t r) j)
        (b0_at m c t h r _ _ (by show 128 + (32 + j.val) = 160 + j.val; omega)) (b0_at m c t h r _ _ rfl)
  · obtain ⟨j, rfl⟩ := past 128 128 k hk k.isLt (by decide)
    refine (dqB_turned (b0 m c t) (b5 m c t) (b6 m c t) (b7 m c t) r h j).trans ((congrArg (fun a : EReal => a * scale) (turn_off T j (by have : 192 ≤ 128 + j.val := hk2; omega))).trans
      ((zero_mul _).trans (v188_out (dq m c) (pos m c) (rowAt t r) h _ hk2).symm))

theorem dkv_row (t : Fin cfg0.N) (r : Fin 512) (h : Fin 8) (k : Fin 256) :
    dkvT m c t (ix2 r ⟨256 * h.val + k.val, by omega⟩) = g4 m c (ix2 (rowAt t r) ⟨256 * h.val + k.val, by omega⟩) := by
  refine Eq.trans ?_ (v190_at (dk m c) (dv m c) (rowAt t r) h k).symm
  rcases lt_or_ge k.val 128 with hk | hk
  · exact (dkvB_key (b1 m c t) (b2 m c t) r h ⟨k.val, hk⟩).trans ((b1_at m c t h r _ _ rfl).trans (v118_key (dk m c) (dv m c) (rowAt t r) h ⟨k.val, hk⟩).symm)
  · obtain ⟨j, rfl⟩ := past 128 128 k hk k.isLt (by decide)
    exact (dkvB_value (b1 m c t) (b2 m c t) r h j).trans ((b2_at m c t h r j).trans (v118_value (dk m c) (dv m c) (rowAt t r) h j).symm)

/-- A column among the heads. -/
theorem head_of (q : Fin 2048) : ∃ (h : Fin 8) (k : Fin 256), q = ⟨256 * h.val + k.val, by omega⟩ :=
  ⟨⟨q.val / 256, by omega⟩, ⟨q.val % 256, by omega⟩, Fin.ext (by show q.val = 256 * (q.val / 256) + q.val % 256; omega)⟩

theorem tile15 (t : Fin cfg0.N) : dqT m c t = fun j => g3 m c (tileAt t j) := by
  funext j
  obtain ⟨r, q, rfl⟩ := idx2_cases j
  obtain ⟨h, k, rfl⟩ := head_of q
  rw [at_ix]
  exact dq_row m c t r h k
theorem tile16 (t : Fin cfg0.N) : dkvT m c t = fun j => g4 m c (tileAt t j) := by
  funext j
  obtain ⟨r, q, rfl⟩ := idx2_cases j
  obtain ⟨h, k, rfl⟩ := head_of q
  rw [at_ix]
  exact dkv_row m c t r h k

/-- The products with the weights. -/
theorem prodQ (t : Fin cfg0.N) (r d : Fin 512) : k0_pay62 (F := Ideal) (dqT m c t) (b10 m c t) (ix2 r d) = yq m c (ix2 (rowAt t r) d) := by
  refine (pay62_at _ _ r d).trans (Eq.trans ?_ (v141_at (dq m c) (pos m c) (wq m c) (rowAt t r) d).symm)
  have w : b10 m c t = laidQ fun i => wq m c i := ((iblks m c t).2.2.2.2.1).trans (Vwq m c)
  rw [w, by_heads]
  refine Finset.sum_congr rfl fun h _ => (first_192 _ fun k hk => ?_).trans (Finset.sum_congr rfl fun k _ => ?_)
  · rw [laidQ_out _ d h k hk, mul_zero]
  · exact congrArg₂ (fun a b : EReal => a * b) ((dq_row m c t r h ⟨k.val, by omega⟩).trans (v188_in (dq m c) (pos m c) (rowAt t r) h k)) (laidQ_in (fun i => wq m c i) d h k)
theorem prodKv (t : Fin cfg0.N) (r : Fin 512) (d : Fin 256) : k0_pay71 (F := Ideal) (dkvT m c t) (b11 m c t) (ix2 r d) = ykv m c (ix2 (rowAt t r) d) := by
  refine (pay71_at _ _ r d).trans (Eq.trans ?_ (v119_at (dk m c) (dv m c) (wkv m c) (rowAt t r) d).symm)
  have w : b11 m c t = laidKv fun i => wkv m c i := ((iblks m c t).2.2.2.2.2).trans (Vwkv m c)
  rw [w, by_heads]
  exact Finset.sum_congr rfl fun h _ => Finset.sum_congr rfl fun k _ => congrArg₂ (fun a b : EReal => a * b)
    ((dkv_row m c t r h k).trans (v190_at (dk m c) (dv m c) (rowAt t r) h k)) (laidKv_at (fun i => wkv m c i) d h k)

/-- The gradient of the shared columns of positions. -/
theorem tile14 (t : Fin cfg0.N) : k0_pay58 (F := Ideal) (k0_pay4 (b5 m c t)) (k0_pay5 (b6 m c t)) (k0_pay6 (b7 m c t)) (peSum (b1 m c t)) (k0_pay57 (turned (b1 m c t) 7))
    = fun j => g2 m c (tileAt t j) := by
  funext j
  obtain ⟨r, k, rfl⟩ := idx2_cases j
  rw [at_ix]
  have T := tabs_at m c t r
  refine (pay58_at _ _ _ _ _ r k).trans ?_
  rw [funext fun k => pe_at (b1 m c t) r k]
  have y : ∀ (q : Fin 128) (q' : Fin 64), q.val = q'.val → ∑ h : Fin 8, b1 m c t (ix3 h r ⟨128 + q.val, by omega⟩) = pe (dk m c) (rowAt t r) q' :=
    fun q q' e => Finset.sum_congr rfl fun h _ => b1_at m c t h r _ _ (congrArg (128 + ·) e)
  rcases lt_or_ge k.val 64 with hk | hk
  · rcases lt_or_ge k.val 32 with hk3 | hk3
    · obtain ⟨j, rfl⟩ : ∃ j : Fin 32, k = ⟨j.val, Nat.lt_trans j.isLt (by decide)⟩ := ⟨⟨k.val, hk3⟩, rfl⟩
      refine (turn_lo T j).trans (Eq.trans ?_ ((v185_in (dk m c) (pos m c) (rowAt t r) ⟨j.val, by omega⟩).trans (v115_lo (dk m c) (pos m c) (rowAt t r) j)).symm)
      exact congrArg₂ (fun a b : EReal => a * si (pos m c) (rowAt t r) j + b * co (pos m c) (rowAt t r) j) (y _ _ rfl) (y _ _ rfl)
    · obtain ⟨j, rfl⟩ := past 32 32 k hk3 hk (by decide)
      refine (turn_hi T j).trans (Eq.trans ?_ ((v185_in (dk m c) (pos m c) (rowAt t r) ⟨32 + j.val, by omega⟩).trans (v115_hi (dk m c) (pos m c) (rowAt t r) j)).symm)
      exact congrArg₂ (fun a b : EReal => a * co (pos m c) (rowAt t r) j + -b * si (pos m c) (rowAt t r) j) (y _ _ rfl) (y _ _ rfl)
  · exact (turn_off T k hk).trans (v185_out (dk m c) (pos m c) (rowAt t r) k hk).symm

/-- The stored normalised rows. -/
theorem tile17 (t : Fin cfg0.N) : k0_pay60 (F := Ideal) (b3 m c t) (b8 m c t) = fun j => g5 m c (tileAt t j) := by
  funext j
  obtain ⟨r, d, rfl⟩ := idx2_cases j
  rw [at_ix, pay60_at]
  simp only [b3_at, b8_at]
  exact (v191_at (cq m c) (qg m c) (rowAt t r) d).symm
theorem tile18 (t : Fin cfg0.N) : k0_pay70 (F := Ideal) (k0_pay67 (b4 m c t)) (k0_pay68 (b9 m c t)) (k0_pay69 (b4 m c t)) = fun j => g6 m c (tileAt t j) := by
  funext j
  obtain ⟨r, d, rfl⟩ := idx2_cases j
  rw [at_ix, pay70_at]
  simp only [b4_at, b9_at]
  exact (v192_at (ckv m c) (kg m c) (rowAt t r) d).symm

/-- Every entry of the arguments that the gradient multiplies is a real. -/
def AllReal : Prop := (∀ i, IsReal (dq m c i)) ∧ (∀ i, IsReal (dk m c i)) ∧ (∀ i, IsReal (dv m c i)) ∧ (∀ i, IsReal (cq m c i)) ∧ (∀ i, IsReal (ckv m c i))
  ∧ (∀ i, IsReal (qg m c i)) ∧ (∀ i, IsReal (kg m c i)) ∧ (∀ i, IsReal (wq m c i)) ∧ ∀ i, IsReal (wkv m c i)

variable {m c} in
/-- The stored gradients of the rows before the norms. -/
theorem tile12 (hr : AllReal m c) (t : Fin cfg0.N) :
    k0_pay65 (F := Ideal) (k0_pay59 (b3 m c t)) (k0_pay61 (b8 m c t)) (k0_pay62 (dqT m c t) (b10 m c t)) = fun j => g0 m c (tileAt t j) := by
  obtain ⟨hdq, -, -, hcq, -, hqg, -, hwq, -⟩ := hr
  funext j
  obtain ⟨r, d, rfl⟩ := idx2_cases j
  rw [at_ix, pay65_at]
  refine Eq.trans ?_ (v182_at (dq m c) (cq m c) (pos m c) (qg m c) (wq m c) hcq (fun r k => ?_) (rowAt t r) d).symm
  · simp only [prodQ, b3_at, b8_at]
  · rw [v141_at]
    exact (IsReal.sum fun h => .sum fun k => (v140_real (dq m c) (pos m c) hdq r h k).mul (hwq _)).mul (hqg _)
variable {m c} in
theorem tile13 (hr : AllReal m c) (t : Fin cfg0.N) :
    k0_pay75 (F := Ideal) (k0_pay67 (b4 m c t)) (b9 m c t) (dkvT m c t) (b11 m c t) = fun j => g1 m c (tileAt t j) := by
  obtain ⟨-, hdk, hdv, -, hckv, -, hkg, -, hwkv⟩ := hr
  funext j
  obtain ⟨r, d, rfl⟩ := idx2_cases j
  rw [at_ix, pay75_at]
  refine Eq.trans ?_ (v183_at (dk m c) (dv m c) (ckv m c) (kg m c) (wkv m c) hckv (fun r k => ?_) (rowAt t r) d).symm
  · simp only [prodKv, b4_at, b9_at]
  · rw [v119_at]
    exact (IsReal.sum fun h => .sum fun k => (v118_real (dk m c) (dv m c) hdk hdv r h k).mul (hwkv _)).mul (hkg _)

/-- A row's normalised entry times the gradient that reaches it. -/
def termQ (R : Fin 8192) (d : Fin 512) : EReal :=
  cq m c (ix2 R d) * inv (Ideal.ofBits .f32 0x44000000#32) (Ideal.ofBits .f32 0x358637BD#32) (fun k => cq m c (ix2 R k)) * yq m c (ix2 R d)
def termKv (R : Fin 8192) (d : Fin 256) : EReal :=
  ckv m c (ix2 R d) * inv (Ideal.ofBits .f32 0x43800000#32) (Ideal.ofBits .f32 0x358637BD#32) (fun k => ckv m c (ix2 R k)) * ykv m c (ix2 R d)

/-- Point `n`'s part of the gains' gradients. -/
def partOf {w : Nat} (f : Fin 8192 → Fin w → EReal) (n : Nat) (y : (⟨2, ![1, w]⟩ : Shape).Idx) : EReal :=
  if h : n < cfg0.N then ∑ r : Fin 512, f (rowAt ⟨n, h⟩ r) (y 1) else 0

theorem gainQ (t : Fin cfg0.N) (xo : Vec Ideal S1x512 .f32) : k0_pay66 (F := Ideal) (k0_pay59 (b3 m c t)) (k0_pay62 (dqT m c t) (b10 m c t)) xo
    = fun y => xo y + partOf (termQ m c) t.val y := by
  funext y
  obtain ⟨i, d, rfl⟩ := idx2_cases y
  obtain rfl : i = 0 := Subsingleton.elim _ _
  rw [pay66_at, partOf, dif_pos t.isLt]
  refine congrArg (xo (ix2 0 d) + ·) (Finset.sum_congr rfl fun r _ => (mul_comm _ _).trans (congrArg₂ (fun a b : EReal => a * b) ?_ (prodQ m c t r d)))
  simp only [b3_at]
theorem gainKv (t : Fin cfg0.N) (xo : Vec Ideal S1x256 .f32) : k0_pay1 (F := Ideal) (k0_pay74 (k0_pay67 (b4 m c t)) (dkvT m c t) (b11 m c t)) xo
    = fun y => xo y + partOf (termKv m c) t.val y := by
  funext y
  obtain ⟨i, d, rfl⟩ := idx2_cases y
  obtain rfl : i = 0 := Subsingleton.elim _ _
  rw [pay1_at, partOf, dif_pos t.isLt]
  refine congrArg (xo (ix2 0 d) + ·) (Finset.sum_congr rfl fun r _ => (mul_comm _ _).trans (congrArg₂ (fun a b : EReal => a * b) ?_ (prodKv m c t r d)))
  simp only [b4_at]

/-- What every point stores in the first seven outputs. -/
theorem tiles (t : Fin cfg0.N) :
    (outsAt0 m c t.val t.isLt).1 = k0_pay65 (k0_pay59 (b3 m c t)) (k0_pay61 (b8 m c t)) (k0_pay62 (dqT m c t) (b10 m c t))
    ∧ (outsAt0 m c t.val t.isLt).2.1 = k0_pay75 (k0_pay67 (b4 m c t)) (b9 m c t) (dkvT m c t) (b11 m c t)
    ∧ (outsAt0 m c t.val t.isLt).2.2.1
      = k0_pay58 (k0_pay4 (b5 m c t)) (k0_pay5 (b6 m c t)) (k0_pay6 (b7 m c t)) (peSum (b1 m c t)) (k0_pay57 (turned (b1 m c t) 7))
    ∧ (outsAt0 m c t.val t.isLt).2.2.2.1 = dqT m c t ∧ (outsAt0 m c t.val t.isLt).2.2.2.2.1 = dkvT m c t
    ∧ (outsAt0 m c t.val t.isLt).2.2.2.2.2.1 = k0_pay60 (b3 m c t) (b8 m c t)
    ∧ (outsAt0 m c t.val t.isLt).2.2.2.2.2.2.1 = k0_pay70 (k0_pay67 (b4 m c t)) (k0_pay68 (b9 m c t)) (k0_pay69 (b4 m c t)) := by
  by_cases h : t.val % 16 = 0
  · rw [outsAt0_A m c t h]
    dsimp only
    obtain ⟨e0, e1, e2, e3, e4, e5, e6, -⟩ := outsA (F := Ideal) c _ _ _ _ _ _ _ _ _ _ _ _ _ _ _ _ _ _ _ _ _ _ _ _ _ _ _ _ _ _ _ _ _ _ _ _ _ _ _ _ _ _ _ ((hcond0_0 t).mpr h) (b0 m c t) (b1 m c t) (b2 m c t) (b3 m c t) (b4 m c t) (b5 m c t) (b6 m c t) (b7 m c t) (b8 m c t) (b9 m c t) (b10 m c t) (b11 m c t)
    exact ⟨e0, e1, e2, e3, e4, e5, e6⟩
  · rw [outsAt0_B m c t h]
    dsimp only
    obtain ⟨e0, e1, e2, e3, e4, e5, e6, -⟩ := outsB (F := Ideal) c _ _ _ _ _ _ _ _ _ _ _ _ _ _ _ _ _ _ _ _ _ _ _ _ _ _ _ _ _ _ _ _ _ _ _ _ _ _ _ _ _ _ _ (fun h' => h ((hcond0_0 t).mp h')) (b0 m c t) (b1 m c t) (b2 m c t) (b3 m c t) (b4 m c t) (b5 m c t) (b6 m c t) (b7 m c t) (b8 m c t) (b9 m c t) (b10 m c t) (b11 m c t) _ _
    exact ⟨e0, e1, e2, e3, e4, e5, e6⟩

/-- The two gains' gradients after a point. -/
abbrev accQ (n : Nat) (h : n < cfg0.N) : Vec Ideal S1x512 .f32 := (outsAt0 m c n h).2.2.2.2.2.2.2.1
abbrev accKv (n : Nat) (h : n < cfg0.N) : Vec Ideal S1x256 .f32 := (outsAt0 m c n h).2.2.2.2.2.2.2.2

/-- The first point leaves its part. -/
theorem firstAt (t : Fin cfg0.N) (h : t.val % 16 = 0) :
    accQ m c t.val t.isLt = partOf (termQ m c) t.val ∧ accKv m c t.val t.isLt = partOf (termKv m c) t.val := by
  unfold accQ accKv
  rw [outsAt0_A m c t h]
  dsimp only
  obtain ⟨-, -, -, -, -, -, -, e7, e8⟩ := outsA (F := Ideal) c _ _ _ _ _ _ _ _ _ _ _ _ _ _ _ _ _ _ _ _ _ _ _ _ _ _ _ _ _ _ _ _ _ _ _ _ _ _ _ _ _ _ _ ((hcond0_0 t).mpr h) (b0 m c t) (b1 m c t) (b2 m c t) (b3 m c t) (b4 m c t) (b5 m c t) (b6 m c t) (b7 m c t) (b8 m c t) (b9 m c t) (b10 m c t) (b11 m c t)
  refine ⟨e7.trans ((gainQ m c t _).trans (funext fun y => ?_)), e8.trans ((gainKv m c t _).trans (funext fun y => ?_))⟩ <;>
  · show Ideal.ofBits .f32 0x00000000#32 + _ = _
    rw [Ideal.ofBits_zero_f32, zero_add]

/-- A later point adds its part. -/
theorem laterAt (t : Fin cfg0.N) (h : ¬t.val % 16 = 0) :
    accQ m c t.val t.isLt = (fun y => accQ m c (t.val - 1) (Nat.lt_of_le_of_lt (Nat.sub_le _ _) t.isLt) y + partOf (termQ m c) t.val y)
    ∧ accKv m c t.val t.isLt = fun y => accKv m c (t.val - 1) (Nat.lt_of_le_of_lt (Nat.sub_le _ _) t.isLt) y + partOf (termKv m c) t.val y := by
  unfold accQ accKv
  rw [outsAt0_B m c t h]
  dsimp only
  obtain ⟨-, -, -, -, -, -, -, e7, e8⟩ := outsB (F := Ideal) c _ _ _ _ _ _ _ _ _ _ _ _ _ _ _ _ _ _ _ _ _ _ _ _ _ _ _ _ _ _ _ _ _ _ _ _ _ _ _ _ _ _ _ (fun h' => h ((hcond0_0 t).mp h')) (b0 m c t) (b1 m c t) (b2 m c t) (b3 m c t) (b4 m c t) (b5 m c t) (b6 m c t) (b7 m c t) (b8 m c t) (b9 m c t) (b10 m c t) (b11 m c t) _ _
  exact ⟨e7.trans (gainQ m c t _), e8.trans (gainKv m c t _)⟩

/-- The points' parts, added up from the first point to the last. -/
theorem sum_parts {w : Nat} (f : Fin 8192 → Fin w → EReal) (g : (n : Nat) → n < cfg0.N → (⟨2, ![1, w]⟩ : Shape).Idx → EReal)
    (h0 : ∀ t : Fin cfg0.N, t.val % 16 = 0 → g t.val t.isLt = partOf f t.val)
    (hs : ∀ t : Fin cfg0.N, ¬t.val % 16 = 0 → g t.val t.isLt = fun y => g (t.val - 1) (Nat.lt_of_le_of_lt (Nat.sub_le _ _) t.isLt) y + partOf f t.val y)
    (t : Fin cfg0.N) (h : t.val % 16 = 15) (d : Fin w) : g t.val t.isLt (ix2 0 d) = ∑ R : Fin 8192, f R d := by
  have e : t.val + 1 = 16 := by have := lt_16 t; omega
  have hk : ∀ k, k + 1 < cfg0.N → ¬(k + 1) % 16 = 0 := fun k hk => by
    have := lt_16 ⟨k + 1, hk⟩
    have : k + 1 < 16 := this
    omega
  have s := gathered g (partOf f) (fun h => h0 ⟨0, h⟩ rfl) (fun k h => congrFun (hs ⟨k + 1, h⟩ (hk k h))) t.val t.isLt
  rw [e] at s
  exact (s _).trans (sum_tiles (B := 512) (by decide) _ _ fun t ht hb => dif_pos ht)

/-- What the last point leaves. -/
theorem lastAt (t : Fin cfg0.N) (h : t.val % 16 = 15) : accQ m c t.val t.isLt = g7 m c ∧ accKv m c t.val t.isLt = g8 m c := by
  constructor <;> funext y <;> obtain ⟨i, d, rfl⟩ := idx2_cases y <;> obtain rfl : i = 0 := Subsingleton.elim _ _
  · exact (sum_parts (termQ m c) (accQ m c) (fun t h => (firstAt m c t h).1) (fun t h => (laterAt m c t h).1) t h d).trans (v193_at (dq m c) (cq m c) (pos m c) (wq m c) d).symm
  · exact (sum_parts (termKv m c) (accKv m c) (fun t h => (firstAt m c t h).2) (fun t h => (laterAt m c t h).2) t h d).trans (v194_at (dk m c) (dv m c) (ckv m c) (wkv m c) d).symm

/-! ## The result arrays -/

variable {m c} in
theorem final12 (hr : AllReal m c) : (dats m 0 c).arrAt 12 cfg0.N = g0 m c := by
  refine (dats m 0 c).arrAt_eq_of_cover 12 _ (fun t _ => ?_) fun i => ?_
  · rw [flushed12, (tiles m c t).1, tile12 hr]
    exact funext fun j => congrArg (g0 m c) (emb12 t j).symm
  · obtain ⟨t, j, rfl⟩ := cover i
    exact ⟨t, flush0_12 t, emb12 t j ▸ View.emb_mem_set _ j⟩

variable {m c} in
theorem final13 (hr : AllReal m c) : (dats m 0 c).arrAt 13 cfg0.N = g1 m c := by
  refine (dats m 0 c).arrAt_eq_of_cover 13 _ (fun t _ => ?_) fun i => ?_
  · rw [flushed13, (tiles m c t).2.1, tile13 hr]
    exact funext fun j => congrArg (g1 m c) (emb13 t j).symm
  · obtain ⟨t, j, rfl⟩ := cover i
    exact ⟨t, flush0_13 t, emb13 t j ▸ View.emb_mem_set _ j⟩

theorem final14 : (dats m 0 c).arrAt 14 cfg0.N = g2 m c := by
  refine (dats m 0 c).arrAt_eq_of_cover 14 _ (fun t _ => ?_) fun i => ?_
  · rw [flushed14, (tiles m c t).2.2.1, tile14]
    exact funext fun j => congrArg (g2 m c) (emb14 t j).symm
  · obtain ⟨t, j, rfl⟩ := cover i
    exact ⟨t, flush0_14 t, emb14 t j ▸ View.emb_mem_set _ j⟩

theorem final15 : (dats m 0 c).arrAt 15 cfg0.N = g3 m c := by
  refine (dats m 0 c).arrAt_eq_of_cover 15 _ (fun t _ => ?_) fun i => ?_
  · rw [flushed15, (tiles m c t).2.2.2.1, tile15]
    exact funext fun j => congrArg (g3 m c) (emb15 t j).symm
  · obtain ⟨t, j, rfl⟩ := cover i
    exact ⟨t, flush0_15 t, emb15 t j ▸ View.emb_mem_set _ j⟩

theorem final16 : (dats m 0 c).arrAt 16 cfg0.N = g4 m c := by
  refine (dats m 0 c).arrAt_eq_of_cover 16 _ (fun t _ => ?_) fun i => ?_
  · rw [flushed16, (tiles m c t).2.2.2.2.1, tile16]
    exact funext fun j => congrArg (g4 m c) (emb16 t j).symm
  · obtain ⟨t, j, rfl⟩ := cover i
    exact ⟨t, flush0_16 t, emb16 t j ▸ View.emb_mem_set _ j⟩

theorem final17 : (dats m 0 c).arrAt 17 cfg0.N = g5 m c := by
  refine (dats m 0 c).arrAt_eq_of_cover 17 _ (fun t _ => ?_) fun i => ?_
  · rw [flushed17, (tiles m c t).2.2.2.2.2.1, tile17]
    exact funext fun j => congrArg (g5 m c) (emb17 t j).symm
  · obtain ⟨t, j, rfl⟩ := cover i
    exact ⟨t, flush0_17 t, emb17 t j ▸ View.emb_mem_set _ j⟩

theorem final18 : (dats m 0 c).arrAt 18 cfg0.N = g6 m c := by
  refine (dats m 0 c).arrAt_eq_of_cover 18 _ (fun t _ => ?_) fun i => ?_
  · rw [flushed18, (tiles m c t).2.2.2.2.2.2, tile18]
    exact funext fun j => congrArg (g6 m c) (emb18 t j).symm
  · obtain ⟨t, j, rfl⟩ := cover i
    exact ⟨t, flush0_18 t, emb18 t j ▸ View.emb_mem_set _ j⟩

theorem last : 15 < cfg0.N := by show 15 < grid0.N; rw [N_0]; decide

theorem final19 : (dats m 0 c).arrAt 19 cfg0.N = g7 m c := by
  refine (dats m 0 c).arrAt_eq_of_cover 19 _ (fun t ht => ?_) fun i => ?_
  · rw [flushed19, show (outsAt0 m c t.val t.isLt).2.2.2.2.2.2.2.1 = g7 m c from (lastAt m c t ((flush0_19 t).mp ht)).1]
    exact funext fun j => congrArg (g7 m c) (emb19 t j).symm
  · exact ⟨⟨15, last⟩, (flush0_19 _).mpr rfl, emb19 ⟨15, last⟩ i ▸ View.emb_mem_set _ i⟩
theorem final20 : (dats m 0 c).arrAt 20 cfg0.N = g8 m c := by
  refine (dats m 0 c).arrAt_eq_of_cover 20 _ (fun t ht => ?_) fun i => ?_
  · rw [flushed20, show (outsAt0 m c t.val t.isLt).2.2.2.2.2.2.2.2 = g8 m c from (lastAt m c t ((flush0_20 t).mp ht)).2]
    exact funext fun j => congrArg (g8 m c) (emb20 t j).symm
  · exact ⟨⟨15, last⟩, (flush0_20 _).mpr rfl, emb20 ⟨15, last⟩ i ▸ View.emb_mem_set _ i⟩

end Cert.Proof.Mla
end
-- ==== Proof.Mla.Claims.lean ====
/-
# The attention-input backward call: frames and value
-/
module

public import proofs.«01_k».proof.Proof.Mla.Value
public import proofs.«01_k».proof.Proof.Gen.Mla.Frame
public import proofs.«01_k».proof.Proof.Gen.MlaIdeal.Frame
public import proofs.«01_k».proof.Proof.Gen.MlaRefIdeal.Run
public import proofs.«01_k».proof.Proof.Finite
public import proofs.«01_k».proof.Proof.Gen.Pre_finite_mla
public import proofs.«01_k».proof.Defs

@[expose] public section

set_option maxRecDepth 16384

noncomputable section

namespace Cert.Proof.Mla

open Idealize Idealize.ShloMosaic Idealize.ShloMosaic.TcCoe Cert.MlaRefIdeal.Read Cert.Proof.Rms

/-- The kernel runs at the machine's words. -/
theorem frame : Cert.quiescent_Mla := fun m ρ _ => Cert.Mla.Gen.frame m ρ

/-- The kernel runs over the reals. -/
theorem frame_ideal : Cert.quiescent_MlaIdeal := fun m ρ _ => Cert.MlaIdeal.Gen.frame m ρ

/-- The reference runs over the reals; it declares no semaphore. -/
theorem frame_ref : Cert.quiescent_MlaRefIdeal := fun m ρ _ =>
  (θ_run Cert.MlaRefIdeal.defs _ _).mono (fun r h => ⟨fun c => (h c).2.2.2.2.2.2.2.2.2, sem_eq_zero_of_no_sems (by decide) r.2⟩) (Cert.MlaRefIdeal.Value.run (F := Ideal) m ρ)

/-- The precondition makes every entry of the incoming gradients, the rows, the gains and the weights real. -/
theorem finite (x0 : FVec Ideal Cert.Pre_finite_mla.S8x8192x192 .f32) (x1 : FVec Ideal Cert.Pre_finite_mla.S8x8192x192 .f32) (x2 : FVec Ideal Cert.Pre_finite_mla.S8x8192x128 .f32) (x3 : FVec Ideal Cert.Pre_finite_mla.S8192x512 .f32) (x4 : FVec Ideal Cert.Pre_finite_mla.S8192x256 .f32) (x5 : FVec Ideal Cert.Pre_finite_mla.S8192x64 .f32) (x6 : Vec Ideal Cert.Pre_finite_mla.S8192 .i32) (x7 : FVec Ideal Cert.Pre_finite_mla.S512 .f32) (x8 : FVec Ideal Cert.Pre_finite_mla.S256 .f32) (x9 : FVec Ideal Cert.Pre_finite_mla.S512x8x192 .f32) (x10 : FVec Ideal Cert.Pre_finite_mla.S256x8x256 .f32)
    (h : Cert.Pre_finite_mla.fn (F := Ideal) x0 x1 x2 x3 x4 x5 x6 x7 x8 x9 x10 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x7 i)) ∧ (∀ i, IsReal (x8 i)) ∧ (∀ i, IsReal (x9 i)) ∧ (∀ i, IsReal (x10 i)) := by
  have : Subsingleton Cert.Pre_finite_mla.S_.Idx := ⟨fun a b => funext fun k => k.elim0⟩
  have g := congrFun h ValueIdx.ix0
  unfold Cert.Pre_finite_mla.fn at g
  dsimp only at g
  obtain ⟨g, g10⟩ := andi_one g
  obtain ⟨g, g9⟩ := andi_one g
  obtain ⟨g, g8⟩ := andi_one g
  obtain ⟨g, g7⟩ := andi_one g
  obtain ⟨g, g4⟩ := andi_one g
  obtain ⟨g, g3⟩ := andi_one g
  obtain ⟨g, g2⟩ := andi_one g
  obtain ⟨g0, g1⟩ := andi_one g
  exact ⟨fun i => .of (real_of_all x0 _ _ _ _ _ _ (fun _ => rfl) (fun _ => rfl) g0 i),
    fun i => .of (real_of_all x1 _ _ _ _ _ _ (fun _ => rfl) (fun _ => rfl) g1 i),
    fun i => .of (real_of_all x2 _ _ _ _ _ _ (fun _ => rfl) (fun _ => rfl) g2 i),
    fun i => .of (real_of_all x3 _ _ _ _ _ _ (fun _ => rfl) (fun _ => rfl) g3 i),
    fun i => .of (real_of_all x4 _ _ _ _ _ _ (fun _ => rfl) (fun _ => rfl) g4 i),
    fun i => .of (real_of_all x7 _ _ _ _ _ _ (fun _ => rfl) (fun _ => rfl) g7 i),
    fun i => .of (real_of_all x8 _ _ _ _ _ _ (fun _ => rfl) (fun _ => rfl) g8 i),
    fun i => .of (real_of_all x9 _ _ _ _ _ _ (fun _ => rfl) (fun _ => rfl) g9 i),
    fun i => .of (real_of_all x10 _ _ _ _ _ _ (fun _ => rfl) (fun _ => rfl) g10 i)⟩

/-- Over the reals the kernel's nine arrays are the reference's, where the arguments are real. -/
theorem algebraic : Cert.algebraic_MlaIdeal_MlaRefIdeal_pre_finite_mla := by
  intro m ρ m' ρ' hpre hag
  refine ⟨fun c => g0 m c, fun c => g1 m c, fun c => g2 m c, fun c => g3 m c, fun c => g4 m c, fun c => g5 m c, fun c => g6 m c, fun c => g7 m c, fun c => g8 m c, ?_, ?_⟩
  · refine (θ_run Cert.MlaIdeal.defs _ _).mono (fun r h c => ?_) (Cert.MlaIdeal.Value.run_blocks m ρ)
    have hr : AllReal m c := finite _ _ _ _ _ _ _ _ _ _ _ (hpre c)
    obtain ⟨h0, h1, h2, h3, h4, h5, h6, h7, h8, hk⟩ := h c
    exact ⟨h0.trans (final12 hr), h1.trans (final13 hr), h2.trans (final14 m c), h3.trans (final15 m c), h4.trans (final16 m c), h5.trans (final17 m c), h6.trans (final18 m c), h7.trans (final19 m c), h8.trans (final20 m c), hk⟩
  · refine (θ_run Cert.MlaRefIdeal.defs _ _).mono (fun r h c => ?_) (Cert.MlaRefIdeal.Value.run (F := Ideal) m' ρ')
    obtain ⟨h0, h1, h2, h3, h4, h5, h6, h7, h8, hk⟩ := h c
    obtain ⟨a0, a1, a2, a3, a4, a5, a6, a7, a8, a9, a10⟩ := hag c
    have e0 : m' ((c.tc : Thread Cert.MlaRefIdeal.nD Cert.MlaRefIdeal.τ).loc Cert.MlaRefIdeal.main_arg0) = dq m c := a0
    have e1 : m' ((c.tc : Thread Cert.MlaRefIdeal.nD Cert.MlaRefIdeal.τ).loc Cert.MlaRefIdeal.main_arg1) = dk m c := a1
    have e2 : m' ((c.tc : Thread Cert.MlaRefIdeal.nD Cert.MlaRefIdeal.τ).loc Cert.MlaRefIdeal.main_arg2) = dv m c := a2
    have e3 : m' ((c.tc : Thread Cert.MlaRefIdeal.nD Cert.MlaRefIdeal.τ).loc Cert.MlaRefIdeal.main_arg3) = cq m c := a3
    have e4 : m' ((c.tc : Thread Cert.MlaRefIdeal.nD Cert.MlaRefIdeal.τ).loc Cert.MlaRefIdeal.main_arg4) = ckv m c := a4
    have e6 : m' ((c.tc : Thread Cert.MlaRefIdeal.nD Cert.MlaRefIdeal.τ).loc Cert.MlaRefIdeal.main_arg6) = pos m c := a6
    have e7 : m' ((c.tc : Thread Cert.MlaRefIdeal.nD Cert.MlaRefIdeal.τ).loc Cert.MlaRefIdeal.main_arg7) = qg m c := a7
    have e8 : m' ((c.tc : Thread Cert.MlaRefIdeal.nD Cert.MlaRefIdeal.τ).loc Cert.MlaRefIdeal.main_arg8) = kg m c := a8
    have e9 : m' ((c.tc : Thread Cert.MlaRefIdeal.nD Cert.MlaRefIdeal.τ).loc Cert.MlaRefIdeal.main_arg9) = wq m c := a9
    have e10 : m' ((c.tc : Thread Cert.MlaRefIdeal.nD Cert.MlaRefIdeal.τ).loc Cert.MlaRefIdeal.main_arg10) = wkv m c := a10
    refine ⟨h0.trans ((val_main_v182_eq _).trans ?r0), h1.trans ((val_main_v183_eq _).trans ?r1), h2.trans ((val_main_v185_eq _).trans ?r2), h3.trans ((val_main_v188_eq _).trans ?r3), h4.trans ((val_main_v190_eq _).trans ?r4), h5.trans ((val_main_v191_eq _).trans ?r5), h6.trans ((val_main_v192_eq _).trans ?r6), h7.trans ((val_main_v193_eq _).trans ?r7), h8.trans ((val_main_v194_eq _).trans ?r8), hk⟩
    case r0 => show val_main_v182 (F := Ideal) (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg3)) (m' ((c.tc : Thread Cert.MlaRefIdeal.nD Cert.MlaRefIdeal.τ).loc Cert.MlaRefIdeal.main_arg6)) (m' ((c.tc : Thread Cert.MlaRefIdeal.nD Cert.MlaRefIdeal.τ).loc Cert.MlaRefIdeal.main_arg7)) (m' ((c.tc : Thread Cert.MlaRefIdeal.nD Cert.MlaRefIdeal.τ).loc Cert.MlaRefIdeal.main_arg9)) = _; rw [e0, e3, e6, e7, e9]
    case r1 => show val_main_v183 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) (m' ((c.tc : Thread Cert.MlaRefIdeal.nD Cert.MlaRefIdeal.τ).loc Cert.MlaRefIdeal.main_arg4)) (m' ((c.tc : Thread Cert.MlaRefIdeal.nD Cert.MlaRefIdeal.τ).loc Cert.MlaRefIdeal.main_arg8)) (m' ((c.tc : Thread Cert.MlaRefIdeal.nD Cert.MlaRefIdeal.τ).loc Cert.MlaRefIdeal.main_arg10)) = _; rw [e1, e2, e4, e8, e10]
    case r2 => show val_main_v185 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg6)) = _; rw [e1, e6]
    case r3 => show val_main_v188 (F := Ideal) (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg6)) = _; rw [e0, e6]
    case r4 => show val_main_v190 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) = _; rw [e1, e2]
    case r5 => show val_main_v191 (F := Ideal) (m' ((c.tc : Thread Cert.MlaRefIdeal.nD Cert.MlaRefIdeal.τ).loc Cert.MlaRefIdeal.main_arg3)) (m' ((c.tc : Thread Cert.MlaRefIdeal.nD Cert.MlaRefIdeal.τ).loc Cert.MlaRefIdeal.main_arg7)) = _; rw [e3, e7]
    case r6 => show val_main_v192 (F := Ideal) (m' ((c.tc : Thread Cert.MlaRefIdeal.nD Cert.MlaRefIdeal.τ).loc Cert.MlaRefIdeal.main_arg4)) (m' ((c.tc : Thread Cert.MlaRefIdeal.nD Cert.MlaRefIdeal.τ).loc Cert.MlaRefIdeal.main_arg8)) = _; rw [e4, e8]
    case r7 => show val_main_v193 (F := Ideal) (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg3)) (m' ((c.tc : Thread Cert.MlaRefIdeal.nD Cert.MlaRefIdeal.τ).loc Cert.MlaRefIdeal.main_arg6)) (m' ((c.tc : Thread Cert.MlaRefIdeal.nD Cert.MlaRefIdeal.τ).loc Cert.MlaRefIdeal.main_arg9)) = _; rw [e0, e3, e6, e9]
    case r8 => show val_main_v194 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) (m' ((c.tc : Thread Cert.MlaRefIdeal.nD Cert.MlaRefIdeal.τ).loc Cert.MlaRefIdeal.main_arg4)) (m' ((c.tc : Thread Cert.MlaRefIdeal.nD Cert.MlaRefIdeal.τ).loc Cert.MlaRefIdeal.main_arg10)) = _; rw [e1, e2, e4, e10]

/-- No operation was rewritten. -/
theorem preserves : Cert.preserves_Mla_MlaIdeal := trivial

end Cert.Proof.Mla

end
-- ==== Proof.Ffn.Outs.lean ====
/- The gradient through the gated feed forward and its norm, kernel side: what the body leaves in its output blocks and its scratch. -/
module

public import proofs.«01_k».proof.Proof.Gen.FfnIdeal.Value
public import proofs.«01_k».proof.Proof.Rms

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem

/-- The offsets of a load or store of a whole three-axis block are zero. -/
theorem zeros3 : (![0, 0, 0] : Fin 3 → Nat) = fun _ => 0 := funext fun a => by fin_cases a <;> rfl

section
variable {Val : EltTy → Type} {e : EltTy} {a b d : Nat}

/-- A load of a whole three-axis block reads the block. -/
theorem ld3 (inb : ∀ k, (![0, 0, 0] : Fin 3 → Nat) k + (![a, b, d] : Fin 3 → Nat) k ≤ (![a, b, d] : Fin 3 → Nat) k)
    (X : (⟨3, ![a, b, d]⟩ : Shape).Idx → Val e) :
    View.ld X (Rect.unit (s := ⟨3, ![a, b, d]⟩) ![0, 0, 0] ![a, b, d] inb) = X :=
  View.ld_unit_zero (S := ⟨3, ![a, b, d]⟩) zeros3 inb X

/-- A last store of a whole three-axis block leaves what it stored. -/
theorem canon3 [∀ e, Nonempty (Val e)]
    (inb : ∀ k, (![0, 0, 0] : Fin 3 → Nat) k + (![a, b, d] : Fin 3 → Nat) k ≤ (![a, b, d] : Fin 3 → Nat) k)
    (X : (⟨3, ![a, b, d]⟩ : Shape).Idx → Val e) (L : List (View.Piece Val ⟨3, ![a, b, d]⟩ e)) :
    View.canon ((⟨Rect.unit (s := ⟨3, ![a, b, d]⟩) ![0, 0, 0] ![a, b, d] inb, X⟩ : View.Piece Val ⟨3, ![a, b, d]⟩ e) :: L) = X :=
  View.canon_cons_unit_zero (S := ⟨3, ![a, b, d]⟩) zeros3 inb X L

end

section
variable {F : FTy → Type} [FloatOps F]

/-- The two pieces of a block of the gate's or up's weights. -/
abbrev wide0 (x : Vec F S2x1024x384 .bf16) : Vec F S1x1024x384 .bf16 :=
  View.ld x (Rect.unit (s := S2x1024x384) ![0, 0, 0] S1x1024x384.size inb_S2x1024x384_S1x1024x384_0_0_0)
abbrev wide1 (x : Vec F S2x1024x384 .bf16) : Vec F S1x1024x384 .bf16 :=
  View.ld x (Rect.unit (s := S2x1024x384) ![1, 0, 0] S1x1024x384.size inb_S2x1024x384_S1x1024x384_1_0_0)

/-- The two pieces of a block of the down weights. -/
abbrev tall0 (x : Vec F S2x384x1024 .bf16) : Vec F S1x384x1024 .bf16 :=
  View.ld x (Rect.unit (s := S2x384x1024) ![0, 0, 0] S1x384x1024.size inb_S2x384x1024_S1x384x1024_0_0_0)
abbrev tall1 (x : Vec F S2x384x1024 .bf16) : Vec F S1x384x1024 .bf16 :=
  View.ld x (Rect.unit (s := S2x384x1024) ![1, 0, 0] S1x384x1024.size inb_S2x384x1024_S1x384x1024_1_0_0)

/-- The gradient of the gated product, on one block of columns. -/
abbrev daOf (x7 : Vec F S2x384x1024 .bf16) (y : FVec F S512x1024 .bf16) : FVec F S512x768 .f32 := k0_pay14 y (tall0 x7) (tall1 x7)

/-- The gradients of the gate's and of up's outputs, on one block of columns. -/
abbrev dgOf (x3 x4 : Vec F S1x512x768 .f32) (x7 : Vec F S2x384x1024 .bf16) (y : FVec F S512x1024 .bf16) : FVec F S1x512x768 .bf16 :=
  k0_pay21 (k0_pay12 x3) (k0_pay13 x4) (daOf x7 y) (k0_pay15 x3)
abbrev duOf (x3 : Vec F S1x512x768 .f32) (x7 : Vec F S2x384x1024 .bf16) (y : FVec F S512x1024 .bf16) : FVec F S1x512x768 .bf16 :=
  k0_pay22 (daOf x7 y) (k0_pay16 x3)

/-- One block of columns' part of the gradient of the normalised rows. -/
abbrev stepOf (x3 x4 : Vec F S1x512x768 .f32) (x5 x6 : Vec F S2x1024x384 .bf16) (x7 : Vec F S2x384x1024 .bf16) (y : FVec F S512x1024 .bf16) :
    FVec F S512x1024 .f32 :=
  k0_pay23 (k0_pay12 x3) (k0_pay13 x4) (daOf x7 y) (k0_pay15 x3) (k0_pay16 x3) (wide0 x5) (wide1 x5) (wide0 x6) (wide1 x6)

variable (c : Dev nD) (i : grid0.Coords)
  (a2 : Memref sig .tc .vmem S512x1024 .f32) (h2 : a2.IsWhole) (a3 : Memref sig .tc .vmem S512x1024 .f32) (h3 : a3.IsWhole)
  (a4 : Memref sig .tc .vmem S1x1024 .f32) (h4 : a4.IsWhole) (a5 : Memref sig .tc .vmem S1x512x768 .f32) (h5 : a5.IsWhole)
  (a6 : Memref sig .tc .vmem S1x512x768 .f32) (h6 : a6.IsWhole) (a7 : Memref sig .tc .vmem S2x1024x384 .bf16) (h7 : a7.IsWhole)
  (a8 : Memref sig .tc .vmem S2x1024x384 .bf16) (h8 : a8.IsWhole) (a9 : Memref sig .tc .vmem S2x384x1024 .bf16) (h9 : a9.IsWhole)
  (a10 : Memref sig .tc .vmem S1x512x768 .bf16) (h10 : a10.IsWhole) (a11 : Memref sig .tc .vmem S1x512x768 .bf16) (h11 : a11.IsWhole)
  (a12 : Memref sig .tc .vmem S1x512x768 .bf16) (h12 : a12.IsWhole) (a13 : Memref sig .tc .vmem S512x1024 .bf16) (h13 : a13.IsWhole)
  (a14 : Memref sig .tc .vmem S512x1024 .f32) (h14 : a14.IsWhole) (a15 : Memref sig .tc .vmem S1x1024 .f32) (h15 : a15.IsWhole)
  (a16 : Memref sig .tc .vmem S512x1024 .bf16) (h16 : a16.IsWhole) (a17 : Memref sig .tc .vmem S512x1024 .f32) (h17 : a17.IsWhole)
  (c0 : cond0_0 i) (n0 : ¬cond0_0 i) (c1 : cond0_1 i) (n1 : ¬cond0_1 i) (c2 : cond0_2 i) (n2 : ¬cond0_2 i)
  (x0 x1 : Vec F S512x1024 .f32) (x2 : Vec F S1x1024 .f32) (x3 x4 : Vec F S1x512x768 .f32) (x5 x6 : Vec F S2x1024x384 .bf16) (x7 : Vec F S2x384x1024 .bf16)
  (xo : Vec F S1x1024 .f32) (s0 : Vec F S512x1024 .bf16) (s1 : Vec F S512x1024 .f32)

/-- The first point. -/
theorem outsA :
    out0_A_8 c i a2 h2 a3 h3 a4 h4 a5 h5 a6 h6 a7 h7 a8 h8 a9 h9 a10 h10 a11 h11 a12 h12 a13 h13 a14 h14 a15 h15 a16 h16 a17 h17 c0 c1 n2 x0 x1 x2 x3 x4 x5 x6 x7
      = k0_pay18 (k0_pay17 x3 x4)
    ∧ out0_A_9 c i a2 h2 a3 h3 a4 h4 a5 h5 a6 h6 a7 h7 a8 h8 a9 h9 a10 h10 a11 h11 a12 h12 a13 h13 a14 h14 a15 h15 a16 h16 a17 h17 c0 c1 n2 x0 x1 x2 x3 x4 x5 x6 x7
      = dgOf x3 x4 x7 (k0_pay10 x0)
    ∧ out0_A_10 c i a2 h2 a3 h3 a4 h4 a5 h5 a6 h6 a7 h7 a8 h8 a9 h9 a10 h10 a11 h11 a12 h12 a13 h13 a14 h14 a15 h15 a16 h16 a17 h17 c0 c1 n2 x0 x1 x2 x3 x4 x5 x6 x7
      = duOf x3 x7 (k0_pay10 x0)
    ∧ out0_A_13 c i a2 h2 a3 h3 a4 h4 a5 h5 a6 h6 a7 h7 a8 h8 a9 h9 a10 h10 a11 h11 a12 h12 a13 h13 a14 h14 a15 h15 a16 h16 a17 h17 c0 c1 n2 x0 x1 x2 x3 x4 x5 x6 x7
      = k0_pay9
    ∧ sout0_A_0 c i a2 h2 a3 h3 a4 h4 a5 h5 a6 h6 a7 h7 a8 h8 a9 h9 a10 h10 a11 h11 a12 h12 a13 h13 a14 h14 a15 h15 a16 h16 a17 h17 c0 c1 n2 x0 x1 x2 x3 x4 x5 x6 x7
      = k0_pay10 x0
    ∧ sout0_A_1 c i a2 h2 a3 h3 a4 h4 a5 h5 a6 h6 a7 h7 a8 h8 a9 h9 a10 h10 a11 h11 a12 h12 a13 h13 a14 h14 a15 h15 a16 h16 a17 h17 c0 c1 n2 x0 x1 x2 x3 x4 x5 x6 x7
      = k0_pay1 k0_pay11 (stepOf x3 x4 x5 x6 x7 (k0_pay10 x0)) := by
  refine ⟨?_, ?_, ?_, ?_, ?_, ?_⟩ <;>
    (first | unfold out0_A_8 | unfold out0_A_9 | unfold out0_A_10 | unfold out0_A_13 | unfold sout0_A_0 | unfold sout0_A_1) <;>
    (rw [View.read_writes_junk_eq_canon]; unfold kernelRun0_A; dsimp only; sl_unfold_words
     simp (discharger := first | decide | rfl) only [↓View.readCov_skip, ↓View.readCov_fill, canon2, canon3, View.readAt_eq_ld, ld2, ld3,
       h2.read_unread, h3.read_unread, h4.read_unread, h5.read_unread, h6.read_unread, h7.read_unread, h8.read_unread, h9.read_unread]
     try rfl)

/-- A point in the middle of a tile's sweep. -/
theorem outsB :
    out0_B_8 c i a2 h2 a3 h3 a4 h4 a5 h5 a6 h6 a7 h7 a8 h8 a9 h9 a10 h10 a11 h11 a12 h12 a13 h13 a14 h14 a15 h15 a16 h16 a17 h17 n0 n1 n2 x0 x1 x2 x3 x4 x5 x6 x7 s0 s1
      = k0_pay18 (k0_pay17 x3 x4)
    ∧ out0_B_9 c i a2 h2 a3 h3 a4 h4 a5 h5 a6 h6 a7 h7 a8 h8 a9 h9 a10 h10 a11 h11 a12 h12 a13 h13 a14 h14 a15 h15 a16 h16 a17 h17 n0 n1 n2 x0 x1 x2 x3 x4 x5 x6 x7 s0 s1
      = dgOf x3 x4 x7 s0
    ∧ out0_B_10 c i a2 h2 a3 h3 a4 h4 a5 h5 a6 h6 a7 h7 a8 h8 a9 h9 a10 h10 a11 h11 a12 h12 a13 h13 a14 h14 a15 h15 a16 h16 a17 h17 n0 n1 n2 x0 x1 x2 x3 x4 x5 x6 x7 s0 s1
      = duOf x3 x7 s0
    ∧ sout0_B_1 c i a2 h2 a3 h3 a4 h4 a5 h5 a6 h6 a7 h7 a8 h8 a9 h9 a10 h10 a11 h11 a12 h12 a13 h13 a14 h14 a15 h15 a16 h16 a17 h17 n0 n1 n2 x0 x1 x2 x3 x4 x5 x6 x7 s0 s1
      = k0_pay1 s1 (stepOf x3 x4 x5 x6 x7 s0) := by
  refine ⟨?_, ?_, ?_, ?_⟩ <;>
    (first | unfold out0_B_8 | unfold out0_B_9 | unfold out0_B_10 | unfold sout0_B_1) <;>
    (rw [View.read_writes_junk_eq_canon]; unfold kernelRun0_B; dsimp only; sl_unfold_words
     simp (discharger := first | decide | rfl) only [↓View.readCov_skip, ↓View.readCov_fill, canon2, canon3, View.readAt_eq_ld, ld2, ld3,
       h2.read_unread, h3.read_unread, h4.read_unread, h5.read_unread, h6.read_unread, h7.read_unread, h8.read_unread, h9.read_unread, h16.read_unread, h17.read_unread]
     try rfl)

/-- The last point of a tile's sweep. -/
theorem outsC :
    out0_C_8 c i a2 h2 a3 h3 a4 h4 a5 h5 a6 h6 a7 h7 a8 h8 a9 h9 a10 h10 a11 h11 a12 h12 a13 h13 a14 h14 a15 h15 a16 h16 a17 h17 n0 n1 c2 x0 x1 x2 x3 x4 x5 x6 x7 xo s0 s1
      = k0_pay18 (k0_pay17 x3 x4)
    ∧ out0_C_9 c i a2 h2 a3 h3 a4 h4 a5 h5 a6 h6 a7 h7 a8 h8 a9 h9 a10 h10 a11 h11 a12 h12 a13 h13 a14 h14 a15 h15 a16 h16 a17 h17 n0 n1 c2 x0 x1 x2 x3 x4 x5 x6 x7 xo s0 s1
      = dgOf x3 x4 x7 s0
    ∧ out0_C_10 c i a2 h2 a3 h3 a4 h4 a5 h5 a6 h6 a7 h7 a8 h8 a9 h9 a10 h10 a11 h11 a12 h12 a13 h13 a14 h14 a15 h15 a16 h16 a17 h17 n0 n1 c2 x0 x1 x2 x3 x4 x5 x6 x7 xo s0 s1
      = duOf x3 x7 s0
    ∧ out0_C_11 c i a2 h2 a3 h3 a4 h4 a5 h5 a6 h6 a7 h7 a8 h8 a9 h9 a10 h10 a11 h11 a12 h12 a13 h13 a14 h14 a15 h15 a16 h16 a17 h17 n0 n1 c2 x0 x1 x2 x3 x4 x5 x6 x7 xo s0 s1
      = k0_pay4 x1 x2
    ∧ out0_C_12 c i a2 h2 a3 h3 a4 h4 a5 h5 a6 h6 a7 h7 a8 h8 a9 h9 a10 h10 a11 h11 a12 h12 a13 h13 a14 h14 a15 h15 a16 h16 a17 h17 n0 n1 c2 x0 x1 x2 x3 x4 x5 x6 x7 xo s0 s1
      = k0_pay2 (k0_pay7 x1 x2 (k0_pay1 s1 (stepOf x3 x4 x5 x6 x7 s0))) (k0_pay8 x1) x0
    ∧ out0_C_13 c i a2 h2 a3 h3 a4 h4 a5 h5 a6 h6 a7 h7 a8 h8 a9 h9 a10 h10 a11 h11 a12 h12 a13 h13 a14 h14 a15 h15 a16 h16 a17 h17 n0 n1 c2 x0 x1 x2 x3 x4 x5 x6 x7 xo s0 s1
      = k0_pay3 (k0_pay1 s1 (stepOf x3 x4 x5 x6 x7 s0)) (k0_pay6 x1) xo := by
  refine ⟨?_, ?_, ?_, ?_, ?_, ?_⟩ <;>
    (first | unfold out0_C_8 | unfold out0_C_9 | unfold out0_C_10 | unfold out0_C_11 | unfold out0_C_12 | unfold out0_C_13) <;>
    (rw [View.read_writes_junk_eq_canon]; unfold kernelRun0_C; dsimp only; sl_unfold_words
     simp (discharger := first | decide | rfl) only [↓View.readCov_skip, ↓View.readCov_fill, canon2, canon3, View.readAt_eq_ld, ld2, ld3,
       h2.read_unread, h3.read_unread, h4.read_unread, h5.read_unread, h6.read_unread, h7.read_unread, h8.read_unread, h9.read_unread, h15.read_unread, h16.read_unread, h17.read_unread]
     try rfl)

/-- The first point of a later tile's sweep. -/
theorem outsD :
    out0_D_8 c i a2 h2 a3 h3 a4 h4 a5 h5 a6 h6 a7 h7 a8 h8 a9 h9 a10 h10 a11 h11 a12 h12 a13 h13 a14 h14 a15 h15 a16 h16 a17 h17 n0 c1 n2 x0 x1 x2 x3 x4 x5 x6 x7
      = k0_pay18 (k0_pay17 x3 x4)
    ∧ out0_D_9 c i a2 h2 a3 h3 a4 h4 a5 h5 a6 h6 a7 h7 a8 h8 a9 h9 a10 h10 a11 h11 a12 h12 a13 h13 a14 h14 a15 h15 a16 h16 a17 h17 n0 c1 n2 x0 x1 x2 x3 x4 x5 x6 x7
      = dgOf x3 x4 x7 (k0_pay10 x0)
    ∧ out0_D_10 c i a2 h2 a3 h3 a4 h4 a5 h5 a6 h6 a7 h7 a8 h8 a9 h9 a10 h10 a11 h11 a12 h12 a13 h13 a14 h14 a15 h15 a16 h16 a17 h17 n0 c1 n2 x0 x1 x2 x3 x4 x5 x6 x7
      = duOf x3 x7 (k0_pay10 x0)
    ∧ sout0_D_0 c i a2 h2 a3 h3 a4 h4 a5 h5 a6 h6 a7 h7 a8 h8 a9 h9 a10 h10 a11 h11 a12 h12 a13 h13 a14 h14 a15 h15 a16 h16 a17 h17 n0 c1 n2 x0 x1 x2 x3 x4 x5 x6 x7
      = k0_pay10 x0
    ∧ sout0_D_1 c i a2 h2 a3 h3 a4 h4 a5 h5 a6 h6 a7 h7 a8 h8 a9 h9 a10 h10 a11 h11 a12 h12 a13 h13 a14 h14 a15 h15 a16 h16 a17 h17 n0 c1 n2 x0 x1 x2 x3 x4 x5 x6 x7
      = k0_pay1 k0_pay11 (stepOf x3 x4 x5 x6 x7 (k0_pay10 x0)) := by
  refine ⟨?_, ?_, ?_, ?_, ?_⟩ <;>
    (first | unfold out0_D_8 | unfold out0_D_9 | unfold out0_D_10 | unfold sout0_D_0 | unfold sout0_D_1) <;>
    (rw [View.read_writes_junk_eq_canon]; unfold kernelRun0_D; dsimp only; sl_unfold_words
     simp (discharger := first | decide | rfl) only [↓View.readCov_skip, ↓View.readCov_fill, canon2, canon3, View.readAt_eq_ld, ld2, ld3,
       h2.read_unread, h3.read_unread, h4.read_unread, h5.read_unread, h6.read_unread, h7.read_unread, h8.read_unread, h9.read_unread]
     try rfl)

end

end Cert.Proof.Ffn
end
-- ==== Proof.Ffn.Lay.lean ====
/- The columns of the feed forward, cut into eight pieces of 352 and each piece widened to 384 by zeros. -/
module

public import proofs.«01_k».proof.Proof.Rms
public import proofs.«01_k».proof.Proof.Tiles

@[expose] public section

set_option maxRecDepth 16384

noncomputable section

namespace Cert.Proof.Ffn

open Idealize.ShloMosaic Idealize.ShloMosaic.TcCoe

/-- Entry `k` of pair `f` of the widened pieces of a row. -/
def lay (g : Fin 2816 → EReal) (f : Fin 4) (k : Fin 768) : EReal :=
  if h : k.val % 384 < 352 then g ⟨(2 * f.val + k.val / 384) * 352 + k.val % 384, by omega⟩ else 0

theorem lay_in (g : Fin 2816 → EReal) (f : Fin 4) (k : Fin 768) (q : Fin 2816) (h : k.val % 384 < 352)
    (e : q.val = (2 * f.val + k.val / 384) * 352 + k.val % 384) : lay g f k = g q := by
  rw [lay, dif_pos h]
  exact congrArg g (Fin.ext e.symm)

theorem lay_off (g : Fin 2816 → EReal) (f : Fin 4) (k : Fin 768) (h : ¬k.val % 384 < 352) : lay g f k = 0 := dif_neg h

/-- The column an entry stands for, where it is not one of the zeros. -/
def colOf (f : Fin 4) (k : Fin 768) (h : k.val % 384 < 352) : Fin 2816 := ⟨(2 * f.val + k.val / 384) * 352 + k.val % 384, by omega⟩

theorem lay_mul (g h : Fin 2816 → EReal) (f : Fin 4) (k : Fin 768) : lay g f k * lay h f k = lay (fun q => g q * h q) f k := by
  unfold lay
  split
  · rfl
  · exact zero_mul _

/-- One pair's entries, summed. -/
theorem lay_pair (G : ℕ → EReal) (f : Fin 4) : ∑ k : Fin 768, lay (fun q => G q.val) f k
    = ∑ q ∈ Finset.range 352, G (2 * f.val * 352 + q) + ∑ q ∈ Finset.range 352, G ((2 * f.val + 1) * 352 + q) := by
  have e : ∀ k : Fin 768, lay (fun q => G q.val) f k = (fun k : ℕ => if k % 384 < 352 then G ((2 * f.val + k / 384) * 352 + k % 384) else 0) k.val := fun k => by
    unfold lay
    split
    · next h => exact (if_pos h).symm
    · next h => exact (if_neg h).symm
  rw [Finset.sum_congr rfl fun k _ => e k, ← Finset.sum_range fun k : ℕ => if k % 384 < 352 then G ((2 * f.val + k / 384) * 352 + k % 384) else 0, show 768 = 352 + 32 + 352 + 32 from rfl, Finset.sum_range_add, Finset.sum_range_add, Finset.sum_range_add]
  have z : ∀ o : ℕ, o % 384 = 352 → ∑ k ∈ Finset.range 32, (if (o + k) % 384 < 352 then G ((2 * f.val + (o + k) / 384) * 352 + (o + k) % 384) else 0) = 0 := fun o ho =>
    Finset.sum_eq_zero fun k hk => if_neg (by have := Finset.mem_range.mp hk; omega)
  rw [z 352 rfl, z (352 + 32 + 352) rfl, add_zero, add_zero]
  refine congrArg₂ (· + ·) (Finset.sum_congr rfl fun k hk => ?_) (Finset.sum_congr rfl fun k hk => ?_) <;> have hk := Finset.mem_range.mp hk
  · exact (if_pos (by omega)).trans (congrArg G (by omega))
  · exact (if_pos (by omega)).trans (congrArg G (by omega))

/-- All the entries, summed, are the row summed. -/
theorem lay_sum (g : Fin 2816 → EReal) : ∑ f : Fin 4, ∑ k : Fin 768, lay g f k = ∑ q, g q := by
  have e : g = fun q => (fun n : ℕ => if h : n < 2816 then g ⟨n, h⟩ else 0) q.val := funext fun q => (dif_pos (c := q.val < 2816) (t := fun h => g ⟨q.val, h⟩) q.isLt).symm
  rw [e]
  generalize (fun n : ℕ => if h : n < 2816 then g ⟨n, h⟩ else 0) = G
  rw [Finset.sum_congr rfl fun f _ => lay_pair G f, Fin.sum_univ_four, ← Finset.sum_range G, show 2816 = 352 + 352 + 352 + 352 + 352 + 352 + 352 + 352 from rfl]
  repeat rw [Finset.sum_range_add]
  show ∑ q ∈ Finset.range 352, G (0 + q) + _ + _ + _ + _ = _
  simp only [Nat.zero_add, ← add_assoc]
  rfl

/-! ## The layouts -/

/-- Rows widened piece by piece, pair by pair. -/
theorem rows_lay (X : (⟨2, ![8192, 2816]⟩ : Shape).Idx → EReal) (z : (⟨0, ![]⟩ : Shape).Idx → EReal) (hz : ∀ i, z i = 0) (h1) (h2) (hu) (h3) (h4) (f : Fin 4) (t : Fin 8192) (k : Fin 768) :
    transpose ⟨3, ![4, 8192, 768]⟩ [1, 0, 2] (shapeCast ⟨3, ![8192, 4, 768]⟩
      (pad ⟨3, ![8192, 8, 384]⟩ ![0, 0, 0] ![0, 0, 32] ![0, 0, 0] (shapeCast ⟨3, ![8192, 8, 352]⟩ X h1) z h2 hu) h3) h4 (ValueIdx.ix3 f t k)
      = lay (fun q => X (ValueIdx.ix2 t q)) f k := by
  rw [transpose_apply [1, 0, 2] _ h4 (ValueIdx.ix3 f t k) (ValueIdx.ix3 t f k) (fun b => by match b with | ⟨0, _⟩ => rfl | ⟨1, _⟩ => rfl | ⟨2, _⟩ => rfl)]
  rw [shapeCast_apply _ h3 (ValueIdx.ix3 t f k) (ValueIdx.ix3 t (⟨2 * f.val + k.val / 384, by omega⟩ : Fin 8) (⟨k.val % 384, by omega⟩ : Fin 384)) (by
    rw [Shape.rowMajor_val_three, Shape.rowMajor_val_three]
    show (t.val * 8 + (2 * f.val + k.val / 384)) * 384 + k.val % 384 = (t.val * 4 + f.val) * 768 + k.val
    omega)]
  unfold lay
  split
  · next h =>
    rw [pad_apply_of_inside _ _ _ _ z h2 hu _ (ValueIdx.ix3 t (⟨2 * f.val + k.val / 384, by omega⟩ : Fin 8) (⟨k.val % 384, h⟩ : Fin 352)) (fun a => by
      match a with
      | ⟨0, _⟩ => show t.val = 0 + t.val * (0 + 1); omega
      | ⟨1, _⟩ => show 2 * f.val + k.val / 384 = 0 + (2 * f.val + k.val / 384) * (0 + 1); omega
      | ⟨2, _⟩ => show k.val % 384 = 0 + (k.val % 384) * (0 + 1); omega)]
    exact shapeCast_apply X h1 _ (ValueIdx.ix2 t _) (by
      rw [Shape.rowMajor_val_three, Shape.rowMajor_val_two]
      show t.val * 2816 + ((2 * f.val + k.val / 384) * 352 + k.val % 384) = (t.val * 8 + (2 * f.val + k.val / 384)) * 352 + k.val % 384
      omega)
  · next h =>
    refine (pad_apply_of_not_inside _ _ _ _ z h2 hu _ (2 : Fin 3) fun ⟨_, _, h3⟩ => ?_).trans (hz _)
    have h3 : (k.val % 384 - 0) / (0 + 1) < 352 := h3
    rw [Nat.div_one] at h3
    omega

/-- The wide weights' pieces: column `q` of piece `p`. -/
theorem wide_piece (W : (⟨2, ![1024, 2816]⟩ : Shape).Idx → EReal) (z : (⟨0, ![]⟩ : Shape).Idx → EReal) (hz : ∀ i, z i = 0) (h1) (h2) (h3) (hu) (f : Fin 4) (d : Fin 1024) (k : Fin 768)
    (p : Fin 8) (q : Fin 384) (hp : p.val = 2 * f.val + k.val / 384) (hq : q.val = k.val % 384) :
    pad ⟨3, ![8, 1024, 384]⟩ ![0, 0, 0] ![0, 0, 32] ![0, 0, 0] (transpose ⟨3, ![8, 1024, 352]⟩ [1, 0, 2] (shapeCast ⟨3, ![1024, 8, 352]⟩ W h1) h2) z h3 hu
      (ValueIdx.ix3 p d q) = lay (fun q => W (ValueIdx.ix2 d q)) f k := by
  unfold lay
  split
  · next h =>
    rw [pad_apply_of_inside _ _ _ _ z h3 hu _ (ValueIdx.ix3 p d (⟨q.val, by omega⟩ : Fin 352)) (fun a => by
      match a with
      | ⟨0, _⟩ => show p.val = 0 + p.val * (0 + 1); omega
      | ⟨1, _⟩ => show d.val = 0 + d.val * (0 + 1); omega
      | ⟨2, _⟩ => show q.val = 0 + q.val * (0 + 1); omega)]
    rw [transpose_apply [1, 0, 2] _ h2 _ (ValueIdx.ix3 d p (⟨q.val, by omega⟩ : Fin 352)) (fun b => by match b with | ⟨0, _⟩ => rfl | ⟨1, _⟩ => rfl | ⟨2, _⟩ => rfl)]
    exact shapeCast_apply W h1 _ (ValueIdx.ix2 d _) (by
      rw [Shape.rowMajor_val_three, Shape.rowMajor_val_two]
      show d.val * 2816 + ((2 * f.val + k.val / 384) * 352 + k.val % 384) = (d.val * 8 + p.val) * 352 + q.val
      omega)
  · next h =>
    refine (pad_apply_of_not_inside _ _ _ _ z h3 hu _ (2 : Fin 3) fun ⟨_, _, h4⟩ => ?_).trans (hz _)
    have h4 : (q.val - 0) / (0 + 1) < 352 := h4
    rw [Nat.div_one] at h4
    omega

/-- The tall weights' pieces: row `q` of piece `p`. -/
theorem tall_piece (W : (⟨2, ![2816, 1024]⟩ : Shape).Idx → EReal) (z : (⟨0, ![]⟩ : Shape).Idx → EReal) (hz : ∀ i, z i = 0) (h1) (h3) (hu) (f : Fin 4) (d : Fin 1024) (k : Fin 768)
    (p : Fin 8) (q : Fin 384) (hp : p.val = 2 * f.val + k.val / 384) (hq : q.val = k.val % 384) :
    pad ⟨3, ![8, 384, 1024]⟩ ![0, 0, 0] ![0, 32, 0] ![0, 0, 0] (shapeCast ⟨3, ![8, 352, 1024]⟩ W h1) z h3 hu (ValueIdx.ix3 p q d)
      = lay (fun q => W (ValueIdx.ix2 q d)) f k := by
  unfold lay
  split
  · next h =>
    rw [pad_apply_of_inside _ _ _ _ z h3 hu _ (ValueIdx.ix3 p (⟨q.val, by omega⟩ : Fin 352) d) (fun a => by
      match a with
      | ⟨0, _⟩ => show p.val = 0 + p.val * (0 + 1); omega
      | ⟨1, _⟩ => show q.val = 0 + q.val * (0 + 1); omega
      | ⟨2, _⟩ => show d.val = 0 + d.val * (0 + 1); omega)]
    exact shapeCast_apply W h1 _ (ValueIdx.ix2 _ d) (by
      rw [Shape.rowMajor_val_three, Shape.rowMajor_val_two]
      show ((2 * f.val + k.val / 384) * 352 + k.val % 384) * 1024 + d.val = (p.val * 352 + q.val) * 1024 + d.val
      rw [hp, hq])
  · next h =>
    refine (pad_apply_of_not_inside _ _ _ _ z h3 hu _ (1 : Fin 3) fun ⟨_, _, h4⟩ => ?_).trans (hz _)
    have h4 : (q.val - 0) / (0 + 1) < 352 := h4
    rw [Nat.div_one] at h4
    omega

/-- Pairs of pieces side by side. -/
theorem pairs_at (Y : (⟨3, ![8, 1024, 384]⟩ : Shape).Idx → EReal) (h1) (h2) (h3) (f : Fin 4) (d : Fin 1024) (k : Fin 768) :
    shapeCast ⟨3, ![4, 1024, 768]⟩ (transpose ⟨4, ![4, 1024, 2, 384]⟩ [0, 2, 1, 3] (shapeCast ⟨4, ![4, 2, 1024, 384]⟩ Y h1) h2) h3 (ValueIdx.ix3 f d k)
      = Y (ValueIdx.ix3 (⟨2 * f.val + k.val / 384, by omega⟩ : Fin 8) d (⟨k.val % 384, by omega⟩ : Fin 384)) := by
  rw [shapeCast_apply _ h3 _ (ValueIdx.ix4 f d (⟨k.val / 384, by omega⟩ : Fin 2) (⟨k.val % 384, by omega⟩ : Fin 384)) (by
    rw [Shape.rowMajor_val_three, Shape.rowMajor_val_four]
    show ((f.val * 1024 + d.val) * 2 + k.val / 384) * 384 + k.val % 384 = (f.val * 1024 + d.val) * 768 + k.val
    omega)]
  rw [transpose_apply [0, 2, 1, 3] _ h2 _ (ValueIdx.ix4 f (⟨k.val / 384, by omega⟩ : Fin 2) d (⟨k.val % 384, by omega⟩ : Fin 384))
    (fun b => by match b with | ⟨0, _⟩ => rfl | ⟨1, _⟩ => rfl | ⟨2, _⟩ => rfl | ⟨3, _⟩ => rfl)]
  exact shapeCast_apply Y h1 _ _ (by
    rw [Shape.rowMajor_val_three, Shape.rowMajor_val_four]
    show ((2 * f.val + k.val / 384) * 1024 + d.val) * 384 + k.val % 384 = ((f.val * 2 + k.val / 384) * 1024 + d.val) * 384 + k.val % 384
    omega)

/-- Two pieces of columns side by side. -/
theorem beside (a b : (⟨2, ![1024, 384]⟩ : Shape).Idx → EReal) (h) (d : Fin 1024) (k : Fin 768) :
    concatenate ⟨2, ![1024, 768]⟩ 1 [⟨⟨2, ![1024, 384]⟩, a⟩, ⟨⟨2, ![1024, 384]⟩, b⟩] h (ValueIdx.ix2 d k)
      = if k.val < 384 then a (ValueIdx.ix2 d ⟨k.val % 384, by omega⟩) else b (ValueIdx.ix2 d ⟨k.val % 384, by omega⟩) := by
  split
  · next hk =>
    exact concatenate_apply_piece (t := ⟨2, ![1024, 768]⟩) 1 _ h _ 0 (by show 0 < 2; decide) ⟨2, ![1024, 384]⟩ a rfl rfl 0 rfl (ValueIdx.ix2 d ⟨k.val % 384, by omega⟩)
      (fun b hb => match b with | ⟨0, _⟩ => rfl | ⟨1, _⟩ => absurd rfl hb) (by show 0 + k.val % 384 = k.val; omega)
  · next hk =>
    exact concatenate_apply_piece (t := ⟨2, ![1024, 768]⟩) 1 _ h _ 1 (by show 1 < 2; decide) ⟨2, ![1024, 384]⟩ b rfl rfl 384 rfl (ValueIdx.ix2 d ⟨k.val % 384, by omega⟩)
      (fun b hb => match b with | ⟨0, _⟩ => rfl | ⟨1, _⟩ => absurd rfl hb) (by show 384 + k.val % 384 = k.val; omega)

/-- Two pieces of rows on top of each other. -/
theorem stacked (a b : (⟨2, ![384, 1024]⟩ : Shape).Idx → EReal) (h) (k : Fin 768) (d : Fin 1024) :
    concatenate ⟨2, ![768, 1024]⟩ 0 [⟨⟨2, ![384, 1024]⟩, a⟩, ⟨⟨2, ![384, 1024]⟩, b⟩] h (ValueIdx.ix2 k d)
      = if k.val < 384 then a (ValueIdx.ix2 ⟨k.val % 384, by omega⟩ d) else b (ValueIdx.ix2 ⟨k.val % 384, by omega⟩ d) := by
  split
  · next hk =>
    exact concatenate_apply_piece (t := ⟨2, ![768, 1024]⟩) 0 _ h _ 0 (by show 0 < 2; decide) ⟨2, ![384, 1024]⟩ a rfl rfl 0 rfl (ValueIdx.ix2 ⟨k.val % 384, by omega⟩ d)
      (fun b hb => match b with | ⟨0, _⟩ => absurd rfl hb | ⟨1, _⟩ => rfl) (by show 0 + k.val % 384 = k.val; omega)
  · next hk =>
    exact concatenate_apply_piece (t := ⟨2, ![768, 1024]⟩) 0 _ h _ 1 (by show 1 < 2; decide) ⟨2, ![384, 1024]⟩ b rfl rfl 384 rfl (ValueIdx.ix2 ⟨k.val % 384, by omega⟩ d)
      (fun b hb => match b with | ⟨0, _⟩ => absurd rfl hb | ⟨1, _⟩ => rfl) (by show 384 + k.val % 384 = k.val; omega)

/-- The gate's gradient, as the kernel and as the reference write it, over the reals. -/
theorem gate_grad {D g u s : EReal} (hD : Rms.IsReal D) (hg : Rms.IsReal g) (hu : Rms.IsReal u) (hs : Rms.IsReal s) :
    D * u * (s * (1 + g * (1 - s))) = D * u * s + g * (D * u) * (s * (1 - s)) := by
  obtain ⟨D, rfl⟩ := hD
  obtain ⟨g, rfl⟩ := hg
  obtain ⟨u, rfl⟩ := hu
  obtain ⟨s, rfl⟩ := hs
  norm_cast
  ring

end Cert.Proof.Ffn
end
-- ==== Proof.Ffn.Ref.lean ====
/- The gradient through the gated feed forward and its norm: the reference's stages, and the kernel's stored values, read at a row and a column. -/
module

public import proofs.«01_k».proof.Proof.Gen.FfnRefIdeal.Read
public import proofs.«01_k».proof.Proof.Ffn.Outs
public import proofs.«01_k».proof.Proof.Ffn.Lay

@[expose] public section

set_option maxRecDepth 16384

noncomputable section

namespace Cert.Proof.Ffn

open Idealize.ShloMosaic Idealize.ShloMosaic.TcCoe Cert.Proof.Rms

/-! ## The reference -/

section reference
open Cert.FfnRefIdeal Cert.FfnRefIdeal.Gen Cert.FfnRefIdeal.Read

variable (x0 x1 : Vec Ideal S8192x1024 .f32) (x2 : Vec Ideal S1024 .f32) (x3 x4 : Vec Ideal S1024x2816 .f32) (x5 : Vec Ideal S2816x1024 .f32)

/-- The rows over their roots. -/
theorem v13_at (r : Fin 8192) (d : Fin 1024) : val_main_v13 x1 (ValueIdx.ix2 r d)
    = x1 (ValueIdx.ix2 r d) * inv (Ideal.ofBits .f32 0x44800000#32) (Ideal.ofBits .f32 0x358637BD#32) fun k => x1 (ValueIdx.ix2 r k) :=
  ref_unit_at x1 0x44800000#32 0x358637BD#32 _ _ _ _ _ r d

/-- The gain at a column. -/
theorem v15_at (r : Fin 8192) (d : Fin 1024) : val_main_v15 x2 (ValueIdx.ix2 r d) = x2 (ValueIdx.ix1 d) := by
  rw [val_main_v15_apply, val_main_v14_apply]
  exact congrArg x2 (funext fun a => by match a with | ⟨0, _⟩ => rfl)

/-- The normalised rows. -/
theorem v16_at (r : Fin 8192) (d : Fin 1024) : val_main_v16 x1 x2 (ValueIdx.ix2 r d)
    = x1 (ValueIdx.ix2 r d) * inv (Ideal.ofBits .f32 0x44800000#32) (Ideal.ofBits .f32 0x358637BD#32) (fun k => x1 (ValueIdx.ix2 r k)) * x2 (ValueIdx.ix1 d) :=
  congrArg₂ (· * ·) (v13_at x1 r d) (v15_at x2 r d)

theorem v17_at (r : Fin 8192) (q : Fin 2816) : val_main_v17 x1 x2 x3 (ValueIdx.ix2 r q)
    = ∑ d : Fin 1024, val_main_v16 x1 x2 (ValueIdx.ix2 r d) * x3 (ValueIdx.ix2 d q) :=
  dot_nn _ rfl _ (val_main_v16 x1 x2) x3 (ValueIdx.ix2 r q)

theorem v20_at (r : Fin 8192) (q : Fin 2816) : val_main_v20 x1 x2 x4 (ValueIdx.ix2 r q)
    = ∑ d : Fin 1024, val_main_v16 x1 x2 (ValueIdx.ix2 r d) * x4 (ValueIdx.ix2 d q) :=
  dot_nn _ rfl _ (val_main_v16 x1 x2) x4 (ValueIdx.ix2 r q)

/-- The gradient of the gated product. -/
theorem v26_at (r : Fin 8192) (q : Fin 2816) : val_main_v26 x0 x5 (ValueIdx.ix2 r q)
    = ∑ d : Fin 1024, x0 (ValueIdx.ix2 r d) * x5 (ValueIdx.ix2 q d) := by
  have e : val_main_v25 x0 = x0 := shapeCast_self _ _
  unfold val_main_v26
  rw [e]
  exact dot_nt _ rfl _ x0 x5 (ValueIdx.ix2 r q)

theorem v18_at (i : S8192x2816.Idx) : val_main_v18 x1 x2 x3 i = val_main_v17 x1 x2 x3 i := by
  rw [val_main_v18_apply, val_main_v0_apply, val_main_cst_apply, Ideal.ofBits_def, Ideal.ofBits_zero_f32]
  exact add_zero _
theorem v21_at (i : S8192x2816.Idx) : val_main_v21 x1 x2 x4 i = val_main_v20 x1 x2 x4 i := by
  rw [val_main_v21_apply, val_main_v0_apply, val_main_cst_apply, Ideal.ofBits_def, Ideal.ofBits_zero_f32]
  exact add_zero _

/-- The gate's logistic function. -/
theorem s_at (i : S8192x2816.Idx) : val_main_v19_2 x1 x2 x3 i = sig (val_main_v17 x1 x2 x3 i) := by
  simp only [val_main_v19_2_apply, val_main_call0_v4_apply, val_main_call0_v3_apply, val_main_call0_v2_apply, val_main_call0_v1_apply, val_main_call0_v0_apply,
    val_main_call0_cst_apply, val_main_call0_cst_0_apply, v18_at, Ideal.ofBits_def, Ideal.ofBits_one_f32]
  rfl
theorem ds_at (i : S8192x2816.Idx) : val_main_v19_1 x1 x2 x3 i = sig (val_main_v17 x1 x2 x3 i) * (1 - sig (val_main_v17 x1 x2 x3 i)) := by
  simp only [val_main_v19_1_apply, val_main_call0_v7_apply, val_main_call0_v6_apply, val_main_call0_cst_1_apply, s_at, Ideal.ofBits_def, Ideal.ofBits_one_f32]
  rfl
theorem silu_at (i : S8192x2816.Idx) : val_main_v19_0 x1 x2 x3 i = val_main_v17 x1 x2 x3 i * sig (val_main_v17 x1 x2 x3 i) := by
  rw [val_main_v19_0_apply, v18_at, s_at]
  rfl

/-- The gated product. -/
theorem v22_at (i : S8192x2816.Idx) : val_main_v22 x1 x2 x3 x4 i
    = val_main_v17 x1 x2 x3 i * sig (val_main_v17 x1 x2 x3 i) * val_main_v20 x1 x2 x4 i := by
  rw [val_main_v22_apply, silu_at, v21_at]
  rfl

/-- The gradient of up's output. -/
theorem v27_at (i : S8192x2816.Idx) : val_main_v27 x0 x1 x2 x3 x5 i
    = val_main_v26 x0 x5 i * (val_main_v17 x1 x2 x3 i * sig (val_main_v17 x1 x2 x3 i)) := by
  rw [val_main_v27_apply, silu_at]
  exact mul_comm _ _

/-- The gradient of the normalised rows. -/
theorem v32_at (r : Fin 8192) (d : Fin 1024) : val_main_v32 x0 x1 x2 x3 x4 x5 (ValueIdx.ix2 r d)
    = ∑ q : Fin 2816, val_main_v27 x0 x1 x2 x3 x5 (ValueIdx.ix2 r q) * x4 (ValueIdx.ix2 d q)
      + ∑ q : Fin 2816, val_main_v30 x0 x1 x2 x3 x4 x5 (ValueIdx.ix2 r q) * x3 (ValueIdx.ix2 d q) :=
  congrArg₂ (· + ·) (dot_nt _ rfl _ (val_main_v27 x0 x1 x2 x3 x5) x4 (ValueIdx.ix2 r d)) (dot_nt _ rfl _ (val_main_v30 x0 x1 x2 x3 x4 x5) x3 (ValueIdx.ix2 r d))

theorem v37_at (r : Fin 8192) (d : Fin 1024) : val_main_v37 x0 x1 x2 x3 x4 x5 (ValueIdx.ix2 r d) = val_main_v32 x0 x1 x2 x3 x4 x5 (ValueIdx.ix2 r d) * x2 (ValueIdx.ix1 d) :=
  congrArg (val_main_v32 x0 x1 x2 x3 x4 x5 (ValueIdx.ix2 r d) * ·) (v15_at x2 r d)

/-- The gradient of the gain. -/
theorem v70_at (d : Fin 1024) : val_main_v70 x0 x1 x2 x3 x4 x5 (ValueIdx.ix2 0 d)
    = ∑ r : Fin 8192, val_main_v32 x0 x1 x2 x3 x4 x5 (ValueIdx.ix2 r d) * val_main_v13 x1 (ValueIdx.ix2 r d) :=
  (ref_gain_at (val_main_v33 x0 x1 x2 x3 x4 x5) _ _ _ _ _ d).trans (Finset.sum_congr rfl fun r _ => mul_comm _ _)

/-- The laid out results. -/
theorem v58_at (f : Fin 4) (t : Fin 8192) (k : Fin 768) : val_main_v58 x1 x2 x3 x4 (ValueIdx.ix3 f t k) = lay (fun q => val_main_v22 x1 x2 x3 x4 (ValueIdx.ix2 t q)) f k :=
  rows_lay (val_main_v22 x1 x2 x3 x4) (val_main_call2_v0 (F := Ideal)) (fun _ => by show ((((0#32 : BitVec 32).toInt : ℝ)) : EReal) = 0; simp) _ pads_S8192x8x352_S8192x8x384_000_000_0320 _ _ _ f t k
theorem v63_at (f : Fin 4) (t : Fin 8192) (k : Fin 768) :
    val_main_v63 x0 x1 x2 x3 x4 x5 (ValueIdx.ix3 f t k) = lay (fun q => val_main_v30 x0 x1 x2 x3 x4 x5 (ValueIdx.ix2 t q)) f k :=
  rows_lay (val_main_v30 x0 x1 x2 x3 x4 x5) (val_main_call3_v0 (F := Ideal)) (fun _ => by show ((((0#32 : BitVec 32).toInt : ℝ)) : EReal) = 0; simp) _ pads_S8192x8x352_S8192x8x384_000_000_0320 _ _ _ f t k
theorem v68_at (f : Fin 4) (t : Fin 8192) (k : Fin 768) :
    val_main_v68 x0 x1 x2 x3 x5 (ValueIdx.ix3 f t k) = lay (fun q => val_main_v27 x0 x1 x2 x3 x5 (ValueIdx.ix2 t q)) f k :=
  rows_lay (val_main_v27 x0 x1 x2 x3 x5) (val_main_call4_v0 (F := Ideal)) (fun _ => by show ((((0#32 : BitVec 32).toInt : ℝ)) : EReal) = 0; simp) _ pads_S8192x8x352_S8192x8x384_000_000_0320 _ _ _ f t k

variable (hx0 : ∀ i, IsReal (x0 i)) (hx1 : ∀ i, IsReal (x1 i)) (hx2 : ∀ i, IsReal (x2 i)) (hx3 : ∀ i, IsReal (x3 i)) (hx4 : ∀ i, IsReal (x4 i)) (hx5 : ∀ i, IsReal (x5 i))

include hx1 hx2 in
theorem v16_real (r : Fin 8192) (d : Fin 1024) : IsReal (val_main_v16 x1 x2 (ValueIdx.ix2 r d)) := by
  rw [v16_at, ofBits_1024, ofBits_eps]
  exact ((hx1 _).mul (IsReal.inv (by norm_num) (by norm_num) fun k => hx1 _)).mul (hx2 _)

include hx1 hx2 hx3 in
theorem v17_real (r : Fin 8192) (q : Fin 2816) : IsReal (val_main_v17 x1 x2 x3 (ValueIdx.ix2 r q)) := by
  rw [v17_at]
  exact IsReal.dot (fun d => v16_real x1 x2 hx1 hx2 r d) fun d => hx3 _

include hx1 hx2 hx4 in
theorem v20_real (r : Fin 8192) (q : Fin 2816) : IsReal (val_main_v20 x1 x2 x4 (ValueIdx.ix2 r q)) := by
  rw [v20_at]
  exact IsReal.dot (fun d => v16_real x1 x2 hx1 hx2 r d) fun d => hx4 _

include hx0 hx5 in
theorem v26_real (r : Fin 8192) (q : Fin 2816) : IsReal (val_main_v26 x0 x5 (ValueIdx.ix2 r q)) := by
  rw [v26_at]
  exact IsReal.dot (fun d => hx0 _) fun d => hx5 _

include hx0 hx1 hx2 hx3 hx4 hx5

/-- The gradient of the gate's output, as the kernel writes it. -/
theorem v30_at (r : Fin 8192) (q : Fin 2816) : val_main_v30 x0 x1 x2 x3 x4 x5 (ValueIdx.ix2 r q)
    = val_main_v26 x0 x5 (ValueIdx.ix2 r q) * val_main_v20 x1 x2 x4 (ValueIdx.ix2 r q)
      * (sig (val_main_v17 x1 x2 x3 (ValueIdx.ix2 r q)) * (1 + val_main_v17 x1 x2 x3 (ValueIdx.ix2 r q) * (1 - sig (val_main_v17 x1 x2 x3 (ValueIdx.ix2 r q))))) := by
  rw [gate_grad (v26_real x0 x5 hx0 hx5 r q) (v17_real x1 x2 x3 hx1 hx2 hx3 r q) (v20_real x1 x2 x4 hx1 hx2 hx4 r q) (sig_real _)]
  rw [val_main_v30_apply, val_main_call1_v1_apply, val_main_call1_v2_apply, val_main_call1_v0_apply, val_main_v28_apply, v18_at, v21_at, s_at, ds_at]
  rfl

theorem v30_real (r : Fin 8192) (q : Fin 2816) : IsReal (val_main_v30 x0 x1 x2 x3 x4 x5 (ValueIdx.ix2 r q)) := by
  rw [v30_at x0 x1 x2 x3 x4 x5 hx0 hx1 hx2 hx3 hx4 hx5]
  have s := sig_real (val_main_v17 x1 x2 x3 (ValueIdx.ix2 r q))
  exact ((v26_real x0 x5 hx0 hx5 r q).mul (v20_real x1 x2 x4 hx1 hx2 hx4 r q)).mul (s.mul ((IsReal.coe 1).add ((v17_real x1 x2 x3 hx1 hx2 hx3 r q).mul ((IsReal.coe 1).sub s))))

theorem v37_real (r : Fin 8192) (d : Fin 1024) : IsReal (val_main_v37 x0 x1 x2 x3 x4 x5 (ValueIdx.ix2 r d)) := by
  rw [v37_at, v32_at]
  refine (IsReal.add (IsReal.dot (fun q => ?_) fun q => hx4 _) (IsReal.dot (fun q => v30_real x0 x1 x2 x3 x4 x5 hx0 hx1 hx2 hx3 hx4 hx5 r q) fun q => hx3 _)).mul (hx2 _)
  rw [v27_at]
  have g := v17_real x1 x2 x3 hx1 hx2 hx3 r q
  exact (v26_real x0 x5 hx0 hx5 r q).mul (g.mul (sig_real _))

/-- The gradient of the rows, as the kernel orders it. -/
theorem v53_at (r : Fin 8192) (d : Fin 1024) : val_main_v53 x0 x1 x2 x3 x4 x5 (ValueIdx.ix2 r d)
    = x0 (ValueIdx.ix2 r d) + kgrad (Ideal.ofBits .f32 0x44800000#32) (Ideal.ofBits .f32 0x358637BD#32) (fun k => x1 (ValueIdx.ix2 r k))
      (fun k => val_main_v32 x0 x1 x2 x3 x4 x5 (ValueIdx.ix2 r k) * x2 (ValueIdx.ix1 k)) d := by
  have e : (fun k => val_main_v32 x0 x1 x2 x3 x4 x5 (ValueIdx.ix2 r k) * x2 (ValueIdx.ix1 k)) = fun k => val_main_v37 x0 x1 x2 x3 x4 x5 (ValueIdx.ix2 r k) :=
    funext fun k => (v37_at x0 x1 x2 x3 x4 x5 r k).symm
  have he : ∀ k, IsReal (val_main_v37 x0 x1 x2 x3 x4 x5 (ValueIdx.ix2 r k)) := fun k => v37_real x0 x1 x2 x3 x4 x5 hx0 hx1 hx2 hx3 hx4 hx5 r k
  refine (ref_grad_at (val_main_v44 x0 x1 x2 x3 x4 x5) x1 (val_main_v37 x0 x1 x2 x3 x4 x5) 0x44800000#32 0x358637BD#32 0xBF000000#32
    reducesTo_S8192x1024_S8192_d1 h_S_ bcast_S8192_S8192x1_0 bcast_S_S8192x1 reducesTo_S8192x1024_S8192_d1 shapeCasts_S8192_S8192x1 reducesTo_S8192x1_S8192_d1
    bcast_S8192_S8192x1024_0 r d).trans ?_
  rw [e, show val_main_v44 x0 x1 x2 x3 x4 x5 (ValueIdx.ix2 r d) = x0 (ValueIdx.ix2 r d) + val_main_v37 x0 x1 x2 x3 x4 x5 (ValueIdx.ix2 r d)
      * inv (Ideal.ofBits .f32 0x44800000#32) (Ideal.ofBits .f32 0x358637BD#32) fun k => x1 (ValueIdx.ix2 r k) from
    congrArg (fun t => x0 (ValueIdx.ix2 r d) + val_main_v37 x0 x1 x2 x3 x4 x5 (ValueIdx.ix2 r d) * t)
      ((col_cols _ _ r d).trans (congrArg Ideal.rsqrt (ref_msq_at x1 0x44800000#32 0x358637BD#32 _ _ _ _ _ r)))]
  rw [ofBits_1024, ofBits_eps, ofBits_half_neg, grad_sum (C := 1024) (ε := 8796093 / 2 ^ 43) (by norm_num) (by norm_num) (fun k => hx1 _) he, ← add_assoc, ← add_assoc]

end reference

/-! ## The kernel -/

section kernel
open Cert.FfnIdeal Cert.FfnIdeal.Gen

variable (x0 x1 : Vec Ideal S512x1024 .f32) (x2 : Vec Ideal S1x1024 .f32) (x3 x4 : Vec Ideal S1x512x768 .f32) (x5 x6 : Vec Ideal S2x1024x384 .bf16)
  (x7 : Vec Ideal S2x384x1024 .bf16) (y : FVec Ideal S512x1024 .bf16) (xo : Vec Ideal S1x1024 .f32) (r : Fin 512) (d : Fin 1024) (k : Fin 768)

theorem pay12_at : k0_pay12 (F := Ideal) x3 (ValueIdx.ix2 r k) = x3 (ValueIdx.ix3 0 r k) := ValueIdx.shapeCast_1ab_ab_apply x3 _ r k
theorem pay13_at : k0_pay13 (F := Ideal) x4 (ValueIdx.ix2 r k) = x4 (ValueIdx.ix3 0 r k) := ValueIdx.shapeCast_1ab_ab_apply x4 _ r k

theorem pay15_at : k0_pay15 (F := Ideal) x3 (ValueIdx.ix2 r k) = sig (x3 (ValueIdx.ix3 0 r k)) := by
  show Ideal.div (Ideal.ofBits .f32 0x3F800000#32) (Ideal.ofBits .f32 0x3F800000#32 + Ideal.exp (Ideal.ofBits .f32 0x00000000#32 - k0_pay12 (F := Ideal) x3 (ValueIdx.ix2 r k))) = _
  rw [Ideal.ofBits_one_f32, Ideal.ofBits_zero_f32, sub_eq_add_neg, zero_add, pay12_at]
  rfl

theorem pay16_at : k0_pay16 (F := Ideal) x3 (ValueIdx.ix2 r k) = x3 (ValueIdx.ix3 0 r k) * sig (x3 (ValueIdx.ix3 0 r k)) :=
  congrArg₂ (· * ·) (pay12_at x3 r k) (pay15_at x3 r k)

/-- The stored gated product. -/
theorem pay18_at : k0_pay18 (F := Ideal) (k0_pay17 x3 x4) (ValueIdx.ix3 0 r k)
    = x3 (ValueIdx.ix3 0 r k) * sig (x3 (ValueIdx.ix3 0 r k)) * x4 (ValueIdx.ix3 0 r k) :=
  have e : k0_pay17 (F := Ideal) x3 x4 (ValueIdx.ix2 r k) = x3 (ValueIdx.ix3 0 r k) * sig (x3 (ValueIdx.ix3 0 r k)) * x4 (ValueIdx.ix3 0 r k) :=
    congrArg₂ (fun a b : EReal => a * b) (pay16_at x3 r k) (pay13_at x4 r k)
  (ValueIdx.shapeCast_ab_1ab_apply (k0_pay17 (F := Ideal) x3 x4) _ 0 r k).trans e

/-- The gradient of the gated product on one block of columns. -/
theorem daOf_at : daOf (F := Ideal) x7 y (ValueIdx.ix2 r k)
    = ∑ d : Fin 1024, y (ValueIdx.ix2 r d) * x7 (ValueIdx.ix3 ⟨k.val / 384, by omega⟩ ⟨k.val % 384, by omega⟩ d) := by
  unfold daOf k0_pay14
  refine (matmul_nt _ rfl _ _ _ _ (ValueIdx.ix2 r k)).trans ?_
  show Ideal.ofBits .f32 0x00000000#32 + _ = _
  rw [Ideal.ofBits_zero_f32, zero_add]
  refine Finset.sum_congr rfl fun d _ => congrArg (y (ValueIdx.ix2 r d) * ·) ((stacked _ _ _ k d).trans ?_)
  split
  · next h =>
    refine (ValueIdx.shapeCast_1ab_ab_apply (tall0 x7) _ _ d).trans (congrArg x7 (funext fun a => Fin.ext ?_))
    match a with
    | ⟨0, _⟩ => show 0 + 1 * 0 = k.val / 384; omega
    | ⟨1, _⟩ => show 0 + 1 * (k.val % 384) = k.val % 384; omega
    | ⟨2, _⟩ => show 0 + 1 * d.val = d.val; omega
  · next h =>
    refine (ValueIdx.shapeCast_1ab_ab_apply (tall1 x7) _ _ d).trans (congrArg x7 (funext fun a => Fin.ext ?_))
    match a with
    | ⟨0, _⟩ => show 1 + 1 * 0 = k.val / 384; omega
    | ⟨1, _⟩ => show 0 + 1 * (k.val % 384) = k.val % 384; omega
    | ⟨2, _⟩ => show 0 + 1 * d.val = d.val; omega

/-- The gradient of the gate's output, from its parts. -/
abbrev gateGrad (D g u : EReal) : EReal := D * u * (sig g * (1 + g * (1 - sig g)))

theorem pay19_at (D : FVec Ideal S512x768 .f32) : k0_pay19 (F := Ideal) (k0_pay12 x3) (k0_pay13 x4) D (k0_pay15 x3) (ValueIdx.ix2 r k)
    = gateGrad (D (ValueIdx.ix2 r k)) (x3 (ValueIdx.ix3 0 r k)) (x4 (ValueIdx.ix3 0 r k)) := by
  show D (ValueIdx.ix2 r k) * k0_pay13 (F := Ideal) x4 (ValueIdx.ix2 r k) * (k0_pay15 (F := Ideal) x3 (ValueIdx.ix2 r k)
    * (Ideal.ofBits .f32 0x3F800000#32 + k0_pay12 (F := Ideal) x3 (ValueIdx.ix2 r k) * (Ideal.ofBits .f32 0x3F800000#32 - k0_pay15 (F := Ideal) x3 (ValueIdx.ix2 r k)))) = _
  rw [Ideal.ofBits_one_f32, pay12_at, pay13_at, pay15_at]

theorem pay20_at (D : FVec Ideal S512x768 .f32) : k0_pay20 (F := Ideal) D (k0_pay16 x3) (ValueIdx.ix2 r k)
    = D (ValueIdx.ix2 r k) * (x3 (ValueIdx.ix3 0 r k) * sig (x3 (ValueIdx.ix3 0 r k))) :=
  congrArg (D (ValueIdx.ix2 r k) * ·) (pay16_at x3 r k)

/-- The stored gradients of the gate's and of up's outputs. -/
theorem dgOf_at : dgOf (F := Ideal) x3 x4 x7 y (ValueIdx.ix3 0 r k)
    = gateGrad (daOf (F := Ideal) x7 y (ValueIdx.ix2 r k)) (x3 (ValueIdx.ix3 0 r k)) (x4 (ValueIdx.ix3 0 r k)) :=
  (ValueIdx.shapeCast_ab_1ab_apply _ _ 0 r k).trans (pay19_at x3 x4 r k _)
theorem duOf_at : duOf (F := Ideal) x3 x7 y (ValueIdx.ix3 0 r k)
    = daOf (F := Ideal) x7 y (ValueIdx.ix2 r k) * (x3 (ValueIdx.ix3 0 r k) * sig (x3 (ValueIdx.ix3 0 r k))) :=
  (ValueIdx.shapeCast_ab_1ab_apply _ _ 0 r k).trans (pay20_at x3 r k _)

/-- Two pieces of the wide weights side by side. -/
theorem wide_at (h h' hc) : concatenate S1024x768 1 [⟨S1024x384, shapeCast S1024x384 (wide0 x5) h⟩, ⟨S1024x384, shapeCast S1024x384 (wide1 x5) h'⟩] hc (ValueIdx.ix2 d k)
    = x5 (ValueIdx.ix3 ⟨k.val / 384, by omega⟩ d ⟨k.val % 384, by omega⟩) := by
  refine (beside _ _ _ d k).trans ?_
  split
  · next hk =>
    refine (ValueIdx.shapeCast_1ab_ab_apply (wide0 x5) _ d _).trans (congrArg x5 (funext fun a => Fin.ext ?_))
    match a with
    | ⟨0, _⟩ => show 0 + 1 * 0 = k.val / 384; omega
    | ⟨1, _⟩ => show 0 + 1 * d.val = d.val; omega
    | ⟨2, _⟩ => show 0 + 1 * (k.val % 384) = k.val % 384; omega
  · next hk =>
    refine (ValueIdx.shapeCast_1ab_ab_apply (wide1 x5) _ d _).trans (congrArg x5 (funext fun a => Fin.ext ?_))
    match a with
    | ⟨0, _⟩ => show 1 + 1 * 0 = k.val / 384; omega
    | ⟨1, _⟩ => show 0 + 1 * d.val = d.val; omega
    | ⟨2, _⟩ => show 0 + 1 * (k.val % 384) = k.val % 384; omega

/-- One block of columns' part of the gradient of the normalised rows. -/
theorem stepOf_at : stepOf (F := Ideal) x3 x4 x5 x6 x7 y (ValueIdx.ix2 r d)
    = ∑ k : Fin 768, dgOf (F := Ideal) x3 x4 x7 y (ValueIdx.ix3 0 r k) * x5 (ValueIdx.ix3 ⟨k.val / 384, by omega⟩ d ⟨k.val % 384, by omega⟩)
      + ∑ k : Fin 768, duOf (F := Ideal) x3 x7 y (ValueIdx.ix3 0 r k) * x6 (ValueIdx.ix3 ⟨k.val / 384, by omega⟩ d ⟨k.val % 384, by omega⟩) := by
  unfold stepOf k0_pay23
  refine congrArg₂ (· + ·) ?_ ?_
  · refine (matmul_nt _ rfl _ _ _ _ (ValueIdx.ix2 r d)).trans ?_
    show Ideal.ofBits .f32 0x00000000#32 + _ = _
    rw [Ideal.ofBits_zero_f32, zero_add]
    exact Finset.sum_congr rfl fun k _ => congrArg₂ (· * ·) (ValueIdx.shapeCast_ab_1ab_apply _ _ 0 r k).symm (wide_at x5 d k _ _ _)
  · refine (matmul_nt _ rfl _ _ _ _ (ValueIdx.ix2 r d)).trans ?_
    show Ideal.ofBits .f32 0x00000000#32 + _ = _
    rw [Ideal.ofBits_zero_f32, zero_add]
    exact Finset.sum_congr rfl fun k _ => congrArg₂ (· * ·) (ValueIdx.shapeCast_ab_1ab_apply _ _ 0 r k).symm (wide_at x6 d k _ _ _)

theorem pay1_at (a b : FVec Ideal S512x1024 .f32) (i : S512x1024.Idx) : k0_pay1 (F := Ideal) a b i = a i + b i := by
  unfold k0_pay1
  rw [shapeCast_self]
  rfl

theorem pay10_eq : k0_pay10 (F := Ideal) x0 = fun i => x0 i := by
  unfold k0_pay10
  exact shapeCast_self _ _

theorem pay11_at (i : S512x1024.Idx) : k0_pay11 (F := Ideal) i = (0 : EReal) := by
  unfold k0_pay11
  rw [shapeCast_self]
  exact Ideal.ofBits_zero_f32

theorem pay6_at : k0_pay6 (F := Ideal) x1 (ValueIdx.ix2 r d)
    = x1 (ValueIdx.ix2 r d) * inv (Ideal.ofBits .f32 0x44800000#32) (Ideal.ofBits .f32 0x358637BD#32) fun k => x1 (ValueIdx.ix2 r k) :=
  unit_at x1 0x44800000#32 0x358637BD#32 _ _ _ _ _ r d

/-- The stored normalised rows. -/
theorem pay4_at : k0_pay4 (F := Ideal) x1 x2 (ValueIdx.ix2 r d)
    = x1 (ValueIdx.ix2 r d) * inv (Ideal.ofBits .f32 0x44800000#32) (Ideal.ofBits .f32 0x358637BD#32) (fun k => x1 (ValueIdx.ix2 r k)) * x2 (ValueIdx.ix2 0 d) := by
  unfold k0_pay4
  rw [shapeCast_self]
  exact congrArg₂ (· * ·) (unit_at x1 0x44800000#32 0x358637BD#32 _ _ _ _ _ r d) (over_rows x2 _ r d)

/-- The stored gradient of the rows. -/
theorem pay2_at (a : FVec Ideal S512x1024 .f32) : k0_pay2 (F := Ideal) (k0_pay7 x1 x2 a) (k0_pay8 x1) x0 (ValueIdx.ix2 r d)
    = x0 (ValueIdx.ix2 r d) + kgrad (Ideal.ofBits .f32 0x44800000#32) (Ideal.ofBits .f32 0x358637BD#32) (fun k => x1 (ValueIdx.ix2 r k))
      (fun k => a (ValueIdx.ix2 r k) * x2 (ValueIdx.ix2 0 k)) d := by
  unfold k0_pay2 k0_pay7 k0_pay8 k0_pay6
  rw [shapeCast_self]
  have e : (fun k => a (ValueIdx.ix2 r k) * x2 (ValueIdx.ix2 0 k)) = fun k => mulf a (broadcastTo S512x1024 x2 broadcasts_S1x1024_S512x1024) (ValueIdx.ix2 r k) :=
    funext fun k => congrArg (a (ValueIdx.ix2 r k) * ·) (over_rows x2 _ r k).symm
  rw [e]
  exact congrArg (x0 (ValueIdx.ix2 r d) + ·) (block_grad x1 _ 0x44800000#32 0x358637BD#32 _ _ _ _ _ _ _ _ _ _ r d)

/-- The stored gradient of the gain. -/
theorem pay3_at (a : FVec Ideal S512x1024 .f32) : k0_pay3 (F := Ideal) a (k0_pay6 x1) xo (ValueIdx.ix2 0 d)
    = xo (ValueIdx.ix2 0 d) + ∑ r : Fin 512, a (ValueIdx.ix2 r d) * k0_pay6 (F := Ideal) x1 (ValueIdx.ix2 r d) := by
  unfold k0_pay3
  rw [shapeCast_self]
  exact congrArg (xo (ValueIdx.ix2 0 d) + ·) (col_sum _ _ _ _ _ d)

end kernel

end Cert.Proof.Ffn
end
-- ==== Proof.Ffn.Blocks.lean ====
/- The gradient through the gated feed forward, kernel side: where the blocks lie in the arrays, and what the arrays hold. -/
module

public import proofs.«01_k».proof.Proof.Ffn.Ref

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem
open Cert.FfnRefIdeal.Read

theorem lt_64 (t : Fin cfg0.N) : t.val < 64 := by
  have h : t.val < grid0.N := t.isLt
  rw [N_0] at h; exact h

theorem tile_le (t : Fin cfg0.N) : t.val / 4 * 512 + 512 ≤ 8192 := by have := lt_64 t; omega

/-- Where each window's block lies: a tile of rows, one block of columns, both, or the whole array. -/
theorem idxs : ∀ t : Fin cfg0.N,
    ((win0_0.index t (0 : Fin 2) = t.val / 4 ∧ win0_0.index t (1 : Fin 2) = 0) ∧ (win0_1.index t (0 : Fin 2) = t.val / 4 ∧ win0_1.index t (1 : Fin 2) = 0)
      ∧ (win0_11.index t (0 : Fin 2) = t.val / 4 ∧ win0_11.index t (1 : Fin 2) = 0) ∧ (win0_12.index t (0 : Fin 2) = t.val / 4 ∧ win0_12.index t (1 : Fin 2) = 0))
    ∧ ((win0_2.index t (0 : Fin 2) = 0 ∧ win0_2.index t (1 : Fin 2) = 0) ∧ (win0_13.index t (0 : Fin 2) = 0 ∧ win0_13.index t (1 : Fin 2) = 0))
    ∧ ((win0_3.index t (0 : Fin 3) = t.val % 4 ∧ win0_3.index t (1 : Fin 3) = t.val / 4 ∧ win0_3.index t (2 : Fin 3) = 0)
      ∧ (win0_4.index t (0 : Fin 3) = t.val % 4 ∧ win0_4.index t (1 : Fin 3) = t.val / 4 ∧ win0_4.index t (2 : Fin 3) = 0)
      ∧ (win0_8.index t (0 : Fin 3) = t.val % 4 ∧ win0_8.index t (1 : Fin 3) = t.val / 4 ∧ win0_8.index t (2 : Fin 3) = 0)
      ∧ (win0_9.index t (0 : Fin 3) = t.val % 4 ∧ win0_9.index t (1 : Fin 3) = t.val / 4 ∧ win0_9.index t (2 : Fin 3) = 0)
      ∧ (win0_10.index t (0 : Fin 3) = t.val % 4 ∧ win0_10.index t (1 : Fin 3) = t.val / 4 ∧ win0_10.index t (2 : Fin 3) = 0))
    ∧ (win0_5.index t (0 : Fin 3) = t.val % 4 ∧ win0_5.index t (1 : Fin 3) = 0 ∧ win0_5.index t (2 : Fin 3) = 0)
    ∧ (win0_6.index t (0 : Fin 3) = t.val % 4 ∧ win0_6.index t (1 : Fin 3) = 0 ∧ win0_6.index t (2 : Fin 3) = 0)
    ∧ (win0_7.index t (0 : Fin 3) = t.val % 4 ∧ win0_7.index t (1 : Fin 3) = 0 ∧ win0_7.index t (2 : Fin 3) = 0) :=
  (by decide +kernel : ∀ t : Fin grid0.N, _)

/-- A block of a rank-three array at block index `(a, b, 0)`. -/
theorem blk3 {N0 N1 N2 B0 B1 a b d x y : Nat} (i : (⟨3, ![N0, N1, N2]⟩ : Shape).Idx) (j : (⟨3, ![B0, B1, N2]⟩ : Shape).Idx)
    (e : a = x ∧ b = y ∧ d = 0) (k0 : Fin N0) (k1 : Fin N1) (hk0 : k0.val = x * B0 + (j 0).val) (hk1 : k1.val = y * B1 + (j 1).val)
    (h0 : (i 0).val = a * B0 + 1 * (j 0).val) (h1 : (i 1).val = b * B1 + 1 * (j 1).val) (h2 : (i 2).val = d * N2 + 1 * (j 2).val) :
    i = ValueIdx.ix3 k0 k1 (j 2) := by
  obtain ⟨rfl, rfl, rfl⟩ := e
  funext k; apply Fin.ext
  match k with
  | ⟨0, _⟩ => exact h0.trans (by rw [Nat.one_mul]; exact hk0.symm)
  | ⟨1, _⟩ => exact h1.trans (by rw [Nat.one_mul]; exact hk1.symm)
  | ⟨2, _⟩ => exact h2.trans (by rw [Nat.zero_mul, Nat.zero_add, Nat.one_mul])

/-- The tile of rows of point `t`, and the block of columns. -/
abbrev at' (t : Fin cfg0.N) (j : S512x1024.Idx) : S8192x1024.Idx := row (t.val / 4 * 512) (tile_le t) j
abbrev rowAt (t : Fin cfg0.N) (r : Fin 512) : Fin 8192 := ⟨t.val / 4 * 512 + r.val, by have := tile_le t; omega⟩
abbrev fAt (t : Fin cfg0.N) : Fin 4 := ⟨t.val % 4, by omega⟩
abbrev at3 (t : Fin cfg0.N) (j : S1x512x768.Idx) : S4x8192x768.Idx := ValueIdx.ix3 (fAt t) (rowAt t (j 1)) (j 2)
abbrev atW (t : Fin cfg0.N) (j : S2x1024x384.Idx) : S8x1024x384.Idx :=
  ValueIdx.ix3 ⟨t.val % 4 * 2 + (j 0).val, by have h : (j 0).val < 2 := (j 0).isLt; omega⟩ (j 1) (j 2)
abbrev atT (t : Fin cfg0.N) (j : S2x384x1024.Idx) : S8x384x1024.Idx :=
  ValueIdx.ix3 ⟨t.val % 4 * 2 + (j 0).val, by have h : (j 0).val < 2 := (j 0).isLt; omega⟩ (j 1) (j 2)

theorem at_ix (t : Fin cfg0.N) (r : Fin 512) (d : Fin 1024) : at' t (ValueIdx.ix2 r d) = ValueIdx.ix2 (rowAt t r) d := idx2_ext rfl rfl

theorem first0 (t : Fin cfg0.N) (j : S1x512x768.Idx) : (fAt t).val = t.val % 4 * 1 + (j 0).val := by
  have h : (j 0).val < 1 := (j 0).isLt
  show t.val % 4 = _
  omega

theorem emb0 (t : Fin cfg0.N) (j : S512x1024.Idx) : ((cfg0.win 0).blk t).view.emb j = at' t j := blk_row _ _ j (idxs t).1.1 rfl rfl
theorem emb1 (t : Fin cfg0.N) (j : S512x1024.Idx) : ((cfg0.win 1).blk t).view.emb j = at' t j := blk_row _ _ j (idxs t).1.2.1 rfl rfl
theorem emb2 (t : Fin cfg0.N) (j : S1x1024.Idx) : ((cfg0.win 2).blk t).view.emb j = j := blk_whole _ j (idxs t).2.1.1 rfl rfl
theorem emb3 (t : Fin cfg0.N) (j : S1x512x768.Idx) : ((cfg0.win 3).blk t).view.emb j = at3 t j := blk3 _ j (idxs t).2.2.1.1 (fAt t) (rowAt t (j 1)) (first0 t j) rfl rfl rfl rfl
theorem emb4 (t : Fin cfg0.N) (j : S1x512x768.Idx) : ((cfg0.win 4).blk t).view.emb j = at3 t j := blk3 _ j (idxs t).2.2.1.2.1 (fAt t) (rowAt t (j 1)) (first0 t j) rfl rfl rfl rfl
theorem emb8 (t : Fin cfg0.N) (j : S1x512x768.Idx) : ((cfg0.win 8).blk t).view.emb j = at3 t j := blk3 _ j (idxs t).2.2.1.2.2.1 (fAt t) (rowAt t (j 1)) (first0 t j) rfl rfl rfl rfl
theorem emb9 (t : Fin cfg0.N) (j : S1x512x768.Idx) : ((cfg0.win 9).blk t).view.emb j = at3 t j := blk3 _ j (idxs t).2.2.1.2.2.2.1 (fAt t) (rowAt t (j 1)) (first0 t j) rfl rfl rfl rfl
theorem emb10 (t : Fin cfg0.N) (j : S1x512x768.Idx) : ((cfg0.win 10).blk t).view.emb j = at3 t j := blk3 _ j (idxs t).2.2.1.2.2.2.2 (fAt t) (rowAt t (j 1)) (first0 t j) rfl rfl rfl rfl
theorem emb5 (t : Fin cfg0.N) (j : S2x1024x384.Idx) : ((cfg0.win 5).blk t).view.emb j = atW t j :=
  blk3 _ j (idxs t).2.2.2.1 ⟨t.val % 4 * 2 + (j 0).val, _⟩ (j 1) rfl (by rw [Nat.zero_mul, Nat.zero_add]) rfl rfl rfl
theorem emb6 (t : Fin cfg0.N) (j : S2x1024x384.Idx) : ((cfg0.win 6).blk t).view.emb j = atW t j :=
  blk3 _ j (idxs t).2.2.2.2.1 ⟨t.val % 4 * 2 + (j 0).val, _⟩ (j 1) rfl (by rw [Nat.zero_mul, Nat.zero_add]) rfl rfl rfl
theorem emb7 (t : Fin cfg0.N) (j : S2x384x1024.Idx) : ((cfg0.win 7).blk t).view.emb j = atT t j :=
  blk3 _ j (idxs t).2.2.2.2.2 ⟨t.val % 4 * 2 + (j 0).val, _⟩ (j 1) rfl (by rw [Nat.zero_mul, Nat.zero_add]) rfl rfl rfl
theorem emb11 (t : Fin cfg0.N) (j : S512x1024.Idx) : ((cfg0.win 11).blk t).view.emb j = at' t j := blk_row _ _ j (idxs t).1.2.2.1 rfl rfl
theorem emb12 (t : Fin cfg0.N) (j : S512x1024.Idx) : ((cfg0.win 12).blk t).view.emb j = at' t j := blk_row _ _ j (idxs t).1.2.2.2 rfl rfl
theorem emb13 (t : Fin cfg0.N) (j : S1x1024.Idx) : ((cfg0.win 13).blk t).view.emb j = j := blk_whole _ j (idxs t).2.1.2 rfl rfl

/-- Every row is in the tile of the last point that meets it. -/
theorem cover (i : S8192x1024.Idx) : ∃ (t : Fin cfg0.N) (j : S512x1024.Idx), t.val % 4 = 3 ∧ at' t j = i := by
  obtain ⟨r, d, rfl⟩ := idx2_cases i
  have hr : r.val < 8192 := r.isLt
  have ht : r.val / 512 * 4 + 3 < cfg0.N := by show r.val / 512 * 4 + 3 < grid0.N; rw [N_0]; omega
  refine ⟨⟨r.val / 512 * 4 + 3, ht⟩, ValueIdx.ix2 ⟨r.val % 512, by omega⟩ d, by show (r.val / 512 * 4 + 3) % 4 = 3; omega, ?_⟩
  exact idx2_ext (by show (r.val / 512 * 4 + 3) / 4 * 512 + r.val % 512 = r.val; omega) rfl

/-- Every laid out entry is in the block of one point. -/
theorem cover3 (i : S4x8192x768.Idx) : ∃ (t : Fin cfg0.N) (j : S1x512x768.Idx), at3 t j = i := by
  obtain ⟨f, r, k, rfl⟩ := idx3_cases i
  have hr : r.val < 8192 := r.isLt
  have hf : f.val < 4 := f.isLt
  have ht : r.val / 512 * 4 + f.val < cfg0.N := by show r.val / 512 * 4 + f.val < grid0.N; rw [N_0]; omega
  refine ⟨⟨r.val / 512 * 4 + f.val, ht⟩, ValueIdx.ix3 0 ⟨r.val % 512, by omega⟩ k, ?_⟩
  funext a; apply Fin.ext
  match a with
  | ⟨0, _⟩ => show (r.val / 512 * 4 + f.val) % 4 = f.val; omega
  | ⟨1, _⟩ => show (r.val / 512 * 4 + f.val) / 4 * 512 + r.val % 512 = r.val; omega
  | ⟨2, _⟩ => rfl

/-- The blocks the body reads at point `t`. -/
theorem iblks {F : FTy → Type} [FloatOps F] (m : (ℓ : Loc nD τ sig) → Buf (Elt F) ℓ) (c : Dev nD) (t : Fin cfg0.N) :
    (iblk m c 0 t = (fun j => V m c main_arg0 (at' t j)) ∧ iblk m c 1 t = (fun j => V m c main_arg1 (at' t j)) ∧ iblk m c 2 t = V m c main_v11)
    ∧ iblk m c 3 t = (fun j => V m c main_v29 (at3 t j)) ∧ iblk m c 4 t = (fun j => V m c main_v34 (at3 t j))
    ∧ iblk m c 5 t = (fun j => V m c main_v3 (atW t j)) ∧ iblk m c 6 t = (fun j => V m c main_v7 (atW t j))
    ∧ iblk m c 7 t = fun j => V m c main_v10 (atT t j) := by
  unfold iblk
  generalize V m c = X
  refine ⟨⟨?_, ?_, ?_⟩, ?_, ?_, ?_, ?_, ?_⟩ <;> funext j
  · exact congrArg (X main_arg0) (emb0 t j)
  · exact congrArg (X main_arg1) (emb1 t j)
  · exact congrArg (X main_v11) (emb2 t j)
  · exact congrArg (X main_v29) (emb3 t j)
  · exact congrArg (X main_v34) (emb4 t j)
  · exact congrArg (X main_v3) (emb5 t j)
  · exact congrArg (X main_v7) (emb6 t j)
  · exact congrArg (X main_v10) (emb7 t j)

/-! ## The arrays the region finds -/

variable (m : (ℓ : Loc nD τ sig) → Buf (Elt Ideal) ℓ) (c : Dev nD)

abbrev ct : Vec Ideal S8192x1024 .f32 := m ((c : Thread nD τ).loc main_arg0)
abbrev xs : Vec Ideal S8192x1024 .f32 := m ((c : Thread nD τ).loc main_arg1)
abbrev gain : Vec Ideal S1024 .f32 := m ((c : Thread nD τ).loc main_arg2)
abbrev wg : Vec Ideal S1024x2816 .f32 := m ((c : Thread nD τ).loc main_arg3)
abbrev wu : Vec Ideal S1024x2816 .f32 := m ((c : Thread nD τ).loc main_arg4)
abbrev wd : Vec Ideal S2816x1024 .f32 := m ((c : Thread nD τ).loc main_arg5)

theorem Vgain (j : Fin 1024) : V m c main_v11 (ValueIdx.ix2 0 j) = gain m c (ValueIdx.ix1 j) := by
  unfold Gen.V
  after_reads_at
  exact congrArg (m _) (funext fun a => match a with | ⟨0, _⟩ => rfl)

/-- The zero that pads. -/
theorem zero_pad (i : S_.Idx) : sitofp (F := Ideal) .bf16 (constantI S_ 32 0#32) i = (0 : EReal) := by
  show ((((0#32 : BitVec 32).toInt : ℝ)) : EReal) = 0
  simp

/-- Weights cut in pieces of columns, zeros after each. -/
abbrev wide (w : Vec Ideal S1024x2816 .f32) : FVec Ideal S8x1024x384 .bf16 :=
  pad S8x1024x384 ![0, 0, 0] ![0, 0, 32] ![0, 0, 0] (transpose S8x1024x352 [1, 0, 2] (shapeCast S1024x8x352 (fun i => w i) shapeCasts_S1024x2816_S1024x8x352) transposes_S1024x8x352_S8x1024x352_1_0_2)
    (sitofp (F := Ideal) .bf16 (constantI S_ 32 0#32)) pads_S8x1024x352_S8x1024x384_000_000_0320 h_S_

theorem V3 : V m c main_v3 = wide (wg m c) := by
  unfold Gen.V
  after_reads_simp
  rfl
theorem V7 : V m c main_v7 = wide (wu m c) := by
  unfold Gen.V
  after_reads_simp
  rfl
theorem V10 : V m c main_v10 = pad S8x384x1024 ![0, 0, 0] ![0, 32, 0] ![0, 0, 0] (shapeCast S8x352x1024 (fun i => wd m c i) shapeCasts_S2816x1024_S8x352x1024)
    (sitofp (F := Ideal) .bf16 (constantI S_ 32 0#32)) pads_S8x352x1024_S8x384x1024_000_0320_000 h_S_ := by
  unfold Gen.V
  after_reads_simp
  rfl

theorem wide_at' (w : Vec Ideal S1024x2816 .f32) (f : Fin 4) (d : Fin 1024) (k : Fin 768) (p : Fin 8) (q : Fin 384) (hp : p.val = 2 * f.val + k.val / 384) (hq : q.val = k.val % 384) :
    wide w (ValueIdx.ix3 p d q) = lay (fun q => w (ValueIdx.ix2 d q)) f k :=
  wide_piece (fun i => w i) (sitofp (F := Ideal) .bf16 (constantI S_ 32 0#32)) zero_pad _ _ pads_S8x1024x352_S8x1024x384_000_000_0320 _ f d k p q hp hq

theorem V10_at (f : Fin 4) (d : Fin 1024) (k : Fin 768) (p : Fin 8) (q : Fin 384) (hp : p.val = 2 * f.val + k.val / 384) (hq : q.val = k.val % 384) :
    V m c main_v10 (ValueIdx.ix3 p q d) = lay (fun q => wd m c (ValueIdx.ix2 q d)) f k := by
  rw [V10]
  exact tall_piece (fun i => wd m c i) (sitofp (F := Ideal) .bf16 (constantI S_ 32 0#32)) zero_pad _ pads_S8x352x1024_S8x384x1024_000_0320_000 _ f d k p q hp hq

/-- The product of laid out weights with the normalised rows. -/
theorem dot3 (l : FVec Ideal S4x1024x768 .bf16) (r : FVec Ideal S8192x1024 .bf16) (f : Fin 4) (k : Fin 768) (t : Fin 8192) :
    Host.dotGeneral dot_S4x1024x768_S8192x1024_S4x768x8192_1_1_02_0_n_n none l r (ValueIdx.ix3 f k t)
      = ∑ d : Fin 1024, l (ValueIdx.ix3 f d k) * r (ValueIdx.ix2 t d) := by
  unfold Host.dotGeneral
  rw [Ideal.dotGeneral_apply]
  refine sum_contr _ 1024 rfl rfl _ _ fun q d hd => congrArg₂ (· * ·) (congrArg l ?_) (congrArg r ?_)
  · funext a; apply Fin.ext
    match a with
    | ⟨0, _⟩ => rfl
    | ⟨1, _⟩ => exact hd
    | ⟨2, _⟩ => rfl
  · funext a; apply Fin.ext
    match a with
    | ⟨0, _⟩ => rfl
    | ⟨1, _⟩ => exact hd

/-- The product of weights in pieces with the normalised rows, rows first. -/
abbrev savedOf (W : FVec Ideal S8x1024x384 .bf16) (h : FVec Ideal S8192x1024 .bf16) : FVec Ideal S4x8192x768 .f32 :=
  transpose S4x8192x768 [0, 2, 1] (Host.dotGeneral (F := Ideal) dot_S4x1024x768_S8192x1024_S4x768x8192_1_1_02_0_n_n none
    (shapeCast S4x1024x768 (transpose S4x1024x2x384 [0, 2, 1, 3] (shapeCast S4x2x1024x384 W shapeCasts_S8x1024x384_S4x2x1024x384) transposes_S4x2x1024x384_S4x1024x2x384_0_2_1_3)
      shapeCasts_S4x1024x2x384_S4x1024x768) h) transposes_S4x768x8192_S4x8192x768_0_2_1

/-- The saved products, from the weights they are taken with. -/
abbrev saved (w : Vec Ideal S1024x2816 .f32) : FVec Ideal S4x8192x768 .f32 := savedOf (wide w) fun i => val_main_v16 (xs m c) (gain m c) i

theorem V29 : V m c main_v29 = saved m c (wg m c) := by
  unfold Gen.V
  after_reads_simp
  refine congrArg₂ savedOf ?_ ?_
  · rfl
  · rfl
theorem V34 : V m c main_v34 = saved m c (wu m c) := by
  unfold Gen.V
  after_reads_simp
  refine congrArg₂ savedOf ?_ ?_
  · rfl
  · rfl

/-- The saved products are the forward's, laid out. -/
theorem saved_at (w : Vec Ideal S1024x2816 .f32) (f : Fin 4) (t : Fin 8192) (k : Fin 768) : saved m c w (ValueIdx.ix3 f t k)
    = lay (fun q => ∑ d : Fin 1024, val_main_v16 (xs m c) (gain m c) (ValueIdx.ix2 t d) * w (ValueIdx.ix2 d q)) f k := by
  unfold saved savedOf
  rw [transpose_apply [0, 2, 1] _ _ (ValueIdx.ix3 f t k) (ValueIdx.ix3 f k t) (fun b => by match b with | ⟨0, _⟩ => rfl | ⟨1, _⟩ => rfl | ⟨2, _⟩ => rfl), dot3]
  have e : ∀ d : Fin 1024, shapeCast S4x1024x768 (transpose S4x1024x2x384 [0, 2, 1, 3] (shapeCast S4x2x1024x384 (wide w) shapeCasts_S8x1024x384_S4x2x1024x384) transposes_S4x2x1024x384_S4x1024x2x384_0_2_1_3)
      shapeCasts_S4x1024x2x384_S4x1024x768 (ValueIdx.ix3 f d k) = lay (fun q => w (ValueIdx.ix2 d q)) f k := fun d =>
    (pairs_at (wide w) _ _ _ f d k).trans (wide_at' w f d k _ _ rfl rfl)
  simp only [e]
  unfold lay
  split
  · exact Finset.sum_congr rfl fun d _ => mul_comm _ _
  · exact Finset.sum_eq_zero fun d _ => zero_mul _

end Cert.Proof.Ffn
end
-- ==== Proof.Ffn.Value.lean ====
/- The gradient through the gated feed forward over the reals: the kernel's six results are the reference's. -/
module

public import proofs.«01_k».proof.Proof.Ffn.Blocks

@[expose] public section

set_option maxRecDepth 16384

noncomputable section

namespace Cert.Proof.Ffn

open Cert.FfnIdeal Cert.FfnIdeal.Gen Cert.FfnIdeal.Value Idealize.ShloMosaic Idealize.ShloMosaic.TcCoe Idealize.SL.Sem Cert.Proof.Rms
open Cert.FfnRefIdeal.Read

variable (m : (ℓ : Loc nD τ sig) → Buf (Elt Ideal) ℓ) (c : Dev nD)

/-- The reference's stages at the kernel's arguments. -/
abbrev rG : FVec Ideal Cert.FfnRefIdeal.S8192x2816 .f32 := val_main_v17 (xs m c) (gain m c) (wg m c)
abbrev rU : FVec Ideal Cert.FfnRefIdeal.S8192x2816 .f32 := val_main_v20 (xs m c) (gain m c) (wu m c)
abbrev rD : FVec Ideal Cert.FfnRefIdeal.S8192x2816 .f32 := val_main_v26 (ct m c) (wd m c)
abbrev rdg : FVec Ideal Cert.FfnRefIdeal.S8192x2816 .f32 := val_main_v30 (ct m c) (xs m c) (gain m c) (wg m c) (wu m c) (wd m c)
abbrev rdu : FVec Ideal Cert.FfnRefIdeal.S8192x2816 .f32 := val_main_v27 (ct m c) (xs m c) (gain m c) (wg m c) (wd m c)
abbrev rdh : FVec Ideal S8192x1024 .f32 := val_main_v32 (ct m c) (xs m c) (gain m c) (wg m c) (wu m c) (wd m c)

/-- The six results, as the reference computes them. -/
abbrev gact : Vec Ideal S4x8192x768 .bf16 := val_main_v58 (xs m c) (gain m c) (wg m c) (wu m c)
abbrev gdg : Vec Ideal S4x8192x768 .bf16 := val_main_v63 (ct m c) (xs m c) (gain m c) (wg m c) (wu m c) (wd m c)
abbrev gdu : Vec Ideal S4x8192x768 .bf16 := val_main_v68 (ct m c) (xs m c) (gain m c) (wg m c) (wd m c)
abbrev gh : Vec Ideal S8192x1024 .bf16 := val_main_v69 (xs m c) (gain m c)
abbrev gx : Vec Ideal S8192x1024 .f32 := val_main_v53 (ct m c) (xs m c) (gain m c) (wg m c) (wu m c) (wd m c)
abbrev gg : Vec Ideal S1x1024 .f32 := val_main_v70 (ct m c) (xs m c) (gain m c) (wg m c) (wu m c) (wd m c)

/-! ## The blocks -/

abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S1x1024 .f32 := iblk m c 2 t
abbrev b3 (t : Fin cfg0.N) : Vec Ideal S1x512x768 .f32 := iblk m c 3 t
abbrev b4 (t : Fin cfg0.N) : Vec Ideal S1x512x768 .f32 := iblk m c 4 t
abbrev b5 (t : Fin cfg0.N) : Vec Ideal S2x1024x384 .bf16 := iblk m c 5 t
abbrev b6 (t : Fin cfg0.N) : Vec Ideal S2x1024x384 .bf16 := iblk m c 6 t
abbrev b7 (t : Fin cfg0.N) : Vec Ideal S2x384x1024 .bf16 := iblk m c 7 t

/-- The tile of the incoming gradient, as the scratch keeps it. -/
abbrev yt (t : Fin cfg0.N) : FVec Ideal S512x1024 .bf16 := fun j => ct m c (at' t j)

theorem b0_eq (t : Fin cfg0.N) : b0 m c t = fun j => ct m c (at' t j) := by
  refine (iblks m c t).1.1.trans ?_
  rw [V_main_arg0]
theorem b0_at (t : Fin cfg0.N) (r : Fin 512) (d : Fin 1024) : b0 m c t (ValueIdx.ix2 r d) = ct m c (ValueIdx.ix2 (rowAt t r) d) := by
  rw [b0_eq]
  exact congrArg (ct m c) (at_ix t r d)
theorem keep_eq (t : Fin cfg0.N) : k0_pay10 (b0 m c t) = yt m c t := (pay10_eq _).trans (b0_eq m c t)
theorem b1_at (t : Fin cfg0.N) (r : Fin 512) (d : Fin 1024) : b1 m c t (ValueIdx.ix2 r d) = xs m c (ValueIdx.ix2 (rowAt t r) d) := by
  refine (congrFun (iblks m c t).1.2.1 _).trans ?_
  rw [V_main_arg1]
  exact congrArg (xs m c) (at_ix t r d)
theorem b2_at (t : Fin cfg0.N) (d : Fin 1024) : b2 m c t (ValueIdx.ix2 0 d) = gain m c (ValueIdx.ix1 d) :=
  (congrFun (iblks m c t).1.2.2 _).trans (Vgain m c d)
theorem b3_at (t : Fin cfg0.N) (r : Fin 512) (k : Fin 768) : b3 m c t (ValueIdx.ix3 0 r k) = lay (fun q => rG m c (ValueIdx.ix2 (rowAt t r) q)) (fAt t) k := by
  refine (congrFun (iblks m c t).2.1 _).trans ?_
  rw [V29]
  refine (saved_at m c (wg m c) (fAt t) (rowAt t r) k).trans (congrArg (lay · (fAt t) k) (funext fun q => ?_))
  exact (v17_at (xs m c) (gain m c) (wg m c) (rowAt t r) q).symm
theorem b4_at (t : Fin cfg0.N) (r : Fin 512) (k : Fin 768) : b4 m c t (ValueIdx.ix3 0 r k) = lay (fun q => rU m c (ValueIdx.ix2 (rowAt t r) q)) (fAt t) k := by
  refine (congrFun (iblks m c t).2.2.1 _).trans ?_
  rw [V34]
  refine (saved_at m c (wu m c) (fAt t) (rowAt t r) k).trans (congrArg (lay · (fAt t) k) (funext fun q => ?_))
  exact (v20_at (xs m c) (gain m c) (wu m c) (rowAt t r) q).symm
theorem b5_at (t : Fin cfg0.N) (d : Fin 1024) (k : Fin 768) :
    b5 m c t (ValueIdx.ix3 ⟨k.val / 384, by omega⟩ d ⟨k.val % 384, by omega⟩) = lay (fun q => wg m c (ValueIdx.ix2 d q)) (fAt t) k := by
  refine (congrFun (iblks m c t).2.2.2.1 _).trans ?_
  rw [V3]
  exact wide_at' (wg m c) (fAt t) d k _ _ (by show t.val % 4 * 2 + k.val / 384 = 2 * (t.val % 4) + k.val / 384; omega) rfl
theorem b6_at (t : Fin cfg0.N) (d : Fin 1024) (k : Fin 768) :
    b6 m c t (ValueIdx.ix3 ⟨k.val / 384, by omega⟩ d ⟨k.val % 384, by omega⟩) = lay (fun q => wu m c (ValueIdx.ix2 d q)) (fAt t) k := by
  refine (congrFun (iblks m c t).2.2.2.2.1 _).trans ?_
  rw [V7]
  exact wide_at' (wu m c) (fAt t) d k _ _ (by show t.val % 4 * 2 + k.val / 384 = 2 * (t.val % 4) + k.val / 384; omega) rfl
theorem b7_at (t : Fin cfg0.N) (d : Fin 1024) (k : Fin 768) :
    b7 m c t (ValueIdx.ix3 ⟨k.val / 384, by omega⟩ ⟨k.val % 384, by omega⟩ d) = lay (fun q => wd m c (ValueIdx.ix2 q d)) (fAt t) k :=
  (congrFun (iblks m c t).2.2.2.2.2 _).trans
    (V10_at m c (fAt t) d k _ _ (by show t.val % 4 * 2 + k.val / 384 = 2 * (t.val % 4) + k.val / 384; omega) rfl)

/-! ## What one point stores -/

/-- The gradient of the gated product. -/
theorem da_at (t : Fin cfg0.N) (r : Fin 512) (k : Fin 768) : daOf (F := Ideal) (b7 m c t) (yt m c t) (ValueIdx.ix2 r k)
    = lay (fun q => rD m c (ValueIdx.ix2 (rowAt t r) q)) (fAt t) k := by
  rw [daOf_at]
  simp only [b7_at, v26_at]
  unfold lay
  split
  · exact Finset.sum_congr rfl fun d _ => congrArg (· * _) (congrArg (ct m c) (at_ix t r d))
  · exact Finset.sum_eq_zero fun d _ => mul_zero _

/-- The stored gated product. -/
theorem act_at (t : Fin cfg0.N) : k0_pay18 (F := Ideal) (k0_pay17 (b3 m c t) (b4 m c t)) = fun j => gact m c (at3 t j) := by
  funext j
  obtain ⟨u, r, k, rfl⟩ := idx3_cases j
  obtain rfl : u = 0 := Subsingleton.elim _ _
  rw [pay18_at, b3_at, b4_at]
  refine Eq.trans ?_ (v58_at (xs m c) (gain m c) (wg m c) (wu m c) (fAt t) (rowAt t r) k).symm
  unfold lay
  split
  · exact (v22_at (xs m c) (gain m c) (wg m c) (wu m c) _).symm
  · exact mul_zero _

/-- The stored gradient of up's output, entry by entry. -/
theorem du_at (t : Fin cfg0.N) (r : Fin 512) (k : Fin 768) : duOf (F := Ideal) (b3 m c t) (b7 m c t) (yt m c t) (ValueIdx.ix3 0 r k)
    = lay (fun q => rdu m c (ValueIdx.ix2 (rowAt t r) q)) (fAt t) k := by
  rw [duOf_at, da_at, b3_at]
  unfold lay
  split
  · exact (v27_at (ct m c) (xs m c) (gain m c) (wg m c) (wd m c) _).symm
  · exact zero_mul _

/-- Every entry of the arguments is a real. -/
def AllReal : Prop := (∀ i, IsReal (ct m c i)) ∧ (∀ i, IsReal (xs m c i)) ∧ (∀ i, IsReal (gain m c i)) ∧ (∀ i, IsReal (wg m c i)) ∧ (∀ i, IsReal (wu m c i)) ∧ ∀ i, IsReal (wd m c i)

variable {m c} (hr : AllReal m c)
include hr

/-- The stored gradient of the gate's output, entry by entry. -/
theorem dg_at (t : Fin cfg0.N) (r : Fin 512) (k : Fin 768) : dgOf (F := Ideal) (b3 m c t) (b4 m c t) (b7 m c t) (yt m c t) (ValueIdx.ix3 0 r k)
    = lay (fun q => rdg m c (ValueIdx.ix2 (rowAt t r) q)) (fAt t) k := by
  obtain ⟨h0, h1, h2, h3, h4, h5⟩ := hr
  rw [dgOf_at, da_at, b3_at, b4_at]
  unfold lay
  split
  · exact (v30_at (ct m c) (xs m c) (gain m c) (wg m c) (wu m c) (wd m c) h0 h1 h2 h3 h4 h5 _ _).symm
  · show (0 : EReal) * 0 * _ = 0
    rw [zero_mul, zero_mul]

theorem dg_tile (t : Fin cfg0.N) : dgOf (F := Ideal) (b3 m c t) (b4 m c t) (b7 m c t) (yt m c t) = fun j => gdg m c (at3 t j) := by
  funext j
  obtain ⟨u, r, k, rfl⟩ := idx3_cases j
  obtain rfl : u = 0 := Subsingleton.elim _ _
  exact (dg_at hr t r k).trans (v63_at (ct m c) (xs m c) (gain m c) (wg m c) (wu m c) (wd m c) (fAt t) (rowAt t r) k).symm

omit hr in
theorem du_tile (t : Fin cfg0.N) : duOf (F := Ideal) (b3 m c t) (b7 m c t) (yt m c t) = fun j => gdu m c (at3 t j) := by
  funext j
  obtain ⟨u, r, k, rfl⟩ := idx3_cases j
  obtain rfl : u = 0 := Subsingleton.elim _ _
  exact (du_at m c t r k).trans (v68_at (ct m c) (xs m c) (gain m c) (wg m c) (wd m c) (fAt t) (rowAt t r) k).symm

variable (m c) in
omit hr in
/-- Block `f` of the columns' part of the gradient of the normalised rows. -/
def stepPart (f : Nat) (i : Fin 8192) (d : Fin 1024) : EReal :=
  if h : f < 4 then ∑ k : Fin 768, lay (fun q => rdg m c (ValueIdx.ix2 i q) * wg m c (ValueIdx.ix2 d q)) ⟨f, h⟩ k
    + ∑ k : Fin 768, lay (fun q => rdu m c (ValueIdx.ix2 i q) * wu m c (ValueIdx.ix2 d q)) ⟨f, h⟩ k else 0

theorem step_at (t : Fin cfg0.N) (r : Fin 512) (d : Fin 1024) :
    stepOf (F := Ideal) (b3 m c t) (b4 m c t) (b5 m c t) (b6 m c t) (b7 m c t) (yt m c t) (ValueIdx.ix2 r d) = stepPart m c (t.val % 4) (rowAt t r) d := by
  rw [stepOf_at, stepPart, dif_pos (by omega)]
  refine congrArg₂ (fun a b : EReal => a + b) (Finset.sum_congr rfl fun k _ => ?_) (Finset.sum_congr rfl fun k _ => ?_)
  · rw [dg_at hr, b5_at, lay_mul]
  · rw [du_at, b6_at, lay_mul]

omit hr in
/-- The four parts together. -/
theorem steps_sum (i : Fin 8192) (d : Fin 1024) : ∑ f ∈ Finset.range 4, stepPart m c f i d = rdh m c (ValueIdx.ix2 i d) := by
  refine Eq.trans ?_ (v32_at (ct m c) (xs m c) (gain m c) (wg m c) (wu m c) (wd m c) i d).symm
  rw [Finset.sum_range, Finset.sum_congr rfl fun f _ => dif_pos (c := f.val < 4) f.isLt, Finset.sum_add_distrib]
  rw [lay_sum (fun q => rdg m c (ValueIdx.ix2 i q) * wg m c (ValueIdx.ix2 d q)), lay_sum (fun q => rdu m c (ValueIdx.ix2 i q) * wu m c (ValueIdx.ix2 d q))]
  exact add_comm _ _

/-! ## The scratch across points -/

variable (m c) in
omit hr in
/-- What the second scratch holds after point `t`. -/
abbrev accAt (t : Fin cfg0.N) : FVec Ideal S512x1024 .f32 := fun j => ∑ f ∈ Finset.range (t.val % 4 + 1), stepPart m c f (rowAt t (j 0)) (j 1)

theorem first_acc (t : Fin cfg0.N) (h : t.val % 4 = 0) :
    k0_pay1 (k0_pay11 (F := Ideal)) (stepOf (F := Ideal) (b3 m c t) (b4 m c t) (b5 m c t) (b6 m c t) (b7 m c t) (yt m c t)) = accAt m c t := by
  funext j
  obtain ⟨r, d, rfl⟩ := idx2_cases j
  rw [pay1_at, pay11_at, zero_add, step_at hr]
  show _ = ∑ f ∈ Finset.range (t.val % 4 + 1), stepPart m c f (rowAt t r) d
  rw [h, Finset.sum_range_one]

theorem next_acc (t s : Fin cfg0.N) (e : s.val + 1 = t.val) (h : ¬t.val % 4 = 0) :
    k0_pay1 (accAt m c s) (stepOf (F := Ideal) (b3 m c t) (b4 m c t) (b5 m c t) (b6 m c t) (b7 m c t) (yt m c t)) = accAt m c t := by
  funext j
  obtain ⟨r, d, rfl⟩ := idx2_cases j
  rw [pay1_at, step_at hr]
  show ∑ f ∈ Finset.range (s.val % 4 + 1), stepPart m c f (rowAt s r) d + _ = ∑ f ∈ Finset.range (t.val % 4 + 1), stepPart m c f (rowAt t r) d
  rw [show s.val % 4 + 1 = t.val % 4 by omega, show rowAt s r = rowAt t r from Fin.ext (by show s.val / 4 * 512 + r.val = t.val / 4 * 512 + r.val; omega), Finset.sum_range_succ]

omit hr in
theorem same_tile (t s : Fin cfg0.N) (e : s.val + 1 = t.val) (h : ¬t.val % 4 = 0) : yt m c s = yt m c t := by
  funext j
  obtain ⟨r, d, rfl⟩ := idx2_cases j
  show ct m c (at' s _) = ct m c (at' t _)
  rw [show at' s (ValueIdx.ix2 r d) = at' t (ValueIdx.ix2 r d) from idx2_ext (by show s.val / 4 * 512 + r.val = t.val / 4 * 512 + r.val; omega) rfl]

variable (m c) in
omit hr in
/-- The point before. -/
abbrev before (t : Fin cfg0.N) := outsAt0 m c (t.val - 1) (Nat.lt_of_le_of_lt (Nat.sub_le _ _) t.isLt)

/-- What both scratches hold after a point that is not the last of its tile. -/
theorem kept (n : Nat) (hn : n < cfg0.N) (h3 : ¬n % 4 = 3) :
    (outsAt0 m c n hn).2.2.2.2.2.2.1 = yt m c ⟨n, hn⟩ ∧ (outsAt0 m c n hn).2.2.2.2.2.2.2 = accAt m c ⟨n, hn⟩ := by
  induction n with
  | zero =>
    rw [outsAt0_A m c ⟨0, hn⟩ rfl rfl h3]
    dsimp only
    obtain ⟨-, -, -, -, e0, e1⟩ := outsA (F := Ideal) c _ _ _ _ _ _ _ _ _ _ _ _ _ _ _ _ _ _ _ _ _ _ _ _ _ _ _ _ _ _ _ _ _ ((hcond0_0 ⟨0, hn⟩).mpr rfl) ((hcond0_1 ⟨0, hn⟩).mpr rfl)
      (fun h' => h3 ((hcond0_2 ⟨0, hn⟩).mp h')) (b0 m c ⟨0, hn⟩) (b1 m c ⟨0, hn⟩) (b2 m c ⟨0, hn⟩) (b3 m c ⟨0, hn⟩) (b4 m c ⟨0, hn⟩) (b5 m c ⟨0, hn⟩) (b6 m c ⟨0, hn⟩) (b7 m c ⟨0, hn⟩)
    rw [keep_eq] at e0 e1
    exact ⟨e0, e1.trans (first_acc hr _ rfl)⟩
  | succ n ih =>
    by_cases h1 : (n + 1) % 4 = 0
    · by_cases h0 : (n + 1) % 64 = 0
      · have := lt_64 ⟨n + 1, hn⟩
        have : n + 1 < 64 := this
        omega
      · rw [outsAt0_D m c ⟨n + 1, hn⟩ h0 h1 h3]
        dsimp only
        obtain ⟨-, -, -, e0, e1⟩ := outsD (F := Ideal) c _ _ _ _ _ _ _ _ _ _ _ _ _ _ _ _ _ _ _ _ _ _ _ _ _ _ _ _ _ _ _ _ _ (fun h' => h0 ((hcond0_0 ⟨n + 1, hn⟩).mp h')) ((hcond0_1 ⟨n + 1, hn⟩).mpr h1)
          (fun h' => h3 ((hcond0_2 ⟨n + 1, hn⟩).mp h')) (b0 m c ⟨n + 1, hn⟩) (b1 m c ⟨n + 1, hn⟩) (b2 m c ⟨n + 1, hn⟩) (b3 m c ⟨n + 1, hn⟩) (b4 m c ⟨n + 1, hn⟩) (b5 m c ⟨n + 1, hn⟩) (b6 m c ⟨n + 1, hn⟩) (b7 m c ⟨n + 1, hn⟩)
        rw [keep_eq] at e0 e1
        exact ⟨e0, e1.trans (first_acc hr _ h1)⟩
    · obtain ⟨i0, i1⟩ := ih (Nat.lt_of_succ_lt hn) (by omega)
      have h0 : ¬(n + 1) % 64 = 0 := by omega
      rw [outsAt0_B m c ⟨n + 1, hn⟩ h0 h1 h3]
      dsimp only
      obtain ⟨-, -, -, e1⟩ := outsB (F := Ideal) c _ _ _ _ _ _ _ _ _ _ _ _ _ _ _ _ _ _ _ _ _ _ _ _ _ _ _ _ _ _ _ _ _ (fun h' => h0 ((hcond0_0 ⟨n + 1, hn⟩).mp h')) (fun h' => h1 ((hcond0_1 ⟨n + 1, hn⟩).mp h'))
        (fun h' => h3 ((hcond0_2 ⟨n + 1, hn⟩).mp h')) (b0 m c ⟨n + 1, hn⟩) (b1 m c ⟨n + 1, hn⟩) (b2 m c ⟨n + 1, hn⟩) (b3 m c ⟨n + 1, hn⟩) (b4 m c ⟨n + 1, hn⟩) (b5 m c ⟨n + 1, hn⟩) (b6 m c ⟨n + 1, hn⟩) (b7 m c ⟨n + 1, hn⟩)
        (before m c ⟨n + 1, hn⟩).2.2.2.2.2.2.1 (before m c ⟨n + 1, hn⟩).2.2.2.2.2.2.2
      have y := i0.trans (same_tile ⟨n + 1, hn⟩ ⟨n, Nat.lt_of_succ_lt hn⟩ rfl h1)
      have i0' : (before m c ⟨n + 1, hn⟩).2.2.2.2.2.2.1 = yt m c ⟨n + 1, hn⟩ := y
      have i1' : (before m c ⟨n + 1, hn⟩).2.2.2.2.2.2.2 = accAt m c ⟨n, Nat.lt_of_succ_lt hn⟩ := i1
      exact ⟨y, e1.trans ((congrArg₂ (fun a b => k0_pay1 b (stepOf (F := Ideal) (b3 m c ⟨n + 1, hn⟩) (b4 m c ⟨n + 1, hn⟩) (b5 m c ⟨n + 1, hn⟩) (b6 m c ⟨n + 1, hn⟩) (b7 m c ⟨n + 1, hn⟩) a))
        i0' i1').trans (next_acc hr _ ⟨n, Nat.lt_of_succ_lt hn⟩ rfl h1))⟩

/-- What the scratches hold before a point that is not the first of its tile. -/
theorem kept_before (t : Fin cfg0.N) (h1 : ¬t.val % 4 = 0) : (before m c t).2.2.2.2.2.2.1 = yt m c t ∧
    k0_pay1 (before m c t).2.2.2.2.2.2.2 (stepOf (F := Ideal) (b3 m c t) (b4 m c t) (b5 m c t) (b6 m c t) (b7 m c t) (before m c t).2.2.2.2.2.2.1) = accAt m c t := by
  have e : t.val - 1 + 1 = t.val := by omega
  obtain ⟨i0, i1⟩ := kept hr (t.val - 1) (Nat.lt_of_le_of_lt (Nat.sub_le _ _) t.isLt) (by omega)
  have y : (before m c t).2.2.2.2.2.2.1 = yt m c t := i0.trans (same_tile t ⟨t.val - 1, _⟩ e h1)
  exact ⟨y, (congrArg₂ (fun a b => k0_pay1 b (stepOf (F := Ideal) (b3 m c t) (b4 m c t) (b5 m c t) (b6 m c t) (b7 m c t) a)) y i1).trans (next_acc hr t ⟨t.val - 1, _⟩ e h1)⟩

/-- What every point stores of the laid out results. -/
theorem tiles (t : Fin cfg0.N) : (outsAt0 m c t.val t.isLt).1 = (fun j => gact m c (at3 t j)) ∧ (outsAt0 m c t.val t.isLt).2.1 = (fun j => gdg m c (at3 t j))
    ∧ (outsAt0 m c t.val t.isLt).2.2.1 = fun j => gdu m c (at3 t j) := by
  rw [← act_at, ← dg_tile hr, ← du_tile]
  by_cases h1 : t.val % 4 = 0
  · rw [← keep_eq]
    by_cases h0 : t.val % 64 = 0
    · rw [outsAt0_A m c t h0 h1 (by omega)]
      dsimp only
      obtain ⟨e8, e9, e10, -⟩ := outsA (F := Ideal) c _ _ _ _ _ _ _ _ _ _ _ _ _ _ _ _ _ _ _ _ _ _ _ _ _ _ _ _ _ _ _ _ _ ((hcond0_0 t).mpr h0) ((hcond0_1 t).mpr h1)
        (fun h' => absurd ((hcond0_2 t).mp h') (by omega)) (b0 m c t) (b1 m c t) (b2 m c t) (b3 m c t) (b4 m c t) (b5 m c t) (b6 m c t) (b7 m c t)
      exact ⟨e8, e9, e10⟩
    · rw [outsAt0_D m c t h0 h1 (by omega)]
      dsimp only
      obtain ⟨e8, e9, e10, -⟩ := outsD (F := Ideal) c _ _ _ _ _ _ _ _ _ _ _ _ _ _ _ _ _ _ _ _ _ _ _ _ _ _ _ _ _ _ _ _ _ (fun h' => h0 ((hcond0_0 t).mp h')) ((hcond0_1 t).mpr h1)
        (fun h' => absurd ((hcond0_2 t).mp h') (by omega)) (b0 m c t) (b1 m c t) (b2 m c t) (b3 m c t) (b4 m c t) (b5 m c t) (b6 m c t) (b7 m c t)
      exact ⟨e8, e9, e10⟩
  · have h0 : ¬t.val % 64 = 0 := by omega
    rw [← (kept_before hr t h1).1]
    by_cases h3 : t.val % 4 = 3
    · rw [outsAt0_C m c t h0 h1 h3]
      dsimp only
      obtain ⟨e8, e9, e10, -⟩ := outsC (F := Ideal) c _ _ _ _ _ _ _ _ _ _ _ _ _ _ _ _ _ _ _ _ _ _ _ _ _ _ _ _ _ _ _ _ _ (fun h' => h0 ((hcond0_0 t).mp h')) (fun h' => h1 ((hcond0_1 t).mp h'))
        ((hcond0_2 t).mpr h3) (b0 m c t) (b1 m c t) (b2 m c t) (b3 m c t) (b4 m c t) (b5 m c t) (b6 m c t) (b7 m c t)
        (before m c t).2.2.2.2.2.1 (before m c t).2.2.2.2.2.2.1 (before m c t).2.2.2.2.2.2.2
      exact ⟨e8, e9, e10⟩
    · rw [outsAt0_B m c t h0 h1 h3]
      dsimp only
      obtain ⟨e8, e9, e10, -⟩ := outsB (F := Ideal) c _ _ _ _ _ _ _ _ _ _ _ _ _ _ _ _ _ _ _ _ _ _ _ _ _ _ _ _ _ _ _ _ _ (fun h' => h0 ((hcond0_0 t).mp h')) (fun h' => h1 ((hcond0_1 t).mp h'))
        (fun h' => h3 ((hcond0_2 t).mp h')) (b0 m c t) (b1 m c t) (b2 m c t) (b3 m c t) (b4 m c t) (b5 m c t) (b6 m c t) (b7 m c t)
        (before m c t).2.2.2.2.2.2.1 (before m c t).2.2.2.2.2.2.2
      exact ⟨e8, e9, e10⟩

/-! ## The last point of a tile -/

variable (m c) in
omit hr in
/-- Tile `i`'s part of the gradient of the gain. -/
def part (i : Nat) (y : S1x1024.Idx) : EReal :=
  if h : i < 16 then ∑ r : Fin 512, rdh m c (ValueIdx.ix2 ⟨i * 512 + r.val, by omega⟩ (y 1)) * val_main_v13 (xs m c) (ValueIdx.ix2 ⟨i * 512 + r.val, by omega⟩ (y 1)) else 0

omit hr in
theorem acc_last (t : Fin cfg0.N) (h3 : t.val % 4 = 3) : accAt m c t = fun j => rdh m c (at' t j) := by
  funext j
  obtain ⟨r, d, rfl⟩ := idx2_cases j
  show ∑ f ∈ Finset.range (t.val % 4 + 1), stepPart m c f (rowAt t r) d = _
  rw [h3, steps_sum, at_ix]

omit hr in
theorem h_tile (t : Fin cfg0.N) : k0_pay4 (b1 m c t) (b2 m c t) = fun j => gh m c (at' t j) := by
  funext j
  obtain ⟨r, d, rfl⟩ := idx2_cases j
  rw [pay4_at, at_ix, b2_at]
  simp only [b1_at]
  exact (v16_at (xs m c) (gain m c) (rowAt t r) d).symm

theorem x_tile (t : Fin cfg0.N) : k0_pay2 (k0_pay7 (b1 m c t) (b2 m c t) fun j => rdh m c (at' t j)) (k0_pay8 (b1 m c t)) (b0 m c t) = fun j => gx m c (at' t j) := by
  obtain ⟨h0, h1, h2, h3, h4, h5⟩ := hr
  funext j
  obtain ⟨r, d, rfl⟩ := idx2_cases j
  rw [pay2_at, at_ix]
  refine Eq.trans ?_ (v53_at (ct m c) (xs m c) (gain m c) (wg m c) (wu m c) (wd m c) h0 h1 h2 h3 h4 h5 (rowAt t r) d).symm
  simp only [b0_at, b1_at, b2_at, at_ix]

omit hr in
theorem gain_part (t : Fin cfg0.N) (xo : Vec Ideal S1x1024 .f32) :
    k0_pay3 (fun j => rdh m c (at' t j)) (k0_pay6 (b1 m c t)) xo = fun y => xo y + part m c (t.val / 4) y := by
  funext y
  obtain ⟨i, d, rfl⟩ := idx2_cases y
  obtain rfl : i = 0 := Subsingleton.elim _ _
  rw [pay3_at, part, dif_pos (by have := lt_64 t; omega)]
  refine congrArg (xo (ValueIdx.ix2 0 d) + ·) (Finset.sum_congr rfl fun r _ => congrArg₂ (fun a b : EReal => a * b) (congrArg (rdh m c) (at_ix t r d)) ?_)
  rw [pay6_at]
  simp only [b1_at]
  exact (v13_at (xs m c) (rowAt t r) d).symm

/-- What the last point of a tile stores. -/
theorem lastAt (t : Fin cfg0.N) (h3 : t.val % 4 = 3) : (outsAt0 m c t.val t.isLt).2.2.2.1 = (fun j => gh m c (at' t j))
    ∧ (outsAt0 m c t.val t.isLt).2.2.2.2.1 = (fun j => gx m c (at' t j))
    ∧ (outsAt0 m c t.val t.isLt).2.2.2.2.2.1 = fun y => (before m c t).2.2.2.2.2.1 y + part m c (t.val / 4) y := by
  have h1 : ¬t.val % 4 = 0 := by omega
  have h0 : ¬t.val % 64 = 0 := by omega
  rw [outsAt0_C m c t h0 h1 h3]
  dsimp only
  obtain ⟨-, -, -, e11, e12, e13⟩ := outsC (F := Ideal) c _ _ _ _ _ _ _ _ _ _ _ _ _ _ _ _ _ _ _ _ _ _ _ _ _ _ _ _ _ _ _ _ _ (fun h' => h0 ((hcond0_0 t).mp h')) (fun h' => h1 ((hcond0_1 t).mp h'))
    ((hcond0_2 t).mpr h3) (b0 m c t) (b1 m c t) (b2 m c t) (b3 m c t) (b4 m c t) (b5 m c t) (b6 m c t) (b7 m c t)
    (before m c t).2.2.2.2.2.1 (before m c t).2.2.2.2.2.2.1 (before m c t).2.2.2.2.2.2.2
  have a := (kept_before hr t h1).2.trans (acc_last t h3)
  exact ⟨e11.trans (h_tile t), e12.trans ((congrArg (fun a => k0_pay2 (k0_pay7 (b1 m c t) (b2 m c t) a) (k0_pay8 (b1 m c t)) (b0 m c t)) a).trans (x_tile hr t)),
    e13.trans ((congrArg (fun a => k0_pay3 a (k0_pay6 (b1 m c t)) (before m c t).2.2.2.2.2.1) a).trans (gain_part t _))⟩

/-- The gradient of the gain, tile by tile. -/
theorem gathers (n : Nat) (hn : n < cfg0.N) (y : S1x1024.Idx) : (outsAt0 m c n hn).2.2.2.2.2.1 y = ∑ i ∈ Finset.range ((n + 1) / 4), part m c i y := by
  induction n with
  | zero =>
    have h3 : ¬0 % 4 = 3 := by decide
    rw [outsAt0_A m c ⟨0, hn⟩ rfl rfl h3]
    dsimp only
    obtain ⟨-, -, -, e13, -⟩ := outsA (F := Ideal) c _ _ _ _ _ _ _ _ _ _ _ _ _ _ _ _ _ _ _ _ _ _ _ _ _ _ _ _ _ _ _ _ _ ((hcond0_0 ⟨0, hn⟩).mpr rfl) ((hcond0_1 ⟨0, hn⟩).mpr rfl)
      (fun h' => h3 ((hcond0_2 ⟨0, hn⟩).mp h')) (b0 m c ⟨0, hn⟩) (b1 m c ⟨0, hn⟩) (b2 m c ⟨0, hn⟩) (b3 m c ⟨0, hn⟩) (b4 m c ⟨0, hn⟩) (b5 m c ⟨0, hn⟩) (b6 m c ⟨0, hn⟩) (b7 m c ⟨0, hn⟩)
    exact (congrFun e13 y).trans Ideal.ofBits_zero_f32
  | succ n ih =>
    have i := ih (Nat.lt_of_succ_lt hn)
    have hlt : n + 1 < 64 := lt_64 ⟨n + 1, hn⟩
    by_cases h3 : (n + 1) % 4 = 3
    · refine (congrFun (lastAt hr ⟨n + 1, hn⟩ h3).2.2 y).trans ?_
      rw [show (before m c ⟨n + 1, hn⟩).2.2.2.2.2.1 y = _ from i, show (n + 1 + 1) / 4 = (n + 1) / 4 + 1 by omega, Finset.sum_range_succ]
    · rw [show (n + 1 + 1) / 4 = (n + 1) / 4 by omega, ← i]
      have h0 : ¬(n + 1) % 64 = 0 := by omega
      by_cases h1 : (n + 1) % 4 = 0
      · rw [outsAt0_D m c ⟨n + 1, hn⟩ h0 h1 h3]
        rfl
      · rw [outsAt0_B m c ⟨n + 1, hn⟩ h0 h1 h3]
        rfl

/-- What the last point of all leaves. -/
theorem endAt (t : Fin cfg0.N) (h : t.val % 64 = 63) : (outsAt0 m c t.val t.isLt).2.2.2.2.2.1 = gg m c := by
  funext y
  obtain ⟨i, d, rfl⟩ := idx2_cases y
  obtain rfl : i = 0 := Subsingleton.elim _ _
  refine (gathers hr t.val t.isLt _).trans (Eq.trans ?_ (v70_at (ct m c) (xs m c) (gain m c) (wg m c) (wu m c) (wd m c) d).symm)
  rw [show (t.val + 1) / 4 = 16 by have := lt_64 t; omega]
  exact sum_tiles (B := 512) (by decide) _ _ fun t ht hb => dif_pos ht

/-- The result arrays. -/
theorem final : (dats m 0 c).arrAt 8 cfg0.N = gact m c ∧ (dats m 0 c).arrAt 9 cfg0.N = gdg m c ∧ (dats m 0 c).arrAt 10 cfg0.N = gdu m c
    ∧ (dats m 0 c).arrAt 11 cfg0.N = gh m c ∧ (dats m 0 c).arrAt 12 cfg0.N = gx m c ∧ (dats m 0 c).arrAt 13 cfg0.N = gg m c := by
  have last : 63 < cfg0.N := by show 63 < grid0.N; rw [N_0]; decide
  refine ⟨(dats m 0 c).arrAt_eq_of_cover 8 _ (fun t _ => ?_) fun i => ?_, (dats m 0 c).arrAt_eq_of_cover 9 _ (fun t _ => ?_) fun i => ?_,
    (dats m 0 c).arrAt_eq_of_cover 10 _ (fun t _ => ?_) fun i => ?_, (dats m 0 c).arrAt_eq_of_cover 11 _ (fun t ht => ?_) fun i => ?_,
    (dats m 0 c).arrAt_eq_of_cover 12 _ (fun t ht => ?_) fun i => ?_, (dats m 0 c).arrAt_eq_of_cover 13 _ (fun t ht => ?_) fun i => ?_⟩
  · rw [flushed8, (tiles hr t).1]
    exact funext fun j => congrArg (gact m c) (emb8 t j).symm
  · obtain ⟨t, j, rfl⟩ := cover3 i
    exact ⟨t, flush0_8 t, emb8 t j ▸ View.emb_mem_set _ j⟩
  · rw [flushed9, (tiles hr t).2.1]
    exact funext fun j => congrArg (gdg m c) (emb9 t j).symm
  · obtain ⟨t, j, rfl⟩ := cover3 i
    exact ⟨t, flush0_9 t, emb9 t j ▸ View.emb_mem_set _ j⟩
  · rw [flushed10, (tiles hr t).2.2]
    exact funext fun j => congrArg (gdu m c) (emb10 t j).symm
  · obtain ⟨t, j, rfl⟩ := cover3 i
    exact ⟨t, flush0_10 t, emb10 t j ▸ View.emb_mem_set _ j⟩
  · rw [flushed11, (lastAt hr t ((flush0_11 t).mp ht)).1]
    exact funext fun j => congrArg (gh m c) (emb11 t j).symm
  · obtain ⟨t, j, h3, rfl⟩ := cover i
    exact ⟨t, (flush0_11 t).mpr h3, emb11 t j ▸ View.emb_mem_set _ j⟩
  · rw [flushed12, (lastAt hr t ((flush0_12 t).mp ht)).2.1]
    exact funext fun j => congrArg (gx m c) (emb12 t j).symm
  · obtain ⟨t, j, h3, rfl⟩ := cover i
    exact ⟨t, (flush0_12 t).mpr h3, emb12 t j ▸ View.emb_mem_set _ j⟩
  · rw [flushed13, endAt hr t ((flush0_13 t).mp ht)]
    exact funext fun j => congrArg (gg m c) (emb13 t j).symm
  · exact ⟨⟨63, last⟩, (flush0_13 _).mpr rfl, emb13 ⟨63, last⟩ i ▸ View.emb_mem_set _ i⟩

end Cert.Proof.Ffn
end
-- ==== Proof.Ffn.Claims.lean ====
/-
# The feed-forward backward call: frames and value
-/
module

public import proofs.«01_k».proof.Proof.Ffn.Value
public import proofs.«01_k».proof.Proof.Gen.Ffn.Frame
public import proofs.«01_k».proof.Proof.Gen.FfnIdeal.Frame
public import proofs.«01_k».proof.Proof.Gen.FfnRefIdeal.Run
public import proofs.«01_k».proof.Proof.Finite
public import proofs.«01_k».proof.Proof.Gen.Pre_finite_ffn
public import proofs.«01_k».proof.Defs

@[expose] public section

set_option maxRecDepth 16384

noncomputable section

namespace Cert.Proof.Ffn

open Idealize Idealize.ShloMosaic Idealize.ShloMosaic.TcCoe Cert.FfnRefIdeal.Read Cert.Proof.Rms

/-- The kernel runs at the machine's words. -/
theorem frame : Cert.quiescent_Ffn := fun m ρ _ => Cert.Ffn.Gen.frame m ρ

/-- The kernel runs over the reals. -/
theorem frame_ideal : Cert.quiescent_FfnIdeal := fun m ρ _ => Cert.FfnIdeal.Gen.frame m ρ

/-- The reference runs over the reals; it declares no semaphore. -/
theorem frame_ref : Cert.quiescent_FfnRefIdeal := fun m ρ _ =>
  (θ_run Cert.FfnRefIdeal.defs _ _).mono (fun r h => ⟨fun c => (h c).2.2.2.2.2.2, sem_eq_zero_of_no_sems (by decide) r.2⟩) (Cert.FfnRefIdeal.Value.run (F := Ideal) m ρ)

/-- The precondition makes every entry of the arguments real. -/
theorem finite (x0 x1 : FVec Ideal Cert.Pre_finite_ffn.S8192x1024 .f32) (x2 : FVec Ideal Cert.Pre_finite_ffn.S1024 .f32) (x3 x4 : FVec Ideal Cert.Pre_finite_ffn.S1024x2816 .f32) (x5 : FVec Ideal Cert.Pre_finite_ffn.S2816x1024 .f32)
    (h : Cert.Pre_finite_ffn.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have : Subsingleton Cert.Pre_finite_ffn.S_.Idx := ⟨fun a b => funext fun k => k.elim0⟩
  have g := congrFun h ValueIdx.ix0
  unfold Cert.Pre_finite_ffn.fn at g
  dsimp only at g
  obtain ⟨g, g5⟩ := andi_one g
  obtain ⟨g, g4⟩ := andi_one g
  obtain ⟨g, g3⟩ := andi_one g
  obtain ⟨g, g2⟩ := andi_one g
  obtain ⟨g0, g1⟩ := andi_one g
  exact ⟨fun i => .of (real_of_all x0 _ _ _ _ _ _ (fun _ => rfl) (fun _ => rfl) g0 i),
    fun i => .of (real_of_all x1 _ _ _ _ _ _ (fun _ => rfl) (fun _ => rfl) g1 i),
    fun i => .of (real_of_all x2 _ _ _ _ _ _ (fun _ => rfl) (fun _ => rfl) g2 i),
    fun i => .of (real_of_all x3 _ _ _ _ _ _ (fun _ => rfl) (fun _ => rfl) g3 i),
    fun i => .of (real_of_all x4 _ _ _ _ _ _ (fun _ => rfl) (fun _ => rfl) g4 i),
    fun i => .of (real_of_all x5 _ _ _ _ _ _ (fun _ => rfl) (fun _ => rfl) g5 i)⟩

/-- Over the reals the kernel's six arrays are the reference's, where the arguments are real. -/
theorem algebraic : Cert.algebraic_FfnIdeal_FfnRefIdeal_pre_finite_ffn := by
  intro m ρ m' ρ' hpre hag
  refine ⟨fun c => gact m c, fun c => gdg m c, fun c => gdu m c, fun c => gh m c, fun c => gx m c, fun c => gg m c, ?_, ?_⟩
  · refine (θ_run Cert.FfnIdeal.defs _ _).mono (fun r h c => ?_) (Cert.FfnIdeal.Value.run_blocks m ρ)
    obtain ⟨f0, f1, f2, f3, f4, f5⟩ := final (m := m) (c := c) (finite _ _ _ _ _ _ (hpre c))
    obtain ⟨h0, h1, h2, h3, h4, h5, hk⟩ := h c
    exact ⟨h0.trans f0, h1.trans f1, h2.trans f2, h3.trans f3, h4.trans f4, h5.trans f5, hk⟩
  · refine (θ_run Cert.FfnRefIdeal.defs _ _).mono (fun r h c => ?_) (Cert.FfnRefIdeal.Value.run (F := Ideal) m' ρ')
    obtain ⟨h0, h1, h2, h3, h4, h5, hk⟩ := h c
    obtain ⟨a0, a1, a2, a3, a4, a5⟩ := hag c
    have e0 : m' ((c.tc : Thread Cert.FfnRefIdeal.nD Cert.FfnRefIdeal.τ).loc Cert.FfnRefIdeal.main_arg0) = ct m c := a0
    have e1 : m' ((c.tc : Thread Cert.FfnRefIdeal.nD Cert.FfnRefIdeal.τ).loc Cert.FfnRefIdeal.main_arg1) = xs m c := a1
    have e2 : m' ((c.tc : Thread Cert.FfnRefIdeal.nD Cert.FfnRefIdeal.τ).loc Cert.FfnRefIdeal.main_arg2) = gain m c := a2
    have e3 : m' ((c.tc : Thread Cert.FfnRefIdeal.nD Cert.FfnRefIdeal.τ).loc Cert.FfnRefIdeal.main_arg3) = wg m c := a3
    have e4 : m' ((c.tc : Thread Cert.FfnRefIdeal.nD Cert.FfnRefIdeal.τ).loc Cert.FfnRefIdeal.main_arg4) = wu m c := a4
    have e5 : m' ((c.tc : Thread Cert.FfnRefIdeal.nD Cert.FfnRefIdeal.τ).loc Cert.FfnRefIdeal.main_arg5) = wd m c := a5
    rw [val_main_v58_eq, e1, e2, e3, e4] at h0
    rw [val_main_v63_eq, e0, e1, e2, e3, e4, e5] at h1
    rw [val_main_v68_eq, e0, e1, e2, e3, e5] at h2
    rw [val_main_v69_eq, e1, e2] at h3
    rw [val_main_v53_eq, e0, e1, e2, e3, e4, e5] at h4
    rw [val_main_v70_eq, e0, e1, e2, e3, e4, e5] at h5
    exact ⟨h0, h1, h2, h3, h4, h5, hk⟩

/-- No operation was rewritten. -/
theorem preserves : Cert.preserves_Ffn_FfnIdeal := trivial

end Cert.Proof.Ffn

end
-- ==== Proof.Ple.Outs.lean ====
/- The gradient through the gated embedding, kernel side: what the body leaves in its output blocks. -/
module

public import proofs.«01_k».proof.Proof.Gen.PleIdeal.Value
public import proofs.«01_k».proof.Proof.Rms

@[expose] public section

set_option maxRecDepth 16384

noncomputable section

namespace Cert.Proof.Ple

open Cert.PleIdeal Cert.PleIdeal.Gen Cert.PleIdeal.Value Idealize.ShloMosaic Idealize.ShloMosaic.TcCoe Idealize.SL.Sem

section
variable {F : FTy → Type} [FloatOps F] (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S1x1024 .f32) (h5 : a5.IsWhole) (a6 : Memref sig .tc .vmem S1024x1024 .bf16) (h6 : a6.IsWhole)
  (a7 : Memref sig .tc .vmem S512x1024 .bf16) (h7 : a7.IsWhole) (a8 : Memref sig .tc .vmem S512x1024 .bf16) (h8 : a8.IsWhole)
  (a9 : Memref sig .tc .vmem S512x1024 .bf16) (h9 : a9.IsWhole) (a10 : Memref sig .tc .vmem S512x1024 .f32) (h10 : a10.IsWhole)
  (a11 : Memref sig .tc .vmem S1x1024 .f32) (h11 : a11.IsWhole) (hc : cond0_0 i) (hn : ¬cond0_0 i)
  (x0 x1 x2 x3 : Vec F S512x1024 .f32) (x4 : Vec F S1x1024 .f32) (x5 : Vec F S1024x1024 .bf16) (xo : Vec F S1x1024 .f32)

/-- What the body leaves in the five output blocks at the first point. -/
theorem outsA :
    out0_A_6 c i a1 h1 a2 h2 a3 h3 a4 h4 a5 h5 a6 h6 a7 h7 a8 h8 a9 h9 a10 h10 a11 h11 hc x0 x1 x2 x3 x4 x5 = k0_pay5 x0 x1 x2
    ∧ out0_A_7 c i a1 h1 a2 h2 a3 h3 a4 h4 a5 h5 a6 h6 a7 h7 a8 h8 a9 h9 a10 h10 a11 h11 hc x0 x1 x2 x3 x4 x5 = k0_pay4 x0 x1
    ∧ out0_A_8 c i a1 h1 a2 h2 a3 h3 a4 h4 a5 h5 a6 h6 a7 h7 a8 h8 a9 h9 a10 h10 a11 h11 hc x0 x1 x2 x3 x4 x5
      = k0_pay8 x3 (k0_pay6 x4) (k0_pay7 x3) (Scalar.ofBits .f32 0x358637BD#32)
    ∧ out0_A_9 c i a1 h1 a2 h2 a3 h3 a4 h4 a5 h5 a6 h6 a7 h7 a8 h8 a9 h9 a10 h10 a11 h11 hc x0 x1 x2 x3 x4 x5
      = k0_pay13 x0 (k0_pay5 x0 x1 x2) x3 x4 x5
    ∧ out0_A_10 c i a1 h1 a2 h2 a3 h3 a4 h4 a5 h5 a6 h6 a7 h7 a8 h8 a9 h9 a10 h10 a11 h11 hc x0 x1 x2 x3 x4 x5
      = k0_pay1 (k0_pay12 (k0_pay5 x0 x1 x2) x3 x5) (k0_pay14 k0_pay2) := by
  refine ⟨?_, ?_, ?_, ?_, ?_⟩ <;>
    (first | unfold out0_A_6 | unfold out0_A_7 | unfold out0_A_8 | unfold out0_A_9 | unfold out0_A_10) <;>
    (rw [View.read_writes_junk_eq_canon]; unfold kernelRun0_A; dsimp only; sl_unfold_words
     simp (discharger := first | decide | rfl) only [↓View.readCov_skip, ↓View.readCov_fill, canon2, View.readAt_eq_ld, h1.read_unread, h2.read_unread, h3.read_unread,
       h4.read_unread, h5.read_unread, h6.read_unread, ld2])

/-- What the body leaves in the five output blocks at a later point. -/
theorem outsB :
    out0_B_6 c i a1 h1 a2 h2 a3 h3 a4 h4 a5 h5 a6 h6 a7 h7 a8 h8 a9 h9 a10 h10 a11 h11 hn x0 x1 x2 x3 x4 x5 xo = k0_pay5 x0 x1 x2
    ∧ out0_B_7 c i a1 h1 a2 h2 a3 h3 a4 h4 a5 h5 a6 h6 a7 h7 a8 h8 a9 h9 a10 h10 a11 h11 hn x0 x1 x2 x3 x4 x5 xo = k0_pay4 x0 x1
    ∧ out0_B_8 c i a1 h1 a2 h2 a3 h3 a4 h4 a5 h5 a6 h6 a7 h7 a8 h8 a9 h9 a10 h10 a11 h11 hn x0 x1 x2 x3 x4 x5 xo
      = k0_pay8 x3 (k0_pay6 x4) (k0_pay7 x3) (Scalar.ofBits .f32 0x358637BD#32)
    ∧ out0_B_9 c i a1 h1 a2 h2 a3 h3 a4 h4 a5 h5 a6 h6 a7 h7 a8 h8 a9 h9 a10 h10 a11 h11 hn x0 x1 x2 x3 x4 x5 xo
      = k0_pay13 x0 (k0_pay5 x0 x1 x2) x3 x4 x5
    ∧ out0_B_10 c i a1 h1 a2 h2 a3 h3 a4 h4 a5 h5 a6 h6 a7 h7 a8 h8 a9 h9 a10 h10 a11 h11 hn x0 x1 x2 x3 x4 x5 xo
      = k0_pay1 (k0_pay12 (k0_pay5 x0 x1 x2) x3 x5) (k0_pay14 xo) := by
  refine ⟨?_, ?_, ?_, ?_, ?_⟩ <;>
    (first | unfold out0_B_6 | unfold out0_B_7 | unfold out0_B_8 | unfold out0_B_9 | unfold out0_B_10) <;>
    (rw [View.read_writes_junk_eq_canon]; unfold kernelRun0_B; dsimp only; sl_unfold_words
     simp only [canon2, View.readAt_eq_ld, h1.read_unread, h2.read_unread, h3.read_unread,
       h4.read_unread, h5.read_unread, h6.read_unread, h11.read_unread, ld2])

end

end Cert.Proof.Ple
end
-- ==== Proof.Ple.Ref.lean ====
/- The gradient through the gated embedding: the reference's stages, and the kernel's stored values, read at a row and a column. -/
module

public import proofs.«01_k».proof.Proof.Gen.PleRefIdeal.Read
public import proofs.«01_k».proof.Proof.Ple.Outs
public import proofs.«01_k».proof.Proof.Tiles

@[expose] public section

set_option maxRecDepth 16384

noncomputable section

namespace Cert.Proof.Ple

open Idealize.ShloMosaic Idealize.ShloMosaic.TcCoe Cert.Proof.Rms

/-! ## The reference -/

section reference
open Cert.PleRefIdeal Cert.PleRefIdeal.Gen Cert.PleRefIdeal.Read

variable (x0 x1 : Vec Ideal S8192x1024 .f32) (x2 : Vec Ideal S8192x256 .f32) (x3 : Vec Ideal S1024 .f32) (x4 : Vec Ideal S1024x1024 .f32) (x5 : Vec Ideal S256x1024 .f32)

/-- The gate is the logistic function of the logits. -/
theorem v24_at (i : S8192x1024.Idx) : val_main_v24 x1 x3 x4 i = sig (val_main_v17 x1 x3 x4 i) := by
  simp only [val_main_v24_apply, val_main_v23_apply, val_main_v22_apply, val_main_v21_apply, val_main_v20_apply, val_main_v19_apply, val_main_v18_apply, val_main_v0_apply,
    val_main_cst_apply, val_main_cst_4_apply, val_main_cst_5_apply, Ideal.ofBits_def, Ideal.ofBits_one_f32, Ideal.ofBits_zero_f32, Ideal.addf_def, add_zero]
  rfl

/-- The gradient of the logits. -/
theorem v35_at (i : S8192x1024.Idx) : val_main_v35 x0 x1 x2 x3 x4 x5 i
    = x0 i * val_main_v28 x2 x5 i * sig (val_main_v17 x1 x3 x4 i) * (1 - sig (val_main_v17 x1 x3 x4 i)) := by
  have e : val_main_v32 x0 = x0 := shapeCast_self _ _
  simp only [val_main_v35_apply, val_main_v34_apply, val_main_v29_apply, val_main_v27_apply, val_main_v26_apply, val_main_v25_apply, v24_at, val_main_v0_apply,
    val_main_cst_apply, val_main_cst_6_apply, Ideal.ofBits_def, Ideal.ofBits_one_f32, Ideal.ofBits_zero_f32, Ideal.addf_def, Ideal.mulf_def, Ideal.subf_def, add_zero, e, mul_assoc]

/-- The gradient of the embedding. -/
theorem v33_at (i : S8192x1024.Idx) : val_main_v33 x0 x1 x3 x4 i = x0 i * sig (val_main_v17 x1 x3 x4 i) := by
  have e : val_main_v32 x0 = x0 := shapeCast_self _ _
  rw [val_main_v33_apply, v24_at, e]
  exact mul_comm _ _

theorem v13_at (r : Fin 8192) (d : Fin 1024) : val_main_v13 x1 (ValueIdx.ix2 r d)
    = x1 (ValueIdx.ix2 r d) * inv (Ideal.ofBits .f32 0x44800000#32) (Ideal.ofBits .f32 0x358637BD#32) fun k => x1 (ValueIdx.ix2 r k) :=
  ref_unit_at x1 0x44800000#32 0x358637BD#32 _ _ _ _ _ r d

/-- The gain at a column. -/
theorem v15_at (r : Fin 8192) (d : Fin 1024) : val_main_v15 x3 (ValueIdx.ix2 r d) = x3 (ValueIdx.ix1 d) := by
  rw [val_main_v15_apply, val_main_v14_apply]
  exact congrArg x3 (funext fun a => by match a with | ⟨0, _⟩ => rfl)

/-- The normalised rows. -/
theorem v16_at (r : Fin 8192) (d : Fin 1024) : val_main_v16 x1 x3 (ValueIdx.ix2 r d)
    = x1 (ValueIdx.ix2 r d) * inv (Ideal.ofBits .f32 0x44800000#32) (Ideal.ofBits .f32 0x358637BD#32) (fun k => x1 (ValueIdx.ix2 r k)) * x3 (ValueIdx.ix1 d) :=
  congrArg₂ (· * ·) (v13_at x1 r d) (v15_at x3 r d)

/-- The gradient of the normalised rows. -/
theorem v36_at (r : Fin 8192) (d : Fin 1024) : val_main_v36 x0 x1 x2 x3 x4 x5 (ValueIdx.ix2 r d)
    = ∑ k : Fin 1024, val_main_v35 x0 x1 x2 x3 x4 x5 (ValueIdx.ix2 r k) * x4 (ValueIdx.ix2 d k) := by
  unfold val_main_v36
  generalize val_main_v35 x0 x1 x2 x3 x4 x5 = y
  exact dot_nt _ rfl _ y x4 (ValueIdx.ix2 r d)

theorem v41_at (r : Fin 8192) (d : Fin 1024) : val_main_v41 x0 x1 x2 x3 x4 x5 (ValueIdx.ix2 r d)
    = val_main_v36 x0 x1 x2 x3 x4 x5 (ValueIdx.ix2 r d) * x3 (ValueIdx.ix1 d) :=
  congrArg (val_main_v36 x0 x1 x2 x3 x4 x5 (ValueIdx.ix2 r d) * ·) (v15_at x3 r d)

/-- The gradient of the gain. -/
theorem v61_at (d : Fin 1024) : val_main_v61 x0 x1 x2 x3 x4 x5 (ValueIdx.ix2 0 d)
    = ∑ r : Fin 8192, val_main_v36 x0 x1 x2 x3 x4 x5 (ValueIdx.ix2 r d) * val_main_v13 x1 (ValueIdx.ix2 r d) :=
  (ref_gain_at (val_main_v37 x0 x1 x2 x3 x4 x5) _ _ _ _ _ d).trans (Finset.sum_congr rfl fun r _ => mul_comm _ _)

variable (hx0 : ∀ i, IsReal (x0 i)) (hx1 : ∀ i, IsReal (x1 i)) (hx2 : ∀ i, IsReal (x2 i)) (hx3 : ∀ i, IsReal (x3 i)) (hx4 : ∀ i, IsReal (x4 i)) (hx5 : ∀ i, IsReal (x5 i))

include hx0 hx2 hx3 hx4 hx5 in
/-- What reaches the norm is real. -/
theorem v41_real (r : Fin 8192) (d : Fin 1024) : IsReal (val_main_v41 x0 x1 x2 x3 x4 x5 (ValueIdx.ix2 r d)) := by
  have h28 : ∀ k, IsReal (val_main_v28 x2 x5 (ValueIdx.ix2 r k)) := fun k => by
    rw [show val_main_v28 x2 x5 (ValueIdx.ix2 r k) = ∑ q : Fin 256, x2 (ValueIdx.ix2 r q) * x5 (ValueIdx.ix2 q k) from dot_nn _ rfl _ x2 x5 (ValueIdx.ix2 r k)]
    exact IsReal.dot (fun q => hx2 _) fun q => hx5 _
  rw [v41_at, v36_at]
  refine (IsReal.dot (fun k => ?_) fun k => hx4 _).mul (hx3 _)
  rw [v35_at]
  have s := sig_real (val_main_v17 x1 x3 x4 (ValueIdx.ix2 r k))
  exact (((hx0 _).mul (h28 k)).mul s).mul ((IsReal.coe 1).sub s)

include hx0 hx1 hx2 hx3 hx4 hx5 in
/-- The gradient of the rows, as the kernel orders it. -/
theorem v57_at (r : Fin 8192) (d : Fin 1024) : val_main_v57 x0 x1 x2 x3 x4 x5 (ValueIdx.ix2 r d)
    = x0 (ValueIdx.ix2 r d) + kgrad (Ideal.ofBits .f32 0x44800000#32) (Ideal.ofBits .f32 0x358637BD#32) (fun k => x1 (ValueIdx.ix2 r k))
      (fun k => val_main_v36 x0 x1 x2 x3 x4 x5 (ValueIdx.ix2 r k) * x3 (ValueIdx.ix1 k)) d := by
  have he := fun k => v41_real x0 x1 x2 x3 x4 x5 hx0 hx2 hx3 hx4 hx5 r k
  have g := ref_grad_at (val_main_v48 x0 x1 x2 x3 x4 x5) x1 (val_main_v41 x0 x1 x2 x3 x4 x5) 0x44800000#32 0x358637BD#32 0xBF000000#32
    reducesTo_S8192x1024_S8192_d1 h_S_ bcast_S8192_S8192x1_0 bcast_S_S8192x1 reducesTo_S8192x1024_S8192_d1 shapeCasts_S8192_S8192x1 reducesTo_S8192x1_S8192_d1 bcast_S8192_S8192x1024_0 r d
  have g48 : val_main_v48 x0 x1 x2 x3 x4 x5 (ValueIdx.ix2 r d) = x0 (ValueIdx.ix2 r d) + val_main_v41 x0 x1 x2 x3 x4 x5 (ValueIdx.ix2 r d)
      * inv (Ideal.ofBits .f32 0x44800000#32) (Ideal.ofBits .f32 0x358637BD#32) fun k => x1 (ValueIdx.ix2 r k) :=
    congrArg (fun t => x0 (ValueIdx.ix2 r d) + val_main_v41 x0 x1 x2 x3 x4 x5 (ValueIdx.ix2 r d) * t)
      ((col_cols _ _ r d).trans (congrArg Ideal.rsqrt (ref_msq_at x1 0x44800000#32 0x358637BD#32 _ _ _ _ _ r)))
  refine Eq.trans ?_ (g.trans ?_)
  · rfl
  · rw [g48, show (fun k => val_main_v36 x0 x1 x2 x3 x4 x5 (ValueIdx.ix2 r k) * x3 (ValueIdx.ix1 k)) = fun k => val_main_v41 x0 x1 x2 x3 x4 x5 (ValueIdx.ix2 r k) from
      funext fun k => (v41_at x0 x1 x2 x3 x4 x5 r k).symm]
    rw [ofBits_1024, ofBits_eps, ofBits_half_neg, grad_sum (C := 1024) (ε := 8796093 / 2 ^ 43) (by norm_num) (by norm_num) (fun k => hx1 _) he, ← add_assoc, ← add_assoc]

end reference

/-! ## The kernel -/

section kernel
open Cert.PleIdeal Cert.PleIdeal.Gen

variable (x0 x1 x2 x3 : Vec Ideal S512x1024 .f32) (x4 : Vec Ideal S1x1024 .f32) (x5 : Vec Ideal S1024x1024 .bf16) (xo : Vec Ideal S1x1024 .f32) (r : Fin 512) (d : Fin 1024)

theorem pay3_at (i : S512x1024.Idx) : k0_pay3 (F := Ideal) x1 i = sig (x1 i) := by
  unfold k0_pay3
  rw [shapeCast_self]
  show Ideal.div (Ideal.ofBits .f32 0x3F800000#32) (Ideal.ofBits .f32 0x3F800000#32 + Ideal.exp (Ideal.ofBits .f32 0x00000000#32 - x1 i)) = _
  rw [Ideal.ofBits_one_f32, Ideal.ofBits_zero_f32, sub_eq_add_neg, zero_add]
  rfl

/-- The stored gradient of the embedding. -/
theorem pay4_at (i : S512x1024.Idx) : k0_pay4 (F := Ideal) x0 x1 i = x0 i * sig (x1 i) := congrArg (x0 i * ·) (pay3_at x1 i)

/-- The stored gradient of the logits. -/
theorem pay5_at (i : S512x1024.Idx) : k0_pay5 (F := Ideal) x0 x1 x2 i = x0 i * x2 i * sig (x1 i) * (1 - sig (x1 i)) := by
  unfold k0_pay5
  rw [shapeCast_self]
  show x0 i * x2 i * k0_pay3 (F := Ideal) x1 i * (Ideal.ofBits .f32 0x3F800000#32 - k0_pay3 (F := Ideal) x1 i) = _
  rw [Ideal.ofBits_one_f32, pay3_at]

/-- The stored normalised rows. -/
theorem pay8_at : k0_pay8 (F := Ideal) x3 (k0_pay6 x4) (k0_pay7 x3) (Scalar.ofBits .f32 0x358637BD#32) (ValueIdx.ix2 r d)
    = x3 (ValueIdx.ix2 r d) * inv (Ideal.ofBits .f32 0x44800000#32) (Ideal.ofBits .f32 0x358637BD#32) (fun k => x3 (ValueIdx.ix2 r k)) * x4 (ValueIdx.ix2 0 d) := by
  unfold k0_pay8 k0_pay6 k0_pay7
  dsimp only
  rw [shapeCast_self]
  exact congrArg₂ (· * ·) (unit_at x3 0x44800000#32 0x358637BD#32 _ _ _ _ _ r d) (over_rows x4 _ r d)

/-- The gradient of the normalised rows. -/
theorem pay9_at (y : FVec Ideal S512x1024 .bf16) : k0_pay9 (F := Ideal) y x5 (ValueIdx.ix2 r d) = ∑ k : Fin 1024, y (ValueIdx.ix2 r k) * x5 (ValueIdx.ix2 d k) := by
  unfold k0_pay9
  rw [shapeCast_self, matmul_nt _ (by rfl)]
  show Ideal.ofBits .f32 0x00000000#32 + _ = _
  rw [Ideal.ofBits_zero_f32, zero_add]

theorem pay11_at : k0_pay11 (F := Ideal) x3 (ValueIdx.ix2 r d)
    = x3 (ValueIdx.ix2 r d) * inv (Ideal.ofBits .f32 0x44800000#32) (Ideal.ofBits .f32 0x358637BD#32) fun k => x3 (ValueIdx.ix2 r k) :=
  unit_at x3 0x44800000#32 0x358637BD#32 _ _ _ _ _ r d

/-- The stored gradient of the rows. -/
theorem pay13_at (y : FVec Ideal S512x1024 .bf16) : k0_pay13 (F := Ideal) x0 y x3 x4 x5 (ValueIdx.ix2 r d)
    = x0 (ValueIdx.ix2 r d) + kgrad (Ideal.ofBits .f32 0x44800000#32) (Ideal.ofBits .f32 0x358637BD#32) (fun k => x3 (ValueIdx.ix2 r k))
      (fun k => k0_pay9 (F := Ideal) y x5 (ValueIdx.ix2 r k) * x4 (ValueIdx.ix2 0 k)) d := by
  unfold k0_pay13 k0_pay11 k0_pay10
  dsimp only
  rw [shapeCast_self]
  generalize k0_pay9 (F := Ideal) y x5 = w
  have e : (fun k => w (ValueIdx.ix2 r k) * x4 (ValueIdx.ix2 0 k)) = fun k => mulf w (broadcastTo S512x1024 x4 broadcasts_S1x1024_S512x1024) (ValueIdx.ix2 r k) :=
    funext fun k => congrArg (w (ValueIdx.ix2 r k) * ·) (over_rows x4 _ r k).symm
  rw [e]
  exact congrArg (x0 (ValueIdx.ix2 r d) + ·) (block_grad x3 _ 0x44800000#32 0x358637BD#32 _ _ _ _ _ _ _ _ _ _ r d)

/-- The stored gradient of the gain. -/
theorem pay1_at (y : FVec Ideal S512x1024 .bf16) : k0_pay1 (F := Ideal) (k0_pay12 y x3 x5) (k0_pay14 xo) (ValueIdx.ix2 0 d)
    = xo (ValueIdx.ix2 0 d) + ∑ r : Fin 512, k0_pay9 (F := Ideal) y x5 (ValueIdx.ix2 r d) * k0_pay11 (F := Ideal) x3 (ValueIdx.ix2 r d) := by
  unfold k0_pay1 k0_pay14 k0_pay12
  dsimp only
  rw [shapeCast_self]
  exact congrArg (xo (ValueIdx.ix2 0 d) + ·) (col_sum _ _ _ _ _ d)

end kernel

end Cert.Proof.Ple
end
-- ==== Proof.Ple.Blocks.lean ====
/- The gradient through the gated embedding, kernel side: where the blocks lie in the arrays, and what the arrays hold. -/
module

public import proofs.«01_k».proof.Proof.Ple.Ref

@[expose] public section

set_option maxRecDepth 16384

noncomputable section

namespace Cert.Proof.Ple

open Cert.PleIdeal Cert.PleIdeal.Gen Cert.PleIdeal.Value Idealize.ShloMosaic Idealize.ShloMosaic.TcCoe Idealize.SL.Sem
open Cert.PleRefIdeal.Read

theorem tile_le (t : Fin cfg0.N) : t.val * 512 + 512 ≤ 8192 := by
  have h : t.val < grid0.N := t.isLt
  rw [N_0] at h; omega

/-- Where each window's block lies: a tile of rows, or the whole array. -/
theorem idxs : ∀ t : Fin cfg0.N,
    ((win0_0.index t (0 : Fin 2) = t.val ∧ win0_0.index t (1 : Fin 2) = 0) ∧ (win0_1.index t (0 : Fin 2) = t.val ∧ win0_1.index t (1 : Fin 2) = 0)
      ∧ (win0_2.index t (0 : Fin 2) = t.val ∧ win0_2.index t (1 : Fin 2) = 0) ∧ (win0_3.index t (0 : Fin 2) = t.val ∧ win0_3.index t (1 : Fin 2) = 0))
    ∧ ((win0_4.index t (0 : Fin 2) = 0 ∧ win0_4.index t (1 : Fin 2) = 0) ∧ (win0_5.index t (0 : Fin 2) = 0 ∧ win0_5.index t (1 : Fin 2) = 0)
      ∧ (win0_10.index t (0 : Fin 2) = 0 ∧ win0_10.index t (1 : Fin 2) = 0))
    ∧ (win0_6.index t (0 : Fin 2) = t.val ∧ win0_6.index t (1 : Fin 2) = 0) ∧ (win0_7.index t (0 : Fin 2) = t.val ∧ win0_7.index t (1 : Fin 2) = 0)
    ∧ (win0_8.index t (0 : Fin 2) = t.val ∧ win0_8.index t (1 : Fin 2) = 0) ∧ (win0_9.index t (0 : Fin 2) = t.val ∧ win0_9.index t (1 : Fin 2) = 0) :=
  (by decide +kernel : ∀ t : Fin grid0.N, _)

/-- The tile of rows of point `t`. -/
abbrev at' (t : Fin cfg0.N) (j : S512x1024.Idx) : S8192x1024.Idx := row (t.val * 512) (tile_le t) j

theorem emb0 (t : Fin cfg0.N) (j : S512x1024.Idx) : ((cfg0.win 0).blk t).view.emb j = at' t j := blk_row _ _ j (idxs t).1.1 rfl rfl
theorem emb1 (t : Fin cfg0.N) (j : S512x1024.Idx) : ((cfg0.win 1).blk t).view.emb j = at' t j := blk_row _ _ j (idxs t).1.2.1 rfl rfl
theorem emb2 (t : Fin cfg0.N) (j : S512x1024.Idx) : ((cfg0.win 2).blk t).view.emb j = at' t j := blk_row _ _ j (idxs t).1.2.2.1 rfl rfl
theorem emb3 (t : Fin cfg0.N) (j : S512x1024.Idx) : ((cfg0.win 3).blk t).view.emb j = at' t j := blk_row _ _ j (idxs t).1.2.2.2 rfl rfl
theorem emb4 (t : Fin cfg0.N) (j : S1x1024.Idx) : ((cfg0.win 4).blk t).view.emb j = j := blk_whole _ j (idxs t).2.1.1 rfl rfl
theorem emb5 (t : Fin cfg0.N) (j : S1024x1024.Idx) : ((cfg0.win 5).blk t).view.emb j = j := blk_whole _ j (idxs t).2.1.2.1 rfl rfl
theorem emb6 (t : Fin cfg0.N) (j : S512x1024.Idx) : ((cfg0.win 6).blk t).view.emb j = at' t j := blk_row _ _ j (idxs t).2.2.1 rfl rfl
theorem emb7 (t : Fin cfg0.N) (j : S512x1024.Idx) : ((cfg0.win 7).blk t).view.emb j = at' t j := blk_row _ _ j (idxs t).2.2.2.1 rfl rfl
theorem emb8 (t : Fin cfg0.N) (j : S512x1024.Idx) : ((cfg0.win 8).blk t).view.emb j = at' t j := blk_row _ _ j (idxs t).2.2.2.2.1 rfl rfl
theorem emb9 (t : Fin cfg0.N) (j : S512x1024.Idx) : ((cfg0.win 9).blk t).view.emb j = at' t j := blk_row _ _ j (idxs t).2.2.2.2.2 rfl rfl
theorem emb10 (t : Fin cfg0.N) (j : S1x1024.Idx) : ((cfg0.win 10).blk t).view.emb j = j := blk_whole _ j (idxs t).2.1.2.2 rfl rfl

/-- Every row is in the tile of the point that writes it. -/
theorem cover (i : S8192x1024.Idx) : ∃ (t : Fin cfg0.N) (j : S512x1024.Idx), at' t j = i := by
  have hi : (i 0).val < 8192 := (i 0).isLt
  have ht : (i 0).val / 512 < cfg0.N := by show (i 0).val / 512 < grid0.N; rw [N_0]; omega
  exact ⟨⟨(i 0).val / 512, ht⟩, _, (row_of i (by decide) (tile_le ⟨(i 0).val / 512, ht⟩)).symm⟩

/-- The blocks the body reads at point `t`. -/
theorem iblks {F : FTy → Type} [FloatOps F] (m : (ℓ : Loc nD τ sig) → Buf (Elt F) ℓ) (c : Dev nD) (t : Fin cfg0.N) :
    iblk m c 0 t = (fun j => V m c main_arg0 (at' t j))
    ∧ iblk m c 1 t = (fun j => V m c main_v16 (at' t j))
    ∧ iblk m c 2 t = (fun j => V m c main_v18 (at' t j))
    ∧ iblk m c 3 t = (fun j => V m c main_arg1 (at' t j))
    ∧ iblk m c 4 t = V m c main_v2
    ∧ iblk m c 5 t = V m c main_v0 := by
  unfold iblk
  generalize V m c = X
  refine ⟨?_, ?_, ?_, ?_, ?_, ?_⟩ <;> funext j
  · exact congrArg (X main_arg0) (emb0 t j)
  · exact congrArg (X main_v16) (emb1 t j)
  · exact congrArg (X main_v18) (emb2 t j)
  · exact congrArg (X main_arg1) (emb3 t j)
  · exact congrArg (X main_v2) (emb4 t j)
  · exact congrArg (X main_v0) (emb5 t j)

variable (m : (ℓ : Loc nD τ sig) → Buf (Elt Ideal) ℓ) (c : Dev nD)

abbrev ct : Vec Ideal S8192x1024 .f32 := m ((c : Thread nD τ).loc main_arg0)
abbrev xs : Vec Ideal S8192x1024 .f32 := m ((c : Thread nD τ).loc main_arg1)
abbrev ps : Vec Ideal S8192x256 .f32 := m ((c : Thread nD τ).loc main_arg2)
abbrev gain : Vec Ideal S1024 .f32 := m ((c : Thread nD τ).loc main_arg3)
abbrev wg : Vec Ideal S1024x1024 .f32 := m ((c : Thread nD τ).loc main_arg4)
abbrev we : Vec Ideal S256x1024 .f32 := m ((c : Thread nD τ).loc main_arg5)

/-! ## The arrays the region finds -/

/-- The logits are the reference's. -/
theorem Vlogits : V m c main_v16 = val_main_v17 (xs m c) (gain m c) (wg m c) := by
  unfold Gen.V
  after_reads_simp
  rfl

/-- The embedding is the reference's. -/
theorem Vemb : V m c main_v18 = val_main_v28 (ps m c) (we m c) := by
  unfold Gen.V
  after_reads_simp
  rfl

theorem Vgain (j : Fin 1024) : V m c main_v2 (ValueIdx.ix2 0 j) = gain m c (ValueIdx.ix1 j) := by
  unfold Gen.V
  after_reads_at
  exact congrArg (m _) (funext fun a => match a with | ⟨0, _⟩ => rfl)

theorem Vwg : V m c main_v0 = fun i => wg m c i := by
  funext i; unfold Gen.V; after_reads_at

/-- The row of the array that row `r` of point `t` is. -/
abbrev rowAt (t : Fin cfg0.N) (r : Fin 512) : Fin 8192 := ⟨t.val * 512 + r.val, by have := tile_le t; omega⟩

theorem at_ix (t : Fin cfg0.N) (r : Fin 512) (d : Fin 1024) : at' t (ValueIdx.ix2 r d) = ValueIdx.ix2 (rowAt t r) d := idx2_ext rfl rfl

/-- The blocks as rows of the arguments and of the reference's stages. -/
theorem reads (t : Fin cfg0.N) :
    iblk m c 0 t = (fun j => ct m c (at' t j))
    ∧ iblk m c 1 t = (fun j => val_main_v17 (xs m c) (gain m c) (wg m c) (at' t j))
    ∧ iblk m c 2 t = (fun j => val_main_v28 (ps m c) (we m c) (at' t j))
    ∧ iblk m c 3 t = (fun j => xs m c (at' t j))
    ∧ iblk m c 4 t = V m c main_v2
    ∧ iblk m c 5 t = fun j => wg m c j := by
  obtain ⟨i0, i1, i2, i3, i4, i5⟩ := iblks m c t
  refine ⟨i0.trans ?_, i1.trans ?_, i2.trans ?_, i3.trans ?_, i4, i5.trans (Vwg m c)⟩
  · rw [V_main_arg0]
  · rw [Vlogits]
  · rw [Vemb]
  · rw [V_main_arg1]

end Cert.Proof.Ple
end
-- ==== Proof.Ple.Value.lean ====
/- The gradient through the gated embedding over the reals: the kernel's five results are the reference's. -/
module

public import proofs.«01_k».proof.Proof.Ple.Blocks

@[expose] public section

set_option maxRecDepth 16384

noncomputable section

namespace Cert.Proof.Ple

open Cert.PleIdeal Cert.PleIdeal.Gen Cert.PleIdeal.Value Idealize.ShloMosaic Idealize.ShloMosaic.TcCoe Idealize.SL.Sem Cert.Proof.Rms
open Cert.PleRefIdeal.Read

variable (m : (ℓ : Loc nD τ sig) → Buf (Elt Ideal) ℓ) (c : Dev nD)

/-- The five gradients, as the reference computes them. -/
abbrev gl : Vec Ideal S8192x1024 .bf16 := val_main_v58 (ct m c) (xs m c) (ps m c) (gain m c) (wg m c) (we m c)
abbrev gp : Vec Ideal S8192x1024 .bf16 := val_main_v59 (ct m c) (xs m c) (gain m c) (wg m c)
abbrev gh : Vec Ideal S8192x1024 .bf16 := val_main_v60 (xs m c) (gain m c)
abbrev gx : Vec Ideal S8192x1024 .f32 := val_main_v57 (ct m c) (xs m c) (ps m c) (gain m c) (wg m c) (we m c)
abbrev gg : Vec Ideal S1x1024 .f32 := val_main_v61 (ct m c) (xs m c) (ps m c) (gain m c) (wg m c) (we m c)

/-- The gradient of the normalised rows, as the reference computes it. -/
abbrev gy : Vec Ideal S8192x1024 .f32 := val_main_v36 (ct m c) (xs m c) (ps m c) (gain m c) (wg m c) (we m c)

/-- The blocks the body reads at point `t`. -/
abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S512x1024 .f32 := iblk m c 2 t
abbrev b3 (t : Fin cfg0.N) : Vec Ideal S512x1024 .f32 := iblk m c 3 t
abbrev b4 (t : Fin cfg0.N) : Vec Ideal S1x1024 .f32 := iblk m c 4 t
abbrev b5 (t : Fin cfg0.N) : Vec Ideal S1024x1024 .bf16 := iblk m c 5 t

/-- The stored gradient of the logits. -/
theorem tile6 (t : Fin cfg0.N) : k0_pay5 (b0 m c t) (b1 m c t) (b2 m c t) = fun j => gl m c (at' t j) := by
  obtain ⟨i0, i1, i2, -⟩ := reads m c t
  unfold b0 b1 b2
  rw [i0, i1, i2]
  exact funext fun j => (pay5_at _ _ _ j).trans (v35_at (ct m c) (xs m c) (ps m c) (gain m c) (wg m c) (we m c) (at' t j)).symm

/-- The stored gradient of the embedding. -/
theorem tile7 (t : Fin cfg0.N) : k0_pay4 (b0 m c t) (b1 m c t) = fun j => gp m c (at' t j) := by
  obtain ⟨i0, i1, -⟩ := reads m c t
  unfold b0 b1
  rw [i0, i1]
  exact funext fun j => (pay4_at _ _ j).trans (v33_at (ct m c) (xs m c) (gain m c) (wg m c) (at' t j)).symm

/-- The stored normalised rows. -/
theorem tile8 (t : Fin cfg0.N) : k0_pay8 (b3 m c t) (k0_pay6 (b4 m c t)) (k0_pay7 (b3 m c t)) (Scalar.ofBits .f32 0x358637BD#32) = fun j => gh m c (at' t j) := by
  obtain ⟨-, -, -, i3, i4, -⟩ := reads m c t
  unfold b3 b4
  rw [i3, i4]
  funext j
  obtain ⟨r, d, rfl⟩ := idx2_cases j
  rw [pay8_at, at_ix, Vgain]
  refine Eq.trans ?_ (v16_at (xs m c) (gain m c) (rowAt t r) d).symm
  simp only [at_ix]

/-- The gradient of the normalised rows of the tile. -/
theorem prod (t : Fin cfg0.N) (r : Fin 512) (d : Fin 1024) :
    k0_pay9 (F := Ideal) (k0_pay5 (b0 m c t) (b1 m c t) (b2 m c t)) (b5 m c t) (ValueIdx.ix2 r d) = gy m c (ValueIdx.ix2 (rowAt t r) d) := by
  obtain ⟨-, -, -, -, -, i5⟩ := reads m c t
  rw [pay9_at, tile6]
  unfold b5
  rw [i5]
  simp only [at_ix]
  exact (v36_at (ct m c) (xs m c) (ps m c) (gain m c) (wg m c) (we m c) (rowAt t r) d).symm

/-- Point `n`'s part of the gradient of the gain. -/
def part (n : Nat) (y : S1x1024.Idx) : EReal :=
  if h : n < cfg0.N then ∑ r : Fin 512, gy m c (ValueIdx.ix2 (rowAt ⟨n, h⟩ r) (y 1)) * val_main_v13 (xs m c) (ValueIdx.ix2 (rowAt ⟨n, h⟩ r) (y 1)) else 0

theorem gain_part (t : Fin cfg0.N) (xo : Vec Ideal S1x1024 .f32) :
    k0_pay1 (k0_pay12 (k0_pay5 (b0 m c t) (b1 m c t) (b2 m c t)) (b3 m c t) (b5 m c t)) (k0_pay14 xo) = fun y => xo y + part m c t.val y := by
  funext y
  obtain ⟨i, d, rfl⟩ := idx2_cases y
  obtain rfl : i = 0 := Subsingleton.elim _ _
  rw [pay1_at, part, dif_pos t.isLt]
  refine congrArg (xo (ValueIdx.ix2 0 d) + ·) (Finset.sum_congr rfl fun r _ => congrArg₂ (· * ·) (prod m c t r d) ?_)
  obtain ⟨-, -, -, i3, -⟩ := reads m c t
  unfold b3
  rw [pay11_at, i3]
  simp only [at_ix]
  exact (v13_at (xs m c) (rowAt t r) d).symm

/-- Every entry of the arguments is a real. -/
def AllReal : Prop := (∀ i, IsReal (ct m c i)) ∧ (∀ i, IsReal (xs m c i)) ∧ (∀ i, IsReal (ps m c i)) ∧ (∀ i, IsReal (gain m c i)) ∧ (∀ i, IsReal (wg m c i))
  ∧ ∀ i, IsReal (we m c i)

variable {m c} in
/-- The stored gradient of the rows. -/
theorem tile9 (hr : AllReal m c) (t : Fin cfg0.N) :
    k0_pay13 (b0 m c t) (k0_pay5 (b0 m c t) (b1 m c t) (b2 m c t)) (b3 m c t) (b4 m c t) (b5 m c t) = fun j => gx m c (at' t j) := by
  obtain ⟨h0, h1, h2, h3, h4, h5⟩ := hr
  funext j
  obtain ⟨r, d, rfl⟩ := idx2_cases j
  rw [pay13_at, at_ix]
  refine Eq.trans ?_ (v57_at (ct m c) (xs m c) (ps m c) (gain m c) (wg m c) (we m c) h0 h1 h2 h3 h4 h5 (rowAt t r) d).symm
  simp only [prod]
  obtain ⟨i0, -, -, i3, i4, -⟩ := reads m c t
  unfold b0 b3 b4
  rw [i0, i3, i4]
  simp only [at_ix]
  exact congrArg (fun e => ct m c (ValueIdx.ix2 (rowAt t r) d) + kgrad _ _ (fun k => xs m c (ValueIdx.ix2 (rowAt t r) k)) e d)
    (funext fun k => congrArg (gy m c (ValueIdx.ix2 (rowAt t r) k) * ·) (Vgain m c k))

/-- What every point stores in the first four outputs. -/
theorem tiles (t : Fin cfg0.N) :
    (outsAt0 m c t.val t.isLt).1 = k0_pay5 (b0 m c t) (b1 m c t) (b2 m c t)
    ∧ (outsAt0 m c t.val t.isLt).2.1 = k0_pay4 (b0 m c t) (b1 m c t)
    ∧ (outsAt0 m c t.val t.isLt).2.2.1 = k0_pay8 (b3 m c t) (k0_pay6 (b4 m c t)) (k0_pay7 (b3 m c t)) (Scalar.ofBits .f32 0x358637BD#32)
    ∧ (outsAt0 m c t.val t.isLt).2.2.2.1 = k0_pay13 (b0 m c t) (k0_pay5 (b0 m c t) (b1 m c t) (b2 m c t)) (b3 m c t) (b4 m c t) (b5 m c t) := by
  by_cases h : t.val % 16 = 0
  · rw [outsAt0_A m c t h]
    dsimp only
    obtain ⟨e6, e7, e8, e9, -⟩ := outsA (F := Ideal) c _ _ _ _ _ _ _ _ _ _ _ _ _ _ _ _ _ _ _ _ _ _ _ ((hcond0_0 t).mpr h) (b0 m c t) (b1 m c t) (b2 m c t) (b3 m c t) (b4 m c t) (b5 m c t)
    exact ⟨e6, e7, e8, e9⟩
  · rw [outsAt0_B m c t h]
    dsimp only
    obtain ⟨e6, e7, e8, e9, -⟩ := outsB (F := Ideal) c _ _ _ _ _ _ _ _ _ _ _ _ _ _ _ _ _ _ _ _ _ _ _ (fun h' => h ((hcond0_0 t).mp h')) (b0 m c t) (b1 m c t) (b2 m c t) (b3 m c t) (b4 m c t) (b5 m c t) _
    exact ⟨e6, e7, e8, e9⟩

/-- The first point leaves its part. -/
theorem firstAt (t : Fin cfg0.N) (h : t.val % 16 = 0) : (outsAt0 m c t.val t.isLt).2.2.2.2 = part m c t.val := by
  rw [outsAt0_A m c t h]
  dsimp only
  refine (outsA (F := Ideal) c _ _ _ _ _ _ _ _ _ _ _ _ _ _ _ _ _ _ _ _ _ _ _ ((hcond0_0 t).mpr h) (b0 m c t) (b1 m c t) (b2 m c t) (b3 m c t) (b4 m c t) (b5 m c t)).2.2.2.2.trans
    ((gain_part m c t _).trans (funext fun y => ?_))
  show Ideal.ofBits .f32 0x00000000#32 + _ = _
  rw [Ideal.ofBits_zero_f32, zero_add]

/-- A later point adds its part. -/
theorem laterAt (t : Fin cfg0.N) (h : ¬t.val % 16 = 0) : (outsAt0 m c t.val t.isLt).2.2.2.2
    = fun y => (outsAt0 m c (t.val - 1) (Nat.lt_of_le_of_lt (Nat.sub_le _ _) t.isLt)).2.2.2.2 y + part m c t.val y := by
  rw [outsAt0_B m c t h]
  dsimp only
  exact (outsB (F := Ideal) c _ _ _ _ _ _ _ _ _ _ _ _ _ _ _ _ _ _ _ _ _ _ _ (fun h' => h ((hcond0_0 t).mp h')) (b0 m c t) (b1 m c t) (b2 m c t) (b3 m c t) (b4 m c t) (b5 m c t) _).2.2.2.2.trans
    (gain_part m c t _)

/-- What the last point leaves. -/
theorem lastAt (t : Fin cfg0.N) (h : t.val % 16 = 15) : (outsAt0 m c t.val t.isLt).2.2.2.2 = gg m c := by
  have e : t.val + 1 = 16 := by have := tile_le t; omega
  have hs : ∀ k, k + 1 < cfg0.N → ¬(k + 1) % 16 = 0 := fun k hk => by
    have hk : k + 1 < grid0.N := hk
    rw [N_0] at hk; omega
  have s := gathered (fun n h => (outsAt0 m c n h).2.2.2.2) (part m c) (fun h => firstAt m c ⟨0, h⟩ rfl)
    (fun k hk => congrFun (laterAt m c ⟨k + 1, hk⟩ (hs k hk))) t.val t.isLt
  rw [e] at s
  funext y
  refine (s y).trans ?_
  obtain ⟨i, d, rfl⟩ := idx2_cases y
  obtain rfl : i = 0 := Subsingleton.elim _ _
  refine Eq.trans ?_ (v61_at (ct m c) (xs m c) (ps m c) (gain m c) (wg m c) (we m c) d).symm
  exact sum_tiles (B := 512) (by decide) _ _ fun t ht hb => dif_pos ht

variable {m c} in
/-- The result arrays. -/
theorem final (hr : AllReal m c) :
    (dats m 0 c).arrAt 6 cfg0.N = gl m c ∧ (dats m 0 c).arrAt 7 cfg0.N = gp m c ∧ (dats m 0 c).arrAt 8 cfg0.N = gh m c
    ∧ (dats m 0 c).arrAt 9 cfg0.N = gx m c ∧ (dats m 0 c).arrAt 10 cfg0.N = gg m c := by
  have last : 15 < cfg0.N := by show 15 < grid0.N; rw [N_0]; decide
  refine ⟨(dats m 0 c).arrAt_eq_of_cover 6 _ (fun t _ => ?_) fun i => ?_, (dats m 0 c).arrAt_eq_of_cover 7 _ (fun t _ => ?_) fun i => ?_,
    (dats m 0 c).arrAt_eq_of_cover 8 _ (fun t _ => ?_) fun i => ?_, (dats m 0 c).arrAt_eq_of_cover 9 _ (fun t _ => ?_) fun i => ?_,
    (dats m 0 c).arrAt_eq_of_cover 10 _ (fun t ht => ?_) fun i => ?_⟩
  · rw [flushed6, (tiles m c t).1, tile6]
    exact funext fun j => congrArg (gl m c) (emb6 t j).symm
  · obtain ⟨t, j, rfl⟩ := cover i
    exact ⟨t, flush0_6 t, emb6 t j ▸ View.emb_mem_set _ j⟩
  · rw [flushed7, (tiles m c t).2.1, tile7]
    exact funext fun j => congrArg (gp m c) (emb7 t j).symm
  · obtain ⟨t, j, rfl⟩ := cover i
    exact ⟨t, flush0_7 t, emb7 t j ▸ View.emb_mem_set _ j⟩
  · rw [flushed8, (tiles m c t).2.2.1, tile8]
    exact funext fun j => congrArg (gh m c) (emb8 t j).symm
  · obtain ⟨t, j, rfl⟩ := cover i
    exact ⟨t, flush0_8 t, emb8 t j ▸ View.emb_mem_set _ j⟩
  · rw [flushed9, (tiles m c t).2.2.2, tile9 hr]
    exact funext fun j => congrArg (gx m c) (emb9 t j).symm
  · obtain ⟨t, j, rfl⟩ := cover i
    exact ⟨t, flush0_9 t, emb9 t j ▸ View.emb_mem_set _ j⟩
  · rw [flushed10, lastAt m c t ((flush0_10 t).mp ht)]
    exact funext fun j => congrArg (gg m c) (emb10 t j).symm
  · exact ⟨⟨15, last⟩, (flush0_10 _).mpr rfl, emb10 ⟨15, last⟩ i ▸ View.emb_mem_set _ i⟩

end Cert.Proof.Ple
end
-- ==== Proof.Ple.Claims.lean ====
/-
# The per-layer embedding backward call: frames and value
-/
module

public import proofs.«01_k».proof.Proof.Ple.Value
public import proofs.«01_k».proof.Proof.Gen.Ple.Frame
public import proofs.«01_k».proof.Proof.Gen.PleIdeal.Frame
public import proofs.«01_k».proof.Proof.Gen.PleRefIdeal.Run
public import proofs.«01_k».proof.Proof.Finite
public import proofs.«01_k».proof.Proof.Gen.Pre_finite_ple
public import proofs.«01_k».proof.Defs

@[expose] public section

set_option maxRecDepth 16384

noncomputable section

namespace Cert.Proof.Ple

open Idealize Idealize.ShloMosaic Idealize.ShloMosaic.TcCoe Cert.PleRefIdeal.Read Cert.Proof.Rms

/-- The kernel runs at the machine's words. -/
theorem frame : Cert.quiescent_Ple := fun m ρ _ => Cert.Ple.Gen.frame m ρ

/-- The kernel runs over the reals. -/
theorem frame_ideal : Cert.quiescent_PleIdeal := fun m ρ _ => Cert.PleIdeal.Gen.frame m ρ

/-- The reference runs over the reals; it declares no semaphore. -/
theorem frame_ref : Cert.quiescent_PleRefIdeal := fun m ρ _ =>
  (θ_run Cert.PleRefIdeal.defs _ _).mono (fun r h => ⟨fun c => (h c).2.2.2.2.2, sem_eq_zero_of_no_sems (by decide) r.2⟩) (Cert.PleRefIdeal.Value.run (F := Ideal) m ρ)

/-- The precondition makes every entry of the arguments real. -/
theorem finite (x0 x1 : FVec Ideal Cert.Pre_finite_ple.S8192x1024 .f32) (x2 : FVec Ideal Cert.Pre_finite_ple.S8192x256 .f32) (x3 : FVec Ideal Cert.Pre_finite_ple.S1024 .f32)
    (x4 : FVec Ideal Cert.Pre_finite_ple.S1024x1024 .f32) (x5 : FVec Ideal Cert.Pre_finite_ple.S256x1024 .f32)
    (h : Cert.Pre_finite_ple.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have : Subsingleton Cert.Pre_finite_ple.S_.Idx := ⟨fun a b => funext fun k => k.elim0⟩
  have g := congrFun h ValueIdx.ix0
  unfold Cert.Pre_finite_ple.fn Cert.Pre_finite_ple.fn_part1 at g
  dsimp only at g
  obtain ⟨g, g6⟩ := andi_one g
  obtain ⟨g, g5⟩ := andi_one g
  obtain ⟨g, g4⟩ := andi_one g
  obtain ⟨g, g3⟩ := andi_one g
  obtain ⟨g1, g2⟩ := andi_one g
  exact ⟨fun i => .of (real_of_all x0 _ _ _ _ _ _ (fun _ => rfl) (fun _ => rfl) g1 i), fun i => .of (real_of_all x1 _ _ _ _ _ _ (fun _ => rfl) (fun _ => rfl) g2 i),
    fun i => .of (real_of_all x2 _ _ _ _ _ _ (fun _ => rfl) (fun _ => rfl) g3 i), fun i => .of (real_of_all x3 _ _ _ _ _ _ (fun _ => rfl) (fun _ => rfl) g4 i),
    fun i => .of (real_of_all x4 _ _ _ _ _ _ (fun _ => rfl) (fun _ => rfl) g5 i), fun i => .of (real_of_all x5 _ _ _ _ _ _ (fun _ => rfl) (fun _ => rfl) g6 i)⟩

/-- Over the reals the kernel's five arrays are the reference's, where the arguments are real. -/
theorem algebraic : Cert.algebraic_PleIdeal_PleRefIdeal_pre_finite_ple := by
  intro m ρ m' ρ' hpre hag
  refine ⟨fun c => gl m c, fun c => gp m c, fun c => gh m c, fun c => gx m c, fun c => gg m c, ?_, ?_⟩
  · refine (θ_run Cert.PleIdeal.defs _ _).mono (fun r h c => ?_) (Cert.PleIdeal.Value.run_blocks m ρ)
    obtain ⟨f6, f7, f8, f9, f10⟩ := final (m := m) (c := c) (finite _ _ _ _ _ _ (hpre c))
    obtain ⟨h6, h7, h8, h9, h10, hk⟩ := h c
    exact ⟨h6.trans f6, h7.trans f7, h8.trans f8, h9.trans f9, h10.trans f10, hk⟩
  · refine (θ_run Cert.PleRefIdeal.defs _ _).mono (fun r h c => ?_) (Cert.PleRefIdeal.Value.run (F := Ideal) m' ρ')
    obtain ⟨h0, h1, h2, h3, h4, hk⟩ := h c
    obtain ⟨a0, a1, a2, a3, a4, a5⟩ := hag c
    have e0 : m' ((c.tc : Thread Cert.PleRefIdeal.nD Cert.PleRefIdeal.τ).loc Cert.PleRefIdeal.main_arg0) = ct m c := a0
    have e1 : m' ((c.tc : Thread Cert.PleRefIdeal.nD Cert.PleRefIdeal.τ).loc Cert.PleRefIdeal.main_arg1) = xs m c := a1
    have e2 : m' ((c.tc : Thread Cert.PleRefIdeal.nD Cert.PleRefIdeal.τ).loc Cert.PleRefIdeal.main_arg2) = ps m c := a2
    have e3 : m' ((c.tc : Thread Cert.PleRefIdeal.nD Cert.PleRefIdeal.τ).loc Cert.PleRefIdeal.main_arg3) = gain m c := a3
    have e4 : m' ((c.tc : Thread Cert.PleRefIdeal.nD Cert.PleRefIdeal.τ).loc Cert.PleRefIdeal.main_arg4) = wg m c := a4
    have e5 : m' ((c.tc : Thread Cert.PleRefIdeal.nD Cert.PleRefIdeal.τ).loc Cert.PleRefIdeal.main_arg5) = we m c := a5
    rw [val_main_v58_eq, e0, e1, e2, e3, e4, e5] at h0
    rw [val_main_v59_eq, e0, e1, e3, e4] at h1
    rw [val_main_v60_eq, e1, e3] at h2
    rw [val_main_v57_eq, e0, e1, e2, e3, e4, e5] at h3
    rw [val_main_v61_eq, e0, e1, e2, e3, e4, e5] at h4
    exact ⟨h0, h1, h2, h3, h4, hk⟩

/-- No operation was rewritten. -/
theorem preserves : Cert.preserves_Ple_PleIdeal := trivial

end Cert.Proof.Ple

end
-- ==== Proof.Loss.Outs.lean ====
/- The loss and its gradient, kernel side: what the body leaves in its output blocks. -/
module

public import proofs.«01_k».proof.Proof.Gen.LossIdeal.Value
public import proofs.«01_k».proof.Proof.Rms

@[expose] public section

set_option maxRecDepth 16384

noncomputable section

namespace Cert.Proof.Loss

open Cert.LossIdeal Cert.LossIdeal.Gen Cert.LossIdeal.Value Idealize.ShloMosaic Idealize.ShloMosaic.TcCoe Idealize.SL.Sem

section
variable {F : FTy → Type} [FloatOps F] (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S1x128 .f32) (h4 : a4.IsWhole)
  (a5 : Memref sig .tc .vmem S512x1024 .f32) (h5 : a5.IsWhole) (a6 : Memref sig .tc .vmem S1x1024 .f32) (h6 : a6.IsWhole) (hc : cond0_0 i) (hn : ¬cond0_0 i)
  (x0 : Vec F S512x1024 .f32) (x1 : Vec F S1x1024 .f32) (x2 : Vec F S512x1024 .f32) (xo3 : Vec F S1x128 .f32) (xo5 : Vec F S1x1024 .f32)

/-- What the body leaves in the three output blocks at the first point. -/
theorem outsA :
    out0_A_3 c i a1 h1 a2 h2 a3 h3 a4 h4 a5 h5 a6 h6 hc x0 x1 x2 = k0_pay9 x0 x1 x2 k0_pay6
    ∧ out0_A_4 c i a1 h1 a2 h2 a3 h3 a4 h4 a5 h5 a6 h6 hc x0 x1 x2 = k0_pay4 x0 (k0_pay8 x0 x1 x2) x1
    ∧ out0_A_5 c i a1 h1 a2 h2 a3 h3 a4 h4 a5 h5 a6 h6 hc x0 x1 x2 = k0_pay5 x0 (k0_pay8 x0 x1 x2) k0_pay7 := by
  refine ⟨?_, ?_, ?_⟩ <;>
    (first | unfold out0_A_3 | unfold out0_A_4 | unfold out0_A_5) <;>
    (rw [View.read_writes_junk_eq_canon]; unfold kernelRun0_A; dsimp only; sl_unfold_words
     simp (discharger := first | decide | rfl) only [↓View.readCov_skip, ↓View.readCov_fill, canon2, View.readAt_eq_ld, h1.read_unread, h2.read_unread, h3.read_unread, ld2])

/-- What the body leaves in the three output blocks at a later point. -/
theorem outsB :
    out0_B_3 c i a1 h1 a2 h2 a3 h3 a4 h4 a5 h5 a6 h6 hn x0 x1 x2 xo3 xo5 = k0_pay9 x0 x1 x2 xo3
    ∧ out0_B_4 c i a1 h1 a2 h2 a3 h3 a4 h4 a5 h5 a6 h6 hn x0 x1 x2 xo3 xo5 = k0_pay4 x0 (k0_pay8 x0 x1 x2) x1
    ∧ out0_B_5 c i a1 h1 a2 h2 a3 h3 a4 h4 a5 h5 a6 h6 hn x0 x1 x2 xo3 xo5 = k0_pay5 x0 (k0_pay8 x0 x1 x2) xo5 := by
  refine ⟨?_, ?_, ?_⟩ <;>
    (first | unfold out0_B_3 | unfold out0_B_4 | unfold out0_B_5) <;>
    (rw [View.read_writes_junk_eq_canon]; unfold kernelRun0_B; dsimp only; sl_unfold_words
     simp only [canon2, View.readAt_eq_ld, h1.read_unread, h2.read_unread, h3.read_unread, h4.read_unread, h6.read_unread, ld2])

end

end Cert.Proof.Loss
end
-- ==== Proof.Loss.Ref.lean ====
/- The loss and its gradient: the reference's stages, and the kernel's stored values, read at a row and a column. -/
module

public import proofs.«01_k».proof.Proof.Gen.LossRefIdeal.Read
public import proofs.«01_k».proof.Proof.Loss.Outs
public import proofs.«01_k».proof.Proof.Tiles

@[expose] public section

set_option maxRecDepth 16384

noncomputable section

namespace Cert.Proof.Loss

open Idealize.ShloMosaic Idealize.ShloMosaic.TcCoe Cert.Proof.Rms

/-! ## Constants -/

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_thou : Ideal.ofBits .f32 0x3A800000#32 = ((1 / 1024 : ℝ) : EReal) := by
  simp [Ideal.ofBits, Ideal.ieee, -EReal.coe_mul]; norm_num

/-- The factor of the error in the gradient: a half of twice the reciprocal of the columns' count. -/
theorem factor (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [ofBits_half, Ideal.ofBits_one_f32, ofBits_1024, ofBits_two, ofBits_thou, mul_one, mul_comm e, ← mul_assoc]
  refine congrArg (· * e) ?_
  rw [div_real _ _ (by norm_num), ← EReal.coe_mul]
  norm_num

/-- A half of a sum. -/
theorem half_sum {n : ℕ} (f : Fin n → EReal) : Ideal.ofBits .f32 0x3F000000#32 * ∑ k, f k = ∑ k, Ideal.ofBits .f32 0x3F000000#32 * f k := by
  rw [ofBits_half]
  refine Finset.induction_on Finset.univ (by simp) fun a s ha ih => ?_
  rw [Finset.sum_insert ha, Finset.sum_insert ha, EReal.left_distrib_of_nonneg_of_ne_top (by exact_mod_cast (by norm_num : (0 : ℝ) ≤ 1 / 2)) (EReal.coe_ne_top _), ih]

/-- The mean of the squares of a row. -/
def meanSq {n : ℕ} (e : Fin n → EReal) : EReal := Ideal.div (∑ k, e k * e k) (Ideal.ofBits .f32 0x44800000#32)

/-! ## The reference -/

section reference
open Cert.LossRefIdeal Cert.LossRefIdeal.Gen Cert.LossRefIdeal.Read

variable (x0 : Vec Ideal S8192x1024 .f32) (x1 : Vec Ideal S1024 .f32) (x2 : Vec Ideal S8192x1024 .f32)

/-- The rows over their roots. -/
theorem v12_at (r : Fin 8192) (d : Fin 1024) : val_main_v12 x0 (ValueIdx.ix2 r d)
    = x0 (ValueIdx.ix2 r d) * inv (Ideal.ofBits .f32 0x44800000#32) (Ideal.ofBits .f32 0x358637BD#32) fun k => x0 (ValueIdx.ix2 r k) :=
  ref_unit_at x0 0x44800000#32 0x358637BD#32 _ _ _ _ _ r d

/-- The gain at a column. -/
theorem v14_at (r : Fin 8192) (d : Fin 1024) : val_main_v14 x1 (ValueIdx.ix2 r d) = x1 (ValueIdx.ix1 d) := by
  rw [val_main_v14_apply, val_main_v13_apply]
  exact congrArg x1 (funext fun a => by match a with | ⟨0, _⟩ => rfl)
theorem v34_at (r : Fin 8192) (d : Fin 1024) : val_main_v34 x1 (ValueIdx.ix2 r d) = x1 (ValueIdx.ix1 d) := by
  rw [val_main_v34_apply, val_main_v13_apply]
  exact congrArg x1 (funext fun a => by match a with | ⟨0, _⟩ => rfl)

/-- The error. -/
theorem v16_at (r : Fin 8192) (d : Fin 1024) : val_main_v16 x0 x1 x2 (ValueIdx.ix2 r d)
    = x0 (ValueIdx.ix2 r d) * inv (Ideal.ofBits .f32 0x44800000#32) (Ideal.ofBits .f32 0x358637BD#32) (fun k => x0 (ValueIdx.ix2 r k)) * x1 (ValueIdx.ix1 d)
      - x2 (ValueIdx.ix2 r d) :=
  congrArg (· - x2 (ValueIdx.ix2 r d)) (congrArg₂ (· * ·) (v12_at x0 r d) (v14_at x1 r d))

/-- The gradient of the normalised rows. -/
theorem v30_at (i : S8192x1024.Idx) : val_main_v30 x0 x1 x2 i = val_main_v16 x0 x1 x2 i * Ideal.ofBits .f32 0x3A800000#32 :=
  factor (val_main_v16 x0 x1 x2 i)

theorem v35_at (r : Fin 8192) (d : Fin 1024) : val_main_v35 x0 x1 x2 (ValueIdx.ix2 r d)
    = val_main_v16 x0 x1 x2 (ValueIdx.ix2 r d) * Ideal.ofBits .f32 0x3A800000#32 * x1 (ValueIdx.ix1 d) :=
  congrArg₂ (· * ·) (v30_at x0 x1 x2 (ValueIdx.ix2 r d)) (v34_at x1 r d)

/-- The gradient of the gain. -/
theorem v53_at (d : Fin 1024) : val_main_v53 x0 x1 x2 (ValueIdx.ix2 0 d)
    = ∑ r : Fin 8192, val_main_v16 x0 x1 x2 (ValueIdx.ix2 r d) * Ideal.ofBits .f32 0x3A800000#32 * val_main_v12 x0 (ValueIdx.ix2 r d) :=
  (ref_gain_at (val_main_v31 x0 x1 x2) _ _ _ _ _ d).trans (Finset.sum_congr rfl fun r _ =>
    (mul_comm _ _).trans (congrArg (· * val_main_v12 x0 (ValueIdx.ix2 r d)) (v30_at x0 x1 x2 (ValueIdx.ix2 r d))))

/-- The mean squared error of a row. -/
theorem v22_at (r : Fin 8192) : val_main_v22 x0 x1 x2 (ValueIdx.ix1 r) = meanSq fun k => val_main_v16 x0 x1 x2 (ValueIdx.ix2 r k) :=
  congrArg (Ideal.div · _) (ref_row_sum (val_main_v17 x0 x1 x2) reducesTo_S8192x1024_S8192_d1 h_S_ r)

/-- The loss. -/
theorem v24_at (i : S_.Idx) : val_main_v24 x0 x1 x2 i
    = ∑ r : Fin 8192, Ideal.ofBits .f32 0x3F000000#32 * meanSq fun k => val_main_v16 x0 x1 x2 (ValueIdx.ix2 r k) := by
  refine Eq.trans (congrArg (Ideal.ofBits .f32 0x3F000000#32 * ·) ?_) (half_sum _)
  rw [val_main_v23_apply]
  refine (congrArg₂ (· + ·) Ideal.ofBits_zero_f32 ?_).trans (zero_add _)
  exact Fintype.sum_equiv ⟨fun j => j 0, ValueIdx.ix1, fun j => (funext fun a => match a with | ⟨0, _⟩ => rfl), fun _ => rfl⟩ _ _ fun j =>
    (congrArg (val_main_v22 x0 x1 x2) (show j = ValueIdx.ix1 (j 0) from funext fun a => match a with | ⟨0, _⟩ => rfl)).trans (v22_at x0 x1 x2 (j 0))

/-- The row that holds the loss at its first place and zeros after it. -/
theorem v52_at (k : Fin 128) : val_main_v52 x0 x1 x2 (ValueIdx.ix2 0 k)
    = if k.val = 0 then ∑ r : Fin 8192, Ideal.ofBits .f32 0x3F000000#32 * meanSq fun k => val_main_v16 x0 x1 x2 (ValueIdx.ix2 r k) else 0 := by
  unfold val_main_v52
  by_cases h : k.val = 0
  · rw [if_pos h]
    refine (pad_cols _ _ pads_S1x1_S1x128_000_01270 h_S_ (ValueIdx.ix2 0 k) 0 (by show k.val = 0 + 0; omega)).trans ?_
    exact v24_at x0 x1 x2 _
  · rw [if_neg h]
    refine (pad_cols_off _ _ pads_S1x1_S1x128_000_01270 h_S_ (ValueIdx.ix2 0 k) (Or.inr (by show 0 + 1 ≤ k.val; omega))).trans ?_
    show ((((0#32 : BitVec 32).toInt : ℝ)) : EReal) = 0
    simp

variable (hx0 : ∀ i, IsReal (x0 i)) (hx1 : ∀ i, IsReal (x1 i)) (hx2 : ∀ i, IsReal (x2 i))

include hx0 hx1 hx2 in
/-- The gradient of the rows, as the kernel orders it. -/
theorem v50_at (r : Fin 8192) (d : Fin 1024) : val_main_v50 x0 x1 x2 (ValueIdx.ix2 r d)
    = kgrad (Ideal.ofBits .f32 0x44800000#32) (Ideal.ofBits .f32 0x358637BD#32) (fun k => x0 (ValueIdx.ix2 r k))
      (fun k => val_main_v16 x0 x1 x2 (ValueIdx.ix2 r k) * Ideal.ofBits .f32 0x3A800000#32 * x1 (ValueIdx.ix1 k)) d := by
  have e : (fun k => val_main_v16 x0 x1 x2 (ValueIdx.ix2 r k) * Ideal.ofBits .f32 0x3A800000#32 * x1 (ValueIdx.ix1 k)) = fun k => val_main_v35 x0 x1 x2 (ValueIdx.ix2 r k) :=
    funext fun k => (v35_at x0 x1 x2 r k).symm
  have he : ∀ k, IsReal (val_main_v35 x0 x1 x2 (ValueIdx.ix2 r k)) := fun k => by
    rw [v35_at, v16_at, ofBits_thou, ofBits_1024, ofBits_eps]
    exact (((((hx0 _).mul (IsReal.inv (by norm_num) (by norm_num) fun k => hx0 _)).mul (hx1 _)).sub (hx2 _)).mul (.coe _)).mul (hx1 _)
  refine (ref_grad_at (val_main_v41 x0 x1 x2) x0 (val_main_v35 x0 x1 x2) 0x44800000#32 0x358637BD#32 0xBF000000#32
    reducesTo_S8192x1024_S8192_d1 h_S_ bcast_S8192_S8192x1_0 bcast_S_S8192x1 reducesTo_S8192x1024_S8192_d1 shapeCasts_S8192_S8192x1 reducesTo_S8192x1_S8192_d1
    bcast_S8192_S8192x1024_0 r d).trans ?_
  rw [e, show val_main_v41 x0 x1 x2 (ValueIdx.ix2 r d) = val_main_v35 x0 x1 x2 (ValueIdx.ix2 r d)
      * inv (Ideal.ofBits .f32 0x44800000#32) (Ideal.ofBits .f32 0x358637BD#32) fun k => x0 (ValueIdx.ix2 r k) from
    congrArg (fun t => val_main_v35 x0 x1 x2 (ValueIdx.ix2 r d) * t)
      ((col_cols _ _ r d).trans (congrArg Ideal.rsqrt (ref_msq_at x0 0x44800000#32 0x358637BD#32 _ _ _ _ _ r)))]
  rw [ofBits_1024, ofBits_eps, ofBits_half_neg, grad_sum (C := 1024) (ε := 8796093 / 2 ^ 43) (by norm_num) (by norm_num) (fun k => hx0 _) he]

end reference

/-! ## The kernel -/

section kernel
open Cert.LossIdeal Cert.LossIdeal.Gen

variable (x0 : Vec Ideal S512x1024 .f32) (x1 : Vec Ideal S1x1024 .f32) (x2 : Vec Ideal S512x1024 .f32) (xo3 : Vec Ideal S1x128 .f32) (xo5 : Vec Ideal S1x1024 .f32)
  (r : Fin 512) (d : Fin 1024)

theorem pay3_at : k0_pay3 (F := Ideal) x0 (ValueIdx.ix2 r d)
    = x0 (ValueIdx.ix2 r d) * inv (Ideal.ofBits .f32 0x44800000#32) (Ideal.ofBits .f32 0x358637BD#32) fun k => x0 (ValueIdx.ix2 r k) :=
  unit_at x0 0x44800000#32 0x358637BD#32 _ _ _ _ _ r d

/-- The error. -/
theorem pay8_at : k0_pay8 (F := Ideal) x0 x1 x2 (ValueIdx.ix2 r d)
    = x0 (ValueIdx.ix2 r d) * inv (Ideal.ofBits .f32 0x44800000#32) (Ideal.ofBits .f32 0x358637BD#32) (fun k => x0 (ValueIdx.ix2 r k)) * x1 (ValueIdx.ix2 0 d)
      - x2 (ValueIdx.ix2 r d) := by
  unfold k0_pay8
  rw [shapeCast_self]
  exact congrArg (· - x2 (ValueIdx.ix2 r d)) (congrArg₂ (· * ·) (unit_at x0 0x44800000#32 0x358637BD#32 _ _ _ _ _ r d) (over_rows x1 _ r d))

/-- The stored gradient of the rows. -/
theorem pay4_at (y : FVec Ideal S512x1024 .f32) : k0_pay4 (F := Ideal) x0 y x1 (ValueIdx.ix2 r d)
    = kgrad (Ideal.ofBits .f32 0x44800000#32) (Ideal.ofBits .f32 0x358637BD#32) (fun k => x0 (ValueIdx.ix2 r k))
      (fun k => y (ValueIdx.ix2 r k) * Ideal.ofBits .f32 0x3A800000#32 * x1 (ValueIdx.ix2 0 k)) d := by
  unfold k0_pay4 k0_pay3 k0_pay2
  rw [shapeCast_self]
  have e : (fun k => y (ValueIdx.ix2 r k) * Ideal.ofBits .f32 0x3A800000#32 * x1 (ValueIdx.ix2 0 k))
      = fun k => mulf (k0_pay1 (F := Ideal) y) (broadcastTo S512x1024 x1 broadcasts_S1x1024_S512x1024) (ValueIdx.ix2 r k) :=
    funext fun k => congrArg (y (ValueIdx.ix2 r k) * Ideal.ofBits .f32 0x3A800000#32 * ·) (over_rows x1 _ r k).symm
  rw [e]
  exact block_grad x0 _ 0x44800000#32 0x358637BD#32 _ _ _ _ _ _ _ _ _ _ r d

/-- The stored gradient of the gain. -/
theorem pay5_at (y : FVec Ideal S512x1024 .f32) : k0_pay5 (F := Ideal) x0 y xo5 (ValueIdx.ix2 0 d)
    = xo5 (ValueIdx.ix2 0 d) + ∑ r : Fin 512, y (ValueIdx.ix2 r d) * Ideal.ofBits .f32 0x3A800000#32 * k0_pay3 (F := Ideal) x0 (ValueIdx.ix2 r d) := by
  unfold k0_pay5
  rw [shapeCast_self]
  exact congrArg (xo5 (ValueIdx.ix2 0 d) + ·) (col_sum _ _ _ _ _ d)

/-- The lanes' mark of the first place. -/
theorem lane : ∀ k : Fin 128, cmpi .eq (iota .tc S1x128 32 [1] iota_S1x128_d1_w32) (broadcast S1x128 0#32) (ValueIdx.ix2 0 k) = if k.val = 0 then 1#1 else 0#1 := by
  decide +kernel

/-- The stored row of the loss. -/
theorem pay9_at (k : Fin 128) : k0_pay9 (F := Ideal) x0 x1 x2 xo3 (ValueIdx.ix2 0 k)
    = xo3 (ValueIdx.ix2 0 k) + if k.val = 0 then ∑ r : Fin 512, Ideal.ofBits .f32 0x3F000000#32 * meanSq fun q => k0_pay8 (F := Ideal) x0 x1 x2 (ValueIdx.ix2 r q) else 0 := by
  unfold k0_pay9
  generalize k0_pay8 (F := Ideal) x0 x1 x2 = e
  rw [shapeCast_self, shapeCast_self]
  refine congrArg (xo3 (ValueIdx.ix2 0 k) + ·) ?_
  show (if cmpi .eq (iota .tc S1x128 32 [1] iota_S1x128_d1_w32) (broadcast S1x128 0#32) (ValueIdx.ix2 0 k) = 1#1 then _ else Ideal.ofBits .f32 0x00000000#32) = _
  rw [lane]
  by_cases h : k.val = 0
  · rw [if_pos h, if_pos h, if_pos rfl]
    refine (over_cols _ _ 0 k).trans (Eq.trans (congrArg (Ideal.ofBits .f32 0x3F000000#32 * ·) ?_) (half_sum _))
    refine (col_sum _ _ _ _ _ 0).trans (Finset.sum_congr rfl fun r _ => congrArg (Ideal.div · _) ?_)
    exact row_sum _ _ _ _ _ r
  · rw [if_neg h, if_neg h, if_neg (by decide)]
    exact Ideal.ofBits_zero_f32

end kernel

end Cert.Proof.Loss
end
-- ==== Proof.Loss.Blocks.lean ====
/- The loss and its gradient, kernel side: where the blocks lie in the arrays, and what the arrays hold. -/
module

public import proofs.«01_k».proof.Proof.Loss.Ref

@[expose] public section

set_option maxRecDepth 16384

noncomputable section

namespace Cert.Proof.Loss

open Cert.LossIdeal Cert.LossIdeal.Gen Cert.LossIdeal.Value Idealize.ShloMosaic Idealize.ShloMosaic.TcCoe Idealize.SL.Sem

theorem tile_le (t : Fin cfg0.N) : t.val * 512 + 512 ≤ 8192 := by
  have h : t.val < grid0.N := t.isLt
  rw [N_0] at h; omega

/-- Where each window's block lies: a tile of rows, or the whole array. -/
theorem idxs : ∀ t : Fin cfg0.N,
    ((win0_0.index t (0 : Fin 2) = t.val ∧ win0_0.index t (1 : Fin 2) = 0) ∧ (win0_2.index t (0 : Fin 2) = t.val ∧ win0_2.index t (1 : Fin 2) = 0)
      ∧ (win0_4.index t (0 : Fin 2) = t.val ∧ win0_4.index t (1 : Fin 2) = 0))
    ∧ (win0_1.index t (0 : Fin 2) = 0 ∧ win0_1.index t (1 : Fin 2) = 0) ∧ (win0_3.index t (0 : Fin 2) = 0 ∧ win0_3.index t (1 : Fin 2) = 0)
    ∧ (win0_5.index t (0 : Fin 2) = 0 ∧ win0_5.index t (1 : Fin 2) = 0) :=
  (by decide +kernel : ∀ t : Fin grid0.N, _)

/-- The tile of rows of point `t`. -/
abbrev at' (t : Fin cfg0.N) (j : S512x1024.Idx) : S8192x1024.Idx := row (t.val * 512) (tile_le t) j

theorem emb0 (t : Fin cfg0.N) (j : S512x1024.Idx) : ((cfg0.win 0).blk t).view.emb j = at' t j := blk_row _ _ j (idxs t).1.1 rfl rfl
theorem emb1 (t : Fin cfg0.N) (j : S1x1024.Idx) : ((cfg0.win 1).blk t).view.emb j = j := blk_whole _ j (idxs t).2.1 rfl rfl
theorem emb2 (t : Fin cfg0.N) (j : S512x1024.Idx) : ((cfg0.win 2).blk t).view.emb j = at' t j := blk_row _ _ j (idxs t).1.2.1 rfl rfl
theorem emb3 (t : Fin cfg0.N) (j : S1x128.Idx) : ((cfg0.win 3).blk t).view.emb j = j := blk_whole _ j (idxs t).2.2.1 rfl rfl
theorem emb4 (t : Fin cfg0.N) (j : S512x1024.Idx) : ((cfg0.win 4).blk t).view.emb j = at' t j := blk_row _ _ j (idxs t).1.2.2 rfl rfl
theorem emb5 (t : Fin cfg0.N) (j : S1x1024.Idx) : ((cfg0.win 5).blk t).view.emb j = j := blk_whole _ j (idxs t).2.2.2 rfl rfl

/-- Every row is in the tile of the point that writes it. -/
theorem cover (i : S8192x1024.Idx) : ∃ (t : Fin cfg0.N) (j : S512x1024.Idx), at' t j = i := by
  have hi : (i 0).val < 8192 := (i 0).isLt
  have ht : (i 0).val / 512 < cfg0.N := by show (i 0).val / 512 < grid0.N; rw [N_0]; omega
  exact ⟨⟨(i 0).val / 512, ht⟩, _, (row_of i (by decide) (tile_le ⟨(i 0).val / 512, ht⟩)).symm⟩

/-- The blocks the body reads at point `t`. -/
theorem iblks {F : FTy → Type} [FloatOps F] (m : (ℓ : Loc nD τ sig) → Buf (Elt F) ℓ) (c : Dev nD) (t : Fin cfg0.N) :
    iblk m c 0 t = (fun j => V m c main_arg0 (at' t j)) ∧ iblk m c 1 t = V m c main_v0 ∧ iblk m c 2 t = (fun j => V m c main_arg2 (at' t j)) := by
  unfold iblk
  generalize V m c = X
  refine ⟨?_, ?_, ?_⟩ <;> funext j
  · exact congrArg (X main_arg0) (emb0 t j)
  · exact congrArg (X main_v0) (emb1 t j)
  · exact congrArg (X main_arg2) (emb2 t j)

variable (m : (ℓ : Loc nD τ sig) → Buf (Elt Ideal) ℓ) (c : Dev nD)

abbrev xs : Vec Ideal S8192x1024 .f32 := m ((c : Thread nD τ).loc main_arg0)
abbrev gain : Vec Ideal S1024 .f32 := m ((c : Thread nD τ).loc main_arg1)
abbrev goal : Vec Ideal S8192x1024 .f32 := m ((c : Thread nD τ).loc main_arg2)

theorem Vgain (j : Fin 1024) : V m c main_v0 (ValueIdx.ix2 0 j) = gain m c (ValueIdx.ix1 j) := by
  unfold Gen.V
  after_reads_at
  exact congrArg (m _) (funext fun a => match a with | ⟨0, _⟩ => rfl)

/-- The row of the array that row `r` of point `t` is. -/
abbrev rowAt (t : Fin cfg0.N) (r : Fin 512) : Fin 8192 := ⟨t.val * 512 + r.val, by have := tile_le t; omega⟩

theorem at_ix (t : Fin cfg0.N) (r : Fin 512) (d : Fin 1024) : at' t (ValueIdx.ix2 r d) = ValueIdx.ix2 (rowAt t r) d := idx2_ext rfl rfl

/-- The blocks the body reads at point `t`, as rows of the arguments. -/
abbrev b0 (t : Fin cfg0.N) : Vec Ideal S512x1024 .f32 := iblk m c 0 t
abbrev b1 (t : Fin cfg0.N) : Vec Ideal S1x1024 .f32 := iblk m c 1 t
abbrev b2 (t : Fin cfg0.N) : Vec Ideal S512x1024 .f32 := iblk m c 2 t

theorem b0_at (t : Fin cfg0.N) (r : Fin 512) (d : Fin 1024) : b0 m c t (ValueIdx.ix2 r d) = xs m c (ValueIdx.ix2 (rowAt t r) d) := by
  refine (congrFun (iblks m c t).1 _).trans ?_
  rw [V_main_arg0]
  exact congrArg (xs m c) (at_ix t r d)
theorem b1_at (t : Fin cfg0.N) (d : Fin 1024) : b1 m c t (ValueIdx.ix2 0 d) = gain m c (ValueIdx.ix1 d) :=
  (congrFun (iblks m c t).2.1 _).trans (Vgain m c d)
theorem b2_at (t : Fin cfg0.N) (r : Fin 512) (d : Fin 1024) : b2 m c t (ValueIdx.ix2 r d) = goal m c (ValueIdx.ix2 (rowAt t r) d) := by
  refine (congrFun (iblks m c t).2.2 _).trans ?_
  rw [V_main_arg2]
  exact congrArg (goal m c) (at_ix t r d)

end Cert.Proof.Loss
end
-- ==== Proof.Loss.Value.lean ====
/- The loss and its gradient over the reals: the kernel's three results are the reference's. -/
module

public import proofs.«01_k».proof.Proof.Loss.Blocks

@[expose] public section

set_option maxRecDepth 16384

noncomputable section

namespace Cert.Proof.Loss

open Cert.LossIdeal Cert.LossIdeal.Gen Cert.LossIdeal.Value Idealize.ShloMosaic Idealize.ShloMosaic.TcCoe Idealize.SL.Sem Cert.Proof.Rms
open Cert.LossRefIdeal.Read

variable (m : (ℓ : Loc nD τ sig) → Buf (Elt Ideal) ℓ) (c : Dev nD)

/-- The three results, as the reference computes them. -/
abbrev gl : Vec Ideal S1x128 .f32 := val_main_v52 (xs m c) (gain m c) (goal m c)
abbrev gx : Vec Ideal S8192x1024 .f32 := val_main_v50 (xs m c) (gain m c) (goal m c)
abbrev gg : Vec Ideal S1x1024 .f32 := val_main_v53 (xs m c) (gain m c) (goal m c)

/-- The error, as the reference computes it. -/
abbrev err : Vec Ideal S8192x1024 .f32 := val_main_v16 (xs m c) (gain m c) (goal m c)

theorem err_at (t : Fin cfg0.N) (r : Fin 512) (d : Fin 1024) :
    k0_pay8 (F := Ideal) (b0 m c t) (b1 m c t) (b2 m c t) (ValueIdx.ix2 r d) = err m c (ValueIdx.ix2 (rowAt t r) d) := by
  rw [pay8_at, b1_at, b2_at]
  simp only [b0_at]
  exact (v16_at (xs m c) (gain m c) (goal m c) (rowAt t r) d).symm

/-- Point `n`'s part of the loss. -/
def lossPart (n : Nat) (y : S1x128.Idx) : EReal :=
  if (y 1).val = 0 then
    if h : n < cfg0.N then ∑ r : Fin 512, Ideal.ofBits .f32 0x3F000000#32 * meanSq fun k => err m c (ValueIdx.ix2 (rowAt ⟨n, h⟩ r) k) else 0
  else 0

theorem loss_part (t : Fin cfg0.N) (xo : Vec Ideal S1x128 .f32) : k0_pay9 (b0 m c t) (b1 m c t) (b2 m c t) xo = fun y => xo y + lossPart m c t.val y := by
  funext y
  obtain ⟨i, k, rfl⟩ := idx2_cases y
  obtain rfl : i = 0 := Subsingleton.elim _ _
  rw [pay9_at, lossPart, dif_pos t.isLt]
  simp only [err_at]

/-- Point `n`'s part of the gradient of the gain. -/
def part (n : Nat) (y : S1x1024.Idx) : EReal :=
  if h : n < cfg0.N then ∑ r : Fin 512, err m c (ValueIdx.ix2 (rowAt ⟨n, h⟩ r) (y 1)) * Ideal.ofBits .f32 0x3A800000#32
    * val_main_v12 (xs m c) (ValueIdx.ix2 (rowAt ⟨n, h⟩ r) (y 1)) else 0

theorem gain_part (t : Fin cfg0.N) (xo : Vec Ideal S1x1024 .f32) :
    k0_pay5 (b0 m c t) (k0_pay8 (b0 m c t) (b1 m c t) (b2 m c t)) xo = fun y => xo y + part m c t.val y := by
  funext y
  obtain ⟨i, d, rfl⟩ := idx2_cases y
  obtain rfl : i = 0 := Subsingleton.elim _ _
  rw [pay5_at, part, dif_pos t.isLt]
  refine congrArg (xo (ValueIdx.ix2 0 d) + ·) (Finset.sum_congr rfl fun r _ => congrArg₂ (· * ·) (congrArg (· * _) (err_at m c t r d)) ?_)
  rw [pay3_at]
  simp only [b0_at]
  exact (v12_at (xs m c) (rowAt t r) d).symm

/-- Every entry of the arguments is a real. -/
def AllReal : Prop := (∀ i, IsReal (xs m c i)) ∧ (∀ i, IsReal (gain m c i)) ∧ ∀ i, IsReal (goal m c i)

variable {m c} in
/-- The stored gradient of the rows. -/
theorem tile4 (hr : AllReal m c) (t : Fin cfg0.N) :
    k0_pay4 (b0 m c t) (k0_pay8 (b0 m c t) (b1 m c t) (b2 m c t)) (b1 m c t) = fun j => gx m c (at' t j) := by
  obtain ⟨h0, h1, h2⟩ := hr
  funext j
  obtain ⟨r, d, rfl⟩ := idx2_cases j
  rw [pay4_at, at_ix]
  refine Eq.trans ?_ (v50_at (xs m c) (gain m c) (goal m c) h0 h1 h2 (rowAt t r) d).symm
  simp only [err_at, b0_at, b1_at]

/-- What every point stores in its tile of the gradient. -/
theorem tiles (t : Fin cfg0.N) : (outsAt0 m c t.val t.isLt).2.1 = k0_pay4 (b0 m c t) (k0_pay8 (b0 m c t) (b1 m c t) (b2 m c t)) (b1 m c t) := by
  by_cases h : t.val % 16 = 0
  · rw [outsAt0_A m c t h]
    dsimp only
    obtain ⟨-, e4, -⟩ := outsA (F := Ideal) c _ _ _ _ _ _ _ _ _ _ _ _ _ ((hcond0_0 t).mpr h) (b0 m c t) (b1 m c t) (b2 m c t)
    exact e4
  · rw [outsAt0_B m c t h]
    dsimp only
    obtain ⟨-, e4, -⟩ := outsB (F := Ideal) c _ _ _ _ _ _ _ _ _ _ _ _ _ (fun h' => h ((hcond0_0 t).mp h')) (b0 m c t) (b1 m c t) (b2 m c t)
      (outsAt0 m c (t.val - 1) (Nat.lt_of_le_of_lt (Nat.sub_le _ _) t.isLt)).1 (outsAt0 m c (t.val - 1) (Nat.lt_of_le_of_lt (Nat.sub_le _ _) t.isLt)).2.2
    exact e4

/-- The first point leaves its parts. -/
theorem firstAt (t : Fin cfg0.N) (h : t.val % 16 = 0) : (outsAt0 m c t.val t.isLt).1 = lossPart m c t.val ∧ (outsAt0 m c t.val t.isLt).2.2 = part m c t.val := by
  rw [outsAt0_A m c t h]
  dsimp only
  obtain ⟨e3, -, e5⟩ := outsA (F := Ideal) c _ _ _ _ _ _ _ _ _ _ _ _ _ ((hcond0_0 t).mpr h) (b0 m c t) (b1 m c t) (b2 m c t)
  refine ⟨e3.trans ((loss_part m c t _).trans (funext fun y => ?_)), e5.trans ((gain_part m c t _).trans (funext fun y => ?_))⟩ <;>
    (show Ideal.ofBits .f32 0x00000000#32 + _ = _; rw [Ideal.ofBits_zero_f32, zero_add])

/-- A later point adds its parts. -/
theorem laterAt (t : Fin cfg0.N) (h : ¬t.val % 16 = 0) :
    (outsAt0 m c t.val t.isLt).1 = (fun y => (outsAt0 m c (t.val - 1) (Nat.lt_of_le_of_lt (Nat.sub_le _ _) t.isLt)).1 y + lossPart m c t.val y)
    ∧ (outsAt0 m c t.val t.isLt).2.2 = fun y => (outsAt0 m c (t.val - 1) (Nat.lt_of_le_of_lt (Nat.sub_le _ _) t.isLt)).2.2 y + part m c t.val y := by
  rw [outsAt0_B m c t h]
  dsimp only
  obtain ⟨e3, -, e5⟩ := outsB (F := Ideal) c _ _ _ _ _ _ _ _ _ _ _ _ _ (fun h' => h ((hcond0_0 t).mp h')) (b0 m c t) (b1 m c t) (b2 m c t)
    (outsAt0 m c (t.val - 1) (Nat.lt_of_le_of_lt (Nat.sub_le _ _) t.isLt)).1 (outsAt0 m c (t.val - 1) (Nat.lt_of_le_of_lt (Nat.sub_le _ _) t.isLt)).2.2
  exact ⟨e3.trans (loss_part m c t _), e5.trans (gain_part m c t _)⟩

/-- What the last point leaves. -/
theorem lastAt (t : Fin cfg0.N) (h : t.val % 16 = 15) : (outsAt0 m c t.val t.isLt).1 = gl m c ∧ (outsAt0 m c t.val t.isLt).2.2 = gg m c := by
  have e : t.val + 1 = 16 := by have := tile_le t; omega
  have hs : ∀ k, k + 1 < cfg0.N → ¬(k + 1) % 16 = 0 := fun k hk => by
    have hk : k + 1 < grid0.N := hk
    rw [N_0] at hk; omega
  have s3 := gathered (fun n h => (outsAt0 m c n h).1) (lossPart m c) (fun h => (firstAt m c ⟨0, h⟩ rfl).1)
    (fun k hk => congrFun (laterAt m c ⟨k + 1, hk⟩ (hs k hk)).1) t.val t.isLt
  have s5 := gathered (fun n h => (outsAt0 m c n h).2.2) (part m c) (fun h => (firstAt m c ⟨0, h⟩ rfl).2)
    (fun k hk => congrFun (laterAt m c ⟨k + 1, hk⟩ (hs k hk)).2) t.val t.isLt
  rw [e] at s3 s5
  constructor <;> funext y <;> obtain ⟨i, d, rfl⟩ := idx2_cases y <;> obtain rfl : i = 0 := Subsingleton.elim _ _
  · refine (s3 _).trans (Eq.trans ?_ (v52_at (xs m c) (gain m c) (goal m c) d).symm)
    by_cases hd : d.val = 0
    · rw [if_pos hd]
      exact (Finset.sum_congr rfl fun n _ => if_pos hd).trans (sum_tiles (B := 512) (by decide) _ _ fun t ht hb => dif_pos ht)
    · rw [if_neg hd]
      exact Finset.sum_eq_zero fun n _ => if_neg hd
  · refine (s5 _).trans (Eq.trans ?_ (v53_at (xs m c) (gain m c) (goal m c) d).symm)
    exact sum_tiles (B := 512) (by decide) _ _ fun t ht hb => dif_pos ht

variable {m c} in
/-- The result arrays. -/
theorem final (hr : AllReal m c) :
    (dats m 0 c).arrAt 3 cfg0.N = gl m c ∧ (dats m 0 c).arrAt 4 cfg0.N = gx m c ∧ (dats m 0 c).arrAt 5 cfg0.N = gg m c := by
  have last : 15 < cfg0.N := by show 15 < grid0.N; rw [N_0]; decide
  refine ⟨(dats m 0 c).arrAt_eq_of_cover 3 _ (fun t ht => ?_) fun i => ?_, (dats m 0 c).arrAt_eq_of_cover 4 _ (fun t _ => ?_) fun i => ?_,
    (dats m 0 c).arrAt_eq_of_cover 5 _ (fun t ht => ?_) fun i => ?_⟩
  · rw [flushed3, (lastAt m c t ((flush0_3 t).mp ht)).1]
    exact funext fun j => congrArg (gl m c) (emb3 t j).symm
  · exact ⟨⟨15, last⟩, (flush0_3 _).mpr rfl, emb3 ⟨15, last⟩ i ▸ View.emb_mem_set _ i⟩
  · rw [flushed4, tiles, tile4 hr]
    exact funext fun j => congrArg (gx m c) (emb4 t j).symm
  · obtain ⟨t, j, rfl⟩ := cover i
    exact ⟨t, flush0_4 t, emb4 t j ▸ View.emb_mem_set _ j⟩
  · rw [flushed5, (lastAt m c t ((flush0_5 t).mp ht)).2]
    exact funext fun j => congrArg (gg m c) (emb5 t j).symm
  · exact ⟨⟨15, last⟩, (flush0_5 _).mpr rfl, emb5 ⟨15, last⟩ i ▸ View.emb_mem_set _ i⟩

end Cert.Proof.Loss
end
-- ==== Proof.Loss.Claims.lean ====
/-
# The loss call: frames and value
-/
module

public import proofs.«01_k».proof.Proof.Loss.Value
public import proofs.«01_k».proof.Proof.Gen.Loss.Frame
public import proofs.«01_k».proof.Proof.Gen.LossIdeal.Frame
public import proofs.«01_k».proof.Proof.Gen.LossRefIdeal.Run
public import proofs.«01_k».proof.Proof.Finite
public import proofs.«01_k».proof.Proof.Gen.Pre_finite_loss
public import proofs.«01_k».proof.Defs

@[expose] public section

set_option maxRecDepth 16384

noncomputable section

namespace Cert.Proof.Loss

open Idealize Idealize.ShloMosaic Idealize.ShloMosaic.TcCoe Cert.LossRefIdeal.Read Cert.Proof.Rms

/-- The kernel runs at the machine's words. -/
theorem frame : Cert.quiescent_Loss := fun m ρ _ => Cert.Loss.Gen.frame m ρ

/-- The kernel runs over the reals. -/
theorem frame_ideal : Cert.quiescent_LossIdeal := fun m ρ _ => Cert.LossIdeal.Gen.frame m ρ

/-- The reference runs over the reals; it declares no semaphore. -/
theorem frame_ref : Cert.quiescent_LossRefIdeal := fun m ρ _ =>
  (θ_run Cert.LossRefIdeal.defs _ _).mono (fun r h => ⟨fun c => (h c).2.2.2, sem_eq_zero_of_no_sems (by decide) r.2⟩) (Cert.LossRefIdeal.Value.run (F := Ideal) m ρ)

/-- The precondition makes every entry of the arguments real. -/
theorem finite (x0 : FVec Ideal Cert.Pre_finite_loss.S8192x1024 .f32) (x1 : FVec Ideal Cert.Pre_finite_loss.S1024 .f32) (x2 : FVec Ideal Cert.Pre_finite_loss.S8192x1024 .f32)
    (h : Cert.Pre_finite_loss.fn (F := Ideal) x0 x1 x2 = fun _ => 1#1) : (∀ i, IsReal (x0 i)) ∧ (∀ i, IsReal (x1 i)) ∧ ∀ i, IsReal (x2 i) := by
  have : Subsingleton Cert.Pre_finite_loss.S_.Idx := ⟨fun a b => funext fun k => k.elim0⟩
  have g := congrFun h ValueIdx.ix0
  unfold Cert.Pre_finite_loss.fn at g
  dsimp only at g
  obtain ⟨g, g3⟩ := andi_one g
  obtain ⟨g1, g2⟩ := andi_one g
  exact ⟨fun i => .of (real_of_all x0 _ _ _ _ _ _ (fun _ => rfl) (fun _ => rfl) g1 i), fun i => .of (real_of_all x1 _ _ _ _ _ _ (fun _ => rfl) (fun _ => rfl) g2 i),
    fun i => .of (real_of_all x2 _ _ _ _ _ _ (fun _ => rfl) (fun _ => rfl) g3 i)⟩

/-- Over the reals the kernel's three arrays are the reference's, where the arguments are real. -/
theorem algebraic : Cert.algebraic_LossIdeal_LossRefIdeal_pre_finite_loss := by
  intro m ρ m' ρ' hpre hag
  refine ⟨fun c => gl m c, fun c => gx m c, fun c => gg m c, ?_, ?_⟩
  · refine (θ_run Cert.LossIdeal.defs _ _).mono (fun r h c => ?_) (Cert.LossIdeal.Value.run_blocks m ρ)
    obtain ⟨f0, f1, f2⟩ := final (m := m) (c := c) (finite _ _ _ (hpre c))
    obtain ⟨h0, h1, h2, hk⟩ := h c
    exact ⟨h0.trans f0, h1.trans f1, h2.trans f2, hk⟩
  · refine (θ_run Cert.LossRefIdeal.defs _ _).mono (fun r h c => ?_) (Cert.LossRefIdeal.Value.run (F := Ideal) m' ρ')
    obtain ⟨h0, h1, h2, hk⟩ := h c
    obtain ⟨a0, a1, a2⟩ := hag c
    have e0 : m' ((c.tc : Thread Cert.LossRefIdeal.nD Cert.LossRefIdeal.τ).loc Cert.LossRefIdeal.main_arg0) = xs m c := a0
    have e1 : m' ((c.tc : Thread Cert.LossRefIdeal.nD Cert.LossRefIdeal.τ).loc Cert.LossRefIdeal.main_arg1) = gain m c := a1
    have e2 : m' ((c.tc : Thread Cert.LossRefIdeal.nD Cert.LossRefIdeal.τ).loc Cert.LossRefIdeal.main_arg2) = goal m c := a2
    rw [val_main_v52_eq, e0, e1, e2] at h0
    rw [val_main_v50_eq, e0, e1, e2] at h1
    rw [val_main_v53_eq, e0, e1, e2] at h2
    exact ⟨h0, h1, h2, hk⟩

/-- No operation was rewritten. -/
theorem preserves : Cert.preserves_Loss_LossIdeal := trivial

end Cert.Proof.Loss

end
-- ==== Proof.InProj.Outs.lean ====
/- The gradient through the input projection and its norm, kernel side: what the body leaves in its output blocks. -/
module

public import proofs.«01_k».proof.Proof.Gen.InProjIdeal.Value
public import proofs.«01_k».proof.Proof.Rms

@[expose] public section

set_option maxRecDepth 16384

noncomputable section

namespace Cert.Proof.InProj

open Cert.InProjIdeal Cert.InProjIdeal.Gen Cert.InProjIdeal.Value Idealize.ShloMosaic Idealize.ShloMosaic.TcCoe Idealize.SL.Sem

section
variable {F : FTy → Type} [FloatOps F]

/-- The gradient of the normalised rows: six products, one for each piece of the projection's columns. -/
def dyOf (x3 x4 : Vec F S512x1024 .bf16) (x5 x6 : Vec F S512x512 .bf16) (x7 : Vec F S512x256 .bf16) (x8 : Vec F S512x128 .bf16) (x9 : Vec F S1024x3456 .bf16) :
    FVec F S512x1024 .f32 :=
  k0_pay6 (k0_pay4 x3 (View.ld x9 (Rect.unit (s := S1024x3456) ![0, 0] S1024x1024.size inb_S1024x3456_S1024x1024_0_0))
      x4 (View.ld x9 (Rect.unit (s := S1024x3456) ![0, 1024] S1024x1024.size inb_S1024x3456_S1024x1024_0_1024))
      x5 (View.ld x9 (Rect.unit (s := S1024x3456) ![0, 2048] S1024x512.size inb_S1024x3456_S1024x512_0_2048))
      x6 (View.ld x9 (Rect.unit (s := S1024x3456) ![0, 2560] S1024x512.size inb_S1024x3456_S1024x512_0_2560)))
    (k0_pay5 x7) (View.ld x9 (Rect.unit (s := S1024x3456) ![0, 3072] S1024x256.size inb_S1024x3456_S1024x256_0_3072))
    x8 (View.ld x9 (Rect.unit (s := S1024x3456) ![0, 3328] S1024x128.size inb_S1024x3456_S1024x128_0_3328))

variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x1024 .bf16) (h4 : a4.IsWhole)
  (a5 : Memref sig .tc .vmem S512x1024 .bf16) (h5 : a5.IsWhole) (a6 : Memref sig .tc .vmem S512x512 .bf16) (h6 : a6.IsWhole)
  (a7 : Memref sig .tc .vmem S512x512 .bf16) (h7 : a7.IsWhole) (a8 : Memref sig .tc .vmem S512x256 .bf16) (h8 : a8.IsWhole)
  (a9 : Memref sig .tc .vmem S512x128 .bf16) (h9 : a9.IsWhole) (a10 : Memref sig .tc .vmem S1024x3456 .bf16) (h10 : a10.IsWhole)
  (a11 : Memref sig .tc .vmem S512x1024 .f32) (h11 : a11.IsWhole) (a12 : Memref sig .tc .vmem S512x1024 .bf16) (h12 : a12.IsWhole)
  (a13 : Memref sig .tc .vmem S1x1024 .f32) (h13 : a13.IsWhole) (hc : cond0_0 i) (hn : ¬cond0_0 i)
  (x0 x1 : Vec F S512x1024 .f32) (x2 : Vec F S1x1024 .f32) (x3 x4 : Vec F S512x1024 .bf16) (x5 x6 : Vec F S512x512 .bf16) (x7 : Vec F S512x256 .bf16)
  (x8 : Vec F S512x128 .bf16) (x9 : Vec F S1024x3456 .bf16) (xo : Vec F S1x1024 .f32)

/-- What the body leaves in the three output blocks at the first point. -/
theorem outsA :
    out0_A_10 c i a1 h1 a2 h2 a3 h3 a4 h4 a5 h5 a6 h6 a7 h7 a8 h8 a9 h9 a10 h10 a11 h11 a12 h12 a13 h13 hc x0 x1 x2 x3 x4 x5 x6 x7 x8 x9
      = k0_pay1 (dyOf x3 x4 x5 x6 x7 x8 x9) (k0_pay8 x1) (k0_pay9 x1) (k0_pay10 x2) x0
    ∧ out0_A_11 c i a1 h1 a2 h2 a3 h3 a4 h4 a5 h5 a6 h6 a7 h7 a8 h8 a9 h9 a10 h10 a11 h11 a12 h12 a13 h13 hc x0 x1 x2 x3 x4 x5 x6 x7 x8 x9 = k0_pay7 x1 x2
    ∧ out0_A_12 c i a1 h1 a2 h2 a3 h3 a4 h4 a5 h5 a6 h6 a7 h7 a8 h8 a9 h9 a10 h10 a11 h11 a12 h12 a13 h13 hc x0 x1 x2 x3 x4 x5 x6 x7 x8 x9
      = k0_pay2 (dyOf x3 x4 x5 x6 x7 x8 x9) (k0_pay9 x1) k0_pay3 := by
  refine ⟨?_, ?_, ?_⟩ <;>
    (first | unfold out0_A_10 | unfold out0_A_11 | unfold out0_A_12) <;>
    (rw [View.read_writes_junk_eq_canon]; unfold kernelRun0_A; dsimp only; sl_unfold_words
     simp (discharger := first | decide | rfl) only [↓View.readCov_skip, ↓View.readCov_fill, canon2, View.readAt_eq_ld, h1.read_unread, h2.read_unread, h3.read_unread,
       h4.read_unread, h5.read_unread, h6.read_unread, h7.read_unread, h8.read_unread, h9.read_unread, h10.read_unread, ld2]
     try rfl)

/-- What the body leaves in the three output blocks at a later point. -/
theorem outsB :
    out0_B_10 c i a1 h1 a2 h2 a3 h3 a4 h4 a5 h5 a6 h6 a7 h7 a8 h8 a9 h9 a10 h10 a11 h11 a12 h12 a13 h13 hn x0 x1 x2 x3 x4 x5 x6 x7 x8 x9 xo
      = k0_pay1 (dyOf x3 x4 x5 x6 x7 x8 x9) (k0_pay8 x1) (k0_pay9 x1) (k0_pay10 x2) x0
    ∧ out0_B_11 c i a1 h1 a2 h2 a3 h3 a4 h4 a5 h5 a6 h6 a7 h7 a8 h8 a9 h9 a10 h10 a11 h11 a12 h12 a13 h13 hn x0 x1 x2 x3 x4 x5 x6 x7 x8 x9 xo = k0_pay7 x1 x2
    ∧ out0_B_12 c i a1 h1 a2 h2 a3 h3 a4 h4 a5 h5 a6 h6 a7 h7 a8 h8 a9 h9 a10 h10 a11 h11 a12 h12 a13 h13 hn x0 x1 x2 x3 x4 x5 x6 x7 x8 x9 xo
      = k0_pay2 (dyOf x3 x4 x5 x6 x7 x8 x9) (k0_pay9 x1) xo := by
  refine ⟨?_, ?_, ?_⟩ <;>
    (first | unfold out0_B_10 | unfold out0_B_11 | unfold out0_B_12) <;>
    (rw [View.read_writes_junk_eq_canon]; unfold kernelRun0_B; dsimp only; sl_unfold_words
     simp only [canon2, View.readAt_eq_ld, h1.read_unread, h2.read_unread, h3.read_unread,
       h4.read_unread, h5.read_unread, h6.read_unread, h7.read_unread, h8.read_unread, h9.read_unread, h10.read_unread, h13.read_unread, ld2]
     try rfl)

end

end Cert.Proof.InProj
end
-- ==== Proof.InProj.Ref.lean ====
/- The gradient through the input projection and its norm: the reference's stages, and the kernel's stored values, read at a row and a column. -/
module

public import proofs.«01_k».proof.Proof.Gen.InProjRefIdeal.Read
public import proofs.«01_k».proof.Proof.InProj.Outs
public import proofs.«01_k».proof.Proof.Tiles

@[expose] public section

set_option maxRecDepth 16384

noncomputable section

namespace Cert.Proof.InProj

open Idealize.ShloMosaic Idealize.ShloMosaic.TcCoe Cert.Proof.Rms

/-! ## The reference -/

section reference
open Cert.InProjRefIdeal Cert.InProjRefIdeal.Gen Cert.InProjRefIdeal.Read

variable (x0 x1 : Vec Ideal S8192x1024 .f32) (x2 : Vec Ideal S1024 .f32) (x3 : Vec Ideal S8192x3392 .f32) (x4 : Vec Ideal S1024x3392 .f32)

/-- The rows over their roots. -/
theorem v12_at (r : Fin 8192) (d : Fin 1024) : val_main_v12 x1 (ValueIdx.ix2 r d)
    = x1 (ValueIdx.ix2 r d) * inv (Ideal.ofBits .f32 0x44800000#32) (Ideal.ofBits .f32 0x358637BD#32) fun k => x1 (ValueIdx.ix2 r k) :=
  ref_unit_at x1 0x44800000#32 0x358637BD#32 _ _ _ _ _ r d

/-- The gain at a column. -/
theorem v14_at (r : Fin 8192) (d : Fin 1024) : val_main_v14 x2 (ValueIdx.ix2 r d) = x2 (ValueIdx.ix1 d) := by
  rw [val_main_v14_apply, val_main_v13_apply]
  exact congrArg x2 (funext fun a => by match a with | ⟨0, _⟩ => rfl)

/-- The normalised rows. -/
theorem v15_at (r : Fin 8192) (d : Fin 1024) : val_main_v15 x1 x2 (ValueIdx.ix2 r d)
    = x1 (ValueIdx.ix2 r d) * inv (Ideal.ofBits .f32 0x44800000#32) (Ideal.ofBits .f32 0x358637BD#32) (fun k => x1 (ValueIdx.ix2 r k)) * x2 (ValueIdx.ix1 d) :=
  congrArg₂ (· * ·) (v12_at x1 r d) (v14_at x2 r d)

/-- The gradient of the normalised rows. -/
theorem v17_at (r : Fin 8192) (d : Fin 1024) : val_main_v17 x3 x4 (ValueIdx.ix2 r d) = ∑ k : Fin 3392, x3 (ValueIdx.ix2 r k) * x4 (ValueIdx.ix2 d k) :=
  dot_nt _ rfl _ x3 x4 (ValueIdx.ix2 r d)

theorem v22_at (r : Fin 8192) (d : Fin 1024) : val_main_v22 x2 x3 x4 (ValueIdx.ix2 r d) = val_main_v17 x3 x4 (ValueIdx.ix2 r d) * x2 (ValueIdx.ix1 d) :=
  congrArg (val_main_v17 x3 x4 (ValueIdx.ix2 r d) * ·) (v14_at x2 r d)

/-- The gradient of the gain. -/
theorem v40_at (d : Fin 1024) : val_main_v40 x1 x3 x4 (ValueIdx.ix2 0 d)
    = ∑ r : Fin 8192, val_main_v17 x3 x4 (ValueIdx.ix2 r d) * val_main_v12 x1 (ValueIdx.ix2 r d) :=
  (ref_gain_at (val_main_v18 x1 x3 x4) _ _ _ _ _ d).trans (Finset.sum_congr rfl fun r _ => mul_comm _ _)

variable (hx1 : ∀ i, IsReal (x1 i)) (hx2 : ∀ i, IsReal (x2 i)) (hx3 : ∀ i, IsReal (x3 i)) (hx4 : ∀ i, IsReal (x4 i))

include hx1 hx2 hx3 hx4 in
/-- The gradient of the rows, as the kernel orders it. -/
theorem v38_at (r : Fin 8192) (d : Fin 1024) : val_main_v38 x0 x1 x2 x3 x4 (ValueIdx.ix2 r d)
    = x0 (ValueIdx.ix2 r d) + kgrad (Ideal.ofBits .f32 0x44800000#32) (Ideal.ofBits .f32 0x358637BD#32) (fun k => x1 (ValueIdx.ix2 r k))
      (fun k => val_main_v17 x3 x4 (ValueIdx.ix2 r k) * x2 (ValueIdx.ix1 k)) d := by
  have e : (fun k => val_main_v17 x3 x4 (ValueIdx.ix2 r k) * x2 (ValueIdx.ix1 k)) = fun k => val_main_v22 x2 x3 x4 (ValueIdx.ix2 r k) :=
    funext fun k => (v22_at x2 x3 x4 r k).symm
  have he : ∀ k, IsReal (val_main_v22 x2 x3 x4 (ValueIdx.ix2 r k)) := fun k => by
    rw [v22_at, v17_at]
    exact (IsReal.dot (fun q => hx3 _) fun q => hx4 _).mul (hx2 _)
  refine (ref_grad_at (val_main_v29 x0 x1 x2 x3 x4) x1 (val_main_v22 x2 x3 x4) 0x44800000#32 0x358637BD#32 0xBF000000#32
    reducesTo_S8192x1024_S8192_d1 h_S_ bcast_S8192_S8192x1_0 bcast_S_S8192x1 reducesTo_S8192x1024_S8192_d1 shapeCasts_S8192_S8192x1 reducesTo_S8192x1_S8192_d1
    bcast_S8192_S8192x1024_0 r d).trans ?_
  rw [e, show val_main_v29 x0 x1 x2 x3 x4 (ValueIdx.ix2 r d) = x0 (ValueIdx.ix2 r d) + val_main_v22 x2 x3 x4 (ValueIdx.ix2 r d)
      * inv (Ideal.ofBits .f32 0x44800000#32) (Ideal.ofBits .f32 0x358637BD#32) fun k => x1 (ValueIdx.ix2 r k) from
    congrArg (fun t => x0 (ValueIdx.ix2 r d) + val_main_v22 x2 x3 x4 (ValueIdx.ix2 r d) * t)
      ((col_cols _ _ r d).trans (congrArg Ideal.rsqrt (ref_msq_at x1 0x44800000#32 0x358637BD#32 _ _ _ _ _ r)))]
  rw [ofBits_1024, ofBits_eps, ofBits_half_neg, grad_sum (C := 1024) (ε := 8796093 / 2 ^ 43) (by norm_num) (by norm_num) (fun k => hx1 _) he, ← add_assoc, ← add_assoc]

end reference

/-! ## The pieces of the projection's columns -/

/-- A sum over the projection's columns, piece by piece in the order the kernel lays them. -/
theorem split (f : ℕ → EReal) : ∑ q : Fin 3392, f q.val
    = 0 + ∑ k : Fin 1024, f (1344 + k.val) + ∑ k : Fin 1024, f (2368 + k.val) + ∑ k : Fin 512, f k.val + ∑ k : Fin 512, f (512 + k.val)
      + ∑ k : Fin 256, f (1024 + k.val) + ∑ k : Fin 128, if k.val < 64 then f (1280 + k.val) else 0 := by
  have tail : ∑ k : Fin 128, (if k.val < 64 then f (1280 + k.val) else 0) = ∑ k ∈ Finset.range 64, f (1280 + k) := by
    rw [← Finset.sum_range (fun k => if k < 64 then f (1280 + k) else 0), show 128 = 64 + 64 from rfl, Finset.sum_range_add]
    rw [Finset.sum_congr rfl (fun k hk => if_pos (Finset.mem_range.mp hk)), Finset.sum_eq_zero (fun k _ => if_neg (by omega)), add_zero]
  rw [tail, ← Finset.sum_range f, ← Finset.sum_range (fun k => f (1344 + k)), ← Finset.sum_range (fun k => f (2368 + k)), ← Finset.sum_range f,
    ← Finset.sum_range (fun k => f (512 + k)), ← Finset.sum_range (fun k => f (1024 + k))]
  rw [show 3392 = 512 + 512 + 256 + 64 + 1024 + 1024 from rfl, Finset.sum_range_add, Finset.sum_range_add, Finset.sum_range_add, Finset.sum_range_add, Finset.sum_range_add]
  rw [zero_add]
  ac_rfl

/-! ## The kernel -/

section kernel
open Cert.InProjIdeal Cert.InProjIdeal.Gen

/-- One of the six products. -/
theorem piece_at {K : Nat} (D : DotDims ⟨2, ![512, K]⟩ ⟨2, ![1024, K]⟩ ⟨2, ![512, 1024]⟩) (hD : D = DotDims.transposedRhs 512 K 1024)
    (x : FVec Ideal ⟨2, ![512, K]⟩ .bf16) (w : FVec Ideal ⟨2, ![1024, K]⟩ .bf16) (hx hw) (r : Fin 512) (d : Fin 1024) :
    matmul D none (shapeCast ⟨2, ![512, K]⟩ x hx) (shapeCast ⟨2, ![1024, K]⟩ w hw) (constant (F := Ideal) ⟨2, ![512, 1024]⟩ .f32 0x00000000#32) (ValueIdx.ix2 r d)
      = ∑ k : Fin K, x (ValueIdx.ix2 r k) * w (ValueIdx.ix2 d k) := by
  rw [shapeCast_self, shapeCast_self, matmul_nt D hD]
  show Ideal.ofBits .f32 0x00000000#32 + _ = _
  rw [Ideal.ofBits_zero_f32, zero_add]

/-- Columns of the weights. -/
theorem ld_cols {n o : Nat} (X : S1024x3456.Idx → Elt Ideal .bf16) (inb) (d : Fin 1024) (k : Fin n) (h : o + k.val < 3456) :
    View.ld X (Rect.unit (s := S1024x3456) ![0, o] (⟨2, ![1024, n]⟩ : Shape).size inb) (ValueIdx.ix2 d k) = X (ValueIdx.ix2 d ⟨o + k.val, h⟩) :=
  congrArg X (idx2_ext (by show 0 + 1 * d.val = d.val; omega) (by show o + 1 * k.val = o + k.val; omega))

variable (x0 x1 : Vec Ideal S512x1024 .f32) (x2 : Vec Ideal S1x1024 .f32) (x3 x4 : Vec Ideal S512x1024 .bf16) (x5 x6 : Vec Ideal S512x512 .bf16) (x7 : Vec Ideal S512x256 .bf16)
  (x8 : Vec Ideal S512x128 .bf16) (x9 : Vec Ideal S1024x3456 .bf16) (xo : Vec Ideal S1x1024 .f32) (r : Fin 512) (d : Fin 1024)

/-- The gradient of the normalised rows, as six sums. -/
theorem dyOf_at : dyOf (F := Ideal) x3 x4 x5 x6 x7 x8 x9 (ValueIdx.ix2 r d)
    = 0 + ∑ k : Fin 1024, x3 (ValueIdx.ix2 r k) * x9 (ValueIdx.ix2 d ⟨0 + k.val, by omega⟩) + ∑ k : Fin 1024, x4 (ValueIdx.ix2 r k) * x9 (ValueIdx.ix2 d ⟨1024 + k.val, by omega⟩)
      + ∑ k : Fin 512, x5 (ValueIdx.ix2 r k) * x9 (ValueIdx.ix2 d ⟨2048 + k.val, by omega⟩) + ∑ k : Fin 512, x6 (ValueIdx.ix2 r k) * x9 (ValueIdx.ix2 d ⟨2560 + k.val, by omega⟩)
      + ∑ k : Fin 256, x7 (ValueIdx.ix2 r k) * x9 (ValueIdx.ix2 d ⟨3072 + k.val, by omega⟩) + ∑ k : Fin 128, x8 (ValueIdx.ix2 r k) * x9 (ValueIdx.ix2 d ⟨3328 + k.val, by omega⟩) := by
  have p := fun {K : Nat} (D : DotDims ⟨2, ![512, K]⟩ ⟨2, ![1024, K]⟩ ⟨2, ![512, 1024]⟩) hD (x : FVec Ideal ⟨2, ![512, K]⟩ .bf16) (o : Nat) (ho : o + K ≤ 3456) (inb) hx hw =>
    (piece_at D hD x (View.ld x9 (Rect.unit (s := S1024x3456) ![0, o] (⟨2, ![1024, K]⟩ : Shape).size inb)) hx hw r d).trans
      (Finset.sum_congr rfl fun k _ => congrArg (x (ValueIdx.ix2 r k) * ·) (ld_cols x9 inb d k (by omega)))
  unfold dyOf k0_pay6 k0_pay5 k0_pay4
  refine congrArg₂ (· + ·) (congrArg₂ (· + ·) (congrArg₂ (· + ·) (congrArg₂ (· + ·) (congrArg₂ (· + ·) (congrArg₂ (· + ·) Ideal.ofBits_zero_f32 ?_) ?_) ?_) ?_) ?_) ?_
  · exact p _ rfl x3 0 (by decide) _ _ _
  · exact p _ rfl x4 1024 (by decide) _ _ _
  · exact p _ rfl x5 2048 (by decide) _ _ _
  · exact p _ rfl x6 2560 (by decide) _ _ _
  · exact p _ rfl x7 3072 (by decide) _ _ _
  · exact p _ rfl x8 3328 (by decide) _ _ _

theorem pay9_at : k0_pay9 (F := Ideal) x1 (ValueIdx.ix2 r d)
    = x1 (ValueIdx.ix2 r d) * inv (Ideal.ofBits .f32 0x44800000#32) (Ideal.ofBits .f32 0x358637BD#32) fun k => x1 (ValueIdx.ix2 r k) :=
  unit_at x1 0x44800000#32 0x358637BD#32 _ _ _ _ _ r d

/-- The stored normalised rows. -/
theorem pay7_at : k0_pay7 (F := Ideal) x1 x2 (ValueIdx.ix2 r d)
    = x1 (ValueIdx.ix2 r d) * inv (Ideal.ofBits .f32 0x44800000#32) (Ideal.ofBits .f32 0x358637BD#32) (fun k => x1 (ValueIdx.ix2 r k)) * x2 (ValueIdx.ix2 0 d) := by
  unfold k0_pay7
  rw [shapeCast_self]
  exact congrArg₂ (· * ·) (unit_at x1 0x44800000#32 0x358637BD#32 _ _ _ _ _ r d) (over_rows x2 _ r d)

/-- The stored gradient of the rows. -/
theorem pay1_at (y : FVec Ideal S512x1024 .f32) : k0_pay1 (F := Ideal) y (k0_pay8 x1) (k0_pay9 x1) (k0_pay10 x2) x0 (ValueIdx.ix2 r d)
    = x0 (ValueIdx.ix2 r d) + kgrad (Ideal.ofBits .f32 0x44800000#32) (Ideal.ofBits .f32 0x358637BD#32) (fun k => x1 (ValueIdx.ix2 r k))
      (fun k => y (ValueIdx.ix2 r k) * x2 (ValueIdx.ix2 0 k)) d := by
  unfold k0_pay1 k0_pay10 k0_pay9 k0_pay8
  rw [shapeCast_self]
  have e : (fun k => y (ValueIdx.ix2 r k) * x2 (ValueIdx.ix2 0 k)) = fun k => mulf y (broadcastTo S512x1024 x2 broadcasts_S1x1024_S512x1024) (ValueIdx.ix2 r k) :=
    funext fun k => congrArg (y (ValueIdx.ix2 r k) * ·) (over_rows x2 _ r k).symm
  rw [e]
  exact congrArg (x0 (ValueIdx.ix2 r d) + ·) (block_grad x1 _ 0x44800000#32 0x358637BD#32 _ _ _ _ _ _ _ _ _ _ r d)

/-- The stored gradient of the gain. -/
theorem pay2_at (y : FVec Ideal S512x1024 .f32) : k0_pay2 (F := Ideal) y (k0_pay9 x1) xo (ValueIdx.ix2 0 d)
    = xo (ValueIdx.ix2 0 d) + ∑ r : Fin 512, y (ValueIdx.ix2 r d) * k0_pay9 (F := Ideal) x1 (ValueIdx.ix2 r d) := by
  unfold k0_pay2
  rw [shapeCast_self]
  exact congrArg (xo (ValueIdx.ix2 0 d) + ·) (col_sum _ _ _ _ _ d)

end kernel

end Cert.Proof.InProj
end
-- ==== Proof.InProj.Blocks.lean ====
/- The gradient through the input projection and its norm, kernel side: where the blocks lie in the arrays, and what the arrays hold. -/
module

public import proofs.«01_k».proof.Proof.InProj.Ref

@[expose] public section

set_option maxRecDepth 16384

noncomputable section

namespace Cert.Proof.InProj

open Cert.InProjIdeal Cert.InProjIdeal.Gen Cert.InProjIdeal.Value Idealize.ShloMosaic Idealize.ShloMosaic.TcCoe Idealize.SL.Sem
open Cert.InProjRefIdeal.Read

theorem tile_le (t : Fin cfg0.N) : t.val * 512 + 512 ≤ 8192 := by
  have h : t.val < grid0.N := t.isLt
  rw [N_0] at h; omega

/-- Where each window's block lies: a tile of rows, or the whole array. -/
theorem idxs : ∀ t : Fin cfg0.N,
    ((win0_0.index t (0 : Fin 2) = t.val ∧ win0_0.index t (1 : Fin 2) = 0) ∧ (win0_1.index t (0 : Fin 2) = t.val ∧ win0_1.index t (1 : Fin 2) = 0)
      ∧ (win0_10.index t (0 : Fin 2) = t.val ∧ win0_10.index t (1 : Fin 2) = 0) ∧ (win0_11.index t (0 : Fin 2) = t.val ∧ win0_11.index t (1 : Fin 2) = 0))
    ∧ ((win0_2.index t (0 : Fin 2) = 0 ∧ win0_2.index t (1 : Fin 2) = 0) ∧ (win0_9.index t (0 : Fin 2) = 0 ∧ win0_9.index t (1 : Fin 2) = 0)
      ∧ (win0_12.index t (0 : Fin 2) = 0 ∧ win0_12.index t (1 : Fin 2) = 0))
    ∧ (win0_3.index t (0 : Fin 2) = t.val ∧ win0_3.index t (1 : Fin 2) = 0) ∧ (win0_4.index t (0 : Fin 2) = t.val ∧ win0_4.index t (1 : Fin 2) = 0)
    ∧ (win0_5.index t (0 : Fin 2) = t.val ∧ win0_5.index t (1 : Fin 2) = 0) ∧ (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

/-- The tile of rows of point `t`. -/
abbrev tileAt {w : Nat} (t : Fin cfg0.N) (j : (⟨2, ![512, w]⟩ : Shape).Idx) : (⟨2, ![8192, w]⟩ : Shape).Idx := row (t.val * 512) (tile_le t) j
abbrev at' (t : Fin cfg0.N) (j : S512x1024.Idx) : S8192x1024.Idx := tileAt t j

theorem emb0 (t : Fin cfg0.N) (j : S512x1024.Idx) : ((cfg0.win 0).blk t).view.emb j = at' t j := blk_row _ _ j (idxs t).1.1 rfl rfl
theorem emb1 (t : Fin cfg0.N) (j : S512x1024.Idx) : ((cfg0.win 1).blk t).view.emb j = at' t j := blk_row _ _ j (idxs t).1.2.1 rfl rfl
theorem emb2 (t : Fin cfg0.N) (j : S1x1024.Idx) : ((cfg0.win 2).blk t).view.emb j = j := blk_whole _ j (idxs t).2.1.1 rfl rfl
theorem emb3 (t : Fin cfg0.N) (j : S512x1024.Idx) : ((cfg0.win 3).blk t).view.emb j = at' t j := blk_row _ _ j (idxs t).2.2.1 rfl rfl
theorem emb4 (t : Fin cfg0.N) (j : S512x1024.Idx) : ((cfg0.win 4).blk t).view.emb j = at' t j := blk_row _ _ j (idxs t).2.2.2.1 rfl rfl
theorem emb5 (t : Fin cfg0.N) (j : S512x512.Idx) : ((cfg0.win 5).blk t).view.emb j = tileAt t j := blk_row _ _ j (idxs t).2.2.2.2.1 rfl rfl
theorem emb6 (t : Fin cfg0.N) (j : S512x512.Idx) : ((cfg0.win 6).blk t).view.emb j = tileAt t j := blk_row _ _ j (idxs t).2.2.2.2.2.1 rfl rfl
theorem emb7 (t : Fin cfg0.N) (j : S512x256.Idx) : ((cfg0.win 7).blk t).view.emb j = tileAt t j := blk_row _ _ j (idxs t).2.2.2.2.2.2.1 rfl rfl
theorem emb8 (t : Fin cfg0.N) (j : S512x128.Idx) : ((cfg0.win 8).blk t).view.emb j = tileAt t j := blk_row _ _ j (idxs t).2.2.2.2.2.2.2 rfl rfl
theorem emb9 (t : Fin cfg0.N) (j : S1024x3456.Idx) : ((cfg0.win 9).blk t).view.emb j = j := blk_whole _ j (idxs t).2.1.2.1 rfl rfl
theorem emb10 (t : Fin cfg0.N) (j : S512x1024.Idx) : ((cfg0.win 10).blk t).view.emb j = at' t j := blk_row _ _ j (idxs t).1.2.2.1 rfl rfl
theorem emb11 (t : Fin cfg0.N) (j : S512x1024.Idx) : ((cfg0.win 11).blk t).view.emb j = at' t j := blk_row _ _ j (idxs t).1.2.2.2 rfl rfl
theorem emb12 (t : Fin cfg0.N) (j : S1x1024.Idx) : ((cfg0.win 12).blk t).view.emb j = j := blk_whole _ j (idxs t).2.1.2.2 rfl rfl

/-- Every row is in the tile of the point that writes it. -/
theorem cover (i : S8192x1024.Idx) : ∃ (t : Fin cfg0.N) (j : S512x1024.Idx), at' t j = i := by
  have hi : (i 0).val < 8192 := (i 0).isLt
  have ht : (i 0).val / 512 < cfg0.N := by show (i 0).val / 512 < grid0.N; rw [N_0]; omega
  exact ⟨⟨(i 0).val / 512, ht⟩, _, (row_of i (by decide) (tile_le ⟨(i 0).val / 512, ht⟩)).symm⟩

/-- The blocks the body reads at point `t`. -/
theorem iblks {F : FTy → Type} [FloatOps F] (m : (ℓ : Loc nD τ sig) → Buf (Elt F) ℓ) (c : Dev nD) (t : Fin cfg0.N) :
    (iblk m c 0 t = (fun j => V m c main_arg0 (at' t j))
      ∧ iblk m c 1 t = (fun j => V m c main_arg1 (at' t j))
      ∧ iblk m c 2 t = V m c main_v17
      ∧ iblk m c 9 t = V m c main_v8)
    ∧ iblk m c 3 t = (fun j => V m c main_v12 (at' t j))
    ∧ iblk m c 4 t = (fun j => V m c main_v13 (at' t j))
    ∧ iblk m c 5 t = (fun j => V m c main_v14 (tileAt t j))
    ∧ iblk m c 6 t = (fun j => V m c main_v15 (tileAt t j))
    ∧ iblk m c 7 t = (fun j => V m c main_v16 (tileAt t j))
    ∧ iblk m c 8 t = (fun j => V m c main_v11 (tileAt t j)) := by
  unfold iblk
  generalize V m c = X
  refine ⟨⟨?_, ?_, ?_, ?_⟩, ?_, ?_, ?_, ?_, ?_, ?_⟩ <;> funext j
  · exact congrArg (X main_arg0) (emb0 t j)
  · exact congrArg (X main_arg1) (emb1 t j)
  · exact congrArg (X main_v17) (emb2 t j)
  · exact congrArg (X main_v8) (emb9 t j)
  · exact congrArg (X main_v12) (emb3 t j)
  · exact congrArg (X main_v13) (emb4 t j)
  · exact congrArg (X main_v14) (emb5 t j)
  · exact congrArg (X main_v15) (emb6 t j)
  · exact congrArg (X main_v16) (emb7 t j)
  · exact congrArg (X main_v11) (emb8 t j)

/-! ## Columns cut out and laid side by side -/

/-- Columns of an array. -/
theorem cut_cols {n w w' o : Nat} {α : Type} (x : (⟨2, ![n, w]⟩ : Shape).Idx → α) (h : (⟨2, ![n, w]⟩ : Shape).Slices ![0, o] ⟨2, ![n, w']⟩)
    (r : Fin n) (k : Fin w') (hk : o + k.val < w) : extractStridedSlice ⟨2, ![n, w']⟩ ![0, o] x h (ValueIdx.ix2 r k) = x (ValueIdx.ix2 r ⟨o + k.val, hk⟩) :=
  extractStridedSlice_apply _ _ _ _ _ fun a => by
    match a with
    | ⟨0, _⟩ => show r.val = 0 + r.val; omega
    | ⟨1, _⟩ => rfl

/-- The pieces of the weights, in the order the kernel lays them. -/
abbrev pieces (w : FVec Ideal S1024x3392 .bf16) : List ((s : Shape) × (s.Idx → EReal)) :=
  [⟨S1024x1024, extractStridedSlice S1024x1024 ![0, 1344] w slices_S1024x3392_S1024x1024_0_1344⟩,
   ⟨S1024x1024, extractStridedSlice S1024x1024 ![0, 2368] w slices_S1024x3392_S1024x1024_0_2368⟩,
   ⟨S1024x512, extractStridedSlice S1024x512 ![0, 0] w slices_S1024x3392_S1024x512_0_0⟩,
   ⟨S1024x512, extractStridedSlice S1024x512 ![0, 512] w slices_S1024x3392_S1024x512_0_512⟩,
   ⟨S1024x256, extractStridedSlice S1024x256 ![0, 1024] w slices_S1024x3392_S1024x256_0_1024⟩,
   ⟨S1024x64, extractStridedSlice S1024x64 ![0, 1280] w slices_S1024x3392_S1024x64_0_1280⟩,
   ⟨S1024x64, broadcastInDim S1024x64 ![] bcast_S_S1024x64 (constant (F := Ideal) S_ .bf16 0x0000#16)⟩]

def laid (w : FVec Ideal S1024x3392 .bf16) : FVec Ideal S1024x3456 .bf16 :=
  concatenate S1024x3456 1 (pieces w) concatenates_S1024x1024_S1024x1024_S1024x512_S1024x512_S1024x256_S1024x64_S1024x64_S1024x3456_d1

/-- Piece `p` of the weights, which begins at column `pre`. -/
theorem laid_piece (w : FVec Ideal S1024x3392 .bf16) (p : Nat) (hp : p < (pieces w).length) {n : Nat} (x : (⟨2, ![1024, n]⟩ : Shape).Idx → EReal)
    (hx : (pieces w)[p] = ⟨⟨2, ![1024, n]⟩, x⟩) (pre : Nat)
    (hpre : ((((pieces w).take p).map (·.1)).map fun s => if h : s.rank = S1024x3456.rank then s.size ((1 : Fin S1024x3456.rank).cast h.symm) else 0).sum = pre)
    (d : Fin 1024) (k : Fin n) (h : pre + k.val < 3456) : laid w (ValueIdx.ix2 d ⟨pre + k.val, h⟩) = x (ValueIdx.ix2 d k) :=
  concatenate_apply_piece (t := S1024x3456) 1 (pieces w) _ _ p hp _ x hx rfl pre hpre (ValueIdx.ix2 d k)
    (fun b hb => match b with | ⟨0, _⟩ => rfl | ⟨1, _⟩ => absurd rfl hb) rfl

theorem laid0 (w : FVec Ideal S1024x3392 .bf16) (d k : Fin 1024) : laid w (ValueIdx.ix2 d ⟨0 + k.val, by omega⟩) = w (ValueIdx.ix2 d ⟨1344 + k.val, by omega⟩) :=
  (laid_piece w 0 (by show 0 < 7; decide) _ rfl 0 rfl d k _).trans (cut_cols w _ d k _)
theorem laid1 (w : FVec Ideal S1024x3392 .bf16) (d k : Fin 1024) : laid w (ValueIdx.ix2 d ⟨1024 + k.val, by omega⟩) = w (ValueIdx.ix2 d ⟨2368 + k.val, by omega⟩) :=
  (laid_piece w 1 (by show 1 < 7; decide) _ rfl 1024 rfl d k _).trans (cut_cols w _ d k _)
theorem laid2 (w : FVec Ideal S1024x3392 .bf16) (d : Fin 1024) (k : Fin 512) : laid w (ValueIdx.ix2 d ⟨2048 + k.val, by omega⟩) = w (ValueIdx.ix2 d ⟨0 + k.val, by omega⟩) :=
  (laid_piece w 2 (by show 2 < 7; decide) _ rfl 2048 rfl d k _).trans (cut_cols w _ d k _)
theorem laid3 (w : FVec Ideal S1024x3392 .bf16) (d : Fin 1024) (k : Fin 512) : laid w (ValueIdx.ix2 d ⟨2560 + k.val, by omega⟩) = w (ValueIdx.ix2 d ⟨512 + k.val, by omega⟩) :=
  (laid_piece w 3 (by show 3 < 7; decide) _ rfl 2560 rfl d k _).trans (cut_cols w _ d k _)
theorem laid4 (w : FVec Ideal S1024x3392 .bf16) (d : Fin 1024) (k : Fin 256) : laid w (ValueIdx.ix2 d ⟨3072 + k.val, by omega⟩) = w (ValueIdx.ix2 d ⟨1024 + k.val, by omega⟩) :=
  (laid_piece w 4 (by show 4 < 7; decide) _ rfl 3072 rfl d k _).trans (cut_cols w _ d k _)
theorem laid5 (w : FVec Ideal S1024x3392 .bf16) (d : Fin 1024) (k : Fin 64) : laid w (ValueIdx.ix2 d ⟨3328 + k.val, by omega⟩) = w (ValueIdx.ix2 d ⟨1280 + k.val, by omega⟩) :=
  (laid_piece w 5 (by show 5 < 7; decide) _ rfl 3328 rfl d k _).trans (cut_cols w _ d k _)

variable (m : (ℓ : Loc nD τ sig) → Buf (Elt Ideal) ℓ) (c : Dev nD)

abbrev ct : Vec Ideal S8192x1024 .f32 := m ((c : Thread nD τ).loc main_arg0)
abbrev xs : Vec Ideal S8192x1024 .f32 := m ((c : Thread nD τ).loc main_arg1)
abbrev gain : Vec Ideal S1024 .f32 := m ((c : Thread nD τ).loc main_arg2)
abbrev dz : Vec Ideal S8192x3392 .f32 := m ((c : Thread nD τ).loc main_arg3)
abbrev wi : Vec Ideal S1024x3392 .f32 := m ((c : Thread nD τ).loc main_arg4)

/-! ## The arrays the region finds -/

theorem Vgain (j : Fin 1024) : V m c main_v17 (ValueIdx.ix2 0 j) = gain m c (ValueIdx.ix1 j) := by
  unfold Gen.V
  after_reads_at
  exact congrArg (m _) (funext fun a => match a with | ⟨0, _⟩ => rfl)

/-- The weights, laid out. -/
theorem Vw : V m c main_v8 = laid fun i => wi m c i := by
  unfold Gen.V
  after_reads_simp
  rfl

theorem V12 (r : Fin 8192) (k : Fin 1024) : V m c main_v12 (ValueIdx.ix2 r k) = dz m c (ValueIdx.ix2 r ⟨1344 + k.val, by omega⟩) := by
  unfold Gen.V
  after_reads_simp
  exact cut_cols (dz m c) _ r k _
theorem V13 (r : Fin 8192) (k : Fin 1024) : V m c main_v13 (ValueIdx.ix2 r k) = dz m c (ValueIdx.ix2 r ⟨2368 + k.val, by omega⟩) := by
  unfold Gen.V
  after_reads_simp
  exact cut_cols (dz m c) _ r k _
theorem V14 (r : Fin 8192) (k : Fin 512) : V m c main_v14 (ValueIdx.ix2 r k) = dz m c (ValueIdx.ix2 r ⟨0 + k.val, by omega⟩) := by
  unfold Gen.V
  after_reads_simp
  exact cut_cols (dz m c) _ r k _
theorem V15 (r : Fin 8192) (k : Fin 512) : V m c main_v15 (ValueIdx.ix2 r k) = dz m c (ValueIdx.ix2 r ⟨512 + k.val, by omega⟩) := by
  unfold Gen.V
  after_reads_simp
  exact cut_cols (dz m c) _ r k _
theorem V16 (r : Fin 8192) (k : Fin 256) : V m c main_v16 (ValueIdx.ix2 r k) = dz m c (ValueIdx.ix2 r ⟨1024 + k.val, by omega⟩) := by
  unfold Gen.V
  after_reads_simp
  exact cut_cols (dz m c) _ r k _

/-- The last columns, with zeros after them. -/
theorem V11_eq : V m c main_v11 = pad S8192x128 ![0, 0] ![0, 64] ![0, 0]
    (extractStridedSlice S8192x64 ![0, 1280] (dz m c) slices_S8192x3392_S8192x64_0_1280) (sitofp (F := Ideal) .bf16 (constantI S_ 32 0#32))
    pads_S8192x64_S8192x128_000_0640 h_S_ := by
  unfold Gen.V
  after_reads_simp
  rfl
theorem V11 (r : Fin 8192) (k : Fin 128) (h : k.val < 64) : V m c main_v11 (ValueIdx.ix2 r k) = dz m c (ValueIdx.ix2 r ⟨1280 + k.val, by omega⟩) := by
  rw [V11_eq]
  exact (pad_cols _ _ pads_S8192x64_S8192x128_000_0640 h_S_ (ValueIdx.ix2 r k) ⟨k.val, h⟩ (by show k.val = 0 + k.val; omega)).trans (cut_cols (dz m c) _ r ⟨k.val, h⟩ _)
theorem V11_off (r : Fin 8192) (k : Fin 128) (h : ¬k.val < 64) : V m c main_v11 (ValueIdx.ix2 r k) = (0 : EReal) := by
  rw [V11_eq]
  refine (pad_cols_off _ _ pads_S8192x64_S8192x128_000_0640 h_S_ (ValueIdx.ix2 r k) (Or.inr (by show 0 + 64 ≤ k.val; omega))).trans ?_
  show ((((0#32 : BitVec 32).toInt : ℝ)) : EReal) = 0
  simp

/-- The row of the array that row `r` of point `t` is. -/
abbrev rowAt (t : Fin cfg0.N) (r : Fin 512) : Fin 8192 := ⟨t.val * 512 + r.val, by have := tile_le t; omega⟩

theorem at_ix {w : Nat} (t : Fin cfg0.N) (r : Fin 512) (d : Fin w) : tileAt t (ValueIdx.ix2 r d) = ValueIdx.ix2 (rowAt t r) d := idx2_ext rfl rfl

end Cert.Proof.InProj
end
-- ==== Proof.InProj.Value.lean ====
/- The gradient through the input projection and its norm over the reals: the kernel's three results are the reference's. -/
module

public import proofs.«01_k».proof.Proof.InProj.Blocks

@[expose] public section

set_option maxRecDepth 16384

noncomputable section

namespace Cert.Proof.InProj

open Cert.InProjIdeal Cert.InProjIdeal.Gen Cert.InProjIdeal.Value Idealize.ShloMosaic Idealize.ShloMosaic.TcCoe Idealize.SL.Sem Cert.Proof.Rms
open Cert.InProjRefIdeal.Read

variable (m : (ℓ : Loc nD τ sig) → Buf (Elt Ideal) ℓ) (c : Dev nD)

/-- The three results, as the reference computes them. -/
abbrev gx : Vec Ideal S8192x1024 .f32 := val_main_v38 (ct m c) (xs m c) (gain m c) (dz m c) (wi m c)
abbrev gh : Vec Ideal S8192x1024 .bf16 := val_main_v39 (xs m c) (gain m c)
abbrev gg : Vec Ideal S1x1024 .f32 := val_main_v40 (xs m c) (dz m c) (wi m c)

/-- The gradient of the normalised rows, as the reference computes it. -/
abbrev gy : Vec Ideal S8192x1024 .f32 := val_main_v17 (dz m c) (wi m c)

/-- The blocks the body reads at point `t`. -/
abbrev b0 (t : Fin cfg0.N) : Vec Ideal S512x1024 .f32 := iblk m c 0 t
abbrev b1 (t : Fin cfg0.N) : Vec Ideal S512x1024 .f32 := iblk m c 1 t
abbrev b2 (t : Fin cfg0.N) : Vec Ideal S1x1024 .f32 := iblk m c 2 t
abbrev b3 (t : Fin cfg0.N) : Vec Ideal S512x1024 .bf16 := iblk m c 3 t
abbrev b4 (t : Fin cfg0.N) : Vec Ideal S512x1024 .bf16 := iblk m c 4 t
abbrev b5 (t : Fin cfg0.N) : Vec Ideal S512x512 .bf16 := iblk m c 5 t
abbrev b6 (t : Fin cfg0.N) : Vec Ideal S512x512 .bf16 := iblk m c 6 t
abbrev b7 (t : Fin cfg0.N) : Vec Ideal S512x256 .bf16 := iblk m c 7 t
abbrev b8 (t : Fin cfg0.N) : Vec Ideal S512x128 .bf16 := iblk m c 8 t
abbrev b9 (t : Fin cfg0.N) : Vec Ideal S1024x3456 .bf16 := iblk m c 9 t

/-- The gradient of the normalised rows of the tile. -/
abbrev yt (t : Fin cfg0.N) : FVec Ideal S512x1024 .f32 := dyOf (b3 m c t) (b4 m c t) (b5 m c t) (b6 m c t) (b7 m c t) (b8 m c t) (b9 m c t)

theorem prod (t : Fin cfg0.N) (r : Fin 512) (d : Fin 1024) : yt m c t (ValueIdx.ix2 r d) = gy m c (ValueIdx.ix2 (rowAt t r) d) := by
  obtain ⟨⟨-, -, -, i9⟩, i3, i4, i5, i6, i7, i8⟩ := iblks m c t
  let f : ℕ → EReal := fun n => if h : n < 3392 then dz m c (ValueIdx.ix2 (rowAt t r) ⟨n, h⟩) * wi m c (ValueIdx.ix2 d ⟨n, h⟩) else 0
  have fe : ∀ n (h : n < 3392), f n = dz m c (ValueIdx.ix2 (rowAt t r) ⟨n, h⟩) * wi m c (ValueIdx.ix2 d ⟨n, h⟩) := fun n h => dif_pos h
  refine (dyOf_at _ _ _ _ _ _ _ r d).trans (Eq.trans ?_ (v17_at (dz m c) (wi m c) (rowAt t r) d).symm)
  rw [Finset.sum_congr rfl fun (q : Fin 3392) _ => (fe q.val q.isLt).symm, split f]
  have w9 : b9 m c t = laid fun i => wi m c i := i9.trans (Vw m c)
  rw [w9]
  refine congrArg₂ (· + ·) (congrArg₂ (· + ·) (congrArg₂ (· + ·) (congrArg₂ (· + ·) (congrArg₂ (· + ·) (congrArg₂ (· + ·) rfl ?_) ?_) ?_) ?_) ?_) ?_ <;>
    refine Finset.sum_congr rfl fun k _ => ?_
  · rw [fe _ (by omega), laid0]
    exact congrArg (· * _) ((congrFun i3 _).trans (((congrArg (V m c main_v12) (at_ix t r k))).trans (V12 m c _ k)))
  · rw [fe _ (by omega), laid1]
    exact congrArg (· * _) ((congrFun i4 _).trans (((congrArg (V m c main_v13) (at_ix t r k))).trans (V13 m c _ k)))
  · rw [show f k.val = f (0 + k.val) from congrArg f (Nat.zero_add _).symm, fe _ (by omega), laid2]
    exact congrArg (· * _) ((congrFun i5 _).trans (((congrArg (V m c main_v14) (at_ix t r k))).trans (V14 m c _ k)))
  · rw [fe _ (by omega), laid3]
    exact congrArg (· * _) ((congrFun i6 _).trans (((congrArg (V m c main_v15) (at_ix t r k))).trans (V15 m c _ k)))
  · rw [fe _ (by omega), laid4]
    exact congrArg (· * _) ((congrFun i7 _).trans (((congrArg (V m c main_v16) (at_ix t r k))).trans (V16 m c _ k)))
  · have e8 : b8 m c t (ValueIdx.ix2 r k) = V m c main_v11 (ValueIdx.ix2 (rowAt t r) k) := (congrFun i8 _).trans (congrArg (V m c main_v11) (at_ix t r k))
    by_cases hk : k.val < 64
    · rw [if_pos hk, fe _ (by omega), e8, V11 m c _ k hk]
      exact congrArg (_ * ·) (laid5 _ d ⟨k.val, hk⟩)
    · rw [if_neg hk, e8, V11_off m c _ k hk, zero_mul]

/-- The rows, the base and the gain of the tile. -/
theorem b0_at (t : Fin cfg0.N) (r : Fin 512) (d : Fin 1024) : b0 m c t (ValueIdx.ix2 r d) = ct m c (ValueIdx.ix2 (rowAt t r) d) := by
  refine (congrFun (iblks m c t).1.1 _).trans ?_
  rw [V_main_arg0]
  exact congrArg (ct m c) (at_ix t r d)
theorem b1_at (t : Fin cfg0.N) (r : Fin 512) (d : Fin 1024) : b1 m c t (ValueIdx.ix2 r d) = xs m c (ValueIdx.ix2 (rowAt t r) d) := by
  refine (congrFun (iblks m c t).1.2.1 _).trans ?_
  rw [V_main_arg1]
  exact congrArg (xs m c) (at_ix t r d)
theorem b2_at (t : Fin cfg0.N) (d : Fin 1024) : b2 m c t (ValueIdx.ix2 0 d) = gain m c (ValueIdx.ix1 d) :=
  (congrFun (iblks m c t).1.2.2.1 _).trans (Vgain m c d)

/-- The stored normalised rows. -/
theorem tile11 (t : Fin cfg0.N) : k0_pay7 (b1 m c t) (b2 m c t) = fun j => gh m c (at' t j) := by
  funext j
  obtain ⟨r, d, rfl⟩ := idx2_cases j
  rw [pay7_at, show at' t (ValueIdx.ix2 r d) = _ from at_ix t r d, b2_at]
  simp only [b1_at]
  exact (v15_at (xs m c) (gain m c) (rowAt t r) d).symm

/-- Point `n`'s part of the gradient of the gain. -/
def part (n : Nat) (y : S1x1024.Idx) : EReal :=
  if h : n < cfg0.N then ∑ r : Fin 512, gy m c (ValueIdx.ix2 (rowAt ⟨n, h⟩ r) (y 1)) * val_main_v12 (xs m c) (ValueIdx.ix2 (rowAt ⟨n, h⟩ r) (y 1)) else 0

theorem gain_part (t : Fin cfg0.N) (xo : Vec Ideal S1x1024 .f32) : k0_pay2 (yt m c t) (k0_pay9 (b1 m c t)) xo = fun y => xo y + part m c t.val y := by
  funext y
  obtain ⟨i, d, rfl⟩ := idx2_cases y
  obtain rfl : i = 0 := Subsingleton.elim _ _
  rw [pay2_at, part, dif_pos t.isLt]
  refine congrArg (xo (ValueIdx.ix2 0 d) + ·) (Finset.sum_congr rfl fun r _ => congrArg₂ (· * ·) (prod m c t r d) ?_)
  rw [pay9_at]
  simp only [b1_at]
  exact (v12_at (xs m c) (rowAt t r) d).symm

/-- Every entry of the arguments that the gradient multiplies is a real. -/
def AllReal : Prop := (∀ i, IsReal (xs m c i)) ∧ (∀ i, IsReal (gain m c i)) ∧ (∀ i, IsReal (dz m c i)) ∧ ∀ i, IsReal (wi m c i)

variable {m c} in
/-- The stored gradient of the rows. -/
theorem tile10 (hr : AllReal m c) (t : Fin cfg0.N) :
    k0_pay1 (yt m c t) (k0_pay8 (b1 m c t)) (k0_pay9 (b1 m c t)) (k0_pay10 (b2 m c t)) (b0 m c t) = fun j => gx m c (at' t j) := by
  obtain ⟨h1, h2, h3, h4⟩ := hr
  funext j
  obtain ⟨r, d, rfl⟩ := idx2_cases j
  rw [pay1_at, show at' t (ValueIdx.ix2 r d) = _ from at_ix t r d]
  refine Eq.trans ?_ (v38_at (ct m c) (xs m c) (gain m c) (dz m c) (wi m c) h1 h2 h3 h4 (rowAt t r) d).symm
  simp only [prod, b0_at, b1_at, b2_at]

/-- What every point stores in the first two outputs. -/
theorem tiles (t : Fin cfg0.N) :
    (outsAt0 m c t.val t.isLt).1 = k0_pay1 (yt m c t) (k0_pay8 (b1 m c t)) (k0_pay9 (b1 m c t)) (k0_pay10 (b2 m c t)) (b0 m c t)
    ∧ (outsAt0 m c t.val t.isLt).2.1 = k0_pay7 (b1 m c t) (b2 m c t) := by
  by_cases h : t.val % 16 = 0
  · rw [outsAt0_A m c t h]
    dsimp only
    obtain ⟨e6, e7, -⟩ := outsA (F := Ideal) c _ _ _ _ _ _ _ _ _ _ _ _ _ _ _ _ _ _ _ _ _ _ _ _ _ _ _ ((hcond0_0 t).mpr h) (b0 m c t) (b1 m c t) (b2 m c t) (b3 m c t) (b4 m c t) (b5 m c t) (b6 m c t) (b7 m c t) (b8 m c t) (b9 m c t)
    exact ⟨e6, e7⟩
  · rw [outsAt0_B m c t h]
    dsimp only
    obtain ⟨e6, e7, -⟩ := outsB (F := Ideal) c _ _ _ _ _ _ _ _ _ _ _ _ _ _ _ _ _ _ _ _ _ _ _ _ _ _ _ (fun h' => h ((hcond0_0 t).mp h')) (b0 m c t) (b1 m c t) (b2 m c t) (b3 m c t) (b4 m c t) (b5 m c t) (b6 m c t) (b7 m c t) (b8 m c t) (b9 m c t) _
    exact ⟨e6, e7⟩

/-- The first point leaves its part. -/
theorem firstAt (t : Fin cfg0.N) (h : t.val % 16 = 0) : (outsAt0 m c t.val t.isLt).2.2 = part m c t.val := by
  rw [outsAt0_A m c t h]
  dsimp only
  refine (outsA (F := Ideal) c _ _ _ _ _ _ _ _ _ _ _ _ _ _ _ _ _ _ _ _ _ _ _ _ _ _ _ ((hcond0_0 t).mpr h) (b0 m c t) (b1 m c t) (b2 m c t) (b3 m c t) (b4 m c t) (b5 m c t) (b6 m c t) (b7 m c t) (b8 m c t) (b9 m c t)).2.2.trans
    ((gain_part m c t _).trans (funext fun y => ?_))
  show Ideal.ofBits .f32 0x00000000#32 + _ = _
  rw [Ideal.ofBits_zero_f32, zero_add]

/-- A later point adds its part. -/
theorem laterAt (t : Fin cfg0.N) (h : ¬t.val % 16 = 0) : (outsAt0 m c t.val t.isLt).2.2
    = fun y => (outsAt0 m c (t.val - 1) (Nat.lt_of_le_of_lt (Nat.sub_le _ _) t.isLt)).2.2 y + part m c t.val y := by
  rw [outsAt0_B m c t h]
  dsimp only
  exact (outsB (F := Ideal) c _ _ _ _ _ _ _ _ _ _ _ _ _ _ _ _ _ _ _ _ _ _ _ _ _ _ _ (fun h' => h ((hcond0_0 t).mp h')) (b0 m c t) (b1 m c t) (b2 m c t) (b3 m c t) (b4 m c t) (b5 m c t) (b6 m c t) (b7 m c t) (b8 m c t) (b9 m c t) _).2.2.trans
    (gain_part m c t _)

/-- What the last point leaves. -/
theorem lastAt (t : Fin cfg0.N) (h : t.val % 16 = 15) : (outsAt0 m c t.val t.isLt).2.2 = gg m c := by
  have e : t.val + 1 = 16 := by have := tile_le t; omega
  have hs : ∀ k, k + 1 < cfg0.N → ¬(k + 1) % 16 = 0 := fun k hk => by
    have hk : k + 1 < grid0.N := hk
    rw [N_0] at hk; omega
  have s := gathered (fun n h => (outsAt0 m c n h).2.2) (part m c) (fun h => firstAt m c ⟨0, h⟩ rfl)
    (fun k hk => congrFun (laterAt m c ⟨k + 1, hk⟩ (hs k hk))) t.val t.isLt
  rw [e] at s
  funext y
  refine (s y).trans ?_
  obtain ⟨i, d, rfl⟩ := idx2_cases y
  obtain rfl : i = 0 := Subsingleton.elim _ _
  refine Eq.trans ?_ (v40_at (xs m c) (dz m c) (wi m c) d).symm
  exact sum_tiles (B := 512) (by decide) _ _ fun t ht hb => dif_pos ht

variable {m c} in
/-- The result arrays. -/
theorem final (hr : AllReal m c) :
    (dats m 0 c).arrAt 10 cfg0.N = gx m c ∧ (dats m 0 c).arrAt 11 cfg0.N = gh m c ∧ (dats m 0 c).arrAt 12 cfg0.N = gg m c := by
  have last : 15 < cfg0.N := by show 15 < grid0.N; rw [N_0]; decide
  refine ⟨(dats m 0 c).arrAt_eq_of_cover 10 _ (fun t _ => ?_) fun i => ?_, (dats m 0 c).arrAt_eq_of_cover 11 _ (fun t _ => ?_) fun i => ?_,
    (dats m 0 c).arrAt_eq_of_cover 12 _ (fun t ht => ?_) fun i => ?_⟩
  · rw [flushed10, (tiles m c t).1, tile10 hr]
    exact funext fun j => congrArg (gx m c) (emb10 t j).symm
  · obtain ⟨t, j, rfl⟩ := cover i
    exact ⟨t, flush0_10 t, emb10 t j ▸ View.emb_mem_set _ j⟩
  · rw [flushed11, (tiles m c t).2, tile11]
    exact funext fun j => congrArg (gh m c) (emb11 t j).symm
  · obtain ⟨t, j, rfl⟩ := cover i
    exact ⟨t, flush0_11 t, emb11 t j ▸ View.emb_mem_set _ j⟩
  · rw [flushed12, lastAt m c t ((flush0_12 t).mp ht)]
    exact funext fun j => congrArg (gg m c) (emb12 t j).symm
  · exact ⟨⟨15, last⟩, (flush0_12 _).mpr rfl, emb12 ⟨15, last⟩ i ▸ View.emb_mem_set _ i⟩

end Cert.Proof.InProj
end
-- ==== Proof.InProj.Claims.lean ====
/-
# The input projection backward call: frames and value
-/
module

public import proofs.«01_k».proof.Proof.InProj.Value
public import proofs.«01_k».proof.Proof.Gen.InProj.Frame
public import proofs.«01_k».proof.Proof.Gen.InProjIdeal.Frame
public import proofs.«01_k».proof.Proof.Gen.InProjRefIdeal.Run
public import proofs.«01_k».proof.Proof.Finite
public import proofs.«01_k».proof.Proof.Gen.Pre_finite_in
public import proofs.«01_k».proof.Defs

@[expose] public section

set_option maxRecDepth 16384

noncomputable section

namespace Cert.Proof.InProj

open Idealize Idealize.ShloMosaic Idealize.ShloMosaic.TcCoe Cert.InProjRefIdeal.Read Cert.Proof.Rms

/-- The kernel runs at the machine's words. -/
theorem frame : Cert.quiescent_InProj := fun m ρ _ => Cert.InProj.Gen.frame m ρ

/-- The kernel runs over the reals. -/
theorem frame_ideal : Cert.quiescent_InProjIdeal := fun m ρ _ => Cert.InProjIdeal.Gen.frame m ρ

/-- The reference runs over the reals; it declares no semaphore. -/
theorem frame_ref : Cert.quiescent_InProjRefIdeal := fun m ρ _ =>
  (θ_run Cert.InProjRefIdeal.defs _ _).mono (fun r h => ⟨fun c => (h c).2.2.2, sem_eq_zero_of_no_sems (by decide) r.2⟩) (Cert.InProjRefIdeal.Value.run (F := Ideal) m ρ)

/-- The precondition makes every entry of the rows, the gain, the incoming gradient and the weights real. -/
theorem finite (x0 x1 : FVec Ideal Cert.Pre_finite_in.S8192x1024 .f32) (x2 : FVec Ideal Cert.Pre_finite_in.S1024 .f32) (x3 : FVec Ideal Cert.Pre_finite_in.S8192x3392 .f32)
    (x4 : FVec Ideal Cert.Pre_finite_in.S1024x3392 .f32) (h : Cert.Pre_finite_in.fn (F := Ideal) x0 x1 x2 x3 x4 = fun _ => 1#1) :
    (∀ i, IsReal (x1 i)) ∧ (∀ i, IsReal (x2 i)) ∧ (∀ i, IsReal (x3 i)) ∧ ∀ i, IsReal (x4 i) := by
  have : Subsingleton Cert.Pre_finite_in.S_.Idx := ⟨fun a b => funext fun k => k.elim0⟩
  have g := congrFun h ValueIdx.ix0
  unfold Cert.Pre_finite_in.fn at g
  dsimp only at g
  obtain ⟨g, g4⟩ := andi_one g
  obtain ⟨g, g3⟩ := andi_one g
  obtain ⟨g1, g2⟩ := andi_one g
  exact ⟨fun i => .of (real_of_all x1 _ _ _ _ _ _ (fun _ => rfl) (fun _ => rfl) g1 i), fun i => .of (real_of_all x2 _ _ _ _ _ _ (fun _ => rfl) (fun _ => rfl) g2 i),
    fun i => .of (real_of_all x3 _ _ _ _ _ _ (fun _ => rfl) (fun _ => rfl) g3 i), fun i => .of (real_of_all x4 _ _ _ _ _ _ (fun _ => rfl) (fun _ => rfl) g4 i)⟩

/-- Over the reals the kernel's three arrays are the reference's, where the arguments are real. -/
theorem algebraic : Cert.algebraic_InProjIdeal_InProjRefIdeal_pre_finite_in := by
  intro m ρ m' ρ' hpre hag
  refine ⟨fun c => gx m c, fun c => gh m c, fun c => gg m c, ?_, ?_⟩
  · refine (θ_run Cert.InProjIdeal.defs _ _).mono (fun r h c => ?_) (Cert.InProjIdeal.Value.run_blocks m ρ)
    obtain ⟨f0, f1, f2⟩ := final (m := m) (c := c) (finite _ _ _ _ _ (hpre c))
    obtain ⟨h0, h1, h2, hk⟩ := h c
    exact ⟨h0.trans f0, h1.trans f1, h2.trans f2, hk⟩
  · refine (θ_run Cert.InProjRefIdeal.defs _ _).mono (fun r h c => ?_) (Cert.InProjRefIdeal.Value.run (F := Ideal) m' ρ')
    obtain ⟨h0, h1, h2, hk⟩ := h c
    obtain ⟨a0, a1, a2, a3, a4⟩ := hag c
    have e0 : m' ((c.tc : Thread Cert.InProjRefIdeal.nD Cert.InProjRefIdeal.τ).loc Cert.InProjRefIdeal.main_arg0) = ct m c := a0
    have e1 : m' ((c.tc : Thread Cert.InProjRefIdeal.nD Cert.InProjRefIdeal.τ).loc Cert.InProjRefIdeal.main_arg1) = xs m c := a1
    have e2 : m' ((c.tc : Thread Cert.InProjRefIdeal.nD Cert.InProjRefIdeal.τ).loc Cert.InProjRefIdeal.main_arg2) = gain m c := a2
    have e3 : m' ((c.tc : Thread Cert.InProjRefIdeal.nD Cert.InProjRefIdeal.τ).loc Cert.InProjRefIdeal.main_arg3) = dz m c := a3
    have e4 : m' ((c.tc : Thread Cert.InProjRefIdeal.nD Cert.InProjRefIdeal.τ).loc Cert.InProjRefIdeal.main_arg4) = wi m c := a4
    rw [val_main_v38_eq, e0, e1, e2, e3, e4] at h0
    rw [val_main_v39_eq, e1, e2] at h1
    rw [val_main_v40_eq, e1, e3, e4] at h2
    exact ⟨h0, h1, h2, hk⟩

/-- No operation was rewritten. -/
theorem preserves : Cert.preserves_InProj_InProjIdeal := trivial

end Cert.Proof.InProj

end
-- ==== Proof.lean ====
module

public import proofs.«01_k».proof.Proof.Gen.FlashIdeal.Frame
public import proofs.«01_k».proof.Proof.Gen.FlashIdeal.Skeleton
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge.Claims
public import proofs.«01_k».proof.Proof.Gen.PoolA.Frame
public import proofs.«01_k».proof.Proof.Gen.PoolAIdeal.Value
public import proofs.«01_k».proof.Proof.Gen.PoolARefIdeal.Run
public import proofs.«01_k».proof.Proof.Gen.PoolARefIdeal.Read
public import proofs.«01_k».proof.Proof.PoolA.Claims
public import proofs.«01_k».proof.Proof.Gen.PoolB.Frame
public import proofs.«01_k».proof.Proof.Gen.PoolBIdeal.Value
public import proofs.«01_k».proof.Proof.Gen.PoolBRefIdeal.Run
public import proofs.«01_k».proof.Proof.Gen.PoolBRefIdeal.Read
public import proofs.«01_k».proof.Proof.PoolB.Claims
public import proofs.«01_k».proof.Proof.Gen.FlashRefIdeal.Run
public import proofs.«01_k».proof.Proof.Gen.FlashRefIdeal.Read
public import proofs.«01_k».proof.Proof.Flash.Claims
public import proofs.«01_k».proof.Proof.Gen.FlashF.Frame
public import proofs.«01_k».proof.Proof.Gen.FlashFIdeal.Value
public import proofs.«01_k».proof.Proof.Gen.FlashFRefIdeal.Run
public import proofs.«01_k».proof.Proof.Gen.FlashFRefIdeal.Read
public import proofs.«01_k».proof.Proof.FlashF.Claims
public import proofs.«01_k».proof.Proof.Gen.Mla.Frame
public import proofs.«01_k».proof.Proof.Gen.MlaIdeal.Value
public import proofs.«01_k».proof.Proof.Gen.MlaRefIdeal.Run
public import proofs.«01_k».proof.Proof.Gen.MlaRefIdeal.Read
public import proofs.«01_k».proof.Proof.Mla.Claims
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Ffn.Claims
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.Ple.Claims
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Loss.Claims
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProj.Claims
public import proofs.«01_k».proof.Proof.Gen.Merge
public import proofs.«01_k».proof.Proof.Gen.MergeIdeal
public import proofs.«01_k».proof.Proof.Gen.MergeRefIdeal
public import proofs.«01_k».proof.Proof.Gen.PoolA
public import proofs.«01_k».proof.Proof.Gen.PoolAIdeal
public import proofs.«01_k».proof.Proof.Gen.PoolARefIdeal
public import proofs.«01_k».proof.Proof.Gen.PoolB
public import proofs.«01_k».proof.Proof.Gen.PoolBIdeal
public import proofs.«01_k».proof.Proof.Gen.PoolBRefIdeal
public import proofs.«01_k».proof.Proof.Gen.Flash
public import proofs.«01_k».proof.Proof.Gen.FlashIdeal
public import proofs.«01_k».proof.Proof.Gen.FlashRefIdeal
public import proofs.«01_k».proof.Proof.Gen.FlashF
public import proofs.«01_k».proof.Proof.Gen.FlashFIdeal
public import proofs.«01_k».proof.Proof.Gen.FlashFRefIdeal
public import proofs.«01_k».proof.Proof.Gen.Mla
public import proofs.«01_k».proof.Proof.Gen.MlaIdeal
public import proofs.«01_k».proof.Proof.Gen.MlaRefIdeal
public import proofs.«01_k».proof.Proof.Gen.Ffn
public import proofs.«01_k».proof.Proof.Gen.FfnIdeal
public import proofs.«01_k».proof.Proof.Gen.FfnRefIdeal
public import proofs.«01_k».proof.Proof.Gen.Ple
public import proofs.«01_k».proof.Proof.Gen.PleIdeal
public import proofs.«01_k».proof.Proof.Gen.PleRefIdeal
public import proofs.«01_k».proof.Proof.Gen.Loss
public import proofs.«01_k».proof.Proof.Gen.LossIdeal
public import proofs.«01_k».proof.Proof.Gen.LossRefIdeal
public import proofs.«01_k».proof.Proof.Gen.InProj
public import proofs.«01_k».proof.Proof.Gen.InProjIdeal
public import proofs.«01_k».proof.Proof.Gen.InProjRefIdeal
public import proofs.«01_k».proof.Proof.Gen.Pre_finite_poolb
public import proofs.«01_k».proof.Proof.Gen.Pre_finite_flash
public import proofs.«01_k».proof.Proof.Gen.Pre_finite_flashf
public import proofs.«01_k».proof.Proof.Gen.Pre_finite_mla
public import proofs.«01_k».proof.Proof.Gen.Pre_finite_ffn
public import proofs.«01_k».proof.Proof.Gen.Pre_finite_ple
public import proofs.«01_k».proof.Proof.Gen.Pre_finite_loss
public import proofs.«01_k».proof.Proof.Gen.Pre_finite_in
public import proofs.«01_k».proof.Defs

@[expose] public section

noncomputable section

namespace Cert.Proof

/-- Everything the certificate states. -/
theorem claim : Cert.Claim := ⟨Cert.Merge.Gen.facts, Cert.MergeIdeal.Gen.facts, Cert.MergeRefIdeal.Gen.facts, Cert.PoolA.Gen.facts, Cert.PoolAIdeal.Gen.facts, Cert.PoolARefIdeal.Gen.facts, Cert.PoolB.Gen.facts, Cert.PoolBIdeal.Gen.facts, Cert.PoolBRefIdeal.Gen.facts, Cert.Flash.Gen.facts, Cert.FlashIdeal.Gen.facts, Cert.FlashRefIdeal.Gen.facts, Cert.FlashF.Gen.facts, Cert.FlashFIdeal.Gen.facts, Cert.FlashFRefIdeal.Gen.facts, Cert.Mla.Gen.facts, Cert.MlaIdeal.Gen.facts, Cert.MlaRefIdeal.Gen.facts, Cert.Ffn.Gen.facts, Cert.FfnIdeal.Gen.facts, Cert.FfnRefIdeal.Gen.facts, Cert.Ple.Gen.facts, Cert.PleIdeal.Gen.facts, Cert.PleRefIdeal.Gen.facts, Cert.Loss.Gen.facts, Cert.LossIdeal.Gen.facts, Cert.LossRefIdeal.Gen.facts, Cert.InProj.Gen.facts, Cert.InProjIdeal.Gen.facts, Cert.InProjRefIdeal.Gen.facts, Cert.Pre_finite_poolb.Gen.facts, Cert.Pre_finite_flash.Gen.facts, Cert.Pre_finite_flashf.Gen.facts, Cert.Pre_finite_mla.Gen.facts, Cert.Pre_finite_ffn.Gen.facts, Cert.Pre_finite_ple.Gen.facts, Cert.Pre_finite_loss.Gen.facts, Cert.Pre_finite_in.Gen.facts,
  Merge.frame, Merge.frame_ideal, Merge.frame_ref,
  PoolA.frame, PoolA.frame_ideal, PoolA.frame_ref,
  PoolB.frame, PoolB.frame_ideal, fun m ρ _ => PoolB.frame_ideal m ρ trivial, PoolB.frame_ref, fun m ρ _ => PoolB.frame_ref m ρ trivial,
  Flash.frame, Flash.frame_ideal, fun m ρ _ => Flash.frame_ideal m ρ trivial, Flash.frame_ref, fun m ρ _ => Flash.frame_ref m ρ trivial,
  FlashF.frame, FlashF.frame_ideal, fun m ρ _ => FlashF.frame_ideal m ρ trivial, FlashF.frame_ref, fun m ρ _ => FlashF.frame_ref m ρ trivial,
  Mla.frame, Mla.frame_ideal, fun m ρ _ => Mla.frame_ideal m ρ trivial, Mla.frame_ref, fun m ρ _ => Mla.frame_ref m ρ trivial,
  Ffn.frame, Ffn.frame_ideal, fun m ρ _ => Ffn.frame_ideal m ρ trivial, Ffn.frame_ref, fun m ρ _ => Ffn.frame_ref m ρ trivial,
  Ple.frame, Ple.frame_ideal, fun m ρ _ => Ple.frame_ideal m ρ trivial, Ple.frame_ref, fun m ρ _ => Ple.frame_ref m ρ trivial,
  Loss.frame, Loss.frame_ideal, fun m ρ _ => Loss.frame_ideal m ρ trivial, Loss.frame_ref, fun m ρ _ => Loss.frame_ref m ρ trivial,
  InProj.frame, InProj.frame_ideal, fun m ρ _ => InProj.frame_ideal m ρ trivial, InProj.frame_ref, fun m ρ _ => InProj.frame_ref m ρ trivial,
  Merge.preserves, Merge.algebraic,
  PoolA.preserves, PoolA.algebraic,
  PoolB.preserves, PoolB.algebraic,
  Flash.preserves, Flash.algebraic,
  FlashF.preserves, FlashF.algebraic,
  Mla.preserves, Mla.algebraic,
  Ffn.preserves, Ffn.algebraic,
  Ple.preserves, Ple.algebraic,
  Loss.preserves, Loss.algebraic,
  InProj.preserves, InProj.algebraic⟩

end Cert.Proof

end
